-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.2.2.2 = (fun _ => 1#1)

def Pre_DwinAtt (m : (ℓ : Loc Cert.DwinAtt.nD Cert.DwinAtt.τ Cert.DwinAtt.sig) → Buf (Elt Bits) ℓ) : Prop :=
  True

def Pre_DwinAttIdeal (m : (ℓ : Loc Cert.DwinAttIdeal.nD Cert.DwinAttIdeal.τ Cert.DwinAttIdeal.sig) → Buf (Elt Ideal) ℓ) : Prop :=
  True

def Pre_DwinAttReferenceIdeal (m : (ℓ : Loc Cert.DwinAttReferenceIdeal.nD Cert.DwinAttReferenceIdeal.τ Cert.DwinAttReferenceIdeal.sig) → Buf (Elt Ideal) ℓ) : Prop :=
  True

def Pre_DwinGla (m : (ℓ : Loc Cert.DwinGla.nD Cert.DwinGla.τ Cert.DwinGla.sig) → Buf (Elt Bits) ℓ) : Prop :=
  True

def Pre_DwinGlaIdeal (m : (ℓ : Loc Cert.DwinGlaIdeal.nD Cert.DwinGlaIdeal.τ Cert.DwinGlaIdeal.sig) → Buf (Elt Ideal) ℓ) : Prop :=
  True

def Pre_DwinGlaReferenceIdeal (m : (ℓ : Loc Cert.DwinGlaReferenceIdeal.nD Cert.DwinGlaReferenceIdeal.τ Cert.DwinGlaReferenceIdeal.sig) → Buf (Elt Ideal) ℓ) : Prop :=
  True

def Pre_DwinGate (m : (ℓ : Loc Cert.DwinGate.nD Cert.DwinGate.τ Cert.DwinGate.sig) → Buf (Elt Bits) ℓ) : Prop :=
  True

def Pre_DwinGateIdeal (m : (ℓ : Loc Cert.DwinGateIdeal.nD Cert.DwinGateIdeal.τ Cert.DwinGateIdeal.sig) → Buf (Elt Ideal) ℓ) : Prop :=
  True

def Pre_DwinGateReferenceIdeal (m : (ℓ : Loc Cert.DwinGateReferenceIdeal.nD Cert.DwinGateReferenceIdeal.τ Cert.DwinGateReferenceIdeal.sig) → Buf (Elt Ideal) ℓ) : Prop :=
  True

def Pre_DwoutGla (m : (ℓ : Loc Cert.DwoutGla.nD Cert.DwoutGla.τ Cert.DwoutGla.sig) → Buf (Elt Bits) ℓ) : Prop :=
  True

def Pre_DwoutGlaIdeal (m : (ℓ : Loc Cert.DwoutGlaIdeal.nD Cert.DwoutGlaIdeal.τ Cert.DwoutGlaIdeal.sig) → Buf (Elt Ideal) ℓ) : Prop :=
  True

def Pre_DwoutGlaReferenceIdeal (m : (ℓ : Loc Cert.DwoutGlaReferenceIdeal.nD Cert.DwoutGlaReferenceIdeal.τ Cert.DwoutGlaReferenceIdeal.sig) → Buf (Elt Ideal) ℓ) : Prop :=
  True

def Pre_DwoutAtt (m : (ℓ : Loc Cert.DwoutAtt.nD Cert.DwoutAtt.τ Cert.DwoutAtt.sig) → Buf (Elt Bits) ℓ) : Prop :=
  True

def Pre_DwoutAttIdeal (m : (ℓ : Loc Cert.DwoutAttIdeal.nD Cert.DwoutAttIdeal.τ Cert.DwoutAttIdeal.sig) → Buf (Elt Ideal) ℓ) : Prop :=
  True

def Pre_DwoutAttReferenceIdeal (m : (ℓ : Loc Cert.DwoutAttReferenceIdeal.nD Cert.DwoutAttReferenceIdeal.τ Cert.DwoutAttReferenceIdeal.sig) → Buf (Elt Ideal) ℓ) : Prop :=
  True

def Pre_PostBwd (m : (ℓ : Loc Cert.PostBwd.nD Cert.PostBwd.τ Cert.PostBwd.sig) → Buf (Elt Bits) ℓ) : Prop :=
  True

def Pre_PostBwdIdeal (m : (ℓ : Loc Cert.PostBwdIdeal.nD Cert.PostBwdIdeal.τ Cert.PostBwdIdeal.sig) → Buf (Elt Ideal) ℓ) : Prop :=
  True

def Pre_PostBwdIdeal_finite_post [hPre_finite_post : Cert.Pre_finite_post.Facts] (m : (ℓ : Loc Cert.PostBwdIdeal.nD Cert.PostBwdIdeal.τ Cert.PostBwdIdeal.sig) → Buf (Elt Ideal) ℓ) : Prop :=
  ∀ c : Dev Cert.PostBwdIdeal.nD,
    (Cert.Pre_finite_post.fn (F := Ideal) (m ((c.tc : Thread Cert.PostBwdIdeal.nD Cert.PostBwdIdeal.τ).loc Cert.PostBwdIdeal.main_arg0)) (m ((c.tc : Thread Cert.PostBwdIdeal.nD Cert.PostBwdIdeal.τ).loc Cert.PostBwdIdeal.main_arg1)) (m ((c.tc : Thread Cert.PostBwdIdeal.nD Cert.PostBwdIdeal.τ).loc Cert.PostBwdIdeal.main_arg2)) (m ((c.tc : Thread Cert.PostBwdIdeal.nD Cert.PostBwdIdeal.τ).loc Cert.PostBwdIdeal.main_arg3))).1 = (fun _ => 1#1)
    ∧ (Cert.Pre_finite_post.fn (F := Ideal) (m ((c.tc : Thread Cert.PostBwdIdeal.nD Cert.PostBwdIdeal.τ).loc Cert.PostBwdIdeal.main_arg0)) (m ((c.tc : Thread Cert.PostBwdIdeal.nD Cert.PostBwdIdeal.τ).loc Cert.PostBwdIdeal.main_arg1)) (m ((c.tc : Thread Cert.PostBwdIdeal.nD Cert.PostBwdIdeal.τ).loc Cert.PostBwdIdeal.main_arg2)) (m ((c.tc : Thread Cert.PostBwdIdeal.nD Cert.PostBwdIdeal.τ).loc Cert.PostBwdIdeal.main_arg3))).2.1 = (fun _ => 1#1)
    ∧ (Cert.Pre_finite_post.fn (F := Ideal) (m ((c.tc : Thread Cert.PostBwdIdeal.nD Cert.PostBwdIdeal.τ).loc Cert.PostBwdIdeal.main_arg0)) (m ((c.tc : Thread Cert.PostBwdIdeal.nD Cert.PostBwdIdeal.τ).loc Cert.PostBwdIdeal.main_arg1)) (m ((c.tc : Thread Cert.PostBwdIdeal.nD Cert.PostBwdIdeal.τ).loc Cert.PostBwdIdeal.main_arg2)) (m ((c.tc : Thread Cert.PostBwdIdeal.nD Cert.PostBwdIdeal.τ).loc Cert.PostBwdIdeal.main_arg3))).2.2 = (fun _ => 1#1)

def Pre_PostBwdReferenceIdeal (m : (ℓ : Loc Cert.PostBwdReferenceIdeal.nD Cert.PostBwdReferenceIdeal.τ Cert.PostBwdReferenceIdeal.sig) → Buf (Elt Ideal) ℓ) : Prop :=
  True

def Pre_PostBwdReferenceIdeal_finite_post [hPre_finite_post : Cert.Pre_finite_post.Facts] (m : (ℓ : Loc Cert.PostBwdReferenceIdeal.nD Cert.PostBwdReferenceIdeal.τ Cert.PostBwdReferenceIdeal.sig) → Buf (Elt Ideal) ℓ) : Prop :=
  ∀ c : Dev Cert.PostBwdReferenceIdeal.nD,
    (Cert.Pre_finite_post.fn (F := Ideal) (m ((c.tc : Thread Cert.PostBwdReferenceIdeal.nD Cert.PostBwdReferenceIdeal.τ).loc Cert.PostBwdReferenceIdeal.main_arg0)) (m ((c.tc : Thread Cert.PostBwdReferenceIdeal.nD Cert.PostBwdReferenceIdeal.τ).loc Cert.PostBwdReferenceIdeal.main_arg1)) (m ((c.tc : Thread Cert.PostBwdReferenceIdeal.nD Cert.PostBwdReferenceIdeal.τ).loc Cert.PostBwdReferenceIdeal.main_arg2)) (m ((c.tc : Thread Cert.PostBwdReferenceIdeal.nD Cert.PostBwdReferenceIdeal.τ).loc Cert.PostBwdReferenceIdeal.main_arg3))).1 = (fun _ => 1#1)
    ∧ (Cert.Pre_finite_post.fn (F := Ideal) (m ((c.tc : Thread Cert.PostBwdReferenceIdeal.nD Cert.PostBwdReferenceIdeal.τ).loc Cert.PostBwdReferenceIdeal.main_arg0)) (m ((c.tc : Thread Cert.PostBwdReferenceIdeal.nD Cert.PostBwdReferenceIdeal.τ).loc Cert.PostBwdReferenceIdeal.main_arg1)) (m ((c.tc : Thread Cert.PostBwdReferenceIdeal.nD Cert.PostBwdReferenceIdeal.τ).loc Cert.PostBwdReferenceIdeal.main_arg2)) (m ((c.tc : Thread Cert.PostBwdReferenceIdeal.nD Cert.PostBwdReferenceIdeal.τ).loc Cert.PostBwdReferenceIdeal.main_arg3))).2.1 = (fun _ => 1#1)
    ∧ (Cert.Pre_finite_post.fn (F := Ideal) (m ((c.tc : Thread Cert.PostBwdReferenceIdeal.nD Cert.PostBwdReferenceIdeal.τ).loc Cert.PostBwdReferenceIdeal.main_arg0)) (m ((c.tc : Thread Cert.PostBwdReferenceIdeal.nD Cert.PostBwdReferenceIdeal.τ).loc Cert.PostBwdReferenceIdeal.main_arg1)) (m ((c.tc : Thread Cert.PostBwdReferenceIdeal.nD Cert.PostBwdReferenceIdeal.τ).loc Cert.PostBwdReferenceIdeal.main_arg2)) (m ((c.tc : Thread Cert.PostBwdReferenceIdeal.nD Cert.PostBwdReferenceIdeal.τ).loc Cert.PostBwdReferenceIdeal.main_arg3))).2.2 = (fun _ => 1#1)

def Pre_Dh (m : (ℓ : Loc Cert.Dh.nD Cert.Dh.τ Cert.Dh.sig) → Buf (Elt Bits) ℓ) : Prop :=
  True

def Pre_DhIdeal (m : (ℓ : Loc Cert.DhIdeal.nD Cert.DhIdeal.τ Cert.DhIdeal.sig) → Buf (Elt Ideal) ℓ) : Prop :=
  True

def Pre_DhIdeal_finite_dh [hPre_finite_dh : Cert.Pre_finite_dh.Facts] (m : (ℓ : Loc Cert.DhIdeal.nD Cert.DhIdeal.τ Cert.DhIdeal.sig) → Buf (Elt Ideal) ℓ) : Prop :=
  ∀ c : Dev Cert.DhIdeal.nD,
    (Cert.Pre_finite_dh.fn (F := Ideal) (m ((c.tc : Thread Cert.DhIdeal.nD Cert.DhIdeal.τ).loc Cert.DhIdeal.main_arg0)) (m ((c.tc : Thread Cert.DhIdeal.nD Cert.DhIdeal.τ).loc Cert.DhIdeal.main_arg1)) (m ((c.tc : Thread Cert.DhIdeal.nD Cert.DhIdeal.τ).loc Cert.DhIdeal.main_arg2)) (m ((c.tc : Thread Cert.DhIdeal.nD Cert.DhIdeal.τ).loc Cert.DhIdeal.main_arg3)) (m ((c.tc : Thread Cert.DhIdeal.nD Cert.DhIdeal.τ).loc Cert.DhIdeal.main_arg4)) (m ((c.tc : Thread Cert.DhIdeal.nD Cert.DhIdeal.τ).loc Cert.DhIdeal.main_arg5)) (m ((c.tc : Thread Cert.DhIdeal.nD Cert.DhIdeal.τ).loc Cert.DhIdeal.main_arg6)) (m ((c.tc : Thread Cert.DhIdeal.nD Cert.DhIdeal.τ).loc Cert.DhIdeal.main_arg7))).1 = (fun _ => 1#1)
    ∧ (Cert.Pre_finite_dh.fn (F := Ideal) (m ((c.tc : Thread Cert.DhIdeal.nD Cert.DhIdeal.τ).loc Cert.DhIdeal.main_arg0)) (m ((c.tc : Thread Cert.DhIdeal.nD Cert.DhIdeal.τ).loc Cert.DhIdeal.main_arg1)) (m ((c.tc : Thread Cert.DhIdeal.nD Cert.DhIdeal.τ).loc Cert.DhIdeal.main_arg2)) (m ((c.tc : Thread Cert.DhIdeal.nD Cert.DhIdeal.τ).loc Cert.DhIdeal.main_arg3)) (m ((c.tc : Thread Cert.DhIdeal.nD Cert.DhIdeal.τ).loc Cert.DhIdeal.main_arg4)) (m ((c.tc : Thread Cert.DhIdeal.nD Cert.DhIdeal.τ).loc Cert.DhIdeal.main_arg5)) (m ((c.tc : Thread Cert.DhIdeal.nD Cert.DhIdeal.τ).loc Cert.DhIdeal.main_arg6)) (m ((c.tc : Thread Cert.DhIdeal.nD Cert.DhIdeal.τ).loc Cert.DhIdeal.main_arg7))).2.1 = (fun _ => 1#1)
    ∧ (Cert.Pre_finite_dh.fn (F := Ideal) (m ((c.tc : Thread Cert.DhIdeal.nD Cert.DhIdeal.τ).loc Cert.DhIdeal.main_arg0)) (m ((c.tc : Thread Cert.DhIdeal.nD Cert.DhIdeal.τ).loc Cert.DhIdeal.main_arg1)) (m ((c.tc : Thread Cert.DhIdeal.nD Cert.DhIdeal.τ).loc Cert.DhIdeal.main_arg2)) (m ((c.tc : Thread Cert.DhIdeal.nD Cert.DhIdeal.τ).loc Cert.DhIdeal.main_arg3)) (m ((c.tc : Thread Cert.DhIdeal.nD Cert.DhIdeal.τ).loc Cert.DhIdeal.main_arg4)) (m ((c.tc : Thread Cert.DhIdeal.nD Cert.DhIdeal.τ).loc Cert.DhIdeal.main_arg5)) (m ((c.tc : Thread Cert.DhIdeal.nD Cert.DhIdeal.τ).loc Cert.DhIdeal.main_arg6)) (m ((c.tc : Thread Cert.DhIdeal.nD Cert.DhIdeal.τ).loc Cert.DhIdeal.main_arg7))).2.2.1 = (fun _ => 1#1)
    ∧ (Cert.Pre_finite_dh.fn (F := Ideal) (m ((c.tc : Thread Cert.DhIdeal.nD Cert.DhIdeal.τ).loc Cert.DhIdeal.main_arg0)) (m ((c.tc : Thread Cert.DhIdeal.nD Cert.DhIdeal.τ).loc Cert.DhIdeal.main_arg1)) (m ((c.tc : Thread Cert.DhIdeal.nD Cert.DhIdeal.τ).loc Cert.DhIdeal.main_arg2)) (m ((c.tc : Thread Cert.DhIdeal.nD Cert.DhIdeal.τ).loc Cert.DhIdeal.main_arg3)) (m ((c.tc : Thread Cert.DhIdeal.nD Cert.DhIdeal.τ).loc Cert.DhIdeal.main_arg4)) (m ((c.tc : Thread Cert.DhIdeal.nD Cert.DhIdeal.τ).loc Cert.DhIdeal.main_arg5)) (m ((c.tc : Thread Cert.DhIdeal.nD Cert.DhIdeal.τ).loc Cert.DhIdeal.main_arg6)) (m ((c.tc : Thread Cert.DhIdeal.nD Cert.DhIdeal.τ).loc Cert.DhIdeal.main_arg7))).2.2.2.1 = (fun _ => 1#1)
    ∧ (Cert.Pre_finite_dh.fn (F := Ideal) (m ((c.tc : Thread Cert.DhIdeal.nD Cert.DhIdeal.τ).loc Cert.DhIdeal.main_arg0)) (m ((c.tc : Thread Cert.DhIdeal.nD Cert.DhIdeal.τ).loc Cert.DhIdeal.main_arg1)) (m ((c.tc : Thread Cert.DhIdeal.nD Cert.DhIdeal.τ).loc Cert.DhIdeal.main_arg2)) (m ((c.tc : Thread Cert.DhIdeal.nD Cert.DhIdeal.τ).loc Cert.DhIdeal.main_arg3)) (m ((c.tc : Thread Cert.DhIdeal.nD Cert.DhIdeal.τ).loc Cert.DhIdeal.main_arg4)) (m ((c.tc : Thread Cert.DhIdeal.nD Cert.DhIdeal.τ).loc Cert.DhIdeal.main_arg5)) (m ((c.tc : Thread Cert.DhIdeal.nD Cert.DhIdeal.τ).loc Cert.DhIdeal.main_arg6)) (m ((c.tc : Thread Cert.DhIdeal.nD Cert.DhIdeal.τ).loc Cert.DhIdeal.main_arg7))).2.2.2.2.1 = (fun _ => 1#1)
    ∧ (Cert.Pre_finite_dh.fn (F := Ideal) (m ((c.tc : Thread Cert.DhIdeal.nD Cert.DhIdeal.τ).loc Cert.DhIdeal.main_arg0)) (m ((c.tc : Thread Cert.DhIdeal.nD Cert.DhIdeal.τ).loc Cert.DhIdeal.main_arg1)) (m ((c.tc : Thread Cert.DhIdeal.nD Cert.DhIdeal.τ).loc Cert.DhIdeal.main_arg2)) (m ((c.tc : Thread Cert.DhIdeal.nD Cert.DhIdeal.τ).loc Cert.DhIdeal.main_arg3)) (m ((c.tc : Thread Cert.DhIdeal.nD Cert.DhIdeal.τ).loc Cert.DhIdeal.main_arg4)) (m ((c.tc : Thread Cert.DhIdeal.nD Cert.DhIdeal.τ).loc Cert.DhIdeal.main_arg5)) (m ((c.tc : Thread Cert.DhIdeal.nD Cert.DhIdeal.τ).loc Cert.DhIdeal.main_arg6)) (m ((c.tc : Thread Cert.DhIdeal.nD Cert.DhIdeal.τ).loc Cert.DhIdeal.main_arg7))).2.2.2.2.2.1 = (fun _ => 1#1)
    ∧ (Cert.Pre_finite_dh.fn (F := Ideal) (m ((c.tc : Thread Cert.DhIdeal.nD Cert.DhIdeal.τ).loc Cert.DhIdeal.main_arg0)) (m ((c.tc : Thread Cert.DhIdeal.nD Cert.DhIdeal.τ).loc Cert.DhIdeal.main_arg1)) (m ((c.tc : Thread Cert.DhIdeal.nD Cert.DhIdeal.τ).loc Cert.DhIdeal.main_arg2)) (m ((c.tc : Thread Cert.DhIdeal.nD Cert.DhIdeal.τ).loc Cert.DhIdeal.main_arg3)) (m ((c.tc : Thread Cert.DhIdeal.nD Cert.DhIdeal.τ).loc Cert.DhIdeal.main_arg4)) (m ((c.tc : Thread Cert.DhIdeal.nD Cert.DhIdeal.τ).loc Cert.DhIdeal.main_arg5)) (m ((c.tc : Thread Cert.DhIdeal.nD Cert.DhIdeal.τ).loc Cert.DhIdeal.main_arg6)) (m ((c.tc : Thread Cert.DhIdeal.nD Cert.DhIdeal.τ).loc Cert.DhIdeal.main_arg7))).2.2.2.2.2.2 = (fun _ => 1#1)

def Pre_DhReferenceIdeal (m : (ℓ : Loc Cert.DhReferenceIdeal.nD Cert.DhReferenceIdeal.τ Cert.DhReferenceIdeal.sig) → Buf (Elt Ideal) ℓ) : Prop :=
  True

def Pre_DhReferenceIdeal_finite_dh [hPre_finite_dh : Cert.Pre_finite_dh.Facts] (m : (ℓ : Loc Cert.DhReferenceIdeal.nD Cert.DhReferenceIdeal.τ Cert.DhReferenceIdeal.sig) → Buf (Elt Ideal) ℓ) : Prop :=
  ∀ c : Dev Cert.DhReferenceIdeal.nD,
    (Cert.Pre_finite_dh.fn (F := Ideal) (m ((c.tc : Thread Cert.DhReferenceIdeal.nD Cert.DhReferenceIdeal.τ).loc Cert.DhReferenceIdeal.main_arg0)) (m ((c.tc : Thread Cert.DhReferenceIdeal.nD Cert.DhReferenceIdeal.τ).loc Cert.DhReferenceIdeal.main_arg1)) (m ((c.tc : Thread Cert.DhReferenceIdeal.nD Cert.DhReferenceIdeal.τ).loc Cert.DhReferenceIdeal.main_arg2)) (m ((c.tc : Thread Cert.DhReferenceIdeal.nD Cert.DhReferenceIdeal.τ).loc Cert.DhReferenceIdeal.main_arg3)) (m ((c.tc : Thread Cert.DhReferenceIdeal.nD Cert.DhReferenceIdeal.τ).loc Cert.DhReferenceIdeal.main_arg4)) (m ((c.tc : Thread Cert.DhReferenceIdeal.nD Cert.DhReferenceIdeal.τ).loc Cert.DhReferenceIdeal.main_arg5)) (m ((c.tc : Thread Cert.DhReferenceIdeal.nD Cert.DhReferenceIdeal.τ).loc Cert.DhReferenceIdeal.main_arg6)) (m ((c.tc : Thread Cert.DhReferenceIdeal.nD Cert.DhReferenceIdeal.τ).loc Cert.DhReferenceIdeal.main_arg7))).1 = (fun _ => 1#1)
    ∧ (Cert.Pre_finite_dh.fn (F := Ideal) (m ((c.tc : Thread Cert.DhReferenceIdeal.nD Cert.DhReferenceIdeal.τ).loc Cert.DhReferenceIdeal.main_arg0)) (m ((c.tc : Thread Cert.DhReferenceIdeal.nD Cert.DhReferenceIdeal.τ).loc Cert.DhReferenceIdeal.main_arg1)) (m ((c.tc : Thread Cert.DhReferenceIdeal.nD Cert.DhReferenceIdeal.τ).loc Cert.DhReferenceIdeal.main_arg2)) (m ((c.tc : Thread Cert.DhReferenceIdeal.nD Cert.DhReferenceIdeal.τ).loc Cert.DhReferenceIdeal.main_arg3)) (m ((c.tc : Thread Cert.DhReferenceIdeal.nD Cert.DhReferenceIdeal.τ).loc Cert.DhReferenceIdeal.main_arg4)) (m ((c.tc : Thread Cert.DhReferenceIdeal.nD Cert.DhReferenceIdeal.τ).loc Cert.DhReferenceIdeal.main_arg5)) (m ((c.tc : Thread Cert.DhReferenceIdeal.nD Cert.DhReferenceIdeal.τ).loc Cert.DhReferenceIdeal.main_arg6)) (m ((c.tc : Thread Cert.DhReferenceIdeal.nD Cert.DhReferenceIdeal.τ).loc Cert.DhReferenceIdeal.main_arg7))).2.1 = (fun _ => 1#1)
    ∧ (Cert.Pre_finite_dh.fn (F := Ideal) (m ((c.tc : Thread Cert.DhReferenceIdeal.nD Cert.DhReferenceIdeal.τ).loc Cert.DhReferenceIdeal.main_arg0)) (m ((c.tc : Thread Cert.DhReferenceIdeal.nD Cert.DhReferenceIdeal.τ).loc Cert.DhReferenceIdeal.main_arg1)) (m ((c.tc : Thread Cert.DhReferenceIdeal.nD Cert.DhReferenceIdeal.τ).loc Cert.DhReferenceIdeal.main_arg2)) (m ((c.tc : Thread Cert.DhReferenceIdeal.nD Cert.DhReferenceIdeal.τ).loc Cert.DhReferenceIdeal.main_arg3)) (m ((c.tc : Thread Cert.DhReferenceIdeal.nD Cert.DhReferenceIdeal.τ).loc Cert.DhReferenceIdeal.main_arg4)) (m ((c.tc : Thread Cert.DhReferenceIdeal.nD Cert.DhReferenceIdeal.τ).loc Cert.DhReferenceIdeal.main_arg5)) (m ((c.tc : Thread Cert.DhReferenceIdeal.nD Cert.DhReferenceIdeal.τ).loc Cert.DhReferenceIdeal.main_arg6)) (m ((c.tc : Thread Cert.DhReferenceIdeal.nD Cert.DhReferenceIdeal.τ).loc Cert.DhReferenceIdeal.main_arg7))).2.2.1 = (fun _ => 1#1)
    ∧ (Cert.Pre_finite_dh.fn (F := Ideal) (m ((c.tc : Thread Cert.DhReferenceIdeal.nD Cert.DhReferenceIdeal.τ).loc Cert.DhReferenceIdeal.main_arg0)) (m ((c.tc : Thread Cert.DhReferenceIdeal.nD Cert.DhReferenceIdeal.τ).loc Cert.DhReferenceIdeal.main_arg1)) (m ((c.tc : Thread Cert.DhReferenceIdeal.nD Cert.DhReferenceIdeal.τ).loc Cert.DhReferenceIdeal.main_arg2)) (m ((c.tc : Thread Cert.DhReferenceIdeal.nD Cert.DhReferenceIdeal.τ).loc Cert.DhReferenceIdeal.main_arg3)) (m ((c.tc : Thread Cert.DhReferenceIdeal.nD Cert.DhReferenceIdeal.τ).loc Cert.DhReferenceIdeal.main_arg4)) (m ((c.tc : Thread Cert.DhReferenceIdeal.nD Cert.DhReferenceIdeal.τ).loc Cert.DhReferenceIdeal.main_arg5)) (m ((c.tc : Thread Cert.DhReferenceIdeal.nD Cert.DhReferenceIdeal.τ).loc Cert.DhReferenceIdeal.main_arg6)) (m ((c.tc : Thread Cert.DhReferenceIdeal.nD Cert.DhReferenceIdeal.τ).loc Cert.DhReferenceIdeal.main_arg7))).2.2.2.1 = (fun _ => 1#1)
    ∧ (Cert.Pre_finite_dh.fn (F := Ideal) (m ((c.tc : Thread Cert.DhReferenceIdeal.nD Cert.DhReferenceIdeal.τ).loc Cert.DhReferenceIdeal.main_arg0)) (m ((c.tc : Thread Cert.DhReferenceIdeal.nD Cert.DhReferenceIdeal.τ).loc Cert.DhReferenceIdeal.main_arg1)) (m ((c.tc : Thread Cert.DhReferenceIdeal.nD Cert.DhReferenceIdeal.τ).loc Cert.DhReferenceIdeal.main_arg2)) (m ((c.tc : Thread Cert.DhReferenceIdeal.nD Cert.DhReferenceIdeal.τ).loc Cert.DhReferenceIdeal.main_arg3)) (m ((c.tc : Thread Cert.DhReferenceIdeal.nD Cert.DhReferenceIdeal.τ).loc Cert.DhReferenceIdeal.main_arg4)) (m ((c.tc : Thread Cert.DhReferenceIdeal.nD Cert.DhReferenceIdeal.τ).loc Cert.DhReferenceIdeal.main_arg5)) (m ((c.tc : Thread Cert.DhReferenceIdeal.nD Cert.DhReferenceIdeal.τ).loc Cert.DhReferenceIdeal.main_arg6)) (m ((c.tc : Thread Cert.DhReferenceIdeal.nD Cert.DhReferenceIdeal.τ).loc Cert.DhReferenceIdeal.main_arg7))).2.2.2.2.1 = (fun _ => 1#1)
    ∧ (Cert.Pre_finite_dh.fn (F := Ideal) (m ((c.tc : Thread Cert.DhReferenceIdeal.nD Cert.DhReferenceIdeal.τ).loc Cert.DhReferenceIdeal.main_arg0)) (m ((c.tc : Thread Cert.DhReferenceIdeal.nD Cert.DhReferenceIdeal.τ).loc Cert.DhReferenceIdeal.main_arg1)) (m ((c.tc : Thread Cert.DhReferenceIdeal.nD Cert.DhReferenceIdeal.τ).loc Cert.DhReferenceIdeal.main_arg2)) (m ((c.tc : Thread Cert.DhReferenceIdeal.nD Cert.DhReferenceIdeal.τ).loc Cert.DhReferenceIdeal.main_arg3)) (m ((c.tc : Thread Cert.DhReferenceIdeal.nD Cert.DhReferenceIdeal.τ).loc Cert.DhReferenceIdeal.main_arg4)) (m ((c.tc : Thread Cert.DhReferenceIdeal.nD Cert.DhReferenceIdeal.τ).loc Cert.DhReferenceIdeal.main_arg5)) (m ((c.tc : Thread Cert.DhReferenceIdeal.nD Cert.DhReferenceIdeal.τ).loc Cert.DhReferenceIdeal.main_arg6)) (m ((c.tc : Thread Cert.DhReferenceIdeal.nD Cert.DhReferenceIdeal.τ).loc Cert.DhReferenceIdeal.main_arg7))).2.2.2.2.2.1 = (fun _ => 1#1)
    ∧ (Cert.Pre_finite_dh.fn (F := Ideal) (m ((c.tc : Thread Cert.DhReferenceIdeal.nD Cert.DhReferenceIdeal.τ).loc Cert.DhReferenceIdeal.main_arg0)) (m ((c.tc : Thread Cert.DhReferenceIdeal.nD Cert.DhReferenceIdeal.τ).loc Cert.DhReferenceIdeal.main_arg1)) (m ((c.tc : Thread Cert.DhReferenceIdeal.nD Cert.DhReferenceIdeal.τ).loc Cert.DhReferenceIdeal.main_arg2)) (m ((c.tc : Thread Cert.DhReferenceIdeal.nD Cert.DhReferenceIdeal.τ).loc Cert.DhReferenceIdeal.main_arg3)) (m ((c.tc : Thread Cert.DhReferenceIdeal.nD Cert.DhReferenceIdeal.τ).loc Cert.DhReferenceIdeal.main_arg4)) (m ((c.tc : Thread Cert.DhReferenceIdeal.nD Cert.DhReferenceIdeal.τ).loc Cert.DhReferenceIdeal.main_arg5)) (m ((c.tc : Thread Cert.DhReferenceIdeal.nD Cert.DhReferenceIdeal.τ).loc Cert.DhReferenceIdeal.main_arg6)) (m ((c.tc : Thread Cert.DhReferenceIdeal.nD Cert.DhReferenceIdeal.τ).loc Cert.DhReferenceIdeal.main_arg7))).2.2.2.2.2.2 = (fun _ => 1#1)

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojReferenceIdeal (m : (ℓ : Loc Cert.InprojReferenceIdeal.nD Cert.InprojReferenceIdeal.τ Cert.InprojReferenceIdeal.sig) → Buf (Elt Ideal) ℓ) : Prop :=
  True

def Pre_Outproj (m : (ℓ : Loc Cert.Outproj.nD Cert.Outproj.τ Cert.Outproj.sig) → Buf (Elt Bits) ℓ) : Prop :=
  True

def Pre_OutprojIdeal (m : (ℓ : Loc Cert.OutprojIdeal.nD Cert.OutprojIdeal.τ Cert.OutprojIdeal.sig) → Buf (Elt Ideal) ℓ) : Prop :=
  True

def Pre_OutprojReferenceIdeal (m : (ℓ : Loc Cert.OutprojReferenceIdeal.nD Cert.OutprojReferenceIdeal.τ Cert.OutprojReferenceIdeal.sig) → Buf (Elt Ideal) ℓ) : Prop :=
  True

def Pre_AttFwd (m : (ℓ : Loc Cert.AttFwd.nD Cert.AttFwd.τ Cert.AttFwd.sig) → Buf (Elt Bits) ℓ) : Prop :=
  True

def Pre_AttFwdIdeal (m : (ℓ : Loc Cert.AttFwdIdeal.nD Cert.AttFwdIdeal.τ Cert.AttFwdIdeal.sig) → Buf (Elt Ideal) ℓ) : Prop :=
  True

def Pre_AttFwdIdeal_finite_att [hPre_finite_att : Cert.Pre_finite_att.Facts] (m : (ℓ : Loc Cert.AttFwdIdeal.nD Cert.AttFwdIdeal.τ Cert.AttFwdIdeal.sig) → Buf (Elt Ideal) ℓ) : Prop :=
  ∀ c : Dev Cert.AttFwdIdeal.nD,
    (Cert.Pre_finite_att.fn (F := Ideal) (m ((c.tc : Thread Cert.AttFwdIdeal.nD Cert.AttFwdIdeal.τ).loc Cert.AttFwdIdeal.main_arg0)) (m ((c.tc : Thread Cert.AttFwdIdeal.nD Cert.AttFwdIdeal.τ).loc Cert.AttFwdIdeal.main_arg1)) (m ((c.tc : Thread Cert.AttFwdIdeal.nD Cert.AttFwdIdeal.τ).loc Cert.AttFwdIdeal.main_arg2)) (m ((c.tc : Thread Cert.AttFwdIdeal.nD Cert.AttFwdIdeal.τ).loc Cert.AttFwdIdeal.main_arg3)) (m ((c.tc : Thread Cert.AttFwdIdeal.nD Cert.AttFwdIdeal.τ).loc Cert.AttFwdIdeal.main_arg4)) (m ((c.tc : Thread Cert.AttFwdIdeal.nD Cert.AttFwdIdeal.τ).loc Cert.AttFwdIdeal.main_arg5))).1 = (fun _ => 1#1)
    ∧ (Cert.Pre_finite_att.fn (F := Ideal) (m ((c.tc : Thread Cert.AttFwdIdeal.nD Cert.AttFwdIdeal.τ).loc Cert.AttFwdIdeal.main_arg0)) (m ((c.tc : Thread Cert.AttFwdIdeal.nD Cert.AttFwdIdeal.τ).loc Cert.AttFwdIdeal.main_arg1)) (m ((c.tc : Thread Cert.AttFwdIdeal.nD Cert.AttFwdIdeal.τ).loc Cert.AttFwdIdeal.main_arg2)) (m ((c.tc : Thread Cert.AttFwdIdeal.nD Cert.AttFwdIdeal.τ).loc Cert.AttFwdIdeal.main_arg3)) (m ((c.tc : Thread Cert.AttFwdIdeal.nD Cert.AttFwdIdeal.τ).loc Cert.AttFwdIdeal.main_arg4)) (m ((c.tc : Thread Cert.AttFwdIdeal.nD Cert.AttFwdIdeal.τ).loc Cert.AttFwdIdeal.main_arg5))).2.1 = (fun _ => 1#1)
    ∧ (Cert.Pre_finite_att.fn (F := Ideal) (m ((c.tc : Thread Cert.AttFwdIdeal.nD Cert.AttFwdIdeal.τ).loc Cert.AttFwdIdeal.main_arg0)) (m ((c.tc : Thread Cert.AttFwdIdeal.nD Cert.AttFwdIdeal.τ).loc Cert.AttFwdIdeal.main_arg1)) (m ((c.tc : Thread Cert.AttFwdIdeal.nD Cert.AttFwdIdeal.τ).loc Cert.AttFwdIdeal.main_arg2)) (m ((c.tc : Thread Cert.AttFwdIdeal.nD Cert.AttFwdIdeal.τ).loc Cert.AttFwdIdeal.main_arg3)) (m ((c.tc : Thread Cert.AttFwdIdeal.nD Cert.AttFwdIdeal.τ).loc Cert.AttFwdIdeal.main_arg4)) (m ((c.tc : Thread Cert.AttFwdIdeal.nD Cert.AttFwdIdeal.τ).loc Cert.AttFwdIdeal.main_arg5))).2.2 = (fun _ => 1#1)

def Pre_AttFwdReferenceIdeal (m : (ℓ : Loc Cert.AttFwdReferenceIdeal.nD Cert.AttFwdReferenceIdeal.τ Cert.AttFwdReferenceIdeal.sig) → Buf (Elt Ideal) ℓ) : Prop :=
  True

def Pre_AttFwdReferenceIdeal_finite_att [hPre_finite_att : Cert.Pre_finite_att.Facts] (m : (ℓ : Loc Cert.AttFwdReferenceIdeal.nD Cert.AttFwdReferenceIdeal.τ Cert.AttFwdReferenceIdeal.sig) → Buf (Elt Ideal) ℓ) : Prop :=
  ∀ c : Dev Cert.AttFwdReferenceIdeal.nD,
    (Cert.Pre_finite_att.fn (F := Ideal) (m ((c.tc : Thread Cert.AttFwdReferenceIdeal.nD Cert.AttFwdReferenceIdeal.τ).loc Cert.AttFwdReferenceIdeal.main_arg0)) (m ((c.tc : Thread Cert.AttFwdReferenceIdeal.nD Cert.AttFwdReferenceIdeal.τ).loc Cert.AttFwdReferenceIdeal.main_arg1)) (m ((c.tc : Thread Cert.AttFwdReferenceIdeal.nD Cert.AttFwdReferenceIdeal.τ).loc Cert.AttFwdReferenceIdeal.main_arg2)) (m ((c.tc : Thread Cert.AttFwdReferenceIdeal.nD Cert.AttFwdReferenceIdeal.τ).loc Cert.AttFwdReferenceIdeal.main_arg3)) (m ((c.tc : Thread Cert.AttFwdReferenceIdeal.nD Cert.AttFwdReferenceIdeal.τ).loc Cert.AttFwdReferenceIdeal.main_arg4)) (m ((c.tc : Thread Cert.AttFwdReferenceIdeal.nD Cert.AttFwdReferenceIdeal.τ).loc Cert.AttFwdReferenceIdeal.main_arg5))).1 = (fun _ => 1#1)
    ∧ (Cert.Pre_finite_att.fn (F := Ideal) (m ((c.tc : Thread Cert.AttFwdReferenceIdeal.nD Cert.AttFwdReferenceIdeal.τ).loc Cert.AttFwdReferenceIdeal.main_arg0)) (m ((c.tc : Thread Cert.AttFwdReferenceIdeal.nD Cert.AttFwdReferenceIdeal.τ).loc Cert.AttFwdReferenceIdeal.main_arg1)) (m ((c.tc : Thread Cert.AttFwdReferenceIdeal.nD Cert.AttFwdReferenceIdeal.τ).loc Cert.AttFwdReferenceIdeal.main_arg2)) (m ((c.tc : Thread Cert.AttFwdReferenceIdeal.nD Cert.AttFwdReferenceIdeal.τ).loc Cert.AttFwdReferenceIdeal.main_arg3)) (m ((c.tc : Thread Cert.AttFwdReferenceIdeal.nD Cert.AttFwdReferenceIdeal.τ).loc Cert.AttFwdReferenceIdeal.main_arg4)) (m ((c.tc : Thread Cert.AttFwdReferenceIdeal.nD Cert.AttFwdReferenceIdeal.τ).loc Cert.AttFwdReferenceIdeal.main_arg5))).2.1 = (fun _ => 1#1)
    ∧ (Cert.Pre_finite_att.fn (F := Ideal) (m ((c.tc : Thread Cert.AttFwdReferenceIdeal.nD Cert.AttFwdReferenceIdeal.τ).loc Cert.AttFwdReferenceIdeal.main_arg0)) (m ((c.tc : Thread Cert.AttFwdReferenceIdeal.nD Cert.AttFwdReferenceIdeal.τ).loc Cert.AttFwdReferenceIdeal.main_arg1)) (m ((c.tc : Thread Cert.AttFwdReferenceIdeal.nD Cert.AttFwdReferenceIdeal.τ).loc Cert.AttFwdReferenceIdeal.main_arg2)) (m ((c.tc : Thread Cert.AttFwdReferenceIdeal.nD Cert.AttFwdReferenceIdeal.τ).loc Cert.AttFwdReferenceIdeal.main_arg3)) (m ((c.tc : Thread Cert.AttFwdReferenceIdeal.nD Cert.AttFwdReferenceIdeal.τ).loc Cert.AttFwdReferenceIdeal.main_arg4)) (m ((c.tc : Thread Cert.AttFwdReferenceIdeal.nD Cert.AttFwdReferenceIdeal.τ).loc Cert.AttFwdReferenceIdeal.main_arg5))).2.2 = (fun _ => 1#1)

def Pre_GlaFwd (m : (ℓ : Loc Cert.GlaFwd.nD Cert.GlaFwd.τ Cert.GlaFwd.sig) → Buf (Elt Bits) ℓ) : Prop :=
  True

def Pre_GlaFwdIdeal (m : (ℓ : Loc Cert.GlaFwdIdeal.nD Cert.GlaFwdIdeal.τ Cert.GlaFwdIdeal.sig) → Buf (Elt Ideal) ℓ) : Prop :=
  True

def Pre_GlaFwdIdeal_finite_gla [hPre_finite_gla : Cert.Pre_finite_gla.Facts] (m : (ℓ : Loc Cert.GlaFwdIdeal.nD Cert.GlaFwdIdeal.τ Cert.GlaFwdIdeal.sig) → Buf (Elt Ideal) ℓ) : Prop :=
  ∀ c : Dev Cert.GlaFwdIdeal.nD,
    (Cert.Pre_finite_gla.fn (F := Ideal) (m ((c.tc : Thread Cert.GlaFwdIdeal.nD Cert.GlaFwdIdeal.τ).loc Cert.GlaFwdIdeal.main_arg0)) (m ((c.tc : Thread Cert.GlaFwdIdeal.nD Cert.GlaFwdIdeal.τ).loc Cert.GlaFwdIdeal.main_arg1)) (m ((c.tc : Thread Cert.GlaFwdIdeal.nD Cert.GlaFwdIdeal.τ).loc Cert.GlaFwdIdeal.main_arg2)) (m ((c.tc : Thread Cert.GlaFwdIdeal.nD Cert.GlaFwdIdeal.τ).loc Cert.GlaFwdIdeal.main_arg3)) (m ((c.tc : Thread Cert.GlaFwdIdeal.nD Cert.GlaFwdIdeal.τ).loc Cert.GlaFwdIdeal.main_arg4)) (m ((c.tc : Thread Cert.GlaFwdIdeal.nD Cert.GlaFwdIdeal.τ).loc Cert.GlaFwdIdeal.main_arg5)) (m ((c.tc : Thread Cert.GlaFwdIdeal.nD Cert.GlaFwdIdeal.τ).loc Cert.GlaFwdIdeal.main_arg6)) (m ((c.tc : Thread Cert.GlaFwdIdeal.nD Cert.GlaFwdIdeal.τ).loc Cert.GlaFwdIdeal.main_arg7))).1 = (fun _ => 1#1)
    ∧ (Cert.Pre_finite_gla.fn (F := Ideal) (m ((c.tc : Thread Cert.GlaFwdIdeal.nD Cert.GlaFwdIdeal.τ).loc Cert.GlaFwdIdeal.main_arg0)) (m ((c.tc : Thread Cert.GlaFwdIdeal.nD Cert.GlaFwdIdeal.τ).loc Cert.GlaFwdIdeal.main_arg1)) (m ((c.tc : Thread Cert.GlaFwdIdeal.nD Cert.GlaFwdIdeal.τ).loc Cert.GlaFwdIdeal.main_arg2)) (m ((c.tc : Thread Cert.GlaFwdIdeal.nD Cert.GlaFwdIdeal.τ).loc Cert.GlaFwdIdeal.main_arg3)) (m ((c.tc : Thread Cert.GlaFwdIdeal.nD Cert.GlaFwdIdeal.τ).loc Cert.GlaFwdIdeal.main_arg4)) (m ((c.tc : Thread Cert.GlaFwdIdeal.nD Cert.GlaFwdIdeal.τ).loc Cert.GlaFwdIdeal.main_arg5)) (m ((c.tc : Thread Cert.GlaFwdIdeal.nD Cert.GlaFwdIdeal.τ).loc Cert.GlaFwdIdeal.main_arg6)) (m ((c.tc : Thread Cert.GlaFwdIdeal.nD Cert.GlaFwdIdeal.τ).loc Cert.GlaFwdIdeal.main_arg7))).2.1 = (fun _ => 1#1)
    ∧ (Cert.Pre_finite_gla.fn (F := Ideal) (m ((c.tc : Thread Cert.GlaFwdIdeal.nD Cert.GlaFwdIdeal.τ).loc Cert.GlaFwdIdeal.main_arg0)) (m ((c.tc : Thread Cert.GlaFwdIdeal.nD Cert.GlaFwdIdeal.τ).loc Cert.GlaFwdIdeal.main_arg1)) (m ((c.tc : Thread Cert.GlaFwdIdeal.nD Cert.GlaFwdIdeal.τ).loc Cert.GlaFwdIdeal.main_arg2)) (m ((c.tc : Thread Cert.GlaFwdIdeal.nD Cert.GlaFwdIdeal.τ).loc Cert.GlaFwdIdeal.main_arg3)) (m ((c.tc : Thread Cert.GlaFwdIdeal.nD Cert.GlaFwdIdeal.τ).loc Cert.GlaFwdIdeal.main_arg4)) (m ((c.tc : Thread Cert.GlaFwdIdeal.nD Cert.GlaFwdIdeal.τ).loc Cert.GlaFwdIdeal.main_arg5)) (m ((c.tc : Thread Cert.GlaFwdIdeal.nD Cert.GlaFwdIdeal.τ).loc Cert.GlaFwdIdeal.main_arg6)) (m ((c.tc : Thread Cert.GlaFwdIdeal.nD Cert.GlaFwdIdeal.τ).loc Cert.GlaFwdIdeal.main_arg7))).2.2.1 = (fun _ => 1#1)
    ∧ (Cert.Pre_finite_gla.fn (F := Ideal) (m ((c.tc : Thread Cert.GlaFwdIdeal.nD Cert.GlaFwdIdeal.τ).loc Cert.GlaFwdIdeal.main_arg0)) (m ((c.tc : Thread Cert.GlaFwdIdeal.nD Cert.GlaFwdIdeal.τ).loc Cert.GlaFwdIdeal.main_arg1)) (m ((c.tc : Thread Cert.GlaFwdIdeal.nD Cert.GlaFwdIdeal.τ).loc Cert.GlaFwdIdeal.main_arg2)) (m ((c.tc : Thread Cert.GlaFwdIdeal.nD Cert.GlaFwdIdeal.τ).loc Cert.GlaFwdIdeal.main_arg3)) (m ((c.tc : Thread Cert.GlaFwdIdeal.nD Cert.GlaFwdIdeal.τ).loc Cert.GlaFwdIdeal.main_arg4)) (m ((c.tc : Thread Cert.GlaFwdIdeal.nD Cert.GlaFwdIdeal.τ).loc Cert.GlaFwdIdeal.main_arg5)) (m ((c.tc : Thread Cert.GlaFwdIdeal.nD Cert.GlaFwdIdeal.τ).loc Cert.GlaFwdIdeal.main_arg6)) (m ((c.tc : Thread Cert.GlaFwdIdeal.nD Cert.GlaFwdIdeal.τ).loc Cert.GlaFwdIdeal.main_arg7))).2.2.2.1 = (fun _ => 1#1)
    ∧ (Cert.Pre_finite_gla.fn (F := Ideal) (m ((c.tc : Thread Cert.GlaFwdIdeal.nD Cert.GlaFwdIdeal.τ).loc Cert.GlaFwdIdeal.main_arg0)) (m ((c.tc : Thread Cert.GlaFwdIdeal.nD Cert.GlaFwdIdeal.τ).loc Cert.GlaFwdIdeal.main_arg1)) (m ((c.tc : Thread Cert.GlaFwdIdeal.nD Cert.GlaFwdIdeal.τ).loc Cert.GlaFwdIdeal.main_arg2)) (m ((c.tc : Thread Cert.GlaFwdIdeal.nD Cert.GlaFwdIdeal.τ).loc Cert.GlaFwdIdeal.main_arg3)) (m ((c.tc : Thread Cert.GlaFwdIdeal.nD Cert.GlaFwdIdeal.τ).loc Cert.GlaFwdIdeal.main_arg4)) (m ((c.tc : Thread Cert.GlaFwdIdeal.nD Cert.GlaFwdIdeal.τ).loc Cert.GlaFwdIdeal.main_arg5)) (m ((c.tc : Thread Cert.GlaFwdIdeal.nD Cert.GlaFwdIdeal.τ).loc Cert.GlaFwdIdeal.main_arg6)) (m ((c.tc : Thread Cert.GlaFwdIdeal.nD Cert.GlaFwdIdeal.τ).loc Cert.GlaFwdIdeal.main_arg7))).2.2.2.2.1 = (fun _ => 1#1)
    ∧ (Cert.Pre_finite_gla.fn (F := Ideal) (m ((c.tc : Thread Cert.GlaFwdIdeal.nD Cert.GlaFwdIdeal.τ).loc Cert.GlaFwdIdeal.main_arg0)) (m ((c.tc : Thread Cert.GlaFwdIdeal.nD Cert.GlaFwdIdeal.τ).loc Cert.GlaFwdIdeal.main_arg1)) (m ((c.tc : Thread Cert.GlaFwdIdeal.nD Cert.GlaFwdIdeal.τ).loc Cert.GlaFwdIdeal.main_arg2)) (m ((c.tc : Thread Cert.GlaFwdIdeal.nD Cert.GlaFwdIdeal.τ).loc Cert.GlaFwdIdeal.main_arg3)) (m ((c.tc : Thread Cert.GlaFwdIdeal.nD Cert.GlaFwdIdeal.τ).loc Cert.GlaFwdIdeal.main_arg4)) (m ((c.tc : Thread Cert.GlaFwdIdeal.nD Cert.GlaFwdIdeal.τ).loc Cert.GlaFwdIdeal.main_arg5)) (m ((c.tc : Thread Cert.GlaFwdIdeal.nD Cert.GlaFwdIdeal.τ).loc Cert.GlaFwdIdeal.main_arg6)) (m ((c.tc : Thread Cert.GlaFwdIdeal.nD Cert.GlaFwdIdeal.τ).loc Cert.GlaFwdIdeal.main_arg7))).2.2.2.2.2.1 = (fun _ => 1#1)
    ∧ (Cert.Pre_finite_gla.fn (F := Ideal) (m ((c.tc : Thread Cert.GlaFwdIdeal.nD Cert.GlaFwdIdeal.τ).loc Cert.GlaFwdIdeal.main_arg0)) (m ((c.tc : Thread Cert.GlaFwdIdeal.nD Cert.GlaFwdIdeal.τ).loc Cert.GlaFwdIdeal.main_arg1)) (m ((c.tc : Thread Cert.GlaFwdIdeal.nD Cert.GlaFwdIdeal.τ).loc Cert.GlaFwdIdeal.main_arg2)) (m ((c.tc : Thread Cert.GlaFwdIdeal.nD Cert.GlaFwdIdeal.τ).loc Cert.GlaFwdIdeal.main_arg3)) (m ((c.tc : Thread Cert.GlaFwdIdeal.nD Cert.GlaFwdIdeal.τ).loc Cert.GlaFwdIdeal.main_arg4)) (m ((c.tc : Thread Cert.GlaFwdIdeal.nD Cert.GlaFwdIdeal.τ).loc Cert.GlaFwdIdeal.main_arg5)) (m ((c.tc : Thread Cert.GlaFwdIdeal.nD Cert.GlaFwdIdeal.τ).loc Cert.GlaFwdIdeal.main_arg6)) (m ((c.tc : Thread Cert.GlaFwdIdeal.nD Cert.GlaFwdIdeal.τ).loc Cert.GlaFwdIdeal.main_arg7))).2.2.2.2.2.2.1 = (fun _ => 1#1)
    ∧ (Cert.Pre_finite_gla.fn (F := Ideal) (m ((c.tc : Thread Cert.GlaFwdIdeal.nD Cert.GlaFwdIdeal.τ).loc Cert.GlaFwdIdeal.main_arg0)) (m ((c.tc : Thread Cert.GlaFwdIdeal.nD Cert.GlaFwdIdeal.τ).loc Cert.GlaFwdIdeal.main_arg1)) (m ((c.tc : Thread Cert.GlaFwdIdeal.nD Cert.GlaFwdIdeal.τ).loc Cert.GlaFwdIdeal.main_arg2)) (m ((c.tc : Thread Cert.GlaFwdIdeal.nD Cert.GlaFwdIdeal.τ).loc Cert.GlaFwdIdeal.main_arg3)) (m ((c.tc : Thread Cert.GlaFwdIdeal.nD Cert.GlaFwdIdeal.τ).loc Cert.GlaFwdIdeal.main_arg4)) (m ((c.tc : Thread Cert.GlaFwdIdeal.nD Cert.GlaFwdIdeal.τ).loc Cert.GlaFwdIdeal.main_arg5)) (m ((c.tc : Thread Cert.GlaFwdIdeal.nD Cert.GlaFwdIdeal.τ).loc Cert.GlaFwdIdeal.main_arg6)) (m ((c.tc : Thread Cert.GlaFwdIdeal.nD Cert.GlaFwdIdeal.τ).loc Cert.GlaFwdIdeal.main_arg7))).2.2.2.2.2.2.2 = (fun _ => 1#1)

def Pre_GlaFwdReferenceIdeal (m : (ℓ : Loc Cert.GlaFwdReferenceIdeal.nD Cert.GlaFwdReferenceIdeal.τ Cert.GlaFwdReferenceIdeal.sig) → Buf (Elt Ideal) ℓ) : Prop :=
  True

def Pre_GlaFwdReferenceIdeal_finite_gla [hPre_finite_gla : Cert.Pre_finite_gla.Facts] (m : (ℓ : Loc Cert.GlaFwdReferenceIdeal.nD Cert.GlaFwdReferenceIdeal.τ Cert.GlaFwdReferenceIdeal.sig) → Buf (Elt Ideal) ℓ) : Prop :=
  ∀ c : Dev Cert.GlaFwdReferenceIdeal.nD,
    (Cert.Pre_finite_gla.fn (F := Ideal) (m ((c.tc : Thread Cert.GlaFwdReferenceIdeal.nD Cert.GlaFwdReferenceIdeal.τ).loc Cert.GlaFwdReferenceIdeal.main_arg0)) (m ((c.tc : Thread Cert.GlaFwdReferenceIdeal.nD Cert.GlaFwdReferenceIdeal.τ).loc Cert.GlaFwdReferenceIdeal.main_arg1)) (m ((c.tc : Thread Cert.GlaFwdReferenceIdeal.nD Cert.GlaFwdReferenceIdeal.τ).loc Cert.GlaFwdReferenceIdeal.main_arg2)) (m ((c.tc : Thread Cert.GlaFwdReferenceIdeal.nD Cert.GlaFwdReferenceIdeal.τ).loc Cert.GlaFwdReferenceIdeal.main_arg3)) (m ((c.tc : Thread Cert.GlaFwdReferenceIdeal.nD Cert.GlaFwdReferenceIdeal.τ).loc Cert.GlaFwdReferenceIdeal.main_arg4)) (m ((c.tc : Thread Cert.GlaFwdReferenceIdeal.nD Cert.GlaFwdReferenceIdeal.τ).loc Cert.GlaFwdReferenceIdeal.main_arg5)) (m ((c.tc : Thread Cert.GlaFwdReferenceIdeal.nD Cert.GlaFwdReferenceIdeal.τ).loc Cert.GlaFwdReferenceIdeal.main_arg6)) (m ((c.tc : Thread Cert.GlaFwdReferenceIdeal.nD Cert.GlaFwdReferenceIdeal.τ).loc Cert.GlaFwdReferenceIdeal.main_arg7))).1 = (fun _ => 1#1)
    ∧ (Cert.Pre_finite_gla.fn (F := Ideal) (m ((c.tc : Thread Cert.GlaFwdReferenceIdeal.nD Cert.GlaFwdReferenceIdeal.τ).loc Cert.GlaFwdReferenceIdeal.main_arg0)) (m ((c.tc : Thread Cert.GlaFwdReferenceIdeal.nD Cert.GlaFwdReferenceIdeal.τ).loc Cert.GlaFwdReferenceIdeal.main_arg1)) (m ((c.tc : Thread Cert.GlaFwdReferenceIdeal.nD Cert.GlaFwdReferenceIdeal.τ).loc Cert.GlaFwdReferenceIdeal.main_arg2)) (m ((c.tc : Thread Cert.GlaFwdReferenceIdeal.nD Cert.GlaFwdReferenceIdeal.τ).loc Cert.GlaFwdReferenceIdeal.main_arg3)) (m ((c.tc : Thread Cert.GlaFwdReferenceIdeal.nD Cert.GlaFwdReferenceIdeal.τ).loc Cert.GlaFwdReferenceIdeal.main_arg4)) (m ((c.tc : Thread Cert.GlaFwdReferenceIdeal.nD Cert.GlaFwdReferenceIdeal.τ).loc Cert.GlaFwdReferenceIdeal.main_arg5)) (m ((c.tc : Thread Cert.GlaFwdReferenceIdeal.nD Cert.GlaFwdReferenceIdeal.τ).loc Cert.GlaFwdReferenceIdeal.main_arg6)) (m ((c.tc : Thread Cert.GlaFwdReferenceIdeal.nD Cert.GlaFwdReferenceIdeal.τ).loc Cert.GlaFwdReferenceIdeal.main_arg7))).2.1 = (fun _ => 1#1)
    ∧ (Cert.Pre_finite_gla.fn (F := Ideal) (m ((c.tc : Thread Cert.GlaFwdReferenceIdeal.nD Cert.GlaFwdReferenceIdeal.τ).loc Cert.GlaFwdReferenceIdeal.main_arg0)) (m ((c.tc : Thread Cert.GlaFwdReferenceIdeal.nD Cert.GlaFwdReferenceIdeal.τ).loc Cert.GlaFwdReferenceIdeal.main_arg1)) (m ((c.tc : Thread Cert.GlaFwdReferenceIdeal.nD Cert.GlaFwdReferenceIdeal.τ).loc Cert.GlaFwdReferenceIdeal.main_arg2)) (m ((c.tc : Thread Cert.GlaFwdReferenceIdeal.nD Cert.GlaFwdReferenceIdeal.τ).loc Cert.GlaFwdReferenceIdeal.main_arg3)) (m ((c.tc : Thread Cert.GlaFwdReferenceIdeal.nD Cert.GlaFwdReferenceIdeal.τ).loc Cert.GlaFwdReferenceIdeal.main_arg4)) (m ((c.tc : Thread Cert.GlaFwdReferenceIdeal.nD Cert.GlaFwdReferenceIdeal.τ).loc Cert.GlaFwdReferenceIdeal.main_arg5)) (m ((c.tc : Thread Cert.GlaFwdReferenceIdeal.nD Cert.GlaFwdReferenceIdeal.τ).loc Cert.GlaFwdReferenceIdeal.main_arg6)) (m ((c.tc : Thread Cert.GlaFwdReferenceIdeal.nD Cert.GlaFwdReferenceIdeal.τ).loc Cert.GlaFwdReferenceIdeal.main_arg7))).2.2.1 = (fun _ => 1#1)
    ∧ (Cert.Pre_finite_gla.fn (F := Ideal) (m ((c.tc : Thread Cert.GlaFwdReferenceIdeal.nD Cert.GlaFwdReferenceIdeal.τ).loc Cert.GlaFwdReferenceIdeal.main_arg0)) (m ((c.tc : Thread Cert.GlaFwdReferenceIdeal.nD Cert.GlaFwdReferenceIdeal.τ).loc Cert.GlaFwdReferenceIdeal.main_arg1)) (m ((c.tc : Thread Cert.GlaFwdReferenceIdeal.nD Cert.GlaFwdReferenceIdeal.τ).loc Cert.GlaFwdReferenceIdeal.main_arg2)) (m ((c.tc : Thread Cert.GlaFwdReferenceIdeal.nD Cert.GlaFwdReferenceIdeal.τ).loc Cert.GlaFwdReferenceIdeal.main_arg3)) (m ((c.tc : Thread Cert.GlaFwdReferenceIdeal.nD Cert.GlaFwdReferenceIdeal.τ).loc Cert.GlaFwdReferenceIdeal.main_arg4)) (m ((c.tc : Thread Cert.GlaFwdReferenceIdeal.nD Cert.GlaFwdReferenceIdeal.τ).loc Cert.GlaFwdReferenceIdeal.main_arg5)) (m ((c.tc : Thread Cert.GlaFwdReferenceIdeal.nD Cert.GlaFwdReferenceIdeal.τ).loc Cert.GlaFwdReferenceIdeal.main_arg6)) (m ((c.tc : Thread Cert.GlaFwdReferenceIdeal.nD Cert.GlaFwdReferenceIdeal.τ).loc Cert.GlaFwdReferenceIdeal.main_arg7))).2.2.2.1 = (fun _ => 1#1)
    ∧ (Cert.Pre_finite_gla.fn (F := Ideal) (m ((c.tc : Thread Cert.GlaFwdReferenceIdeal.nD Cert.GlaFwdReferenceIdeal.τ).loc Cert.GlaFwdReferenceIdeal.main_arg0)) (m ((c.tc : Thread Cert.GlaFwdReferenceIdeal.nD Cert.GlaFwdReferenceIdeal.τ).loc Cert.GlaFwdReferenceIdeal.main_arg1)) (m ((c.tc : Thread Cert.GlaFwdReferenceIdeal.nD Cert.GlaFwdReferenceIdeal.τ).loc Cert.GlaFwdReferenceIdeal.main_arg2)) (m ((c.tc : Thread Cert.GlaFwdReferenceIdeal.nD Cert.GlaFwdReferenceIdeal.τ).loc Cert.GlaFwdReferenceIdeal.main_arg3)) (m ((c.tc : Thread Cert.GlaFwdReferenceIdeal.nD Cert.GlaFwdReferenceIdeal.τ).loc Cert.GlaFwdReferenceIdeal.main_arg4)) (m ((c.tc : Thread Cert.GlaFwdReferenceIdeal.nD Cert.GlaFwdReferenceIdeal.τ).loc Cert.GlaFwdReferenceIdeal.main_arg5)) (m ((c.tc : Thread Cert.GlaFwdReferenceIdeal.nD Cert.GlaFwdReferenceIdeal.τ).loc Cert.GlaFwdReferenceIdeal.main_arg6)) (m ((c.tc : Thread Cert.GlaFwdReferenceIdeal.nD Cert.GlaFwdReferenceIdeal.τ).loc Cert.GlaFwdReferenceIdeal.main_arg7))).2.2.2.2.1 = (fun _ => 1#1)
    ∧ (Cert.Pre_finite_gla.fn (F := Ideal) (m ((c.tc : Thread Cert.GlaFwdReferenceIdeal.nD Cert.GlaFwdReferenceIdeal.τ).loc Cert.GlaFwdReferenceIdeal.main_arg0)) (m ((c.tc : Thread Cert.GlaFwdReferenceIdeal.nD Cert.GlaFwdReferenceIdeal.τ).loc Cert.GlaFwdReferenceIdeal.main_arg1)) (m ((c.tc : Thread Cert.GlaFwdReferenceIdeal.nD Cert.GlaFwdReferenceIdeal.τ).loc Cert.GlaFwdReferenceIdeal.main_arg2)) (m ((c.tc : Thread Cert.GlaFwdReferenceIdeal.nD Cert.GlaFwdReferenceIdeal.τ).loc Cert.GlaFwdReferenceIdeal.main_arg3)) (m ((c.tc : Thread Cert.GlaFwdReferenceIdeal.nD Cert.GlaFwdReferenceIdeal.τ).loc Cert.GlaFwdReferenceIdeal.main_arg4)) (m ((c.tc : Thread Cert.GlaFwdReferenceIdeal.nD Cert.GlaFwdReferenceIdeal.τ).loc Cert.GlaFwdReferenceIdeal.main_arg5)) (m ((c.tc : Thread Cert.GlaFwdReferenceIdeal.nD Cert.GlaFwdReferenceIdeal.τ).loc Cert.GlaFwdReferenceIdeal.main_arg6)) (m ((c.tc : Thread Cert.GlaFwdReferenceIdeal.nD Cert.GlaFwdReferenceIdeal.τ).loc Cert.GlaFwdReferenceIdeal.main_arg7))).2.2.2.2.2.1 = (fun _ => 1#1)
    ∧ (Cert.Pre_finite_gla.fn (F := Ideal) (m ((c.tc : Thread Cert.GlaFwdReferenceIdeal.nD Cert.GlaFwdReferenceIdeal.τ).loc Cert.GlaFwdReferenceIdeal.main_arg0)) (m ((c.tc : Thread Cert.GlaFwdReferenceIdeal.nD Cert.GlaFwdReferenceIdeal.τ).loc Cert.GlaFwdReferenceIdeal.main_arg1)) (m ((c.tc : Thread Cert.GlaFwdReferenceIdeal.nD Cert.GlaFwdReferenceIdeal.τ).loc Cert.GlaFwdReferenceIdeal.main_arg2)) (m ((c.tc : Thread Cert.GlaFwdReferenceIdeal.nD Cert.GlaFwdReferenceIdeal.τ).loc Cert.GlaFwdReferenceIdeal.main_arg3)) (m ((c.tc : Thread Cert.GlaFwdReferenceIdeal.nD Cert.GlaFwdReferenceIdeal.τ).loc Cert.GlaFwdReferenceIdeal.main_arg4)) (m ((c.tc : Thread Cert.GlaFwdReferenceIdeal.nD Cert.GlaFwdReferenceIdeal.τ).loc Cert.GlaFwdReferenceIdeal.main_arg5)) (m ((c.tc : Thread Cert.GlaFwdReferenceIdeal.nD Cert.GlaFwdReferenceIdeal.τ).loc Cert.GlaFwdReferenceIdeal.main_arg6)) (m ((c.tc : Thread Cert.GlaFwdReferenceIdeal.nD Cert.GlaFwdReferenceIdeal.τ).loc Cert.GlaFwdReferenceIdeal.main_arg7))).2.2.2.2.2.2.1 = (fun _ => 1#1)
    ∧ (Cert.Pre_finite_gla.fn (F := Ideal) (m ((c.tc : Thread Cert.GlaFwdReferenceIdeal.nD Cert.GlaFwdReferenceIdeal.τ).loc Cert.GlaFwdReferenceIdeal.main_arg0)) (m ((c.tc : Thread Cert.GlaFwdReferenceIdeal.nD Cert.GlaFwdReferenceIdeal.τ).loc Cert.GlaFwdReferenceIdeal.main_arg1)) (m ((c.tc : Thread Cert.GlaFwdReferenceIdeal.nD Cert.GlaFwdReferenceIdeal.τ).loc Cert.GlaFwdReferenceIdeal.main_arg2)) (m ((c.tc : Thread Cert.GlaFwdReferenceIdeal.nD Cert.GlaFwdReferenceIdeal.τ).loc Cert.GlaFwdReferenceIdeal.main_arg3)) (m ((c.tc : Thread Cert.GlaFwdReferenceIdeal.nD Cert.GlaFwdReferenceIdeal.τ).loc Cert.GlaFwdReferenceIdeal.main_arg4)) (m ((c.tc : Thread Cert.GlaFwdReferenceIdeal.nD Cert.GlaFwdReferenceIdeal.τ).loc Cert.GlaFwdReferenceIdeal.main_arg5)) (m ((c.tc : Thread Cert.GlaFwdReferenceIdeal.nD Cert.GlaFwdReferenceIdeal.τ).loc Cert.GlaFwdReferenceIdeal.main_arg6)) (m ((c.tc : Thread Cert.GlaFwdReferenceIdeal.nD Cert.GlaFwdReferenceIdeal.τ).loc Cert.GlaFwdReferenceIdeal.main_arg7))).2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_DwinAtt [hDwinAtt : Cert.DwinAtt.Facts] : Prop :=
  ∀ (m : (ℓ : Loc Cert.DwinAtt.nD Cert.DwinAtt.τ Cert.DwinAtt.sig) → Buf (Elt Bits) ℓ) (g : Dev Cert.DwinAtt.nD → PrngReg), Pre_DwinAtt m →
    θ_run (Cert.DwinAtt.defs (F := Bits)) (onTc (τ := Cert.DwinAtt.τ) (Cert.DwinAtt.main (F := Bits))) ⟨m, fun _ => 0, g⟩ (fun r => (∀ c : Dev Cert.DwinAtt.nD,
      r.2.mem ((c.tc : Thread Cert.DwinAtt.nD Cert.DwinAtt.τ).loc Cert.DwinAtt.main_arg0) = m ((c.tc : Thread Cert.DwinAtt.nD Cert.DwinAtt.τ).loc Cert.DwinAtt.main_arg0)
      ∧ r.2.mem ((c.tc : Thread Cert.DwinAtt.nD Cert.DwinAtt.τ).loc Cert.DwinAtt.main_arg1) = m ((c.tc : Thread Cert.DwinAtt.nD Cert.DwinAtt.τ).loc Cert.DwinAtt.main_arg1))
      ∧ r.2.sem = fun _ => 0)

def quiescent_DwinAttIdeal [hDwinAttIdeal : Cert.DwinAttIdeal.Facts] : Prop :=
  ∀ (m : (ℓ : Loc Cert.DwinAttIdeal.nD Cert.DwinAttIdeal.τ Cert.DwinAttIdeal.sig) → Buf (Elt Ideal) ℓ) (g : Dev Cert.DwinAttIdeal.nD → PrngReg), Pre_DwinAttIdeal m →
    θ_run (Cert.DwinAttIdeal.defs (F := Ideal)) (onTc (τ := Cert.DwinAttIdeal.τ) (Cert.DwinAttIdeal.main (F := Ideal))) ⟨m, fun _ => 0, g⟩ (fun r => (∀ c : Dev Cert.DwinAttIdeal.nD,
      r.2.mem ((c.tc : Thread Cert.DwinAttIdeal.nD Cert.DwinAttIdeal.τ).loc Cert.DwinAttIdeal.main_arg0) = m ((c.tc : Thread Cert.DwinAttIdeal.nD Cert.DwinAttIdeal.τ).loc Cert.DwinAttIdeal.main_arg0)
      ∧ r.2.mem ((c.tc : Thread Cert.DwinAttIdeal.nD Cert.DwinAttIdeal.τ).loc Cert.DwinAttIdeal.main_arg1) = m ((c.tc : Thread Cert.DwinAttIdeal.nD Cert.DwinAttIdeal.τ).loc Cert.DwinAttIdeal.main_arg1))
      ∧ r.2.sem = fun _ => 0)

def quiescent_DwinAttReferenceIdeal [hDwinAttReferenceIdeal : Cert.DwinAttReferenceIdeal.Facts] : Prop :=
  ∀ (m : (ℓ : Loc Cert.DwinAttReferenceIdeal.nD Cert.DwinAttReferenceIdeal.τ Cert.DwinAttReferenceIdeal.sig) → Buf (Elt Ideal) ℓ) (g : Dev Cert.DwinAttReferenceIdeal.nD → PrngReg), Pre_DwinAttReferenceIdeal m →
    θ_run (Cert.DwinAttReferenceIdeal.defs (F := Ideal)) (onTc (τ := Cert.DwinAttReferenceIdeal.τ) (Cert.DwinAttReferenceIdeal.main (F := Ideal))) ⟨m, fun _ => 0, g⟩ (fun r => (∀ c : Dev Cert.DwinAttReferenceIdeal.nD,
      r.2.mem ((c.tc : Thread Cert.DwinAttReferenceIdeal.nD Cert.DwinAttReferenceIdeal.τ).loc Cert.DwinAttReferenceIdeal.main_arg0) = m ((c.tc : Thread Cert.DwinAttReferenceIdeal.nD Cert.DwinAttReferenceIdeal.τ).loc Cert.DwinAttReferenceIdeal.main_arg0)
      ∧ r.2.mem ((c.tc : Thread Cert.DwinAttReferenceIdeal.nD Cert.DwinAttReferenceIdeal.τ).loc Cert.DwinAttReferenceIdeal.main_arg1) = m ((c.tc : Thread Cert.DwinAttReferenceIdeal.nD Cert.DwinAttReferenceIdeal.τ).loc Cert.DwinAttReferenceIdeal.main_arg1))
      ∧ r.2.sem = fun _ => 0)

def quiescent_DwinGla [hDwinGla : Cert.DwinGla.Facts] : Prop :=
  ∀ (m : (ℓ : Loc Cert.DwinGla.nD Cert.DwinGla.τ Cert.DwinGla.sig) → Buf (Elt Bits) ℓ) (g : Dev Cert.DwinGla.nD → PrngReg), Pre_DwinGla m →
    θ_run (Cert.DwinGla.defs (F := Bits)) (onTc (τ := Cert.DwinGla.τ) (Cert.DwinGla.main (F := Bits))) ⟨m, fun _ => 0, g⟩ (fun r => (∀ c : Dev Cert.DwinGla.nD,
      r.2.mem ((c.tc : Thread Cert.DwinGla.nD Cert.DwinGla.τ).loc Cert.DwinGla.main_arg0) = m ((c.tc : Thread Cert.DwinGla.nD Cert.DwinGla.τ).loc Cert.DwinGla.main_arg0)
      ∧ r.2.mem ((c.tc : Thread Cert.DwinGla.nD Cert.DwinGla.τ).loc Cert.DwinGla.main_arg1) = m ((c.tc : Thread Cert.DwinGla.nD Cert.DwinGla.τ).loc Cert.DwinGla.main_arg1))
      ∧ r.2.sem = fun _ => 0)

def quiescent_DwinGlaIdeal [hDwinGlaIdeal : Cert.DwinGlaIdeal.Facts] : Prop :=
  ∀ (m : (ℓ : Loc Cert.DwinGlaIdeal.nD Cert.DwinGlaIdeal.τ Cert.DwinGlaIdeal.sig) → Buf (Elt Ideal) ℓ) (g : Dev Cert.DwinGlaIdeal.nD → PrngReg), Pre_DwinGlaIdeal m →
    θ_run (Cert.DwinGlaIdeal.defs (F := Ideal)) (onTc (τ := Cert.DwinGlaIdeal.τ) (Cert.DwinGlaIdeal.main (F := Ideal))) ⟨m, fun _ => 0, g⟩ (fun r => (∀ c : Dev Cert.DwinGlaIdeal.nD,
      r.2.mem ((c.tc : Thread Cert.DwinGlaIdeal.nD Cert.DwinGlaIdeal.τ).loc Cert.DwinGlaIdeal.main_arg0) = m ((c.tc : Thread Cert.DwinGlaIdeal.nD Cert.DwinGlaIdeal.τ).loc Cert.DwinGlaIdeal.main_arg0)
      ∧ r.2.mem ((c.tc : Thread Cert.DwinGlaIdeal.nD Cert.DwinGlaIdeal.τ).loc Cert.DwinGlaIdeal.main_arg1) = m ((c.tc : Thread Cert.DwinGlaIdeal.nD Cert.DwinGlaIdeal.τ).loc Cert.DwinGlaIdeal.main_arg1))
      ∧ r.2.sem = fun _ => 0)

def quiescent_DwinGlaReferenceIdeal [hDwinGlaReferenceIdeal : Cert.DwinGlaReferenceIdeal.Facts] : Prop :=
  ∀ (m : (ℓ : Loc Cert.DwinGlaReferenceIdeal.nD Cert.DwinGlaReferenceIdeal.τ Cert.DwinGlaReferenceIdeal.sig) → Buf (Elt Ideal) ℓ) (g : Dev Cert.DwinGlaReferenceIdeal.nD → PrngReg), Pre_DwinGlaReferenceIdeal m →
    θ_run (Cert.DwinGlaReferenceIdeal.defs (F := Ideal)) (onTc (τ := Cert.DwinGlaReferenceIdeal.τ) (Cert.DwinGlaReferenceIdeal.main (F := Ideal))) ⟨m, fun _ => 0, g⟩ (fun r => (∀ c : Dev Cert.DwinGlaReferenceIdeal.nD,
      r.2.mem ((c.tc : Thread Cert.DwinGlaReferenceIdeal.nD Cert.DwinGlaReferenceIdeal.τ).loc Cert.DwinGlaReferenceIdeal.main_arg0) = m ((c.tc : Thread Cert.DwinGlaReferenceIdeal.nD Cert.DwinGlaReferenceIdeal.τ).loc Cert.DwinGlaReferenceIdeal.main_arg0)
      ∧ r.2.mem ((c.tc : Thread Cert.DwinGlaReferenceIdeal.nD Cert.DwinGlaReferenceIdeal.τ).loc Cert.DwinGlaReferenceIdeal.main_arg1) = m ((c.tc : Thread Cert.DwinGlaReferenceIdeal.nD Cert.DwinGlaReferenceIdeal.τ).loc Cert.DwinGlaReferenceIdeal.main_arg1))
      ∧ r.2.sem = fun _ => 0)

def quiescent_DwinGate [hDwinGate : Cert.DwinGate.Facts] : Prop :=
  ∀ (m : (ℓ : Loc Cert.DwinGate.nD Cert.DwinGate.τ Cert.DwinGate.sig) → Buf (Elt Bits) ℓ) (g : Dev Cert.DwinGate.nD → PrngReg), Pre_DwinGate m →
    θ_run (Cert.DwinGate.defs (F := Bits)) (onTc (τ := Cert.DwinGate.τ) (Cert.DwinGate.main (F := Bits))) ⟨m, fun _ => 0, g⟩ (fun r => (∀ c : Dev Cert.DwinGate.nD,
      r.2.mem ((c.tc : Thread Cert.DwinGate.nD Cert.DwinGate.τ).loc Cert.DwinGate.main_arg0) = m ((c.tc : Thread Cert.DwinGate.nD Cert.DwinGate.τ).loc Cert.DwinGate.main_arg0)
      ∧ r.2.mem ((c.tc : Thread Cert.DwinGate.nD Cert.DwinGate.τ).loc Cert.DwinGate.main_arg1) = m ((c.tc : Thread Cert.DwinGate.nD Cert.DwinGate.τ).loc Cert.DwinGate.main_arg1))
      ∧ r.2.sem = fun _ => 0)

def quiescent_DwinGateIdeal [hDwinGateIdeal : Cert.DwinGateIdeal.Facts] : Prop :=
  ∀ (m : (ℓ : Loc Cert.DwinGateIdeal.nD Cert.DwinGateIdeal.τ Cert.DwinGateIdeal.sig) → Buf (Elt Ideal) ℓ) (g : Dev Cert.DwinGateIdeal.nD → PrngReg), Pre_DwinGateIdeal m →
    θ_run (Cert.DwinGateIdeal.defs (F := Ideal)) (onTc (τ := Cert.DwinGateIdeal.τ) (Cert.DwinGateIdeal.main (F := Ideal))) ⟨m, fun _ => 0, g⟩ (fun r => (∀ c : Dev Cert.DwinGateIdeal.nD,
      r.2.mem ((c.tc : Thread Cert.DwinGateIdeal.nD Cert.DwinGateIdeal.τ).loc Cert.DwinGateIdeal.main_arg0) = m ((c.tc : Thread Cert.DwinGateIdeal.nD Cert.DwinGateIdeal.τ).loc Cert.DwinGateIdeal.main_arg0)
      ∧ r.2.mem ((c.tc : Thread Cert.DwinGateIdeal.nD Cert.DwinGateIdeal.τ).loc Cert.DwinGateIdeal.main_arg1) = m ((c.tc : Thread Cert.DwinGateIdeal.nD Cert.DwinGateIdeal.τ).loc Cert.DwinGateIdeal.main_arg1))
      ∧ r.2.sem = fun _ => 0)

def quiescent_DwinGateReferenceIdeal [hDwinGateReferenceIdeal : Cert.DwinGateReferenceIdeal.Facts] : Prop :=
  ∀ (m : (ℓ : Loc Cert.DwinGateReferenceIdeal.nD Cert.DwinGateReferenceIdeal.τ Cert.DwinGateReferenceIdeal.sig) → Buf (Elt Ideal) ℓ) (g : Dev Cert.DwinGateReferenceIdeal.nD → PrngReg), Pre_DwinGateReferenceIdeal m →
    θ_run (Cert.DwinGateReferenceIdeal.defs (F := Ideal)) (onTc (τ := Cert.DwinGateReferenceIdeal.τ) (Cert.DwinGateReferenceIdeal.main (F := Ideal))) ⟨m, fun _ => 0, g⟩ (fun r => (∀ c : Dev Cert.DwinGateReferenceIdeal.nD,
      r.2.mem ((c.tc : Thread Cert.DwinGateReferenceIdeal.nD Cert.DwinGateReferenceIdeal.τ).loc Cert.DwinGateReferenceIdeal.main_arg0) = m ((c.tc : Thread Cert.DwinGateReferenceIdeal.nD Cert.DwinGateReferenceIdeal.τ).loc Cert.DwinGateReferenceIdeal.main_arg0)
      ∧ r.2.mem ((c.tc : Thread Cert.DwinGateReferenceIdeal.nD Cert.DwinGateReferenceIdeal.τ).loc Cert.DwinGateReferenceIdeal.main_arg1) = m ((c.tc : Thread Cert.DwinGateReferenceIdeal.nD Cert.DwinGateReferenceIdeal.τ).loc Cert.DwinGateReferenceIdeal.main_arg1))
      ∧ r.2.sem = fun _ => 0)

def quiescent_DwoutGla [hDwoutGla : Cert.DwoutGla.Facts] : Prop :=
  ∀ (m : (ℓ : Loc Cert.DwoutGla.nD Cert.DwoutGla.τ Cert.DwoutGla.sig) → Buf (Elt Bits) ℓ) (g : Dev Cert.DwoutGla.nD → PrngReg), Pre_DwoutGla m →
    θ_run (Cert.DwoutGla.defs (F := Bits)) (onTc (τ := Cert.DwoutGla.τ) (Cert.DwoutGla.main (F := Bits))) ⟨m, fun _ => 0, g⟩ (fun r => (∀ c : Dev Cert.DwoutGla.nD,
      r.2.mem ((c.tc : Thread Cert.DwoutGla.nD Cert.DwoutGla.τ).loc Cert.DwoutGla.main_arg0) = m ((c.tc : Thread Cert.DwoutGla.nD Cert.DwoutGla.τ).loc Cert.DwoutGla.main_arg0)
      ∧ r.2.mem ((c.tc : Thread Cert.DwoutGla.nD Cert.DwoutGla.τ).loc Cert.DwoutGla.main_arg1) = m ((c.tc : Thread Cert.DwoutGla.nD Cert.DwoutGla.τ).loc Cert.DwoutGla.main_arg1))
      ∧ r.2.sem = fun _ => 0)

def quiescent_DwoutGlaIdeal [hDwoutGlaIdeal : Cert.DwoutGlaIdeal.Facts] : Prop :=
  ∀ (m : (ℓ : Loc Cert.DwoutGlaIdeal.nD Cert.DwoutGlaIdeal.τ Cert.DwoutGlaIdeal.sig) → Buf (Elt Ideal) ℓ) (g : Dev Cert.DwoutGlaIdeal.nD → PrngReg), Pre_DwoutGlaIdeal m →
    θ_run (Cert.DwoutGlaIdeal.defs (F := Ideal)) (onTc (τ := Cert.DwoutGlaIdeal.τ) (Cert.DwoutGlaIdeal.main (F := Ideal))) ⟨m, fun _ => 0, g⟩ (fun r => (∀ c : Dev Cert.DwoutGlaIdeal.nD,
      r.2.mem ((c.tc : Thread Cert.DwoutGlaIdeal.nD Cert.DwoutGlaIdeal.τ).loc Cert.DwoutGlaIdeal.main_arg0) = m ((c.tc : Thread Cert.DwoutGlaIdeal.nD Cert.DwoutGlaIdeal.τ).loc Cert.DwoutGlaIdeal.main_arg0)
      ∧ r.2.mem ((c.tc : Thread Cert.DwoutGlaIdeal.nD Cert.DwoutGlaIdeal.τ).loc Cert.DwoutGlaIdeal.main_arg1) = m ((c.tc : Thread Cert.DwoutGlaIdeal.nD Cert.DwoutGlaIdeal.τ).loc Cert.DwoutGlaIdeal.main_arg1))
      ∧ r.2.sem = fun _ => 0)

def quiescent_DwoutGlaReferenceIdeal [hDwoutGlaReferenceIdeal : Cert.DwoutGlaReferenceIdeal.Facts] : Prop :=
  ∀ (m : (ℓ : Loc Cert.DwoutGlaReferenceIdeal.nD Cert.DwoutGlaReferenceIdeal.τ Cert.DwoutGlaReferenceIdeal.sig) → Buf (Elt Ideal) ℓ) (g : Dev Cert.DwoutGlaReferenceIdeal.nD → PrngReg), Pre_DwoutGlaReferenceIdeal m →
    θ_run (Cert.DwoutGlaReferenceIdeal.defs (F := Ideal)) (onTc (τ := Cert.DwoutGlaReferenceIdeal.τ) (Cert.DwoutGlaReferenceIdeal.main (F := Ideal))) ⟨m, fun _ => 0, g⟩ (fun r => (∀ c : Dev Cert.DwoutGlaReferenceIdeal.nD,
      r.2.mem ((c.tc : Thread Cert.DwoutGlaReferenceIdeal.nD Cert.DwoutGlaReferenceIdeal.τ).loc Cert.DwoutGlaReferenceIdeal.main_arg0) = m ((c.tc : Thread Cert.DwoutGlaReferenceIdeal.nD Cert.DwoutGlaReferenceIdeal.τ).loc Cert.DwoutGlaReferenceIdeal.main_arg0)
      ∧ r.2.mem ((c.tc : Thread Cert.DwoutGlaReferenceIdeal.nD Cert.DwoutGlaReferenceIdeal.τ).loc Cert.DwoutGlaReferenceIdeal.main_arg1) = m ((c.tc : Thread Cert.DwoutGlaReferenceIdeal.nD Cert.DwoutGlaReferenceIdeal.τ).loc Cert.DwoutGlaReferenceIdeal.main_arg1))
      ∧ r.2.sem = fun _ => 0)

def quiescent_DwoutAtt [hDwoutAtt : Cert.DwoutAtt.Facts] : Prop :=
  ∀ (m : (ℓ : Loc Cert.DwoutAtt.nD Cert.DwoutAtt.τ Cert.DwoutAtt.sig) → Buf (Elt Bits) ℓ) (g : Dev Cert.DwoutAtt.nD → PrngReg), Pre_DwoutAtt m →
    θ_run (Cert.DwoutAtt.defs (F := Bits)) (onTc (τ := Cert.DwoutAtt.τ) (Cert.DwoutAtt.main (F := Bits))) ⟨m, fun _ => 0, g⟩ (fun r => (∀ c : Dev Cert.DwoutAtt.nD,
      r.2.mem ((c.tc : Thread Cert.DwoutAtt.nD Cert.DwoutAtt.τ).loc Cert.DwoutAtt.main_arg0) = m ((c.tc : Thread Cert.DwoutAtt.nD Cert.DwoutAtt.τ).loc Cert.DwoutAtt.main_arg0)
      ∧ r.2.mem ((c.tc : Thread Cert.DwoutAtt.nD Cert.DwoutAtt.τ).loc Cert.DwoutAtt.main_arg1) = m ((c.tc : Thread Cert.DwoutAtt.nD Cert.DwoutAtt.τ).loc Cert.DwoutAtt.main_arg1))
      ∧ r.2.sem = fun _ => 0)

def quiescent_DwoutAttIdeal [hDwoutAttIdeal : Cert.DwoutAttIdeal.Facts] : Prop :=
  ∀ (m : (ℓ : Loc Cert.DwoutAttIdeal.nD Cert.DwoutAttIdeal.τ Cert.DwoutAttIdeal.sig) → Buf (Elt Ideal) ℓ) (g : Dev Cert.DwoutAttIdeal.nD → PrngReg), Pre_DwoutAttIdeal m →
    θ_run (Cert.DwoutAttIdeal.defs (F := Ideal)) (onTc (τ := Cert.DwoutAttIdeal.τ) (Cert.DwoutAttIdeal.main (F := Ideal))) ⟨m, fun _ => 0, g⟩ (fun r => (∀ c : Dev Cert.DwoutAttIdeal.nD,
      r.2.mem ((c.tc : Thread Cert.DwoutAttIdeal.nD Cert.DwoutAttIdeal.τ).loc Cert.DwoutAttIdeal.main_arg0) = m ((c.tc : Thread Cert.DwoutAttIdeal.nD Cert.DwoutAttIdeal.τ).loc Cert.DwoutAttIdeal.main_arg0)
      ∧ r.2.mem ((c.tc : Thread Cert.DwoutAttIdeal.nD Cert.DwoutAttIdeal.τ).loc Cert.DwoutAttIdeal.main_arg1) = m ((c.tc : Thread Cert.DwoutAttIdeal.nD Cert.DwoutAttIdeal.τ).loc Cert.DwoutAttIdeal.main_arg1))
      ∧ r.2.sem = fun _ => 0)

def quiescent_DwoutAttReferenceIdeal [hDwoutAttReferenceIdeal : Cert.DwoutAttReferenceIdeal.Facts] : Prop :=
  ∀ (m : (ℓ : Loc Cert.DwoutAttReferenceIdeal.nD Cert.DwoutAttReferenceIdeal.τ Cert.DwoutAttReferenceIdeal.sig) → Buf (Elt Ideal) ℓ) (g : Dev Cert.DwoutAttReferenceIdeal.nD → PrngReg), Pre_DwoutAttReferenceIdeal m →
    θ_run (Cert.DwoutAttReferenceIdeal.defs (F := Ideal)) (onTc (τ := Cert.DwoutAttReferenceIdeal.τ) (Cert.DwoutAttReferenceIdeal.main (F := Ideal))) ⟨m, fun _ => 0, g⟩ (fun r => (∀ c : Dev Cert.DwoutAttReferenceIdeal.nD,
      r.2.mem ((c.tc : Thread Cert.DwoutAttReferenceIdeal.nD Cert.DwoutAttReferenceIdeal.τ).loc Cert.DwoutAttReferenceIdeal.main_arg0) = m ((c.tc : Thread Cert.DwoutAttReferenceIdeal.nD Cert.DwoutAttReferenceIdeal.τ).loc Cert.DwoutAttReferenceIdeal.main_arg0)
      ∧ r.2.mem ((c.tc : Thread Cert.DwoutAttReferenceIdeal.nD Cert.DwoutAttReferenceIdeal.τ).loc Cert.DwoutAttReferenceIdeal.main_arg1) = m ((c.tc : Thread Cert.DwoutAttReferenceIdeal.nD Cert.DwoutAttReferenceIdeal.τ).loc Cert.DwoutAttReferenceIdeal.main_arg1))
      ∧ r.2.sem = fun _ => 0)

def quiescent_PostBwd [hPostBwd : Cert.PostBwd.Facts] : Prop :=
  ∀ (m : (ℓ : Loc Cert.PostBwd.nD Cert.PostBwd.τ Cert.PostBwd.sig) → Buf (Elt Bits) ℓ) (g : Dev Cert.PostBwd.nD → PrngReg), Pre_PostBwd m →
    θ_run (Cert.PostBwd.defs (F := Bits)) (onTc (τ := Cert.PostBwd.τ) (Cert.PostBwd.main (F := Bits))) ⟨m, fun _ => 0, g⟩ (fun r => (∀ c : Dev Cert.PostBwd.nD,
      r.2.mem ((c.tc : Thread Cert.PostBwd.nD Cert.PostBwd.τ).loc Cert.PostBwd.main_arg0) = m ((c.tc : Thread Cert.PostBwd.nD Cert.PostBwd.τ).loc Cert.PostBwd.main_arg0)
      ∧ r.2.mem ((c.tc : Thread Cert.PostBwd.nD Cert.PostBwd.τ).loc Cert.PostBwd.main_arg1) = m ((c.tc : Thread Cert.PostBwd.nD Cert.PostBwd.τ).loc Cert.PostBwd.main_arg1)
      ∧ r.2.mem ((c.tc : Thread Cert.PostBwd.nD Cert.PostBwd.τ).loc Cert.PostBwd.main_arg2) = m ((c.tc : Thread Cert.PostBwd.nD Cert.PostBwd.τ).loc Cert.PostBwd.main_arg2)
      ∧ r.2.mem ((c.tc : Thread Cert.PostBwd.nD Cert.PostBwd.τ).loc Cert.PostBwd.main_arg3) = m ((c.tc : Thread Cert.PostBwd.nD Cert.PostBwd.τ).loc Cert.PostBwd.main_arg3))
      ∧ r.2.sem = fun _ => 0)

def quiescent_PostBwdIdeal [hPostBwdIdeal : Cert.PostBwdIdeal.Facts] : Prop :=
  ∀ (m : (ℓ : Loc Cert.PostBwdIdeal.nD Cert.PostBwdIdeal.τ Cert.PostBwdIdeal.sig) → Buf (Elt Ideal) ℓ) (g : Dev Cert.PostBwdIdeal.nD → PrngReg), Pre_PostBwdIdeal m →
    θ_run (Cert.PostBwdIdeal.defs (F := Ideal)) (onTc (τ := Cert.PostBwdIdeal.τ) (Cert.PostBwdIdeal.main (F := Ideal))) ⟨m, fun _ => 0, g⟩ (fun r => (∀ c : Dev Cert.PostBwdIdeal.nD,
      r.2.mem ((c.tc : Thread Cert.PostBwdIdeal.nD Cert.PostBwdIdeal.τ).loc Cert.PostBwdIdeal.main_arg0) = m ((c.tc : Thread Cert.PostBwdIdeal.nD Cert.PostBwdIdeal.τ).loc Cert.PostBwdIdeal.main_arg0)
      ∧ r.2.mem ((c.tc : Thread Cert.PostBwdIdeal.nD Cert.PostBwdIdeal.τ).loc Cert.PostBwdIdeal.main_arg1) = m ((c.tc : Thread Cert.PostBwdIdeal.nD Cert.PostBwdIdeal.τ).loc Cert.PostBwdIdeal.main_arg1)
      ∧ r.2.mem ((c.tc : Thread Cert.PostBwdIdeal.nD Cert.PostBwdIdeal.τ).loc Cert.PostBwdIdeal.main_arg2) = m ((c.tc : Thread Cert.PostBwdIdeal.nD Cert.PostBwdIdeal.τ).loc Cert.PostBwdIdeal.main_arg2)
      ∧ r.2.mem ((c.tc : Thread Cert.PostBwdIdeal.nD Cert.PostBwdIdeal.τ).loc Cert.PostBwdIdeal.main_arg3) = m ((c.tc : Thread Cert.PostBwdIdeal.nD Cert.PostBwdIdeal.τ).loc Cert.PostBwdIdeal.main_arg3))
      ∧ r.2.sem = fun _ => 0)

def quiescent_PostBwdIdeal_pre_finite_post [hPostBwdIdeal : Cert.PostBwdIdeal.Facts] [hPre_finite_post : Cert.Pre_finite_post.Facts] : Prop :=
  ∀ (m : (ℓ : Loc Cert.PostBwdIdeal.nD Cert.PostBwdIdeal.τ Cert.PostBwdIdeal.sig) → Buf (Elt Ideal) ℓ) (g : Dev Cert.PostBwdIdeal.nD → PrngReg), Pre_PostBwdIdeal_finite_post m →
    θ_run (Cert.PostBwdIdeal.defs (F := Ideal)) (onTc (τ := Cert.PostBwdIdeal.τ) (Cert.PostBwdIdeal.main (F := Ideal))) ⟨m, fun _ => 0, g⟩ (fun r => (∀ c : Dev Cert.PostBwdIdeal.nD,
      r.2.mem ((c.tc : Thread Cert.PostBwdIdeal.nD Cert.PostBwdIdeal.τ).loc Cert.PostBwdIdeal.main_arg0) = m ((c.tc : Thread Cert.PostBwdIdeal.nD Cert.PostBwdIdeal.τ).loc Cert.PostBwdIdeal.main_arg0)
      ∧ r.2.mem ((c.tc : Thread Cert.PostBwdIdeal.nD Cert.PostBwdIdeal.τ).loc Cert.PostBwdIdeal.main_arg1) = m ((c.tc : Thread Cert.PostBwdIdeal.nD Cert.PostBwdIdeal.τ).loc Cert.PostBwdIdeal.main_arg1)
      ∧ r.2.mem ((c.tc : Thread Cert.PostBwdIdeal.nD Cert.PostBwdIdeal.τ).loc Cert.PostBwdIdeal.main_arg2) = m ((c.tc : Thread Cert.PostBwdIdeal.nD Cert.PostBwdIdeal.τ).loc Cert.PostBwdIdeal.main_arg2)
      ∧ r.2.mem ((c.tc : Thread Cert.PostBwdIdeal.nD Cert.PostBwdIdeal.τ).loc Cert.PostBwdIdeal.main_arg3) = m ((c.tc : Thread Cert.PostBwdIdeal.nD Cert.PostBwdIdeal.τ).loc Cert.PostBwdIdeal.main_arg3))
      ∧ r.2.sem = fun _ => 0)

def quiescent_PostBwdReferenceIdeal [hPostBwdReferenceIdeal : Cert.PostBwdReferenceIdeal.Facts] : Prop :=
  ∀ (m : (ℓ : Loc Cert.PostBwdReferenceIdeal.nD Cert.PostBwdReferenceIdeal.τ Cert.PostBwdReferenceIdeal.sig) → Buf (Elt Ideal) ℓ) (g : Dev Cert.PostBwdReferenceIdeal.nD → PrngReg), Pre_PostBwdReferenceIdeal m →
    θ_run (Cert.PostBwdReferenceIdeal.defs (F := Ideal)) (onTc (τ := Cert.PostBwdReferenceIdeal.τ) (Cert.PostBwdReferenceIdeal.main (F := Ideal))) ⟨m, fun _ => 0, g⟩ (fun r => (∀ c : Dev Cert.PostBwdReferenceIdeal.nD,
      r.2.mem ((c.tc : Thread Cert.PostBwdReferenceIdeal.nD Cert.PostBwdReferenceIdeal.τ).loc Cert.PostBwdReferenceIdeal.main_arg0) = m ((c.tc : Thread Cert.PostBwdReferenceIdeal.nD Cert.PostBwdReferenceIdeal.τ).loc Cert.PostBwdReferenceIdeal.main_arg0)
      ∧ r.2.mem ((c.tc : Thread Cert.PostBwdReferenceIdeal.nD Cert.PostBwdReferenceIdeal.τ).loc Cert.PostBwdReferenceIdeal.main_arg1) = m ((c.tc : Thread Cert.PostBwdReferenceIdeal.nD Cert.PostBwdReferenceIdeal.τ).loc Cert.PostBwdReferenceIdeal.main_arg1)
      ∧ r.2.mem ((c.tc : Thread Cert.PostBwdReferenceIdeal.nD Cert.PostBwdReferenceIdeal.τ).loc Cert.PostBwdReferenceIdeal.main_arg2) = m ((c.tc : Thread Cert.PostBwdReferenceIdeal.nD Cert.PostBwdReferenceIdeal.τ).loc Cert.PostBwdReferenceIdeal.main_arg2)
      ∧ r.2.mem ((c.tc : Thread Cert.PostBwdReferenceIdeal.nD Cert.PostBwdReferenceIdeal.τ).loc Cert.PostBwdReferenceIdeal.main_arg3) = m ((c.tc : Thread Cert.PostBwdReferenceIdeal.nD Cert.PostBwdReferenceIdeal.τ).loc Cert.PostBwdReferenceIdeal.main_arg3))
      ∧ r.2.sem = fun _ => 0)

def quiescent_PostBwdReferenceIdeal_pre_finite_post [hPostBwdReferenceIdeal : Cert.PostBwdReferenceIdeal.Facts] [hPre_finite_post : Cert.Pre_finite_post.Facts] : Prop :=
  ∀ (m : (ℓ : Loc Cert.PostBwdReferenceIdeal.nD Cert.PostBwdReferenceIdeal.τ Cert.PostBwdReferenceIdeal.sig) → Buf (Elt Ideal) ℓ) (g : Dev Cert.PostBwdReferenceIdeal.nD → PrngReg), Pre_PostBwdReferenceIdeal_finite_post m →
    θ_run (Cert.PostBwdReferenceIdeal.defs (F := Ideal)) (onTc (τ := Cert.PostBwdReferenceIdeal.τ) (Cert.PostBwdReferenceIdeal.main (F := Ideal))) ⟨m, fun _ => 0, g⟩ (fun r => (∀ c : Dev Cert.PostBwdReferenceIdeal.nD,
      r.2.mem ((c.tc : Thread Cert.PostBwdReferenceIdeal.nD Cert.PostBwdReferenceIdeal.τ).loc Cert.PostBwdReferenceIdeal.main_arg0) = m ((c.tc : Thread Cert.PostBwdReferenceIdeal.nD Cert.PostBwdReferenceIdeal.τ).loc Cert.PostBwdReferenceIdeal.main_arg0)
      ∧ r.2.mem ((c.tc : Thread Cert.PostBwdReferenceIdeal.nD Cert.PostBwdReferenceIdeal.τ).loc Cert.PostBwdReferenceIdeal.main_arg1) = m ((c.tc : Thread Cert.PostBwdReferenceIdeal.nD Cert.PostBwdReferenceIdeal.τ).loc Cert.PostBwdReferenceIdeal.main_arg1)
      ∧ r.2.mem ((c.tc : Thread Cert.PostBwdReferenceIdeal.nD Cert.PostBwdReferenceIdeal.τ).loc Cert.PostBwdReferenceIdeal.main_arg2) = m ((c.tc : Thread Cert.PostBwdReferenceIdeal.nD Cert.PostBwdReferenceIdeal.τ).loc Cert.PostBwdReferenceIdeal.main_arg2)
      ∧ r.2.mem ((c.tc : Thread Cert.PostBwdReferenceIdeal.nD Cert.PostBwdReferenceIdeal.τ).loc Cert.PostBwdReferenceIdeal.main_arg3) = m ((c.tc : Thread Cert.PostBwdReferenceIdeal.nD Cert.PostBwdReferenceIdeal.τ).loc Cert.PostBwdReferenceIdeal.main_arg3))
      ∧ r.2.sem = fun _ => 0)

def quiescent_Dh [hDh : Cert.Dh.Facts] : Prop :=
  ∀ (m : (ℓ : Loc Cert.Dh.nD Cert.Dh.τ Cert.Dh.sig) → Buf (Elt Bits) ℓ) (g : Dev Cert.Dh.nD → PrngReg), Pre_Dh m →
    θ_run (Cert.Dh.defs (F := Bits)) (onTc (τ := Cert.Dh.τ) (Cert.Dh.main (F := Bits))) ⟨m, fun _ => 0, g⟩ (fun r => (∀ c : Dev Cert.Dh.nD,
      r.2.mem ((c.tc : Thread Cert.Dh.nD Cert.Dh.τ).loc Cert.Dh.main_arg0) = m ((c.tc : Thread Cert.Dh.nD Cert.Dh.τ).loc Cert.Dh.main_arg0)
      ∧ r.2.mem ((c.tc : Thread Cert.Dh.nD Cert.Dh.τ).loc Cert.Dh.main_arg1) = m ((c.tc : Thread Cert.Dh.nD Cert.Dh.τ).loc Cert.Dh.main_arg1)
      ∧ r.2.mem ((c.tc : Thread Cert.Dh.nD Cert.Dh.τ).loc Cert.Dh.main_arg2) = m ((c.tc : Thread Cert.Dh.nD Cert.Dh.τ).loc Cert.Dh.main_arg2)
      ∧ r.2.mem ((c.tc : Thread Cert.Dh.nD Cert.Dh.τ).loc Cert.Dh.main_arg3) = m ((c.tc : Thread Cert.Dh.nD Cert.Dh.τ).loc Cert.Dh.main_arg3)
      ∧ r.2.mem ((c.tc : Thread Cert.Dh.nD Cert.Dh.τ).loc Cert.Dh.main_arg4) = m ((c.tc : Thread Cert.Dh.nD Cert.Dh.τ).loc Cert.Dh.main_arg4)
      ∧ r.2.mem ((c.tc : Thread Cert.Dh.nD Cert.Dh.τ).loc Cert.Dh.main_arg5) = m ((c.tc : Thread Cert.Dh.nD Cert.Dh.τ).loc Cert.Dh.main_arg5)
      ∧ r.2.mem ((c.tc : Thread Cert.Dh.nD Cert.Dh.τ).loc Cert.Dh.main_arg6) = m ((c.tc : Thread Cert.Dh.nD Cert.Dh.τ).loc Cert.Dh.main_arg6)
      ∧ r.2.mem ((c.tc : Thread Cert.Dh.nD Cert.Dh.τ).loc Cert.Dh.main_arg7) = m ((c.tc : Thread Cert.Dh.nD Cert.Dh.τ).loc Cert.Dh.main_arg7))
      ∧ r.2.sem = fun _ => 0)

def quiescent_DhIdeal [hDhIdeal : Cert.DhIdeal.Facts] : Prop :=
  ∀ (m : (ℓ : Loc Cert.DhIdeal.nD Cert.DhIdeal.τ Cert.DhIdeal.sig) → Buf (Elt Ideal) ℓ) (g : Dev Cert.DhIdeal.nD → PrngReg), Pre_DhIdeal m →
    θ_run (Cert.DhIdeal.defs (F := Ideal)) (onTc (τ := Cert.DhIdeal.τ) (Cert.DhIdeal.main (F := Ideal))) ⟨m, fun _ => 0, g⟩ (fun r => (∀ c : Dev Cert.DhIdeal.nD,
      r.2.mem ((c.tc : Thread Cert.DhIdeal.nD Cert.DhIdeal.τ).loc Cert.DhIdeal.main_arg0) = m ((c.tc : Thread Cert.DhIdeal.nD Cert.DhIdeal.τ).loc Cert.DhIdeal.main_arg0)
      ∧ r.2.mem ((c.tc : Thread Cert.DhIdeal.nD Cert.DhIdeal.τ).loc Cert.DhIdeal.main_arg1) = m ((c.tc : Thread Cert.DhIdeal.nD Cert.DhIdeal.τ).loc Cert.DhIdeal.main_arg1)
      ∧ r.2.mem ((c.tc : Thread Cert.DhIdeal.nD Cert.DhIdeal.τ).loc Cert.DhIdeal.main_arg2) = m ((c.tc : Thread Cert.DhIdeal.nD Cert.DhIdeal.τ).loc Cert.DhIdeal.main_arg2)
      ∧ r.2.mem ((c.tc : Thread Cert.DhIdeal.nD Cert.DhIdeal.τ).loc Cert.DhIdeal.main_arg3) = m ((c.tc : Thread Cert.DhIdeal.nD Cert.DhIdeal.τ).loc Cert.DhIdeal.main_arg3)
      ∧ r.2.mem ((c.tc : Thread Cert.DhIdeal.nD Cert.DhIdeal.τ).loc Cert.DhIdeal.main_arg4) = m ((c.tc : Thread Cert.DhIdeal.nD Cert.DhIdeal.τ).loc Cert.DhIdeal.main_arg4)
      ∧ r.2.mem ((c.tc : Thread Cert.DhIdeal.nD Cert.DhIdeal.τ).loc Cert.DhIdeal.main_arg5) = m ((c.tc : Thread Cert.DhIdeal.nD Cert.DhIdeal.τ).loc Cert.DhIdeal.main_arg5)
      ∧ r.2.mem ((c.tc : Thread Cert.DhIdeal.nD Cert.DhIdeal.τ).loc Cert.DhIdeal.main_arg6) = m ((c.tc : Thread Cert.DhIdeal.nD Cert.DhIdeal.τ).loc Cert.DhIdeal.main_arg6)
      ∧ r.2.mem ((c.tc : Thread Cert.DhIdeal.nD Cert.DhIdeal.τ).loc Cert.DhIdeal.main_arg7) = m ((c.tc : Thread Cert.DhIdeal.nD Cert.DhIdeal.τ).loc Cert.DhIdeal.main_arg7))
      ∧ r.2.sem = fun _ => 0)

def quiescent_DhIdeal_pre_finite_dh [hDhIdeal : Cert.DhIdeal.Facts] [hPre_finite_dh : Cert.Pre_finite_dh.Facts] : Prop :=
  ∀ (m : (ℓ : Loc Cert.DhIdeal.nD Cert.DhIdeal.τ Cert.DhIdeal.sig) → Buf (Elt Ideal) ℓ) (g : Dev Cert.DhIdeal.nD → PrngReg), Pre_DhIdeal_finite_dh m →
    θ_run (Cert.DhIdeal.defs (F := Ideal)) (onTc (τ := Cert.DhIdeal.τ) (Cert.DhIdeal.main (F := Ideal))) ⟨m, fun _ => 0, g⟩ (fun r => (∀ c : Dev Cert.DhIdeal.nD,
      r.2.mem ((c.tc : Thread Cert.DhIdeal.nD Cert.DhIdeal.τ).loc Cert.DhIdeal.main_arg0) = m ((c.tc : Thread Cert.DhIdeal.nD Cert.DhIdeal.τ).loc Cert.DhIdeal.main_arg0)
      ∧ r.2.mem ((c.tc : Thread Cert.DhIdeal.nD Cert.DhIdeal.τ).loc Cert.DhIdeal.main_arg1) = m ((c.tc : Thread Cert.DhIdeal.nD Cert.DhIdeal.τ).loc Cert.DhIdeal.main_arg1)
      ∧ r.2.mem ((c.tc : Thread Cert.DhIdeal.nD Cert.DhIdeal.τ).loc Cert.DhIdeal.main_arg2) = m ((c.tc : Thread Cert.DhIdeal.nD Cert.DhIdeal.τ).loc Cert.DhIdeal.main_arg2)
      ∧ r.2.mem ((c.tc : Thread Cert.DhIdeal.nD Cert.DhIdeal.τ).loc Cert.DhIdeal.main_arg3) = m ((c.tc : Thread Cert.DhIdeal.nD Cert.DhIdeal.τ).loc Cert.DhIdeal.main_arg3)
      ∧ r.2.mem ((c.tc : Thread Cert.DhIdeal.nD Cert.DhIdeal.τ).loc Cert.DhIdeal.main_arg4) = m ((c.tc : Thread Cert.DhIdeal.nD Cert.DhIdeal.τ).loc Cert.DhIdeal.main_arg4)
      ∧ r.2.mem ((c.tc : Thread Cert.DhIdeal.nD Cert.DhIdeal.τ).loc Cert.DhIdeal.main_arg5) = m ((c.tc : Thread Cert.DhIdeal.nD Cert.DhIdeal.τ).loc Cert.DhIdeal.main_arg5)
      ∧ r.2.mem ((c.tc : Thread Cert.DhIdeal.nD Cert.DhIdeal.τ).loc Cert.DhIdeal.main_arg6) = m ((c.tc : Thread Cert.DhIdeal.nD Cert.DhIdeal.τ).loc Cert.DhIdeal.main_arg6)
      ∧ r.2.mem ((c.tc : Thread Cert.DhIdeal.nD Cert.DhIdeal.τ).loc Cert.DhIdeal.main_arg7) = m ((c.tc : Thread Cert.DhIdeal.nD Cert.DhIdeal.τ).loc Cert.DhIdeal.main_arg7))
      ∧ r.2.sem = fun _ => 0)

def quiescent_DhReferenceIdeal [hDhReferenceIdeal : Cert.DhReferenceIdeal.Facts] : Prop :=
  ∀ (m : (ℓ : Loc Cert.DhReferenceIdeal.nD Cert.DhReferenceIdeal.τ Cert.DhReferenceIdeal.sig) → Buf (Elt Ideal) ℓ) (g : Dev Cert.DhReferenceIdeal.nD → PrngReg), Pre_DhReferenceIdeal m →
    θ_run (Cert.DhReferenceIdeal.defs (F := Ideal)) (onTc (τ := Cert.DhReferenceIdeal.τ) (Cert.DhReferenceIdeal.main (F := Ideal))) ⟨m, fun _ => 0, g⟩ (fun r => (∀ c : Dev Cert.DhReferenceIdeal.nD,
      r.2.mem ((c.tc : Thread Cert.DhReferenceIdeal.nD Cert.DhReferenceIdeal.τ).loc Cert.DhReferenceIdeal.main_arg0) = m ((c.tc : Thread Cert.DhReferenceIdeal.nD Cert.DhReferenceIdeal.τ).loc Cert.DhReferenceIdeal.main_arg0)
      ∧ r.2.mem ((c.tc : Thread Cert.DhReferenceIdeal.nD Cert.DhReferenceIdeal.τ).loc Cert.DhReferenceIdeal.main_arg1) = m ((c.tc : Thread Cert.DhReferenceIdeal.nD Cert.DhReferenceIdeal.τ).loc Cert.DhReferenceIdeal.main_arg1)
      ∧ r.2.mem ((c.tc : Thread Cert.DhReferenceIdeal.nD Cert.DhReferenceIdeal.τ).loc Cert.DhReferenceIdeal.main_arg2) = m ((c.tc : Thread Cert.DhReferenceIdeal.nD Cert.DhReferenceIdeal.τ).loc Cert.DhReferenceIdeal.main_arg2)
      ∧ r.2.mem ((c.tc : Thread Cert.DhReferenceIdeal.nD Cert.DhReferenceIdeal.τ).loc Cert.DhReferenceIdeal.main_arg3) = m ((c.tc : Thread Cert.DhReferenceIdeal.nD Cert.DhReferenceIdeal.τ).loc Cert.DhReferenceIdeal.main_arg3)
      ∧ r.2.mem ((c.tc : Thread Cert.DhReferenceIdeal.nD Cert.DhReferenceIdeal.τ).loc Cert.DhReferenceIdeal.main_arg4) = m ((c.tc : Thread Cert.DhReferenceIdeal.nD Cert.DhReferenceIdeal.τ).loc Cert.DhReferenceIdeal.main_arg4)
      ∧ r.2.mem ((c.tc : Thread Cert.DhReferenceIdeal.nD Cert.DhReferenceIdeal.τ).loc Cert.DhReferenceIdeal.main_arg5) = m ((c.tc : Thread Cert.DhReferenceIdeal.nD Cert.DhReferenceIdeal.τ).loc Cert.DhReferenceIdeal.main_arg5)
      ∧ r.2.mem ((c.tc : Thread Cert.DhReferenceIdeal.nD Cert.DhReferenceIdeal.τ).loc Cert.DhReferenceIdeal.main_arg6) = m ((c.tc : Thread Cert.DhReferenceIdeal.nD Cert.DhReferenceIdeal.τ).loc Cert.DhReferenceIdeal.main_arg6)
      ∧ r.2.mem ((c.tc : Thread Cert.DhReferenceIdeal.nD Cert.DhReferenceIdeal.τ).loc Cert.DhReferenceIdeal.main_arg7) = m ((c.tc : Thread Cert.DhReferenceIdeal.nD Cert.DhReferenceIdeal.τ).loc Cert.DhReferenceIdeal.main_arg7))
      ∧ r.2.sem = fun _ => 0)

def quiescent_DhReferenceIdeal_pre_finite_dh [hDhReferenceIdeal : Cert.DhReferenceIdeal.Facts] [hPre_finite_dh : Cert.Pre_finite_dh.Facts] : Prop :=
  ∀ (m : (ℓ : Loc Cert.DhReferenceIdeal.nD Cert.DhReferenceIdeal.τ Cert.DhReferenceIdeal.sig) → Buf (Elt Ideal) ℓ) (g : Dev Cert.DhReferenceIdeal.nD → PrngReg), Pre_DhReferenceIdeal_finite_dh m →
    θ_run (Cert.DhReferenceIdeal.defs (F := Ideal)) (onTc (τ := Cert.DhReferenceIdeal.τ) (Cert.DhReferenceIdeal.main (F := Ideal))) ⟨m, fun _ => 0, g⟩ (fun r => (∀ c : Dev Cert.DhReferenceIdeal.nD,
      r.2.mem ((c.tc : Thread Cert.DhReferenceIdeal.nD Cert.DhReferenceIdeal.τ).loc Cert.DhReferenceIdeal.main_arg0) = m ((c.tc : Thread Cert.DhReferenceIdeal.nD Cert.DhReferenceIdeal.τ).loc Cert.DhReferenceIdeal.main_arg0)
      ∧ r.2.mem ((c.tc : Thread Cert.DhReferenceIdeal.nD Cert.DhReferenceIdeal.τ).loc Cert.DhReferenceIdeal.main_arg1) = m ((c.tc : Thread Cert.DhReferenceIdeal.nD Cert.DhReferenceIdeal.τ).loc Cert.DhReferenceIdeal.main_arg1)
      ∧ r.2.mem ((c.tc : Thread Cert.DhReferenceIdeal.nD Cert.DhReferenceIdeal.τ).loc Cert.DhReferenceIdeal.main_arg2) = m ((c.tc : Thread Cert.DhReferenceIdeal.nD Cert.DhReferenceIdeal.τ).loc Cert.DhReferenceIdeal.main_arg2)
      ∧ r.2.mem ((c.tc : Thread Cert.DhReferenceIdeal.nD Cert.DhReferenceIdeal.τ).loc Cert.DhReferenceIdeal.main_arg3) = m ((c.tc : Thread Cert.DhReferenceIdeal.nD Cert.DhReferenceIdeal.τ).loc Cert.DhReferenceIdeal.main_arg3)
      ∧ r.2.mem ((c.tc : Thread Cert.DhReferenceIdeal.nD Cert.DhReferenceIdeal.τ).loc Cert.DhReferenceIdeal.main_arg4) = m ((c.tc : Thread Cert.DhReferenceIdeal.nD Cert.DhReferenceIdeal.τ).loc Cert.DhReferenceIdeal.main_arg4)
      ∧ r.2.mem ((c.tc : Thread Cert.DhReferenceIdeal.nD Cert.DhReferenceIdeal.τ).loc Cert.DhReferenceIdeal.main_arg5) = m ((c.tc : Thread Cert.DhReferenceIdeal.nD Cert.DhReferenceIdeal.τ).loc Cert.DhReferenceIdeal.main_arg5)
      ∧ r.2.mem ((c.tc : Thread Cert.DhReferenceIdeal.nD Cert.DhReferenceIdeal.τ).loc Cert.DhReferenceIdeal.main_arg6) = m ((c.tc : Thread Cert.DhReferenceIdeal.nD Cert.DhReferenceIdeal.τ).loc Cert.DhReferenceIdeal.main_arg6)
      ∧ r.2.mem ((c.tc : Thread Cert.DhReferenceIdeal.nD Cert.DhReferenceIdeal.τ).loc Cert.DhReferenceIdeal.main_arg7) = m ((c.tc : Thread Cert.DhReferenceIdeal.nD Cert.DhReferenceIdeal.τ).loc Cert.DhReferenceIdeal.main_arg7))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3))
      ∧ r.2.sem = fun _ => 0)

def quiescent_InprojReferenceIdeal [hInprojReferenceIdeal : Cert.InprojReferenceIdeal.Facts] : Prop :=
  ∀ (m : (ℓ : Loc Cert.InprojReferenceIdeal.nD Cert.InprojReferenceIdeal.τ Cert.InprojReferenceIdeal.sig) → Buf (Elt Ideal) ℓ) (g : Dev Cert.InprojReferenceIdeal.nD → PrngReg), Pre_InprojReferenceIdeal m →
    θ_run (Cert.InprojReferenceIdeal.defs (F := Ideal)) (onTc (τ := Cert.InprojReferenceIdeal.τ) (Cert.InprojReferenceIdeal.main (F := Ideal))) ⟨m, fun _ => 0, g⟩ (fun r => (∀ c : Dev Cert.InprojReferenceIdeal.nD,
      r.2.mem ((c.tc : Thread Cert.InprojReferenceIdeal.nD Cert.InprojReferenceIdeal.τ).loc Cert.InprojReferenceIdeal.main_arg0) = m ((c.tc : Thread Cert.InprojReferenceIdeal.nD Cert.InprojReferenceIdeal.τ).loc Cert.InprojReferenceIdeal.main_arg0)
      ∧ r.2.mem ((c.tc : Thread Cert.InprojReferenceIdeal.nD Cert.InprojReferenceIdeal.τ).loc Cert.InprojReferenceIdeal.main_arg1) = m ((c.tc : Thread Cert.InprojReferenceIdeal.nD Cert.InprojReferenceIdeal.τ).loc Cert.InprojReferenceIdeal.main_arg1)
      ∧ r.2.mem ((c.tc : Thread Cert.InprojReferenceIdeal.nD Cert.InprojReferenceIdeal.τ).loc Cert.InprojReferenceIdeal.main_arg2) = m ((c.tc : Thread Cert.InprojReferenceIdeal.nD Cert.InprojReferenceIdeal.τ).loc Cert.InprojReferenceIdeal.main_arg2)
      ∧ r.2.mem ((c.tc : Thread Cert.InprojReferenceIdeal.nD Cert.InprojReferenceIdeal.τ).loc Cert.InprojReferenceIdeal.main_arg3) = m ((c.tc : Thread Cert.InprojReferenceIdeal.nD Cert.InprojReferenceIdeal.τ).loc Cert.InprojReferenceIdeal.main_arg3))
      ∧ r.2.sem = fun _ => 0)

def quiescent_Outproj [hOutproj : Cert.Outproj.Facts] : Prop :=
  ∀ (m : (ℓ : Loc Cert.Outproj.nD Cert.Outproj.τ Cert.Outproj.sig) → Buf (Elt Bits) ℓ) (g : Dev Cert.Outproj.nD → PrngReg), Pre_Outproj m →
    θ_run (Cert.Outproj.defs (F := Bits)) (onTc (τ := Cert.Outproj.τ) (Cert.Outproj.main (F := Bits))) ⟨m, fun _ => 0, g⟩ (fun r => (∀ c : Dev Cert.Outproj.nD,
      r.2.mem ((c.tc : Thread Cert.Outproj.nD Cert.Outproj.τ).loc Cert.Outproj.main_arg0) = m ((c.tc : Thread Cert.Outproj.nD Cert.Outproj.τ).loc Cert.Outproj.main_arg0)
      ∧ r.2.mem ((c.tc : Thread Cert.Outproj.nD Cert.Outproj.τ).loc Cert.Outproj.main_arg1) = m ((c.tc : Thread Cert.Outproj.nD Cert.Outproj.τ).loc Cert.Outproj.main_arg1)
      ∧ r.2.mem ((c.tc : Thread Cert.Outproj.nD Cert.Outproj.τ).loc Cert.Outproj.main_arg2) = m ((c.tc : Thread Cert.Outproj.nD Cert.Outproj.τ).loc Cert.Outproj.main_arg2)
      ∧ r.2.mem ((c.tc : Thread Cert.Outproj.nD Cert.Outproj.τ).loc Cert.Outproj.main_arg3) = m ((c.tc : Thread Cert.Outproj.nD Cert.Outproj.τ).loc Cert.Outproj.main_arg3)
      ∧ r.2.mem ((c.tc : Thread Cert.Outproj.nD Cert.Outproj.τ).loc Cert.Outproj.main_arg4) = m ((c.tc : Thread Cert.Outproj.nD Cert.Outproj.τ).loc Cert.Outproj.main_arg4))
      ∧ r.2.sem = fun _ => 0)

def quiescent_OutprojIdeal [hOutprojIdeal : Cert.OutprojIdeal.Facts] : Prop :=
  ∀ (m : (ℓ : Loc Cert.OutprojIdeal.nD Cert.OutprojIdeal.τ Cert.OutprojIdeal.sig) → Buf (Elt Ideal) ℓ) (g : Dev Cert.OutprojIdeal.nD → PrngReg), Pre_OutprojIdeal m →
    θ_run (Cert.OutprojIdeal.defs (F := Ideal)) (onTc (τ := Cert.OutprojIdeal.τ) (Cert.OutprojIdeal.main (F := Ideal))) ⟨m, fun _ => 0, g⟩ (fun r => (∀ c : Dev Cert.OutprojIdeal.nD,
      r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
      ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1)
      ∧ r.2.mem ((c.tc : Thread Cert.OutprojIdeal.nD Cert.OutprojIdeal.τ).loc Cert.OutprojIdeal.main_arg2) = m ((c.tc : Thread Cert.OutprojIdeal.nD Cert.OutprojIdeal.τ).loc Cert.OutprojIdeal.main_arg2)
      ∧ r.2.mem ((c.tc : Thread Cert.OutprojIdeal.nD Cert.OutprojIdeal.τ).loc Cert.OutprojIdeal.main_arg3) = m ((c.tc : Thread Cert.OutprojIdeal.nD Cert.OutprojIdeal.τ).loc Cert.OutprojIdeal.main_arg3)
      ∧ r.2.mem ((c.tc : Thread Cert.OutprojIdeal.nD Cert.OutprojIdeal.τ).loc Cert.OutprojIdeal.main_arg4) = m ((c.tc : Thread Cert.OutprojIdeal.nD Cert.OutprojIdeal.τ).loc Cert.OutprojIdeal.main_arg4))
      ∧ r.2.sem = fun _ => 0)

def quiescent_OutprojReferenceIdeal [hOutprojReferenceIdeal : Cert.OutprojReferenceIdeal.Facts] : Prop :=
  ∀ (m : (ℓ : Loc Cert.OutprojReferenceIdeal.nD Cert.OutprojReferenceIdeal.τ Cert.OutprojReferenceIdeal.sig) → Buf (Elt Ideal) ℓ) (g : Dev Cert.OutprojReferenceIdeal.nD → PrngReg), Pre_OutprojReferenceIdeal m →
    θ_run (Cert.OutprojReferenceIdeal.defs (F := Ideal)) (onTc (τ := Cert.OutprojReferenceIdeal.τ) (Cert.OutprojReferenceIdeal.main (F := Ideal))) ⟨m, fun _ => 0, g⟩ (fun r => (∀ c : Dev Cert.OutprojReferenceIdeal.nD,
      r.2.mem ((c.tc : Thread Cert.OutprojReferenceIdeal.nD Cert.OutprojReferenceIdeal.τ).loc Cert.OutprojReferenceIdeal.main_arg0) = m ((c.tc : Thread Cert.OutprojReferenceIdeal.nD Cert.OutprojReferenceIdeal.τ).loc Cert.OutprojReferenceIdeal.main_arg0)
      ∧ r.2.mem ((c.tc : Thread Cert.OutprojReferenceIdeal.nD Cert.OutprojReferenceIdeal.τ).loc Cert.OutprojReferenceIdeal.main_arg1) = m ((c.tc : Thread Cert.OutprojReferenceIdeal.nD Cert.OutprojReferenceIdeal.τ).loc Cert.OutprojReferenceIdeal.main_arg1)
      ∧ r.2.mem ((c.tc : Thread Cert.OutprojReferenceIdeal.nD Cert.OutprojReferenceIdeal.τ).loc Cert.OutprojReferenceIdeal.main_arg2) = m ((c.tc : Thread Cert.OutprojReferenceIdeal.nD Cert.OutprojReferenceIdeal.τ).loc Cert.OutprojReferenceIdeal.main_arg2)
      ∧ r.2.mem ((c.tc : Thread Cert.OutprojReferenceIdeal.nD Cert.OutprojReferenceIdeal.τ).loc Cert.OutprojReferenceIdeal.main_arg3) = m ((c.tc : Thread Cert.OutprojReferenceIdeal.nD Cert.OutprojReferenceIdeal.τ).loc Cert.OutprojReferenceIdeal.main_arg3)
      ∧ r.2.mem ((c.tc : Thread Cert.OutprojReferenceIdeal.nD Cert.OutprojReferenceIdeal.τ).loc Cert.OutprojReferenceIdeal.main_arg4) = m ((c.tc : Thread Cert.OutprojReferenceIdeal.nD Cert.OutprojReferenceIdeal.τ).loc Cert.OutprojReferenceIdeal.main_arg4))
      ∧ r.2.sem = fun _ => 0)

def quiescent_AttFwd [hAttFwd : Cert.AttFwd.Facts] : Prop :=
  ∀ (m : (ℓ : Loc Cert.AttFwd.nD Cert.AttFwd.τ Cert.AttFwd.sig) → Buf (Elt Bits) ℓ) (g : Dev Cert.AttFwd.nD → PrngReg), Pre_AttFwd m →
    θ_run (Cert.AttFwd.defs (F := Bits)) (onTc (τ := Cert.AttFwd.τ) (Cert.AttFwd.main (F := Bits))) ⟨m, fun _ => 0, g⟩ (fun r => (∀ c : Dev Cert.AttFwd.nD,
      r.2.mem ((c.tc : Thread Cert.AttFwd.nD Cert.AttFwd.τ).loc Cert.AttFwd.main_arg0) = m ((c.tc : Thread Cert.AttFwd.nD Cert.AttFwd.τ).loc Cert.AttFwd.main_arg0)
      ∧ r.2.mem ((c.tc : Thread Cert.AttFwd.nD Cert.AttFwd.τ).loc Cert.AttFwd.main_arg1) = m ((c.tc : Thread Cert.AttFwd.nD Cert.AttFwd.τ).loc Cert.AttFwd.main_arg1)
      ∧ r.2.mem ((c.tc : Thread Cert.AttFwd.nD Cert.AttFwd.τ).loc Cert.AttFwd.main_arg2) = m ((c.tc : Thread Cert.AttFwd.nD Cert.AttFwd.τ).loc Cert.AttFwd.main_arg2)
      ∧ r.2.mem ((c.tc : Thread Cert.AttFwd.nD Cert.AttFwd.τ).loc Cert.AttFwd.main_arg3) = m ((c.tc : Thread Cert.AttFwd.nD Cert.AttFwd.τ).loc Cert.AttFwd.main_arg3)
      ∧ r.2.mem ((c.tc : Thread Cert.AttFwd.nD Cert.AttFwd.τ).loc Cert.AttFwd.main_arg4) = m ((c.tc : Thread Cert.AttFwd.nD Cert.AttFwd.τ).loc Cert.AttFwd.main_arg4)
      ∧ r.2.mem ((c.tc : Thread Cert.AttFwd.nD Cert.AttFwd.τ).loc Cert.AttFwd.main_arg5) = m ((c.tc : Thread Cert.AttFwd.nD Cert.AttFwd.τ).loc Cert.AttFwd.main_arg5))
      ∧ r.2.sem = fun _ => 0)

def quiescent_AttFwdIdeal [hAttFwdIdeal : Cert.AttFwdIdeal.Facts] : Prop :=
  ∀ (m : (ℓ : Loc Cert.AttFwdIdeal.nD Cert.AttFwdIdeal.τ Cert.AttFwdIdeal.sig) → Buf (Elt Ideal) ℓ) (g : Dev Cert.AttFwdIdeal.nD → PrngReg), Pre_AttFwdIdeal m →
    θ_run (Cert.AttFwdIdeal.defs (F := Ideal)) (onTc (τ := Cert.AttFwdIdeal.τ) (Cert.AttFwdIdeal.main (F := Ideal))) ⟨m, fun _ => 0, g⟩ (fun r => (∀ c : Dev Cert.AttFwdIdeal.nD,
      r.2.mem ((c.tc : Thread Cert.AttFwdIdeal.nD Cert.AttFwdIdeal.τ).loc Cert.AttFwdIdeal.main_arg0) = m ((c.tc : Thread Cert.AttFwdIdeal.nD Cert.AttFwdIdeal.τ).loc Cert.AttFwdIdeal.main_arg0)
      ∧ r.2.mem ((c.tc : Thread Cert.AttFwdIdeal.nD Cert.AttFwdIdeal.τ).loc Cert.AttFwdIdeal.main_arg1) = m ((c.tc : Thread Cert.AttFwdIdeal.nD Cert.AttFwdIdeal.τ).loc Cert.AttFwdIdeal.main_arg1)
      ∧ r.2.mem ((c.tc : Thread Cert.AttFwdIdeal.nD Cert.AttFwdIdeal.τ).loc Cert.AttFwdIdeal.main_arg2) = m ((c.tc : Thread Cert.AttFwdIdeal.nD Cert.AttFwdIdeal.τ).loc Cert.AttFwdIdeal.main_arg2)
      ∧ r.2.mem ((c.tc : Thread Cert.AttFwdIdeal.nD Cert.AttFwdIdeal.τ).loc Cert.AttFwdIdeal.main_arg3) = m ((c.tc : Thread Cert.AttFwdIdeal.nD Cert.AttFwdIdeal.τ).loc Cert.AttFwdIdeal.main_arg3)
      ∧ r.2.mem ((c.tc : Thread Cert.AttFwdIdeal.nD Cert.AttFwdIdeal.τ).loc Cert.AttFwdIdeal.main_arg4) = m ((c.tc : Thread Cert.AttFwdIdeal.nD Cert.AttFwdIdeal.τ).loc Cert.AttFwdIdeal.main_arg4)
      ∧ r.2.mem ((c.tc : Thread Cert.AttFwdIdeal.nD Cert.AttFwdIdeal.τ).loc Cert.AttFwdIdeal.main_arg5) = m ((c.tc : Thread Cert.AttFwdIdeal.nD Cert.AttFwdIdeal.τ).loc Cert.AttFwdIdeal.main_arg5))
      ∧ r.2.sem = fun _ => 0)

def quiescent_AttFwdIdeal_pre_finite_att [hAttFwdIdeal : Cert.AttFwdIdeal.Facts] [hPre_finite_att : Cert.Pre_finite_att.Facts] : Prop :=
  ∀ (m : (ℓ : Loc Cert.AttFwdIdeal.nD Cert.AttFwdIdeal.τ Cert.AttFwdIdeal.sig) → Buf (Elt Ideal) ℓ) (g : Dev Cert.AttFwdIdeal.nD → PrngReg), Pre_AttFwdIdeal_finite_att m →
    θ_run (Cert.AttFwdIdeal.defs (F := Ideal)) (onTc (τ := Cert.AttFwdIdeal.τ) (Cert.AttFwdIdeal.main (F := Ideal))) ⟨m, fun _ => 0, g⟩ (fun r => (∀ c : Dev Cert.AttFwdIdeal.nD,
      r.2.mem ((c.tc : Thread Cert.AttFwdIdeal.nD Cert.AttFwdIdeal.τ).loc Cert.AttFwdIdeal.main_arg0) = m ((c.tc : Thread Cert.AttFwdIdeal.nD Cert.AttFwdIdeal.τ).loc Cert.AttFwdIdeal.main_arg0)
      ∧ r.2.mem ((c.tc : Thread Cert.AttFwdIdeal.nD Cert.AttFwdIdeal.τ).loc Cert.AttFwdIdeal.main_arg1) = m ((c.tc : Thread Cert.AttFwdIdeal.nD Cert.AttFwdIdeal.τ).loc Cert.AttFwdIdeal.main_arg1)
      ∧ r.2.mem ((c.tc : Thread Cert.AttFwdIdeal.nD Cert.AttFwdIdeal.τ).loc Cert.AttFwdIdeal.main_arg2) = m ((c.tc : Thread Cert.AttFwdIdeal.nD Cert.AttFwdIdeal.τ).loc Cert.AttFwdIdeal.main_arg2)
      ∧ r.2.mem ((c.tc : Thread Cert.AttFwdIdeal.nD Cert.AttFwdIdeal.τ).loc Cert.AttFwdIdeal.main_arg3) = m ((c.tc : Thread Cert.AttFwdIdeal.nD Cert.AttFwdIdeal.τ).loc Cert.AttFwdIdeal.main_arg3)
      ∧ r.2.mem ((c.tc : Thread Cert.AttFwdIdeal.nD Cert.AttFwdIdeal.τ).loc Cert.AttFwdIdeal.main_arg4) = m ((c.tc : Thread Cert.AttFwdIdeal.nD Cert.AttFwdIdeal.τ).loc Cert.AttFwdIdeal.main_arg4)
      ∧ r.2.mem ((c.tc : Thread Cert.AttFwdIdeal.nD Cert.AttFwdIdeal.τ).loc Cert.AttFwdIdeal.main_arg5) = m ((c.tc : Thread Cert.AttFwdIdeal.nD Cert.AttFwdIdeal.τ).loc Cert.AttFwdIdeal.main_arg5))
      ∧ r.2.sem = fun _ => 0)

def quiescent_AttFwdReferenceIdeal [hAttFwdReferenceIdeal : Cert.AttFwdReferenceIdeal.Facts] : Prop :=
  ∀ (m : (ℓ : Loc Cert.AttFwdReferenceIdeal.nD Cert.AttFwdReferenceIdeal.τ Cert.AttFwdReferenceIdeal.sig) → Buf (Elt Ideal) ℓ) (g : Dev Cert.AttFwdReferenceIdeal.nD → PrngReg), Pre_AttFwdReferenceIdeal m →
    θ_run (Cert.AttFwdReferenceIdeal.defs (F := Ideal)) (onTc (τ := Cert.AttFwdReferenceIdeal.τ) (Cert.AttFwdReferenceIdeal.main (F := Ideal))) ⟨m, fun _ => 0, g⟩ (fun r => (∀ c : Dev Cert.AttFwdReferenceIdeal.nD,
      r.2.mem ((c.tc : Thread Cert.AttFwdReferenceIdeal.nD Cert.AttFwdReferenceIdeal.τ).loc Cert.AttFwdReferenceIdeal.main_arg0) = m ((c.tc : Thread Cert.AttFwdReferenceIdeal.nD Cert.AttFwdReferenceIdeal.τ).loc Cert.AttFwdReferenceIdeal.main_arg0)
      ∧ r.2.mem ((c.tc : Thread Cert.AttFwdReferenceIdeal.nD Cert.AttFwdReferenceIdeal.τ).loc Cert.AttFwdReferenceIdeal.main_arg1) = m ((c.tc : Thread Cert.AttFwdReferenceIdeal.nD Cert.AttFwdReferenceIdeal.τ).loc Cert.AttFwdReferenceIdeal.main_arg1)
      ∧ r.2.mem ((c.tc : Thread Cert.AttFwdReferenceIdeal.nD Cert.AttFwdReferenceIdeal.τ).loc Cert.AttFwdReferenceIdeal.main_arg2) = m ((c.tc : Thread Cert.AttFwdReferenceIdeal.nD Cert.AttFwdReferenceIdeal.τ).loc Cert.AttFwdReferenceIdeal.main_arg2)
      ∧ r.2.mem ((c.tc : Thread Cert.AttFwdReferenceIdeal.nD Cert.AttFwdReferenceIdeal.τ).loc Cert.AttFwdReferenceIdeal.main_arg3) = m ((c.tc : Thread Cert.AttFwdReferenceIdeal.nD Cert.AttFwdReferenceIdeal.τ).loc Cert.AttFwdReferenceIdeal.main_arg3)
      ∧ r.2.mem ((c.tc : Thread Cert.AttFwdReferenceIdeal.nD Cert.AttFwdReferenceIdeal.τ).loc Cert.AttFwdReferenceIdeal.main_arg4) = m ((c.tc : Thread Cert.AttFwdReferenceIdeal.nD Cert.AttFwdReferenceIdeal.τ).loc Cert.AttFwdReferenceIdeal.main_arg4)
      ∧ r.2.mem ((c.tc : Thread Cert.AttFwdReferenceIdeal.nD Cert.AttFwdReferenceIdeal.τ).loc Cert.AttFwdReferenceIdeal.main_arg5) = m ((c.tc : Thread Cert.AttFwdReferenceIdeal.nD Cert.AttFwdReferenceIdeal.τ).loc Cert.AttFwdReferenceIdeal.main_arg5))
      ∧ r.2.sem = fun _ => 0)

def quiescent_AttFwdReferenceIdeal_pre_finite_att [hAttFwdReferenceIdeal : Cert.AttFwdReferenceIdeal.Facts] [hPre_finite_att : Cert.Pre_finite_att.Facts] : Prop :=
  ∀ (m : (ℓ : Loc Cert.AttFwdReferenceIdeal.nD Cert.AttFwdReferenceIdeal.τ Cert.AttFwdReferenceIdeal.sig) → Buf (Elt Ideal) ℓ) (g : Dev Cert.AttFwdReferenceIdeal.nD → PrngReg), Pre_AttFwdReferenceIdeal_finite_att m →
    θ_run (Cert.AttFwdReferenceIdeal.defs (F := Ideal)) (onTc (τ := Cert.AttFwdReferenceIdeal.τ) (Cert.AttFwdReferenceIdeal.main (F := Ideal))) ⟨m, fun _ => 0, g⟩ (fun r => (∀ c : Dev Cert.AttFwdReferenceIdeal.nD,
      r.2.mem ((c.tc : Thread Cert.AttFwdReferenceIdeal.nD Cert.AttFwdReferenceIdeal.τ).loc Cert.AttFwdReferenceIdeal.main_arg0) = m ((c.tc : Thread Cert.AttFwdReferenceIdeal.nD Cert.AttFwdReferenceIdeal.τ).loc Cert.AttFwdReferenceIdeal.main_arg0)
      ∧ r.2.mem ((c.tc : Thread Cert.AttFwdReferenceIdeal.nD Cert.AttFwdReferenceIdeal.τ).loc Cert.AttFwdReferenceIdeal.main_arg1) = m ((c.tc : Thread Cert.AttFwdReferenceIdeal.nD Cert.AttFwdReferenceIdeal.τ).loc Cert.AttFwdReferenceIdeal.main_arg1)
      ∧ r.2.mem ((c.tc : Thread Cert.AttFwdReferenceIdeal.nD Cert.AttFwdReferenceIdeal.τ).loc Cert.AttFwdReferenceIdeal.main_arg2) = m ((c.tc : Thread Cert.AttFwdReferenceIdeal.nD Cert.AttFwdReferenceIdeal.τ).loc Cert.AttFwdReferenceIdeal.main_arg2)
      ∧ r.2.mem ((c.tc : Thread Cert.AttFwdReferenceIdeal.nD Cert.AttFwdReferenceIdeal.τ).loc Cert.AttFwdReferenceIdeal.main_arg3) = m ((c.tc : Thread Cert.AttFwdReferenceIdeal.nD Cert.AttFwdReferenceIdeal.τ).loc Cert.AttFwdReferenceIdeal.main_arg3)
      ∧ r.2.mem ((c.tc : Thread Cert.AttFwdReferenceIdeal.nD Cert.AttFwdReferenceIdeal.τ).loc Cert.AttFwdReferenceIdeal.main_arg4) = m ((c.tc : Thread Cert.AttFwdReferenceIdeal.nD Cert.AttFwdReferenceIdeal.τ).loc Cert.AttFwdReferenceIdeal.main_arg4)
      ∧ r.2.mem ((c.tc : Thread Cert.AttFwdReferenceIdeal.nD Cert.AttFwdReferenceIdeal.τ).loc Cert.AttFwdReferenceIdeal.main_arg5) = m ((c.tc : Thread Cert.AttFwdReferenceIdeal.nD Cert.AttFwdReferenceIdeal.τ).loc Cert.AttFwdReferenceIdeal.main_arg5))
      ∧ r.2.sem = fun _ => 0)

def quiescent_GlaFwd [hGlaFwd : Cert.GlaFwd.Facts] : Prop :=
  ∀ (m : (ℓ : Loc Cert.GlaFwd.nD Cert.GlaFwd.τ Cert.GlaFwd.sig) → Buf (Elt Bits) ℓ) (g : Dev Cert.GlaFwd.nD → PrngReg), Pre_GlaFwd m →
    θ_run (Cert.GlaFwd.defs (F := Bits)) (onTc (τ := Cert.GlaFwd.τ) (Cert.GlaFwd.main (F := Bits))) ⟨m, fun _ => 0, g⟩ (fun r => (∀ c : Dev Cert.GlaFwd.nD,
      r.2.mem ((c.tc : Thread Cert.GlaFwd.nD Cert.GlaFwd.τ).loc Cert.GlaFwd.main_arg0) = m ((c.tc : Thread Cert.GlaFwd.nD Cert.GlaFwd.τ).loc Cert.GlaFwd.main_arg0)
      ∧ r.2.mem ((c.tc : Thread Cert.GlaFwd.nD Cert.GlaFwd.τ).loc Cert.GlaFwd.main_arg1) = m ((c.tc : Thread Cert.GlaFwd.nD Cert.GlaFwd.τ).loc Cert.GlaFwd.main_arg1)
      ∧ r.2.mem ((c.tc : Thread Cert.GlaFwd.nD Cert.GlaFwd.τ).loc Cert.GlaFwd.main_arg2) = m ((c.tc : Thread Cert.GlaFwd.nD Cert.GlaFwd.τ).loc Cert.GlaFwd.main_arg2)
      ∧ r.2.mem ((c.tc : Thread Cert.GlaFwd.nD Cert.GlaFwd.τ).loc Cert.GlaFwd.main_arg3) = m ((c.tc : Thread Cert.GlaFwd.nD Cert.GlaFwd.τ).loc Cert.GlaFwd.main_arg3)
      ∧ r.2.mem ((c.tc : Thread Cert.GlaFwd.nD Cert.GlaFwd.τ).loc Cert.GlaFwd.main_arg4) = m ((c.tc : Thread Cert.GlaFwd.nD Cert.GlaFwd.τ).loc Cert.GlaFwd.main_arg4)
      ∧ r.2.mem ((c.tc : Thread Cert.GlaFwd.nD Cert.GlaFwd.τ).loc Cert.GlaFwd.main_arg5) = m ((c.tc : Thread Cert.GlaFwd.nD Cert.GlaFwd.τ).loc Cert.GlaFwd.main_arg5)
      ∧ r.2.mem ((c.tc : Thread Cert.GlaFwd.nD Cert.GlaFwd.τ).loc Cert.GlaFwd.main_arg6) = m ((c.tc : Thread Cert.GlaFwd.nD Cert.GlaFwd.τ).loc Cert.GlaFwd.main_arg6)
      ∧ r.2.mem ((c.tc : Thread Cert.GlaFwd.nD Cert.GlaFwd.τ).loc Cert.GlaFwd.main_arg7) = m ((c.tc : Thread Cert.GlaFwd.nD Cert.GlaFwd.τ).loc Cert.GlaFwd.main_arg7))
      ∧ r.2.sem = fun _ => 0)

def quiescent_GlaFwdIdeal [hGlaFwdIdeal : Cert.GlaFwdIdeal.Facts] : Prop :=
  ∀ (m : (ℓ : Loc Cert.GlaFwdIdeal.nD Cert.GlaFwdIdeal.τ Cert.GlaFwdIdeal.sig) → Buf (Elt Ideal) ℓ) (g : Dev Cert.GlaFwdIdeal.nD → PrngReg), Pre_GlaFwdIdeal m →
    θ_run (Cert.GlaFwdIdeal.defs (F := Ideal)) (onTc (τ := Cert.GlaFwdIdeal.τ) (Cert.GlaFwdIdeal.main (F := Ideal))) ⟨m, fun _ => 0, g⟩ (fun r => (∀ c : Dev Cert.GlaFwdIdeal.nD,
      r.2.mem ((c.tc : Thread Cert.GlaFwdIdeal.nD Cert.GlaFwdIdeal.τ).loc Cert.GlaFwdIdeal.main_arg0) = m ((c.tc : Thread Cert.GlaFwdIdeal.nD Cert.GlaFwdIdeal.τ).loc Cert.GlaFwdIdeal.main_arg0)
      ∧ r.2.mem ((c.tc : Thread Cert.GlaFwdIdeal.nD Cert.GlaFwdIdeal.τ).loc Cert.GlaFwdIdeal.main_arg1) = m ((c.tc : Thread Cert.GlaFwdIdeal.nD Cert.GlaFwdIdeal.τ).loc Cert.GlaFwdIdeal.main_arg1)
      ∧ r.2.mem ((c.tc : Thread Cert.GlaFwdIdeal.nD Cert.GlaFwdIdeal.τ).loc Cert.GlaFwdIdeal.main_arg2) = m ((c.tc : Thread Cert.GlaFwdIdeal.nD Cert.GlaFwdIdeal.τ).loc Cert.GlaFwdIdeal.main_arg2)
      ∧ r.2.mem ((c.tc : Thread Cert.GlaFwdIdeal.nD Cert.GlaFwdIdeal.τ).loc Cert.GlaFwdIdeal.main_arg3) = m ((c.tc : Thread Cert.GlaFwdIdeal.nD Cert.GlaFwdIdeal.τ).loc Cert.GlaFwdIdeal.main_arg3)
      ∧ r.2.mem ((c.tc : Thread Cert.GlaFwdIdeal.nD Cert.GlaFwdIdeal.τ).loc Cert.GlaFwdIdeal.main_arg4) = m ((c.tc : Thread Cert.GlaFwdIdeal.nD Cert.GlaFwdIdeal.τ).loc Cert.GlaFwdIdeal.main_arg4)
      ∧ r.2.mem ((c.tc : Thread Cert.GlaFwdIdeal.nD Cert.GlaFwdIdeal.τ).loc Cert.GlaFwdIdeal.main_arg5) = m ((c.tc : Thread Cert.GlaFwdIdeal.nD Cert.GlaFwdIdeal.τ).loc Cert.GlaFwdIdeal.main_arg5)
      ∧ r.2.mem ((c.tc : Thread Cert.GlaFwdIdeal.nD Cert.GlaFwdIdeal.τ).loc Cert.GlaFwdIdeal.main_arg6) = m ((c.tc : Thread Cert.GlaFwdIdeal.nD Cert.GlaFwdIdeal.τ).loc Cert.GlaFwdIdeal.main_arg6)
      ∧ r.2.mem ((c.tc : Thread Cert.GlaFwdIdeal.nD Cert.GlaFwdIdeal.τ).loc Cert.GlaFwdIdeal.main_arg7) = m ((c.tc : Thread Cert.GlaFwdIdeal.nD Cert.GlaFwdIdeal.τ).loc Cert.GlaFwdIdeal.main_arg7))
      ∧ r.2.sem = fun _ => 0)

def quiescent_GlaFwdIdeal_pre_finite_gla [hGlaFwdIdeal : Cert.GlaFwdIdeal.Facts] [hPre_finite_gla : Cert.Pre_finite_gla.Facts] : Prop :=
  ∀ (m : (ℓ : Loc Cert.GlaFwdIdeal.nD Cert.GlaFwdIdeal.τ Cert.GlaFwdIdeal.sig) → Buf (Elt Ideal) ℓ) (g : Dev Cert.GlaFwdIdeal.nD → PrngReg), Pre_GlaFwdIdeal_finite_gla m →
    θ_run (Cert.GlaFwdIdeal.defs (F := Ideal)) (onTc (τ := Cert.GlaFwdIdeal.τ) (Cert.GlaFwdIdeal.main (F := Ideal))) ⟨m, fun _ => 0, g⟩ (fun r => (∀ c : Dev Cert.GlaFwdIdeal.nD,
      r.2.mem ((c.tc : Thread Cert.GlaFwdIdeal.nD Cert.GlaFwdIdeal.τ).loc Cert.GlaFwdIdeal.main_arg0) = m ((c.tc : Thread Cert.GlaFwdIdeal.nD Cert.GlaFwdIdeal.τ).loc Cert.GlaFwdIdeal.main_arg0)
      ∧ r.2.mem ((c.tc : Thread Cert.GlaFwdIdeal.nD Cert.GlaFwdIdeal.τ).loc Cert.GlaFwdIdeal.main_arg1) = m ((c.tc : Thread Cert.GlaFwdIdeal.nD Cert.GlaFwdIdeal.τ).loc Cert.GlaFwdIdeal.main_arg1)
      ∧ r.2.mem ((c.tc : Thread Cert.GlaFwdIdeal.nD Cert.GlaFwdIdeal.τ).loc Cert.GlaFwdIdeal.main_arg2) = m ((c.tc : Thread Cert.GlaFwdIdeal.nD Cert.GlaFwdIdeal.τ).loc Cert.GlaFwdIdeal.main_arg2)
      ∧ r.2.mem ((c.tc : Thread Cert.GlaFwdIdeal.nD Cert.GlaFwdIdeal.τ).loc Cert.GlaFwdIdeal.main_arg3) = m ((c.tc : Thread Cert.GlaFwdIdeal.nD Cert.GlaFwdIdeal.τ).loc Cert.GlaFwdIdeal.main_arg3)
      ∧ r.2.mem ((c.tc : Thread Cert.GlaFwdIdeal.nD Cert.GlaFwdIdeal.τ).loc Cert.GlaFwdIdeal.main_arg4) = m ((c.tc : Thread Cert.GlaFwdIdeal.nD Cert.GlaFwdIdeal.τ).loc Cert.GlaFwdIdeal.main_arg4)
      ∧ r.2.mem ((c.tc : Thread Cert.GlaFwdIdeal.nD Cert.GlaFwdIdeal.τ).loc Cert.GlaFwdIdeal.main_arg5) = m ((c.tc : Thread Cert.GlaFwdIdeal.nD Cert.GlaFwdIdeal.τ).loc Cert.GlaFwdIdeal.main_arg5)
      ∧ r.2.mem ((c.tc : Thread Cert.GlaFwdIdeal.nD Cert.GlaFwdIdeal.τ).loc Cert.GlaFwdIdeal.main_arg6) = m ((c.tc : Thread Cert.GlaFwdIdeal.nD Cert.GlaFwdIdeal.τ).loc Cert.GlaFwdIdeal.main_arg6)
      ∧ r.2.mem ((c.tc : Thread Cert.GlaFwdIdeal.nD Cert.GlaFwdIdeal.τ).loc Cert.GlaFwdIdeal.main_arg7) = m ((c.tc : Thread Cert.GlaFwdIdeal.nD Cert.GlaFwdIdeal.τ).loc Cert.GlaFwdIdeal.main_arg7))
      ∧ r.2.sem = fun _ => 0)

def quiescent_GlaFwdReferenceIdeal [hGlaFwdReferenceIdeal : Cert.GlaFwdReferenceIdeal.Facts] : Prop :=
  ∀ (m : (ℓ : Loc Cert.GlaFwdReferenceIdeal.nD Cert.GlaFwdReferenceIdeal.τ Cert.GlaFwdReferenceIdeal.sig) → Buf (Elt Ideal) ℓ) (g : Dev Cert.GlaFwdReferenceIdeal.nD → PrngReg), Pre_GlaFwdReferenceIdeal m →
    θ_run (Cert.GlaFwdReferenceIdeal.defs (F := Ideal)) (onTc (τ := Cert.GlaFwdReferenceIdeal.τ) (Cert.GlaFwdReferenceIdeal.main (F := Ideal))) ⟨m, fun _ => 0, g⟩ (fun r => (∀ c : Dev Cert.GlaFwdReferenceIdeal.nD,
      r.2.mem ((c.tc : Thread Cert.GlaFwdReferenceIdeal.nD Cert.GlaFwdReferenceIdeal.τ).loc Cert.GlaFwdReferenceIdeal.main_arg0) = m ((c.tc : Thread Cert.GlaFwdReferenceIdeal.nD Cert.GlaFwdReferenceIdeal.τ).loc Cert.GlaFwdReferenceIdeal.main_arg0)
      ∧ r.2.mem ((c.tc : Thread Cert.GlaFwdReferenceIdeal.nD Cert.GlaFwdReferenceIdeal.τ).loc Cert.GlaFwdReferenceIdeal.main_arg1) = m ((c.tc : Thread Cert.GlaFwdReferenceIdeal.nD Cert.GlaFwdReferenceIdeal.τ).loc Cert.GlaFwdReferenceIdeal.main_arg1)
      ∧ r.2.mem ((c.tc : Thread Cert.GlaFwdReferenceIdeal.nD Cert.GlaFwdReferenceIdeal.τ).loc Cert.GlaFwdReferenceIdeal.main_arg2) = m ((c.tc : Thread Cert.GlaFwdReferenceIdeal.nD Cert.GlaFwdReferenceIdeal.τ).loc Cert.GlaFwdReferenceIdeal.main_arg2)
      ∧ r.2.mem ((c.tc : Thread Cert.GlaFwdReferenceIdeal.nD Cert.GlaFwdReferenceIdeal.τ).loc Cert.GlaFwdReferenceIdeal.main_arg3) = m ((c.tc : Thread Cert.GlaFwdReferenceIdeal.nD Cert.GlaFwdReferenceIdeal.τ).loc Cert.GlaFwdReferenceIdeal.main_arg3)
      ∧ r.2.mem ((c.tc : Thread Cert.GlaFwdReferenceIdeal.nD Cert.GlaFwdReferenceIdeal.τ).loc Cert.GlaFwdReferenceIdeal.main_arg4) = m ((c.tc : Thread Cert.GlaFwdReferenceIdeal.nD Cert.GlaFwdReferenceIdeal.τ).loc Cert.GlaFwdReferenceIdeal.main_arg4)
      ∧ r.2.mem ((c.tc : Thread Cert.GlaFwdReferenceIdeal.nD Cert.GlaFwdReferenceIdeal.τ).loc Cert.GlaFwdReferenceIdeal.main_arg5) = m ((c.tc : Thread Cert.GlaFwdReferenceIdeal.nD Cert.GlaFwdReferenceIdeal.τ).loc Cert.GlaFwdReferenceIdeal.main_arg5)
      ∧ r.2.mem ((c.tc : Thread Cert.GlaFwdReferenceIdeal.nD Cert.GlaFwdReferenceIdeal.τ).loc Cert.GlaFwdReferenceIdeal.main_arg6) = m ((c.tc : Thread Cert.GlaFwdReferenceIdeal.nD Cert.GlaFwdReferenceIdeal.τ).loc Cert.GlaFwdReferenceIdeal.main_arg6)
      ∧ r.2.mem ((c.tc : Thread Cert.GlaFwdReferenceIdeal.nD Cert.GlaFwdReferenceIdeal.τ).loc Cert.GlaFwdReferenceIdeal.main_arg7) = m ((c.tc : Thread Cert.GlaFwdReferenceIdeal.nD Cert.GlaFwdReferenceIdeal.τ).loc Cert.GlaFwdReferenceIdeal.main_arg7))
      ∧ r.2.sem = fun _ => 0)

def quiescent_GlaFwdReferenceIdeal_pre_finite_gla [hGlaFwdReferenceIdeal : Cert.GlaFwdReferenceIdeal.Facts] [hPre_finite_gla : Cert.Pre_finite_gla.Facts] : Prop :=
  ∀ (m : (ℓ : Loc Cert.GlaFwdReferenceIdeal.nD Cert.GlaFwdReferenceIdeal.τ Cert.GlaFwdReferenceIdeal.sig) → Buf (Elt Ideal) ℓ) (g : Dev Cert.GlaFwdReferenceIdeal.nD → PrngReg), Pre_GlaFwdReferenceIdeal_finite_gla m →
    θ_run (Cert.GlaFwdReferenceIdeal.defs (F := Ideal)) (onTc (τ := Cert.GlaFwdReferenceIdeal.τ) (Cert.GlaFwdReferenceIdeal.main (F := Ideal))) ⟨m, fun _ => 0, g⟩ (fun r => (∀ c : Dev Cert.GlaFwdReferenceIdeal.nD,
      r.2.mem ((c.tc : Thread Cert.GlaFwdReferenceIdeal.nD Cert.GlaFwdReferenceIdeal.τ).loc Cert.GlaFwdReferenceIdeal.main_arg0) = m ((c.tc : Thread Cert.GlaFwdReferenceIdeal.nD Cert.GlaFwdReferenceIdeal.τ).loc Cert.GlaFwdReferenceIdeal.main_arg0)
      ∧ r.2.mem ((c.tc : Thread Cert.GlaFwdReferenceIdeal.nD Cert.GlaFwdReferenceIdeal.τ).loc Cert.GlaFwdReferenceIdeal.main_arg1) = m ((c.tc : Thread Cert.GlaFwdReferenceIdeal.nD Cert.GlaFwdReferenceIdeal.τ).loc Cert.GlaFwdReferenceIdeal.main_arg1)
      ∧ r.2.mem ((c.tc : Thread Cert.GlaFwdReferenceIdeal.nD Cert.GlaFwdReferenceIdeal.τ).loc Cert.GlaFwdReferenceIdeal.main_arg2) = m ((c.tc : Thread Cert.GlaFwdReferenceIdeal.nD Cert.GlaFwdReferenceIdeal.τ).loc Cert.GlaFwdReferenceIdeal.main_arg2)
      ∧ r.2.mem ((c.tc : Thread Cert.GlaFwdReferenceIdeal.nD Cert.GlaFwdReferenceIdeal.τ).loc Cert.GlaFwdReferenceIdeal.main_arg3) = m ((c.tc : Thread Cert.GlaFwdReferenceIdeal.nD Cert.GlaFwdReferenceIdeal.τ).loc Cert.GlaFwdReferenceIdeal.main_arg3)
      ∧ r.2.mem ((c.tc : Thread Cert.GlaFwdReferenceIdeal.nD Cert.GlaFwdReferenceIdeal.τ).loc Cert.GlaFwdReferenceIdeal.main_arg4) = m ((c.tc : Thread Cert.GlaFwdReferenceIdeal.nD Cert.GlaFwdReferenceIdeal.τ).loc Cert.GlaFwdReferenceIdeal.main_arg4)
      ∧ r.2.mem ((c.tc : Thread Cert.GlaFwdReferenceIdeal.nD Cert.GlaFwdReferenceIdeal.τ).loc Cert.GlaFwdReferenceIdeal.main_arg5) = m ((c.tc : Thread Cert.GlaFwdReferenceIdeal.nD Cert.GlaFwdReferenceIdeal.τ).loc Cert.GlaFwdReferenceIdeal.main_arg5)
      ∧ r.2.mem ((c.tc : Thread Cert.GlaFwdReferenceIdeal.nD Cert.GlaFwdReferenceIdeal.τ).loc Cert.GlaFwdReferenceIdeal.main_arg6) = m ((c.tc : Thread Cert.GlaFwdReferenceIdeal.nD Cert.GlaFwdReferenceIdeal.τ).loc Cert.GlaFwdReferenceIdeal.main_arg6)
      ∧ r.2.mem ((c.tc : Thread Cert.GlaFwdReferenceIdeal.nD Cert.GlaFwdReferenceIdeal.τ).loc Cert.GlaFwdReferenceIdeal.main_arg7) = m ((c.tc : Thread Cert.GlaFwdReferenceIdeal.nD Cert.GlaFwdReferenceIdeal.τ).loc Cert.GlaFwdReferenceIdeal.main_arg7))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v10_0)) (v1 : (c : Dev Cert.KernelIdeal.nD) → Buf (Elt Ideal) ((c.tc : Thread Cert.KernelIdeal.nD Cert.KernelIdeal.τ).loc Cert.KernelIdeal.main_v10_1)) (v2 : (c : Dev Cert.KernelIdeal.nD) → Buf (Elt Ideal) ((c.tc : Thread Cert.KernelIdeal.nD Cert.KernelIdeal.τ).loc Cert.KernelIdeal.main_v10_2)) (v3 : (c : Dev Cert.KernelIdeal.nD) → Buf (Elt Ideal) ((c.tc : Thread Cert.KernelIdeal.nD Cert.KernelIdeal.τ).loc Cert.KernelIdeal.main_v10_3)) (v4 : (c : Dev Cert.KernelIdeal.nD) → Buf (Elt Ideal) ((c.tc : Thread Cert.KernelIdeal.nD Cert.KernelIdeal.τ).loc Cert.KernelIdeal.main_v10_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10_0) = v0 c
          ∧ r.2.mem ((c.tc : Thread Cert.KernelIdeal.nD Cert.KernelIdeal.τ).loc Cert.KernelIdeal.main_v10_1) = v1 c
          ∧ r.2.mem ((c.tc : Thread Cert.KernelIdeal.nD Cert.KernelIdeal.τ).loc Cert.KernelIdeal.main_v10_2) = v2 c
          ∧ r.2.mem ((c.tc : Thread Cert.KernelIdeal.nD Cert.KernelIdeal.τ).loc Cert.KernelIdeal.main_v10_3) = v3 c
          ∧ r.2.mem ((c.tc : Thread Cert.KernelIdeal.nD Cert.KernelIdeal.τ).loc Cert.KernelIdeal.main_v10_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v154) = v0 c
          ∧ r.2.mem ((c.tc : Thread Cert.ReferenceIdeal.nD Cert.ReferenceIdeal.τ).loc Cert.ReferenceIdeal.main_v156) = v1 c
          ∧ r.2.mem ((c.tc : Thread Cert.ReferenceIdeal.nD Cert.ReferenceIdeal.τ).loc Cert.ReferenceIdeal.main_v157) = v2 c
          ∧ r.2.mem ((c.tc : Thread Cert.ReferenceIdeal.nD Cert.ReferenceIdeal.τ).loc Cert.ReferenceIdeal.main_v158) = v3 c
          ∧ r.2.mem ((c.tc : Thread Cert.ReferenceIdeal.nD Cert.ReferenceIdeal.τ).loc Cert.ReferenceIdeal.main_v159) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_DwinAtt_DwinAttIdeal : Prop :=
  True

def algebraic_DwinAttIdeal_DwinAttReferenceIdeal [hDwinAttIdeal : Cert.DwinAttIdeal.Facts] [hDwinAttReferenceIdeal : Cert.DwinAttReferenceIdeal.Facts] : Prop :=
  ∀ (m : (ℓ : Loc Cert.DwinAttIdeal.nD Cert.DwinAttIdeal.τ Cert.DwinAttIdeal.sig) → Buf (Elt Ideal) ℓ) (g : Dev Cert.DwinAttIdeal.nD → PrngReg)
    (m' : (ℓ : Loc Cert.DwinAttReferenceIdeal.nD Cert.DwinAttReferenceIdeal.τ Cert.DwinAttReferenceIdeal.sig) → Buf (Elt Ideal) ℓ) (g' : Dev Cert.DwinAttReferenceIdeal.nD → PrngReg), Pre_DwinAttIdeal m →
    (∀ c : Dev Cert.DwinAttIdeal.nD,
      m' ((c.tc : Thread Cert.DwinAttReferenceIdeal.nD Cert.DwinAttReferenceIdeal.τ).loc Cert.DwinAttReferenceIdeal.main_arg0) = m ((c.tc : Thread Cert.DwinAttIdeal.nD Cert.DwinAttIdeal.τ).loc Cert.DwinAttIdeal.main_arg0)
      ∧ m' ((c.tc : Thread Cert.DwinAttReferenceIdeal.nD Cert.DwinAttReferenceIdeal.τ).loc Cert.DwinAttReferenceIdeal.main_arg1) = m ((c.tc : Thread Cert.DwinAttIdeal.nD Cert.DwinAttIdeal.τ).loc Cert.DwinAttIdeal.main_arg1)) →
    ∃ (v0 : (c : Dev Cert.DwinAttIdeal.nD) → Buf (Elt Ideal) ((c.tc : Thread Cert.DwinAttIdeal.nD Cert.DwinAttIdeal.τ).loc Cert.DwinAttIdeal.main_v0)),
      θ_run (Cert.DwinAttIdeal.defs (F := Ideal)) (onTc (τ := Cert.DwinAttIdeal.τ) (Cert.DwinAttIdeal.main (F := Ideal))) ⟨m, fun _ => 0, g⟩ (fun r => ∀ c : Dev Cert.DwinAttIdeal.nD,
          r.2.mem ((c.tc : Thread Cert.DwinAttIdeal.nD Cert.DwinAttIdeal.τ).loc Cert.DwinAttIdeal.main_v0) = v0 c
          ∧ r.2.mem ((c.tc : Thread Cert.DwinAttIdeal.nD Cert.DwinAttIdeal.τ).loc Cert.DwinAttIdeal.main_arg0) = m ((c.tc : Thread Cert.DwinAttIdeal.nD Cert.DwinAttIdeal.τ).loc Cert.DwinAttIdeal.main_arg0)
          ∧ r.2.mem ((c.tc : Thread Cert.DwinAttIdeal.nD Cert.DwinAttIdeal.τ).loc Cert.DwinAttIdeal.main_arg1) = m ((c.tc : Thread Cert.DwinAttIdeal.nD Cert.DwinAttIdeal.τ).loc Cert.DwinAttIdeal.main_arg1))
      ∧ θ_run (Cert.DwinAttReferenceIdeal.defs (F := Ideal)) (onTc (τ := Cert.DwinAttReferenceIdeal.τ) (Cert.DwinAttReferenceIdeal.main (F := Ideal))) ⟨m', fun _ => 0, g'⟩ (fun r => ∀ c : Dev Cert.DwinAttReferenceIdeal.nD,
          r.2.mem ((c.tc : Thread Cert.DwinAttReferenceIdeal.nD Cert.DwinAttReferenceIdeal.τ).loc Cert.DwinAttReferenceIdeal.main_v7) = v0 c
          ∧ r.2.mem ((c.tc : Thread Cert.DwinAttReferenceIdeal.nD Cert.DwinAttReferenceIdeal.τ).loc Cert.DwinAttReferenceIdeal.main_arg0) = m' ((c.tc : Thread Cert.DwinAttReferenceIdeal.nD Cert.DwinAttReferenceIdeal.τ).loc Cert.DwinAttReferenceIdeal.main_arg0)
          ∧ r.2.mem ((c.tc : Thread Cert.DwinAttReferenceIdeal.nD Cert.DwinAttReferenceIdeal.τ).loc Cert.DwinAttReferenceIdeal.main_arg1) = m' ((c.tc : Thread Cert.DwinAttReferenceIdeal.nD Cert.DwinAttReferenceIdeal.τ).loc Cert.DwinAttReferenceIdeal.main_arg1))

def preserves_DwinGla_DwinGlaIdeal : Prop :=
  True

def algebraic_DwinGlaIdeal_DwinGlaReferenceIdeal [hDwinGlaIdeal : Cert.DwinGlaIdeal.Facts] [hDwinGlaReferenceIdeal : Cert.DwinGlaReferenceIdeal.Facts] : Prop :=
  ∀ (m : (ℓ : Loc Cert.DwinGlaIdeal.nD Cert.DwinGlaIdeal.τ Cert.DwinGlaIdeal.sig) → Buf (Elt Ideal) ℓ) (g : Dev Cert.DwinGlaIdeal.nD → PrngReg)
    (m' : (ℓ : Loc Cert.DwinGlaReferenceIdeal.nD Cert.DwinGlaReferenceIdeal.τ Cert.DwinGlaReferenceIdeal.sig) → Buf (Elt Ideal) ℓ) (g' : Dev Cert.DwinGlaReferenceIdeal.nD → PrngReg), Pre_DwinGlaIdeal m →
    (∀ c : Dev Cert.DwinGlaIdeal.nD,
      m' ((c.tc : Thread Cert.DwinGlaReferenceIdeal.nD Cert.DwinGlaReferenceIdeal.τ).loc Cert.DwinGlaReferenceIdeal.main_arg0) = m ((c.tc : Thread Cert.DwinGlaIdeal.nD Cert.DwinGlaIdeal.τ).loc Cert.DwinGlaIdeal.main_arg0)
      ∧ m' ((c.tc : Thread Cert.DwinGlaReferenceIdeal.nD Cert.DwinGlaReferenceIdeal.τ).loc Cert.DwinGlaReferenceIdeal.main_arg1) = m ((c.tc : Thread Cert.DwinGlaIdeal.nD Cert.DwinGlaIdeal.τ).loc Cert.DwinGlaIdeal.main_arg1)) →
    ∃ (v0 : (c : Dev Cert.DwinGlaIdeal.nD) → Buf (Elt Ideal) ((c.tc : Thread Cert.DwinGlaIdeal.nD Cert.DwinGlaIdeal.τ).loc Cert.DwinGlaIdeal.main_v0)),
      θ_run (Cert.DwinGlaIdeal.defs (F := Ideal)) (onTc (τ := Cert.DwinGlaIdeal.τ) (Cert.DwinGlaIdeal.main (F := Ideal))) ⟨m, fun _ => 0, g⟩ (fun r => ∀ c : Dev Cert.DwinGlaIdeal.nD,
          r.2.mem ((c.tc : Thread Cert.DwinGlaIdeal.nD Cert.DwinGlaIdeal.τ).loc Cert.DwinGlaIdeal.main_v0) = v0 c
          ∧ r.2.mem ((c.tc : Thread Cert.DwinGlaIdeal.nD Cert.DwinGlaIdeal.τ).loc Cert.DwinGlaIdeal.main_arg0) = m ((c.tc : Thread Cert.DwinGlaIdeal.nD Cert.DwinGlaIdeal.τ).loc Cert.DwinGlaIdeal.main_arg0)
          ∧ r.2.mem ((c.tc : Thread Cert.DwinGlaIdeal.nD Cert.DwinGlaIdeal.τ).loc Cert.DwinGlaIdeal.main_arg1) = m ((c.tc : Thread Cert.DwinGlaIdeal.nD Cert.DwinGlaIdeal.τ).loc Cert.DwinGlaIdeal.main_arg1))
      ∧ θ_run (Cert.DwinGlaReferenceIdeal.defs (F := Ideal)) (onTc (τ := Cert.DwinGlaReferenceIdeal.τ) (Cert.DwinGlaReferenceIdeal.main (F := Ideal))) ⟨m', fun _ => 0, g'⟩ (fun r => ∀ c : Dev Cert.DwinGlaReferenceIdeal.nD,
          r.2.mem ((c.tc : Thread Cert.DwinGlaReferenceIdeal.nD Cert.DwinGlaReferenceIdeal.τ).loc Cert.DwinGlaReferenceIdeal.main_v7) = v0 c
          ∧ r.2.mem ((c.tc : Thread Cert.DwinGlaReferenceIdeal.nD Cert.DwinGlaReferenceIdeal.τ).loc Cert.DwinGlaReferenceIdeal.main_arg0) = m' ((c.tc : Thread Cert.DwinGlaReferenceIdeal.nD Cert.DwinGlaReferenceIdeal.τ).loc Cert.DwinGlaReferenceIdeal.main_arg0)
          ∧ r.2.mem ((c.tc : Thread Cert.DwinGlaReferenceIdeal.nD Cert.DwinGlaReferenceIdeal.τ).loc Cert.DwinGlaReferenceIdeal.main_arg1) = m' ((c.tc : Thread Cert.DwinGlaReferenceIdeal.nD Cert.DwinGlaReferenceIdeal.τ).loc Cert.DwinGlaReferenceIdeal.main_arg1))

def preserves_DwinGate_DwinGateIdeal : Prop :=
  True

def algebraic_DwinGateIdeal_DwinGateReferenceIdeal [hDwinGateIdeal : Cert.DwinGateIdeal.Facts] [hDwinGateReferenceIdeal : Cert.DwinGateReferenceIdeal.Facts] : Prop :=
  ∀ (m : (ℓ : Loc Cert.DwinGateIdeal.nD Cert.DwinGateIdeal.τ Cert.DwinGateIdeal.sig) → Buf (Elt Ideal) ℓ) (g : Dev Cert.DwinGateIdeal.nD → PrngReg)
    (m' : (ℓ : Loc Cert.DwinGateReferenceIdeal.nD Cert.DwinGateReferenceIdeal.τ Cert.DwinGateReferenceIdeal.sig) → Buf (Elt Ideal) ℓ) (g' : Dev Cert.DwinGateReferenceIdeal.nD → PrngReg), Pre_DwinGateIdeal m →
    (∀ c : Dev Cert.DwinGateIdeal.nD,
      m' ((c.tc : Thread Cert.DwinGateReferenceIdeal.nD Cert.DwinGateReferenceIdeal.τ).loc Cert.DwinGateReferenceIdeal.main_arg0) = m ((c.tc : Thread Cert.DwinGateIdeal.nD Cert.DwinGateIdeal.τ).loc Cert.DwinGateIdeal.main_arg0)
      ∧ m' ((c.tc : Thread Cert.DwinGateReferenceIdeal.nD Cert.DwinGateReferenceIdeal.τ).loc Cert.DwinGateReferenceIdeal.main_arg1) = m ((c.tc : Thread Cert.DwinGateIdeal.nD Cert.DwinGateIdeal.τ).loc Cert.DwinGateIdeal.main_arg1)) →
    ∃ (v0 : (c : Dev Cert.DwinGateIdeal.nD) → Buf (Elt Ideal) ((c.tc : Thread Cert.DwinGateIdeal.nD Cert.DwinGateIdeal.τ).loc Cert.DwinGateIdeal.main_v0)),
      θ_run (Cert.DwinGateIdeal.defs (F := Ideal)) (onTc (τ := Cert.DwinGateIdeal.τ) (Cert.DwinGateIdeal.main (F := Ideal))) ⟨m, fun _ => 0, g⟩ (fun r => ∀ c : Dev Cert.DwinGateIdeal.nD,
          r.2.mem ((c.tc : Thread Cert.DwinGateIdeal.nD Cert.DwinGateIdeal.τ).loc Cert.DwinGateIdeal.main_v0) = v0 c
          ∧ r.2.mem ((c.tc : Thread Cert.DwinGateIdeal.nD Cert.DwinGateIdeal.τ).loc Cert.DwinGateIdeal.main_arg0) = m ((c.tc : Thread Cert.DwinGateIdeal.nD Cert.DwinGateIdeal.τ).loc Cert.DwinGateIdeal.main_arg0)
          ∧ r.2.mem ((c.tc : Thread Cert.DwinGateIdeal.nD Cert.DwinGateIdeal.τ).loc Cert.DwinGateIdeal.main_arg1) = m ((c.tc : Thread Cert.DwinGateIdeal.nD Cert.DwinGateIdeal.τ).loc Cert.DwinGateIdeal.main_arg1))
      ∧ θ_run (Cert.DwinGateReferenceIdeal.defs (F := Ideal)) (onTc (τ := Cert.DwinGateReferenceIdeal.τ) (Cert.DwinGateReferenceIdeal.main (F := Ideal))) ⟨m', fun _ => 0, g'⟩ (fun r => ∀ c : Dev Cert.DwinGateReferenceIdeal.nD,
          r.2.mem ((c.tc : Thread Cert.DwinGateReferenceIdeal.nD Cert.DwinGateReferenceIdeal.τ).loc Cert.DwinGateReferenceIdeal.main_v7) = v0 c
          ∧ r.2.mem ((c.tc : Thread Cert.DwinGateReferenceIdeal.nD Cert.DwinGateReferenceIdeal.τ).loc Cert.DwinGateReferenceIdeal.main_arg0) = m' ((c.tc : Thread Cert.DwinGateReferenceIdeal.nD Cert.DwinGateReferenceIdeal.τ).loc Cert.DwinGateReferenceIdeal.main_arg0)
          ∧ r.2.mem ((c.tc : Thread Cert.DwinGateReferenceIdeal.nD Cert.DwinGateReferenceIdeal.τ).loc Cert.DwinGateReferenceIdeal.main_arg1) = m' ((c.tc : Thread Cert.DwinGateReferenceIdeal.nD Cert.DwinGateReferenceIdeal.τ).loc Cert.DwinGateReferenceIdeal.main_arg1))

def preserves_DwoutGla_DwoutGlaIdeal : Prop :=
  True

def algebraic_DwoutGlaIdeal_DwoutGlaReferenceIdeal [hDwoutGlaIdeal : Cert.DwoutGlaIdeal.Facts] [hDwoutGlaReferenceIdeal : Cert.DwoutGlaReferenceIdeal.Facts] : Prop :=
  ∀ (m : (ℓ : Loc Cert.DwoutGlaIdeal.nD Cert.DwoutGlaIdeal.τ Cert.DwoutGlaIdeal.sig) → Buf (Elt Ideal) ℓ) (g : Dev Cert.DwoutGlaIdeal.nD → PrngReg)
    (m' : (ℓ : Loc Cert.DwoutGlaReferenceIdeal.nD Cert.DwoutGlaReferenceIdeal.τ Cert.DwoutGlaReferenceIdeal.sig) → Buf (Elt Ideal) ℓ) (g' : Dev Cert.DwoutGlaReferenceIdeal.nD → PrngReg), Pre_DwoutGlaIdeal m →
    (∀ c : Dev Cert.DwoutGlaIdeal.nD,
      m' ((c.tc : Thread Cert.DwoutGlaReferenceIdeal.nD Cert.DwoutGlaReferenceIdeal.τ).loc Cert.DwoutGlaReferenceIdeal.main_arg0) = m ((c.tc : Thread Cert.DwoutGlaIdeal.nD Cert.DwoutGlaIdeal.τ).loc Cert.DwoutGlaIdeal.main_arg0)
      ∧ m' ((c.tc : Thread Cert.DwoutGlaReferenceIdeal.nD Cert.DwoutGlaReferenceIdeal.τ).loc Cert.DwoutGlaReferenceIdeal.main_arg1) = m ((c.tc : Thread Cert.DwoutGlaIdeal.nD Cert.DwoutGlaIdeal.τ).loc Cert.DwoutGlaIdeal.main_arg1)) →
    ∃ (v0 : (c : Dev Cert.DwoutGlaIdeal.nD) → Buf (Elt Ideal) ((c.tc : Thread Cert.DwoutGlaIdeal.nD Cert.DwoutGlaIdeal.τ).loc Cert.DwoutGlaIdeal.main_v0)),
      θ_run (Cert.DwoutGlaIdeal.defs (F := Ideal)) (onTc (τ := Cert.DwoutGlaIdeal.τ) (Cert.DwoutGlaIdeal.main (F := Ideal))) ⟨m, fun _ => 0, g⟩ (fun r => ∀ c : Dev Cert.DwoutGlaIdeal.nD,
          r.2.mem ((c.tc : Thread Cert.DwoutGlaIdeal.nD Cert.DwoutGlaIdeal.τ).loc Cert.DwoutGlaIdeal.main_v0) = v0 c
          ∧ r.2.mem ((c.tc : Thread Cert.DwoutGlaIdeal.nD Cert.DwoutGlaIdeal.τ).loc Cert.DwoutGlaIdeal.main_arg0) = m ((c.tc : Thread Cert.DwoutGlaIdeal.nD Cert.DwoutGlaIdeal.τ).loc Cert.DwoutGlaIdeal.main_arg0)
          ∧ r.2.mem ((c.tc : Thread Cert.DwoutGlaIdeal.nD Cert.DwoutGlaIdeal.τ).loc Cert.DwoutGlaIdeal.main_arg1) = m ((c.tc : Thread Cert.DwoutGlaIdeal.nD Cert.DwoutGlaIdeal.τ).loc Cert.DwoutGlaIdeal.main_arg1))
      ∧ θ_run (Cert.DwoutGlaReferenceIdeal.defs (F := Ideal)) (onTc (τ := Cert.DwoutGlaReferenceIdeal.τ) (Cert.DwoutGlaReferenceIdeal.main (F := Ideal))) ⟨m', fun _ => 0, g'⟩ (fun r => ∀ c : Dev Cert.DwoutGlaReferenceIdeal.nD,
          r.2.mem ((c.tc : Thread Cert.DwoutGlaReferenceIdeal.nD Cert.DwoutGlaReferenceIdeal.τ).loc Cert.DwoutGlaReferenceIdeal.main_v6) = v0 c
          ∧ r.2.mem ((c.tc : Thread Cert.DwoutGlaReferenceIdeal.nD Cert.DwoutGlaReferenceIdeal.τ).loc Cert.DwoutGlaReferenceIdeal.main_arg0) = m' ((c.tc : Thread Cert.DwoutGlaReferenceIdeal.nD Cert.DwoutGlaReferenceIdeal.τ).loc Cert.DwoutGlaReferenceIdeal.main_arg0)
          ∧ r.2.mem ((c.tc : Thread Cert.DwoutGlaReferenceIdeal.nD Cert.DwoutGlaReferenceIdeal.τ).loc Cert.DwoutGlaReferenceIdeal.main_arg1) = m' ((c.tc : Thread Cert.DwoutGlaReferenceIdeal.nD Cert.DwoutGlaReferenceIdeal.τ).loc Cert.DwoutGlaReferenceIdeal.main_arg1))

def preserves_DwoutAtt_DwoutAttIdeal : Prop :=
  True

def algebraic_DwoutAttIdeal_DwoutAttReferenceIdeal [hDwoutAttIdeal : Cert.DwoutAttIdeal.Facts] [hDwoutAttReferenceIdeal : Cert.DwoutAttReferenceIdeal.Facts] : Prop :=
  ∀ (m : (ℓ : Loc Cert.DwoutAttIdeal.nD Cert.DwoutAttIdeal.τ Cert.DwoutAttIdeal.sig) → Buf (Elt Ideal) ℓ) (g : Dev Cert.DwoutAttIdeal.nD → PrngReg)
    (m' : (ℓ : Loc Cert.DwoutAttReferenceIdeal.nD Cert.DwoutAttReferenceIdeal.τ Cert.DwoutAttReferenceIdeal.sig) → Buf (Elt Ideal) ℓ) (g' : Dev Cert.DwoutAttReferenceIdeal.nD → PrngReg), Pre_DwoutAttIdeal m →
    (∀ c : Dev Cert.DwoutAttIdeal.nD,
      m' ((c.tc : Thread Cert.DwoutAttReferenceIdeal.nD Cert.DwoutAttReferenceIdeal.τ).loc Cert.DwoutAttReferenceIdeal.main_arg0) = m ((c.tc : Thread Cert.DwoutAttIdeal.nD Cert.DwoutAttIdeal.τ).loc Cert.DwoutAttIdeal.main_arg0)
      ∧ m' ((c.tc : Thread Cert.DwoutAttReferenceIdeal.nD Cert.DwoutAttReferenceIdeal.τ).loc Cert.DwoutAttReferenceIdeal.main_arg1) = m ((c.tc : Thread Cert.DwoutAttIdeal.nD Cert.DwoutAttIdeal.τ).loc Cert.DwoutAttIdeal.main_arg1)) →
    ∃ (v0 : (c : Dev Cert.DwoutAttIdeal.nD) → Buf (Elt Ideal) ((c.tc : Thread Cert.DwoutAttIdeal.nD Cert.DwoutAttIdeal.τ).loc Cert.DwoutAttIdeal.main_v0)),
      θ_run (Cert.DwoutAttIdeal.defs (F := Ideal)) (onTc (τ := Cert.DwoutAttIdeal.τ) (Cert.DwoutAttIdeal.main (F := Ideal))) ⟨m, fun _ => 0, g⟩ (fun r => ∀ c : Dev Cert.DwoutAttIdeal.nD,
          r.2.mem ((c.tc : Thread Cert.DwoutAttIdeal.nD Cert.DwoutAttIdeal.τ).loc Cert.DwoutAttIdeal.main_v0) = v0 c
          ∧ r.2.mem ((c.tc : Thread Cert.DwoutAttIdeal.nD Cert.DwoutAttIdeal.τ).loc Cert.DwoutAttIdeal.main_arg0) = m ((c.tc : Thread Cert.DwoutAttIdeal.nD Cert.DwoutAttIdeal.τ).loc Cert.DwoutAttIdeal.main_arg0)
          ∧ r.2.mem ((c.tc : Thread Cert.DwoutAttIdeal.nD Cert.DwoutAttIdeal.τ).loc Cert.DwoutAttIdeal.main_arg1) = m ((c.tc : Thread Cert.DwoutAttIdeal.nD Cert.DwoutAttIdeal.τ).loc Cert.DwoutAttIdeal.main_arg1))
      ∧ θ_run (Cert.DwoutAttReferenceIdeal.defs (F := Ideal)) (onTc (τ := Cert.DwoutAttReferenceIdeal.τ) (Cert.DwoutAttReferenceIdeal.main (F := Ideal))) ⟨m', fun _ => 0, g'⟩ (fun r => ∀ c : Dev Cert.DwoutAttReferenceIdeal.nD,
          r.2.mem ((c.tc : Thread Cert.DwoutAttReferenceIdeal.nD Cert.DwoutAttReferenceIdeal.τ).loc Cert.DwoutAttReferenceIdeal.main_v6) = v0 c
          ∧ r.2.mem ((c.tc : Thread Cert.DwoutAttReferenceIdeal.nD Cert.DwoutAttReferenceIdeal.τ).loc Cert.DwoutAttReferenceIdeal.main_arg0) = m' ((c.tc : Thread Cert.DwoutAttReferenceIdeal.nD Cert.DwoutAttReferenceIdeal.τ).loc Cert.DwoutAttReferenceIdeal.main_arg0)
          ∧ r.2.mem ((c.tc : Thread Cert.DwoutAttReferenceIdeal.nD Cert.DwoutAttReferenceIdeal.τ).loc Cert.DwoutAttReferenceIdeal.main_arg1) = m' ((c.tc : Thread Cert.DwoutAttReferenceIdeal.nD Cert.DwoutAttReferenceIdeal.τ).loc Cert.DwoutAttReferenceIdeal.main_arg1))

def preserves_PostBwd_PostBwdIdeal : Prop :=
  True

def algebraic_PostBwdIdeal_PostBwdReferenceIdeal_pre_finite_post [hPostBwdIdeal : Cert.PostBwdIdeal.Facts] [hPostBwdReferenceIdeal : Cert.PostBwdReferenceIdeal.Facts] [hPre_finite_post : Cert.Pre_finite_post.Facts] : Prop :=
  ∀ (m : (ℓ : Loc Cert.PostBwdIdeal.nD Cert.PostBwdIdeal.τ Cert.PostBwdIdeal.sig) → Buf (Elt Ideal) ℓ) (g : Dev Cert.PostBwdIdeal.nD → PrngReg)
    (m' : (ℓ : Loc Cert.PostBwdReferenceIdeal.nD Cert.PostBwdReferenceIdeal.τ Cert.PostBwdReferenceIdeal.sig) → Buf (Elt Ideal) ℓ) (g' : Dev Cert.PostBwdReferenceIdeal.nD → PrngReg), Pre_PostBwdIdeal_finite_post m →
    (∀ c : Dev Cert.PostBwdIdeal.nD,
      m' ((c.tc : Thread Cert.PostBwdReferenceIdeal.nD Cert.PostBwdReferenceIdeal.τ).loc Cert.PostBwdReferenceIdeal.main_arg0) = m ((c.tc : Thread Cert.PostBwdIdeal.nD Cert.PostBwdIdeal.τ).loc Cert.PostBwdIdeal.main_arg0)
      ∧ m' ((c.tc : Thread Cert.PostBwdReferenceIdeal.nD Cert.PostBwdReferenceIdeal.τ).loc Cert.PostBwdReferenceIdeal.main_arg1) = m ((c.tc : Thread Cert.PostBwdIdeal.nD Cert.PostBwdIdeal.τ).loc Cert.PostBwdIdeal.main_arg1)
      ∧ m' ((c.tc : Thread Cert.PostBwdReferenceIdeal.nD Cert.PostBwdReferenceIdeal.τ).loc Cert.PostBwdReferenceIdeal.main_arg2) = m ((c.tc : Thread Cert.PostBwdIdeal.nD Cert.PostBwdIdeal.τ).loc Cert.PostBwdIdeal.main_arg2)
      ∧ m' ((c.tc : Thread Cert.PostBwdReferenceIdeal.nD Cert.PostBwdReferenceIdeal.τ).loc Cert.PostBwdReferenceIdeal.main_arg3) = m ((c.tc : Thread Cert.PostBwdIdeal.nD Cert.PostBwdIdeal.τ).loc Cert.PostBwdIdeal.main_arg3)) →
    ∃ (v0 : (c : Dev Cert.PostBwdIdeal.nD) → Buf (Elt Ideal) ((c.tc : Thread Cert.PostBwdIdeal.nD Cert.PostBwdIdeal.τ).loc Cert.PostBwdIdeal.main_v0_0)) (v1 : (c : Dev Cert.PostBwdIdeal.nD) → Buf (Elt Ideal) ((c.tc : Thread Cert.PostBwdIdeal.nD Cert.PostBwdIdeal.τ).loc Cert.PostBwdIdeal.main_v0_1)) (v2 : (c : Dev Cert.PostBwdIdeal.nD) → Buf (Elt Ideal) ((c.tc : Thread Cert.PostBwdIdeal.nD Cert.PostBwdIdeal.τ).loc Cert.PostBwdIdeal.main_v0_2)) (v3 : (c : Dev Cert.PostBwdIdeal.nD) → Buf (Elt Ideal) ((c.tc : Thread Cert.PostBwdIdeal.nD Cert.PostBwdIdeal.τ).loc Cert.PostBwdIdeal.main_v0_3)),
      θ_run (Cert.PostBwdIdeal.defs (F := Ideal)) (onTc (τ := Cert.PostBwdIdeal.τ) (Cert.PostBwdIdeal.main (F := Ideal))) ⟨m, fun _ => 0, g⟩ (fun r => ∀ c : Dev Cert.PostBwdIdeal.nD,
          r.2.mem ((c.tc : Thread Cert.PostBwdIdeal.nD Cert.PostBwdIdeal.τ).loc Cert.PostBwdIdeal.main_v0_0) = v0 c
          ∧ r.2.mem ((c.tc : Thread Cert.PostBwdIdeal.nD Cert.PostBwdIdeal.τ).loc Cert.PostBwdIdeal.main_v0_1) = v1 c
          ∧ r.2.mem ((c.tc : Thread Cert.PostBwdIdeal.nD Cert.PostBwdIdeal.τ).loc Cert.PostBwdIdeal.main_v0_2) = v2 c
          ∧ r.2.mem ((c.tc : Thread Cert.PostBwdIdeal.nD Cert.PostBwdIdeal.τ).loc Cert.PostBwdIdeal.main_v0_3) = v3 c
          ∧ r.2.mem ((c.tc : Thread Cert.PostBwdIdeal.nD Cert.PostBwdIdeal.τ).loc Cert.PostBwdIdeal.main_arg0) = m ((c.tc : Thread Cert.PostBwdIdeal.nD Cert.PostBwdIdeal.τ).loc Cert.PostBwdIdeal.main_arg0)
          ∧ r.2.mem ((c.tc : Thread Cert.PostBwdIdeal.nD Cert.PostBwdIdeal.τ).loc Cert.PostBwdIdeal.main_arg1) = m ((c.tc : Thread Cert.PostBwdIdeal.nD Cert.PostBwdIdeal.τ).loc Cert.PostBwdIdeal.main_arg1)
          ∧ r.2.mem ((c.tc : Thread Cert.PostBwdIdeal.nD Cert.PostBwdIdeal.τ).loc Cert.PostBwdIdeal.main_arg2) = m ((c.tc : Thread Cert.PostBwdIdeal.nD Cert.PostBwdIdeal.τ).loc Cert.PostBwdIdeal.main_arg2)
          ∧ r.2.mem ((c.tc : Thread Cert.PostBwdIdeal.nD Cert.PostBwdIdeal.τ).loc Cert.PostBwdIdeal.main_arg3) = m ((c.tc : Thread Cert.PostBwdIdeal.nD Cert.PostBwdIdeal.τ).loc Cert.PostBwdIdeal.main_arg3))
      ∧ θ_run (Cert.PostBwdReferenceIdeal.defs (F := Ideal)) (onTc (τ := Cert.PostBwdReferenceIdeal.τ) (Cert.PostBwdReferenceIdeal.main (F := Ideal))) ⟨m', fun _ => 0, g'⟩ (fun r => ∀ c : Dev Cert.PostBwdReferenceIdeal.nD,
          r.2.mem ((c.tc : Thread Cert.PostBwdReferenceIdeal.nD Cert.PostBwdReferenceIdeal.τ).loc Cert.PostBwdReferenceIdeal.main_v34) = v0 c
          ∧ r.2.mem ((c.tc : Thread Cert.PostBwdReferenceIdeal.nD Cert.PostBwdReferenceIdeal.τ).loc Cert.PostBwdReferenceIdeal.main_v41) = v1 c
          ∧ r.2.mem ((c.tc : Thread Cert.PostBwdReferenceIdeal.nD Cert.PostBwdReferenceIdeal.τ).loc Cert.PostBwdReferenceIdeal.main_v42) = v2 c
          ∧ r.2.mem ((c.tc : Thread Cert.PostBwdReferenceIdeal.nD Cert.PostBwdReferenceIdeal.τ).loc Cert.PostBwdReferenceIdeal.main_v17) = v3 c
          ∧ r.2.mem ((c.tc : Thread Cert.PostBwdReferenceIdeal.nD Cert.PostBwdReferenceIdeal.τ).loc Cert.PostBwdReferenceIdeal.main_arg0) = m' ((c.tc : Thread Cert.PostBwdReferenceIdeal.nD Cert.PostBwdReferenceIdeal.τ).loc Cert.PostBwdReferenceIdeal.main_arg0)
          ∧ r.2.mem ((c.tc : Thread Cert.PostBwdReferenceIdeal.nD Cert.PostBwdReferenceIdeal.τ).loc Cert.PostBwdReferenceIdeal.main_arg1) = m' ((c.tc : Thread Cert.PostBwdReferenceIdeal.nD Cert.PostBwdReferenceIdeal.τ).loc Cert.PostBwdReferenceIdeal.main_arg1)
          ∧ r.2.mem ((c.tc : Thread Cert.PostBwdReferenceIdeal.nD Cert.PostBwdReferenceIdeal.τ).loc Cert.PostBwdReferenceIdeal.main_arg2) = m' ((c.tc : Thread Cert.PostBwdReferenceIdeal.nD Cert.PostBwdReferenceIdeal.τ).loc Cert.PostBwdReferenceIdeal.main_arg2)
          ∧ r.2.mem ((c.tc : Thread Cert.PostBwdReferenceIdeal.nD Cert.PostBwdReferenceIdeal.τ).loc Cert.PostBwdReferenceIdeal.main_arg3) = m' ((c.tc : Thread Cert.PostBwdReferenceIdeal.nD Cert.PostBwdReferenceIdeal.τ).loc Cert.PostBwdReferenceIdeal.main_arg3))

def preserves_Dh_DhIdeal : Prop :=
  True

def algebraic_DhIdeal_DhReferenceIdeal_pre_finite_dh [hDhIdeal : Cert.DhIdeal.Facts] [hDhReferenceIdeal : Cert.DhReferenceIdeal.Facts] [hPre_finite_dh : Cert.Pre_finite_dh.Facts] : Prop :=
  ∀ (m : (ℓ : Loc Cert.DhIdeal.nD Cert.DhIdeal.τ Cert.DhIdeal.sig) → Buf (Elt Ideal) ℓ) (g : Dev Cert.DhIdeal.nD → PrngReg)
    (m' : (ℓ : Loc Cert.DhReferenceIdeal.nD Cert.DhReferenceIdeal.τ Cert.DhReferenceIdeal.sig) → Buf (Elt Ideal) ℓ) (g' : Dev Cert.DhReferenceIdeal.nD → PrngReg), Pre_DhIdeal_finite_dh m →
    (∀ c : Dev Cert.DhIdeal.nD,
      m' ((c.tc : Thread Cert.DhReferenceIdeal.nD Cert.DhReferenceIdeal.τ).loc Cert.DhReferenceIdeal.main_arg0) = m ((c.tc : Thread Cert.DhIdeal.nD Cert.DhIdeal.τ).loc Cert.DhIdeal.main_arg0)
      ∧ m' ((c.tc : Thread Cert.DhReferenceIdeal.nD Cert.DhReferenceIdeal.τ).loc Cert.DhReferenceIdeal.main_arg1) = m ((c.tc : Thread Cert.DhIdeal.nD Cert.DhIdeal.τ).loc Cert.DhIdeal.main_arg1)
      ∧ m' ((c.tc : Thread Cert.DhReferenceIdeal.nD Cert.DhReferenceIdeal.τ).loc Cert.DhReferenceIdeal.main_arg2) = m ((c.tc : Thread Cert.DhIdeal.nD Cert.DhIdeal.τ).loc Cert.DhIdeal.main_arg2)
      ∧ m' ((c.tc : Thread Cert.DhReferenceIdeal.nD Cert.DhReferenceIdeal.τ).loc Cert.DhReferenceIdeal.main_arg3) = m ((c.tc : Thread Cert.DhIdeal.nD Cert.DhIdeal.τ).loc Cert.DhIdeal.main_arg3)
      ∧ m' ((c.tc : Thread Cert.DhReferenceIdeal.nD Cert.DhReferenceIdeal.τ).loc Cert.DhReferenceIdeal.main_arg4) = m ((c.tc : Thread Cert.DhIdeal.nD Cert.DhIdeal.τ).loc Cert.DhIdeal.main_arg4)
      ∧ m' ((c.tc : Thread Cert.DhReferenceIdeal.nD Cert.DhReferenceIdeal.τ).loc Cert.DhReferenceIdeal.main_arg5) = m ((c.tc : Thread Cert.DhIdeal.nD Cert.DhIdeal.τ).loc Cert.DhIdeal.main_arg5)
      ∧ m' ((c.tc : Thread Cert.DhReferenceIdeal.nD Cert.DhReferenceIdeal.τ).loc Cert.DhReferenceIdeal.main_arg6) = m ((c.tc : Thread Cert.DhIdeal.nD Cert.DhIdeal.τ).loc Cert.DhIdeal.main_arg6)
      ∧ m' ((c.tc : Thread Cert.DhReferenceIdeal.nD Cert.DhReferenceIdeal.τ).loc Cert.DhReferenceIdeal.main_arg7) = m ((c.tc : Thread Cert.DhIdeal.nD Cert.DhIdeal.τ).loc Cert.DhIdeal.main_arg7)) →
    ∃ (v0 : (c : Dev Cert.DhIdeal.nD) → Buf (Elt Ideal) ((c.tc : Thread Cert.DhIdeal.nD Cert.DhIdeal.τ).loc Cert.DhIdeal.main_v0_0)) (v1 : (c : Dev Cert.DhIdeal.nD) → Buf (Elt Ideal) ((c.tc : Thread Cert.DhIdeal.nD Cert.DhIdeal.τ).loc Cert.DhIdeal.main_v0_1)),
      θ_run (Cert.DhIdeal.defs (F := Ideal)) (onTc (τ := Cert.DhIdeal.τ) (Cert.DhIdeal.main (F := Ideal))) ⟨m, fun _ => 0, g⟩ (fun r => ∀ c : Dev Cert.DhIdeal.nD,
          r.2.mem ((c.tc : Thread Cert.DhIdeal.nD Cert.DhIdeal.τ).loc Cert.DhIdeal.main_v0_0) = v0 c
          ∧ r.2.mem ((c.tc : Thread Cert.DhIdeal.nD Cert.DhIdeal.τ).loc Cert.DhIdeal.main_v0_1) = v1 c
          ∧ r.2.mem ((c.tc : Thread Cert.DhIdeal.nD Cert.DhIdeal.τ).loc Cert.DhIdeal.main_arg0) = m ((c.tc : Thread Cert.DhIdeal.nD Cert.DhIdeal.τ).loc Cert.DhIdeal.main_arg0)
          ∧ r.2.mem ((c.tc : Thread Cert.DhIdeal.nD Cert.DhIdeal.τ).loc Cert.DhIdeal.main_arg1) = m ((c.tc : Thread Cert.DhIdeal.nD Cert.DhIdeal.τ).loc Cert.DhIdeal.main_arg1)
          ∧ r.2.mem ((c.tc : Thread Cert.DhIdeal.nD Cert.DhIdeal.τ).loc Cert.DhIdeal.main_arg2) = m ((c.tc : Thread Cert.DhIdeal.nD Cert.DhIdeal.τ).loc Cert.DhIdeal.main_arg2)
          ∧ r.2.mem ((c.tc : Thread Cert.DhIdeal.nD Cert.DhIdeal.τ).loc Cert.DhIdeal.main_arg3) = m ((c.tc : Thread Cert.DhIdeal.nD Cert.DhIdeal.τ).loc Cert.DhIdeal.main_arg3)
          ∧ r.2.mem ((c.tc : Thread Cert.DhIdeal.nD Cert.DhIdeal.τ).loc Cert.DhIdeal.main_arg4) = m ((c.tc : Thread Cert.DhIdeal.nD Cert.DhIdeal.τ).loc Cert.DhIdeal.main_arg4)
          ∧ r.2.mem ((c.tc : Thread Cert.DhIdeal.nD Cert.DhIdeal.τ).loc Cert.DhIdeal.main_arg5) = m ((c.tc : Thread Cert.DhIdeal.nD Cert.DhIdeal.τ).loc Cert.DhIdeal.main_arg5)
          ∧ r.2.mem ((c.tc : Thread Cert.DhIdeal.nD Cert.DhIdeal.τ).loc Cert.DhIdeal.main_arg6) = m ((c.tc : Thread Cert.DhIdeal.nD Cert.DhIdeal.τ).loc Cert.DhIdeal.main_arg6)
          ∧ r.2.mem ((c.tc : Thread Cert.DhIdeal.nD Cert.DhIdeal.τ).loc Cert.DhIdeal.main_arg7) = m ((c.tc : Thread Cert.DhIdeal.nD Cert.DhIdeal.τ).loc Cert.DhIdeal.main_arg7))
      ∧ θ_run (Cert.DhReferenceIdeal.defs (F := Ideal)) (onTc (τ := Cert.DhReferenceIdeal.τ) (Cert.DhReferenceIdeal.main (F := Ideal))) ⟨m', fun _ => 0, g'⟩ (fun r => ∀ c : Dev Cert.DhReferenceIdeal.nD,
          r.2.mem ((c.tc : Thread Cert.DhReferenceIdeal.nD Cert.DhReferenceIdeal.τ).loc Cert.DhReferenceIdeal.main_v52) = v0 c
          ∧ r.2.mem ((c.tc : Thread Cert.DhReferenceIdeal.nD Cert.DhReferenceIdeal.τ).loc Cert.DhReferenceIdeal.main_v35) = v1 c
          ∧ r.2.mem ((c.tc : Thread Cert.DhReferenceIdeal.nD Cert.DhReferenceIdeal.τ).loc Cert.DhReferenceIdeal.main_arg0) = m' ((c.tc : Thread Cert.DhReferenceIdeal.nD Cert.DhReferenceIdeal.τ).loc Cert.DhReferenceIdeal.main_arg0)
          ∧ r.2.mem ((c.tc : Thread Cert.DhReferenceIdeal.nD Cert.DhReferenceIdeal.τ).loc Cert.DhReferenceIdeal.main_arg1) = m' ((c.tc : Thread Cert.DhReferenceIdeal.nD Cert.DhReferenceIdeal.τ).loc Cert.DhReferenceIdeal.main_arg1)
          ∧ r.2.mem ((c.tc : Thread Cert.DhReferenceIdeal.nD Cert.DhReferenceIdeal.τ).loc Cert.DhReferenceIdeal.main_arg2) = m' ((c.tc : Thread Cert.DhReferenceIdeal.nD Cert.DhReferenceIdeal.τ).loc Cert.DhReferenceIdeal.main_arg2)
          ∧ r.2.mem ((c.tc : Thread Cert.DhReferenceIdeal.nD Cert.DhReferenceIdeal.τ).loc Cert.DhReferenceIdeal.main_arg3) = m' ((c.tc : Thread Cert.DhReferenceIdeal.nD Cert.DhReferenceIdeal.τ).loc Cert.DhReferenceIdeal.main_arg3)
          ∧ r.2.mem ((c.tc : Thread Cert.DhReferenceIdeal.nD Cert.DhReferenceIdeal.τ).loc Cert.DhReferenceIdeal.main_arg4) = m' ((c.tc : Thread Cert.DhReferenceIdeal.nD Cert.DhReferenceIdeal.τ).loc Cert.DhReferenceIdeal.main_arg4)
          ∧ r.2.mem ((c.tc : Thread Cert.DhReferenceIdeal.nD Cert.DhReferenceIdeal.τ).loc Cert.DhReferenceIdeal.main_arg5) = m' ((c.tc : Thread Cert.DhReferenceIdeal.nD Cert.DhReferenceIdeal.τ).loc Cert.DhReferenceIdeal.main_arg5)
          ∧ r.2.mem ((c.tc : Thread Cert.DhReferenceIdeal.nD Cert.DhReferenceIdeal.τ).loc Cert.DhReferenceIdeal.main_arg6) = m' ((c.tc : Thread Cert.DhReferenceIdeal.nD Cert.DhReferenceIdeal.τ).loc Cert.DhReferenceIdeal.main_arg6)
          ∧ r.2.mem ((c.tc : Thread Cert.DhReferenceIdeal.nD Cert.DhReferenceIdeal.τ).loc Cert.DhReferenceIdeal.main_arg7) = m' ((c.tc : Thread Cert.DhReferenceIdeal.nD Cert.DhReferenceIdeal.τ).loc Cert.DhReferenceIdeal.main_arg7))

def preserves_Inproj_InprojIdeal : Prop :=
  True

def algebraic_InprojIdeal_InprojReferenceIdeal [hInprojIdeal : Cert.InprojIdeal.Facts] [hInprojReferenceIdeal : Cert.InprojReferenceIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojReferenceIdeal.nD Cert.InprojReferenceIdeal.τ Cert.InprojReferenceIdeal.sig) → Buf (Elt Ideal) ℓ) (g' : Dev Cert.InprojReferenceIdeal.nD → PrngReg), Pre_InprojIdeal m →
    (∀ c : Dev Cert.InprojIdeal.nD,
      m' ((c.tc : Thread Cert.InprojReferenceIdeal.nD Cert.InprojReferenceIdeal.τ).loc Cert.InprojReferenceIdeal.main_arg0) = m ((c.tc : Thread Cert.InprojIdeal.nD Cert.InprojIdeal.τ).loc Cert.InprojIdeal.main_arg0)
      ∧ m' ((c.tc : Thread Cert.InprojReferenceIdeal.nD Cert.InprojReferenceIdeal.τ).loc Cert.InprojReferenceIdeal.main_arg1) = m ((c.tc : Thread Cert.InprojIdeal.nD Cert.InprojIdeal.τ).loc Cert.InprojIdeal.main_arg1)
      ∧ m' ((c.tc : Thread Cert.InprojReferenceIdeal.nD Cert.InprojReferenceIdeal.τ).loc Cert.InprojReferenceIdeal.main_arg2) = m ((c.tc : Thread Cert.InprojIdeal.nD Cert.InprojIdeal.τ).loc Cert.InprojIdeal.main_arg2)
      ∧ m' ((c.tc : Thread Cert.InprojReferenceIdeal.nD Cert.InprojReferenceIdeal.τ).loc Cert.InprojReferenceIdeal.main_arg3) = m ((c.tc : Thread Cert.InprojIdeal.nD Cert.InprojIdeal.τ).loc Cert.InprojIdeal.main_arg3)) →
    ∃ (v0 : (c : Dev Cert.InprojIdeal.nD) → Buf (Elt Ideal) ((c.tc : Thread Cert.InprojIdeal.nD Cert.InprojIdeal.τ).loc Cert.InprojIdeal.main_v0_0)) (v1 : (c : Dev Cert.InprojIdeal.nD) → Buf (Elt Ideal) ((c.tc : Thread Cert.InprojIdeal.nD Cert.InprojIdeal.τ).loc Cert.InprojIdeal.main_v0_1)) (v2 : (c : Dev Cert.InprojIdeal.nD) → Buf (Elt Ideal) ((c.tc : Thread Cert.InprojIdeal.nD Cert.InprojIdeal.τ).loc Cert.InprojIdeal.main_v0_2)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v0_0) = v0 c
          ∧ r.2.mem ((c.tc : Thread Cert.InprojIdeal.nD Cert.InprojIdeal.τ).loc Cert.InprojIdeal.main_v0_1) = v1 c
          ∧ r.2.mem ((c.tc : Thread Cert.InprojIdeal.nD Cert.InprojIdeal.τ).loc Cert.InprojIdeal.main_v0_2) = v2 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3))
      ∧ θ_run (Cert.InprojReferenceIdeal.defs (F := Ideal)) (onTc (τ := Cert.InprojReferenceIdeal.τ) (Cert.InprojReferenceIdeal.main (F := Ideal))) ⟨m', fun _ => 0, g'⟩ (fun r => ∀ c : Dev Cert.InprojReferenceIdeal.nD,
          r.2.mem ((c.tc : Thread Cert.InprojReferenceIdeal.nD Cert.InprojReferenceIdeal.τ).loc Cert.InprojReferenceIdeal.main_v21) = v0 c
          ∧ r.2.mem ((c.tc : Thread Cert.InprojReferenceIdeal.nD Cert.InprojReferenceIdeal.τ).loc Cert.InprojReferenceIdeal.main_v22) = v1 c
          ∧ r.2.mem ((c.tc : Thread Cert.InprojReferenceIdeal.nD Cert.InprojReferenceIdeal.τ).loc Cert.InprojReferenceIdeal.main_v12) = v2 c
          ∧ r.2.mem ((c.tc : Thread Cert.InprojReferenceIdeal.nD Cert.InprojReferenceIdeal.τ).loc Cert.InprojReferenceIdeal.main_arg0) = m' ((c.tc : Thread Cert.InprojReferenceIdeal.nD Cert.InprojReferenceIdeal.τ).loc Cert.InprojReferenceIdeal.main_arg0)
          ∧ r.2.mem ((c.tc : Thread Cert.InprojReferenceIdeal.nD Cert.InprojReferenceIdeal.τ).loc Cert.InprojReferenceIdeal.main_arg1) = m' ((c.tc : Thread Cert.InprojReferenceIdeal.nD Cert.InprojReferenceIdeal.τ).loc Cert.InprojReferenceIdeal.main_arg1)
          ∧ r.2.mem ((c.tc : Thread Cert.InprojReferenceIdeal.nD Cert.InprojReferenceIdeal.τ).loc Cert.InprojReferenceIdeal.main_arg2) = m' ((c.tc : Thread Cert.InprojReferenceIdeal.nD Cert.InprojReferenceIdeal.τ).loc Cert.InprojReferenceIdeal.main_arg2)
          ∧ r.2.mem ((c.tc : Thread Cert.InprojReferenceIdeal.nD Cert.InprojReferenceIdeal.τ).loc Cert.InprojReferenceIdeal.main_arg3) = m' ((c.tc : Thread Cert.InprojReferenceIdeal.nD Cert.InprojReferenceIdeal.τ).loc Cert.InprojReferenceIdeal.main_arg3))

def preserves_Outproj_OutprojIdeal : Prop :=
  True

def algebraic_OutprojIdeal_OutprojReferenceIdeal [hOutprojIdeal : Cert.OutprojIdeal.Facts] [hOutprojReferenceIdeal : Cert.OutprojReferenceIdeal.Facts] : Prop :=
  ∀ (m : (ℓ : Loc Cert.OutprojIdeal.nD Cert.OutprojIdeal.τ Cert.OutprojIdeal.sig) → Buf (Elt Ideal) ℓ) (g : Dev Cert.OutprojIdeal.nD → PrngReg)
    (m' : (ℓ : Loc Cert.OutprojReferenceIdeal.nD Cert.OutprojReferenceIdeal.τ Cert.OutprojReferenceIdeal.sig) → Buf (Elt Ideal) ℓ) (g' : Dev Cert.OutprojReferenceIdeal.nD → PrngReg), Pre_OutprojIdeal m →
    (∀ c : Dev Cert.OutprojIdeal.nD,
      m' ((c.tc : Thread Cert.OutprojReferenceIdeal.nD Cert.OutprojReferenceIdeal.τ).loc Cert.OutprojReferenceIdeal.main_arg0) = m ((c.tc : Thread Cert.OutprojIdeal.nD Cert.OutprojIdeal.τ).loc Cert.OutprojIdeal.main_arg0)
      ∧ m' ((c.tc : Thread Cert.OutprojReferenceIdeal.nD Cert.OutprojReferenceIdeal.τ).loc Cert.OutprojReferenceIdeal.main_arg1) = m ((c.tc : Thread Cert.OutprojIdeal.nD Cert.OutprojIdeal.τ).loc Cert.OutprojIdeal.main_arg1)
      ∧ m' ((c.tc : Thread Cert.OutprojReferenceIdeal.nD Cert.OutprojReferenceIdeal.τ).loc Cert.OutprojReferenceIdeal.main_arg2) = m ((c.tc : Thread Cert.OutprojIdeal.nD Cert.OutprojIdeal.τ).loc Cert.OutprojIdeal.main_arg2)
      ∧ m' ((c.tc : Thread Cert.OutprojReferenceIdeal.nD Cert.OutprojReferenceIdeal.τ).loc Cert.OutprojReferenceIdeal.main_arg3) = m ((c.tc : Thread Cert.OutprojIdeal.nD Cert.OutprojIdeal.τ).loc Cert.OutprojIdeal.main_arg3)
      ∧ m' ((c.tc : Thread Cert.OutprojReferenceIdeal.nD Cert.OutprojReferenceIdeal.τ).loc Cert.OutprojReferenceIdeal.main_arg4) = m ((c.tc : Thread Cert.OutprojIdeal.nD Cert.OutprojIdeal.τ).loc Cert.OutprojIdeal.main_arg4)) →
    ∃ (v0 : (c : Dev Cert.OutprojIdeal.nD) → Buf (Elt Ideal) ((c.tc : Thread Cert.OutprojIdeal.nD Cert.OutprojIdeal.τ).loc Cert.OutprojIdeal.main_v0_0)) (v1 : (c : Dev Cert.OutprojIdeal.nD) → Buf (Elt Ideal) ((c.tc : Thread Cert.OutprojIdeal.nD Cert.OutprojIdeal.τ).loc Cert.OutprojIdeal.main_v0_1)),
      θ_run (Cert.OutprojIdeal.defs (F := Ideal)) (onTc (τ := Cert.OutprojIdeal.τ) (Cert.OutprojIdeal.main (F := Ideal))) ⟨m, fun _ => 0, g⟩ (fun r => ∀ c : Dev Cert.OutprojIdeal.nD,
          r.2.mem ((c.tc : Thread Cert.OutprojIdeal.nD Cert.OutprojIdeal.τ).loc Cert.OutprojIdeal.main_v0_0) = v0 c
          ∧ r.2.mem ((c.tc : Thread Cert.OutprojIdeal.nD Cert.OutprojIdeal.τ).loc Cert.OutprojIdeal.main_v0_1) = v1 c
          ∧ r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
          ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1)
          ∧ r.2.mem ((c.tc : Thread Cert.OutprojIdeal.nD Cert.OutprojIdeal.τ).loc Cert.OutprojIdeal.main_arg2) = m ((c.tc : Thread Cert.OutprojIdeal.nD Cert.OutprojIdeal.τ).loc Cert.OutprojIdeal.main_arg2)
          ∧ r.2.mem ((c.tc : Thread Cert.OutprojIdeal.nD Cert.OutprojIdeal.τ).loc Cert.OutprojIdeal.main_arg3) = m ((c.tc : Thread Cert.OutprojIdeal.nD Cert.OutprojIdeal.τ).loc Cert.OutprojIdeal.main_arg3)
          ∧ r.2.mem ((c.tc : Thread Cert.OutprojIdeal.nD Cert.OutprojIdeal.τ).loc Cert.OutprojIdeal.main_arg4) = m ((c.tc : Thread Cert.OutprojIdeal.nD Cert.OutprojIdeal.τ).loc Cert.OutprojIdeal.main_arg4))
      ∧ θ_run (Cert.OutprojReferenceIdeal.defs (F := Ideal)) (onTc (τ := Cert.OutprojReferenceIdeal.τ) (Cert.OutprojReferenceIdeal.main (F := Ideal))) ⟨m', fun _ => 0, g'⟩ (fun r => ∀ c : Dev Cert.OutprojReferenceIdeal.nD,
          r.2.mem ((c.tc : Thread Cert.OutprojReferenceIdeal.nD Cert.OutprojReferenceIdeal.τ).loc Cert.OutprojReferenceIdeal.main_v3) = v0 c
          ∧ r.2.mem ((c.tc : Thread Cert.OutprojReferenceIdeal.nD Cert.OutprojReferenceIdeal.τ).loc Cert.OutprojReferenceIdeal.main_v16) = v1 c
          ∧ r.2.mem ((c.tc : Thread Cert.OutprojReferenceIdeal.nD Cert.OutprojReferenceIdeal.τ).loc Cert.OutprojReferenceIdeal.main_arg0) = m' ((c.tc : Thread Cert.OutprojReferenceIdeal.nD Cert.OutprojReferenceIdeal.τ).loc Cert.OutprojReferenceIdeal.main_arg0)
          ∧ r.2.mem ((c.tc : Thread Cert.OutprojReferenceIdeal.nD Cert.OutprojReferenceIdeal.τ).loc Cert.OutprojReferenceIdeal.main_arg1) = m' ((c.tc : Thread Cert.OutprojReferenceIdeal.nD Cert.OutprojReferenceIdeal.τ).loc Cert.OutprojReferenceIdeal.main_arg1)
          ∧ r.2.mem ((c.tc : Thread Cert.OutprojReferenceIdeal.nD Cert.OutprojReferenceIdeal.τ).loc Cert.OutprojReferenceIdeal.main_arg2) = m' ((c.tc : Thread Cert.OutprojReferenceIdeal.nD Cert.OutprojReferenceIdeal.τ).loc Cert.OutprojReferenceIdeal.main_arg2)
          ∧ r.2.mem ((c.tc : Thread Cert.OutprojReferenceIdeal.nD Cert.OutprojReferenceIdeal.τ).loc Cert.OutprojReferenceIdeal.main_arg3) = m' ((c.tc : Thread Cert.OutprojReferenceIdeal.nD Cert.OutprojReferenceIdeal.τ).loc Cert.OutprojReferenceIdeal.main_arg3)
          ∧ r.2.mem ((c.tc : Thread Cert.OutprojReferenceIdeal.nD Cert.OutprojReferenceIdeal.τ).loc Cert.OutprojReferenceIdeal.main_arg4) = m' ((c.tc : Thread Cert.OutprojReferenceIdeal.nD Cert.OutprojReferenceIdeal.τ).loc Cert.OutprojReferenceIdeal.main_arg4))

def preserves_AttFwd_AttFwdIdeal : Prop :=
  IdealRules.named_const.Statement Cert.AttFwdIdeal.κ "mask" .f32 0xF149F2CA#32 ⊥

def algebraic_AttFwdIdeal_AttFwdReferenceIdeal_pre_finite_att [hAttFwdIdeal : Cert.AttFwdIdeal.Facts] [hAttFwdReferenceIdeal : Cert.AttFwdReferenceIdeal.Facts] [hPre_finite_att : Cert.Pre_finite_att.Facts] : Prop :=
  ∀ (m : (ℓ : Loc Cert.AttFwdIdeal.nD Cert.AttFwdIdeal.τ Cert.AttFwdIdeal.sig) → Buf (Elt Ideal) ℓ) (g : Dev Cert.AttFwdIdeal.nD → PrngReg)
    (m' : (ℓ : Loc Cert.AttFwdReferenceIdeal.nD Cert.AttFwdReferenceIdeal.τ Cert.AttFwdReferenceIdeal.sig) → Buf (Elt Ideal) ℓ) (g' : Dev Cert.AttFwdReferenceIdeal.nD → PrngReg), Pre_AttFwdIdeal_finite_att m →
    (∀ c : Dev Cert.AttFwdIdeal.nD,
      m' ((c.tc : Thread Cert.AttFwdReferenceIdeal.nD Cert.AttFwdReferenceIdeal.τ).loc Cert.AttFwdReferenceIdeal.main_arg0) = m ((c.tc : Thread Cert.AttFwdIdeal.nD Cert.AttFwdIdeal.τ).loc Cert.AttFwdIdeal.main_arg0)
      ∧ m' ((c.tc : Thread Cert.AttFwdReferenceIdeal.nD Cert.AttFwdReferenceIdeal.τ).loc Cert.AttFwdReferenceIdeal.main_arg1) = m ((c.tc : Thread Cert.AttFwdIdeal.nD Cert.AttFwdIdeal.τ).loc Cert.AttFwdIdeal.main_arg1)
      ∧ m' ((c.tc : Thread Cert.AttFwdReferenceIdeal.nD Cert.AttFwdReferenceIdeal.τ).loc Cert.AttFwdReferenceIdeal.main_arg2) = m ((c.tc : Thread Cert.AttFwdIdeal.nD Cert.AttFwdIdeal.τ).loc Cert.AttFwdIdeal.main_arg2)
      ∧ m' ((c.tc : Thread Cert.AttFwdReferenceIdeal.nD Cert.AttFwdReferenceIdeal.τ).loc Cert.AttFwdReferenceIdeal.main_arg3) = m ((c.tc : Thread Cert.AttFwdIdeal.nD Cert.AttFwdIdeal.τ).loc Cert.AttFwdIdeal.main_arg3)
      ∧ m' ((c.tc : Thread Cert.AttFwdReferenceIdeal.nD Cert.AttFwdReferenceIdeal.τ).loc Cert.AttFwdReferenceIdeal.main_arg4) = m ((c.tc : Thread Cert.AttFwdIdeal.nD Cert.AttFwdIdeal.τ).loc Cert.AttFwdIdeal.main_arg4)
      ∧ m' ((c.tc : Thread Cert.AttFwdReferenceIdeal.nD Cert.AttFwdReferenceIdeal.τ).loc Cert.AttFwdReferenceIdeal.main_arg5) = m ((c.tc : Thread Cert.AttFwdIdeal.nD Cert.AttFwdIdeal.τ).loc Cert.AttFwdIdeal.main_arg5)) →
    ∃ (v0 : (c : Dev Cert.AttFwdIdeal.nD) → Buf (Elt Ideal) ((c.tc : Thread Cert.AttFwdIdeal.nD Cert.AttFwdIdeal.τ).loc Cert.AttFwdIdeal.main_v11_0)) (v1 : (c : Dev Cert.AttFwdIdeal.nD) → Buf (Elt Ideal) ((c.tc : Thread Cert.AttFwdIdeal.nD Cert.AttFwdIdeal.τ).loc Cert.AttFwdIdeal.main_v11_1)) (v2 : (c : Dev Cert.AttFwdIdeal.nD) → Buf (Elt Ideal) ((c.tc : Thread Cert.AttFwdIdeal.nD Cert.AttFwdIdeal.τ).loc Cert.AttFwdIdeal.main_v11_2)),
      θ_run (Cert.AttFwdIdeal.defs (F := Ideal)) (onTc (τ := Cert.AttFwdIdeal.τ) (Cert.AttFwdIdeal.main (F := Ideal))) ⟨m, fun _ => 0, g⟩ (fun r => ∀ c : Dev Cert.AttFwdIdeal.nD,
          r.2.mem ((c.tc : Thread Cert.AttFwdIdeal.nD Cert.AttFwdIdeal.τ).loc Cert.AttFwdIdeal.main_v11_0) = v0 c
          ∧ r.2.mem ((c.tc : Thread Cert.AttFwdIdeal.nD Cert.AttFwdIdeal.τ).loc Cert.AttFwdIdeal.main_v11_1) = v1 c
          ∧ r.2.mem ((c.tc : Thread Cert.AttFwdIdeal.nD Cert.AttFwdIdeal.τ).loc Cert.AttFwdIdeal.main_v11_2) = v2 c
          ∧ r.2.mem ((c.tc : Thread Cert.AttFwdIdeal.nD Cert.AttFwdIdeal.τ).loc Cert.AttFwdIdeal.main_arg0) = m ((c.tc : Thread Cert.AttFwdIdeal.nD Cert.AttFwdIdeal.τ).loc Cert.AttFwdIdeal.main_arg0)
          ∧ r.2.mem ((c.tc : Thread Cert.AttFwdIdeal.nD Cert.AttFwdIdeal.τ).loc Cert.AttFwdIdeal.main_arg1) = m ((c.tc : Thread Cert.AttFwdIdeal.nD Cert.AttFwdIdeal.τ).loc Cert.AttFwdIdeal.main_arg1)
          ∧ r.2.mem ((c.tc : Thread Cert.AttFwdIdeal.nD Cert.AttFwdIdeal.τ).loc Cert.AttFwdIdeal.main_arg2) = m ((c.tc : Thread Cert.AttFwdIdeal.nD Cert.AttFwdIdeal.τ).loc Cert.AttFwdIdeal.main_arg2)
          ∧ r.2.mem ((c.tc : Thread Cert.AttFwdIdeal.nD Cert.AttFwdIdeal.τ).loc Cert.AttFwdIdeal.main_arg3) = m ((c.tc : Thread Cert.AttFwdIdeal.nD Cert.AttFwdIdeal.τ).loc Cert.AttFwdIdeal.main_arg3)
          ∧ r.2.mem ((c.tc : Thread Cert.AttFwdIdeal.nD Cert.AttFwdIdeal.τ).loc Cert.AttFwdIdeal.main_arg4) = m ((c.tc : Thread Cert.AttFwdIdeal.nD Cert.AttFwdIdeal.τ).loc Cert.AttFwdIdeal.main_arg4)
          ∧ r.2.mem ((c.tc : Thread Cert.AttFwdIdeal.nD Cert.AttFwdIdeal.τ).loc Cert.AttFwdIdeal.main_arg5) = m ((c.tc : Thread Cert.AttFwdIdeal.nD Cert.AttFwdIdeal.τ).loc Cert.AttFwdIdeal.main_arg5))
      ∧ θ_run (Cert.AttFwdReferenceIdeal.defs (F := Ideal)) (onTc (τ := Cert.AttFwdReferenceIdeal.τ) (Cert.AttFwdReferenceIdeal.main (F := Ideal))) ⟨m', fun _ => 0, g'⟩ (fun r => ∀ c : Dev Cert.AttFwdReferenceIdeal.nD,
          r.2.mem ((c.tc : Thread Cert.AttFwdReferenceIdeal.nD Cert.AttFwdReferenceIdeal.τ).loc Cert.AttFwdReferenceIdeal.main_v84) = v0 c
          ∧ r.2.mem ((c.tc : Thread Cert.AttFwdReferenceIdeal.nD Cert.AttFwdReferenceIdeal.τ).loc Cert.AttFwdReferenceIdeal.main_v86) = v1 c
          ∧ r.2.mem ((c.tc : Thread Cert.AttFwdReferenceIdeal.nD Cert.AttFwdReferenceIdeal.τ).loc Cert.AttFwdReferenceIdeal.main_v89) = v2 c
          ∧ r.2.mem ((c.tc : Thread Cert.AttFwdReferenceIdeal.nD Cert.AttFwdReferenceIdeal.τ).loc Cert.AttFwdReferenceIdeal.main_arg0) = m' ((c.tc : Thread Cert.AttFwdReferenceIdeal.nD Cert.AttFwdReferenceIdeal.τ).loc Cert.AttFwdReferenceIdeal.main_arg0)
          ∧ r.2.mem ((c.tc : Thread Cert.AttFwdReferenceIdeal.nD Cert.AttFwdReferenceIdeal.τ).loc Cert.AttFwdReferenceIdeal.main_arg1) = m' ((c.tc : Thread Cert.AttFwdReferenceIdeal.nD Cert.AttFwdReferenceIdeal.τ).loc Cert.AttFwdReferenceIdeal.main_arg1)
          ∧ r.2.mem ((c.tc : Thread Cert.AttFwdReferenceIdeal.nD Cert.AttFwdReferenceIdeal.τ).loc Cert.AttFwdReferenceIdeal.main_arg2) = m' ((c.tc : Thread Cert.AttFwdReferenceIdeal.nD Cert.AttFwdReferenceIdeal.τ).loc Cert.AttFwdReferenceIdeal.main_arg2)
          ∧ r.2.mem ((c.tc : Thread Cert.AttFwdReferenceIdeal.nD Cert.AttFwdReferenceIdeal.τ).loc Cert.AttFwdReferenceIdeal.main_arg3) = m' ((c.tc : Thread Cert.AttFwdReferenceIdeal.nD Cert.AttFwdReferenceIdeal.τ).loc Cert.AttFwdReferenceIdeal.main_arg3)
          ∧ r.2.mem ((c.tc : Thread Cert.AttFwdReferenceIdeal.nD Cert.AttFwdReferenceIdeal.τ).loc Cert.AttFwdReferenceIdeal.main_arg4) = m' ((c.tc : Thread Cert.AttFwdReferenceIdeal.nD Cert.AttFwdReferenceIdeal.τ).loc Cert.AttFwdReferenceIdeal.main_arg4)
          ∧ r.2.mem ((c.tc : Thread Cert.AttFwdReferenceIdeal.nD Cert.AttFwdReferenceIdeal.τ).loc Cert.AttFwdReferenceIdeal.main_arg5) = m' ((c.tc : Thread Cert.AttFwdReferenceIdeal.nD Cert.AttFwdReferenceIdeal.τ).loc Cert.AttFwdReferenceIdeal.main_arg5))

def preserves_GlaFwd_GlaFwdIdeal : Prop :=
  True

def algebraic_GlaFwdIdeal_GlaFwdReferenceIdeal_pre_finite_gla [hGlaFwdIdeal : Cert.GlaFwdIdeal.Facts] [hGlaFwdReferenceIdeal : Cert.GlaFwdReferenceIdeal.Facts] [hPre_finite_gla : Cert.Pre_finite_gla.Facts] : Prop :=
  ∀ (m : (ℓ : Loc Cert.GlaFwdIdeal.nD Cert.GlaFwdIdeal.τ Cert.GlaFwdIdeal.sig) → Buf (Elt Ideal) ℓ) (g : Dev Cert.GlaFwdIdeal.nD → PrngReg)
    (m' : (ℓ : Loc Cert.GlaFwdReferenceIdeal.nD Cert.GlaFwdReferenceIdeal.τ Cert.GlaFwdReferenceIdeal.sig) → Buf (Elt Ideal) ℓ) (g' : Dev Cert.GlaFwdReferenceIdeal.nD → PrngReg), Pre_GlaFwdIdeal_finite_gla m →
    (∀ c : Dev Cert.GlaFwdIdeal.nD,
      m' ((c.tc : Thread Cert.GlaFwdReferenceIdeal.nD Cert.GlaFwdReferenceIdeal.τ).loc Cert.GlaFwdReferenceIdeal.main_arg0) = m ((c.tc : Thread Cert.GlaFwdIdeal.nD Cert.GlaFwdIdeal.τ).loc Cert.GlaFwdIdeal.main_arg0)
      ∧ m' ((c.tc : Thread Cert.GlaFwdReferenceIdeal.nD Cert.GlaFwdReferenceIdeal.τ).loc Cert.GlaFwdReferenceIdeal.main_arg1) = m ((c.tc : Thread Cert.GlaFwdIdeal.nD Cert.GlaFwdIdeal.τ).loc Cert.GlaFwdIdeal.main_arg1)
      ∧ m' ((c.tc : Thread Cert.GlaFwdReferenceIdeal.nD Cert.GlaFwdReferenceIdeal.τ).loc Cert.GlaFwdReferenceIdeal.main_arg2) = m ((c.tc : Thread Cert.GlaFwdIdeal.nD Cert.GlaFwdIdeal.τ).loc Cert.GlaFwdIdeal.main_arg2)
      ∧ m' ((c.tc : Thread Cert.GlaFwdReferenceIdeal.nD Cert.GlaFwdReferenceIdeal.τ).loc Cert.GlaFwdReferenceIdeal.main_arg3) = m ((c.tc : Thread Cert.GlaFwdIdeal.nD Cert.GlaFwdIdeal.τ).loc Cert.GlaFwdIdeal.main_arg3)
      ∧ m' ((c.tc : Thread Cert.GlaFwdReferenceIdeal.nD Cert.GlaFwdReferenceIdeal.τ).loc Cert.GlaFwdReferenceIdeal.main_arg4) = m ((c.tc : Thread Cert.GlaFwdIdeal.nD Cert.GlaFwdIdeal.τ).loc Cert.GlaFwdIdeal.main_arg4)
      ∧ m' ((c.tc : Thread Cert.GlaFwdReferenceIdeal.nD Cert.GlaFwdReferenceIdeal.τ).loc Cert.GlaFwdReferenceIdeal.main_arg5) = m ((c.tc : Thread Cert.GlaFwdIdeal.nD Cert.GlaFwdIdeal.τ).loc Cert.GlaFwdIdeal.main_arg5)
      ∧ m' ((c.tc : Thread Cert.GlaFwdReferenceIdeal.nD Cert.GlaFwdReferenceIdeal.τ).loc Cert.GlaFwdReferenceIdeal.main_arg6) = m ((c.tc : Thread Cert.GlaFwdIdeal.nD Cert.GlaFwdIdeal.τ).loc Cert.GlaFwdIdeal.main_arg6)
      ∧ m' ((c.tc : Thread Cert.GlaFwdReferenceIdeal.nD Cert.GlaFwdReferenceIdeal.τ).loc Cert.GlaFwdReferenceIdeal.main_arg7) = m ((c.tc : Thread Cert.GlaFwdIdeal.nD Cert.GlaFwdIdeal.τ).loc Cert.GlaFwdIdeal.main_arg7)) →
    ∃ (v0 : (c : Dev Cert.GlaFwdIdeal.nD) → Buf (Elt Ideal) ((c.tc : Thread Cert.GlaFwdIdeal.nD Cert.GlaFwdIdeal.τ).loc Cert.GlaFwdIdeal.main_v10)),
      θ_run (Cert.GlaFwdIdeal.defs (F := Ideal)) (onTc (τ := Cert.GlaFwdIdeal.τ) (Cert.GlaFwdIdeal.main (F := Ideal))) ⟨m, fun _ => 0, g⟩ (fun r => ∀ c : Dev Cert.GlaFwdIdeal.nD,
          r.2.mem ((c.tc : Thread Cert.GlaFwdIdeal.nD Cert.GlaFwdIdeal.τ).loc Cert.GlaFwdIdeal.main_v10) = v0 c
          ∧ r.2.mem ((c.tc : Thread Cert.GlaFwdIdeal.nD Cert.GlaFwdIdeal.τ).loc Cert.GlaFwdIdeal.main_arg0) = m ((c.tc : Thread Cert.GlaFwdIdeal.nD Cert.GlaFwdIdeal.τ).loc Cert.GlaFwdIdeal.main_arg0)
          ∧ r.2.mem ((c.tc : Thread Cert.GlaFwdIdeal.nD Cert.GlaFwdIdeal.τ).loc Cert.GlaFwdIdeal.main_arg1) = m ((c.tc : Thread Cert.GlaFwdIdeal.nD Cert.GlaFwdIdeal.τ).loc Cert.GlaFwdIdeal.main_arg1)
          ∧ r.2.mem ((c.tc : Thread Cert.GlaFwdIdeal.nD Cert.GlaFwdIdeal.τ).loc Cert.GlaFwdIdeal.main_arg2) = m ((c.tc : Thread Cert.GlaFwdIdeal.nD Cert.GlaFwdIdeal.τ).loc Cert.GlaFwdIdeal.main_arg2)
          ∧ r.2.mem ((c.tc : Thread Cert.GlaFwdIdeal.nD Cert.GlaFwdIdeal.τ).loc Cert.GlaFwdIdeal.main_arg3) = m ((c.tc : Thread Cert.GlaFwdIdeal.nD Cert.GlaFwdIdeal.τ).loc Cert.GlaFwdIdeal.main_arg3)
          ∧ r.2.mem ((c.tc : Thread Cert.GlaFwdIdeal.nD Cert.GlaFwdIdeal.τ).loc Cert.GlaFwdIdeal.main_arg4) = m ((c.tc : Thread Cert.GlaFwdIdeal.nD Cert.GlaFwdIdeal.τ).loc Cert.GlaFwdIdeal.main_arg4)
          ∧ r.2.mem ((c.tc : Thread Cert.GlaFwdIdeal.nD Cert.GlaFwdIdeal.τ).loc Cert.GlaFwdIdeal.main_arg5) = m ((c.tc : Thread Cert.GlaFwdIdeal.nD Cert.GlaFwdIdeal.τ).loc Cert.GlaFwdIdeal.main_arg5)
          ∧ r.2.mem ((c.tc : Thread Cert.GlaFwdIdeal.nD Cert.GlaFwdIdeal.τ).loc Cert.GlaFwdIdeal.main_arg6) = m ((c.tc : Thread Cert.GlaFwdIdeal.nD Cert.GlaFwdIdeal.τ).loc Cert.GlaFwdIdeal.main_arg6)
          ∧ r.2.mem ((c.tc : Thread Cert.GlaFwdIdeal.nD Cert.GlaFwdIdeal.τ).loc Cert.GlaFwdIdeal.main_arg7) = m ((c.tc : Thread Cert.GlaFwdIdeal.nD Cert.GlaFwdIdeal.τ).loc Cert.GlaFwdIdeal.main_arg7))
      ∧ θ_run (Cert.GlaFwdReferenceIdeal.defs (F := Ideal)) (onTc (τ := Cert.GlaFwdReferenceIdeal.τ) (Cert.GlaFwdReferenceIdeal.main (F := Ideal))) ⟨m', fun _ => 0, g'⟩ (fun r => ∀ c : Dev Cert.GlaFwdReferenceIdeal.nD,
          r.2.mem ((c.tc : Thread Cert.GlaFwdReferenceIdeal.nD Cert.GlaFwdReferenceIdeal.τ).loc Cert.GlaFwdReferenceIdeal.main_v66) = v0 c
          ∧ r.2.mem ((c.tc : Thread Cert.GlaFwdReferenceIdeal.nD Cert.GlaFwdReferenceIdeal.τ).loc Cert.GlaFwdReferenceIdeal.main_arg0) = m' ((c.tc : Thread Cert.GlaFwdReferenceIdeal.nD Cert.GlaFwdReferenceIdeal.τ).loc Cert.GlaFwdReferenceIdeal.main_arg0)
          ∧ r.2.mem ((c.tc : Thread Cert.GlaFwdReferenceIdeal.nD Cert.GlaFwdReferenceIdeal.τ).loc Cert.GlaFwdReferenceIdeal.main_arg1) = m' ((c.tc : Thread Cert.GlaFwdReferenceIdeal.nD Cert.GlaFwdReferenceIdeal.τ).loc Cert.GlaFwdReferenceIdeal.main_arg1)
          ∧ r.2.mem ((c.tc : Thread Cert.GlaFwdReferenceIdeal.nD Cert.GlaFwdReferenceIdeal.τ).loc Cert.GlaFwdReferenceIdeal.main_arg2) = m' ((c.tc : Thread Cert.GlaFwdReferenceIdeal.nD Cert.GlaFwdReferenceIdeal.τ).loc Cert.GlaFwdReferenceIdeal.main_arg2)
          ∧ r.2.mem ((c.tc : Thread Cert.GlaFwdReferenceIdeal.nD Cert.GlaFwdReferenceIdeal.τ).loc Cert.GlaFwdReferenceIdeal.main_arg3) = m' ((c.tc : Thread Cert.GlaFwdReferenceIdeal.nD Cert.GlaFwdReferenceIdeal.τ).loc Cert.GlaFwdReferenceIdeal.main_arg3)
          ∧ r.2.mem ((c.tc : Thread Cert.GlaFwdReferenceIdeal.nD Cert.GlaFwdReferenceIdeal.τ).loc Cert.GlaFwdReferenceIdeal.main_arg4) = m' ((c.tc : Thread Cert.GlaFwdReferenceIdeal.nD Cert.GlaFwdReferenceIdeal.τ).loc Cert.GlaFwdReferenceIdeal.main_arg4)
          ∧ r.2.mem ((c.tc : Thread Cert.GlaFwdReferenceIdeal.nD Cert.GlaFwdReferenceIdeal.τ).loc Cert.GlaFwdReferenceIdeal.main_arg5) = m' ((c.tc : Thread Cert.GlaFwdReferenceIdeal.nD Cert.GlaFwdReferenceIdeal.τ).loc Cert.GlaFwdReferenceIdeal.main_arg5)
          ∧ r.2.mem ((c.tc : Thread Cert.GlaFwdReferenceIdeal.nD Cert.GlaFwdReferenceIdeal.τ).loc Cert.GlaFwdReferenceIdeal.main_arg6) = m' ((c.tc : Thread Cert.GlaFwdReferenceIdeal.nD Cert.GlaFwdReferenceIdeal.τ).loc Cert.GlaFwdReferenceIdeal.main_arg6)
          ∧ r.2.mem ((c.tc : Thread Cert.GlaFwdReferenceIdeal.nD Cert.GlaFwdReferenceIdeal.τ).loc Cert.GlaFwdReferenceIdeal.main_arg7) = m' ((c.tc : Thread Cert.GlaFwdReferenceIdeal.nD Cert.GlaFwdReferenceIdeal.τ).loc Cert.GlaFwdReferenceIdeal.main_arg7))

def Claim : Prop :=
  ∃ (hKernel : Cert.Kernel.Facts) (hKernelIdeal : Cert.KernelIdeal.Facts) (hReferenceIdeal : Cert.ReferenceIdeal.Facts) (hDwinAtt : Cert.DwinAtt.Facts) (hDwinAttIdeal : Cert.DwinAttIdeal.Facts) (hDwinAttReferenceIdeal : Cert.DwinAttReferenceIdeal.Facts) (hDwinGla : Cert.DwinGla.Facts) (hDwinGlaIdeal : Cert.DwinGlaIdeal.Facts) (hDwinGlaReferenceIdeal : Cert.DwinGlaReferenceIdeal.Facts) (hDwinGate : Cert.DwinGate.Facts) (hDwinGateIdeal : Cert.DwinGateIdeal.Facts) (hDwinGateReferenceIdeal : Cert.DwinGateReferenceIdeal.Facts) (hDwoutGla : Cert.DwoutGla.Facts) (hDwoutGlaIdeal : Cert.DwoutGlaIdeal.Facts) (hDwoutGlaReferenceIdeal : Cert.DwoutGlaReferenceIdeal.Facts) (hDwoutAtt : Cert.DwoutAtt.Facts) (hDwoutAttIdeal : Cert.DwoutAttIdeal.Facts) (hDwoutAttReferenceIdeal : Cert.DwoutAttReferenceIdeal.Facts) (hPostBwd : Cert.PostBwd.Facts) (hPostBwdIdeal : Cert.PostBwdIdeal.Facts) (hPostBwdReferenceIdeal : Cert.PostBwdReferenceIdeal.Facts) (hDh : Cert.Dh.Facts) (hDhIdeal : Cert.DhIdeal.Facts) (hDhReferenceIdeal : Cert.DhReferenceIdeal.Facts) (hInproj : Cert.Inproj.Facts) (hInprojIdeal : Cert.InprojIdeal.Facts) (hInprojReferenceIdeal : Cert.InprojReferenceIdeal.Facts) (hOutproj : Cert.Outproj.Facts) (hOutprojIdeal : Cert.OutprojIdeal.Facts) (hOutprojReferenceIdeal : Cert.OutprojReferenceIdeal.Facts) (hAttFwd : Cert.AttFwd.Facts) (hAttFwdIdeal : Cert.AttFwdIdeal.Facts) (hAttFwdReferenceIdeal : Cert.AttFwdReferenceIdeal.Facts) (hGlaFwd : Cert.GlaFwd.Facts) (hGlaFwdIdeal : Cert.GlaFwdIdeal.Facts) (hGlaFwdReferenceIdeal : Cert.GlaFwdReferenceIdeal.Facts) (hPre_finite : Cert.Pre_finite.Facts) (hPre_finite_post : Cert.Pre_finite_post.Facts) (hPre_finite_dh : Cert.Pre_finite_dh.Facts) (hPre_finite_att : Cert.Pre_finite_att.Facts) (hPre_finite_gla : Cert.Pre_finite_gla.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_DwinAtt (hDwinAtt := hDwinAtt)
    ∧ quiescent_DwinAttIdeal (hDwinAttIdeal := hDwinAttIdeal)
    ∧ quiescent_DwinAttReferenceIdeal (hDwinAttReferenceIdeal := hDwinAttReferenceIdeal)
    ∧ quiescent_DwinGla (hDwinGla := hDwinGla)
    ∧ quiescent_DwinGlaIdeal (hDwinGlaIdeal := hDwinGlaIdeal)
    ∧ quiescent_DwinGlaReferenceIdeal (hDwinGlaReferenceIdeal := hDwinGlaReferenceIdeal)
    ∧ quiescent_DwinGate (hDwinGate := hDwinGate)
    ∧ quiescent_DwinGateIdeal (hDwinGateIdeal := hDwinGateIdeal)
    ∧ quiescent_DwinGateReferenceIdeal (hDwinGateReferenceIdeal := hDwinGateReferenceIdeal)
    ∧ quiescent_DwoutGla (hDwoutGla := hDwoutGla)
    ∧ quiescent_DwoutGlaIdeal (hDwoutGlaIdeal := hDwoutGlaIdeal)
    ∧ quiescent_DwoutGlaReferenceIdeal (hDwoutGlaReferenceIdeal := hDwoutGlaReferenceIdeal)
    ∧ quiescent_DwoutAtt (hDwoutAtt := hDwoutAtt)
    ∧ quiescent_DwoutAttIdeal (hDwoutAttIdeal := hDwoutAttIdeal)
    ∧ quiescent_DwoutAttReferenceIdeal (hDwoutAttReferenceIdeal := hDwoutAttReferenceIdeal)
    ∧ quiescent_PostBwd (hPostBwd := hPostBwd)
    ∧ quiescent_PostBwdIdeal (hPostBwdIdeal := hPostBwdIdeal)
    ∧ quiescent_PostBwdIdeal_pre_finite_post (hPostBwdIdeal := hPostBwdIdeal) (hPre_finite_post := hPre_finite_post)
    ∧ quiescent_PostBwdReferenceIdeal (hPostBwdReferenceIdeal := hPostBwdReferenceIdeal)
    ∧ quiescent_PostBwdReferenceIdeal_pre_finite_post (hPostBwdReferenceIdeal := hPostBwdReferenceIdeal) (hPre_finite_post := hPre_finite_post)
    ∧ quiescent_Dh (hDh := hDh)
    ∧ quiescent_DhIdeal (hDhIdeal := hDhIdeal)
    ∧ quiescent_DhIdeal_pre_finite_dh (hDhIdeal := hDhIdeal) (hPre_finite_dh := hPre_finite_dh)
    ∧ quiescent_DhReferenceIdeal (hDhReferenceIdeal := hDhReferenceIdeal)
    ∧ quiescent_DhReferenceIdeal_pre_finite_dh (hDhReferenceIdeal := hDhReferenceIdeal) (hPre_finite_dh := hPre_finite_dh)
    ∧ quiescent_Inproj (hInproj := hInproj)
    ∧ quiescent_InprojIdeal (hInprojIdeal := hInprojIdeal)
    ∧ quiescent_InprojReferenceIdeal (hInprojReferenceIdeal := hInprojReferenceIdeal)
    ∧ quiescent_Outproj (hOutproj := hOutproj)
    ∧ quiescent_OutprojIdeal (hOutprojIdeal := hOutprojIdeal)
    ∧ quiescent_OutprojReferenceIdeal (hOutprojReferenceIdeal := hOutprojReferenceIdeal)
    ∧ quiescent_AttFwd (hAttFwd := hAttFwd)
    ∧ quiescent_AttFwdIdeal (hAttFwdIdeal := hAttFwdIdeal)
    ∧ quiescent_AttFwdIdeal_pre_finite_att (hAttFwdIdeal := hAttFwdIdeal) (hPre_finite_att := hPre_finite_att)
    ∧ quiescent_AttFwdReferenceIdeal (hAttFwdReferenceIdeal := hAttFwdReferenceIdeal)
    ∧ quiescent_AttFwdReferenceIdeal_pre_finite_att (hAttFwdReferenceIdeal := hAttFwdReferenceIdeal) (hPre_finite_att := hPre_finite_att)
    ∧ quiescent_GlaFwd (hGlaFwd := hGlaFwd)
    ∧ quiescent_GlaFwdIdeal (hGlaFwdIdeal := hGlaFwdIdeal)
    ∧ quiescent_GlaFwdIdeal_pre_finite_gla (hGlaFwdIdeal := hGlaFwdIdeal) (hPre_finite_gla := hPre_finite_gla)
    ∧ quiescent_GlaFwdReferenceIdeal (hGlaFwdReferenceIdeal := hGlaFwdReferenceIdeal)
    ∧ quiescent_GlaFwdReferenceIdeal_pre_finite_gla (hGlaFwdReferenceIdeal := hGlaFwdReferenceIdeal) (hPre_finite_gla := hPre_finite_gla)
    ∧ preserves_Kernel_KernelIdeal
    ∧ algebraic_KernelIdeal_ReferenceIdeal_pre_finite (hKernelIdeal := hKernelIdeal) (hReferenceIdeal := hReferenceIdeal) (hPre_finite := hPre_finite)
    ∧ preserves_DwinAtt_DwinAttIdeal
    ∧ algebraic_DwinAttIdeal_DwinAttReferenceIdeal (hDwinAttIdeal := hDwinAttIdeal) (hDwinAttReferenceIdeal := hDwinAttReferenceIdeal)
    ∧ preserves_DwinGla_DwinGlaIdeal
    ∧ algebraic_DwinGlaIdeal_DwinGlaReferenceIdeal (hDwinGlaIdeal := hDwinGlaIdeal) (hDwinGlaReferenceIdeal := hDwinGlaReferenceIdeal)
    ∧ preserves_DwinGate_DwinGateIdeal
    ∧ algebraic_DwinGateIdeal_DwinGateReferenceIdeal (hDwinGateIdeal := hDwinGateIdeal) (hDwinGateReferenceIdeal := hDwinGateReferenceIdeal)
    ∧ preserves_DwoutGla_DwoutGlaIdeal
    ∧ algebraic_DwoutGlaIdeal_DwoutGlaReferenceIdeal (hDwoutGlaIdeal := hDwoutGlaIdeal) (hDwoutGlaReferenceIdeal := hDwoutGlaReferenceIdeal)
    ∧ preserves_DwoutAtt_DwoutAttIdeal
    ∧ algebraic_DwoutAttIdeal_DwoutAttReferenceIdeal (hDwoutAttIdeal := hDwoutAttIdeal) (hDwoutAttReferenceIdeal := hDwoutAttReferenceIdeal)
    ∧ preserves_PostBwd_PostBwdIdeal
    ∧ algebraic_PostBwdIdeal_PostBwdReferenceIdeal_pre_finite_post (hPostBwdIdeal := hPostBwdIdeal) (hPostBwdReferenceIdeal := hPostBwdReferenceIdeal) (hPre_finite_post := hPre_finite_post)
    ∧ preserves_Dh_DhIdeal
    ∧ algebraic_DhIdeal_DhReferenceIdeal_pre_finite_dh (hDhIdeal := hDhIdeal) (hDhReferenceIdeal := hDhReferenceIdeal) (hPre_finite_dh := hPre_finite_dh)
    ∧ preserves_Inproj_InprojIdeal
    ∧ algebraic_InprojIdeal_InprojReferenceIdeal (hInprojIdeal := hInprojIdeal) (hInprojReferenceIdeal := hInprojReferenceIdeal)
    ∧ preserves_Outproj_OutprojIdeal
    ∧ algebraic_OutprojIdeal_OutprojReferenceIdeal (hOutprojIdeal := hOutprojIdeal) (hOutprojReferenceIdeal := hOutprojReferenceIdeal)
    ∧ preserves_AttFwd_AttFwdIdeal
    ∧ algebraic_AttFwdIdeal_AttFwdReferenceIdeal_pre_finite_att (hAttFwdIdeal := hAttFwdIdeal) (hAttFwdReferenceIdeal := hAttFwdReferenceIdeal) (hPre_finite_att := hPre_finite_att)
    ∧ preserves_GlaFwd_GlaFwdIdeal
    ∧ algebraic_GlaFwdIdeal_GlaFwdReferenceIdeal_pre_finite_gla (hGlaFwdIdeal := hGlaFwdIdeal) (hGlaFwdReferenceIdeal := hGlaFwdReferenceIdeal) (hPre_finite_gla := hPre_finite_gla)
-- ==== Pre_finite.lean ====
abbrev S2048x512 : Shape := ⟨2, ![2048, 512]⟩
abbrev S2048x1024 : Shape := ⟨2, ![2048, 1024]⟩
abbrev S2048x16 : Shape := ⟨2, ![2048, 16]⟩
abbrev S16x512 : Shape := ⟨2, ![16, 512]⟩
abbrev S512 : Shape := ⟨1, ![512]⟩
abbrev S1024 : Shape := ⟨1, ![1024]⟩
abbrev S_ : Shape := ⟨0, ![]⟩

class Facts : Prop where
  bitsLt_bf16_f32 : FTy.bits .bf16 < FTy.bits .f32
  bcast_S_S2048x512 : S_.BroadcastsInDim S2048x512 (![] : Fin 0 → Fin S2048x512.rank)
  bcast_S_S2048x1024 : S_.BroadcastsInDim S2048x1024 (![] : Fin 0 → Fin S2048x1024.rank)
  bcast_S_S2048x16 : S_.BroadcastsInDim S2048x16 (![] : Fin 0 → Fin S2048x16.rank)
  bcast_S_S16x512 : S_.BroadcastsInDim S16x512 (![] : Fin 0 → Fin S16x512.rank)
  bcast_S_S512 : S_.BroadcastsInDim S512 (![] : Fin 0 → Fin S512.rank)
  bcast_S_S1024 : S_.BroadcastsInDim S1024 (![] : Fin 0 → Fin S1024.rank)

variable [Facts]

def fn_part1 {F : FTy → Type} [FloatOps F] (main_arg5 : FVec F S16x512 .bf16) (main_arg6 : FVec F S512 .f32) (main_arg7 : FVec F S1024 .f32) (main_arg8 : FVec F S2048x1024 .bf16) (main_v3 : IVec S2048x512 1) (main_v7 : IVec S2048x512 1) (main_v11 : IVec S2048x1024 1) (main_v15 : IVec S2048x1024 1) (main_v17 : FVec F S2048x16 .f32) (main_v18 : FVec F S2048x16 .f32) : IVec S2048x512 1 × IVec S2048x512 1 × IVec S2048x1024 1 × IVec S2048x1024 1 × IVec S2048x16 1 × IVec S16x512 1 × IVec S512 1 × IVec S1024 1 × IVec S2048x1024 1 :=
  let main_v19 : IVec S2048x16 1 := cmpf .olt main_v17 main_v18
  let main_v20 : FVec F S16x512 .f32 := (extf .f32 · bitsLt_bf16_f32) main_arg5
  let main_v21 : FVec F S16x512 .f32 := Host.absf main_v20
  let main_cst_4 : FVec F S_ .f32 := constant S_ .f32 0x7F800000#32
  let main_v22 : FVec F S16x512 .f32 := broadcastInDim S16x512 ![] bcast_S_S16x512 main_cst_4
  let main_v23 : IVec S16x512 1 := cmpf .olt main_v21 main_v22
  let main_v24 : FVec F S512 .f32 := Host.absf main_arg6
  let main_cst_5 : FVec F S_ .f32 := constant S_ .f32 0x7F800000#32
  let main_v25 : FVec F S512 .f32 := broadcastInDim S512 ![] bcast_S_S512 main_cst_5
  let main_v26 : IVec S512 1 := cmpf .olt main_v24 main_v25
  let main_v27 : FVec F S1024 .f32 := Host.absf main_arg7
  let main_cst_6 : FVec F S_ .f32 := constant S_ .f32 0x7F800000#32
  let main_v28 : FVec F S1024 .f32 := broadcastInDim S1024 ![] bcast_S_S1024 main_cst_6
  let main_v29 : IVec S1024 1 := cmpf .olt main_v27 main_v28
  let main_v30 : FVec F S2048x1024 .f32 := (extf .f32 · bitsLt_bf16_f32) main_arg8
  let main_v31 : FVec F S2048x1024 .f32 := Host.absf main_v30
  let main_cst_7 : FVec F S_ .f32 := constant S_ .f32 0x7F800000#32
  let main_v32 : FVec F S2048x1024 .f32 := broadcastInDim S2048x1024 ![] bcast_S_S2048x1024 main_cst_7
  let main_v33 : IVec S2048x1024 1 := cmpf .olt main_v31 main_v32
  (main_v3, main_v7, main_v11, main_v15, main_v19, main_v23, main_v26, main_v29, main_v33)

def fn {F : FTy → Type} [FloatOps F] (main_arg0 : FVec F S2048x512 .bf16) (main_arg1 : FVec F S2048x512 .bf16) (main_arg2 : FVec F S2048x1024 .bf16) (main_arg3 : FVec F S2048x1024 .bf16) (main_arg4 : FVec F S2048x16 .bf16) (main_arg5 : FVec F S16x512 .bf16) (main_arg6 : FVec F S512 .f32) (main_arg7 : FVec F S1024 .f32) (main_arg8 : FVec F S2048x1024 .bf16) : IVec S2048x512 1 × IVec S2048x512 1 × IVec S2048x1024 1 × IVec S2048x1024 1 × IVec S2048x16 1 × IVec S16x512 1 × IVec S512 1 × IVec S1024 1 × IVec S2048x1024 1 :=
  let main_v0 : FVec F S2048x512 .f32 := (extf .f32 · bitsLt_bf16_f32) main_arg0
  let main_v1 : FVec F S2048x512 .f32 := Host.absf main_v0
  let main_cst : FVec F S_ .f32 := constant S_ .f32 0x7F800000#32
  let main_v2 : FVec F S2048x512 .f32 := broadcastInDim S2048x512 ![] bcast_S_S2048x512 main_cst
  let main_v3 : IVec S2048x512 1 := cmpf .olt main_v1 main_v2
  let main_v4 : FVec F S2048x512 .f32 := (extf .f32 · bitsLt_bf16_f32) main_arg1
  let main_v5 : FVec F S2048x512 .f32 := Host.absf main_v4
  let main_cst_0 : FVec F S_ .f32 := constant S_ .f32 0x7F800000#32
  let main_v6 : FVec F S2048x512 .f32 := broadcastInDim S2048x512 ![] bcast_S_S2048x512 main_cst_0
  let main_v7 : IVec S2048x512 1 := cmpf .olt main_v5 main_v6
  let main_v8 : FVec F S2048x1024 .f32 := (extf .f32 · bitsLt_bf16_f32) main_arg2
  let main_v9 : FVec F S2048x1024 .f32 := Host.absf main_v8
  let main_cst_1 : FVec F S_ .f32 := constant S_ .f32 0x7F800000#32
  let main_v10 : FVec F S2048x1024 .f32 := broadcastInDim S2048x1024 ![] bcast_S_S2048x1024 main_cst_1
  let main_v11 : IVec S2048x1024 1 := cmpf .olt main_v9 main_v10
  let main_v12 : FVec F S2048x1024 .f32 := (extf .f32 · bitsLt_bf16_f32) main_arg3
  let main_v13 : FVec F S2048x1024 .f32 := Host.absf main_v12
  let main_cst_2 : FVec F S_ .f32 := constant S_ .f32 0x7F800000#32
  let main_v14 : FVec F S2048x1024 .f32 := broadcastInDim S2048x1024 ![] bcast_S_S2048x1024 main_cst_2
  let main_v15 : IVec S2048x1024 1 := cmpf .olt main_v13 main_v14
  let main_v16 : FVec F S2048x16 .f32 := (extf .f32 · bitsLt_bf16_f32) main_arg4
  let main_v17 : FVec F S2048x16 .f32 := Host.absf main_v16
  let main_cst_3 : FVec F S_ .f32 := constant S_ .f32 0x7F800000#32
  let main_v18 : FVec F S2048x16 .f32 := broadcastInDim S2048x16 ![] bcast_S_S2048x16 main_cst_3
  fn_part1 (F := F) main_arg5 main_arg6 main_arg7 main_arg8 main_v3 main_v7 main_v11 main_v15 main_v17 main_v18
-- ==== Pre_finite_att.lean ====
abbrev S2048x1024 : Shape := ⟨2, ![2048, 1024]⟩
abbrev S8x257 : Shape := ⟨2, ![8, 257]⟩
abbrev S1024 : Shape := ⟨1, ![1024]⟩
abbrev S_ : Shape := ⟨0, ![]⟩

class Facts : Prop where
  bitsLt_bf16_f32 : FTy.bits .bf16 < FTy.bits .f32
  bcast_S_S2048x1024 : S_.BroadcastsInDim S2048x1024 (![] : Fin 0 → Fin S2048x1024.rank)
  bcast_S_S8x257 : S_.BroadcastsInDim S8x257 (![] : Fin 0 → Fin S8x257.rank)

variable [Facts]

def fn {F : FTy → Type} [FloatOps F] (main_arg0 : FVec F S2048x1024 .bf16) (main_arg1 : FVec F S2048x1024 .bf16) (main_arg2 : FVec F S2048x1024 .bf16) (main_arg3 : FVec F S2048x1024 .bf16) (main_arg4 : FVec F S8x257 .f32) (main_arg5 : FVec F S1024 .f32) : IVec S2048x1024 1 × IVec S2048x1024 1 × IVec S8x257 1 :=
  let main_v0 : FVec F S2048x1024 .f32 := (extf .f32 · bitsLt_bf16_f32) main_arg0
  let main_v1 : FVec F S2048x1024 .f32 := Host.absf main_v0
  let main_cst : FVec F S_ .f32 := constant S_ .f32 0x7F800000#32
  let main_v2 : FVec F S2048x1024 .f32 := broadcastInDim S2048x1024 ![] bcast_S_S2048x1024 main_cst
  let main_v3 : IVec S2048x1024 1 := cmpf .olt main_v1 main_v2
  let main_v4 : FVec F S2048x1024 .f32 := (extf .f32 · bitsLt_bf16_f32) main_arg1
  let main_v5 : FVec F S2048x1024 .f32 := Host.absf main_v4
  let main_cst_0 : FVec F S_ .f32 := constant S_ .f32 0x7F800000#32
  let main_v6 : FVec F S2048x1024 .f32 := broadcastInDim S2048x1024 ![] bcast_S_S2048x1024 main_cst_0
  let main_v7 : IVec S2048x1024 1 := cmpf .olt main_v5 main_v6
  let main_v8 : FVec F S8x257 .f32 := Host.absf main_arg4
  let main_cst_1 : FVec F S_ .f32 := constant S_ .f32 0x7F800000#32
  let main_v9 : FVec F S8x257 .f32 := broadcastInDim S8x257 ![] bcast_S_S8x257 main_cst_1
  let main_v10 : IVec S8x257 1 := cmpf .olt main_v8 main_v9
  (main_v3, main_v7, main_v10)
-- ==== Pre_finite_dh.lean ====
abbrev S2048x3072 : Shape := ⟨2, ![2048, 3072]⟩
abbrev S2048x4096 : Shape := ⟨2, ![2048, 4096]⟩
abbrev S2048x128 : Shape := ⟨2, ![2048, 128]⟩
abbrev S7168x2048 : Shape := ⟨2, ![7168, 2048]⟩
abbrev S128x2048 : Shape := ⟨2, ![128, 2048]⟩
abbrev S2048x2048 : Shape := ⟨2, ![2048, 2048]⟩
abbrev S1x2048 : Shape := ⟨2, ![1, 2048]⟩
abbrev S_ : Shape := ⟨0, ![]⟩

class Facts : Prop where
  bitsLt_bf16_f32 : FTy.bits .bf16 < FTy.bits .f32
  bcast_S_S2048x3072 : S_.BroadcastsInDim S2048x3072 (![] : Fin 0 → Fin S2048x3072.rank)
  bcast_S_S2048x4096 : S_.BroadcastsInDim S2048x4096 (![] : Fin 0 → Fin S2048x4096.rank)
  bcast_S_S2048x128 : S_.BroadcastsInDim S2048x128 (![] : Fin 0 → Fin S2048x128.rank)
  bcast_S_S7168x2048 : S_.BroadcastsInDim S7168x2048 (![] : Fin 0 → Fin S7168x2048.rank)
  bcast_S_S128x2048 : S_.BroadcastsInDim S128x2048 (![] : Fin 0 → Fin S128x2048.rank)
  bcast_S_S2048x2048 : S_.BroadcastsInDim S2048x2048 (![] : Fin 0 → Fin S2048x2048.rank)
  bcast_S_S1x2048 : S_.BroadcastsInDim S1x2048 (![] : Fin 0 → Fin S1x2048.rank)

variable [Facts]

def fn_part1 {F : FTy → Type} [FloatOps F] (main_arg5 : FVec F S2048x2048 .f32) (main_arg7 : FVec F S1x2048 .f32) (main_v3 : IVec S2048x3072 1) (main_v7 : IVec S2048x4096 1) (main_v11 : IVec S2048x128 1) (main_v15 : IVec S7168x2048 1) (main_v17 : FVec F S128x2048 .f32) (main_v18 : FVec F S128x2048 .f32) : IVec S2048x3072 1 × IVec S2048x4096 1 × IVec S2048x128 1 × IVec S7168x2048 1 × IVec S128x2048 1 × IVec S2048x2048 1 × IVec S1x2048 1 :=
  let main_v19 : IVec S128x2048 1 := cmpf .olt main_v17 main_v18
  let main_v20 : FVec F S2048x2048 .f32 := Host.absf main_arg5
  let main_cst_4 : FVec F S_ .f32 := constant S_ .f32 0x7F800000#32
  let main_v21 : FVec F S2048x2048 .f32 := broadcastInDim S2048x2048 ![] bcast_S_S2048x2048 main_cst_4
  let main_v22 : IVec S2048x2048 1 := cmpf .olt main_v20 main_v21
  let main_v23 : FVec F S1x2048 .f32 := Host.absf main_arg7
  let main_cst_5 : FVec F S_ .f32 := constant S_ .f32 0x7F800000#32
  let main_v24 : FVec F S1x2048 .f32 := broadcastInDim S1x2048 ![] bcast_S_S1x2048 main_cst_5
  let main_v25 : IVec S1x2048 1 := cmpf .olt main_v23 main_v24
  (main_v3, main_v7, main_v11, main_v15, main_v19, main_v22, main_v25)

def fn {F : FTy → Type} [FloatOps F] (main_arg0 : FVec F S2048x3072 .bf16) (main_arg1 : FVec F S2048x4096 .bf16) (main_arg2 : FVec F S2048x128 .bf16) (main_arg3 : FVec F S7168x2048 .bf16) (main_arg4 : FVec F S128x2048 .bf16) (main_arg5 : FVec F S2048x2048 .f32) (main_arg6 : FVec F S2048x2048 .f32) (main_arg7 : FVec F S1x2048 .f32) : IVec S2048x3072 1 × IVec S2048x4096 1 × IVec S2048x128 1 × IVec S7168x2048 1 × IVec S128x2048 1 × IVec S2048x2048 1 × IVec S1x2048 1 :=
  let main_v0 : FVec F S2048x3072 .f32 := (extf .f32 · bitsLt_bf16_f32) main_arg0
  let main_v1 : FVec F S2048x3072 .f32 := Host.absf main_v0
  let main_cst : FVec F S_ .f32 := constant S_ .f32 0x7F800000#32
  let main_v2 : FVec F S2048x3072 .f32 := broadcastInDim S2048x3072 ![] bcast_S_S2048x3072 main_cst
  let main_v3 : IVec S2048x3072 1 := cmpf .olt main_v1 main_v2
  let main_v4 : FVec F S2048x4096 .f32 := (extf .f32 · bitsLt_bf16_f32) main_arg1
  let main_v5 : FVec F S2048x4096 .f32 := Host.absf main_v4
  let main_cst_0 : FVec F S_ .f32 := constant S_ .f32 0x7F800000#32
  let main_v6 : FVec F S2048x4096 .f32 := broadcastInDim S2048x4096 ![] bcast_S_S2048x4096 main_cst_0
  let main_v7 : IVec S2048x4096 1 := cmpf .olt main_v5 main_v6
  let main_v8 : FVec F S2048x128 .f32 := (extf .f32 · bitsLt_bf16_f32) main_arg2
  let main_v9 : FVec F S2048x128 .f32 := Host.absf main_v8
  let main_cst_1 : FVec F S_ .f32 := constant S_ .f32 0x7F800000#32
  let main_v10 : FVec F S2048x128 .f32 := broadcastInDim S2048x128 ![] bcast_S_S2048x128 main_cst_1
  let main_v11 : IVec S2048x128 1 := cmpf .olt main_v9 main_v10
  let main_v12 : FVec F S7168x2048 .f32 := (extf .f32 · bitsLt_bf16_f32) main_arg3
  let main_v13 : FVec F S7168x2048 .f32 := Host.absf main_v12
  let main_cst_2 : FVec F S_ .f32 := constant S_ .f32 0x7F800000#32
  let main_v14 : FVec F S7168x2048 .f32 := broadcastInDim S7168x2048 ![] bcast_S_S7168x2048 main_cst_2
  let main_v15 : IVec S7168x2048 1 := cmpf .olt main_v13 main_v14
  let main_v16 : FVec F S128x2048 .f32 := (extf .f32 · bitsLt_bf16_f32) main_arg4
  let main_v17 : FVec F S128x2048 .f32 := Host.absf main_v16
  let main_cst_3 : FVec F S_ .f32 := constant S_ .f32 0x7F800000#32
  let main_v18 : FVec F S128x2048 .f32 := broadcastInDim S128x2048 ![] bcast_S_S128x2048 main_cst_3
  fn_part1 (F := F) main_arg5 main_arg7 main_v3 main_v7 main_v11 main_v15 main_v17 main_v18
-- ==== Pre_finite_gla.lean ====
abbrev S2048x512 : Shape := ⟨2, ![2048, 512]⟩
abbrev S2048x1024 : Shape := ⟨2, ![2048, 1024]⟩
abbrev S2048x16 : Shape := ⟨2, ![2048, 16]⟩
abbrev S16x512 : Shape := ⟨2, ![16, 512]⟩
abbrev S512 : Shape := ⟨1, ![512]⟩
abbrev S1024 : Shape := ⟨1, ![1024]⟩
abbrev S_ : Shape := ⟨0, ![]⟩

class Facts : Prop where
  bitsLt_bf16_f32 : FTy.bits .bf16 < FTy.bits .f32
  bcast_S_S2048x512 : S_.BroadcastsInDim S2048x512 (![] : Fin 0 → Fin S2048x512.rank)
  bcast_S_S2048x1024 : S_.BroadcastsInDim S2048x1024 (![] : Fin 0 → Fin S2048x1024.rank)
  bcast_S_S2048x16 : S_.BroadcastsInDim S2048x16 (![] : Fin 0 → Fin S2048x16.rank)
  bcast_S_S16x512 : S_.BroadcastsInDim S16x512 (![] : Fin 0 → Fin S16x512.rank)
  bcast_S_S512 : S_.BroadcastsInDim S512 (![] : Fin 0 → Fin S512.rank)
  bcast_S_S1024 : S_.BroadcastsInDim S1024 (![] : Fin 0 → Fin S1024.rank)

variable [Facts]

def fn_part1 {F : FTy → Type} [FloatOps F] (main_arg5 : FVec F S16x512 .bf16) (main_arg6 : FVec F S512 .f32) (main_arg7 : FVec F S1024 .f32) (main_v3 : IVec S2048x512 1) (main_v7 : IVec S2048x512 1) (main_v11 : IVec S2048x1024 1) (main_v15 : IVec S2048x1024 1) (main_v17 : FVec F S2048x16 .f32) (main_v18 : FVec F S2048x16 .f32) : IVec S2048x512 1 × IVec S2048x512 1 × IVec S2048x1024 1 × IVec S2048x1024 1 × IVec S2048x16 1 × IVec S16x512 1 × IVec S512 1 × IVec S1024 1 :=
  let main_v19 : IVec S2048x16 1 := cmpf .olt main_v17 main_v18
  let main_v20 : FVec F S16x512 .f32 := (extf .f32 · bitsLt_bf16_f32) main_arg5
  let main_v21 : FVec F S16x512 .f32 := Host.absf main_v20
  let main_cst_4 : FVec F S_ .f32 := constant S_ .f32 0x7F800000#32
  let main_v22 : FVec F S16x512 .f32 := broadcastInDim S16x512 ![] bcast_S_S16x512 main_cst_4
  let main_v23 : IVec S16x512 1 := cmpf .olt main_v21 main_v22
  let main_v24 : FVec F S512 .f32 := Host.absf main_arg6
  let main_cst_5 : FVec F S_ .f32 := constant S_ .f32 0x7F800000#32
  let main_v25 : FVec F S512 .f32 := broadcastInDim S512 ![] bcast_S_S512 main_cst_5
  let main_v26 : IVec S512 1 := cmpf .olt main_v24 main_v25
  let main_v27 : FVec F S1024 .f32 := Host.absf main_arg7
  let main_cst_6 : FVec F S_ .f32 := constant S_ .f32 0x7F800000#32
  let main_v28 : FVec F S1024 .f32 := broadcastInDim S1024 ![] bcast_S_S1024 main_cst_6
  let main_v29 : IVec S1024 1 := cmpf .olt main_v27 main_v28
  (main_v3, main_v7, main_v11, main_v15, main_v19, main_v23, main_v26, main_v29)

def fn {F : FTy → Type} [FloatOps F] (main_arg0 : FVec F S2048x512 .bf16) (main_arg1 : FVec F S2048x512 .bf16) (main_arg2 : FVec F S2048x1024 .bf16) (main_arg3 : FVec F S2048x1024 .bf16) (main_arg4 : FVec F S2048x16 .bf16) (main_arg5 : FVec F S16x512 .bf16) (main_arg6 : FVec F S512 .f32) (main_arg7 : FVec F S1024 .f32) : IVec S2048x512 1 × IVec S2048x512 1 × IVec S2048x1024 1 × IVec S2048x1024 1 × IVec S2048x16 1 × IVec S16x512 1 × IVec S512 1 × IVec S1024 1 :=
  let main_v0 : FVec F S2048x512 .f32 := (extf .f32 · bitsLt_bf16_f32) main_arg0
  let main_v1 : FVec F S2048x512 .f32 := Host.absf main_v0
  let main_cst : FVec F S_ .f32 := constant S_ .f32 0x7F800000#32
  let main_v2 : FVec F S2048x512 .f32 := broadcastInDim S2048x512 ![] bcast_S_S2048x512 main_cst
  let main_v3 : IVec S2048x512 1 := cmpf .olt main_v1 main_v2
  let main_v4 : FVec F S2048x512 .f32 := (extf .f32 · bitsLt_bf16_f32) main_arg1
  let main_v5 : FVec F S2048x512 .f32 := Host.absf main_v4
  let main_cst_0 : FVec F S_ .f32 := constant S_ .f32 0x7F800000#32
  let main_v6 : FVec F S2048x512 .f32 := broadcastInDim S2048x512 ![] bcast_S_S2048x512 main_cst_0
  let main_v7 : IVec S2048x512 1 := cmpf .olt main_v5 main_v6
  let main_v8 : FVec F S2048x1024 .f32 := (extf .f32 · bitsLt_bf16_f32) main_arg2
  let main_v9 : FVec F S2048x1024 .f32 := Host.absf main_v8
  let main_cst_1 : FVec F S_ .f32 := constant S_ .f32 0x7F800000#32
  let main_v10 : FVec F S2048x1024 .f32 := broadcastInDim S2048x1024 ![] bcast_S_S2048x1024 main_cst_1
  let main_v11 : IVec S2048x1024 1 := cmpf .olt main_v9 main_v10
  let main_v12 : FVec F S2048x1024 .f32 := (extf .f32 · bitsLt_bf16_f32) main_arg3
  let main_v13 : FVec F S2048x1024 .f32 := Host.absf main_v12
  let main_cst_2 : FVec F S_ .f32 := constant S_ .f32 0x7F800000#32
  let main_v14 : FVec F S2048x1024 .f32 := broadcastInDim S2048x1024 ![] bcast_S_S2048x1024 main_cst_2
  let main_v15 : IVec S2048x1024 1 := cmpf .olt main_v13 main_v14
  let main_v16 : FVec F S2048x16 .f32 := (extf .f32 · bitsLt_bf16_f32) main_arg4
  let main_v17 : FVec F S2048x16 .f32 := Host.absf main_v16
  let main_cst_3 : FVec F S_ .f32 := constant S_ .f32 0x7F800000#32
  let main_v18 : FVec F S2048x16 .f32 := broadcastInDim S2048x16 ![] bcast_S_S2048x16 main_cst_3
  fn_part1 (F := F) main_arg5 main_arg6 main_arg7 main_v3 main_v7 main_v11 main_v15 main_v17 main_v18
-- ==== Pre_finite_post.lean ====
abbrev S2048x2048 : Shape := ⟨2, ![2048, 2048]⟩
abbrev S1x2048 : Shape := ⟨2, ![1, 2048]⟩
abbrev S_ : Shape := ⟨0, ![]⟩

class Facts : Prop where
  bcast_S_S2048x2048 : S_.BroadcastsInDim S2048x2048 (![] : Fin 0 → Fin S2048x2048.rank)
  bcast_S_S1x2048 : S_.BroadcastsInDim S1x2048 (![] : Fin 0 → Fin S1x2048.rank)

variable [Facts]

def fn {F : FTy → Type} [FloatOps F] (main_arg0 : FVec F S2048x2048 .f32) (main_arg1 : FVec F S2048x2048 .f32) (main_arg2 : FVec F S1x2048 .f32) (main_arg3 : FVec F S2048x2048 .bf16) : IVec S2048x2048 1 × IVec S2048x2048 1 × IVec S1x2048 1 :=
  let main_v0 : FVec F S2048x2048 .f32 := Host.absf main_arg0
  let main_cst : FVec F S_ .f32 := constant S_ .f32 0x7F800000#32
  let main_v1 : FVec F S2048x2048 .f32 := broadcastInDim S2048x2048 ![] bcast_S_S2048x2048 main_cst
  let main_v2 : IVec S2048x2048 1 := cmpf .olt main_v0 main_v1
  let main_v3 : FVec F S2048x2048 .f32 := Host.absf main_arg1
  let main_cst_0 : FVec F S_ .f32 := constant S_ .f32 0x7F800000#32
  let main_v4 : FVec F S2048x2048 .f32 := broadcastInDim S2048x2048 ![] bcast_S_S2048x2048 main_cst_0
  let main_v5 : IVec S2048x2048 1 := cmpf .olt main_v3 main_v4
  let main_v6 : FVec F S1x2048 .f32 := Host.absf main_arg2
  let main_cst_1 : FVec F S_ .f32 := constant S_ .f32 0x7F800000#32
  let main_v7 : FVec F S1x2048 .f32 := broadcastInDim S1x2048 ![] bcast_S_S1x2048 main_cst_1
  let main_v8 : IVec S1x2048 1 := cmpf .olt main_v6 main_v7
  (main_v2, main_v5, main_v8)
-- ==== Kernel.lean ====
abbrev S2048x512 : Shape := ⟨2, ![2048, 512]⟩
abbrev S2048x1024 : Shape := ⟨2, ![2048, 1024]⟩
abbrev S2048x16 : Shape := ⟨2, ![2048, 16]⟩
abbrev S16x512 : Shape := ⟨2, ![16, 512]⟩
abbrev S512 : Shape := ⟨1, ![512]⟩
abbrev S1024 : Shape := ⟨1, ![1024]⟩
abbrev S2048x4x128 : Shape := ⟨3, ![2048, 4, 128]⟩
abbrev S2048x4x256 : Shape := ⟨3, ![2048, 4, 256]⟩
abbrev S2048x4x768 : Shape := ⟨3, ![2048, 4, 768]⟩
abbrev S2048x3072 : Shape := ⟨2, ![2048, 3072]⟩
abbrev S_ : Shape := ⟨0, ![]⟩
abbrev S2048x128 : Shape := ⟨2, ![2048, 128]⟩
abbrev S128x512 : Shape := ⟨2, ![128, 512]⟩
abbrev S1x512 : Shape := ⟨2, ![1, 512]⟩
abbrev S1x1024 : Shape := ⟨2, ![1, 1024]⟩
abbrev S2048x1536 : Shape := ⟨2, ![2048, 1536]⟩
abbrev S128x256 : Shape := ⟨2, ![128, 256]⟩
abbrev S1x256 : Shape := ⟨2, ![1, 256]⟩
abbrev S2048x256 : Shape := ⟨2, ![2048, 256]⟩
abbrev S2x32x256x128 : Shape := ⟨4, ![2, 32, 256, 128]⟩
abbrev S2x256x128 : Shape := ⟨3, ![2, 256, 128]⟩
abbrev S64x64 : Shape := ⟨2, ![64, 64]⟩
abbrev S256x128 : Shape := ⟨2, ![256, 128]⟩
abbrev S64x128 : Shape := ⟨2, ![64, 128]⟩
abbrev S128 : Shape := ⟨1, ![128]⟩
abbrev S1x128 : Shape := ⟨2, ![1, 128]⟩
abbrev S64x256 : Shape := ⟨2, ![64, 256]⟩
abbrev S1x1x256x128 : Shape := ⟨4, ![1, 1, 256, 128]⟩
abbrev S64 : Shape := ⟨1, ![64]⟩
abbrev S64x1 : Shape := ⟨2, ![64, 1]⟩
abbrev S256 : Shape := ⟨1, ![256]⟩
abbrev S1x256x128 : Shape := ⟨3, ![1, 256, 128]⟩

abbrev nBuf : Space → Nat
  | .hbm => 28
  | .vmem => 27
  | .smem => 0
  | _ => 0

abbrev bufTy : (tb : Table) → Fin (tcTables nBuf tb) → BufTy
  | .hbm, ⟨0, _⟩ => ⟨S2048x512, .bf16⟩
  | .hbm, ⟨1, _⟩ => ⟨S2048x512, .bf16⟩
  | .hbm, ⟨2, _⟩ => ⟨S2048x1024, .bf16⟩
  | .hbm, ⟨3, _⟩ => ⟨S2048x1024, .bf16⟩
  | .hbm, ⟨4, _⟩ => ⟨S2048x16, .bf16⟩
  | .hbm, ⟨5, _⟩ => ⟨S16x512, .bf16⟩
  | .hbm, ⟨6, _⟩ => ⟨S512, .f32⟩
  | .hbm, ⟨7, _⟩ => ⟨S1024, .f32⟩
  | .hbm, ⟨8, _⟩ => ⟨S2048x1024, .bf16⟩
  | .hbm, ⟨9, _⟩ => ⟨S2048x4x128, .bf16⟩
  | .hbm, ⟨10, _⟩ => ⟨S2048x4x128, .bf16⟩
  | .hbm, ⟨11, _⟩ => ⟨S2048x4x256, .bf16⟩
  | .hbm, ⟨12, _⟩ => ⟨S2048x4x256, .bf16⟩
  | .hbm, ⟨13, _⟩ => ⟨S2048x4x768, .bf16⟩
  | .hbm, ⟨14, _⟩ => ⟨S2048x3072, .bf16⟩
  | .hbm, ⟨15, _⟩ => ⟨S_, .i32⟩
  | .hbm, ⟨16, _⟩ => ⟨S_, .bf16⟩
  | .hbm, ⟨17, _⟩ => ⟨S2048x128, .bf16⟩
  | .hbm, ⟨18, _⟩ => ⟨S_, .i32⟩
  | .hbm, ⟨19, _⟩ => ⟨S_, .bf16⟩
  | .hbm, ⟨20, _⟩ => ⟨S128x512, .bf16⟩
  | .hbm, ⟨21, _⟩ => ⟨S1x512, .f32⟩
  | .hbm, ⟨22, _⟩ => ⟨S1x1024, .f32⟩
  | .hbm, ⟨23, _⟩ => ⟨S2048x3072, .bf16⟩
  | .hbm, ⟨24, _⟩ => ⟨S2048x128, .bf16⟩
  | .hbm, ⟨25, _⟩ => ⟨S128x512, .f32⟩
  | .hbm, ⟨26, _⟩ => ⟨S1x512, .f32⟩
  | .hbm, ⟨27, _⟩ => ⟨S1x1024, .f32⟩
  | .local _ .vmem, ⟨0, _⟩ => ⟨S2048x1536, .bf16⟩
  | .local _ .vmem, ⟨1, _⟩ => ⟨S2048x1536, .bf16⟩
  | .local _ .vmem, ⟨2, _⟩ => ⟨S2048x128, .bf16⟩
  | .local _ .vmem, ⟨3, _⟩ => ⟨S128x256, .bf16⟩
  | .local _ .vmem, ⟨4, _⟩ => ⟨S128x256, .bf16⟩
  | .local _ .vmem, ⟨5, _⟩ => ⟨S1x256, .f32⟩
  | .local _ .vmem, ⟨6, _⟩ => ⟨S1x256, .f32⟩
  | .local _ .vmem, ⟨7, _⟩ => ⟨S1x512, .f32⟩
  | .local _ .vmem, ⟨8, _⟩ => ⟨S1x512, .f32⟩
  | .local _ .vmem, ⟨9, _⟩ => ⟨S2048x512, .bf16⟩
  | .local _ .vmem, ⟨10, _⟩ => ⟨S2048x512, .bf16⟩
  | .local _ .vmem, ⟨11, _⟩ => ⟨S2048x1536, .bf16⟩
  | .local _ .vmem, ⟨12, _⟩ => ⟨S2048x1536, .bf16⟩
  | .local _ .vmem, ⟨13, _⟩ => ⟨S2048x128, .bf16⟩
  | .local _ .vmem, ⟨14, _⟩ => ⟨S128x256, .f32⟩
  | .local _ .vmem, ⟨15, _⟩ => ⟨S128x256, .f32⟩
  | .local _ .vmem, ⟨16, _⟩ => ⟨S1x256, .f32⟩
  | .local _ .vmem, ⟨17, _⟩ => ⟨S1x256, .f32⟩
  | .local _ .vmem, ⟨18, _⟩ => ⟨S1x512, .f32⟩
  | .local _ .vmem, ⟨19, _⟩ => ⟨S1x512, .f32⟩
  | .local _ .vmem, ⟨20, _⟩ => ⟨S2048x256, .f32⟩
  | .local _ .vmem, ⟨21, _⟩ => ⟨S2048x256, .f32⟩
  | .local _ .vmem, ⟨22, _⟩ => ⟨S2x32x256x128, .f32⟩
  | .local _ .vmem, ⟨23, _⟩ => ⟨S2048x256, .f32⟩
  | .local _ .vmem, ⟨24, _⟩ => ⟨S2x256x128, .f32⟩
  | .local _ .vmem, ⟨25, _⟩ => ⟨S2048x128, .f32⟩
  | .local _ .vmem, ⟨26, _⟩ => ⟨S1x512, .f32⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_c : Ref sig .tc := ⟨.hbm, 15, rfl⟩
abbrev main_call0_v0 : Ref sig .tc := ⟨.hbm, 16, rfl⟩
abbrev main_v6 : Ref sig .tc := ⟨.hbm, 17, rfl⟩
abbrev main_c_0 : Ref sig .tc := ⟨.hbm, 18, rfl⟩
abbrev main_call1_v0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10_0 : Ref sig .tc := ⟨.hbm, 23, rfl⟩
abbrev main_v10_1 : Ref sig .tc := ⟨.hbm, 24, rfl⟩
abbrev main_v10_2 : Ref sig .tc := ⟨.hbm, 25, rfl⟩
abbrev main_v10_3 : Ref sig .tc := ⟨.hbm, 26, rfl⟩
abbrev main_v10_4 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_scratch4 : Ref sig .tc := ⟨.vmem, 24, rfl⟩
abbrev cc0_scratch5 : Ref sig .tc := ⟨.vmem, 25, rfl⟩
abbrev cc0_scratch6 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨1, ![2], ![false]⟩

@[reducible] def k0_t1_loop : Scf.Loop 32 :=
  let c0_i32 : BitVec 32 := 0#32
  let c32_i32 : BitVec 32 := 32#32
  let v62 : BitVec 32 := Scalar.addi c0_i32 c32_i32
  let c1_i32 : BitVec 32 := 1#32
  ⟨c0_i32, v62, c1_i32⟩
def k0_mult1 (k0_t1 : Fin k0_t1_loop.trips) : BitVec 32 :=
  let c0_i32 : BitVec 32 := 0#32
  let c1_i32 : BitVec 32 := 1#32
  let arg19 : BitVec 32 := Scf.iv c0_i32 c1_i32 k0_t1
  let c64_i32 : BitVec 32 := 64#32
  let v88 : BitVec 32 := Scalar.muli arg19 c64_i32
  v88
def k0_off1 (k0_t1 : Fin k0_t1_loop.trips) : Fin 2 → Nat :=
  let c0_i32 : BitVec 32 := 0#32
  let c1_i32 : BitVec 32 := 1#32
  let arg19 : BitVec 32 := Scf.iv c0_i32 c1_i32 k0_t1
  let c64_i32 : BitVec 32 := 64#32
  let v88 : BitVec 32 := Scalar.muli arg19 c64_i32
  let v89 : BitVec 32 := v88
  let v90 : Index := Scalar.indexCast v89
  let c0_59 : Index := 0#32
  ![v90.toNat, 0]
def k0_off2 (k0_t1 : Fin k0_t1_loop.trips) : Fin 2 → Nat :=
  let c0_i32 : BitVec 32 := 0#32
  let c1_i32 : BitVec 32 := 1#32
  let arg19 : BitVec 32 := Scf.iv c0_i32 c1_i32 k0_t1
  let c64_i32 : BitVec 32 := 64#32
  let v88 : BitVec 32 := Scalar.muli arg19 c64_i32
  let v89 : BitVec 32 := v88
  let v110 : Index := Scalar.indexCast v89
  let c128 : Index := 128#32
  ![v110.toNat, 128]
def k0_off3 (k0_t1 : Fin k0_t1_loop.trips) : Fin 2 → Nat :=
  let c0_i32 : BitVec 32 := 0#32
  let c1_i32 : BitVec 32 := 1#32
  let arg19 : BitVec 32 := Scf.iv c0_i32 c1_i32 k0_t1
  let c64_i32 : BitVec 32 := 64#32
  let v88 : BitVec 32 := Scalar.muli arg19 c64_i32
  let v89 : BitVec 32 := v88
  let v118 : Index := Scalar.indexCast v89
  let c256 : Index := 256#32
  ![v118.toNat, 256]
def k0_off4 (k0_t1 : Fin k0_t1_loop.trips) : Fin 4 → Nat :=
  let c0_65 : Index := 0#32
  let c0_i32 : BitVec 32 := 0#32
  let c1_i32 : BitVec 32 := 1#32
  let arg19 : BitVec 32 := Scf.iv c0_i32 c1_i32 k0_t1
  let v123 : Index := Scalar.indexCast arg19
  let c0_66 : Index := 0#32
  let c0_67 : Index := 0#32
  ![0, v123.toNat, 0, 0]
def k0_off5 (k0_t1 : Fin k0_t1_loop.trips) : Fin 2 → Nat :=
  let c0_i32 : BitVec 32 := 0#32
  let c1_i32 : BitVec 32 := 1#32
  let arg19 : BitVec 32 := Scf.iv c0_i32 c1_i32 k0_t1
  let c64_i32 : BitVec 32 := 64#32
  let v88 : BitVec 32 := Scalar.muli arg19 c64_i32
  let v89 : BitVec 32 := v88
  let v127 : Index := Scalar.indexCast v89
  let c128_68 : Index := 128#32
  ![v127.toNat, 128]
def k0_off6 (k0_t1 : Fin k0_t1_loop.trips) : Fin 2 → Nat :=
  let c0_i32 : BitVec 32 := 0#32
  let c1_i32 : BitVec 32 := 1#32
  let arg19 : BitVec 32 := Scf.iv c0_i32 c1_i32 k0_t1
  let c64_i32 : BitVec 32 := 64#32
  let v88 : BitVec 32 := Scalar.muli arg19 c64_i32
  let v89 : BitVec 32 := v88
  let v147 : Index := Scalar.indexCast v89
  let c896 : Index := 896#32
  ![v147.toNat, 896]
def k0_off7 (k0_t1 : Fin k0_t1_loop.trips) : Fin 2 → Nat :=
  let c0_i32 : BitVec 32 := 0#32
  let c1_i32 : BitVec 32 := 1#32
  let arg19 : BitVec 32 := Scf.iv c0_i32 c1_i32 k0_t1
  let c64_i32 : BitVec 32 := 64#32
  let v88 : BitVec 32 := Scalar.muli arg19 c64_i32
  let v89 : BitVec 32 := v88
  let v155 : Index := Scalar.indexCast v89
  let c1024 : Index := 1024#32
  ![v155.toNat, 1024]
def k0_off8 (k0_t1 : Fin k0_t1_loop.trips) : Fin 4 → Nat :=
  let c1 : Index := 1#32
  let c0_i32 : BitVec 32 := 0#32
  let c1_i32 : BitVec 32 := 1#32
  let arg19 : BitVec 32 := Scf.iv c0_i32 c1_i32 k0_t1
  let v160 : Index := Scalar.indexCast arg19
  let c0_74 : Index := 0#32
  let c0_75 : Index := 0#32
  ![1, v160.toNat, 0, 0]
@[reducible] def k0_t2_loop : Scf.Loop 32 :=
  let c0_i32_32 : BitVec 32 := 0#32
  let c32_i32_33 : BitVec 32 := 32#32
  let v64 : BitVec 32 := Scalar.addi c0_i32_32 c32_i32_33
  let c1_i32_34 : BitVec 32 := 1#32
  ⟨c0_i32_32, v64, c1_i32_34⟩
def k0_mult2 (k0_t2 : Fin k0_t2_loop.trips) : BitVec 32 :=
  let c31_i32 : BitVec 32 := 31#32
  let c0_i32_32 : BitVec 32 := 0#32
  let c1_i32_34 : BitVec 32 := 1#32
  let arg19 : BitVec 32 := Scf.iv c0_i32_32 c1_i32_34 k0_t2
  let v88 : BitVec 32 := Scalar.subi c31_i32 arg19
  let c64_i32 : BitVec 32 := 64#32
  let v89 : BitVec 32 := Scalar.muli v88 c64_i32
  v89
def k0_off9 (k0_t2 : Fin k0_t2_loop.trips) : Fin 2 → Nat :=
  let c31_i32 : BitVec 32 := 31#32
  let c0_i32_32 : BitVec 32 := 0#32
  let c1_i32_34 : BitVec 32 := 1#32
  let arg19 : BitVec 32 := Scf.iv c0_i32_32 c1_i32_34 k0_t2
  let v88 : BitVec 32 := Scalar.subi c31_i32 arg19
  let c64_i32 : BitVec 32 := 64#32
  let v89 : BitVec 32 := Scalar.muli v88 c64_i32
  let v90 : BitVec 32 := v89
  let v91 : Index := Scalar.indexCast v90
  let c0_59 : Index := 0#32
  ![v91.toNat, 0]
def k0_off10 (k0_t2 : Fin k0_t2_loop.trips) : Fin 2 → Nat :=
  let c31_i32 : BitVec 32 := 31#32
  let c0_i32_32 : BitVec 32 := 0#32
  let c1_i32_34 : BitVec 32 := 1#32
  let arg19 : BitVec 32 := Scf.iv c0_i32_32 c1_i32_34 k0_t2
  let v88 : BitVec 32 := Scalar.subi c31_i32 arg19
  let c64_i32 : BitVec 32 := 64#32
  let v89 : BitVec 32 := Scalar.muli v88 c64_i32
  let v90 : BitVec 32 := v89
  let v111 : Index := Scalar.indexCast v90
  let c128 : Index := 128#32
  ![v111.toNat, 128]
def k0_off11 (k0_t2 : Fin k0_t2_loop.trips) : Fin 2 → Nat :=
  let c31_i32 : BitVec 32 := 31#32
  let c0_i32_32 : BitVec 32 := 0#32
  let c1_i32_34 : BitVec 32 := 1#32
  let arg19 : BitVec 32 := Scf.iv c0_i32_32 c1_i32_34 k0_t2
  let v88 : BitVec 32 := Scalar.subi c31_i32 arg19
  let c64_i32 : BitVec 32 := 64#32
  let v89 : BitVec 32 := Scalar.muli v88 c64_i32
  let v90 : BitVec 32 := v89
  let v117 : Index := Scalar.indexCast v90
  let c256 : Index := 256#32
  ![v117.toNat, 256]
def k0_off12 (k0_t2 : Fin k0_t2_loop.trips) : Fin 2 → Nat :=
  let c31_i32 : BitVec 32 := 31#32
  let c0_i32_32 : BitVec 32 := 0#32
  let c1_i32_34 : BitVec 32 := 1#32
  let arg19 : BitVec 32 := Scf.iv c0_i32_32 c1_i32_34 k0_t2
  let v88 : BitVec 32 := Scalar.subi c31_i32 arg19
  let c64_i32 : BitVec 32 := 64#32
  let v89 : BitVec 32 := Scalar.muli v88 c64_i32
  let v90 : BitVec 32 := v89
  let v120 : Index := Scalar.indexCast v90
  let c0_64 : Index := 0#32
  ![v120.toNat, 0]
def k0_off13 (k0_t2 : Fin k0_t2_loop.trips) : Fin 4 → Nat :=
  let c0_66 : Index := 0#32
  let c31_i32 : BitVec 32 := 31#32
  let c0_i32_32 : BitVec 32 := 0#32
  let c1_i32_34 : BitVec 32 := 1#32
  let arg19 : BitVec 32 := Scf.iv c0_i32_32 c1_i32_34 k0_t2
  let v88 : BitVec 32 := Scalar.subi c31_i32 arg19
  let v127 : Index := Scalar.indexCast v88
  let c0_67 : Index := 0#32
  let c0_68 : Index := 0#32
  ![0, v127.toNat, 0, 0]
def k0_off14 (k0_t2 : Fin k0_t2_loop.trips) : Fin 4 → Nat :=
  let c0_71 : Index := 0#32
  let c31_i32 : BitVec 32 := 31#32
  let c0_i32_32 : BitVec 32 := 0#32
  let c1_i32_34 : BitVec 32 := 1#32
  let arg19 : BitVec 32 := Scf.iv c0_i32_32 c1_i32_34 k0_t2
  let v88 : BitVec 32 := Scalar.subi c31_i32 arg19
  let c1_i32_69 : BitVec 32 := 1#32
  let v131 : BitVec 32 := Scalar.subi v88 c1_i32_69
  let c0_i32_70 : BitVec 32 := 0#32
  let v132 : BitVec 32 := Scalar.maxsi v131 c0_i32_70
  let v133 : Index := Scalar.indexCast v132
  let c0_72 : Index := 0#32
  let c0_73 : Index := 0#32
  ![0, v133.toNat, 0, 0]
def k0_off15 (k0_t2 : Fin k0_t2_loop.trips) : Fin 2 → Nat :=
  let c31_i32 : BitVec 32 := 31#32
  let c0_i32_32 : BitVec 32 := 0#32
  let c1_i32_34 : BitVec 32 := 1#32
  let arg19 : BitVec 32 := Scf.iv c0_i32_32 c1_i32_34 k0_t2
  let v88 : BitVec 32 := Scalar.subi c31_i32 arg19
  let c64_i32 : BitVec 32 := 64#32
  let v89 : BitVec 32 := Scalar.muli v88 c64_i32
  let v90 : BitVec 32 := v89
  let v143 : Index := Scalar.indexCast v90
  let c512 : Index := 512#32
  ![v143.toNat, 512]
def k0_off16 (k0_t2 : Fin k0_t2_loop.trips) : Fin 2 → Nat :=
  let c31_i32 : BitVec 32 := 31#32
  let c0_i32_32 : BitVec 32 := 0#32
  let c1_i32_34 : BitVec 32 := 1#32
  let arg19 : BitVec 32 := Scf.iv c0_i32_32 c1_i32_34 k0_t2
  let v88 : BitVec 32 := Scalar.subi c31_i32 arg19
  let c64_i32 : BitVec 32 := 64#32
  let v89 : BitVec 32 := Scalar.muli v88 c64_i32
  let v90 : BitVec 32 := v89
  let v147 : Index := Scalar.indexCast v90
  let c0_80 : Index := 0#32
  ![v147.toNat, 0]
def k0_off17 (k0_t2 : Fin k0_t2_loop.trips) : Fin 2 → Nat :=
  let c31_i32 : BitVec 32 := 31#32
  let c0_i32_32 : BitVec 32 := 0#32
  let c1_i32_34 : BitVec 32 := 1#32
  let arg19 : BitVec 32 := Scf.iv c0_i32_32 c1_i32_34 k0_t2
  let v88 : BitVec 32 := Scalar.subi c31_i32 arg19
  let c64_i32 : BitVec 32 := 64#32
  let v89 : BitVec 32 := Scalar.muli v88 c64_i32
  let v90 : BitVec 32 := v89
  let v254 : Index := Scalar.indexCast v90
  let c128_117 : Index := 128#32
  ![v254.toNat, 128]
def k0_off18 (k0_t2 : Fin k0_t2_loop.trips) : Fin 2 → Nat :=
  let c31_i32 : BitVec 32 := 31#32
  let c0_i32_32 : BitVec 32 := 0#32
  let c1_i32_34 : BitVec 32 := 1#32
  let arg19 : BitVec 32 := Scf.iv c0_i32_32 c1_i32_34 k0_t2
  let v88 : BitVec 32 := Scalar.subi c31_i32 arg19
  let c64_i32 : BitVec 32 := 64#32
  let v89 : BitVec 32 := Scalar.muli v88 c64_i32
  let v90 : BitVec 32 := v89
  let v274 : Index := Scalar.indexCast v90
  let c896 : Index := 896#32
  ![v274.toNat, 896]
def k0_off19 (k0_t2 : Fin k0_t2_loop.trips) : Fin 2 → Nat :=
  let c31_i32 : BitVec 32 := 31#32
  let c0_i32_32 : BitVec 32 := 0#32
  let c1_i32_34 : BitVec 32 := 1#32
  let arg19 : BitVec 32 := Scf.iv c0_i32_32 c1_i32_34 k0_t2
  let v88 : BitVec 32 := Scalar.subi c31_i32 arg19
  let c64_i32 : BitVec 32 := 64#32
  let v89 : BitVec 32 := Scalar.muli v88 c64_i32
  let v90 : BitVec 32 := v89
  let v280 : Index := Scalar.indexCast v90
  let c1024 : Index := 1024#32
  ![v280.toNat, 1024]
def k0_off20 (k0_t2 : Fin k0_t2_loop.trips) : Fin 2 → Nat :=
  let c31_i32 : BitVec 32 := 31#32
  let c0_i32_32 : BitVec 32 := 0#32
  let c1_i32_34 : BitVec 32 := 1#32
  let arg19 : BitVec 32 := Scf.iv c0_i32_32 c1_i32_34 k0_t2
  let v88 : BitVec 32 := Scalar.subi c31_i32 arg19
  let c64_i32 : BitVec 32 := 64#32
  let v89 : BitVec 32 := Scalar.muli v88 c64_i32
  let v90 : BitVec 32 := v89
  let v283 : Index := Scalar.indexCast v90
  let c768 : Index := 768#32
  ![v283.toNat, 768]
def k0_off21 (k0_t2 : Fin k0_t2_loop.trips) : Fin 4 → Nat :=
  let c1 : Index := 1#32
  let c31_i32 : BitVec 32 := 31#32
  let c0_i32_32 : BitVec 32 := 0#32
  let c1_i32_34 : BitVec 32 := 1#32
  let arg19 : BitVec 32 := Scf.iv c0_i32_32 c1_i32_34 k0_t2
  let v88 : BitVec 32 := Scalar.subi c31_i32 arg19
  let v290 : Index := Scalar.indexCast v88
  let c0_123 : Index := 0#32
  let c0_124 : Index := 0#32
  ![1, v290.toNat, 0, 0]
def k0_off22 (k0_t2 : Fin k0_t2_loop.trips) : Fin 4 → Nat :=
  let c1_127 : Index := 1#32
  let c31_i32 : BitVec 32 := 31#32
  let c0_i32_32 : BitVec 32 := 0#32
  let c1_i32_34 : BitVec 32 := 1#32
  let arg19 : BitVec 32 := Scf.iv c0_i32_32 c1_i32_34 k0_t2
  let v88 : BitVec 32 := Scalar.subi c31_i32 arg19
  let c1_i32_125 : BitVec 32 := 1#32
  let v294 : BitVec 32 := Scalar.subi v88 c1_i32_125
  let c0_i32_126 : BitVec 32 := 0#32
  let v295 : BitVec 32 := Scalar.maxsi v294 c0_i32_126
  let v296 : Index := Scalar.indexCast v295
  let c0_128 : Index := 0#32
  let c0_129 : Index := 0#32
  ![1, v296.toNat, 0, 0]
def k0_off23 (k0_t2 : Fin k0_t2_loop.trips) : Fin 2 → Nat :=
  let c31_i32 : BitVec 32 := 31#32
  let c0_i32_32 : BitVec 32 := 0#32
  let c1_i32_34 : BitVec 32 := 1#32
  let arg19 : BitVec 32 := Scf.iv c0_i32_32 c1_i32_34 k0_t2
  let v88 : BitVec 32 := Scalar.subi c31_i32 arg19
  let c64_i32 : BitVec 32 := 64#32
  let v89 : BitVec 32 := Scalar.muli v88 c64_i32
  let v90 : BitVec 32 := v89
  let v306 : Index := Scalar.indexCast v90
  let c1280 : Index := 1280#32
  ![v306.toNat, 1280]
def k0_off24 (k0_t2 : Fin k0_t2_loop.trips) : Fin 2 → Nat :=
  let c31_i32 : BitVec 32 := 31#32
  let c0_i32_32 : BitVec 32 := 0#32
  let c1_i32_34 : BitVec 32 := 1#32
  let arg19 : BitVec 32 := Scf.iv c0_i32_32 c1_i32_34 k0_t2
  let v88 : BitVec 32 := Scalar.subi c31_i32 arg19
  let c64_i32 : BitVec 32 := 64#32
  let v89 : BitVec 32 := Scalar.muli v88 c64_i32
  let v90 : BitVec 32 := v89
  let v310 : Index := Scalar.indexCast v90
  let c256_136 : Index := 256#32
  ![v310.toNat, 256]
def k0_cond3 (i : grid0.Coords) : BitVec 1 :=
  let arg0 : BitVec 32 := BitVec.ofNat 32 (i 0).val
  let c1_i32_57 : BitVec 32 := 1#32
  let v85 : BitVec 1 := Scalar.cmpi .eq arg0 c1_i32_57
  let v86 : BitVec 32 := Scalar.extui v85
  let c0_i32_58 : BitVec 32 := 0#32
  let v87 : BitVec 1 := Scalar.cmpi .ne v86 c0_i32_58
  v87

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x1536 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S2048x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S128x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceIdeal.lean ====
abbrev S2048x512 : Shape := ⟨2, ![2048, 512]⟩
abbrev S2048x1024 : Shape := ⟨2, ![2048, 1024]⟩
abbrev S2048x16 : Shape := ⟨2, ![2048, 16]⟩
abbrev S16x512 : Shape := ⟨2, ![16, 512]⟩
abbrev S512 : Shape := ⟨1, ![512]⟩
abbrev S1024 : Shape := ⟨1, ![1024]⟩
abbrev S1x512 : Shape := ⟨2, ![1, 512]⟩
abbrev S_ : Shape := ⟨0, ![]⟩
abbrev S32x64x4x128 : Shape := ⟨4, ![32, 64, 4, 128]⟩
abbrev S32x64x4x256 : Shape := ⟨4, ![32, 64, 4, 256]⟩
abbrev S32x1x4x128 : Shape := ⟨4, ![32, 1, 4, 128]⟩
abbrev S32x4x128 : Shape := ⟨3, ![32, 4, 128]⟩
abbrev S32x4x128x256 : Shape := ⟨4, ![32, 4, 128, 256]⟩
abbrev S32 : Shape := ⟨1, ![32]⟩
abbrev S32x1 : Shape := ⟨2, ![32, 1]⟩
abbrev S1x32 : Shape := ⟨2, ![1, 32]⟩
abbrev S32x32 : Shape := ⟨2, ![32, 32]⟩
abbrev S32x32x1x1 : Shape := ⟨4, ![32, 32, 1, 1]⟩
abbrev S1x32x4x128 : Shape := ⟨4, ![1, 32, 4, 128]⟩
abbrev S32x32x4x128 : Shape := ⟨4, ![32, 32, 4, 128]⟩
abbrev S4x128x256x32 : Shape := ⟨4, ![4, 128, 256, 32]⟩
abbrev S32x4x256x64 : Shape := ⟨4, ![32, 4, 256, 64]⟩
abbrev S2048x4x256 : Shape := ⟨3, ![2048, 4, 256]⟩
abbrev S2048x4 : Shape := ⟨2, ![2048, 4]⟩
abbrev S2048x4x1 : Shape := ⟨3, ![2048, 4, 1]⟩
abbrev S4x256 : Shape := ⟨2, ![4, 256]⟩
abbrev S1x4x256 : Shape := ⟨3, ![1, 4, 256]⟩
abbrev S32x4x64x128 : Shape := ⟨4, ![32, 4, 64, 128]⟩
abbrev S32x4x256x128 : Shape := ⟨4, ![32, 4, 256, 128]⟩
abbrev S4x128x32x32 : Shape := ⟨4, ![4, 128, 32, 32]⟩
abbrev S32x4x128x64 : Shape := ⟨4, ![32, 4, 128, 64]⟩
abbrev S512x16 : Shape := ⟨2, ![512, 16]⟩
abbrev S2048x4x128 : Shape := ⟨3, ![2048, 4, 128]⟩
abbrev S2048x4x768 : Shape := ⟨3, ![2048, 4, 768]⟩
abbrev S2048x3072 : Shape := ⟨2, ![2048, 3072]⟩
abbrev S2048x128 : Shape := ⟨2, ![2048, 128]⟩
abbrev S128x512 : Shape := ⟨2, ![128, 512]⟩
abbrev S1x1024 : Shape := ⟨2, ![1, 1024]⟩

abbrev nBuf : Space → Nat
  | .hbm => 275
  | .vmem => 0
  | .smem => 0
  | _ => 0

abbrev hbmTy0_0 (i : Nat) : BufTy := match i % 128 with
  | 0 => ⟨S2048x512, .bf16⟩
  | 1 => ⟨S2048x512, .bf16⟩
  | 2 => ⟨S2048x1024, .bf16⟩
  | 3 => ⟨S2048x1024, .bf16⟩
  | 4 => ⟨S2048x16, .bf16⟩
  | 5 => ⟨S16x512, .bf16⟩
  | 6 => ⟨S512, .f32⟩
  | 7 => ⟨S1024, .f32⟩
  | 8 => ⟨S2048x1024, .bf16⟩
  | 9 => ⟨S2048x512, .f32⟩
  | 10 => ⟨S2048x512, .f32⟩
  | 11 => ⟨S2048x1024, .f32⟩
  | 12 => ⟨S2048x1024, .f32⟩
  | 13 => ⟨S2048x16, .f32⟩
  | 14 => ⟨S16x512, .f32⟩
  | 15 => ⟨S2048x512, .f32⟩
  | 16 => ⟨S1x512, .f32⟩
  | 17 => ⟨S2048x512, .f32⟩
  | 18 => ⟨S2048x512, .f32⟩
  | 19 => ⟨S2048x512, .f32⟩
  | 20 => ⟨S_, .f32⟩
  | 21 => ⟨S2048x512, .f32⟩
  | 22 => ⟨S2048x512, .f32⟩
  | 23 => ⟨S2048x512, .f32⟩
  | 24 => ⟨S2048x512, .f32⟩
  | 25 => ⟨S2048x512, .i1⟩
  | 26 => ⟨S2048x512, .f32⟩
  | 27 => ⟨S2048x512, .f32⟩
  | 28 => ⟨S2048x512, .f32⟩
  | 29 => ⟨S2048x512, .f32⟩
  | 30 => ⟨S2048x512, .f32⟩
  | 31 => ⟨S2048x512, .f32⟩
  | 32 => ⟨S2048x512, .f32⟩
  | 33 => ⟨S2048x512, .f32⟩
  | 34 => ⟨S_, .f32⟩
  | 35 => ⟨S2048x512, .f32⟩
  | 36 => ⟨S2048x512, .i1⟩
  | 37 => ⟨S_, .f32⟩
  | 38 => ⟨S2048x512, .f32⟩
  | 39 => ⟨S2048x512, .f32⟩
  | 40 => ⟨S_, .f32⟩
  | 41 => ⟨S2048x512, .f32⟩
  | 42 => ⟨S2048x512, .i1⟩
  | 43 => ⟨S_, .f32⟩
  | 44 => ⟨S2048x512, .f32⟩
  | 45 => ⟨S2048x512, .f32⟩
  | 46 => ⟨S2048x512, .f32⟩
  | 47 => ⟨S2048x512, .f32⟩
  | 48 => ⟨S_, .f32⟩
  | 49 => ⟨S_, .f32⟩
  | 50 => ⟨S_, .i1⟩
  | 51 => ⟨S_, .f32⟩
  | 52 => ⟨S_, .f32⟩
  | 53 => ⟨S_, .f32⟩
  | 54 => ⟨S_, .f32⟩
  | 55 => ⟨S2048x512, .f32⟩
  | 56 => ⟨S2048x512, .i1⟩
  | 57 => ⟨S_, .f32⟩
  | 58 => ⟨S2048x512, .f32⟩
  | 59 => ⟨S2048x512, .f32⟩
  | 60 => ⟨S2048x512, .f32⟩
  | 61 => ⟨S2048x512, .f32⟩
  | 62 => ⟨S2048x512, .f32⟩
  | 63 => ⟨S_, .f32⟩
  | 64 => ⟨S2048x512, .f32⟩
  | 65 => ⟨S2048x512, .f32⟩
  | 66 => ⟨S2048x512, .f32⟩
  | 67 => ⟨S_, .f32⟩
  | 68 => ⟨S2048x512, .f32⟩
  | 69 => ⟨S2048x512, .f32⟩
  | 70 => ⟨S32x64x4x128, .f32⟩
  | 71 => ⟨S_, .f32⟩
  | 72 => ⟨S32x64x4x128, .f32⟩
  | 73 => ⟨S32x64x4x128, .f32⟩
  | 74 => ⟨S32x64x4x128, .f32⟩
  | 75 => ⟨S32x64x4x256, .f32⟩
  | 76 => ⟨S32x64x4x128, .f32⟩
  | 77 => ⟨S_, .f32⟩
  | 78 => ⟨S_, .f32⟩
  | 79 => ⟨S32x64x4x128, .f32⟩
  | 80 => ⟨S32x1x4x128, .f32⟩
  | 81 => ⟨S32x4x128, .f32⟩
  | 82 => ⟨S32x1x4x128, .f32⟩
  | 83 => ⟨S32x64x4x128, .f32⟩
  | 84 => ⟨S32x64x4x128, .f32⟩
  | 85 => ⟨S32x64x4x128, .f32⟩
  | 86 => ⟨S32x64x4x128, .f32⟩
  | 87 => ⟨S32x4x128x256, .f32⟩
  | 88 => ⟨S_, .f32⟩
  | 89 => ⟨S_, .f32⟩
  | 90 => ⟨S32x4x128, .f32⟩
  | 91 => ⟨S32, .i32⟩
  | 92 => ⟨S32x1, .i32⟩
  | 93 => ⟨S32, .i32⟩
  | 94 => ⟨S1x32, .i32⟩
  | 95 => ⟨S32x32, .i32⟩
  | 96 => ⟨S32x32, .i32⟩
  | 97 => ⟨S32x32, .i1⟩
  | 98 => ⟨S32x32x1x1, .i1⟩
  | 99 => ⟨S32x1x4x128, .f32⟩
  | 100 => ⟨S1x32x4x128, .f32⟩
  | 101 => ⟨S32x32x4x128, .f32⟩
  | 102 => ⟨S32x32x4x128, .f32⟩
  | 103 => ⟨S32x32x4x128, .f32⟩
  | 104 => ⟨S32x32x4x128, .f32⟩
  | 105 => ⟨S_, .f32⟩
  | 106 => ⟨S_, .f32⟩
  | 107 => ⟨S32x32x4x128, .i1⟩
  | 108 => ⟨S32x32x4x128, .f32⟩
  | 109 => ⟨S32x32x4x128, .f32⟩
  | 110 => ⟨S_, .f32⟩
  | 111 => ⟨S32x32x4x128, .f32⟩
  | 112 => ⟨S4x128x256x32, .f32⟩
  | 113 => ⟨S32x4x128x256, .f32⟩
  | 114 => ⟨S32x4x256x64, .f32⟩
  | 115 => ⟨S32x64x4x256, .f32⟩
  | 116 => ⟨S2048x4x256, .f32⟩
  | 117 => ⟨S2048x4x256, .f32⟩
  | 118 => ⟨S_, .f32⟩
  | 119 => ⟨S2048x4, .f32⟩
  | 120 => ⟨S2048x4x1, .f32⟩
  | 121 => ⟨S_, .f32⟩
  | 122 => ⟨S2048x4x1, .f32⟩
  | 123 => ⟨S2048x4x1, .f32⟩
  | 124 => ⟨S_, .f32⟩
  | 125 => ⟨S2048x4x1, .f32⟩
  | 126 => ⟨S2048x4x1, .f32⟩
  | 127 => ⟨S2048x4x1, .f32⟩
  | _ => ⟨S2048x512, .bf16⟩

abbrev hbmTy0_1 (i : Nat) : BufTy := match i % 128 with
  | 0 => ⟨S2048x4x1, .f32⟩
  | 1 => ⟨S_, .f32⟩
  | 2 => ⟨S2048x4x1, .f32⟩
  | 3 => ⟨S2048x4x1, .f32⟩
  | 4 => ⟨S2048x4x256, .f32⟩
  | 5 => ⟨S2048x4x256, .f32⟩
  | 6 => ⟨S4x256, .f32⟩
  | 7 => ⟨S1x4x256, .f32⟩
  | 8 => ⟨S2048x4x256, .f32⟩
  | 9 => ⟨S2048x4x256, .f32⟩
  | 10 => ⟨S2048x1024, .f32⟩
  | 11 => ⟨S2048x1024, .f32⟩
  | 12 => ⟨S2048x1024, .f32⟩
  | 13 => ⟨S_, .f32⟩
  | 14 => ⟨S2048x1024, .f32⟩
  | 15 => ⟨S2048x1024, .f32⟩
  | 16 => ⟨S_, .f32⟩
  | 17 => ⟨S2048x1024, .f32⟩
  | 18 => ⟨S2048x1024, .f32⟩
  | 19 => ⟨S_, .f32⟩
  | 20 => ⟨S2048x1024, .f32⟩
  | 21 => ⟨S2048x1024, .f32⟩
  | 22 => ⟨S2048x1024, .f32⟩
  | 23 => ⟨S2048x1024, .f32⟩
  | 24 => ⟨S2048x1024, .f32⟩
  | 25 => ⟨S2048x1024, .f32⟩
  | 26 => ⟨S2048x1024, .f32⟩
  | 27 => ⟨S2048x1024, .f32⟩
  | 28 => ⟨S2048x1024, .f32⟩
  | 29 => ⟨S2048x1024, .f32⟩
  | 30 => ⟨S2048x1024, .f32⟩
  | 31 => ⟨S2048x1024, .f32⟩
  | 32 => ⟨S2048x4x256, .f32⟩
  | 33 => ⟨S2048x4x256, .f32⟩
  | 34 => ⟨S_, .f32⟩
  | 35 => ⟨S4x256, .f32⟩
  | 36 => ⟨S1x4x256, .f32⟩
  | 37 => ⟨S2048x4x256, .f32⟩
  | 38 => ⟨S2048x4x256, .f32⟩
  | 39 => ⟨S_, .f32⟩
  | 40 => ⟨S4x256, .f32⟩
  | 41 => ⟨S1024, .f32⟩
  | 42 => ⟨S2048x4x256, .f32⟩
  | 43 => ⟨S_, .f32⟩
  | 44 => ⟨S2048x4, .f32⟩
  | 45 => ⟨S2048x4x1, .f32⟩
  | 46 => ⟨S2048x4x256, .f32⟩
  | 47 => ⟨S2048x4x256, .f32⟩
  | 48 => ⟨S2048x4x1, .f32⟩
  | 49 => ⟨S_, .f32⟩
  | 50 => ⟨S2048x4x1, .f32⟩
  | 51 => ⟨S2048x4x1, .f32⟩
  | 52 => ⟨S_, .f32⟩
  | 53 => ⟨S2048x4, .f32⟩
  | 54 => ⟨S2048x4x256, .f32⟩
  | 55 => ⟨S2048x4x256, .f32⟩
  | 56 => ⟨S2048x4x256, .f32⟩
  | 57 => ⟨S2048x4x256, .f32⟩
  | 58 => ⟨S2048x4x256, .f32⟩
  | 59 => ⟨S32x64x4x256, .f32⟩
  | 60 => ⟨S32x4x256x64, .f32⟩
  | 61 => ⟨S32x4x64x128, .f32⟩
  | 62 => ⟨S32x64x4x128, .f32⟩
  | 63 => ⟨S32x4x256x128, .f32⟩
  | 64 => ⟨S32x4x128x256, .f32⟩
  | 65 => ⟨S4x128x256x32, .f32⟩
  | 66 => ⟨S4x128x32x32, .f32⟩
  | 67 => ⟨S32x32x4x128, .f32⟩
  | 68 => ⟨S4x128x256x32, .f32⟩
  | 69 => ⟨S32x4x128x256, .f32⟩
  | 70 => ⟨S_, .f32⟩
  | 71 => ⟨S32x32x4x128, .f32⟩
  | 72 => ⟨S32x32x4x128, .f32⟩
  | 73 => ⟨S32x32x4x128, .f32⟩
  | 74 => ⟨S_, .f32⟩
  | 75 => ⟨S32x4x128, .f32⟩
  | 76 => ⟨S32x1x4x128, .f32⟩
  | 77 => ⟨S32x32x4x128, .f32⟩
  | 78 => ⟨S_, .f32⟩
  | 79 => ⟨S32x4x128, .f32⟩
  | 80 => ⟨S1x32x4x128, .f32⟩
  | 81 => ⟨S_, .f32⟩
  | 82 => ⟨S32x4x128, .f32⟩
  | 83 => ⟨S_, .f32⟩
  | 84 => ⟨S32x4x128, .f32⟩
  | 85 => ⟨S32x4x128, .f32⟩
  | 86 => ⟨S_, .f32⟩
  | 87 => ⟨S_, .f32⟩
  | 88 => ⟨S32x4x128, .f32⟩
  | 89 => ⟨S32x4x256x64, .f32⟩
  | 90 => ⟨S32x64x4x256, .f32⟩
  | 91 => ⟨S32x4x128x64, .f32⟩
  | 92 => ⟨S32x64x4x128, .f32⟩
  | 93 => ⟨S32x64x4x128, .f32⟩
  | 94 => ⟨S32x64x4x128, .f32⟩
  | 95 => ⟨S32x64x4x128, .f32⟩
  | 96 => ⟨S_, .f32⟩
  | 97 => ⟨S32x4x128, .f32⟩
  | 98 => ⟨S32x1x4x128, .f32⟩
  | 99 => ⟨S32x64x4x128, .f32⟩
  | 100 => ⟨S_, .f32⟩
  | 101 => ⟨S32x4x128, .f32⟩
  | 102 => ⟨S32x4x128, .f32⟩
  | 103 => ⟨S32x1x4x128, .f32⟩
  | 104 => ⟨S_, .f32⟩
  | 105 => ⟨S32x64x4x128, .f32⟩
  | 106 => ⟨S32x64x4x128, .f32⟩
  | 107 => ⟨S_, .f32⟩
  | 108 => ⟨S_, .f32⟩
  | 109 => ⟨S32x64x4x128, .f32⟩
  | 110 => ⟨S2048x512, .f32⟩
  | 111 => ⟨S2048x1024, .f32⟩
  | 112 => ⟨S2048x512, .f32⟩
  | 113 => ⟨S_, .f32⟩
  | 114 => ⟨S32x64x4x128, .f32⟩
  | 115 => ⟨S32x64x4x128, .f32⟩
  | 116 => ⟨S2048x512, .f32⟩
  | 117 => ⟨S_, .f32⟩
  | 118 => ⟨S2048x512, .f32⟩
  | 119 => ⟨S2048x512, .f32⟩
  | 120 => ⟨S2048x512, .f32⟩
  | 121 => ⟨S2048x512, .f32⟩
  | 122 => ⟨S2048x512, .f32⟩
  | 123 => ⟨S_, .f32⟩
  | 124 => ⟨S512, .f32⟩
  | 125 => ⟨S1x512, .f32⟩
  | 126 => ⟨S_, .f32⟩
  | 127 => ⟨S512, .f32⟩
  | _ => ⟨S2048x512, .bf16⟩

abbrev hbmTy0_2 (i : Nat) : BufTy := match i % 128 with
  | 0 => ⟨S512x16, .f32⟩
  | 1 => ⟨S16x512, .f32⟩
  | 2 => ⟨S2048x16, .f32⟩
  | 3 => ⟨S2048x4x128, .f32⟩
  | 4 => ⟨S2048x4x128, .f32⟩
  | 5 => ⟨S2048x4x256, .f32⟩
  | 6 => ⟨S2048x4x256, .f32⟩
  | 7 => ⟨S2048x4x768, .f32⟩
  | 8 => ⟨S2048x3072, .f32⟩
  | 9 => ⟨S2048x3072, .bf16⟩
  | 10 => ⟨S_, .i32⟩
  | 11 => ⟨S_, .f32⟩
  | 12 => ⟨S2048x128, .f32⟩
  | 13 => ⟨S2048x128, .bf16⟩
  | 14 => ⟨S_, .i32⟩
  | 15 => ⟨S_, .f32⟩
  | 16 => ⟨S128x512, .f32⟩
  | 17 => ⟨S1x512, .f32⟩
  | 18 => ⟨S1x1024, .f32⟩
  | _ => ⟨S2048x512, .bf16⟩

abbrev hbmTy (i : Nat) : BufTy := match i / 128 with
  | 0 => hbmTy0_0 i
  | 1 => hbmTy0_1 i
  | 2 => hbmTy0_2 i
  | _ => ⟨S2048x512, .bf16⟩

abbrev bufTy : (tb : Table) → Fin (tcTables nBuf tb) → BufTy
  | .hbm, ⟨i, _⟩ => hbmTy i
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_call0_v0 : Ref sig .tc := ⟨.hbm, 19, rfl⟩
abbrev main_call0_call0_cst : Ref sig .tc := ⟨.hbm, 20, rfl⟩
abbrev main_call0_call0_v0 : Ref sig .tc := ⟨.hbm, 21, rfl⟩
abbrev main_call0_call0_v1 : Ref sig .tc := ⟨.hbm, 22, rfl⟩
abbrev main_call0_call0_v2 : Ref sig .tc := ⟨.hbm, 23, rfl⟩
abbrev main_call0_call0_v3 : Ref sig .tc := ⟨.hbm, 24, rfl⟩
abbrev main_call0_call0_v4 : Ref sig .tc := ⟨.hbm, 25, rfl⟩
abbrev main_call0_call0_v5 : Ref sig .tc := ⟨.hbm, 26, rfl⟩
abbrev main_call0_call0_v6 : Ref sig .tc := ⟨.hbm, 27, rfl⟩
abbrev main_call0_call0_v7 : Ref sig .tc := ⟨.hbm, 28, rfl⟩
abbrev main_call0_call0_v8 : Ref sig .tc := ⟨.hbm, 29, rfl⟩
abbrev main_call0_call0_v9 : Ref sig .tc := ⟨.hbm, 30, rfl⟩
abbrev main_call0_call0_v10 : Ref sig .tc := ⟨.hbm, 31, rfl⟩
abbrev main_call0_call0_v11 : Ref sig .tc := ⟨.hbm, 32, rfl⟩
abbrev main_call0_v1_0 : Ref sig .tc := ⟨.hbm, 33, rfl⟩
abbrev main_call0_call0_cst_0 : Ref sig .tc := ⟨.hbm, 34, rfl⟩
abbrev main_call0_call0_v13 : Ref sig .tc := ⟨.hbm, 35, rfl⟩
abbrev main_call0_call0_v14 : Ref sig .tc := ⟨.hbm, 36, rfl⟩
abbrev main_call0_call0_cst_1 : Ref sig .tc := ⟨.hbm, 37, rfl⟩
abbrev main_call0_call0_v15 : Ref sig .tc := ⟨.hbm, 38, rfl⟩
abbrev main_call0_call0_v16 : Ref sig .tc := ⟨.hbm, 39, rfl⟩
abbrev main_call0_call0_cst_2 : Ref sig .tc := ⟨.hbm, 40, rfl⟩
abbrev main_call0_call0_v17 : Ref sig .tc := ⟨.hbm, 41, rfl⟩
abbrev main_call0_call0_v18 : Ref sig .tc := ⟨.hbm, 42, rfl⟩
abbrev main_call0_call0_cst_3 : Ref sig .tc := ⟨.hbm, 43, rfl⟩
abbrev main_call0_call0_v19 : Ref sig .tc := ⟨.hbm, 44, rfl⟩
abbrev main_call0_call0_v20 : Ref sig .tc := ⟨.hbm, 45, rfl⟩
abbrev main_call0_call0_v21 : Ref sig .tc := ⟨.hbm, 46, rfl⟩
abbrev main_v10_1 : Ref sig .tc := ⟨.hbm, 47, rfl⟩
abbrev main_call0_call0_cst_4 : Ref sig .tc := ⟨.hbm, 48, rfl⟩
abbrev main_call0_call0_cst_5 : Ref sig .tc := ⟨.hbm, 49, rfl⟩
abbrev main_call0_call0_v23 : Ref sig .tc := ⟨.hbm, 50, rfl⟩
abbrev main_call0_call0_cst_6 : Ref sig .tc := ⟨.hbm, 51, rfl⟩
abbrev main_call0_call0_cst_7 : Ref sig .tc := ⟨.hbm, 52, rfl⟩
abbrev main_call0_call0_v24 : Ref sig .tc := ⟨.hbm, 53, rfl⟩
abbrev main_call0_call0_cst_8 : Ref sig .tc := ⟨.hbm, 54, rfl⟩
abbrev main_call0_call0_v25 : Ref sig .tc := ⟨.hbm, 55, rfl⟩
abbrev main_call0_call0_v26 : Ref sig .tc := ⟨.hbm, 56, rfl⟩
abbrev main_call0_call0_cst_9 : Ref sig .tc := ⟨.hbm, 57, rfl⟩
abbrev main_call0_call0_v27 : Ref sig .tc := ⟨.hbm, 58, rfl⟩
abbrev main_call0_call0_v28 : Ref sig .tc := ⟨.hbm, 59, rfl⟩
abbrev main_call0_call0_v29 : Ref sig .tc := ⟨.hbm, 60, rfl⟩
abbrev main_call0_call0_v30 : Ref sig .tc := ⟨.hbm, 61, rfl⟩
abbrev main_call0_call0_v31 : Ref sig .tc := ⟨.hbm, 62, rfl⟩
abbrev main_call0_call0_cst_10 : Ref sig .tc := ⟨.hbm, 63, rfl⟩
abbrev main_call0_call0_v32 : Ref sig .tc := ⟨.hbm, 64, rfl⟩
abbrev main_v10_2 : Ref sig .tc := ⟨.hbm, 65, rfl⟩
abbrev main_v10_0 : Ref sig .tc := ⟨.hbm, 66, rfl⟩
abbrev main_cst : Ref sig .tc := ⟨.hbm, 67, rfl⟩
abbrev main_v11 : Ref sig .tc := ⟨.hbm, 68, rfl⟩
abbrev main_v12 : Ref sig .tc := ⟨.hbm, 69, rfl⟩
abbrev main_v13 : Ref sig .tc := ⟨.hbm, 70, rfl⟩
abbrev main_cst_0 : Ref sig .tc := ⟨.hbm, 71, rfl⟩
abbrev main_v14 : Ref sig .tc := ⟨.hbm, 72, rfl⟩
abbrev main_v15 : Ref sig .tc := ⟨.hbm, 73, rfl⟩
abbrev main_v16 : Ref sig .tc := ⟨.hbm, 74, rfl⟩
abbrev main_v17 : Ref sig .tc := ⟨.hbm, 75, rfl⟩
abbrev main_v18 : Ref sig .tc := ⟨.hbm, 76, rfl⟩
abbrev main_call1_call0_cst : Ref sig .tc := ⟨.hbm, 77, rfl⟩
abbrev main_call1_call0_v0 : Ref sig .tc := ⟨.hbm, 78, rfl⟩
abbrev main_v19 : Ref sig .tc := ⟨.hbm, 79, rfl⟩
abbrev main_v20 : Ref sig .tc := ⟨.hbm, 80, rfl⟩
abbrev main_v21 : Ref sig .tc := ⟨.hbm, 81, rfl⟩
abbrev main_v22 : Ref sig .tc := ⟨.hbm, 82, rfl⟩
abbrev main_v23 : Ref sig .tc := ⟨.hbm, 83, rfl⟩
abbrev main_v24 : Ref sig .tc := ⟨.hbm, 84, rfl⟩
abbrev main_v25 : Ref sig .tc := ⟨.hbm, 85, rfl⟩
abbrev main_v26 : Ref sig .tc := ⟨.hbm, 86, rfl⟩
abbrev main_v27 : Ref sig .tc := ⟨.hbm, 87, rfl⟩
abbrev main_call2_call0_cst : Ref sig .tc := ⟨.hbm, 88, rfl⟩
abbrev main_call2_call0_v0 : Ref sig .tc := ⟨.hbm, 89, rfl⟩
abbrev main_v28 : Ref sig .tc := ⟨.hbm, 90, rfl⟩
abbrev main_v29 : Ref sig .tc := ⟨.hbm, 91, rfl⟩
abbrev main_v30 : Ref sig .tc := ⟨.hbm, 92, rfl⟩
abbrev main_v31 : Ref sig .tc := ⟨.hbm, 93, rfl⟩
abbrev main_v32 : Ref sig .tc := ⟨.hbm, 94, rfl⟩
abbrev main_v33 : Ref sig .tc := ⟨.hbm, 95, rfl⟩
abbrev main_v34 : Ref sig .tc := ⟨.hbm, 96, rfl⟩
abbrev main_v35 : Ref sig .tc := ⟨.hbm, 97, rfl⟩
abbrev main_v36 : Ref sig .tc := ⟨.hbm, 98, rfl⟩
abbrev main_v37 : Ref sig .tc := ⟨.hbm, 99, rfl⟩
abbrev main_v38 : Ref sig .tc := ⟨.hbm, 100, rfl⟩
abbrev main_v39 : Ref sig .tc := ⟨.hbm, 101, rfl⟩
abbrev main_v40 : Ref sig .tc := ⟨.hbm, 102, rfl⟩
abbrev main_v41 : Ref sig .tc := ⟨.hbm, 103, rfl⟩
abbrev main_v42 : Ref sig .tc := ⟨.hbm, 104, rfl⟩
abbrev main_cst_1 : Ref sig .tc := ⟨.hbm, 105, rfl⟩
abbrev main_call3_v0 : Ref sig .tc := ⟨.hbm, 106, rfl⟩
abbrev main_v43_1 : Ref sig .tc := ⟨.hbm, 107, rfl⟩
abbrev main_call3_v2 : Ref sig .tc := ⟨.hbm, 108, rfl⟩
abbrev main_v43_0 : Ref sig .tc := ⟨.hbm, 109, rfl⟩
abbrev main_call3_cst : Ref sig .tc := ⟨.hbm, 110, rfl⟩
abbrev main_v43_2 : Ref sig .tc := ⟨.hbm, 111, rfl⟩
abbrev main_v44 : Ref sig .tc := ⟨.hbm, 112, rfl⟩
abbrev main_v45 : Ref sig .tc := ⟨.hbm, 113, rfl⟩
abbrev main_v46 : Ref sig .tc := ⟨.hbm, 114, rfl⟩
abbrev main_v47 : Ref sig .tc := ⟨.hbm, 115, rfl⟩
abbrev main_v48 : Ref sig .tc := ⟨.hbm, 116, rfl⟩
abbrev main_v49 : Ref sig .tc := ⟨.hbm, 117, rfl⟩
abbrev main_cst_2 : Ref sig .tc := ⟨.hbm, 118, rfl⟩
abbrev main_v50 : Ref sig .tc := ⟨.hbm, 119, rfl⟩
abbrev main_v51 : Ref sig .tc := ⟨.hbm, 120, rfl⟩
abbrev main_cst_3 : Ref sig .tc := ⟨.hbm, 121, rfl⟩
abbrev main_v52 : Ref sig .tc := ⟨.hbm, 122, rfl⟩
abbrev main_v53 : Ref sig .tc := ⟨.hbm, 123, rfl⟩
abbrev main_cst_4 : Ref sig .tc := ⟨.hbm, 124, rfl⟩
abbrev main_v54 : Ref sig .tc := ⟨.hbm, 125, rfl⟩
abbrev main_v55 : Ref sig .tc := ⟨.hbm, 126, rfl⟩
abbrev main_v56 : Ref sig .tc := ⟨.hbm, 127, rfl⟩
abbrev main_v57 : Ref sig .tc := ⟨.hbm, 128, rfl⟩
abbrev main_cst_5 : Ref sig .tc := ⟨.hbm, 129, rfl⟩
abbrev main_v58 : Ref sig .tc := ⟨.hbm, 130, rfl⟩
abbrev main_v59 : Ref sig .tc := ⟨.hbm, 131, rfl⟩
abbrev main_v60 : Ref sig .tc := ⟨.hbm, 132, rfl⟩
abbrev main_v61 : Ref sig .tc := ⟨.hbm, 133, rfl⟩
abbrev main_v62 : Ref sig .tc := ⟨.hbm, 134, rfl⟩
abbrev main_v63 : Ref sig .tc := ⟨.hbm, 135, rfl⟩
abbrev main_v64 : Ref sig .tc := ⟨.hbm, 136, rfl⟩
abbrev main_v65 : Ref sig .tc := ⟨.hbm, 137, rfl⟩
abbrev main_v66 : Ref sig .tc := ⟨.hbm, 138, rfl⟩
abbrev main_call4_v0 : Ref sig .tc := ⟨.hbm, 139, rfl⟩
abbrev main_call4_v1 : Ref sig .tc := ⟨.hbm, 140, rfl⟩
abbrev main_call4_cst : Ref sig .tc := ⟨.hbm, 141, rfl⟩
abbrev main_call4_v2 : Ref sig .tc := ⟨.hbm, 142, rfl⟩
abbrev main_call4_v3 : Ref sig .tc := ⟨.hbm, 143, rfl⟩
abbrev main_call4_cst_0 : Ref sig .tc := ⟨.hbm, 144, rfl⟩
abbrev main_call4_v4 : Ref sig .tc := ⟨.hbm, 145, rfl⟩
abbrev main_v67_2 : Ref sig .tc := ⟨.hbm, 146, rfl⟩
abbrev main_call4_cst_1 : Ref sig .tc := ⟨.hbm, 147, rfl⟩
abbrev main_call4_v6 : Ref sig .tc := ⟨.hbm, 148, rfl⟩
abbrev main_call4_v7 : Ref sig .tc := ⟨.hbm, 149, rfl⟩
abbrev main_v67_1 : Ref sig .tc := ⟨.hbm, 150, rfl⟩
abbrev main_v67_0 : Ref sig .tc := ⟨.hbm, 151, rfl⟩
abbrev main_v68 : Ref sig .tc := ⟨.hbm, 152, rfl⟩
abbrev main_v69 : Ref sig .tc := ⟨.hbm, 153, rfl⟩
abbrev main_v70 : Ref sig .tc := ⟨.hbm, 154, rfl⟩
abbrev main_v71 : Ref sig .tc := ⟨.hbm, 155, rfl⟩
abbrev main_call5_v0 : Ref sig .tc := ⟨.hbm, 156, rfl⟩
abbrev main_call5_v1 : Ref sig .tc := ⟨.hbm, 157, rfl⟩
abbrev main_call5_v2 : Ref sig .tc := ⟨.hbm, 158, rfl⟩
abbrev main_v72 : Ref sig .tc := ⟨.hbm, 159, rfl⟩
abbrev main_v73 : Ref sig .tc := ⟨.hbm, 160, rfl⟩
abbrev main_v74 : Ref sig .tc := ⟨.hbm, 161, rfl⟩
abbrev main_cst_6 : Ref sig .tc := ⟨.hbm, 162, rfl⟩
abbrev main_v75 : Ref sig .tc := ⟨.hbm, 163, rfl⟩
abbrev main_v76 : Ref sig .tc := ⟨.hbm, 164, rfl⟩
abbrev main_v77 : Ref sig .tc := ⟨.hbm, 165, rfl⟩
abbrev main_v78 : Ref sig .tc := ⟨.hbm, 166, rfl⟩
abbrev main_cst_7 : Ref sig .tc := ⟨.hbm, 167, rfl⟩
abbrev main_v79 : Ref sig .tc := ⟨.hbm, 168, rfl⟩
abbrev main_v80 : Ref sig .tc := ⟨.hbm, 169, rfl⟩
abbrev main_v81 : Ref sig .tc := ⟨.hbm, 170, rfl⟩
abbrev main_cst_8 : Ref sig .tc := ⟨.hbm, 171, rfl⟩
abbrev main_v82 : Ref sig .tc := ⟨.hbm, 172, rfl⟩
abbrev main_v83 : Ref sig .tc := ⟨.hbm, 173, rfl⟩
abbrev main_v84 : Ref sig .tc := ⟨.hbm, 174, rfl⟩
abbrev main_v85 : Ref sig .tc := ⟨.hbm, 175, rfl⟩
abbrev main_v86 : Ref sig .tc := ⟨.hbm, 176, rfl⟩
abbrev main_cst_9 : Ref sig .tc := ⟨.hbm, 177, rfl⟩
abbrev main_v87 : Ref sig .tc := ⟨.hbm, 178, rfl⟩
abbrev main_v88 : Ref sig .tc := ⟨.hbm, 179, rfl⟩
abbrev main_cst_10 : Ref sig .tc := ⟨.hbm, 180, rfl⟩
abbrev main_v89 : Ref sig .tc := ⟨.hbm, 181, rfl⟩
abbrev main_v90 : Ref sig .tc := ⟨.hbm, 182, rfl⟩
abbrev main_v91 : Ref sig .tc := ⟨.hbm, 183, rfl⟩
abbrev main_v92 : Ref sig .tc := ⟨.hbm, 184, rfl⟩
abbrev main_v93 : Ref sig .tc := ⟨.hbm, 185, rfl⟩
abbrev main_v94 : Ref sig .tc := ⟨.hbm, 186, rfl⟩
abbrev main_v95 : Ref sig .tc := ⟨.hbm, 187, rfl⟩
abbrev main_v96 : Ref sig .tc := ⟨.hbm, 188, rfl⟩
abbrev main_v97 : Ref sig .tc := ⟨.hbm, 189, rfl⟩
abbrev main_v98 : Ref sig .tc := ⟨.hbm, 190, rfl⟩
abbrev main_v99 : Ref sig .tc := ⟨.hbm, 191, rfl⟩
abbrev main_v100 : Ref sig .tc := ⟨.hbm, 192, rfl⟩
abbrev main_v101 : Ref sig .tc := ⟨.hbm, 193, rfl⟩
abbrev main_v102 : Ref sig .tc := ⟨.hbm, 194, rfl⟩
abbrev main_v103 : Ref sig .tc := ⟨.hbm, 195, rfl⟩
abbrev main_v104 : Ref sig .tc := ⟨.hbm, 196, rfl⟩
abbrev main_v105 : Ref sig .tc := ⟨.hbm, 197, rfl⟩
abbrev main_call6_cst : Ref sig .tc := ⟨.hbm, 198, rfl⟩
abbrev main_call6_v0 : Ref sig .tc := ⟨.hbm, 199, rfl⟩
abbrev main_v106 : Ref sig .tc := ⟨.hbm, 200, rfl⟩
abbrev main_v107 : Ref sig .tc := ⟨.hbm, 201, rfl⟩
abbrev main_cst_11 : Ref sig .tc := ⟨.hbm, 202, rfl⟩
abbrev main_v108 : Ref sig .tc := ⟨.hbm, 203, rfl⟩
abbrev main_v109 : Ref sig .tc := ⟨.hbm, 204, rfl⟩
abbrev main_v110 : Ref sig .tc := ⟨.hbm, 205, rfl⟩
abbrev main_cst_12 : Ref sig .tc := ⟨.hbm, 206, rfl⟩
abbrev main_v111 : Ref sig .tc := ⟨.hbm, 207, rfl⟩
abbrev main_v112 : Ref sig .tc := ⟨.hbm, 208, rfl⟩
abbrev main_cst_13 : Ref sig .tc := ⟨.hbm, 209, rfl⟩
abbrev main_v113 : Ref sig .tc := ⟨.hbm, 210, rfl⟩
abbrev main_cst_14 : Ref sig .tc := ⟨.hbm, 211, rfl⟩
abbrev main_v114 : Ref sig .tc := ⟨.hbm, 212, rfl⟩
abbrev main_v115 : Ref sig .tc := ⟨.hbm, 213, rfl⟩
abbrev main_call7_call0_cst : Ref sig .tc := ⟨.hbm, 214, rfl⟩
abbrev main_call7_call0_v0 : Ref sig .tc := ⟨.hbm, 215, rfl⟩
abbrev main_v116 : Ref sig .tc := ⟨.hbm, 216, rfl⟩
abbrev main_v117 : Ref sig .tc := ⟨.hbm, 217, rfl⟩
abbrev main_v118 : Ref sig .tc := ⟨.hbm, 218, rfl⟩
abbrev main_v119 : Ref sig .tc := ⟨.hbm, 219, rfl⟩
abbrev main_v120 : Ref sig .tc := ⟨.hbm, 220, rfl⟩
abbrev main_v121 : Ref sig .tc := ⟨.hbm, 221, rfl⟩
abbrev main_v122 : Ref sig .tc := ⟨.hbm, 222, rfl⟩
abbrev main_v123 : Ref sig .tc := ⟨.hbm, 223, rfl⟩
abbrev main_cst_15 : Ref sig .tc := ⟨.hbm, 224, rfl⟩
abbrev main_v124 : Ref sig .tc := ⟨.hbm, 225, rfl⟩
abbrev main_v125 : Ref sig .tc := ⟨.hbm, 226, rfl⟩
abbrev main_v126 : Ref sig .tc := ⟨.hbm, 227, rfl⟩
abbrev main_cst_16 : Ref sig .tc := ⟨.hbm, 228, rfl⟩
abbrev main_v127 : Ref sig .tc := ⟨.hbm, 229, rfl⟩
abbrev main_v128 : Ref sig .tc := ⟨.hbm, 230, rfl⟩
abbrev main_v129 : Ref sig .tc := ⟨.hbm, 231, rfl⟩
abbrev main_cst_17 : Ref sig .tc := ⟨.hbm, 232, rfl⟩
abbrev main_v130 : Ref sig .tc := ⟨.hbm, 233, rfl⟩
abbrev main_v131 : Ref sig .tc := ⟨.hbm, 234, rfl⟩
abbrev main_call8_call0_cst : Ref sig .tc := ⟨.hbm, 235, rfl⟩
abbrev main_call8_call0_v0 : Ref sig .tc := ⟨.hbm, 236, rfl⟩
abbrev main_v132 : Ref sig .tc := ⟨.hbm, 237, rfl⟩
abbrev main_v133 : Ref sig .tc := ⟨.hbm, 238, rfl⟩
abbrev main_v134 : Ref sig .tc := ⟨.hbm, 239, rfl⟩
abbrev main_v135 : Ref sig .tc := ⟨.hbm, 240, rfl⟩
abbrev main_cst_18 : Ref sig .tc := ⟨.hbm, 241, rfl⟩
abbrev main_v136 : Ref sig .tc := ⟨.hbm, 242, rfl⟩
abbrev main_v137 : Ref sig .tc := ⟨.hbm, 243, rfl⟩
abbrev main_v138 : Ref sig .tc := ⟨.hbm, 244, rfl⟩
abbrev main_cst_19 : Ref sig .tc := ⟨.hbm, 245, rfl⟩
abbrev main_v139 : Ref sig .tc := ⟨.hbm, 246, rfl⟩
abbrev main_v140 : Ref sig .tc := ⟨.hbm, 247, rfl⟩
abbrev main_call9_v0 : Ref sig .tc := ⟨.hbm, 248, rfl⟩
abbrev main_call9_v1 : Ref sig .tc := ⟨.hbm, 249, rfl⟩
abbrev main_v141 : Ref sig .tc := ⟨.hbm, 250, rfl⟩
abbrev main_cst_20 : Ref sig .tc := ⟨.hbm, 251, rfl⟩
abbrev main_v142 : Ref sig .tc := ⟨.hbm, 252, rfl⟩
abbrev main_v143 : Ref sig .tc := ⟨.hbm, 253, rfl⟩
abbrev main_cst_21 : Ref sig .tc := ⟨.hbm, 254, rfl⟩
abbrev main_v144 : Ref sig .tc := ⟨.hbm, 255, rfl⟩
abbrev main_v145 : Ref sig .tc := ⟨.hbm, 256, rfl⟩
abbrev main_v146 : Ref sig .tc := ⟨.hbm, 257, rfl⟩
abbrev main_v147 : Ref sig .tc := ⟨.hbm, 258, rfl⟩
abbrev main_v148 : Ref sig .tc := ⟨.hbm, 259, rfl⟩
abbrev main_v149 : Ref sig .tc := ⟨.hbm, 260, rfl⟩
abbrev main_v150 : Ref sig .tc := ⟨.hbm, 261, rfl⟩
abbrev main_v151 : Ref sig .tc := ⟨.hbm, 262, rfl⟩
abbrev main_v152 : Ref sig .tc := ⟨.hbm, 263, rfl⟩
abbrev main_v153 : Ref sig .tc := ⟨.hbm, 264, rfl⟩
abbrev main_v154 : Ref sig .tc := ⟨.hbm, 265, rfl⟩
abbrev main_c : Ref sig .tc := ⟨.hbm, 266, rfl⟩
abbrev main_call10_v0 : Ref sig .tc := ⟨.hbm, 267, rfl⟩
abbrev main_v155 : Ref sig .tc := ⟨.hbm, 268, rfl⟩
abbrev main_v156 : Ref sig .tc := ⟨.hbm, 269, rfl⟩
abbrev main_c_22 : Ref sig .tc := ⟨.hbm, 270, rfl⟩
abbrev main_call11_v0 : Ref sig .tc := ⟨.hbm, 271, rfl⟩
abbrev main_v157 : Ref sig .tc := ⟨.hbm, 272, rfl⟩
abbrev main_v158 : Ref sig .tc := ⟨.hbm, 273, rfl⟩
abbrev main_v159 : Ref sig .tc := ⟨.hbm, 274, rfl⟩

abbrev nD : Nat := 1
abbrev τ : Topo := Topo.v7x

variable {F : FTy → Type} [FloatOps F]
-- ==== DwinAtt.lean ====
abbrev S2048x4096 : Shape := ⟨2, ![2048, 4096]⟩
abbrev S2048x2048 : Shape := ⟨2, ![2048, 2048]⟩
abbrev S4096x2048 : Shape := ⟨2, ![4096, 2048]⟩
abbrev S2048x512 : Shape := ⟨2, ![2048, 512]⟩
abbrev S2048x1024 : Shape := ⟨2, ![2048, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x4096, .bf16⟩
  | .hbm, ⟨1, _⟩ => ⟨S2048x2048, .bf16⟩
  | .hbm, ⟨2, _⟩ => ⟨S4096x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .bf16⟩
  | .local _ .vmem, ⟨5, _⟩ => ⟨S512x1024, .bf16⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DwinAttReferenceIdeal.lean ====
abbrev S2048x4096 : Shape := ⟨2, ![2048, 4096]⟩
abbrev S2048x2048 : Shape := ⟨2, ![2048, 2048]⟩
abbrev S_ : Shape := ⟨0, ![]⟩
abbrev S4096x2048 : Shape := ⟨2, ![4096, 2048]⟩

abbrev nBuf : Space → Nat
  | .hbm => 11
  | .vmem => 0
  | .smem => 0
  | _ => 0

abbrev bufTy : (tb : Table) → Fin (tcTables nBuf tb) → BufTy
  | .hbm, ⟨0, _⟩ => ⟨S2048x4096, .bf16⟩
  | .hbm, ⟨1, _⟩ => ⟨S2048x2048, .bf16⟩
  | .hbm, ⟨2, _⟩ => ⟨S_, .f32⟩
  | .hbm, ⟨3, _⟩ => ⟨S2048x4096, .f32⟩
  | .hbm, ⟨4, _⟩ => ⟨S2048x2048, .f32⟩
  | .hbm, ⟨5, _⟩ => ⟨S2048x4096, .f32⟩
  | .hbm, ⟨6, _⟩ => ⟨S2048x4096, .f32⟩
  | .hbm, ⟨7, _⟩ => ⟨S4096x2048, .f32⟩
  | .hbm, ⟨8, _⟩ => ⟨S2048x4096, .f32⟩
  | .hbm, ⟨9, _⟩ => ⟨S4096x2048, .f32⟩
  | .hbm, ⟨10, _⟩ => ⟨S4096x2048, .bf16⟩
  | _, _ => ⟨S2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== DwinGla.lean ====
abbrev S2048x3072 : Shape := ⟨2, ![2048, 3072]⟩
abbrev S2048x2048 : Shape := ⟨2, ![2048, 2048]⟩
abbrev S3072x2048 : Shape := ⟨2, ![3072, 2048]⟩
abbrev S2048x512 : Shape := ⟨2, ![2048, 512]⟩
abbrev S2048x1024 : Shape := ⟨2, ![2048, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x3072, .bf16⟩
  | .hbm, ⟨1, _⟩ => ⟨S2048x2048, .bf16⟩
  | .hbm, ⟨2, _⟩ => ⟨S3072x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .bf16⟩
  | .local _ .vmem, ⟨5, _⟩ => ⟨S512x1024, .bf16⟩
  | _, _ => ⟨S2048x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![6, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DwinGlaReferenceIdeal.lean ====
abbrev S2048x3072 : Shape := ⟨2, ![2048, 3072]⟩
abbrev S2048x2048 : Shape := ⟨2, ![2048, 2048]⟩
abbrev S_ : Shape := ⟨0, ![]⟩
abbrev S3072x2048 : Shape := ⟨2, ![3072, 2048]⟩

abbrev nBuf : Space → Nat
  | .hbm => 11
  | .vmem => 0
  | .smem => 0
  | _ => 0

abbrev bufTy : (tb : Table) → Fin (tcTables nBuf tb) → BufTy
  | .hbm, ⟨0, _⟩ => ⟨S2048x3072, .bf16⟩
  | .hbm, ⟨1, _⟩ => ⟨S2048x2048, .bf16⟩
  | .hbm, ⟨2, _⟩ => ⟨S_, .f32⟩
  | .hbm, ⟨3, _⟩ => ⟨S2048x3072, .f32⟩
  | .hbm, ⟨4, _⟩ => ⟨S2048x2048, .f32⟩
  | .hbm, ⟨5, _⟩ => ⟨S2048x3072, .f32⟩
  | .hbm, ⟨6, _⟩ => ⟨S2048x3072, .f32⟩
  | .hbm, ⟨7, _⟩ => ⟨S3072x2048, .f32⟩
  | .hbm, ⟨8, _⟩ => ⟨S2048x3072, .f32⟩
  | .hbm, ⟨9, _⟩ => ⟨S3072x2048, .f32⟩
  | .hbm, ⟨10, _⟩ => ⟨S3072x2048, .bf16⟩
  | _, _ => ⟨S2048x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== DwinGate.lean ====
abbrev S2048x128 : Shape := ⟨2, ![2048, 128]⟩
abbrev S2048x2048 : Shape := ⟨2, ![2048, 2048]⟩
abbrev S128x2048 : Shape := ⟨2, ![128, 2048]⟩
abbrev S2048x1024 : Shape := ⟨2, ![2048, 1024]⟩
abbrev S128x1024 : Shape := ⟨2, ![128, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x128, .bf16⟩
  | .hbm, ⟨1, _⟩ => ⟨S2048x2048, .bf16⟩
  | .hbm, ⟨2, _⟩ => ⟨S128x2048, .bf16⟩
  | .local _ .vmem, ⟨0, _⟩ => ⟨S2048x128, .bf16⟩
  | .local _ .vmem, ⟨1, _⟩ => ⟨S2048x1024, .bf16⟩
  | .local _ .vmem, ⟨2, _⟩ => ⟨S2048x1024, .bf16⟩
  | .local _ .vmem, ⟨3, _⟩ => ⟨S128x1024, .bf16⟩
  | .local _ .vmem, ⟨4, _⟩ => ⟨S128x1024, .bf16⟩
  | _, _ => ⟨S2048x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DwinGateReferenceIdeal.lean ====
abbrev S2048x128 : Shape := ⟨2, ![2048, 128]⟩
abbrev S2048x2048 : Shape := ⟨2, ![2048, 2048]⟩
abbrev S_ : Shape := ⟨0, ![]⟩
abbrev S128x2048 : Shape := ⟨2, ![128, 2048]⟩

abbrev nBuf : Space → Nat
  | .hbm => 11
  | .vmem => 0
  | .smem => 0
  | _ => 0

abbrev bufTy : (tb : Table) → Fin (tcTables nBuf tb) → BufTy
  | .hbm, ⟨0, _⟩ => ⟨S2048x128, .bf16⟩
  | .hbm, ⟨1, _⟩ => ⟨S2048x2048, .bf16⟩
  | .hbm, ⟨2, _⟩ => ⟨S_, .f32⟩
  | .hbm, ⟨3, _⟩ => ⟨S2048x128, .f32⟩
  | .hbm, ⟨4, _⟩ => ⟨S2048x2048, .f32⟩
  | .hbm, ⟨5, _⟩ => ⟨S2048x128, .f32⟩
  | .hbm, ⟨6, _⟩ => ⟨S2048x128, .f32⟩
  | .hbm, ⟨7, _⟩ => ⟨S128x2048, .f32⟩
  | .hbm, ⟨8, _⟩ => ⟨S2048x128, .f32⟩
  | .hbm, ⟨9, _⟩ => ⟨S128x2048, .f32⟩
  | .hbm, ⟨10, _⟩ => ⟨S128x2048, .bf16⟩
  | _, _ => ⟨S2048x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== DwoutGla.lean ====
abbrev S2048x1024 : Shape := ⟨2, ![2048, 1024]⟩
abbrev S2048x2048 : Shape := ⟨2, ![2048, 2048]⟩
abbrev S1024x2048 : Shape := ⟨2, ![1024, 2048]⟩
abbrev S2048x512 : Shape := ⟨2, ![2048, 512]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S2048x2048, .bf16⟩
  | .hbm, ⟨2, _⟩ => ⟨S1024x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .bf16⟩
  | .local _ .vmem, ⟨5, _⟩ => ⟨S512x1024, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DwoutGlaReferenceIdeal.lean ====
abbrev S2048x1024 : Shape := ⟨2, ![2048, 1024]⟩
abbrev S2048x2048 : Shape := ⟨2, ![2048, 2048]⟩
abbrev S_ : Shape := ⟨0, ![]⟩
abbrev S1024x2048 : Shape := ⟨2, ![1024, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x2048, .bf16⟩
  | .hbm, ⟨2, _⟩ => ⟨S_, .f32⟩
  | .hbm, ⟨3, _⟩ => ⟨S1024x2048, .f32⟩
  | .hbm, ⟨4, _⟩ => ⟨S2048x1024, .f32⟩
  | .hbm, ⟨5, _⟩ => ⟨S2048x2048, .f32⟩
  | .hbm, ⟨6, _⟩ => ⟨S2048x2048, .f32⟩
  | .hbm, ⟨7, _⟩ => ⟨S2048x1024, .f32⟩
  | .hbm, ⟨8, _⟩ => ⟨S1024x2048, .f32⟩
  | .hbm, ⟨9, _⟩ => ⟨S1024x2048, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DwoutAtt.lean ====
abbrev S2048x1024 : Shape := ⟨2, ![2048, 1024]⟩
abbrev S2048x2048 : Shape := ⟨2, ![2048, 2048]⟩
abbrev S1024x2048 : Shape := ⟨2, ![1024, 2048]⟩
abbrev S2048x512 : Shape := ⟨2, ![2048, 512]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S2048x2048, .bf16⟩
  | .hbm, ⟨2, _⟩ => ⟨S1024x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .bf16⟩
  | .local _ .vmem, ⟨5, _⟩ => ⟨S512x1024, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DwoutAttReferenceIdeal.lean ====
abbrev S2048x1024 : Shape := ⟨2, ![2048, 1024]⟩
abbrev S2048x2048 : Shape := ⟨2, ![2048, 2048]⟩
abbrev S_ : Shape := ⟨0, ![]⟩
abbrev S1024x2048 : Shape := ⟨2, ![1024, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x2048, .bf16⟩
  | .hbm, ⟨2, _⟩ => ⟨S_, .f32⟩
  | .hbm, ⟨3, _⟩ => ⟨S1024x2048, .f32⟩
  | .hbm, ⟨4, _⟩ => ⟨S2048x1024, .f32⟩
  | .hbm, ⟨5, _⟩ => ⟨S2048x2048, .f32⟩
  | .hbm, ⟨6, _⟩ => ⟨S2048x2048, .f32⟩
  | .hbm, ⟨7, _⟩ => ⟨S2048x1024, .f32⟩
  | .hbm, ⟨8, _⟩ => ⟨S1024x2048, .f32⟩
  | .hbm, ⟨9, _⟩ => ⟨S1024x2048, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== PostBwd.lean ====
abbrev S2048x2048 : Shape := ⟨2, ![2048, 2048]⟩
abbrev S1x2048 : Shape := ⟨2, ![1, 2048]⟩
abbrev S2048x1024 : Shape := ⟨2, ![2048, 1024]⟩
abbrev S256x2048 : Shape := ⟨2, ![256, 2048]⟩
abbrev S256x1024 : Shape := ⟨2, ![256, 1024]⟩
abbrev S256 : Shape := ⟨1, ![256]⟩
abbrev S256x1 : Shape := ⟨2, ![256, 1]⟩
abbrev S2048 : Shape := ⟨1, ![2048]⟩
abbrev S1024x2048 : Shape := ⟨2, ![1024, 2048]⟩

abbrev nBuf : Space → Nat
  | .hbm => 8
  | .vmem => 13
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S1x2048, .f32⟩
  | .hbm, ⟨3, _⟩ => ⟨S2048x2048, .bf16⟩
  | .hbm, ⟨4, _⟩ => ⟨S2048x2048, .bf16⟩
  | .hbm, ⟨5, _⟩ => ⟨S2048x1024, .bf16⟩
  | .hbm, ⟨6, _⟩ => ⟨S2048x1024, .bf16⟩
  | .hbm, ⟨7, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S2048x2048, .bf16⟩
  | .local _ .vmem, ⟨6, _⟩ => ⟨S256x2048, .bf16⟩
  | .local _ .vmem, ⟨7, _⟩ => ⟨S256x2048, .bf16⟩
  | .local _ .vmem, ⟨8, _⟩ => ⟨S256x1024, .bf16⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== PostBwdReferenceIdeal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩
abbrev S2048x1024 : Shape := ⟨2, ![2048, 1024]⟩

abbrev nBuf : Space → Nat
  | .hbm => 56
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S1x2048, .f32⟩
  | .hbm, ⟨3, _⟩ => ⟨S2048x2048, .bf16⟩
  | .hbm, ⟨4, _⟩ => ⟨S2048x2048, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x2048, .f32⟩
  | .hbm, ⟨20, _⟩ => ⟨S2048x2048, .f32⟩
  | .hbm, ⟨21, _⟩ => ⟨S2048x2048, .f32⟩
  | .hbm, ⟨22, _⟩ => ⟨S2048x2048, .f32⟩
  | .hbm, ⟨23, _⟩ => ⟨S2048x2048, .f32⟩
  | .hbm, ⟨24, _⟩ => ⟨S_, .f32⟩
  | .hbm, ⟨25, _⟩ => ⟨S2048, .f32⟩
  | .hbm, ⟨26, _⟩ => ⟨S1x2048, .f32⟩
  | .hbm, ⟨27, _⟩ => ⟨S2048x2048, .f32⟩
  | .hbm, ⟨28, _⟩ => ⟨S2048x2048, .f32⟩
  | .hbm, ⟨29, _⟩ => ⟨S2048x2048, .f32⟩
  | .hbm, ⟨30, _⟩ => ⟨S_, .f32⟩
  | .hbm, ⟨31, _⟩ => ⟨S2048, .f32⟩
  | .hbm, ⟨32, _⟩ => ⟨S2048x1, .f32⟩
  | .hbm, ⟨33, _⟩ => ⟨S2048x2048, .f32⟩
  | .hbm, ⟨34, _⟩ => ⟨S2048x2048, .f32⟩
  | .hbm, ⟨35, _⟩ => ⟨S2048x1, .f32⟩
  | .hbm, ⟨36, _⟩ => ⟨S_, .f32⟩
  | .hbm, ⟨37, _⟩ => ⟨S2048x1, .f32⟩
  | .hbm, ⟨38, _⟩ => ⟨S2048x1, .f32⟩
  | .hbm, ⟨39, _⟩ => ⟨S_, .f32⟩
  | .hbm, ⟨40, _⟩ => ⟨S2048, .f32⟩
  | .hbm, ⟨41, _⟩ => ⟨S2048x2048, .f32⟩
  | .hbm, ⟨42, _⟩ => ⟨S2048x2048, .f32⟩
  | .hbm, ⟨43, _⟩ => ⟨S2048x2048, .f32⟩
  | .hbm, ⟨44, _⟩ => ⟨S2048x2048, .f32⟩
  | .hbm, ⟨45, _⟩ => ⟨S2048x2048, .f32⟩
  | .hbm, ⟨46, _⟩ => ⟨S2048x2048, .bf16⟩
  | .hbm, ⟨47, _⟩ => ⟨S_, .f32⟩
  | .hbm, ⟨48, _⟩ => ⟨S2048x2048, .f32⟩
  | .hbm, ⟨49, _⟩ => ⟨S2048x2048, .f32⟩
  | .hbm, ⟨50, _⟩ => ⟨S2048x2048, .f32⟩
  | .hbm, ⟨51, _⟩ => ⟨S2048x2048, .f32⟩
  | .hbm, ⟨52, _⟩ => ⟨S2048x2048, .f32⟩
  | .hbm, ⟨53, _⟩ => ⟨S2048x2048, .bf16⟩
  | .hbm, ⟨54, _⟩ => ⟨S2048x1024, .bf16⟩
  | .hbm, ⟨55, _⟩ => ⟨S2048x1024, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_7 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩

abbrev nD : Nat := 1
abbrev τ : Topo := Topo.v7x

variable {F : FTy → Type} [FloatOps F]
-- ==== Dh.lean ====
abbrev S2048x3072 : Shape := ⟨2, ![2048, 3072]⟩
abbrev S2048x4096 : Shape := ⟨2, ![2048, 4096]⟩
abbrev S2048x128 : Shape := ⟨2, ![2048, 128]⟩
abbrev S7168x2048 : Shape := ⟨2, ![7168, 2048]⟩
abbrev S128x2048 : Shape := ⟨2, ![128, 2048]⟩
abbrev S2048x2048 : Shape := ⟨2, ![2048, 2048]⟩
abbrev S1x2048 : Shape := ⟨2, ![1, 2048]⟩
abbrev S512x1024 : Shape := ⟨2, ![512, 1024]⟩
abbrev S512x128 : Shape := ⟨2, ![512, 128]⟩
abbrev S1024x2048 : Shape := ⟨2, ![1024, 2048]⟩
abbrev S512x2048 : Shape := ⟨2, ![512, 2048]⟩
abbrev S512 : Shape := ⟨1, ![512]⟩
abbrev S512x1 : Shape := ⟨2, ![512, 1]⟩
abbrev S2048 : Shape := ⟨1, ![2048]⟩

abbrev nBuf : Space → Nat
  | .hbm => 10
  | .vmem => 18
  | .smem => 0
  | _ => 0

abbrev bufTy : (tb : Table) → Fin (tcTables nBuf tb) → BufTy
  | .hbm, ⟨0, _⟩ => ⟨S2048x3072, .bf16⟩
  | .hbm, ⟨1, _⟩ => ⟨S2048x4096, .bf16⟩
  | .hbm, ⟨2, _⟩ => ⟨S2048x128, .bf16⟩
  | .hbm, ⟨3, _⟩ => ⟨S7168x2048, .bf16⟩
  | .hbm, ⟨4, _⟩ => ⟨S128x2048, .bf16⟩
  | .hbm, ⟨5, _⟩ => ⟨S2048x2048, .f32⟩
  | .hbm, ⟨6, _⟩ => ⟨S2048x2048, .f32⟩
  | .hbm, ⟨7, _⟩ => ⟨S1x2048, .f32⟩
  | .hbm, ⟨8, _⟩ => ⟨S2048x2048, .f32⟩
  | .hbm, ⟨9, _⟩ => ⟨S1x2048, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x128, .bf16⟩
  | .local _ .vmem, ⟨5, _⟩ => ⟨S512x128, .bf16⟩
  | .local _ .vmem, ⟨6, _⟩ => ⟨S1024x2048, .bf16⟩
  | .local _ .vmem, ⟨7, _⟩ => ⟨S1024x2048, .bf16⟩
  | .local _ .vmem, ⟨8, _⟩ => ⟨S128x2048, .bf16⟩
  | .local _ .vmem, ⟨9, _⟩ => ⟨S512x2048, .f32⟩
  | .local _ .vmem, ⟨10, _⟩ => ⟨S512x2048, .f32⟩
  | .local _ .vmem, ⟨11, _⟩ => ⟨S512x2048, .f32⟩
  | .local _ .vmem, ⟨12, _⟩ => ⟨S512x2048, .f32⟩
  | .local _ .vmem, ⟨13, _⟩ => ⟨S1x2048, .f32⟩
  | .local _ .vmem, ⟨14, _⟩ => ⟨S512x2048, .f32⟩
  | .local _ .vmem, ⟨15, _⟩ => ⟨S512x2048, .f32⟩
  | .local _ .vmem, ⟨16, _⟩ => ⟨S1x2048, .f32⟩
  | .local _ .vmem, ⟨17, _⟩ => ⟨S512x2048, .f32⟩
  | _, _ => ⟨S2048x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem8_1 : DmaSem sig := 15
abbrev cc0_sem9_0 : DmaSem sig := 16

abbrev nD : Nat := 1
abbrev τ : Topo := Topo.v7x

variable {F : FTy → Type} [FloatOps F]

abbrev grid0 : Pipeline.Grid := ⟨2, ![4, 7], ![false, false]⟩

def k0_cond5 (i : grid0.Coords) : BitVec 1 :=
  let arg1 : BitVec 32 := BitVec.ofNat 32 (i 1).val
  let c6_i32 : BitVec 32 := 6#32
  let v14 : BitVec 1 := Scalar.cmpi .eq arg1 c6_i32
  let v15 : BitVec 32 := Scalar.extui v14
  let c0_i32_7 : BitVec 32 := 0#32
  let v16 : BitVec 1 := Scalar.cmpi .ne v15 c0_i32_7
  v16

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.minsi arg1 c2_i32
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.subi arg1 c3_i32
  let c0_i32 : BitVec 32 := 0#32
  let v1 : BitVec 32 := Scalar.maxsi v0 c0_i32
  let c0_i32_0 : BitVec 32 := 0#32
  ![arg0.toNat, v1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S128x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]
-- ==== DhReferenceIdeal.lean ====
abbrev S2048x3072 : Shape := ⟨2, ![2048, 3072]⟩
abbrev S2048x4096 : Shape := ⟨2, ![2048, 4096]⟩
abbrev S2048x128 : Shape := ⟨2, ![2048, 128]⟩
abbrev S7168x2048 : Shape := ⟨2, ![7168, 2048]⟩
abbrev S128x2048 : Shape := ⟨2, ![128, 2048]⟩
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩
abbrev S3072x2048 : Shape := ⟨2, ![3072, 2048]⟩
abbrev S4096x2048 : Shape := ⟨2, ![4096, 2048]⟩

abbrev nBuf : Space → Nat
  | .hbm => 69
  | .vmem => 0
  | .smem => 0
  | _ => 0

abbrev bufTy : (tb : Table) → Fin (tcTables nBuf tb) → BufTy
  | .hbm, ⟨0, _⟩ => ⟨S2048x3072, .bf16⟩
  | .hbm, ⟨1, _⟩ => ⟨S2048x4096, .bf16⟩
  | .hbm, ⟨2, _⟩ => ⟨S2048x128, .bf16⟩
  | .hbm, ⟨3, _⟩ => ⟨S7168x2048, .bf16⟩
  | .hbm, ⟨4, _⟩ => ⟨S128x2048, .bf16⟩
  | .hbm, ⟨5, _⟩ => ⟨S2048x2048, .f32⟩
  | .hbm, ⟨6, _⟩ => ⟨S2048x2048, .f32⟩
  | .hbm, ⟨7, _⟩ => ⟨S1x2048, .f32⟩
  | .hbm, ⟨8, _⟩ => ⟨S2048x2048, .f32⟩
  | .hbm, ⟨9, _⟩ => ⟨S_, .f32⟩
  | .hbm, ⟨10, _⟩ => ⟨S2048, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S2048x1, .f32⟩
  | .hbm, ⟨19, _⟩ => ⟨S2048x1, .f32⟩
  | .hbm, ⟨20, _⟩ => ⟨S_, .f32⟩
  | .hbm, ⟨21, _⟩ => ⟨S2048x1, .f32⟩
  | .hbm, ⟨22, _⟩ => ⟨S2048x1, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S2048x2048, .f32⟩
  | .hbm, ⟨27, _⟩ => ⟨S7168x2048, .f32⟩
  | .hbm, ⟨28, _⟩ => ⟨S3072x2048, .f32⟩
  | .hbm, ⟨29, _⟩ => ⟨S2048x3072, .f32⟩
  | .hbm, ⟨30, _⟩ => ⟨S2048x3072, .f32⟩
  | .hbm, ⟨31, _⟩ => ⟨S4096x2048, .f32⟩
  | .hbm, ⟨32, _⟩ => ⟨S2048x4096, .f32⟩
  | .hbm, ⟨33, _⟩ => ⟨S2048x4096, .f32⟩
  | .hbm, ⟨34, _⟩ => ⟨S128x2048, .f32⟩
  | .hbm, ⟨35, _⟩ => ⟨S2048x128, .f32⟩
  | .hbm, ⟨36, _⟩ => ⟨S2048x128, .f32⟩
  | .hbm, ⟨37, _⟩ => ⟨S2048x3072, .f32⟩
  | .hbm, ⟨38, _⟩ => ⟨S2048x4096, .f32⟩
  | .hbm, ⟨39, _⟩ => ⟨S2048x128, .f32⟩
  | .hbm, ⟨40, _⟩ => ⟨S2048x2048, .f32⟩
  | .hbm, ⟨41, _⟩ => ⟨S2048x2048, .f32⟩
  | .hbm, ⟨42, _⟩ => ⟨S2048x2048, .f32⟩
  | .hbm, ⟨43, _⟩ => ⟨S2048x2048, .f32⟩
  | .hbm, ⟨44, _⟩ => ⟨S2048x2048, .f32⟩
  | .hbm, ⟨45, _⟩ => ⟨S2048x2048, .f32⟩
  | .hbm, ⟨46, _⟩ => ⟨S_, .f32⟩
  | .hbm, ⟨47, _⟩ => ⟨S2048, .f32⟩
  | .hbm, ⟨48, _⟩ => ⟨S1x2048, .f32⟩
  | .hbm, ⟨49, _⟩ => ⟨S2048x2048, .f32⟩
  | .hbm, ⟨50, _⟩ => ⟨S2048x2048, .f32⟩
  | .hbm, ⟨51, _⟩ => ⟨S2048x2048, .f32⟩
  | .hbm, ⟨52, _⟩ => ⟨S_, .f32⟩
  | .hbm, ⟨53, _⟩ => ⟨S2048, .f32⟩
  | .hbm, ⟨54, _⟩ => ⟨S2048x1, .f32⟩
  | .hbm, ⟨55, _⟩ => ⟨S2048x2048, .f32⟩
  | .hbm, ⟨56, _⟩ => ⟨S2048x2048, .f32⟩
  | .hbm, ⟨57, _⟩ => ⟨S2048x2048, .f32⟩
  | .hbm, ⟨58, _⟩ => ⟨S2048x1, .f32⟩
  | .hbm, ⟨59, _⟩ => ⟨S_, .f32⟩
  | .hbm, ⟨60, _⟩ => ⟨S2048x1, .f32⟩
  | .hbm, ⟨61, _⟩ => ⟨S2048x1, .f32⟩
  | .hbm, ⟨62, _⟩ => ⟨S_, .f32⟩
  | .hbm, ⟨63, _⟩ => ⟨S2048, .f32⟩
  | .hbm, ⟨64, _⟩ => ⟨S2048x2048, .f32⟩
  | .hbm, ⟨65, _⟩ => ⟨S2048x2048, .f32⟩
  | .hbm, ⟨66, _⟩ => ⟨S2048x2048, .f32⟩
  | .hbm, ⟨67, _⟩ => ⟨S2048x2048, .f32⟩
  | .hbm, ⟨68, _⟩ => ⟨S2048x2048, .f32⟩
  | _, _ => ⟨S2048x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_3 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_4 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_cst_5 : Ref sig .tc := ⟨.hbm, 59, rfl⟩
abbrev main_v45 : Ref sig .tc := ⟨.hbm, 60, rfl⟩
abbrev main_v46 : Ref sig .tc := ⟨.hbm, 61, rfl⟩
abbrev main_cst_6 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩

abbrev nD : Nat := 1
abbrev τ : Topo := Topo.v7x

variable {F : FTy → Type} [FloatOps F]
-- ==== Inproj.lean ====
abbrev S2048x2048 : Shape := ⟨2, ![2048, 2048]⟩
abbrev S1x2048 : Shape := ⟨2, ![1, 2048]⟩
abbrev S7168x2048 : Shape := ⟨2, ![7168, 2048]⟩
abbrev S128x2048 : Shape := ⟨2, ![128, 2048]⟩
abbrev S2048x7168 : Shape := ⟨2, ![2048, 7168]⟩
abbrev S2048x128 : Shape := ⟨2, ![2048, 128]⟩
abbrev S512x2048 : Shape := ⟨2, ![512, 2048]⟩
abbrev S1024x2048 : Shape := ⟨2, ![1024, 2048]⟩
abbrev S512x1024 : Shape := ⟨2, ![512, 1024]⟩
abbrev S512x128 : Shape := ⟨2, ![512, 128]⟩
abbrev S512 : Shape := ⟨1, ![512]⟩
abbrev S512x1 : Shape := ⟨2, ![512, 1]⟩

abbrev nBuf : Space → Nat
  | .hbm => 7
  | .vmem => 13
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S7168x2048, .bf16⟩
  | .hbm, ⟨3, _⟩ => ⟨S128x2048, .bf16⟩
  | .hbm, ⟨4, _⟩ => ⟨S2048x7168, .bf16⟩
  | .hbm, ⟨5, _⟩ => ⟨S2048x128, .bf16⟩
  | .hbm, ⟨6, _⟩ => ⟨S2048x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1024x2048, .bf16⟩
  | .local _ .vmem, ⟨4, _⟩ => ⟨S1024x2048, .bf16⟩
  | .local _ .vmem, ⟨5, _⟩ => ⟨S128x2048, .bf16⟩
  | .local _ .vmem, ⟨6, _⟩ => ⟨S512x1024, .bf16⟩
  | .local _ .vmem, ⟨7, _⟩ => ⟨S512x1024, .bf16⟩
  | .local _ .vmem, ⟨8, _⟩ => ⟨S512x128, .bf16⟩
  | .local _ .vmem, ⟨9, _⟩ => ⟨S512x128, .bf16⟩
  | .local _ .vmem, ⟨10, _⟩ => ⟨S512x2048, .bf16⟩
  | .local _ .vmem, ⟨11, _⟩ => ⟨S512x2048, .bf16⟩
  | .local _ .vmem, ⟨12, _⟩ => ⟨S512x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![4, 7], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S128x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== InprojReferenceIdeal.lean ====
abbrev S2048x2048 : Shape := ⟨2, ![2048, 2048]⟩
abbrev S1x2048 : Shape := ⟨2, ![1, 2048]⟩
abbrev S7168x2048 : Shape := ⟨2, ![7168, 2048]⟩
abbrev S128x2048 : Shape := ⟨2, ![128, 2048]⟩
abbrev S_ : Shape := ⟨0, ![]⟩
abbrev S2048 : Shape := ⟨1, ![2048]⟩
abbrev S2048x1 : Shape := ⟨2, ![2048, 1]⟩
abbrev S2048x7168 : Shape := ⟨2, ![2048, 7168]⟩
abbrev S2048x128 : Shape := ⟨2, ![2048, 128]⟩

abbrev nBuf : Space → Nat
  | .hbm => 30
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S7168x2048, .bf16⟩
  | .hbm, ⟨3, _⟩ => ⟨S128x2048, .bf16⟩
  | .hbm, ⟨4, _⟩ => ⟨S2048x2048, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x2048, .f32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S2048x2048, .bf16⟩
  | .hbm, ⟨20, _⟩ => ⟨S2048x2048, .f32⟩
  | .hbm, ⟨21, _⟩ => ⟨S7168x2048, .f32⟩
  | .hbm, ⟨22, _⟩ => ⟨S2048x7168, .f32⟩
  | .hbm, ⟨23, _⟩ => ⟨S2048x7168, .f32⟩
  | .hbm, ⟨24, _⟩ => ⟨S2048x2048, .f32⟩
  | .hbm, ⟨25, _⟩ => ⟨S128x2048, .f32⟩
  | .hbm, ⟨26, _⟩ => ⟨S2048x128, .f32⟩
  | .hbm, ⟨27, _⟩ => ⟨S2048x128, .f32⟩
  | .hbm, ⟨28, _⟩ => ⟨S2048x7168, .bf16⟩
  | .hbm, ⟨29, _⟩ => ⟨S2048x128, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩

abbrev nD : Nat := 1
abbrev τ : Topo := Topo.v7x

variable {F : FTy → Type} [FloatOps F]
-- ==== Outproj.lean ====
abbrev S2048x1024 : Shape := ⟨2, ![2048, 1024]⟩
abbrev S2048x2048 : Shape := ⟨2, ![2048, 2048]⟩
abbrev S1x2048 : Shape := ⟨2, ![1, 2048]⟩
abbrev S256x1024 : Shape := ⟨2, ![256, 1024]⟩
abbrev S256x2048 : Shape := ⟨2, ![256, 2048]⟩
abbrev S1024x2048 : Shape := ⟨2, ![1024, 2048]⟩
abbrev S256 : Shape := ⟨1, ![256]⟩
abbrev S256x1 : Shape := ⟨2, ![256, 1]⟩

abbrev nBuf : Space → Nat
  | .hbm => 7
  | .vmem => 12
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S2048x2048, .bf16⟩
  | .hbm, ⟨3, _⟩ => ⟨S2048x2048, .f32⟩
  | .hbm, ⟨4, _⟩ => ⟨S1x2048, .f32⟩
  | .hbm, ⟨5, _⟩ => ⟨S2048x2048, .f32⟩
  | .hbm, ⟨6, _⟩ => ⟨S2048x2048, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S2048x2048, .bf16⟩
  | .local _ .vmem, ⟨5, _⟩ => ⟨S256x2048, .f32⟩
  | .local _ .vmem, ⟨6, _⟩ => ⟨S256x2048, .f32⟩
  | .local _ .vmem, ⟨7, _⟩ => ⟨S1x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== OutprojReferenceIdeal.lean ====
abbrev S2048x1024 : Shape := ⟨2, ![2048, 1024]⟩
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩

abbrev nBuf : Space → Nat
  | .hbm => 25
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S2048x2048, .bf16⟩
  | .hbm, ⟨3, _⟩ => ⟨S2048x2048, .f32⟩
  | .hbm, ⟨4, _⟩ => ⟨S1x2048, .f32⟩
  | .hbm, ⟨5, _⟩ => ⟨S2048x2048, .bf16⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S_, .f32⟩
  | .hbm, ⟨11, _⟩ => ⟨S2048, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x1, .f32⟩
  | .hbm, ⟨20, _⟩ => ⟨S2048x2048, .f32⟩
  | .hbm, ⟨21, _⟩ => ⟨S2048x2048, .f32⟩
  | .hbm, ⟨22, _⟩ => ⟨S2048x2048, .f32⟩
  | .hbm, ⟨23, _⟩ => ⟨S2048x2048, .f32⟩
  | .hbm, ⟨24, _⟩ => ⟨S2048x2048, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩

abbrev nD : Nat := 1
abbrev τ : Topo := Topo.v7x

variable {F : FTy → Type} [FloatOps F]
-- ==== AttFwd.lean ====
abbrev S2048x1024 : Shape := ⟨2, ![2048, 1024]⟩
abbrev S8x257 : Shape := ⟨2, ![8, 257]⟩
abbrev S1024 : Shape := ⟨1, ![1024]⟩
abbrev S2048x8x128 : Shape := ⟨3, ![2048, 8, 128]⟩
abbrev S2048x8x512 : Shape := ⟨3, ![2048, 8, 512]⟩
abbrev S2048x4096 : Shape := ⟨2, ![2048, 4096]⟩
abbrev S_ : Shape := ⟨0, ![]⟩
abbrev S2048x7168 : Shape := ⟨2, ![2048, 7168]⟩
abbrev S8x256 : Shape := ⟨2, ![8, 256]⟩
abbrev S8x1x256 : Shape := ⟨3, ![8, 1, 256]⟩
abbrev S1x1024 : Shape := ⟨2, ![1, 1024]⟩
abbrev S2x1x256 : Shape := ⟨3, ![2, 1, 256]⟩
abbrev S1x256 : Shape := ⟨2, ![1, 256]⟩
abbrev S2048x256 : Shape := ⟨2, ![2048, 256]⟩
abbrev S2x2560x128 : Shape := ⟨3, ![2, 2560, 128]⟩
abbrev S2x128x640 : Shape := ⟨3, ![2, 128, 640]⟩
abbrev S512x128 : Shape := ⟨2, ![512, 128]⟩
abbrev S1x512x128 : Shape := ⟨3, ![1, 512, 128]⟩
abbrev S256x128 : Shape := ⟨2, ![256, 128]⟩
abbrev S1x256x128 : Shape := ⟨3, ![1, 256, 128]⟩
abbrev S128x640 : Shape := ⟨2, ![128, 640]⟩
abbrev S1x1x256 : Shape := ⟨3, ![1, 1, 256]⟩
abbrev S128x256 : Shape := ⟨2, ![128, 256]⟩
abbrev S1 : Shape := ⟨1, ![1]⟩
abbrev S1x1 : Shape := ⟨2, ![1, 1]⟩
abbrev S128x384 : Shape := ⟨2, ![128, 384]⟩
abbrev S1x128x640 : Shape := ⟨3, ![1, 128, 640]⟩
abbrev S128x128 : Shape := ⟨2, ![128, 128]⟩
abbrev S1x640x128 : Shape := ⟨3, ![1, 640, 128]⟩
abbrev S640x128 : Shape := ⟨2, ![640, 128]⟩
abbrev S128 : Shape := ⟨1, ![128]⟩
abbrev S128x1 : Shape := ⟨2, ![128, 1]⟩
abbrev S1x128 : Shape := ⟨2, ![1, 128]⟩

abbrev nBuf : Space → Nat
  | .hbm => 22
  | .vmem => 15
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S2048x1024, .bf16⟩
  | .hbm, ⟨3, _⟩ => ⟨S2048x1024, .bf16⟩
  | .hbm, ⟨4, _⟩ => ⟨S8x257, .f32⟩
  | .hbm, ⟨5, _⟩ => ⟨S1024, .f32⟩
  | .hbm, ⟨6, _⟩ => ⟨S2048x8x128, .bf16⟩
  | .hbm, ⟨7, _⟩ => ⟨S2048x8x128, .bf16⟩
  | .hbm, ⟨8, _⟩ => ⟨S2048x8x128, .bf16⟩
  | .hbm, ⟨9, _⟩ => ⟨S2048x8x128, .bf16⟩
  | .hbm, ⟨10, _⟩ => ⟨S2048x8x512, .bf16⟩
  | .hbm, ⟨11, _⟩ => ⟨S2048x4096, .bf16⟩
  | .hbm, ⟨12, _⟩ => ⟨S_, .i32⟩
  | .hbm, ⟨13, _⟩ => ⟨S_, .bf16⟩
  | .hbm, ⟨14, _⟩ => ⟨S2048x7168, .bf16⟩
  | .hbm, ⟨15, _⟩ => ⟨S8x256, .f32⟩
  | .hbm, ⟨16, _⟩ => ⟨S8x256, .f32⟩
  | .hbm, ⟨17, _⟩ => ⟨S8x1x256, .f32⟩
  | .hbm, ⟨18, _⟩ => ⟨S1x1024, .f32⟩
  | .hbm, ⟨19, _⟩ => ⟨S2048x1024, .bf16⟩
  | .hbm, ⟨20, _⟩ => ⟨S2048x1024, .bf16⟩
  | .hbm, ⟨21, _⟩ => ⟨S2048x1024, .f32⟩
  | .local _ .vmem, ⟨0, _⟩ => ⟨S2048x1024, .bf16⟩
  | .local _ .vmem, ⟨1, _⟩ => ⟨S2048x1024, .bf16⟩
  | .local _ .vmem, ⟨2, _⟩ => ⟨S2x1x256, .f32⟩
  | .local _ .vmem, ⟨3, _⟩ => ⟨S2x1x256, .f32⟩
  | .local _ .vmem, ⟨4, _⟩ => ⟨S1x256, .f32⟩
  | .local _ .vmem, ⟨5, _⟩ => ⟨S1x256, .f32⟩
  | .local _ .vmem, ⟨6, _⟩ => ⟨S2048x256, .bf16⟩
  | .local _ .vmem, ⟨7, _⟩ => ⟨S2048x256, .bf16⟩
  | .local _ .vmem, ⟨8, _⟩ => ⟨S2048x256, .bf16⟩
  | .local _ .vmem, ⟨9, _⟩ => ⟨S2048x256, .bf16⟩
  | .local _ .vmem, ⟨10, _⟩ => ⟨S2048x256, .f32⟩
  | .local _ .vmem, ⟨11, _⟩ => ⟨S2048x256, .f32⟩
  | .local _ .vmem, ⟨12, _⟩ => ⟨S2x2560x128, .bf16⟩
  | .local _ .vmem, ⟨13, _⟩ => ⟨S2x2560x128, .bf16⟩
  | .local _ .vmem, ⟨14, _⟩ => ⟨S2x128x640, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_call0_v0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11_0 : Ref sig .tc := ⟨.hbm, 19, rfl⟩
abbrev main_v11_1 : Ref sig .tc := ⟨.hbm, 20, rfl⟩
abbrev main_v11_2 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32_233 : BitVec 32 := 0#32
  let c16_i32_234 : BitVec 32 := 16#32
  let v360 : BitVec 32 := Scalar.addi c0_i32_233 c16_i32_234
  let c1_i32_235 : BitVec 32 := 1#32
  ⟨c0_i32_233, v360, c1_i32_235⟩
def k0_mult1 (k0_t1 : Fin k0_t1_loop.trips) : BitVec 32 :=
  let c0_i32_233 : BitVec 32 := 0#32
  let c1_i32_235 : BitVec 32 := 1#32
  let arg10 : BitVec 32 := Scf.iv c0_i32_233 c1_i32_235 k0_t1
  let c128_i32 : BitVec 32 := 128#32
  let v361 : BitVec 32 := Scalar.muli arg10 c128_i32
  v361
def k0_off1 (k0_t1 : Fin k0_t1_loop.trips) : Fin 2 → Nat :=
  let c0_i32_233 : BitVec 32 := 0#32
  let c1_i32_235 : BitVec 32 := 1#32
  let arg10 : BitVec 32 := Scf.iv c0_i32_233 c1_i32_235 k0_t1
  let c128_i32 : BitVec 32 := 128#32
  let v361 : BitVec 32 := Scalar.muli arg10 c128_i32
  let v362 : BitVec 32 := v361
  let v367 : Index := Scalar.indexCast v362
  let c0_237 : Index := 0#32
  ![v367.toNat, 0]
def k0_off2 (k0_t1 : Fin k0_t1_loop.trips) : Fin 3 → Nat :=
  let c0_238 : Index := 0#32
  let c0_i32_233 : BitVec 32 := 0#32
  let c1_i32_235 : BitVec 32 := 1#32
  let arg10 : BitVec 32 := Scf.iv c0_i32_233 c1_i32_235 k0_t1
  let c128_i32 : BitVec 32 := 128#32
  let v361 : BitVec 32 := Scalar.muli arg10 c128_i32
  let v362 : BitVec 32 := v361
  let v370 : Index := Scalar.indexCast v362
  let c0_239 : Index := 0#32
  ![0, v370.toNat, 0]
def k0_off3 (k0_t1 : Fin k0_t1_loop.trips) : Fin 2 → Nat :=
  let c0_i32_233 : BitVec 32 := 0#32
  let c1_i32_235 : BitVec 32 := 1#32
  let arg10 : BitVec 32 := Scf.iv c0_i32_233 c1_i32_235 k0_t1
  let c128_i32 : BitVec 32 := 128#32
  let v361 : BitVec 32 := Scalar.muli arg10 c128_i32
  let v362 : BitVec 32 := v361
  let v398 : Index := Scalar.indexCast v362
  let c0_252 : Index := 0#32
  ![v398.toNat, 0]
def k0_off4 (k0_t1 : Fin k0_t1_loop.trips) : Fin 2 → Nat :=
  let c0_i32_233 : BitVec 32 := 0#32
  let c1_i32_235 : BitVec 32 := 1#32
  let arg10 : BitVec 32 := Scf.iv c0_i32_233 c1_i32_235 k0_t1
  let c128_i32 : BitVec 32 := 128#32
  let v361 : BitVec 32 := Scalar.muli arg10 c128_i32
  let v362 : BitVec 32 := v361
  let v406 : Index := Scalar.indexCast v362
  let c384 : Index := 384#32
  ![v406.toNat, 384]
def k0_off5 (k0_t1 : Fin k0_t1_loop.trips) : Fin 2 → Nat :=
  let c0_i32_233 : BitVec 32 := 0#32
  let c1_i32_235 : BitVec 32 := 1#32
  let arg10 : BitVec 32 := Scf.iv c0_i32_233 c1_i32_235 k0_t1
  let c128_i32 : BitVec 32 := 128#32
  let v361 : BitVec 32 := Scalar.muli arg10 c128_i32
  let v362 : BitVec 32 := v361
  let v436 : Index := Scalar.indexCast v362
  let c512_263 : Index := 512#32
  ![v436.toNat, 512]
def k0_off6 (k0_t1 : Fin k0_t1_loop.trips) : Fin 3 → Nat :=
  let c1_264 : Index := 1#32
  let c0_i32_233 : BitVec 32 := 0#32
  let c1_i32_235 : BitVec 32 := 1#32
  let arg10 : BitVec 32 := Scf.iv c0_i32_233 c1_i32_235 k0_t1
  let c128_i32 : BitVec 32 := 128#32
  let v361 : BitVec 32 := Scalar.muli arg10 c128_i32
  let v362 : BitVec 32 := v361
  let v439 : Index := Scalar.indexCast v362
  let c0_265 : Index := 0#32
  ![1, v439.toNat, 0]
def k0_off7 (k0_t1 : Fin k0_t1_loop.trips) : Fin 2 → Nat :=
  let c0_i32_233 : BitVec 32 := 0#32
  let c1_i32_235 : BitVec 32 := 1#32
  let arg10 : BitVec 32 := Scf.iv c0_i32_233 c1_i32_235 k0_t1
  let c128_i32 : BitVec 32 := 128#32
  let v361 : BitVec 32 := Scalar.muli arg10 c128_i32
  let v362 : BitVec 32 := v361
  let v467 : Index := Scalar.indexCast v362
  let c128_278 : Index := 128#32
  ![v467.toNat, 128]
def k0_off8 (k0_t1 : Fin k0_t1_loop.trips) : Fin 2 → Nat :=
  let c0_i32_233 : BitVec 32 := 0#32
  let c1_i32_235 : BitVec 32 := 1#32
  let arg10 : BitVec 32 := Scf.iv c0_i32_233 c1_i32_235 k0_t1
  let c128_i32 : BitVec 32 := 128#32
  let v361 : BitVec 32 := Scalar.muli arg10 c128_i32
  let v362 : BitVec 32 := v361
  let v475 : Index := Scalar.indexCast v362
  let c896 : Index := 896#32
  ![v475.toNat, 896]
def cc0_transform_0 (i : grid0.Coords) : Fin 2 → Nat :=
  let arg0 : BitVec 32 := BitVec.ofNat 32 (i 0).val
  let c3_i32 : BitVec 32 := 3#32
  let v0 : BitVec 32 := Scalar.addi c3_i32 arg0
  let c0_i32 : BitVec 32 := 0#32
  let c0_i32_0 : BitVec 32 := 0#32
  ![c0_i32.toNat, v0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x1x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== AttFwdIdeal.lean ====
variable {F : FTy → Type} [FloatOps F] [Named F]
def κ : String → Option EReal := fun
  | "mask" => some ⊥
  | _ => none
-- ==== AttFwdReferenceIdeal.lean ====
abbrev S2048x1024 : Shape := ⟨2, ![2048, 1024]⟩
abbrev S8x257 : Shape := ⟨2, ![8, 257]⟩
abbrev S1024 : Shape := ⟨1, ![1024]⟩
abbrev S2048x8x128 : Shape := ⟨3, ![2048, 8, 128]⟩
abbrev S8x2048x2048 : Shape := ⟨3, ![8, 2048, 2048]⟩
abbrev S_ : Shape := ⟨0, ![]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S2048x2048x1 : Shape := ⟨3, ![2048, 2048, 1]⟩
abbrev S257 : Shape := ⟨1, ![257]⟩
abbrev S1x1x257 : Shape := ⟨3, ![1, 1, 257]⟩
abbrev S2048x2048x257 : Shape := ⟨3, ![2048, 2048, 257]⟩
abbrev S32 : Shape := ⟨1, ![32]⟩
abbrev S32x64 : Shape := ⟨2, ![32, 64]⟩
abbrev S8x2048 : Shape := ⟨2, ![8, 2048]⟩
abbrev S8x2048x1 : Shape := ⟨3, ![8, 2048, 1]⟩
abbrev S8x128x2048 : Shape := ⟨3, ![8, 128, 2048]⟩
abbrev S8x128 : Shape := ⟨2, ![8, 128]⟩
abbrev S2048x8 : Shape := ⟨2, ![2048, 8]⟩
abbrev S2048x8x1 : Shape := ⟨3, ![2048, 8, 1]⟩
abbrev S1x8x128 : Shape := ⟨3, ![1, 8, 128]⟩

abbrev nBuf : Space → Nat
  | .hbm => 126
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S2048x1024, .bf16⟩
  | .hbm, ⟨3, _⟩ => ⟨S2048x1024, .bf16⟩
  | .hbm, ⟨4, _⟩ => ⟨S8x257, .f32⟩
  | .hbm, ⟨5, _⟩ => ⟨S1024, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S2048x1024, .f32⟩
  | .hbm, ⟨10, _⟩ => ⟨S2048x8x128, .f32⟩
  | .hbm, ⟨11, _⟩ => ⟨S2048x8x128, .f32⟩
  | .hbm, ⟨12, _⟩ => ⟨S8x2048x2048, .f32⟩
  | .hbm, ⟨13, _⟩ => ⟨S_, .f32⟩
  | .hbm, ⟨14, _⟩ => ⟨S8x2048x2048, .f32⟩
  | .hbm, ⟨15, _⟩ => ⟨S8x2048x2048, .f32⟩
  | .hbm, ⟨16, _⟩ => ⟨S2048, .i32⟩
  | .hbm, ⟨17, _⟩ => ⟨S2048x1, .i32⟩
  | .hbm, ⟨18, _⟩ => ⟨S1x2048, .i32⟩
  | .hbm, ⟨19, _⟩ => ⟨S2048x2048, .i32⟩
  | .hbm, ⟨20, _⟩ => ⟨S2048x2048, .i32⟩
  | .hbm, ⟨21, _⟩ => ⟨S2048x2048, .i32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S2048x2048, .i32⟩
  | .hbm, ⟨26, _⟩ => ⟨S2048x2048, .i32⟩
  | .hbm, ⟨27, _⟩ => ⟨S_, .i32⟩
  | .hbm, ⟨28, _⟩ => ⟨S2048x2048, .i32⟩
  | .hbm, ⟨29, _⟩ => ⟨S2048x2048, .i32⟩
  | .hbm, ⟨30, _⟩ => ⟨S_, .i32⟩
  | .hbm, ⟨31, _⟩ => ⟨S2048x2048, .i32⟩
  | .hbm, ⟨32, _⟩ => ⟨S2048x2048, .i32⟩
  | .hbm, ⟨33, _⟩ => ⟨S2048x2048x1, .i32⟩
  | .hbm, ⟨34, _⟩ => ⟨S257, .i32⟩
  | .hbm, ⟨35, _⟩ => ⟨S1x1x257, .i32⟩
  | .hbm, ⟨36, _⟩ => ⟨S2048x2048x257, .i32⟩
  | .hbm, ⟨37, _⟩ => ⟨S2048x2048x257, .i32⟩
  | .hbm, ⟨38, _⟩ => ⟨S2048x2048x257, .i1⟩
  | .hbm, ⟨39, _⟩ => ⟨S2048x2048x257, .f32⟩
  | .hbm, ⟨40, _⟩ => ⟨S8x2048x2048, .f32⟩
  | .hbm, ⟨41, _⟩ => ⟨S32, .i32⟩
  | .hbm, ⟨42, _⟩ => ⟨S32x64, .i32⟩
  | .hbm, ⟨43, _⟩ => ⟨S2048, .i32⟩
  | .hbm, ⟨44, _⟩ => ⟨S1x2048, .i32⟩
  | .hbm, ⟨45, _⟩ => ⟨S2048x1, .i32⟩
  | .hbm, ⟨46, _⟩ => ⟨S2048x2048, .i32⟩
  | .hbm, ⟨47, _⟩ => ⟨S2048x2048, .i32⟩
  | .hbm, ⟨48, _⟩ => ⟨S2048x2048, .i1⟩
  | .hbm, ⟨49, _⟩ => ⟨S1x2048, .i32⟩
  | .hbm, ⟨50, _⟩ => ⟨S2048x1, .i32⟩
  | .hbm, ⟨51, _⟩ => ⟨S_, .i32⟩
  | .hbm, ⟨52, _⟩ => ⟨S2048x1, .i32⟩
  | .hbm, ⟨53, _⟩ => ⟨S2048x1, .i32⟩
  | .hbm, ⟨54, _⟩ => ⟨S2048x2048, .i32⟩
  | .hbm, ⟨55, _⟩ => ⟨S2048x2048, .i32⟩
  | .hbm, ⟨56, _⟩ => ⟨S2048x2048, .i1⟩
  | .hbm, ⟨57, _⟩ => ⟨S2048x2048, .i1⟩
  | .hbm, ⟨58, _⟩ => ⟨S8x2048x2048, .f32⟩
  | .hbm, ⟨59, _⟩ => ⟨S_, .f32⟩
  | .hbm, ⟨60, _⟩ => ⟨S_, .f32⟩
  | .hbm, ⟨61, _⟩ => ⟨S8x2048x2048, .i1⟩
  | .hbm, ⟨62, _⟩ => ⟨S8x2048x2048, .f32⟩
  | .hbm, ⟨63, _⟩ => ⟨S8x2048x2048, .f32⟩
  | .hbm, ⟨64, _⟩ => ⟨S_, .f32⟩
  | .hbm, ⟨65, _⟩ => ⟨S8x2048, .f32⟩
  | .hbm, ⟨66, _⟩ => ⟨S8x2048x1, .f32⟩
  | .hbm, ⟨67, _⟩ => ⟨S8x2048x2048, .f32⟩
  | .hbm, ⟨68, _⟩ => ⟨S8x2048x2048, .f32⟩
  | .hbm, ⟨69, _⟩ => ⟨S8x2048x2048, .f32⟩
  | .hbm, ⟨70, _⟩ => ⟨S_, .f32⟩
  | .hbm, ⟨71, _⟩ => ⟨S8x2048, .f32⟩
  | .hbm, ⟨72, _⟩ => ⟨S8x2048x1, .f32⟩
  | .hbm, ⟨73, _⟩ => ⟨S8x2048x1, .f32⟩
  | .hbm, ⟨74, _⟩ => ⟨S8x2048x1, .f32⟩
  | .hbm, ⟨75, _⟩ => ⟨S_, .f32⟩
  | .hbm, ⟨76, _⟩ => ⟨S8x2048, .f32⟩
  | .hbm, ⟨77, _⟩ => ⟨S_, .f32⟩
  | .hbm, ⟨78, _⟩ => ⟨S8x2048, .f32⟩
  | .hbm, ⟨79, _⟩ => ⟨S8x2048, .f32⟩
  | .hbm, ⟨80, _⟩ => ⟨S8x2048x1, .f32⟩
  | .hbm, ⟨81, _⟩ => ⟨S8x2048x2048, .f32⟩
  | .hbm, ⟨82, _⟩ => ⟨S8x2048x2048, .f32⟩
  | .hbm, ⟨83, _⟩ => ⟨S8x2048x2048, .f32⟩
  | .hbm, ⟨84, _⟩ => ⟨S_, .f32⟩
  | .hbm, ⟨85, _⟩ => ⟨S8x2048, .f32⟩
  | .hbm, ⟨86, _⟩ => ⟨S8x2048x1, .f32⟩
  | .hbm, ⟨87, _⟩ => ⟨S8x2048x2048, .f32⟩
  | .hbm, ⟨88, _⟩ => ⟨S8x2048x2048, .f32⟩
  | .hbm, ⟨89, _⟩ => ⟨S2048x8x128, .f32⟩
  | .hbm, ⟨90, _⟩ => ⟨S8x128x2048, .f32⟩
  | .hbm, ⟨91, _⟩ => ⟨S2048x8x128, .f32⟩
  | .hbm, ⟨92, _⟩ => ⟨S8x128, .f32⟩
  | .hbm, ⟨93, _⟩ => ⟨S2048x8x128, .f32⟩
  | .hbm, ⟨94, _⟩ => ⟨S_, .f32⟩
  | .hbm, ⟨95, _⟩ => ⟨S2048x8, .f32⟩
  | .hbm, ⟨96, _⟩ => ⟨S2048x8x1, .f32⟩
  | .hbm, ⟨97, _⟩ => ⟨S_, .f32⟩
  | .hbm, ⟨98, _⟩ => ⟨S2048x8x1, .f32⟩
  | .hbm, ⟨99, _⟩ => ⟨S2048x8x1, .f32⟩
  | .hbm, ⟨100, _⟩ => ⟨S_, .f32⟩
  | .hbm, ⟨101, _⟩ => ⟨S2048x8x1, .f32⟩
  | .hbm, ⟨102, _⟩ => ⟨S2048x8x1, .f32⟩
  | .hbm, ⟨103, _⟩ => ⟨S2048x8x1, .f32⟩
  | .hbm, ⟨104, _⟩ => ⟨S2048x8x128, .f32⟩
  | .hbm, ⟨105, _⟩ => ⟨S2048x8x128, .f32⟩
  | .hbm, ⟨106, _⟩ => ⟨S1x8x128, .f32⟩
  | .hbm, ⟨107, _⟩ => ⟨S2048x8x128, .f32⟩
  | .hbm, ⟨108, _⟩ => ⟨S2048x8x128, .f32⟩
  | .hbm, ⟨109, _⟩ => ⟨S2048x1024, .f32⟩
  | .hbm, ⟨110, _⟩ => ⟨S2048x1024, .f32⟩
  | .hbm, ⟨111, _⟩ => ⟨S2048x1024, .f32⟩
  | .hbm, ⟨112, _⟩ => ⟨S_, .f32⟩
  | .hbm, ⟨113, _⟩ => ⟨S2048x1024, .f32⟩
  | .hbm, ⟨114, _⟩ => ⟨S2048x1024, .f32⟩
  | .hbm, ⟨115, _⟩ => ⟨S_, .f32⟩
  | .hbm, ⟨116, _⟩ => ⟨S2048x1024, .f32⟩
  | .hbm, ⟨117, _⟩ => ⟨S2048x1024, .f32⟩
  | .hbm, ⟨118, _⟩ => ⟨S2048x1024, .f32⟩
  | .hbm, ⟨119, _⟩ => ⟨S2048x1024, .f32⟩
  | .hbm, ⟨120, _⟩ => ⟨S2048x1024, .bf16⟩
  | .hbm, ⟨121, _⟩ => ⟨S2048x1024, .f32⟩
  | .hbm, ⟨122, _⟩ => ⟨S2048x1024, .bf16⟩
  | .hbm, ⟨123, _⟩ => ⟨S2048x8x1, .f32⟩
  | .hbm, ⟨124, _⟩ => ⟨S2048x8x128, .f32⟩
  | .hbm, ⟨125, _⟩ => ⟨S2048x1024, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_c : Ref sig .tc := ⟨.hbm, 22, rfl⟩
abbrev main_c_0 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_v15 : Ref sig .tc := ⟨.hbm, 29, rfl⟩
abbrev main_c_1 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_c_2 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_3 : Ref sig .tc := ⟨.hbm, 59, rfl⟩
abbrev main_call1_v0 : Ref sig .tc := ⟨.hbm, 60, rfl⟩
abbrev main_call1_v1 : Ref sig .tc := ⟨.hbm, 61, rfl⟩
abbrev main_call1_v2 : Ref sig .tc := ⟨.hbm, 62, rfl⟩
abbrev main_v43 : Ref sig .tc := ⟨.hbm, 63, rfl⟩
abbrev main_cst_4 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_5 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_6 : Ref sig .tc := ⟨.hbm, 75, rfl⟩
abbrev main_v53 : Ref sig .tc := ⟨.hbm, 76, rfl⟩
abbrev main_cst_7 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_cst_8 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_cst_9 : Ref sig .tc := ⟨.hbm, 94, rfl⟩
abbrev main_v69 : Ref sig .tc := ⟨.hbm, 95, rfl⟩
abbrev main_v70 : Ref sig .tc := ⟨.hbm, 96, rfl⟩
abbrev main_cst_10 : Ref sig .tc := ⟨.hbm, 97, rfl⟩
abbrev main_v71 : Ref sig .tc := ⟨.hbm, 98, rfl⟩
abbrev main_v72 : Ref sig .tc := ⟨.hbm, 99, rfl⟩
abbrev main_cst_11 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_call2_v0 : Ref sig .tc := ⟨.hbm, 110, rfl⟩
abbrev main_call2_v1 : Ref sig .tc := ⟨.hbm, 111, rfl⟩
abbrev main_call2_cst : Ref sig .tc := ⟨.hbm, 112, rfl⟩
abbrev main_call2_v2 : Ref sig .tc := ⟨.hbm, 113, rfl⟩
abbrev main_call2_v3 : Ref sig .tc := ⟨.hbm, 114, rfl⟩
abbrev main_call2_cst_0 : Ref sig .tc := ⟨.hbm, 115, rfl⟩
abbrev main_call2_v4 : Ref sig .tc := ⟨.hbm, 116, rfl⟩
abbrev main_call2_v5 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩

abbrev nD : Nat := 1
abbrev τ : Topo := Topo.v7x

variable {F : FTy → Type} [FloatOps F]
-- ==== GlaFwd.lean ====
abbrev S2048x512 : Shape := ⟨2, ![2048, 512]⟩
abbrev S2048x1024 : Shape := ⟨2, ![2048, 1024]⟩
abbrev S2048x16 : Shape := ⟨2, ![2048, 16]⟩
abbrev S16x512 : Shape := ⟨2, ![16, 512]⟩
abbrev S512 : Shape := ⟨1, ![512]⟩
abbrev S1024 : Shape := ⟨1, ![1024]⟩
abbrev S2048x4x128 : Shape := ⟨3, ![2048, 4, 128]⟩
abbrev S2048x4x256 : Shape := ⟨3, ![2048, 4, 256]⟩
abbrev S2048x4x768 : Shape := ⟨3, ![2048, 4, 768]⟩
abbrev S2048x3072 : Shape := ⟨2, ![2048, 3072]⟩
abbrev S_ : Shape := ⟨0, ![]⟩
abbrev S2048x128 : Shape := ⟨2, ![2048, 128]⟩
abbrev S128x512 : Shape := ⟨2, ![128, 512]⟩
abbrev S1x512 : Shape := ⟨2, ![1, 512]⟩
abbrev S1x1024 : Shape := ⟨2, ![1, 1024]⟩
abbrev S2048x1536 : Shape := ⟨2, ![2048, 1536]⟩
abbrev S128x256 : Shape := ⟨2, ![128, 256]⟩
abbrev S1x256 : Shape := ⟨2, ![1, 256]⟩
abbrev S2048x256 : Shape := ⟨2, ![2048, 256]⟩
abbrev S2x256x128 : Shape := ⟨3, ![2, 256, 128]⟩
abbrev S64x64 : Shape := ⟨2, ![64, 64]⟩
abbrev S64x128 : Shape := ⟨2, ![64, 128]⟩
abbrev S128 : Shape := ⟨1, ![128]⟩
abbrev S1x128 : Shape := ⟨2, ![1, 128]⟩
abbrev S1x256x128 : Shape := ⟨3, ![1, 256, 128]⟩
abbrev S256x128 : Shape := ⟨2, ![256, 128]⟩
abbrev S64x256 : Shape := ⟨2, ![64, 256]⟩
abbrev S64 : Shape := ⟨1, ![64]⟩
abbrev S64x1 : Shape := ⟨2, ![64, 1]⟩

abbrev nBuf : Space → Nat
  | .hbm => 23
  | .vmem => 13
  | .smem => 0
  | _ => 0

abbrev bufTy : (tb : Table) → Fin (tcTables nBuf tb) → BufTy
  | .hbm, ⟨0, _⟩ => ⟨S2048x512, .bf16⟩
  | .hbm, ⟨1, _⟩ => ⟨S2048x512, .bf16⟩
  | .hbm, ⟨2, _⟩ => ⟨S2048x1024, .bf16⟩
  | .hbm, ⟨3, _⟩ => ⟨S2048x1024, .bf16⟩
  | .hbm, ⟨4, _⟩ => ⟨S2048x16, .bf16⟩
  | .hbm, ⟨5, _⟩ => ⟨S16x512, .bf16⟩
  | .hbm, ⟨6, _⟩ => ⟨S512, .f32⟩
  | .hbm, ⟨7, _⟩ => ⟨S1024, .f32⟩
  | .hbm, ⟨8, _⟩ => ⟨S2048x4x128, .bf16⟩
  | .hbm, ⟨9, _⟩ => ⟨S2048x4x128, .bf16⟩
  | .hbm, ⟨10, _⟩ => ⟨S2048x4x256, .bf16⟩
  | .hbm, ⟨11, _⟩ => ⟨S2048x4x256, .bf16⟩
  | .hbm, ⟨12, _⟩ => ⟨S2048x4x768, .bf16⟩
  | .hbm, ⟨13, _⟩ => ⟨S2048x3072, .bf16⟩
  | .hbm, ⟨14, _⟩ => ⟨S_, .i32⟩
  | .hbm, ⟨15, _⟩ => ⟨S_, .bf16⟩
  | .hbm, ⟨16, _⟩ => ⟨S2048x128, .bf16⟩
  | .hbm, ⟨17, _⟩ => ⟨S_, .i32⟩
  | .hbm, ⟨18, _⟩ => ⟨S_, .bf16⟩
  | .hbm, ⟨19, _⟩ => ⟨S128x512, .bf16⟩
  | .hbm, ⟨20, _⟩ => ⟨S1x512, .f32⟩
  | .hbm, ⟨21, _⟩ => ⟨S1x1024, .f32⟩
  | .hbm, ⟨22, _⟩ => ⟨S2048x1024, .bf16⟩
  | .local _ .vmem, ⟨0, _⟩ => ⟨S2048x1536, .bf16⟩
  | .local _ .vmem, ⟨1, _⟩ => ⟨S2048x1536, .bf16⟩
  | .local _ .vmem, ⟨2, _⟩ => ⟨S2048x128, .bf16⟩
  | .local _ .vmem, ⟨3, _⟩ => ⟨S128x256, .bf16⟩
  | .local _ .vmem, ⟨4, _⟩ => ⟨S128x256, .bf16⟩
  | .local _ .vmem, ⟨5, _⟩ => ⟨S1x256, .f32⟩
  | .local _ .vmem, ⟨6, _⟩ => ⟨S1x256, .f32⟩
  | .local _ .vmem, ⟨7, _⟩ => ⟨S1x512, .f32⟩
  | .local _ .vmem, ⟨8, _⟩ => ⟨S1x512, .f32⟩
  | .local _ .vmem, ⟨9, _⟩ => ⟨S2048x512, .bf16⟩
  | .local _ .vmem, ⟨10, _⟩ => ⟨S2048x512, .bf16⟩
  | .local _ .vmem, ⟨11, _⟩ => ⟨S2048x256, .f32⟩
  | .local _ .vmem, ⟨12, _⟩ => ⟨S2x256x128, .f32⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c : Ref sig .tc := ⟨.hbm, 14, rfl⟩
abbrev main_call0_v0 : Ref sig .tc := ⟨.hbm, 15, rfl⟩
abbrev main_v6 : Ref sig .tc := ⟨.hbm, 16, rfl⟩
abbrev main_c_0 : Ref sig .tc := ⟨.hbm, 17, rfl⟩
abbrev main_call1_v0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![2], ![false]⟩

@[reducible] def k0_t1_loop : Scf.Loop 32 :=
  let c0_i32 : BitVec 32 := 0#32
  let c32_i32 : BitVec 32 := 32#32
  let v35 : BitVec 32 := Scalar.addi c0_i32 c32_i32
  let c1_i32 : BitVec 32 := 1#32
  ⟨c0_i32, v35, c1_i32⟩
def k0_mult1 (k0_t1 : Fin k0_t1_loop.trips) : BitVec 32 :=
  let c0_i32 : BitVec 32 := 0#32
  let c1_i32 : BitVec 32 := 1#32
  let arg9 : BitVec 32 := Scf.iv c0_i32 c1_i32 k0_t1
  let c64_i32 : BitVec 32 := 64#32
  let v36 : BitVec 32 := Scalar.muli arg9 c64_i32
  v36
def k0_off1 (k0_t1 : Fin k0_t1_loop.trips) : Fin 2 → Nat :=
  let c0_i32 : BitVec 32 := 0#32
  let c1_i32 : BitVec 32 := 1#32
  let arg9 : BitVec 32 := Scf.iv c0_i32 c1_i32 k0_t1
  let c64_i32 : BitVec 32 := 64#32
  let v36 : BitVec 32 := Scalar.muli arg9 c64_i32
  let v37 : BitVec 32 := v36
  let v38 : Index := Scalar.indexCast v37
  let c0_18 : Index := 0#32
  ![v38.toNat, 0]
def k0_off2 (k0_t1 : Fin k0_t1_loop.trips) : Fin 2 → Nat :=
  let c0_i32 : BitVec 32 := 0#32
  let c1_i32 : BitVec 32 := 1#32
  let arg9 : BitVec 32 := Scf.iv c0_i32 c1_i32 k0_t1
  let c64_i32 : BitVec 32 := 64#32
  let v36 : BitVec 32 := Scalar.muli arg9 c64_i32
  let v37 : BitVec 32 := v36
  let v54 : Index := Scalar.indexCast v37
  let c128 : Index := 128#32
  ![v54.toNat, 128]
def k0_off3 (k0_t1 : Fin k0_t1_loop.trips) : Fin 2 → Nat :=
  let c0_i32 : BitVec 32 := 0#32
  let c1_i32 : BitVec 32 := 1#32
  let arg9 : BitVec 32 := Scf.iv c0_i32 c1_i32 k0_t1
  let c64_i32 : BitVec 32 := 64#32
  let v36 : BitVec 32 := Scalar.muli arg9 c64_i32
  let v37 : BitVec 32 := v36
  let v68 : Index := Scalar.indexCast v37
  let c256 : Index := 256#32
  ![v68.toNat, 256]
def k0_off4 (k0_t1 : Fin k0_t1_loop.trips) : Fin 2 → Nat :=
  let c0_i32 : BitVec 32 := 0#32
  let c1_i32 : BitVec 32 := 1#32
  let arg9 : BitVec 32 := Scf.iv c0_i32 c1_i32 k0_t1
  let c64_i32 : BitVec 32 := 64#32
  let v36 : BitVec 32 := Scalar.muli arg9 c64_i32
  let v37 : BitVec 32 := v36
  let v76 : Index := Scalar.indexCast v37
  let c0_30 : Index := 0#32
  ![v76.toNat, 0]
def k0_off5 (k0_t1 : Fin k0_t1_loop.trips) : Fin 2 → Nat :=
  let c0_i32 : BitVec 32 := 0#32
  let c1_i32 : BitVec 32 := 1#32
  let arg9 : BitVec 32 := Scf.iv c0_i32 c1_i32 k0_t1
  let c64_i32 : BitVec 32 := 64#32
  let v36 : BitVec 32 := Scalar.muli arg9 c64_i32
  let v37 : BitVec 32 := v36
  let v85 : Index := Scalar.indexCast v37
  let c512 : Index := 512#32
  ![v85.toNat, 512]
def k0_off6 (k0_t1 : Fin k0_t1_loop.trips) : Fin 2 → Nat :=
  let c0_i32 : BitVec 32 := 0#32
  let c1_i32 : BitVec 32 := 1#32
  let arg9 : BitVec 32 := Scf.iv c0_i32 c1_i32 k0_t1
  let c64_i32 : BitVec 32 := 64#32
  let v36 : BitVec 32 := Scalar.muli arg9 c64_i32
  let v37 : BitVec 32 := v36
  let v113 : Index := Scalar.indexCast v37
  let c0_41 : Index := 0#32
  ![v113.toNat, 0]
def k0_off7 (k0_t1 : Fin k0_t1_loop.trips) : Fin 2 → Nat :=
  let c0_i32 : BitVec 32 := 0#32
  let c1_i32 : BitVec 32 := 1#32
  let arg9 : BitVec 32 := Scf.iv c0_i32 c1_i32 k0_t1
  let c64_i32 : BitVec 32 := 64#32
  let v36 : BitVec 32 := Scalar.muli arg9 c64_i32
  let v37 : BitVec 32 := v36
  let v115 : Index := Scalar.indexCast v37
  let c128_42 : Index := 128#32
  ![v115.toNat, 128]
def k0_off8 (k0_t1 : Fin k0_t1_loop.trips) : Fin 2 → Nat :=
  let c0_i32 : BitVec 32 := 0#32
  let c1_i32 : BitVec 32 := 1#32
  let arg9 : BitVec 32 := Scf.iv c0_i32 c1_i32 k0_t1
  let c64_i32 : BitVec 32 := 64#32
  let v36 : BitVec 32 := Scalar.muli arg9 c64_i32
  let v37 : BitVec 32 := v36
  let v131 : Index := Scalar.indexCast v37
  let c896 : Index := 896#32
  ![v131.toNat, 896]
def k0_off9 (k0_t1 : Fin k0_t1_loop.trips) : Fin 2 → Nat :=
  let c0_i32 : BitVec 32 := 0#32
  let c1_i32 : BitVec 32 := 1#32
  let arg9 : BitVec 32 := Scf.iv c0_i32 c1_i32 k0_t1
  let c64_i32 : BitVec 32 := 64#32
  let v36 : BitVec 32 := Scalar.muli arg9 c64_i32
  let v37 : BitVec 32 := v36
  let v145 : Index := Scalar.indexCast v37
  let c1024 : Index := 1024#32
  ![v145.toNat, 1024]
def k0_off10 (k0_t1 : Fin k0_t1_loop.trips) : Fin 2 → Nat :=
  let c0_i32 : BitVec 32 := 0#32
  let c1_i32 : BitVec 32 := 1#32
  let arg9 : BitVec 32 := Scf.iv c0_i32 c1_i32 k0_t1
  let c64_i32 : BitVec 32 := 64#32
  let v36 : BitVec 32 := Scalar.muli arg9 c64_i32
  let v37 : BitVec 32 := v36
  let v153 : Index := Scalar.indexCast v37
  let c768 : Index := 768#32
  ![v153.toNat, 768]
def k0_off11 (k0_t1 : Fin k0_t1_loop.trips) : Fin 2 → Nat :=
  let c0_i32 : BitVec 32 := 0#32
  let c1_i32 : BitVec 32 := 1#32
  let arg9 : BitVec 32 := Scf.iv c0_i32 c1_i32 k0_t1
  let c64_i32 : BitVec 32 := 64#32
  let v36 : BitVec 32 := Scalar.muli arg9 c64_i32
  let v37 : BitVec 32 := v36
  let v162 : Index := Scalar.indexCast v37
  let c1280 : Index := 1280#32
  ![v162.toNat, 1280]
def k0_off12 (k0_t1 : Fin k0_t1_loop.trips) : Fin 2 → Nat :=
  let c0_i32 : BitVec 32 := 0#32
  let c1_i32 : BitVec 32 := 1#32
  let arg9 : BitVec 32 := Scf.iv c0_i32 c1_i32 k0_t1
  let c64_i32 : BitVec 32 := 64#32
  let v36 : BitVec 32 := Scalar.muli arg9 c64_i32
  let v37 : BitVec 32 := v36
  let v190 : Index := Scalar.indexCast v37
  let c256_63 : Index := 256#32
  ![v190.toNat, 256]
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== GlaFwdReferenceIdeal.lean ====
abbrev S2048x512 : Shape := ⟨2, ![2048, 512]⟩
abbrev S2048x1024 : Shape := ⟨2, ![2048, 1024]⟩
abbrev S2048x16 : Shape := ⟨2, ![2048, 16]⟩
abbrev S16x512 : Shape := ⟨2, ![16, 512]⟩
abbrev S512 : Shape := ⟨1, ![512]⟩
abbrev S1024 : Shape := ⟨1, ![1024]⟩
abbrev S1x512 : Shape := ⟨2, ![1, 512]⟩
abbrev S_ : Shape := ⟨0, ![]⟩
abbrev S32x64x4x128 : Shape := ⟨4, ![32, 64, 4, 128]⟩
abbrev S32x64x4x256 : Shape := ⟨4, ![32, 64, 4, 256]⟩
abbrev S32x1x4x128 : Shape := ⟨4, ![32, 1, 4, 128]⟩
abbrev S32x4x128 : Shape := ⟨3, ![32, 4, 128]⟩
abbrev S32x4x128x256 : Shape := ⟨4, ![32, 4, 128, 256]⟩
abbrev S32 : Shape := ⟨1, ![32]⟩
abbrev S32x1 : Shape := ⟨2, ![32, 1]⟩
abbrev S1x32 : Shape := ⟨2, ![1, 32]⟩
abbrev S32x32 : Shape := ⟨2, ![32, 32]⟩
abbrev S32x32x1x1 : Shape := ⟨4, ![32, 32, 1, 1]⟩
abbrev S1x32x4x128 : Shape := ⟨4, ![1, 32, 4, 128]⟩
abbrev S32x32x4x128 : Shape := ⟨4, ![32, 32, 4, 128]⟩
abbrev S4x128x256x32 : Shape := ⟨4, ![4, 128, 256, 32]⟩
abbrev S32x4x256x64 : Shape := ⟨4, ![32, 4, 256, 64]⟩
abbrev S2048x4x256 : Shape := ⟨3, ![2048, 4, 256]⟩
abbrev S2048x4 : Shape := ⟨2, ![2048, 4]⟩
abbrev S2048x4x1 : Shape := ⟨3, ![2048, 4, 1]⟩
abbrev S4x256 : Shape := ⟨2, ![4, 256]⟩
abbrev S1x4x256 : Shape := ⟨3, ![1, 4, 256]⟩

abbrev nBuf : Space → Nat
  | .hbm => 111
  | .vmem => 0
  | .smem => 0
  | _ => 0

abbrev bufTy : (tb : Table) → Fin (tcTables nBuf tb) → BufTy
  | .hbm, ⟨0, _⟩ => ⟨S2048x512, .bf16⟩
  | .hbm, ⟨1, _⟩ => ⟨S2048x512, .bf16⟩
  | .hbm, ⟨2, _⟩ => ⟨S2048x1024, .bf16⟩
  | .hbm, ⟨3, _⟩ => ⟨S2048x1024, .bf16⟩
  | .hbm, ⟨4, _⟩ => ⟨S2048x16, .bf16⟩
  | .hbm, ⟨5, _⟩ => ⟨S16x512, .bf16⟩
  | .hbm, ⟨6, _⟩ => ⟨S512, .f32⟩
  | .hbm, ⟨7, _⟩ => ⟨S1024, .f32⟩
  | .hbm, ⟨8, _⟩ => ⟨S2048x512, .f32⟩
  | .hbm, ⟨9, _⟩ => ⟨S2048x512, .f32⟩
  | .hbm, ⟨10, _⟩ => ⟨S2048x1024, .f32⟩
  | .hbm, ⟨11, _⟩ => ⟨S2048x1024, .f32⟩
  | .hbm, ⟨12, _⟩ => ⟨S2048x16, .f32⟩
  | .hbm, ⟨13, _⟩ => ⟨S16x512, .f32⟩
  | .hbm, ⟨14, _⟩ => ⟨S2048x512, .f32⟩
  | .hbm, ⟨15, _⟩ => ⟨S1x512, .f32⟩
  | .hbm, ⟨16, _⟩ => ⟨S2048x512, .f32⟩
  | .hbm, ⟨17, _⟩ => ⟨S2048x512, .f32⟩
  | .hbm, ⟨18, _⟩ => ⟨S2048x512, .f32⟩
  | .hbm, ⟨19, _⟩ => ⟨S_, .f32⟩
  | .hbm, ⟨20, _⟩ => ⟨S2048x512, .f32⟩
  | .hbm, ⟨21, _⟩ => ⟨S2048x512, .f32⟩
  | .hbm, ⟨22, _⟩ => ⟨S2048x512, .f32⟩
  | .hbm, ⟨23, _⟩ => ⟨S2048x512, .f32⟩
  | .hbm, ⟨24, _⟩ => ⟨S2048x512, .i1⟩
  | .hbm, ⟨25, _⟩ => ⟨S2048x512, .f32⟩
  | .hbm, ⟨26, _⟩ => ⟨S2048x512, .f32⟩
  | .hbm, ⟨27, _⟩ => ⟨S2048x512, .f32⟩
  | .hbm, ⟨28, _⟩ => ⟨S2048x512, .f32⟩
  | .hbm, ⟨29, _⟩ => ⟨S2048x512, .f32⟩
  | .hbm, ⟨30, _⟩ => ⟨S2048x512, .f32⟩
  | .hbm, ⟨31, _⟩ => ⟨S2048x512, .f32⟩
  | .hbm, ⟨32, _⟩ => ⟨S2048x512, .f32⟩
  | .hbm, ⟨33, _⟩ => ⟨S2048x512, .f32⟩
  | .hbm, ⟨34, _⟩ => ⟨S_, .f32⟩
  | .hbm, ⟨35, _⟩ => ⟨S2048x512, .f32⟩
  | .hbm, ⟨36, _⟩ => ⟨S2048x512, .f32⟩
  | .hbm, ⟨37, _⟩ => ⟨S32x64x4x128, .f32⟩
  | .hbm, ⟨38, _⟩ => ⟨S_, .f32⟩
  | .hbm, ⟨39, _⟩ => ⟨S32x64x4x128, .f32⟩
  | .hbm, ⟨40, _⟩ => ⟨S32x64x4x128, .f32⟩
  | .hbm, ⟨41, _⟩ => ⟨S32x64x4x128, .f32⟩
  | .hbm, ⟨42, _⟩ => ⟨S32x64x4x256, .f32⟩
  | .hbm, ⟨43, _⟩ => ⟨S32x64x4x128, .f32⟩
  | .hbm, ⟨44, _⟩ => ⟨S_, .f32⟩
  | .hbm, ⟨45, _⟩ => ⟨S_, .f32⟩
  | .hbm, ⟨46, _⟩ => ⟨S32x64x4x128, .f32⟩
  | .hbm, ⟨47, _⟩ => ⟨S32x1x4x128, .f32⟩
  | .hbm, ⟨48, _⟩ => ⟨S32x4x128, .f32⟩
  | .hbm, ⟨49, _⟩ => ⟨S32x1x4x128, .f32⟩
  | .hbm, ⟨50, _⟩ => ⟨S32x64x4x128, .f32⟩
  | .hbm, ⟨51, _⟩ => ⟨S32x64x4x128, .f32⟩
  | .hbm, ⟨52, _⟩ => ⟨S32x64x4x128, .f32⟩
  | .hbm, ⟨53, _⟩ => ⟨S32x64x4x128, .f32⟩
  | .hbm, ⟨54, _⟩ => ⟨S32x4x128x256, .f32⟩
  | .hbm, ⟨55, _⟩ => ⟨S_, .f32⟩
  | .hbm, ⟨56, _⟩ => ⟨S_, .f32⟩
  | .hbm, ⟨57, _⟩ => ⟨S32x4x128, .f32⟩
  | .hbm, ⟨58, _⟩ => ⟨S32, .i32⟩
  | .hbm, ⟨59, _⟩ => ⟨S32x1, .i32⟩
  | .hbm, ⟨60, _⟩ => ⟨S32, .i32⟩
  | .hbm, ⟨61, _⟩ => ⟨S1x32, .i32⟩
  | .hbm, ⟨62, _⟩ => ⟨S32x32, .i32⟩
  | .hbm, ⟨63, _⟩ => ⟨S32x32, .i32⟩
  | .hbm, ⟨64, _⟩ => ⟨S32x32, .i1⟩
  | .hbm, ⟨65, _⟩ => ⟨S32x32x1x1, .i1⟩
  | .hbm, ⟨66, _⟩ => ⟨S32x1x4x128, .f32⟩
  | .hbm, ⟨67, _⟩ => ⟨S1x32x4x128, .f32⟩
  | .hbm, ⟨68, _⟩ => ⟨S32x32x4x128, .f32⟩
  | .hbm, ⟨69, _⟩ => ⟨S32x32x4x128, .f32⟩
  | .hbm, ⟨70, _⟩ => ⟨S32x32x4x128, .f32⟩
  | .hbm, ⟨71, _⟩ => ⟨S32x32x4x128, .f32⟩
  | .hbm, ⟨72, _⟩ => ⟨S_, .f32⟩
  | .hbm, ⟨73, _⟩ => ⟨S_, .f32⟩
  | .hbm, ⟨74, _⟩ => ⟨S32x32x4x128, .i1⟩
  | .hbm, ⟨75, _⟩ => ⟨S32x32x4x128, .f32⟩
  | .hbm, ⟨76, _⟩ => ⟨S32x32x4x128, .f32⟩
  | .hbm, ⟨77, _⟩ => ⟨S4x128x256x32, .f32⟩
  | .hbm, ⟨78, _⟩ => ⟨S32x4x128x256, .f32⟩
  | .hbm, ⟨79, _⟩ => ⟨S32x4x256x64, .f32⟩
  | .hbm, ⟨80, _⟩ => ⟨S32x64x4x256, .f32⟩
  | .hbm, ⟨81, _⟩ => ⟨S2048x4x256, .f32⟩
  | .hbm, ⟨82, _⟩ => ⟨S2048x4x256, .f32⟩
  | .hbm, ⟨83, _⟩ => ⟨S_, .f32⟩
  | .hbm, ⟨84, _⟩ => ⟨S2048x4, .f32⟩
  | .hbm, ⟨85, _⟩ => ⟨S2048x4x1, .f32⟩
  | .hbm, ⟨86, _⟩ => ⟨S_, .f32⟩
  | .hbm, ⟨87, _⟩ => ⟨S2048x4x1, .f32⟩
  | .hbm, ⟨88, _⟩ => ⟨S2048x4x1, .f32⟩
  | .hbm, ⟨89, _⟩ => ⟨S_, .f32⟩
  | .hbm, ⟨90, _⟩ => ⟨S2048x4x1, .f32⟩
  | .hbm, ⟨91, _⟩ => ⟨S2048x4x1, .f32⟩
  | .hbm, ⟨92, _⟩ => ⟨S2048x4x1, .f32⟩
  | .hbm, ⟨93, _⟩ => ⟨S2048x4x256, .f32⟩
  | .hbm, ⟨94, _⟩ => ⟨S2048x4x256, .f32⟩
  | .hbm, ⟨95, _⟩ => ⟨S4x256, .f32⟩
  | .hbm, ⟨96, _⟩ => ⟨S1x4x256, .f32⟩
  | .hbm, ⟨97, _⟩ => ⟨S2048x4x256, .f32⟩
  | .hbm, ⟨98, _⟩ => ⟨S2048x4x256, .f32⟩
  | .hbm, ⟨99, _⟩ => ⟨S2048x1024, .f32⟩
  | .hbm, ⟨100, _⟩ => ⟨S2048x1024, .f32⟩
  | .hbm, ⟨101, _⟩ => ⟨S2048x1024, .f32⟩
  | .hbm, ⟨102, _⟩ => ⟨S_, .f32⟩
  | .hbm, ⟨103, _⟩ => ⟨S2048x1024, .f32⟩
  | .hbm, ⟨104, _⟩ => ⟨S2048x1024, .f32⟩
  | .hbm, ⟨105, _⟩ => ⟨S_, .f32⟩
  | .hbm, ⟨106, _⟩ => ⟨S2048x1024, .f32⟩
  | .hbm, ⟨107, _⟩ => ⟨S2048x1024, .f32⟩
  | .hbm, ⟨108, _⟩ => ⟨S2048x1024, .f32⟩
  | .hbm, ⟨109, _⟩ => ⟨S2048x1024, .f32⟩
  | .hbm, ⟨110, _⟩ => ⟨S2048x1024, .bf16⟩
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_call0_v0 : Ref sig .tc := ⟨.hbm, 18, rfl⟩
abbrev main_call0_call0_cst : Ref sig .tc := ⟨.hbm, 19, rfl⟩
abbrev main_call0_call0_v0 : Ref sig .tc := ⟨.hbm, 20, rfl⟩
abbrev main_call0_call0_v1 : Ref sig .tc := ⟨.hbm, 21, rfl⟩
abbrev main_call0_call0_v2 : Ref sig .tc := ⟨.hbm, 22, rfl⟩
abbrev main_call0_call0_v3 : Ref sig .tc := ⟨.hbm, 23, rfl⟩
abbrev main_call0_call0_v4 : Ref sig .tc := ⟨.hbm, 24, rfl⟩
abbrev main_call0_call0_v5 : Ref sig .tc := ⟨.hbm, 25, rfl⟩
abbrev main_call0_call0_v6 : Ref sig .tc := ⟨.hbm, 26, rfl⟩
abbrev main_call0_call0_v7 : Ref sig .tc := ⟨.hbm, 27, rfl⟩
abbrev main_call0_call0_v8 : Ref sig .tc := ⟨.hbm, 28, rfl⟩
abbrev main_call0_call0_v9 : Ref sig .tc := ⟨.hbm, 29, rfl⟩
abbrev main_call0_call0_v10 : Ref sig .tc := ⟨.hbm, 30, rfl⟩
abbrev main_call0_call0_v11 : Ref sig .tc := ⟨.hbm, 31, rfl⟩
abbrev main_call0_v1 : Ref sig .tc := ⟨.hbm, 32, rfl⟩
abbrev main_v10 : Ref sig .tc := ⟨.hbm, 33, rfl⟩
abbrev main_cst : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_cst_0 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_call1_call0_cst : Ref sig .tc := ⟨.hbm, 44, rfl⟩
abbrev main_call1_call0_v0 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_call2_call0_cst : Ref sig .tc := ⟨.hbm, 55, rfl⟩
abbrev main_call2_call0_v0 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_cst_1 : Ref sig .tc := ⟨.hbm, 72, rfl⟩
abbrev main_call3_v0 : Ref sig .tc := ⟨.hbm, 73, rfl⟩
abbrev main_call3_v1 : Ref sig .tc := ⟨.hbm, 74, rfl⟩
abbrev main_call3_v2 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_cst_2 : Ref sig .tc := ⟨.hbm, 83, rfl⟩
abbrev main_v50 : Ref sig .tc := ⟨.hbm, 84, rfl⟩
abbrev main_v51 : Ref sig .tc := ⟨.hbm, 85, rfl⟩
abbrev main_cst_3 : Ref sig .tc := ⟨.hbm, 86, rfl⟩
abbrev main_v52 : Ref sig .tc := ⟨.hbm, 87, rfl⟩
abbrev main_v53 : Ref sig .tc := ⟨.hbm, 88, rfl⟩
abbrev main_cst_4 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_call4_v0 : Ref sig .tc := ⟨.hbm, 100, rfl⟩
abbrev main_call4_v1 : Ref sig .tc := ⟨.hbm, 101, rfl⟩
abbrev main_call4_cst : Ref sig .tc := ⟨.hbm, 102, rfl⟩
abbrev main_call4_v2 : Ref sig .tc := ⟨.hbm, 103, rfl⟩
abbrev main_call4_v3 : Ref sig .tc := ⟨.hbm, 104, rfl⟩
abbrev main_call4_cst_0 : Ref sig .tc := ⟨.hbm, 105, rfl⟩
abbrev main_call4_v4 : Ref sig .tc := ⟨.hbm, 106, rfl⟩
abbrev main_call4_v5 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩

abbrev nD : Nat := 1
abbrev τ : Topo := Topo.v7x

variable {F : FTy → Type} [FloatOps F]
-- ==== Proof.Spec.lean ====
module

public import proofs.«01_k».proof.Proof.Gen.KernelIdeal.Frame
public import proofs.«01_k».proof.Proof.Gen.KernelIdeal.Skeleton
public import Idealize.ShloMosaic.Lib.Exec
public import Idealize.ShloMosaic.Lib.Tactic
public import Idealize.ShloMosaic.Lib.VecWindow
public import Idealize.ShloMosaic.Lib.Writes
public import Idealize.ShloMosaic.Lib.ValueIdxCore
@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄G" => MT nD τ sig Unit (Elt F) ℕ (UR sig nD τ) ℕ

open Idealize.ShloMosaic.ValueIdx (ix2 ix3 ix4)

/-! # What one grid point of the recurrence's gradient computes, at any instance

The arrays a point reads are plain functions here: `z` (the point's two heads, each `q k v gate` side by side), `la` and `om`
(the logarithm of the decay and the factor of its derivative), `g` (the norm's weight) and `dc` (the cotangent). Chunk `n` of
head `p` is 64 rows. The operations of one chunk are the generated payloads of the first head; the second head's are the same
operations cut into payloads at other places (`…_head1`). -/

/-- A unit box inside a rank-2 array, from its two axes. -/
theorem inb2 {r c R C R' C' : ℕ} (h0 : r + R ≤ R') (h1 : c + C ≤ C') :
    ∀ a : Fin 2, (![r, c] : Fin 2 → ℕ) a + (![R, C] : Fin 2 → ℕ) a ≤ (![R', C'] : Fin 2 → ℕ) a :=
  Fin.forall_fin_two.mpr ⟨h0, h1⟩

/-- What one chunk of one head reads. -/
structure Chunk (F : FTy → Type) [FloatOps F] where
  la : Vec F S64x128 .f32
  om : Vec F S64x128 .f32
  q : Vec F S64x128 .bf16
  k : Vec F S64x128 .bf16
  v : Vec F S64x256 .bf16
  gate : Vec F S64x256 .bf16
  dc : Vec F S64x256 .bf16
  g : Vec F S1x256 .f32

/-- A cut of a rank-2 array: `R × C` values from row `r`, column `c` (the index is brought into the array by remainders, which
    no cut taken below needs). -/
def cut {α : Type} {N M : ℕ} (hN : 0 < N) (hM : 0 < M) (R C r c : ℕ) (x : (⟨2, ![N, M]⟩ : Shape).Idx → α) : (⟨2, ![R, C]⟩ : Shape).Idx → α :=
  fun j => x (ix2 (⟨(r + (j 0).val) % N, Nat.mod_lt _ hN⟩ : Fin N) (⟨(c + (j 1).val) % M, Nat.mod_lt _ hM⟩ : Fin M))

/-- A load of a box that lies inside the array is the cut. -/
theorem window_eq_cut {α : Type} {N M R C : ℕ} (hN : 0 < N) (hM : 0 < M) (r c : ℕ) (x : (⟨2, ![N, M]⟩ : Shape).Idx → α)
    (inb : ∀ a, (![r, c] : Fin 2 → ℕ) a + (![R, C] : Fin 2 → ℕ) a ≤ (⟨2, ![N, M]⟩ : Shape).size a) :
    VecWindow.window x ![r, c] ![R, C] inb = cut hN hM R C r c x := by
  funext j
  have h0 : r + R ≤ N := inb 0
  have h1 : c + C ≤ M := inb 1
  have j0 : (j 0).val < R := (j 0).isLt
  have j1 : (j 1).val < C := (j 1).isLt
  refine congrArg x (funext fun a => Fin.ext ?_)
  match a with
  | ⟨0, _⟩ => show r + 1 * (j 0).val = (r + (j 0).val) % N; rw [Nat.mod_eq_of_lt (by omega)]; omega
  | ⟨1, _⟩ => show c + 1 * (j 1).val = (c + (j 1).val) % M; rw [Nat.mod_eq_of_lt (by omega)]; omega

section
variable (z : Vec F S2048x1536 .bf16) (la om : Vec F S2048x256 .f32) (g : Vec F S1x512 .f32) (dc : Vec F S2048x512 .bf16)

/-- Chunk `n` of head `p`, cut out of the point's arrays. -/
def chunkAt (p n : ℕ) : Chunk F where
  la := cut (N := 2048) (M := 256) (by decide) (by decide) 64 128 (64 * n) (128 * p) la
  om := cut (N := 2048) (M := 256) (by decide) (by decide) 64 128 (64 * n) (128 * p) om
  q := cut (N := 2048) (M := 1536) (by decide) (by decide) 64 128 (64 * n) (768 * p) z
  k := cut (N := 2048) (M := 1536) (by decide) (by decide) 64 128 (64 * n) (768 * p + 128) z
  v := cut (N := 2048) (M := 1536) (by decide) (by decide) 64 256 (64 * n) (768 * p + 256) z
  gate := cut (N := 2048) (M := 1536) (by decide) (by decide) 64 256 (64 * n) (768 * p + 512) z
  dc := cut (N := 2048) (M := 512) (by decide) (by decide) 64 256 (64 * n) (256 * p) dc
  g := cut (N := 1) (M := 512) (by decide) (by decide) 1 256 0 (256 * p) g
end

/-- One step of the forward recurrence: the state after the chunk from the state before it. -/
def fwdStep (st : FVec F S256x128 .f32) (la : Vec F S64x128 .f32) (k : Vec F S64x128 .bf16) (v : Vec F S64x256 .bf16) : FVec F S256x128 .f32 :=
  k0_pay7 k0_pay80 st la k v

/-- The second head's step is the same operations. -/
theorem fwdStep_head1 (st : FVec F S256x128 .f32) (la : Vec F S64x128 .f32) (k : Vec F S64x128 .bf16) (v : Vec F S64x256 .bf16) :
    k0_pay84 st la (k0_pay9 la) (k0_pay10 la) k v = fwdStep st la k v := rfl

/-! ## One chunk of the backward pass: first head's payloads -/

/-- The scaled queries, rounded. -/
def cQs (a : Chunk F) : FVec F S64x128 .bf16 := k0_pay17 a.q
/-- The gradient of the chunk's output before the norm, rounded. -/
def cDo (a : Chunk F) (S : Vec F S1x1x256x128 .f32) : FVec F S64x256 .bf16 :=
  k0_pay32 (k0_pay21 a.g) (k0_pay24 (cQs a) (k0_pay18 S)) (k0_pay25 (cQs a) (k0_pay18 S)) (k0_pay27 a.gate a.dc)
/-- The gradient of the state (the carry added). -/
def cGt (a : Chunk F) (S : Vec F S1x1x256x128 .f32) (c : Vec F S1x256x128 .f32) : FVec F S256x128 .f32 :=
  k0_pay33 (cQs a) (k0_pay21 a.g) (k0_pay24 (cQs a) (k0_pay18 S)) (k0_pay25 (cQs a) (k0_pay18 S)) (k0_pay27 a.gate a.dc) c
/-- The same, rounded. -/
def cGtr (a : Chunk F) (S : Vec F S1x1x256x128 .f32) (c : Vec F S1x256x128 .f32) : FVec F S256x128 .bf16 :=
  k0_pay34 (cQs a) (k0_pay21 a.g) (k0_pay24 (cQs a) (k0_pay18 S)) (k0_pay25 (cQs a) (k0_pay18 S)) (k0_pay27 a.gate a.dc) c

/-- The gradient of the queries. -/
def cDq (a : Chunk F) (S : Vec F S1x1x256x128 .f32) : FVec F S64x128 .bf16 := k0_pay43 (k0_pay18 S) (cDo a S)
/-- The gradient of the decayed keys. -/
def cDkdec (a : Chunk F) (S : Vec F S1x1x256x128 .f32) (c : Vec F S1x256x128 .f32) : FVec F S64x128 .f32 :=
  k0_pay36 (k0_pay16 a.v) (cQs a) (k0_pay21 a.g) (k0_pay24 (cQs a) (k0_pay18 S)) (k0_pay25 (cQs a) (k0_pay18 S)) (k0_pay27 a.gate a.dc) c
/-- The gradient of the keys. -/
def cDk (a : Chunk F) (S : Vec F S1x1x256x128 .f32) (c : Vec F S1x256x128 .f32) : FVec F S64x128 .bf16 :=
  k0_pay44 (k0_pay12 k0_pay80 a.la) (cDkdec a S c)
/-- The gradient of the values. -/
def cDv (a : Chunk F) (S : Vec F S1x1x256x128 .f32) (c : Vec F S1x256x128 .f32) : FVec F S64x256 .bf16 :=
  k0_pay45 (k0_pay15 k0_pay80 a.la a.k) (cGtr a S c)
/-- The gradient of the gate. -/
def cDgate (a : Chunk F) (S : Vec F S1x1x256x128 .f32) : FVec F S64x256 .bf16 :=
  k0_pay46 (k0_pay30 (k0_pay22 a.gate) (k0_pay26 a.gate) (k0_pay28 (cQs a) (k0_pay18 S) a.g a.dc) k0_pay29)
/-- The gradient of the alpha gate's pre-activation; `w` is the chunk's number as the kernel holds it, `Sp` the state before. -/
def cDpre (a : Chunk F) (w : BitVec 32) (S Sp : Vec F S1x1x256x128 .f32) (c : Vec F S1x256x128 .f32) : FVec F S64x128 .f32 :=
  k0_pay42 k0_pay81 (k0_pay13 a.la)
    (k0_pay35 (cQs a) (k0_pay19 w Sp) (k0_pay21 a.g) (k0_pay24 (cQs a) (k0_pay18 S)) (k0_pay25 (cQs a) (k0_pay18 S)) (k0_pay27 a.gate a.dc) c)
    (k0_pay38 (k0_pay14 k0_pay80 a.la a.k) (k0_pay16 a.v) (cQs a) (k0_pay21 a.g) (k0_pay24 (cQs a) (k0_pay18 S)) (k0_pay25 (cQs a) (k0_pay18 S)) (k0_pay27 a.gate a.dc) c)
    (k0_pay40 (k0_pay14 k0_pay80 a.la a.k) (k0_pay16 a.v) (cQs a) (k0_pay21 a.g) (k0_pay24 (cQs a) (k0_pay18 S)) (k0_pay25 (cQs a) (k0_pay18 S)) (k0_pay27 a.gate a.dc) c)
    (k0_pay41 (k0_pay14 k0_pay80 a.la a.k) (k0_pay16 a.v) (cQs a) (k0_pay21 a.g) (k0_pay24 (cQs a) (k0_pay18 S)) (k0_pay25 (cQs a) (k0_pay18 S)) (k0_pay27 a.gate a.dc) c)
    (constant S64x128 .f32 0x00000000#32) a.om
/-- The carry handed to the chunk before. -/
def cNext (a : Chunk F) (S : Vec F S1x1x256x128 .f32) (c : Vec F S1x256x128 .f32) : FVec F S1x256x128 .f32 :=
  k0_pay47 (k0_pay13 a.la) (cGt a S c)
/-- The norm weight's gradient with this chunk's added. -/
def cDg (a : Chunk F) (S : Vec F S1x1x256x128 .f32) (old : Vec F S1x256 .f32) : FVec F S1x256 .f32 :=
  k0_pay31 (k0_pay25 (cQs a) (k0_pay18 S)) (k0_pay27 a.gate a.dc) old

/-! ## The second head's payloads are the same operations -/

theorem cDq_head1 (a : Chunk F) (S : Vec F S1x1x256x128 .f32) :
    k0_pay87 (k0_pay55 S) (k0_pay69 (k0_pay59 a.g) (k0_pay62 (k0_pay54 a.q) (k0_pay55 S)) (k0_pay63 (k0_pay54 a.q) (k0_pay55 S)) (k0_pay65 a.gate a.dc)) = cDq a S := rfl
theorem cDk_head1 (a : Chunk F) (S : Vec F S1x1x256x128 .f32) (c : Vec F S1x256x128 .f32) :
    k0_pay88 (k0_pay49 k0_pay80 a.la) (k0_pay72 (k0_pay53 a.v) (k0_pay54 a.q) (k0_pay59 a.g) (k0_pay62 (k0_pay54 a.q) (k0_pay55 S)) (k0_pay63 (k0_pay54 a.q) (k0_pay55 S)) (k0_pay65 a.gate a.dc) c) = cDk a S c := rfl
theorem cDv_head1 (a : Chunk F) (S : Vec F S1x1x256x128 .f32) (c : Vec F S1x256x128 .f32) :
    k0_pay89 (k0_pay52 k0_pay80 a.la a.k) (k0_pay71 (k0_pay54 a.q) (k0_pay59 a.g) (k0_pay62 (k0_pay54 a.q) (k0_pay55 S)) (k0_pay63 (k0_pay54 a.q) (k0_pay55 S)) (k0_pay65 a.gate a.dc) c) = cDv a S c := rfl
theorem cDgate_head1 (a : Chunk F) (S : Vec F S1x1x256x128 .f32) :
    k0_pay90 (k0_pay66 (k0_pay54 a.q) (k0_pay55 S) a.g a.gate a.dc) = cDgate a S := rfl
theorem cDpre_head1 (a : Chunk F) (w : BitVec 32) (S Sp : Vec F S1x1x256x128 .f32) (c : Vec F S1x256x128 .f32) :
    k0_pay86 (k0_pay73 k0_pay81 (k0_pay51 k0_pay80 a.la a.k) (k0_pay53 a.v) (k0_pay54 a.q) (k0_pay59 a.g) (k0_pay62 (k0_pay54 a.q) (k0_pay55 S)) (k0_pay63 (k0_pay54 a.q) (k0_pay55 S)) (k0_pay65 a.gate a.dc) c)
      (k0_pay74 (k0_pay50 a.la) (k0_pay54 a.q) (k0_pay57 w (k0_pay56 Sp) 0#32) (k0_pay59 a.g) (k0_pay62 (k0_pay54 a.q) (k0_pay55 S)) (k0_pay63 (k0_pay54 a.q) (k0_pay55 S)) (k0_pay65 a.gate a.dc) c)
      a.om = cDpre a w S Sp c := rfl
theorem cNext_head1 (a : Chunk F) (S : Vec F S1x1x256x128 .f32) (c : Vec F S1x256x128 .f32) :
    k0_pay91 (k0_pay50 a.la) (k0_pay70 (k0_pay54 a.q) (k0_pay59 a.g) (k0_pay62 (k0_pay54 a.q) (k0_pay55 S)) (k0_pay63 (k0_pay54 a.q) (k0_pay55 S)) (k0_pay65 a.gate a.dc) c) = cNext a S c := rfl
theorem cDg_head1 (a : Chunk F) (S : Vec F S1x1x256x128 .f32) (old : Vec F S1x256 .f32) :
    k0_pay68 (k0_pay67 (k0_pay54 a.q) (k0_pay55 S) a.gate a.dc) old = cDg a S old := rfl

/-! ## The point's arrays after the two loops -/

section
variable (z : Vec F S2048x1536 .bf16) (la om : Vec F S2048x256 .f32) (g : Vec F S1x512 .f32) (dc : Vec F S2048x512 .bf16)

/-- The logarithms of the decay, keys and values of chunk `n` of head `p`. -/
def laAt (la : Vec F S2048x256 .f32) (p n : ℕ) : Vec F S64x128 .f32 := cut (N := 2048) (M := 256) (by decide) (by decide) 64 128 (64 * n) (128 * p) la
def kAt (z : Vec F S2048x1536 .bf16) (p n : ℕ) : Vec F S64x128 .bf16 := cut (N := 2048) (M := 1536) (by decide) (by decide) 64 128 (64 * n) (768 * p + 128) z
def vAt (z : Vec F S2048x1536 .bf16) (p n : ℕ) : Vec F S64x256 .bf16 := cut (N := 2048) (M := 1536) (by decide) (by decide) 64 256 (64 * n) (768 * p + 256) z

/-- Head `p`'s state after its first `n` chunks. -/
def state (p : ℕ) : ℕ → FVec F S256x128 .f32
  | 0 => k0_pay82
  | n + 1 => fwdStep (state p n) (laAt la p n) (kAt z p n) (vAt z p n)

/-- The state after chunk `n` as the slab the kernel keeps. -/
def slab (p n : ℕ) : Vec F S1x1x256x128 .f32 := fun j => state z la p (n + 1) (ix2 (j 2) (j 3))

/-- All the slabs. -/
def slabs : Vec F S2x32x256x128 .f32 := fun j => state z la (j 0).val ((j 1).val + 1) (ix2 (j 2) (j 3))

/-- Both heads' carries after `k` trips of the backward loop. -/
def carry : ℕ → Vec F S2x256x128 .f32
  | 0 => k0_pay78
  | k + 1 => fun j => cNext (chunkAt z la om g dc (j 0).val (31 - k)) (slab z la (j 0).val (31 - k))
      (fun i => carry k (ix3 (j 0) (i 1) (i 2))) (ix3 (0 : Fin 1) (j 1) (j 2))

/-- Head `p`'s carry before chunk `n` of the backward loop. -/
def carryAt (p : Fin 2) (n : ℕ) : Vec F S1x256x128 .f32 := fun i => carry z la om g dc (31 - n) (ix3 p (i 1) (i 2))

/-- The norm weight's gradient after `k` trips. -/
def dgsum : ℕ → Vec F S1x512 .f32
  | 0 => k0_pay79
  | k + 1 => fun j => cDg (chunkAt z la om g dc ((j 1).val / 256) (31 - k)) (slab z la ((j 1).val / 256) (31 - k))
      (cut (N := 1) (M := 512) (by decide) (by decide) 1 256 0 (256 * ((j 1).val / 256)) (dgsum k)) (ix2 (0 : Fin 1) (⟨(j 1).val % 256, Nat.mod_lt _ (by decide)⟩ : Fin 256))

/-- The pre-activation's gradient. -/
def dpre : Vec F S2048x256 .f32 := fun j =>
  cDpre (chunkAt z la om g dc ((j 1).val / 128) ((j 0).val / 64)) (BitVec.ofNat 32 ((j 0).val / 64)) (slab z la ((j 1).val / 128) ((j 0).val / 64))
    (slab z la ((j 1).val / 128) ((j 0).val / 64 - 1)) (carryAt z la om g dc (Fin.ofNat 2 ((j 1).val / 128)) ((j 0).val / 64))
    (ix2 (⟨(j 0).val % 64, Nat.mod_lt _ (by decide)⟩ : Fin 64) (⟨(j 1).val % 128, Nat.mod_lt _ (by decide)⟩ : Fin 128))

/-- One row of `dz`, head `p`, chunk `n`, at place `c` of the head's 768 columns. -/
def dzAt (p n : ℕ) (r : Fin 64) (c : ℕ) : Elt F .bf16 :=
  if h : c < 128 then cDq (chunkAt z la om g dc p n) (slab z la p n) (ix2 r (⟨c, h⟩ : Fin 128))
  else if h : c - 128 < 128 then cDk (chunkAt z la om g dc p n) (slab z la p n) (carryAt z la om g dc (Fin.ofNat 2 p) n) (ix2 r (⟨c - 128, h⟩ : Fin 128))
  else if h : c - 256 < 256 then cDv (chunkAt z la om g dc p n) (slab z la p n) (carryAt z la om g dc (Fin.ofNat 2 p) n) (ix2 r (⟨c - 256, h⟩ : Fin 256))
  else cDgate (chunkAt z la om g dc p n) (slab z la p n) (ix2 r (⟨(c - 512) % 256, Nat.mod_lt _ (by decide)⟩ : Fin 256))

/-- The gradients of queries, keys, values and gate, side by side per head. -/
def dz : Vec F S2048x1536 .bf16 := fun j =>
  dzAt z la om g dc ((j 1).val / 768) ((j 0).val / 64) (⟨(j 0).val % 64, Nat.mod_lt _ (by decide)⟩ : Fin 64) ((j 1).val % 768)

end

end Cert.KernelIdeal.Hand

end
-- ==== Proof.Step.lean ====
module

public import proofs.«01_k».proof.Proof.Gen.KernelIdeal.Frame
public import proofs.«01_k».proof.Proof.Gen.KernelIdeal.Skeleton
public import Idealize.ShloMosaic.Lib.Exec
public import Idealize.ShloMosaic.Lib.Tactic
public import Idealize.ShloMosaic.Lib.VecWindow
public import Idealize.ShloMosaic.Lib.Writes
public import proofs.«01_k».proof.Proof.Spec
@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄G" => MT nD τ sig Unit (Elt F) ℕ (UR sig nD τ) ℕ

open Idealize.ShloMosaic.ValueIdx (ix2 ix3 ix4)

/-! # One trip's loads and stores by values

Each load is a cut of what its buffer holds; after a trip's stores each buffer holds one more band of the spec. -/

theorem vec2 {a a' b b' : ℕ} (h0 : a = a') (h1 : b = b') : (![a, b] : Fin 2 → ℕ) = ![a', b'] := by rw [h0, h1]
theorem vec4 {a a' b b' c c' d d' : ℕ} (h0 : a = a') (h1 : b = b') (h2 : c = c') (h3 : d = d') : (![a, b, c, d] : Fin 4 → ℕ) = ![a', b', c', d'] := by rw [h0, h1, h2, h3]

/-- A load of a rank-2 buffer is the cut at the load's offsets. -/
theorem load_cut {N M R C : ℕ} {e : EltTy} (v : View sig .tc .vmem (⟨2, ![N, M]⟩ : Shape) e) (f : v.ty.Contents (Elt F)) (hN : 0 < N) (hM : 0 < M)
    {off : Fin 2 → ℕ} (r c : ℕ) (inb : ∀ a, off a + (![R, C] : Fin 2 → ℕ) a ≤ (⟨2, ![N, M]⟩ : Shape).size a) (h : off = ![r, c]) :
    v.readAt (Elt F) (Rect.unit (s := ⟨2, ![N, M]⟩) off ![R, C] inb).toLoadRect f = cut hN hM R C r c (v.read (Elt F) f) := by
  subst h
  exact (View.readAt_unit v f inb rfl inb).trans (window_eq_cut hN hM r c _ inb)

section
variable (z : Vec F S2048x1536 .bf16) (la om : Vec F S2048x256 .f32) (g : Vec F S1x512 .f32) (dc : Vec F S2048x512 .bf16)

/-- A load of the slab buffer at head `p`, chunk `n`. -/
theorem load_slab (v : View sig .tc .vmem S2x32x256x128 .f32) (f : v.ty.Contents (Elt F)) (hf : ∀ j, v.read (Elt F) f j = slabs z la j)
    (p n : ℕ) {off : Fin 4 → ℕ} (inb : ∀ a, off a + S1x1x256x128.size a ≤ S2x32x256x128.size a) (h : off = ![p, n, 0, 0]) :
    v.readAt (Elt F) (Rect.unit (s := S2x32x256x128) off S1x1x256x128.size inb).toLoadRect f = slab z la p n := by
  subst h
  funext j
  refine (hf _).trans ?_
  have j0 : (j 0).val < 1 := (j 0).isLt
  have j1 : (j 1).val < 1 := (j 1).isLt
  have e0 : p + 1 * (j 0).val = p := by omega
  have e1 : n + 1 * (j 1).val = n := by omega
  have e2 : (⟨0 + 1 * (j 2).val, by have := (j 2).isLt; show 0 + 1 * (j 2).val < 256; simp only [Nat.zero_add, Nat.one_mul]; exact this⟩ : Fin 256) = j 2 := Fin.ext (by simp)
  have e3 : (⟨0 + 1 * (j 3).val, by have := (j 3).isLt; show 0 + 1 * (j 3).val < 128; simp only [Nat.zero_add, Nat.one_mul]; exact this⟩ : Fin 128) = j 3 := Fin.ext (by simp)
  show state z la (p + 1 * (j 0).val) ((n + 1 * (j 1).val) + 1) (ix2 (⟨0 + 1 * (j 2).val, _⟩ : Fin 256) (⟨0 + 1 * (j 3).val, _⟩ : Fin 128)) = state z la p (n + 1) (ix2 (j 2) (j 3))
  rw [e0, e1, e2, e3]

/-- A load of the carry buffer at head `p`, before trip `k`. -/
theorem load_carry (v : View sig .tc .vmem S2x256x128 .f32) (f : v.ty.Contents (Elt F)) (k : ℕ) (hk : k < 32) (hf : ∀ j, v.read (Elt F) f j = carry z la om g dc k j)
    (p : Fin 2) (inb : ∀ a, (![p.val, 0, 0] : Fin 3 → ℕ) a + S1x256x128.size a ≤ S2x256x128.size a) :
    v.readAt (Elt F) (Rect.unit (s := S2x256x128) ![p.val, 0, 0] S1x256x128.size inb).toLoadRect f = carryAt z la om g dc p (31 - k) := by
  funext j
  refine (hf _).trans ?_
  have hkk : 31 - (31 - k) = k := by omega
  have j0 : (j 0).val < 1 := (j 0).isLt
  unfold carryAt
  rw [hkk]
  refine congrArg (carry z la om g dc k) (funext fun a => Fin.ext ?_)
  match a with
  | ⟨0, _⟩ => show p.val + 1 * (j 0).val = p.val; omega
  | ⟨1, _⟩ => show 0 + 1 * (j 1).val = (j 1).val; omega
  | ⟨2, _⟩ => show 0 + 1 * (j 2).val = (j 2).val; omega

/-! ## The spec's arrays at an index given by its head, chunk and place -/

theorem carry_succ_apply (k : ℕ) (p : Fin 2) (a : Fin 256) (b : Fin 128) (hk : k < 32) :
    carry z la om g dc (k + 1) (ix3 p a b) = cNext (chunkAt z la om g dc p.val (31 - k)) (slab z la p.val (31 - k)) (carryAt z la om g dc p (31 - k)) (ix3 (0 : Fin 1) a b) := by
  have hkk : 31 - (31 - k) = k := by omega
  unfold carryAt
  rw [hkk]
  rfl

theorem dgsum_succ_apply (k p : ℕ) (j : S1x512.Idx) (c : Fin 256) (h : (j 1).val = 256 * p + c.val) :
    dgsum z la om g dc (k + 1) j = cDg (chunkAt z la om g dc p (31 - k)) (slab z la p (31 - k))
      (cut (N := 1) (M := 512) (by decide) (by decide) 1 256 0 (256 * p) (dgsum z la om g dc k)) (ix2 (0 : Fin 1) c) := by
  have hp : (j 1).val / 256 = p := by have := c.isLt; omega
  have hc : (⟨(j 1).val % 256, Nat.mod_lt _ (by decide)⟩ : Fin 256) = c := Fin.ext (by have := c.isLt; show (j 1).val % 256 = c.val; omega)
  show cDg (chunkAt z la om g dc ((j 1).val / 256) (31 - k)) (slab z la ((j 1).val / 256) (31 - k))
      (cut (N := 1) (M := 512) (by decide) (by decide) 1 256 0 (256 * ((j 1).val / 256)) (dgsum z la om g dc k)) (ix2 (0 : Fin 1) (⟨(j 1).val % 256, Nat.mod_lt _ (by decide)⟩ : Fin 256)) = _
  rw [hp, hc]

theorem dpre_apply (p n : ℕ) (j : S2048x256.Idx) (r : Fin 64) (c : Fin 128) (h0 : (j 0).val = 64 * n + r.val) (h1 : (j 1).val = 128 * p + c.val) :
    dpre z la om g dc j = cDpre (chunkAt z la om g dc p n) (BitVec.ofNat 32 n) (slab z la p n) (slab z la p (n - 1)) (carryAt z la om g dc (Fin.ofNat 2 p) n) (ix2 r c) := by
  have hr := r.isLt
  have hcc := c.isLt
  have hp : (j 1).val / 128 = p := by omega
  have hn : (j 0).val / 64 = n := by omega
  have hc : (⟨(j 1).val % 128, Nat.mod_lt _ (by decide)⟩ : Fin 128) = c := Fin.ext (by show (j 1).val % 128 = c.val; omega)
  have hrr : (⟨(j 0).val % 64, Nat.mod_lt _ (by decide)⟩ : Fin 64) = r := Fin.ext (by show (j 0).val % 64 = r.val; omega)
  unfold dpre
  rw [hp, hn, hc, hrr]

theorem dz_apply (p n : ℕ) (j : S2048x1536.Idx) (r : Fin 64) (c : ℕ) (hc : c < 768) (h0 : (j 0).val = 64 * n + r.val) (h1 : (j 1).val = 768 * p + c) :
    dz z la om g dc j = dzAt z la om g dc p n r c := by
  have hr := r.isLt
  have hp : (j 1).val / 768 = p := by omega
  have hn : (j 0).val / 64 = n := by omega
  have hcc : (j 1).val % 768 = c := by omega
  have hrr : (⟨(j 0).val % 64, Nat.mod_lt _ (by decide)⟩ : Fin 64) = r := Fin.ext (by show (j 0).val % 64 = r.val; omega)
  unfold dz
  rw [hp, hn, hcc, hrr]

theorem dzAt_q (p n : ℕ) (r : Fin 64) (c : Fin 128) : dzAt z la om g dc p n r c.val = cDq (chunkAt z la om g dc p n) (slab z la p n) (ix2 r c) := by
  unfold dzAt; rw [dif_pos c.isLt]
theorem dzAt_k (p n : ℕ) (r : Fin 64) (c : Fin 128) :
    dzAt z la om g dc p n r (128 + c.val) = cDk (chunkAt z la om g dc p n) (slab z la p n) (carryAt z la om g dc (Fin.ofNat 2 p) n) (ix2 r c) := by
  have hc := c.isLt
  have e : (⟨128 + c.val - 128, by omega⟩ : Fin 128) = c := Fin.ext (by show 128 + c.val - 128 = c.val; omega)
  unfold dzAt; rw [dif_neg (by omega), dif_pos (show 128 + c.val - 128 < 128 by omega), e]
theorem dzAt_v (p n : ℕ) (r : Fin 64) (c : Fin 256) :
    dzAt z la om g dc p n r (256 + c.val) = cDv (chunkAt z la om g dc p n) (slab z la p n) (carryAt z la om g dc (Fin.ofNat 2 p) n) (ix2 r c) := by
  have hc := c.isLt
  have e : (⟨256 + c.val - 256, by omega⟩ : Fin 256) = c := Fin.ext (by show 256 + c.val - 256 = c.val; omega)
  unfold dzAt; rw [dif_neg (by omega), dif_neg (by omega), dif_pos (show 256 + c.val - 256 < 256 by omega), e]
theorem dzAt_gate (p n : ℕ) (r : Fin 64) (c : Fin 256) :
    dzAt z la om g dc p n r (512 + c.val) = cDgate (chunkAt z la om g dc p n) (slab z la p n) (ix2 r c) := by
  have hc := c.isLt
  have e : (⟨(512 + c.val - 512) % 256, Nat.mod_lt _ (by decide)⟩ : Fin 256) = c := Fin.ext (by show (512 + c.val - 512) % 256 = c.val; omega)
  unfold dzAt; rw [dif_neg (by omega), dif_neg (by omega), dif_neg (by omega), e]

/-! ## A buffer after a trip's stores -/

/-- One more slab of each head. -/
theorem slabs_step (v : View sig .tc .vmem S2x32x256x128 .f32) (f : v.ty.Contents (Elt F)) (k : ℕ) {o4 o8 : Fin 4 → ℕ}
    (i4 : ∀ a, o4 a + S1x1x256x128.size a ≤ S2x32x256x128.size a) (i8 : ∀ a, o8 a + S1x1x256x128.size a ≤ S2x32x256x128.size a)
    (h4 : o4 = ![0, k, 0, 0]) (h8 : o8 = ![1, k, 0, 0]) (w4 w8 : Vec F S1x1x256x128 .f32)
    (e4 : w4 = slab z la 0 k) (e8 : w8 = slab z la 1 k) (hf : ∀ j, (j 1).val < k → v.read (Elt F) f j = slabs z la j) :
    ∀ j, (j 1).val < k + 1 → v.read (Elt F) (v.writes (Elt F) f
      [⟨Rect.unit (s := S2x32x256x128) o8 S1x1x256x128.size i8, w8⟩, ⟨Rect.unit (s := S2x32x256x128) o4 S1x1x256x128.size i4, w4⟩]) j = slabs z la j := by
  subst h4 h8 e4 e8
  intro j hj
  by_cases hlt : (j 1).val < k
  · rw [View.read_writes_apply_of_forall_not_mem]
    · exact hf j hlt
    · have miss : ∀ (q : ℕ) (inb : ∀ a, (![q, k, 0, 0] : Fin 4 → ℕ) a + S1x1x256x128.size a ≤ S2x32x256x128.size a), j ∉ (Rect.unit (s := S2x32x256x128) ![q, k, 0, 0] S1x1x256x128.size inb).set := fun q inb hm => by
        have h2 : k ≤ (j 1).val := ((Rect.mem_set_unit.mp hm) 1).1
        omega
      exact List.forall_mem_cons.mpr ⟨miss 1 i8, List.forall_mem_cons.mpr ⟨miss 0 i4, fun _ h => absurd h List.not_mem_nil⟩⟩
  · refine View.read_writes_apply_of_pieces v f (slabs z la) _ ?_ j ?_
    · have key : ∀ (q : ℕ) (inb : ∀ a, (![q, k, 0, 0] : Fin 4 → ℕ) a + S1x1x256x128.size a ≤ S2x32x256x128.size a) (x : S1x1x256x128.Idx),
          slab z la q k x = slabs z la ((Rect.unit (s := S2x32x256x128) ![q, k, 0, 0] S1x1x256x128.size inb).emb x) := by
        intro q inb x
        have x0 : (x 0).val < 1 := (x 0).isLt
        have x1 : (x 1).val < 1 := (x 1).isLt
        have e0 : q + 1 * (x 0).val = q := by omega
        have e1 : k + 1 * (x 1).val = k := by omega
        have e2 : (⟨0 + 1 * (x 2).val, by have := (x 2).isLt; show 0 + 1 * (x 2).val < 256; simp only [Nat.zero_add, Nat.one_mul]; exact this⟩ : Fin 256) = x 2 := Fin.ext (by simp)
        have e3 : (⟨0 + 1 * (x 3).val, by have := (x 3).isLt; show 0 + 1 * (x 3).val < 128; simp only [Nat.zero_add, Nat.one_mul]; exact this⟩ : Fin 128) = x 3 := Fin.ext (by simp)
        show state z la q (k + 1) (ix2 (x 2) (x 3)) = state z la (q + 1 * (x 0).val) ((k + 1 * (x 1).val) + 1) (ix2 (⟨0 + 1 * (x 2).val, _⟩ : Fin 256) (⟨0 + 1 * (x 3).val, _⟩ : Fin 128))
        rw [e0, e1, e2, e3]
      exact List.forall_mem_cons.mpr ⟨key 1 i8, List.forall_mem_cons.mpr ⟨key 0 i4, fun _ h => absurd h List.not_mem_nil⟩⟩
    · have j0 : (j 0).val < 2 := (j 0).isLt
      have j2 : (j 2).val < 256 := (j 2).isLt
      have j3 : (j 3).val < 128 := (j 3).isLt
      have hk : (j 1).val = k := by omega
      by_cases h0 : (j 0).val = 0
      · refine ⟨_, List.mem_cons_of_mem _ List.mem_cons_self, (Rect.mem_set_unit (inb := i4)).mpr fun a => ?_⟩
        match a with
        | ⟨0, _⟩ => show 0 ≤ (j 0).val ∧ (j 0).val < 0 + 1; omega
        | ⟨1, _⟩ => show k ≤ (j 1).val ∧ (j 1).val < k + 1; omega
        | ⟨2, _⟩ => show 0 ≤ (j 2).val ∧ (j 2).val < 0 + 256; omega
        | ⟨3, _⟩ => show 0 ≤ (j 3).val ∧ (j 3).val < 0 + 128; omega
      · refine ⟨_, List.mem_cons_self, (Rect.mem_set_unit (inb := i8)).mpr fun a => ?_⟩
        match a with
        | ⟨0, _⟩ => show 1 ≤ (j 0).val ∧ (j 0).val < 1 + 1; omega
        | ⟨1, _⟩ => show k ≤ (j 1).val ∧ (j 1).val < k + 1; omega
        | ⟨2, _⟩ => show 0 ≤ (j 2).val ∧ (j 2).val < 0 + 256; omega
        | ⟨3, _⟩ => show 0 ≤ (j 3).val ∧ (j 3).val < 0 + 128; omega

/-- The next carries of both heads. -/
theorem carry_step (v : View sig .tc .vmem S2x256x128 .f32) (f : v.ty.Contents (Elt F)) (k : ℕ) (hk : k < 32)
    (i0 : ∀ a, (![0, 0, 0] : Fin 3 → ℕ) a + S1x256x128.size a ≤ S2x256x128.size a) (i1 : ∀ a, (![1, 0, 0] : Fin 3 → ℕ) a + S1x256x128.size a ≤ S2x256x128.size a)
    (w0 w1 : Vec F S1x256x128 .f32)
    (e0 : w0 = cNext (chunkAt z la om g dc 0 (31 - k)) (slab z la 0 (31 - k)) (carryAt z la om g dc 0 (31 - k)))
    (e1 : w1 = cNext (chunkAt z la om g dc 1 (31 - k)) (slab z la 1 (31 - k)) (carryAt z la om g dc 1 (31 - k))) :
    ∀ j, v.read (Elt F) (v.writes (Elt F) f
      [⟨Rect.unit (s := S2x256x128) ![1, 0, 0] S1x256x128.size i1, w1⟩, ⟨Rect.unit (s := S2x256x128) ![0, 0, 0] S1x256x128.size i0, w0⟩]) j = carry z la om g dc (k + 1) j := by
  subst e0 e1
  intro j
  refine View.read_writes_apply_of_pieces v f (carry z la om g dc (k + 1)) _ ?_ j ?_
  · have key : ∀ (q : Fin 2) (inb : ∀ a, (![q.val, 0, 0] : Fin 3 → ℕ) a + S1x256x128.size a ≤ S2x256x128.size a) (x : S1x256x128.Idx),
        cNext (chunkAt z la om g dc q.val (31 - k)) (slab z la q.val (31 - k)) (carryAt z la om g dc q (31 - k)) x
          = carry z la om g dc (k + 1) ((Rect.unit (s := S2x256x128) ![q.val, 0, 0] S1x256x128.size inb).emb x) := by
      intro q inb x
      have x0 : (x 0).val < 1 := (x 0).isLt
      have ex : x = ix3 (0 : Fin 1) (x 1 : Fin 256) (x 2 : Fin 128) := funext fun a => Fin.ext (by
        match a with
        | ⟨0, _⟩ => show (x 0).val = 0; omega
        | ⟨1, _⟩ => rfl
        | ⟨2, _⟩ => rfl)
      have ee : (Rect.unit (s := S2x256x128) ![q.val, 0, 0] S1x256x128.size inb).emb x = ix3 q (x 1 : Fin 256) (x 2 : Fin 128) := funext fun a => Fin.ext (by
        match a with
        | ⟨0, _⟩ => show q.val + 1 * (x 0).val = q.val; omega
        | ⟨1, _⟩ => show 0 + 1 * (x 1).val = (x 1).val; omega
        | ⟨2, _⟩ => show 0 + 1 * (x 2).val = (x 2).val; omega)
      exact (congrArg _ ex).trans ((carry_succ_apply z la om g dc k q (x 1) (x 2) hk).symm.trans (congrArg _ ee.symm))
    exact List.forall_mem_cons.mpr ⟨key 1 i1, List.forall_mem_cons.mpr ⟨key 0 i0, fun _ h => absurd h List.not_mem_nil⟩⟩
  · have j0 : (j 0).val < 2 := (j 0).isLt
    have j1 : (j 1).val < 256 := (j 1).isLt
    have j2 : (j 2).val < 128 := (j 2).isLt
    by_cases h0 : (j 0).val = 0
    · refine ⟨_, List.mem_cons_of_mem _ List.mem_cons_self, (Rect.mem_set_unit (inb := i0)).mpr fun a => ?_⟩
      match a with
      | ⟨0, _⟩ => show 0 ≤ (j 0).val ∧ (j 0).val < 0 + 1; omega
      | ⟨1, _⟩ => show 0 ≤ (j 1).val ∧ (j 1).val < 0 + 256; omega
      | ⟨2, _⟩ => show 0 ≤ (j 2).val ∧ (j 2).val < 0 + 128; omega
    · refine ⟨_, List.mem_cons_self, (Rect.mem_set_unit (inb := i1)).mpr fun a => ?_⟩
      match a with
      | ⟨0, _⟩ => show 1 ≤ (j 0).val ∧ (j 0).val < 1 + 1; omega
      | ⟨1, _⟩ => show 0 ≤ (j 1).val ∧ (j 1).val < 0 + 256; omega
      | ⟨2, _⟩ => show 0 ≤ (j 2).val ∧ (j 2).val < 0 + 128; omega

/-- The norm weight's gradient with one more chunk added, both heads. -/
theorem dgsum_step (v : View sig .tc .vmem S1x512 .f32) (f : v.ty.Contents (Elt F)) (k : ℕ)
    (i0 : ∀ a, (![0, 0] : Fin 2 → ℕ) a + S1x256.size a ≤ S1x512.size a) (i1 : ∀ a, (![0, 256] : Fin 2 → ℕ) a + S1x256.size a ≤ S1x512.size a)
    (w0 w1 : Vec F S1x256 .f32)
    (e0 : w0 = cDg (chunkAt z la om g dc 0 (31 - k)) (slab z la 0 (31 - k)) (cut (N := 1) (M := 512) (by decide) (by decide) 1 256 0 (256 * 0) (dgsum z la om g dc k)))
    (e1 : w1 = cDg (chunkAt z la om g dc 1 (31 - k)) (slab z la 1 (31 - k)) (cut (N := 1) (M := 512) (by decide) (by decide) 1 256 0 (256 * 1) (dgsum z la om g dc k))) :
    ∀ j, v.read (Elt F) (v.writes (Elt F) f
      [⟨Rect.unit (s := S1x512) ![0, 256] S1x256.size i1, w1⟩, ⟨Rect.unit (s := S1x512) ![0, 0] S1x256.size i0, w0⟩]) j = dgsum z la om g dc (k + 1) j := by
  subst e0 e1
  intro j
  refine View.read_writes_apply_of_pieces v f (dgsum z la om g dc (k + 1)) _ ?_ j ?_
  · have key : ∀ (q : ℕ) (inb : ∀ a, (![0, 256 * q] : Fin 2 → ℕ) a + S1x256.size a ≤ S1x512.size a) (x : S1x256.Idx),
        cDg (chunkAt z la om g dc q (31 - k)) (slab z la q (31 - k)) (cut (N := 1) (M := 512) (by decide) (by decide) 1 256 0 (256 * q) (dgsum z la om g dc k)) x
          = dgsum z la om g dc (k + 1) ((Rect.unit (s := S1x512) ![0, 256 * q] S1x256.size inb).emb x) := by
      intro q inb x
      have x0 : (x 0).val < 1 := (x 0).isLt
      have ex : x = ix2 (0 : Fin 1) (x 1 : Fin 256) := funext fun a => Fin.ext (by
        match a with
        | ⟨0, _⟩ => show (x 0).val = 0; omega
        | ⟨1, _⟩ => rfl)
      exact (congrArg _ ex).trans (dgsum_succ_apply z la om g dc k q _ (x 1) (by show 256 * q + 1 * (x 1).val = 256 * q + (x 1).val; omega)).symm
    exact List.forall_mem_cons.mpr ⟨key 1 i1, List.forall_mem_cons.mpr ⟨key 0 i0, fun _ h => absurd h List.not_mem_nil⟩⟩
  · have j0 : (j 0).val < 1 := (j 0).isLt
    have j1 : (j 1).val < 512 := (j 1).isLt
    by_cases h0 : (j 1).val < 256
    · refine ⟨_, List.mem_cons_of_mem _ List.mem_cons_self, (Rect.mem_set_unit (inb := i0)).mpr fun a => ?_⟩
      match a with
      | ⟨0, _⟩ => show 0 ≤ (j 0).val ∧ (j 0).val < 0 + 1; omega
      | ⟨1, _⟩ => show 0 ≤ (j 1).val ∧ (j 1).val < 0 + 256; omega
    · refine ⟨_, List.mem_cons_self, (Rect.mem_set_unit (inb := i1)).mpr fun a => ?_⟩
      match a with
      | ⟨0, _⟩ => show 0 ≤ (j 0).val ∧ (j 0).val < 0 + 1; omega
      | ⟨1, _⟩ => show 256 ≤ (j 1).val ∧ (j 1).val < 256 + 256; omega

/-- One more band of the pre-activation's gradient, both heads. -/
theorem dpre_step (v : View sig .tc .vmem S2048x256 .f32) (f : v.ty.Contents (Elt F)) (k : ℕ) (hk : k < 32) {o0 o1 : Fin 2 → ℕ}
    (i0 : ∀ a, o0 a + S64x128.size a ≤ S2048x256.size a) (i1 : ∀ a, o1 a + S64x128.size a ≤ S2048x256.size a)
    (h0 : o0 = ![64 * (31 - k), 128 * 0]) (h1 : o1 = ![64 * (31 - k), 128 * 1]) (w0 w1 : Vec F S64x128 .f32)
    (e0 : w0 = cDpre (chunkAt z la om g dc 0 (31 - k)) (BitVec.ofNat 32 (31 - k)) (slab z la 0 (31 - k)) (slab z la 0 (31 - k - 1)) (carryAt z la om g dc 0 (31 - k)))
    (e1 : w1 = cDpre (chunkAt z la om g dc 1 (31 - k)) (BitVec.ofNat 32 (31 - k)) (slab z la 1 (31 - k)) (slab z la 1 (31 - k - 1)) (carryAt z la om g dc 1 (31 - k)))
    (hf : ∀ j, 64 * (32 - k) ≤ (j 0).val → v.read (Elt F) f j = dpre z la om g dc j) :
    ∀ j, 64 * (32 - (k + 1)) ≤ (j 0).val → v.read (Elt F) (v.writes (Elt F) f
      [⟨Rect.unit (s := S2048x256) o1 S64x128.size i1, w1⟩, ⟨Rect.unit (s := S2048x256) o0 S64x128.size i0, w0⟩]) j = dpre z la om g dc j := by
  subst h0 h1 e0 e1
  intro j hj
  by_cases hlt : 64 * (32 - k) ≤ (j 0).val
  · rw [View.read_writes_apply_of_forall_not_mem]
    · exact hf j hlt
    · have miss : ∀ {C : ℕ} (c : ℕ) (inb : ∀ a, (![64 * (31 - k), c] : Fin 2 → ℕ) a + (![64, C] : Fin 2 → ℕ) a ≤ S2048x256.size a), j ∉ (Rect.unit (s := S2048x256) ![64 * (31 - k), c] ![64, C] inb).set := fun c inb hm => by
        have h2 : (j 0).val < 64 * (31 - k) + 64 := ((Rect.mem_set_unit.mp hm) 0).2
        omega
      exact List.forall_mem_cons.mpr ⟨miss _ i1, List.forall_mem_cons.mpr ⟨miss _ i0, fun _ h => absurd h List.not_mem_nil⟩⟩
  · refine View.read_writes_apply_of_pieces v f (dpre z la om g dc) _ ?_ j ?_
    · have key : ∀ (q : ℕ) (inb : ∀ a, (![64 * (31 - k), 128 * q] : Fin 2 → ℕ) a + S64x128.size a ≤ S2048x256.size a) (x : S64x128.Idx),
          cDpre (chunkAt z la om g dc q (31 - k)) (BitVec.ofNat 32 (31 - k)) (slab z la q (31 - k)) (slab z la q (31 - k - 1)) (carryAt z la om g dc (Fin.ofNat 2 q) (31 - k)) x
            = dpre z la om g dc ((Rect.unit (s := S2048x256) ![64 * (31 - k), 128 * q] S64x128.size inb).emb x) := by
        intro q inb x
        exact (congrArg _ (ValueIdx.eq_ix2 (n0 := 64) (n1 := 128) x)).trans (dpre_apply z la om g dc q (31 - k) _ (x 0) (x 1) (by show 64 * (31 - k) + 1 * (x 0).val = 64 * (31 - k) + (x 0).val; omega)
          (by show 128 * q + 1 * (x 1).val = 128 * q + (x 1).val; omega)).symm
      exact List.forall_mem_cons.mpr ⟨key 1 i1, List.forall_mem_cons.mpr ⟨key 0 i0, fun _ h => absurd h List.not_mem_nil⟩⟩
    · have j0 : (j 0).val < 2048 := (j 0).isLt
      have j1 : (j 1).val < 256 := (j 1).isLt
      by_cases h0 : (j 1).val < 128
      · refine ⟨_, List.mem_cons_of_mem _ List.mem_cons_self, (Rect.mem_set_unit (inb := i0)).mpr fun a => ?_⟩
        match a with
        | ⟨0, _⟩ => show 64 * (31 - k) ≤ (j 0).val ∧ (j 0).val < 64 * (31 - k) + 64; omega
        | ⟨1, _⟩ => show 128 * 0 ≤ (j 1).val ∧ (j 1).val < 128 * 0 + 128; omega
      · refine ⟨_, List.mem_cons_self, (Rect.mem_set_unit (inb := i1)).mpr fun a => ?_⟩
        match a with
        | ⟨0, _⟩ => show 64 * (31 - k) ≤ (j 0).val ∧ (j 0).val < 64 * (31 - k) + 64; omega
        | ⟨1, _⟩ => show 128 * 1 ≤ (j 1).val ∧ (j 1).val < 128 * 1 + 128; omega

/-- One more band of the projections' gradients: four pieces of each head. -/
theorem dz_step (v : View sig .tc .vmem S2048x1536 .bf16) (f : v.ty.Contents (Elt F)) (k : ℕ) (hk : k < 32) {q0 k0 v0 g0 q1 k1 v1 g1 : Fin 2 → ℕ}
    (iq0 : ∀ a, q0 a + S64x128.size a ≤ S2048x1536.size a) (ik0 : ∀ a, k0 a + S64x128.size a ≤ S2048x1536.size a)
    (iv0 : ∀ a, v0 a + S64x256.size a ≤ S2048x1536.size a) (ig0 : ∀ a, g0 a + S64x256.size a ≤ S2048x1536.size a)
    (iq1 : ∀ a, q1 a + S64x128.size a ≤ S2048x1536.size a) (ik1 : ∀ a, k1 a + S64x128.size a ≤ S2048x1536.size a)
    (iv1 : ∀ a, v1 a + S64x256.size a ≤ S2048x1536.size a) (ig1 : ∀ a, g1 a + S64x256.size a ≤ S2048x1536.size a)
    (hq0 : q0 = ![64 * (31 - k), 768 * 0 + 0]) (hk0 : k0 = ![64 * (31 - k), 768 * 0 + 128]) (hv0 : v0 = ![64 * (31 - k), 768 * 0 + 256]) (hg0 : g0 = ![64 * (31 - k), 768 * 0 + 512])
    (hq1 : q1 = ![64 * (31 - k), 768 * 1 + 0]) (hk1 : k1 = ![64 * (31 - k), 768 * 1 + 128]) (hv1 : v1 = ![64 * (31 - k), 768 * 1 + 256]) (hg1 : g1 = ![64 * (31 - k), 768 * 1 + 512])
    (wq0 wk0 wq1 wk1 : Vec F S64x128 .bf16) (wv0 wg0 wv1 wg1 : Vec F S64x256 .bf16)
    (eq0 : wq0 = cDq (chunkAt z la om g dc 0 (31 - k)) (slab z la 0 (31 - k)))
    (ek0 : wk0 = cDk (chunkAt z la om g dc 0 (31 - k)) (slab z la 0 (31 - k)) (carryAt z la om g dc 0 (31 - k)))
    (ev0 : wv0 = cDv (chunkAt z la om g dc 0 (31 - k)) (slab z la 0 (31 - k)) (carryAt z la om g dc 0 (31 - k)))
    (eg0 : wg0 = cDgate (chunkAt z la om g dc 0 (31 - k)) (slab z la 0 (31 - k)))
    (eq1 : wq1 = cDq (chunkAt z la om g dc 1 (31 - k)) (slab z la 1 (31 - k)))
    (ek1 : wk1 = cDk (chunkAt z la om g dc 1 (31 - k)) (slab z la 1 (31 - k)) (carryAt z la om g dc 1 (31 - k)))
    (ev1 : wv1 = cDv (chunkAt z la om g dc 1 (31 - k)) (slab z la 1 (31 - k)) (carryAt z la om g dc 1 (31 - k)))
    (eg1 : wg1 = cDgate (chunkAt z la om g dc 1 (31 - k)) (slab z la 1 (31 - k)))
    (hf : ∀ j, 64 * (32 - k) ≤ (j 0).val → v.read (Elt F) f j = dz z la om g dc j) :
    ∀ j, 64 * (32 - (k + 1)) ≤ (j 0).val → v.read (Elt F) (v.writes (Elt F) f
      [⟨Rect.unit (s := S2048x1536) g1 S64x256.size ig1, wg1⟩, ⟨Rect.unit (s := S2048x1536) v1 S64x256.size iv1, wv1⟩,
       ⟨Rect.unit (s := S2048x1536) k1 S64x128.size ik1, wk1⟩, ⟨Rect.unit (s := S2048x1536) q1 S64x128.size iq1, wq1⟩,
       ⟨Rect.unit (s := S2048x1536) g0 S64x256.size ig0, wg0⟩, ⟨Rect.unit (s := S2048x1536) v0 S64x256.size iv0, wv0⟩,
       ⟨Rect.unit (s := S2048x1536) k0 S64x128.size ik0, wk0⟩, ⟨Rect.unit (s := S2048x1536) q0 S64x128.size iq0, wq0⟩]) j = dz z la om g dc j := by
  subst hq0 hk0 hv0 hg0 hq1 hk1 hv1 hg1 eq0 ek0 ev0 eg0 eq1 ek1 ev1 eg1
  intro j hj
  by_cases hlt : 64 * (32 - k) ≤ (j 0).val
  · rw [View.read_writes_apply_of_forall_not_mem]
    · exact hf j hlt
    · have miss : ∀ {C : ℕ} (c : ℕ) (inb : ∀ a, (![64 * (31 - k), c] : Fin 2 → ℕ) a + (![64, C] : Fin 2 → ℕ) a ≤ S2048x1536.size a), j ∉ (Rect.unit (s := S2048x1536) ![64 * (31 - k), c] ![64, C] inb).set := fun c inb hm => by
        have h2 : (j 0).val < 64 * (31 - k) + 64 := ((Rect.mem_set_unit.mp hm) 0).2
        omega
      exact List.forall_mem_cons.mpr ⟨miss _ ig1, List.forall_mem_cons.mpr ⟨miss _ iv1, List.forall_mem_cons.mpr ⟨miss _ ik1, List.forall_mem_cons.mpr ⟨miss _ iq1, List.forall_mem_cons.mpr ⟨miss _ ig0, List.forall_mem_cons.mpr ⟨miss _ iv0, List.forall_mem_cons.mpr ⟨miss _ ik0, List.forall_mem_cons.mpr ⟨miss _ iq0, fun _ h => absurd h List.not_mem_nil⟩⟩⟩⟩⟩⟩⟩⟩
  · refine View.read_writes_apply_of_pieces v f (dz z la om g dc) _ ?_ j ?_
    · have keyq : ∀ (q : ℕ) (inb : ∀ a, (![64 * (31 - k), 768 * q + 0] : Fin 2 → ℕ) a + S64x128.size a ≤ S2048x1536.size a) (x : S64x128.Idx),
          cDq (chunkAt z la om g dc q (31 - k)) (slab z la q (31 - k)) x = dz z la om g dc ((Rect.unit (s := S2048x1536) ![64 * (31 - k), 768 * q + 0] S64x128.size inb).emb x) := by
        intro q inb x
        have x1 : (x 1).val < 128 := (x 1).isLt
        exact (congrArg _ (ValueIdx.eq_ix2 (n0 := 64) (n1 := 128) x)).trans ((dz_apply z la om g dc q (31 - k) _ (x 0) (x 1).val (by omega) (by show 64 * (31 - k) + 1 * (x 0).val = 64 * (31 - k) + (x 0).val; omega)
          (by show 768 * q + 0 + 1 * (x 1).val = 768 * q + (x 1).val; omega)).trans (dzAt_q z la om g dc q (31 - k) (x 0) (x 1))).symm
      have keyk : ∀ (q : ℕ) (inb : ∀ a, (![64 * (31 - k), 768 * q + 128] : Fin 2 → ℕ) a + S64x128.size a ≤ S2048x1536.size a) (x : S64x128.Idx),
          cDk (chunkAt z la om g dc q (31 - k)) (slab z la q (31 - k)) (carryAt z la om g dc (Fin.ofNat 2 q) (31 - k)) x
            = dz z la om g dc ((Rect.unit (s := S2048x1536) ![64 * (31 - k), 768 * q + 128] S64x128.size inb).emb x) := by
        intro q inb x
        have x1 : (x 1).val < 128 := (x 1).isLt
        exact (congrArg _ (ValueIdx.eq_ix2 (n0 := 64) (n1 := 128) x)).trans ((dz_apply z la om g dc q (31 - k) _ (x 0) (128 + (x 1).val) (by omega) (by show 64 * (31 - k) + 1 * (x 0).val = 64 * (31 - k) + (x 0).val; omega)
          (by show 768 * q + 128 + 1 * (x 1).val = 768 * q + (128 + (x 1).val); omega)).trans (dzAt_k z la om g dc q (31 - k) (x 0) (x 1))).symm
      have keyv : ∀ (q : ℕ) (inb : ∀ a, (![64 * (31 - k), 768 * q + 256] : Fin 2 → ℕ) a + S64x256.size a ≤ S2048x1536.size a) (x : S64x256.Idx),
          cDv (chunkAt z la om g dc q (31 - k)) (slab z la q (31 - k)) (carryAt z la om g dc (Fin.ofNat 2 q) (31 - k)) x
            = dz z la om g dc ((Rect.unit (s := S2048x1536) ![64 * (31 - k), 768 * q + 256] S64x256.size inb).emb x) := by
        intro q inb x
        have x1 : (x 1).val < 256 := (x 1).isLt
        exact (congrArg _ (ValueIdx.eq_ix2 (n0 := 64) (n1 := 256) x)).trans ((dz_apply z la om g dc q (31 - k) _ (x 0) (256 + (x 1).val) (by omega) (by show 64 * (31 - k) + 1 * (x 0).val = 64 * (31 - k) + (x 0).val; omega)
          (by show 768 * q + 256 + 1 * (x 1).val = 768 * q + (256 + (x 1).val); omega)).trans (dzAt_v z la om g dc q (31 - k) (x 0) (x 1))).symm
      have keyg : ∀ (q : ℕ) (inb : ∀ a, (![64 * (31 - k), 768 * q + 512] : Fin 2 → ℕ) a + S64x256.size a ≤ S2048x1536.size a) (x : S64x256.Idx),
          cDgate (chunkAt z la om g dc q (31 - k)) (slab z la q (31 - k)) x = dz z la om g dc ((Rect.unit (s := S2048x1536) ![64 * (31 - k), 768 * q + 512] S64x256.size inb).emb x) := by
        intro q inb x
        have x1 : (x 1).val < 256 := (x 1).isLt
        exact (congrArg _ (ValueIdx.eq_ix2 (n0 := 64) (n1 := 256) x)).trans ((dz_apply z la om g dc q (31 - k) _ (x 0) (512 + (x 1).val) (by omega) (by show 64 * (31 - k) + 1 * (x 0).val = 64 * (31 - k) + (x 0).val; omega)
          (by show 768 * q + 512 + 1 * (x 1).val = 768 * q + (512 + (x 1).val); omega)).trans (dzAt_gate z la om g dc q (31 - k) (x 0) (x 1))).symm
      exact List.forall_mem_cons.mpr ⟨keyg 1 ig1, List.forall_mem_cons.mpr ⟨keyv 1 iv1, List.forall_mem_cons.mpr ⟨keyk 1 ik1, List.forall_mem_cons.mpr ⟨keyq 1 iq1, List.forall_mem_cons.mpr ⟨keyg 0 ig0, List.forall_mem_cons.mpr ⟨keyv 0 iv0, List.forall_mem_cons.mpr ⟨keyk 0 ik0, List.forall_mem_cons.mpr ⟨keyq 0 iq0, fun _ h => absurd h List.not_mem_nil⟩⟩⟩⟩⟩⟩⟩⟩
    · have j0 : (j 0).val < 2048 := (j 0).isLt
      have j1 : (j 1).val < 1536 := (j 1).isLt
      have hband : 64 * (31 - k) ≤ (j 0).val ∧ (j 0).val < 64 * (31 - k) + 64 := by omega
      have mem : ∀ {C : ℕ} {c : ℕ} (inb : ∀ a, (![64 * (31 - k), c] : Fin 2 → ℕ) a + (![64, C] : Fin 2 → ℕ) a ≤ S2048x1536.size a), c ≤ (j 1).val → (j 1).val < c + C →
          j ∈ (Rect.unit (s := S2048x1536) ![64 * (31 - k), c] ![64, C] inb).set := fun inb ha hb =>
        Rect.mem_set_unit.mpr fun a => match a with
          | ⟨0, _⟩ => hband
          | ⟨1, _⟩ => ⟨ha, hb⟩
      by_cases c1 : (j 1).val < 128
      · exact ⟨_, List.Mem.tail _ (List.Mem.tail _ (List.Mem.tail _ (List.Mem.tail _ (List.Mem.tail _ (List.Mem.tail _ (List.Mem.tail _ (List.Mem.head _))))))), mem iq0 (by omega) (by omega)⟩
      by_cases c2 : (j 1).val < 256
      · exact ⟨_, List.Mem.tail _ (List.Mem.tail _ (List.Mem.tail _ (List.Mem.tail _ (List.Mem.tail _ (List.Mem.tail _ (List.Mem.head _)))))), mem ik0 (by omega) (by omega)⟩
      by_cases c3 : (j 1).val < 512
      · exact ⟨_, List.Mem.tail _ (List.Mem.tail _ (List.Mem.tail _ (List.Mem.tail _ (List.Mem.tail _ (List.Mem.head _))))), mem iv0 (by omega) (by omega)⟩
      by_cases c4 : (j 1).val < 768
      · exact ⟨_, List.Mem.tail _ (List.Mem.tail _ (List.Mem.tail _ (List.Mem.tail _ (List.Mem.head _)))), mem ig0 (by omega) (by omega)⟩
      by_cases c5 : (j 1).val < 896
      · exact ⟨_, List.Mem.tail _ (List.Mem.tail _ (List.Mem.tail _ (List.Mem.head _))), mem iq1 (by omega) (by omega)⟩
      by_cases c6 : (j 1).val < 1024
      · exact ⟨_, List.Mem.tail _ (List.Mem.tail _ (List.Mem.head _)), mem ik1 (by omega) (by omega)⟩
      by_cases c7 : (j 1).val < 1280
      · exact ⟨_, List.Mem.tail _ (List.Mem.head _), mem iv1 (by omega) (by omega)⟩
      · exact ⟨_, List.Mem.head _, mem ig1 (by omega) (by omega)⟩

end

end Cert.KernelIdeal.Hand

end
-- ==== Proof.Loop.lean ====
module

public import proofs.«01_k».proof.Proof.Gen.KernelIdeal.Frame
public import proofs.«01_k».proof.Proof.Gen.KernelIdeal.Skeleton
public import Idealize.ShloMosaic.Lib.Exec
public import Idealize.ShloMosaic.Lib.Tactic
public import Idealize.ShloMosaic.Lib.VecWindow
public import Idealize.ShloMosaic.Lib.Writes
public import proofs.«01_k».proof.Proof.Step
public import Idealize.ShloMosaic.Lib.Pipeline.Value
@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

/-- A buffer of the kernel. -/
abbrev Mr (S : Shape) (e : EltTy) := Memref sig .tc .vmem S e

variable {F : FTy → Type} [FloatOps F]

local notation "𝕄G" => MT nD τ sig Unit (Elt F) ℕ (UR sig nD τ) ℕ

open Idealize.ShloMosaic.ValueIdx (ix2 ix3 ix4)

/-! # The two loops by what their buffers hold -/

theorem trips1 : k0_t1_loop.trips = 32 := by decide +kernel
theorem trips2 : k0_t2_loop.trips = 32 := by decide +kernel
theorem word_eq : ∀ k : Fin k0_t2_loop.trips, Scalar.subi 31#32 (Scf.iv 0#32 1#32 k.val) = BitVec.ofNat 32 (31 - k.val) := by decide +kernel
theorem off14_eq : ∀ k : Fin k0_t2_loop.trips, k0_off14 k = ![0, 31 - k.val - 1, 0, 0] := by decide +kernel
theorem off22_eq : ∀ k : Fin k0_t2_loop.trips, k0_off22 k = ![1, 31 - k.val - 1, 0, 0] := by decide +kernel

/-- A state cast to a slab's shape, read by its last two axes. -/
theorem slab_of_cast (st : FVec F S256x128 .f32) (h : S256x128.ShapeCasts S1x1x256x128) : shapeCast S1x1x256x128 st h = fun j => st (ix2 (j 2 : Fin 256) (j 3 : Fin 128)) := by
  funext j
  have j0 : (j 0).val < 1 := (j 0).isLt
  have j1 : (j 1).val < 1 := (j 1).isLt
  refine shapeCast_apply st h j (ix2 (j 2 : Fin 256) (j 3 : Fin 128)) ?_
  rw [Shape.rowMajor_val_two, Shape.rowMajor_val_four]
  show (j 2).val * 128 + (j 3).val = (((j 0).val * 1 + (j 1).val) * 256 + (j 2).val) * 128 + (j 3).val
  omega

/-- The slab the first head stores is the new state. -/
theorem slabFirst (st : FVec F S256x128 .f32) (la : Vec F S64x128 .f32) (k : Vec F S64x128 .bf16) (v : Vec F S64x256 .bf16) :
    k0_pay8 k0_pay80 st la k v = fun j => fwdStep st la k v (ix2 (j 2) (j 3)) :=
  slab_of_cast _ _
/-- And the second head's. -/
theorem slabSecond (st : FVec F S256x128 .f32) (la : Vec F S64x128 .f32) (k : Vec F S64x128 .bf16) (v : Vec F S64x256 .bf16) :
    k0_pay85 st la (k0_pay9 la) (k0_pay10 la) k v = fun j => fwdStep st la k v (ix2 (j 2) (j 3)) :=
  slab_of_cast _ _

/-- One trip of the forward loop: the states step, and the trip's slabs are stored. -/
theorem trip1 (𝒱 : Variants) (c : Dev nD) (bd : Option 𝒱.V) (E : Set ℕ) (i : grid0.Coords) (arg1 : Mr S2048x1536 .bf16) (harg1 : arg1.IsWhole) (arg2 : Mr S2048x128 .bf16) (harg2 : arg2.IsWhole) (arg3 : Mr S128x256 .bf16) (harg3 : arg3.IsWhole) (arg4 : Mr S1x256 .f32) (harg4 : arg4.IsWhole) (arg5 : Mr S1x512 .f32) (harg5 : arg5.IsWhole) (arg6 : Mr S2048x512 .bf16) (harg6 : arg6.IsWhole) (arg7 : Mr S2048x1536 .bf16) (harg7 : arg7.IsWhole) (arg8 : Mr S2048x128 .bf16) (harg8 : arg8.IsWhole) (arg9 : Mr S128x256 .f32) (harg9 : arg9.IsWhole) (arg10 : Mr S1x256 .f32) (harg10 : arg10.IsWhole) (arg11 : Mr S1x512 .f32) (harg11 : arg11.IsWhole) (arg12 : Mr S2048x256 .f32) (harg12 : arg12.IsWhole) (arg13 : Mr S2048x256 .f32) (harg13 : arg13.IsWhole) (arg14 : Mr S2x32x256x128 .f32) (harg14 : arg14.IsWhole) (arg15 : Mr S2048x256 .f32) (harg15 : arg15.IsWhole) (arg16 : Mr S2x256x128 .f32) (harg16 : arg16.IsWhole) (arg17 : Mr S2048x128 .f32) (harg17 : arg17.IsWhole) (arg18 : Mr S1x512 .f32) (harg18 : arg18.IsWhole) (v37 : FVec F S2048x256 .f32)
    (X1 : BufTy.Contents (Elt F) arg1.view.ty) (X12 : BufTy.Contents (Elt F) arg12.view.ty) (f14 : BufTy.Contents (Elt F) arg14.view.ty) (k : Fin k0_t1_loop.trips)
    (h14 : ∀ j, (j 1).val < k.val → arg14.view.read (Elt F) f14 j = slabs (arg1.view.read (Elt F) X1) (arg12.view.read (Elt F) X12) j) :
    (iprop((arg1.view.loc (c : Thread nD τ) ↦[arg1.view.set]{fullShare} X1) ∗ (arg12.view.loc (c : Thread nD τ) ↦[arg12.view.set]{fullShare} X12) ∗ (arg14.view.loc (c : Thread nD τ) ↦[arg14.view.set]{fullShare} f14)) : sProp 𝕄G)
      ⊢ wp frame (wpE (defs₀ (F := F)) 𝒱 (c : Thread nD τ) bd) E (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v37 k (state (arg1.view.read (Elt F) X1) (arg12.view.read (Elt F) X12) 0 k.val, state (arg1.view.read (Elt F) X1) (arg12.view.read (Elt F) X12) 1 k.val))
          (fun yld => iprop((arg1.view.loc (c : Thread nD τ) ↦[arg1.view.set]{fullShare} X1) ∗ (arg12.view.loc (c : Thread nD τ) ↦[arg12.view.set]{fullShare} X12) ∗ (∃ f, (arg14.view.loc (c : Thread nD τ) ↦[arg14.view.set]{fullShare} f) ∗ ⌜∀ j, (j 1).val < k.val + 1 → arg14.view.read (Elt F) f j = slabs (arg1.view.read (Elt F) X1) (arg12.view.read (Elt F) X12) j⌝)
            ∗ ⌜yld = (state (arg1.view.read (Elt F) X1) (arg12.view.read (Elt F) X12) 0 (k.val + 1), state (arg1.view.read (Elt F) X1) (arg12.view.read (Elt F) X12) 1 (k.val + 1))⌝)) := by
  have hk : k.val < 32 := Nat.lt_of_lt_of_le k.isLt k0_t1_abs.2.1
  have la0 : View.readAt (Elt F) arg12.view (Rect.unit (s := S2048x256) (k0_off1 k) S64x128.size (k0_off1_inb k)).toLoadRect X12 = laAt (arg12.view.read (Elt F) X12) 0 k.val :=
    load_cut arg12.view X12 (by decide) (by decide) (64 * k.val) (128 * 0) (k0_off1_inb k) ((k0_off1_eq k).trans (vec2 (by omega) rfl))
  have k0 : View.readAt (Elt F) arg1.view (Rect.unit (s := S2048x1536) (k0_off2 k) S64x128.size (k0_off2_inb k)).toLoadRect X1 = kAt (arg1.view.read (Elt F) X1) 0 k.val :=
    load_cut arg1.view X1 (by decide) (by decide) (64 * k.val) (768 * 0 + 128) (k0_off2_inb k) ((k0_off2_eq k).trans (vec2 (by omega) rfl))
  have v0 : View.readAt (Elt F) arg1.view (Rect.unit (s := S2048x1536) (k0_off3 k) S64x256.size (k0_off3_inb k)).toLoadRect X1 = vAt (arg1.view.read (Elt F) X1) 0 k.val :=
    load_cut arg1.view X1 (by decide) (by decide) (64 * k.val) (768 * 0 + 256) (k0_off3_inb k) ((k0_off3_eq k).trans (vec2 (by omega) rfl))
  have la1 : View.readAt (Elt F) arg12.view (Rect.unit (s := S2048x256) (k0_off5 k) S64x128.size (k0_off5_inb k)).toLoadRect X12 = laAt (arg12.view.read (Elt F) X12) 1 k.val :=
    load_cut arg12.view X12 (by decide) (by decide) (64 * k.val) (128 * 1) (k0_off5_inb k) ((k0_off5_eq k).trans (vec2 (by omega) rfl))
  have k1 : View.readAt (Elt F) arg1.view (Rect.unit (s := S2048x1536) (k0_off6 k) S64x128.size (k0_off6_inb k)).toLoadRect X1 = kAt (arg1.view.read (Elt F) X1) 1 k.val :=
    load_cut arg1.view X1 (by decide) (by decide) (64 * k.val) (768 * 1 + 128) (k0_off6_inb k) ((k0_off6_eq k).trans (vec2 (by omega) rfl))
  have v1 : View.readAt (Elt F) arg1.view (Rect.unit (s := S2048x1536) (k0_off7 k) S64x256.size (k0_off7_inb k)).toLoadRect X1 = vAt (arg1.view.read (Elt F) X1) 1 k.val :=
    load_cut arg1.view X1 (by decide) (by decide) (64 * k.val) (768 * 1 + 256) (k0_off7_inb k) ((k0_off7_eq k).trans (vec2 (by omega) rfl))
  unfold k0_t1_body
  iintro ⟨HR_arg1, HR_arg12, HW_arg14⟩
  sl_exec
  sl_step
  isplitl [HR_arg1]; · iexact HR_arg1
  isplitl [HR_arg12]; · iexact HR_arg12
  isplitl [HW_arg14]
  · iexists _
    isplitl [HW_arg14]; · iexact HW_arg14
    ipureintro
    sl_unfold_run_names
    refine slabs_step (arg1.view.read (Elt F) X1) (arg12.view.read (Elt F) X12) arg14.view f14 k.val (k0_off4_inb k) (k0_off8_inb k) (k0_off4_eq k) (k0_off8_eq k) _ _ ?_ ?_ h14
    · exact (slabFirst _ _ _ _).trans (funext fun j => rfl)
    · exact (slabSecond _ _ _ _).trans (funext fun j => rfl)
  · ipureintro
    sl_unfold_run_names

    rfl

/-- One trip of the backward loop: one more chunk's band in every buffer. -/
theorem trip2 (𝒱 : Variants) (c : Dev nD) (bd : Option 𝒱.V) (E : Set ℕ) (i : grid0.Coords) (arg1 : Mr S2048x1536 .bf16) (harg1 : arg1.IsWhole) (arg2 : Mr S2048x128 .bf16) (harg2 : arg2.IsWhole) (arg3 : Mr S128x256 .bf16) (harg3 : arg3.IsWhole) (arg4 : Mr S1x256 .f32) (harg4 : arg4.IsWhole) (arg5 : Mr S1x512 .f32) (harg5 : arg5.IsWhole) (arg6 : Mr S2048x512 .bf16) (harg6 : arg6.IsWhole) (arg7 : Mr S2048x1536 .bf16) (harg7 : arg7.IsWhole) (arg8 : Mr S2048x128 .bf16) (harg8 : arg8.IsWhole) (arg9 : Mr S128x256 .f32) (harg9 : arg9.IsWhole) (arg10 : Mr S1x256 .f32) (harg10 : arg10.IsWhole) (arg11 : Mr S1x512 .f32) (harg11 : arg11.IsWhole) (arg12 : Mr S2048x256 .f32) (harg12 : arg12.IsWhole) (arg13 : Mr S2048x256 .f32) (harg13 : arg13.IsWhole) (arg14 : Mr S2x32x256x128 .f32) (harg14 : arg14.IsWhole) (arg15 : Mr S2048x256 .f32) (harg15 : arg15.IsWhole) (arg16 : Mr S2x256x128 .f32) (harg16 : arg16.IsWhole) (arg17 : Mr S2048x128 .f32) (harg17 : arg17.IsWhole) (arg18 : Mr S1x512 .f32) (harg18 : arg18.IsWhole) (v37 : FVec F S2048x256 .f32)
    (X1 : BufTy.Contents (Elt F) arg1.view.ty) (X5 : BufTy.Contents (Elt F) arg5.view.ty) (X6 : BufTy.Contents (Elt F) arg6.view.ty) (X12 : BufTy.Contents (Elt F) arg12.view.ty) (X13 : BufTy.Contents (Elt F) arg13.view.ty) (X14 : BufTy.Contents (Elt F) arg14.view.ty) (k : Fin k0_t2_loop.trips)
    (f7 : BufTy.Contents (Elt F) arg7.view.ty) (f15 : BufTy.Contents (Elt F) arg15.view.ty) (f16 : BufTy.Contents (Elt F) arg16.view.ty) (f18 : BufTy.Contents (Elt F) arg18.view.ty)
    (h14 : ∀ j, arg14.view.read (Elt F) X14 j = slabs (arg1.view.read (Elt F) X1) (arg12.view.read (Elt F) X12) j)
    (h7 : ∀ j, 64 * (32 - k.val) ≤ (j 0).val → arg7.view.read (Elt F) f7 j = dz (arg1.view.read (Elt F) X1) (arg12.view.read (Elt F) X12) (arg13.view.read (Elt F) X13) (arg5.view.read (Elt F) X5) (arg6.view.read (Elt F) X6) j)
    (h15 : ∀ j, 64 * (32 - k.val) ≤ (j 0).val → arg15.view.read (Elt F) f15 j = dpre (arg1.view.read (Elt F) X1) (arg12.view.read (Elt F) X12) (arg13.view.read (Elt F) X13) (arg5.view.read (Elt F) X5) (arg6.view.read (Elt F) X6) j)
    (h16 : ∀ j, arg16.view.read (Elt F) f16 j = carry (arg1.view.read (Elt F) X1) (arg12.view.read (Elt F) X12) (arg13.view.read (Elt F) X13) (arg5.view.read (Elt F) X5) (arg6.view.read (Elt F) X6) k.val j)
    (h18 : ∀ j, arg18.view.read (Elt F) f18 j = dgsum (arg1.view.read (Elt F) X1) (arg12.view.read (Elt F) X12) (arg13.view.read (Elt F) X13) (arg5.view.read (Elt F) X5) (arg6.view.read (Elt F) X6) k.val j) :
    (iprop((arg1.view.loc (c : Thread nD τ) ↦[arg1.view.set]{fullShare} X1) ∗ (arg5.view.loc (c : Thread nD τ) ↦[arg5.view.set]{fullShare} X5) ∗ (arg6.view.loc (c : Thread nD τ) ↦[arg6.view.set]{fullShare} X6) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14) ∗ (arg7.view.loc (c : Thread nD τ) ↦[arg7.view.set]{fullShare} f7) ∗ (arg15.view.loc (c : Thread nD τ) ↦[arg15.view.set]{fullShare} f15) ∗ (arg16.view.loc (c : Thread nD τ) ↦[arg16.view.set]{fullShare} f16) ∗ (arg18.view.loc (c : Thread nD τ) ↦[arg18.view.set]{fullShare} f18)) : sProp 𝕄G)
      ⊢ wp frame (wpE (defs₀ (F := F)) 𝒱 (c : Thread nD τ) bd) E (k0_t2_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v37 k PUnit.unit)
          (fun _ => iprop((arg1.view.loc (c : Thread nD τ) ↦[arg1.view.set]{fullShare} X1) ∗ (arg5.view.loc (c : Thread nD τ) ↦[arg5.view.set]{fullShare} X5) ∗ (arg6.view.loc (c : Thread nD τ) ↦[arg6.view.set]{fullShare} X6) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14) ∗ (∃ f, (arg7.view.loc (c : Thread nD τ) ↦[arg7.view.set]{fullShare} f) ∗ ⌜∀ j, 64 * (32 - (k.val + 1)) ≤ (j 0).val → arg7.view.read (Elt F) f j = dz (arg1.view.read (Elt F) X1) (arg12.view.read (Elt F) X12) (arg13.view.read (Elt F) X13) (arg5.view.read (Elt F) X5) (arg6.view.read (Elt F) X6) j⌝) ∗ (∃ f, (arg15.view.loc (c : Thread nD τ) ↦[arg15.view.set]{fullShare} f) ∗ ⌜∀ j, 64 * (32 - (k.val + 1)) ≤ (j 0).val → arg15.view.read (Elt F) f j = dpre (arg1.view.read (Elt F) X1) (arg12.view.read (Elt F) X12) (arg13.view.read (Elt F) X13) (arg5.view.read (Elt F) X5) (arg6.view.read (Elt F) X6) j⌝) ∗ (∃ f, (arg16.view.loc (c : Thread nD τ) ↦[arg16.view.set]{fullShare} f) ∗ ⌜∀ j, arg16.view.read (Elt F) f j = carry (arg1.view.read (Elt F) X1) (arg12.view.read (Elt F) X12) (arg13.view.read (Elt F) X13) (arg5.view.read (Elt F) X5) (arg6.view.read (Elt F) X6) (k.val + 1) j⌝) ∗ (∃ f, (arg18.view.loc (c : Thread nD τ) ↦[arg18.view.set]{fullShare} f) ∗ ⌜∀ j, arg18.view.read (Elt F) f j = dgsum (arg1.view.read (Elt F) X1) (arg12.view.read (Elt F) X12) (arg13.view.read (Elt F) X13) (arg5.view.read (Elt F) X5) (arg6.view.read (Elt F) X6) (k.val + 1) j⌝))) := by
  have hk : k.val < 32 := Nat.lt_of_lt_of_le k.isLt k0_t2_abs.2.1
  have la0 : View.readAt (Elt F) arg12.view (Rect.unit (s := S2048x256) (k0_off9 k) S64x128.size (k0_off9_inb k)).toLoadRect X12 = (chunkAt (arg1.view.read (Elt F) X1) (arg12.view.read (Elt F) X12) (arg13.view.read (Elt F) X13) (arg5.view.read (Elt F) X5) (arg6.view.read (Elt F) X6) 0 (31 - k.val)).la :=
    load_cut arg12.view X12 (by decide) (by decide) (64 * (31 - k.val)) (128 * 0) (k0_off9_inb k) ((k0_off9_eq k).trans (vec2 (by omega) rfl))
  have om0 : View.readAt (Elt F) arg13.view (Rect.unit (s := S2048x256) (k0_off9 k) S64x128.size (k0_off9_inb k)).toLoadRect X13 = (chunkAt (arg1.view.read (Elt F) X1) (arg12.view.read (Elt F) X12) (arg13.view.read (Elt F) X13) (arg5.view.read (Elt F) X5) (arg6.view.read (Elt F) X6) 0 (31 - k.val)).om :=
    load_cut arg13.view X13 (by decide) (by decide) (64 * (31 - k.val)) (128 * 0) (k0_off9_inb k) ((k0_off9_eq k).trans (vec2 (by omega) rfl))
  have q0 : View.readAt (Elt F) arg1.view (Rect.unit (s := S2048x1536) (k0_off12 k) S64x128.size (k0_off12_inb k)).toLoadRect X1 = (chunkAt (arg1.view.read (Elt F) X1) (arg12.view.read (Elt F) X12) (arg13.view.read (Elt F) X13) (arg5.view.read (Elt F) X5) (arg6.view.read (Elt F) X6) 0 (31 - k.val)).q :=
    load_cut arg1.view X1 (by decide) (by decide) (64 * (31 - k.val)) (768 * 0) (k0_off12_inb k) ((k0_off12_eq k).trans (vec2 (by omega) rfl))
  have k0 : View.readAt (Elt F) arg1.view (Rect.unit (s := S2048x1536) (k0_off10 k) S64x128.size (k0_off10_inb k)).toLoadRect X1 = (chunkAt (arg1.view.read (Elt F) X1) (arg12.view.read (Elt F) X12) (arg13.view.read (Elt F) X13) (arg5.view.read (Elt F) X5) (arg6.view.read (Elt F) X6) 0 (31 - k.val)).k :=
    load_cut arg1.view X1 (by decide) (by decide) (64 * (31 - k.val)) (768 * 0 + 128) (k0_off10_inb k) ((k0_off10_eq k).trans (vec2 (by omega) rfl))
  have v0 : View.readAt (Elt F) arg1.view (Rect.unit (s := S2048x1536) (k0_off11 k) S64x256.size (k0_off11_inb k)).toLoadRect X1 = (chunkAt (arg1.view.read (Elt F) X1) (arg12.view.read (Elt F) X12) (arg13.view.read (Elt F) X13) (arg5.view.read (Elt F) X5) (arg6.view.read (Elt F) X6) 0 (31 - k.val)).v :=
    load_cut arg1.view X1 (by decide) (by decide) (64 * (31 - k.val)) (768 * 0 + 256) (k0_off11_inb k) ((k0_off11_eq k).trans (vec2 (by omega) rfl))
  have gate0 : View.readAt (Elt F) arg1.view (Rect.unit (s := S2048x1536) (k0_off15 k) S64x256.size (k0_off15_inb k)).toLoadRect X1 = (chunkAt (arg1.view.read (Elt F) X1) (arg12.view.read (Elt F) X12) (arg13.view.read (Elt F) X13) (arg5.view.read (Elt F) X5) (arg6.view.read (Elt F) X6) 0 (31 - k.val)).gate :=
    load_cut arg1.view X1 (by decide) (by decide) (64 * (31 - k.val)) (768 * 0 + 512) (k0_off15_inb k) ((k0_off15_eq k).trans (vec2 (by omega) rfl))
  have dc0 : View.readAt (Elt F) arg6.view (Rect.unit (s := S2048x512) (k0_off16 k) S64x256.size (k0_off16_inb k)).toLoadRect X6 = (chunkAt (arg1.view.read (Elt F) X1) (arg12.view.read (Elt F) X12) (arg13.view.read (Elt F) X13) (arg5.view.read (Elt F) X5) (arg6.view.read (Elt F) X6) 0 (31 - k.val)).dc :=
    load_cut arg6.view X6 (by decide) (by decide) (64 * (31 - k.val)) (256 * 0) (k0_off16_inb k) ((k0_off16_eq k).trans (vec2 (by omega) rfl))
  have g0 : View.readAt (Elt F) arg5.view (Rect.unit (s := S1x512) ![0, 0] S1x256.size inb_S1x512_S1x256_0_0).toLoadRect X5 = (chunkAt (arg1.view.read (Elt F) X1) (arg12.view.read (Elt F) X12) (arg13.view.read (Elt F) X13) (arg5.view.read (Elt F) X5) (arg6.view.read (Elt F) X6) 0 (31 - k.val)).g :=
    load_cut arg5.view X5 (by decide) (by decide) (0) (256 * 0) inb_S1x512_S1x256_0_0 rfl
  have old0 : View.readAt (Elt F) arg18.view (Rect.unit (s := S1x512) ![0, 0] S1x256.size inb_S1x512_S1x256_0_0).toLoadRect f18 = cut (N := 1) (M := 512) (by decide) (by decide) 1 256 0 (256 * 0) (dgsum (arg1.view.read (Elt F) X1) (arg12.view.read (Elt F) X12) (arg13.view.read (Elt F) X13) (arg5.view.read (Elt F) X5) (arg6.view.read (Elt F) X6) k.val) :=
    (load_cut arg18.view f18 (by decide) (by decide) 0 (256 * 0) inb_S1x512_S1x256_0_0 rfl).trans (congrArg _ (funext h18))
  have S0 : View.readAt (Elt F) arg14.view (Rect.unit (s := S2x32x256x128) (k0_off13 k) S1x1x256x128.size (k0_off13_inb k)).toLoadRect X14 = slab (arg1.view.read (Elt F) X1) (arg12.view.read (Elt F) X12) 0 (31 - k.val) :=
    load_slab (arg1.view.read (Elt F) X1) (arg12.view.read (Elt F) X12) arg14.view X14 h14 0 (31 - k.val) (k0_off13_inb k) (k0_off13_eq k)
  have Sp0 : View.readAt (Elt F) arg14.view (Rect.unit (s := S2x32x256x128) (k0_off14 k) S1x1x256x128.size (k0_off14_inb k)).toLoadRect X14 = slab (arg1.view.read (Elt F) X1) (arg12.view.read (Elt F) X12) 0 (31 - k.val - 1) :=
    load_slab (arg1.view.read (Elt F) X1) (arg12.view.read (Elt F) X12) arg14.view X14 h14 0 (31 - k.val - 1) (k0_off14_inb k) (off14_eq k)
  have c0 : View.readAt (Elt F) arg16.view (Rect.unit (s := S2x256x128) ![0, 0, 0] S1x256x128.size inb_S2x256x128_S1x256x128_0_0_0).toLoadRect f16 = carryAt (arg1.view.read (Elt F) X1) (arg12.view.read (Elt F) X12) (arg13.view.read (Elt F) X13) (arg5.view.read (Elt F) X5) (arg6.view.read (Elt F) X6) 0 (31 - k.val) :=
    load_carry (arg1.view.read (Elt F) X1) (arg12.view.read (Elt F) X12) (arg13.view.read (Elt F) X13) (arg5.view.read (Elt F) X5) (arg6.view.read (Elt F) X6) arg16.view f16 k.val hk h16 0 inb_S2x256x128_S1x256x128_0_0_0
  have la1 : View.readAt (Elt F) arg12.view (Rect.unit (s := S2048x256) (k0_off17 k) S64x128.size (k0_off17_inb k)).toLoadRect X12 = (chunkAt (arg1.view.read (Elt F) X1) (arg12.view.read (Elt F) X12) (arg13.view.read (Elt F) X13) (arg5.view.read (Elt F) X5) (arg6.view.read (Elt F) X6) 1 (31 - k.val)).la :=
    load_cut arg12.view X12 (by decide) (by decide) (64 * (31 - k.val)) (128 * 1) (k0_off17_inb k) ((k0_off17_eq k).trans (vec2 (by omega) rfl))
  have om1 : View.readAt (Elt F) arg13.view (Rect.unit (s := S2048x256) (k0_off17 k) S64x128.size (k0_off17_inb k)).toLoadRect X13 = (chunkAt (arg1.view.read (Elt F) X1) (arg12.view.read (Elt F) X12) (arg13.view.read (Elt F) X13) (arg5.view.read (Elt F) X5) (arg6.view.read (Elt F) X6) 1 (31 - k.val)).om :=
    load_cut arg13.view X13 (by decide) (by decide) (64 * (31 - k.val)) (128 * 1) (k0_off17_inb k) ((k0_off17_eq k).trans (vec2 (by omega) rfl))
  have q1 : View.readAt (Elt F) arg1.view (Rect.unit (s := S2048x1536) (k0_off20 k) S64x128.size (k0_off20_inb k)).toLoadRect X1 = (chunkAt (arg1.view.read (Elt F) X1) (arg12.view.read (Elt F) X12) (arg13.view.read (Elt F) X13) (arg5.view.read (Elt F) X5) (arg6.view.read (Elt F) X6) 1 (31 - k.val)).q :=
    load_cut arg1.view X1 (by decide) (by decide) (64 * (31 - k.val)) (768 * 1) (k0_off20_inb k) ((k0_off20_eq k).trans (vec2 (by omega) rfl))
  have k1 : View.readAt (Elt F) arg1.view (Rect.unit (s := S2048x1536) (k0_off18 k) S64x128.size (k0_off18_inb k)).toLoadRect X1 = (chunkAt (arg1.view.read (Elt F) X1) (arg12.view.read (Elt F) X12) (arg13.view.read (Elt F) X13) (arg5.view.read (Elt F) X5) (arg6.view.read (Elt F) X6) 1 (31 - k.val)).k :=
    load_cut arg1.view X1 (by decide) (by decide) (64 * (31 - k.val)) (768 * 1 + 128) (k0_off18_inb k) ((k0_off18_eq k).trans (vec2 (by omega) rfl))
  have v1 : View.readAt (Elt F) arg1.view (Rect.unit (s := S2048x1536) (k0_off19 k) S64x256.size (k0_off19_inb k)).toLoadRect X1 = (chunkAt (arg1.view.read (Elt F) X1) (arg12.view.read (Elt F) X12) (arg13.view.read (Elt F) X13) (arg5.view.read (Elt F) X5) (arg6.view.read (Elt F) X6) 1 (31 - k.val)).v :=
    load_cut arg1.view X1 (by decide) (by decide) (64 * (31 - k.val)) (768 * 1 + 256) (k0_off19_inb k) ((k0_off19_eq k).trans (vec2 (by omega) rfl))
  have gate1 : View.readAt (Elt F) arg1.view (Rect.unit (s := S2048x1536) (k0_off23 k) S64x256.size (k0_off23_inb k)).toLoadRect X1 = (chunkAt (arg1.view.read (Elt F) X1) (arg12.view.read (Elt F) X12) (arg13.view.read (Elt F) X13) (arg5.view.read (Elt F) X5) (arg6.view.read (Elt F) X6) 1 (31 - k.val)).gate :=
    load_cut arg1.view X1 (by decide) (by decide) (64 * (31 - k.val)) (768 * 1 + 512) (k0_off23_inb k) ((k0_off23_eq k).trans (vec2 (by omega) rfl))
  have dc1 : View.readAt (Elt F) arg6.view (Rect.unit (s := S2048x512) (k0_off24 k) S64x256.size (k0_off24_inb k)).toLoadRect X6 = (chunkAt (arg1.view.read (Elt F) X1) (arg12.view.read (Elt F) X12) (arg13.view.read (Elt F) X13) (arg5.view.read (Elt F) X5) (arg6.view.read (Elt F) X6) 1 (31 - k.val)).dc :=
    load_cut arg6.view X6 (by decide) (by decide) (64 * (31 - k.val)) (256 * 1) (k0_off24_inb k) ((k0_off24_eq k).trans (vec2 (by omega) rfl))
  have g1 : View.readAt (Elt F) arg5.view (Rect.unit (s := S1x512) ![0, 256] S1x256.size inb_S1x512_S1x256_0_256).toLoadRect X5 = (chunkAt (arg1.view.read (Elt F) X1) (arg12.view.read (Elt F) X12) (arg13.view.read (Elt F) X13) (arg5.view.read (Elt F) X5) (arg6.view.read (Elt F) X6) 1 (31 - k.val)).g :=
    load_cut arg5.view X5 (by decide) (by decide) (0) (256 * 1) inb_S1x512_S1x256_0_256 rfl
  have old1 : View.readAt (Elt F) arg18.view (Rect.unit (s := S1x512) ![0, 256] S1x256.size inb_S1x512_S1x256_0_256).toLoadRect f18 = cut (N := 1) (M := 512) (by decide) (by decide) 1 256 0 (256 * 1) (dgsum (arg1.view.read (Elt F) X1) (arg12.view.read (Elt F) X12) (arg13.view.read (Elt F) X13) (arg5.view.read (Elt F) X5) (arg6.view.read (Elt F) X6) k.val) :=
    (load_cut arg18.view f18 (by decide) (by decide) 0 (256 * 1) inb_S1x512_S1x256_0_256 rfl).trans (congrArg _ (funext h18))
  have S1 : View.readAt (Elt F) arg14.view (Rect.unit (s := S2x32x256x128) (k0_off21 k) S1x1x256x128.size (k0_off21_inb k)).toLoadRect X14 = slab (arg1.view.read (Elt F) X1) (arg12.view.read (Elt F) X12) 1 (31 - k.val) :=
    load_slab (arg1.view.read (Elt F) X1) (arg12.view.read (Elt F) X12) arg14.view X14 h14 1 (31 - k.val) (k0_off21_inb k) (k0_off21_eq k)
  have Sp1 : View.readAt (Elt F) arg14.view (Rect.unit (s := S2x32x256x128) (k0_off22 k) S1x1x256x128.size (k0_off22_inb k)).toLoadRect X14 = slab (arg1.view.read (Elt F) X1) (arg12.view.read (Elt F) X12) 1 (31 - k.val - 1) :=
    load_slab (arg1.view.read (Elt F) X1) (arg12.view.read (Elt F) X12) arg14.view X14 h14 1 (31 - k.val - 1) (k0_off22_inb k) (off22_eq k)
  have c1 : View.readAt (Elt F) arg16.view (Rect.unit (s := S2x256x128) ![1, 0, 0] S1x256x128.size inb_S2x256x128_S1x256x128_1_0_0).toLoadRect f16 = carryAt (arg1.view.read (Elt F) X1) (arg12.view.read (Elt F) X12) (arg13.view.read (Elt F) X13) (arg5.view.read (Elt F) X5) (arg6.view.read (Elt F) X6) 1 (31 - k.val) :=
    load_carry (arg1.view.read (Elt F) X1) (arg12.view.read (Elt F) X12) (arg13.view.read (Elt F) X13) (arg5.view.read (Elt F) X5) (arg6.view.read (Elt F) X6) arg16.view f16 k.val hk h16 1 inb_S2x256x128_S1x256x128_1_0_0
  unfold k0_t2_body
  iintro ⟨HR_arg1, HR_arg5, HR_arg6, HR_arg12, HR_arg13, HR_arg14, HW_arg7, HW_arg15, HW_arg16, HW_arg18⟩
  sl_exec
  sl_step
  isplitl [HR_arg1]; · iexact HR_arg1
  isplitl [HR_arg5]; · iexact HR_arg5
  isplitl [HR_arg6]; · iexact HR_arg6
  isplitl [HR_arg12]; · iexact HR_arg12
  isplitl [HR_arg13]; · iexact HR_arg13
  isplitl [HR_arg14]; · iexact HR_arg14
  isplitl [HW_arg7]
  · iexists _
    isplitl [HW_arg7]; · iexact HW_arg7
    ipureintro
    sl_unfold_run_names
    refine dz_step (arg1.view.read (Elt F) X1) (arg12.view.read (Elt F) X12) (arg13.view.read (Elt F) X13) (arg5.view.read (Elt F) X5) (arg6.view.read (Elt F) X6) arg7.view f7 k.val hk (k0_off12_inb k) (k0_off10_inb k) (k0_off11_inb k) (k0_off15_inb k) (k0_off20_inb k) (k0_off18_inb k) (k0_off19_inb k) (k0_off23_inb k)
      ((k0_off12_eq k).trans (vec2 (by omega) rfl)) ((k0_off10_eq k).trans (vec2 (by omega) rfl)) ((k0_off11_eq k).trans (vec2 (by omega) rfl)) ((k0_off15_eq k).trans (vec2 (by omega) rfl))
      ((k0_off20_eq k).trans (vec2 (by omega) rfl)) ((k0_off18_eq k).trans (vec2 (by omega) rfl)) ((k0_off19_eq k).trans (vec2 (by omega) rfl)) ((k0_off23_eq k).trans (vec2 (by omega) rfl))
      _ _ _ _ _ _ _ _ ?_ ?_ ?_ ?_ ?_ ?_ ?_ ?_ h7
    · skip; rfl
    · skip; rfl
    · skip; rfl
    · skip; rfl
    · skip; exact cDq_head1 _ _
    · skip; exact cDk_head1 _ _ _
    · skip; exact cDv_head1 _ _ _
    · skip; exact cDgate_head1 _ _
  isplitl [HW_arg15]
  · iexists _
    isplitl [HW_arg15]; · iexact HW_arg15
    ipureintro
    sl_unfold_run_names
    refine dpre_step (arg1.view.read (Elt F) X1) (arg12.view.read (Elt F) X12) (arg13.view.read (Elt F) X13) (arg5.view.read (Elt F) X5) (arg6.view.read (Elt F) X6) arg15.view f15 k.val hk (k0_off9_inb k) (k0_off17_inb k) ((k0_off9_eq k).trans (vec2 (by omega) rfl)) ((k0_off17_eq k).trans (vec2 (by omega) rfl)) _ _ ?_ ?_ h15
    · rw [word_eq k]; rfl
    · rw [word_eq k]; exact cDpre_head1 _ _ _ _ _
  isplitl [HW_arg16]
  · iexists _
    isplitl [HW_arg16]; · iexact HW_arg16
    ipureintro
    sl_unfold_run_names
    refine carry_step (arg1.view.read (Elt F) X1) (arg12.view.read (Elt F) X12) (arg13.view.read (Elt F) X13) (arg5.view.read (Elt F) X5) (arg6.view.read (Elt F) X6) arg16.view f16 k.val hk _ _ _ _ ?_ ?_
    · skip; rfl
    · skip; exact cNext_head1 _ _ _
  · iexists _
    isplitl [HW_arg18]; · iexact HW_arg18
    ipureintro
    sl_unfold_run_names
    refine dgsum_step (arg1.view.read (Elt F) X1) (arg12.view.read (Elt F) X12) (arg13.view.read (Elt F) X13) (arg5.view.read (Elt F) X5) (arg6.view.read (Elt F) X6) arg18.view f18 k.val _ _ _ _ ?_ ?_
    · skip; rfl
    · skip; exact cDg_head1 _ _ _

set_option warn.classDefReducibility false in
/-- The forward loop by its invariant: the slabs of the chunks gone through, and the states carried. -/
@[sl_loop] def loopInv1 (𝒱 : Variants) (c : Dev nD) (bd : Option 𝒱.V) (E : Set ℕ) (i : grid0.Coords) (arg1 : Mr S2048x1536 .bf16) (harg1 : arg1.IsWhole) (arg2 : Mr S2048x128 .bf16) (harg2 : arg2.IsWhole) (arg3 : Mr S128x256 .bf16) (harg3 : arg3.IsWhole) (arg4 : Mr S1x256 .f32) (harg4 : arg4.IsWhole) (arg5 : Mr S1x512 .f32) (harg5 : arg5.IsWhole) (arg6 : Mr S2048x512 .bf16) (harg6 : arg6.IsWhole) (arg7 : Mr S2048x1536 .bf16) (harg7 : arg7.IsWhole) (arg8 : Mr S2048x128 .bf16) (harg8 : arg8.IsWhole) (arg9 : Mr S128x256 .f32) (harg9 : arg9.IsWhole) (arg10 : Mr S1x256 .f32) (harg10 : arg10.IsWhole) (arg11 : Mr S1x512 .f32) (harg11 : arg11.IsWhole) (arg12 : Mr S2048x256 .f32) (harg12 : arg12.IsWhole) (arg13 : Mr S2048x256 .f32) (harg13 : arg13.IsWhole) (arg14 : Mr S2x32x256x128 .f32) (harg14 : arg14.IsWhole) (arg15 : Mr S2048x256 .f32) (harg15 : arg15.IsWhole) (arg16 : Mr S2x256x128 .f32) (harg16 : arg16.IsWhole) (arg17 : Mr S2048x128 .f32) (harg17 : arg17.IsWhole) (arg18 : Mr S1x512 .f32) (harg18 : arg18.IsWhole) (v37 : FVec F S2048x256 .f32) (X1 : BufTy.Contents (Elt F) arg1.view.ty) (X12 : BufTy.Contents (Elt F) arg12.view.ty) :
    Idealize.ShloMosaic.LoopInv (M := 𝕄G) Idealize.ShloMosaic.frame (wpE (defs₀ (F := F)) 𝒱 (c : Thread nD τ) bd) E
      k0_t1_loop.lb k0_t1_loop.ub k0_t1_loop.st k0_t1_ok (k0_pay82 (F := F), k0_pay83 (F := F)) (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v37) where
  inv k acc := iprop((arg1.view.loc (c : Thread nD τ) ↦[arg1.view.set]{fullShare} X1) ∗ (arg12.view.loc (c : Thread nD τ) ↦[arg12.view.set]{fullShare} X12) ∗ (∃ f, (arg14.view.loc (c : Thread nD τ) ↦[arg14.view.set]{fullShare} f) ∗ ⌜∀ j, (j 1).val < k → arg14.view.read (Elt F) f j = slabs (arg1.view.read (Elt F) X1) (arg12.view.read (Elt F) X12) j⌝)
            ∗ ⌜acc = (state (arg1.view.read (Elt F) X1) (arg12.view.read (Elt F) X12) 0 k, state (arg1.view.read (Elt F) X1) (arg12.view.read (Elt F) X12) 1 k)⌝)
  step k acc := by
    iintro ⟨HR_arg1, HR_arg12, ⟨%f_arg14, HW_arg14, %h_arg14⟩, %h_acc⟩
    subst h_acc
    iapply (trip1 (F := F) 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v37 X1 X12 f_arg14 k h_arg14)
    isplitl [HR_arg1]; · iexact HR_arg1
    isplitl [HR_arg12]; · iexact HR_arg12
    iexact HW_arg14

set_option warn.classDefReducibility false in
/-- The backward loop by its invariant: the bands of the chunks gone through, last chunk first. -/
def loopInv2 (𝒱 : Variants) (c : Dev nD) (bd : Option 𝒱.V) (E : Set ℕ) (i : grid0.Coords) (arg1 : Mr S2048x1536 .bf16) (harg1 : arg1.IsWhole) (arg2 : Mr S2048x128 .bf16) (harg2 : arg2.IsWhole) (arg3 : Mr S128x256 .bf16) (harg3 : arg3.IsWhole) (arg4 : Mr S1x256 .f32) (harg4 : arg4.IsWhole) (arg5 : Mr S1x512 .f32) (harg5 : arg5.IsWhole) (arg6 : Mr S2048x512 .bf16) (harg6 : arg6.IsWhole) (arg7 : Mr S2048x1536 .bf16) (harg7 : arg7.IsWhole) (arg8 : Mr S2048x128 .bf16) (harg8 : arg8.IsWhole) (arg9 : Mr S128x256 .f32) (harg9 : arg9.IsWhole) (arg10 : Mr S1x256 .f32) (harg10 : arg10.IsWhole) (arg11 : Mr S1x512 .f32) (harg11 : arg11.IsWhole) (arg12 : Mr S2048x256 .f32) (harg12 : arg12.IsWhole) (arg13 : Mr S2048x256 .f32) (harg13 : arg13.IsWhole) (arg14 : Mr S2x32x256x128 .f32) (harg14 : arg14.IsWhole) (arg15 : Mr S2048x256 .f32) (harg15 : arg15.IsWhole) (arg16 : Mr S2x256x128 .f32) (harg16 : arg16.IsWhole) (arg17 : Mr S2048x128 .f32) (harg17 : arg17.IsWhole) (arg18 : Mr S1x512 .f32) (harg18 : arg18.IsWhole) (v37 : FVec F S2048x256 .f32)
    (X1 : BufTy.Contents (Elt F) arg1.view.ty) (X5 : BufTy.Contents (Elt F) arg5.view.ty) (X6 : BufTy.Contents (Elt F) arg6.view.ty) (X12 : BufTy.Contents (Elt F) arg12.view.ty) (X13 : BufTy.Contents (Elt F) arg13.view.ty) (X14 : BufTy.Contents (Elt F) arg14.view.ty) :
    Idealize.ShloMosaic.LoopInv (M := 𝕄G) Idealize.ShloMosaic.frame (wpE (defs₀ (F := F)) 𝒱 (c : Thread nD τ) bd) E
      k0_t2_loop.lb k0_t2_loop.ub k0_t2_loop.st k0_t2_ok () (k0_t2_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v37) where
  inv k _ := iprop((arg1.view.loc (c : Thread nD τ) ↦[arg1.view.set]{fullShare} X1) ∗ (arg5.view.loc (c : Thread nD τ) ↦[arg5.view.set]{fullShare} X5) ∗ (arg6.view.loc (c : Thread nD τ) ↦[arg6.view.set]{fullShare} X6) ∗ (arg12.view.loc (c : Thread nD τ) ↦[arg12.view.set]{fullShare} X12) ∗ (arg13.view.loc (c : Thread nD τ) ↦[arg13.view.set]{fullShare} X13) ∗ ((arg14.view.loc (c : Thread nD τ) ↦[arg14.view.set]{fullShare} X14) ∗ ⌜∀ j, (j 1).val < k0_t1_loop.trips → arg14.view.read (Elt F) X14 j = slabs (arg1.view.read (Elt F) X1) (arg12.view.read (Elt F) X12) j⌝) ∗ (∃ f, (arg7.view.loc (c : Thread nD τ) ↦[arg7.view.set]{fullShare} f) ∗ ⌜∀ j, 64 * (32 - k) ≤ (j 0).val → arg7.view.read (Elt F) f j = dz (arg1.view.read (Elt F) X1) (arg12.view.read (Elt F) X12) (arg13.view.read (Elt F) X13) (arg5.view.read (Elt F) X5) (arg6.view.read (Elt F) X6) j⌝) ∗ (∃ f, (arg15.view.loc (c : Thread nD τ) ↦[arg15.view.set]{fullShare} f) ∗ ⌜∀ j, 64 * (32 - k) ≤ (j 0).val → arg15.view.read (Elt F) f j = dpre (arg1.view.read (Elt F) X1) (arg12.view.read (Elt F) X12) (arg13.view.read (Elt F) X13) (arg5.view.read (Elt F) X5) (arg6.view.read (Elt F) X6) j⌝) ∗ (∃ f, (arg16.view.loc (c : Thread nD τ) ↦[arg16.view.set]{fullShare} f) ∗ ⌜∀ j, arg16.view.read (Elt F) f j = carry (arg1.view.read (Elt F) X1) (arg12.view.read (Elt F) X12) (arg13.view.read (Elt F) X13) (arg5.view.read (Elt F) X5) (arg6.view.read (Elt F) X6) k j⌝) ∗ (∃ f, (arg18.view.loc (c : Thread nD τ) ↦[arg18.view.set]{fullShare} f) ∗ ⌜∀ j, arg18.view.read (Elt F) f j = dgsum (arg1.view.read (Elt F) X1) (arg12.view.read (Elt F) X12) (arg13.view.read (Elt F) X13) (arg5.view.read (Elt F) X5) (arg6.view.read (Elt F) X6) k j⌝))
  step k _ := by
    iintro ⟨HR_arg1, HR_arg5, HR_arg6, HR_arg12, HR_arg13, ⟨HR_arg14, %h_arg14⟩, ⟨%f_arg7, HW_arg7, %h_arg7⟩, ⟨%f_arg15, HW_arg15, %h_arg15⟩, ⟨%f_arg16, HW_arg16, %h_arg16⟩, ⟨%f_arg18, HW_arg18, %h_arg18⟩⟩
    iapply (wp_wand_r Idealize.ShloMosaic.frame (wpE (defs₀ (F := F)) 𝒱 (c : Thread nD τ) bd) E)
    isplitl [HR_arg1 HR_arg5 HR_arg6 HR_arg12 HR_arg13 HR_arg14 HW_arg7 HW_arg15 HW_arg16 HW_arg18]
    · iapply (trip2 (F := F) 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v37 X1 X5 X6 X12 X13 X14 k f_arg7 f_arg15 f_arg16 f_arg18 (fun j => h_arg14 j (lt_of_lt_of_eq (j 1).isLt trips1.symm)) h_arg7 h_arg15 h_arg16 h_arg18)
      isplitl [HR_arg1]; · iexact HR_arg1
      isplitl [HR_arg5]; · iexact HR_arg5
      isplitl [HR_arg6]; · iexact HR_arg6
      isplitl [HR_arg12]; · iexact HR_arg12
      isplitl [HR_arg13]; · iexact HR_arg13
      isplitl [HR_arg14]; · iexact HR_arg14
      isplitl [HW_arg7]; · iexact HW_arg7
      isplitl [HW_arg15]; · iexact HW_arg15
      isplitl [HW_arg16]; · iexact HW_arg16
      iexact HW_arg18
    · iintro %yld ⟨HR_arg1, HR_arg5, HR_arg6, HR_arg12, HR_arg13, HR_arg14, HW_arg7, HW_arg15, HW_arg16, HW_arg18⟩
      isplitl [HR_arg1]; · iexact HR_arg1
      isplitl [HR_arg5]; · iexact HR_arg5
      isplitl [HR_arg6]; · iexact HR_arg6
      isplitl [HR_arg12]; · iexact HR_arg12
      isplitl [HR_arg13]; · iexact HR_arg13
      isplitl [HR_arg14]
      · isplitl [HR_arg14]; · iexact HR_arg14
        ipureintro; exact h_arg14
      isplitl [HW_arg7]; · iexact HW_arg7
      isplitl [HW_arg15]; · iexact HW_arg15
      isplitl [HW_arg16]; · iexact HW_arg16
      iexact HW_arg18

end Cert.KernelIdeal.Hand

end
-- ==== Proof.Body.lean ====
module

public import proofs.«01_k».proof.Proof.Gen.KernelIdeal.Frame
public import proofs.«01_k».proof.Proof.Gen.KernelIdeal.Skeleton
public import Idealize.ShloMosaic.Lib.Exec
public import Idealize.ShloMosaic.Lib.Tactic
public import Idealize.ShloMosaic.Lib.VecWindow
public import Idealize.ShloMosaic.Lib.Writes
public import proofs.«01_k».proof.Proof.Loop

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄G" => MT nD τ sig Unit (Elt F) ℕ (UR sig nD τ) ℕ

/-- The backward loop as a step of a run: what it starts from, what it leaves. -/
theorem loop2_run (𝒱 : Variants) (c : Dev nD) (bd : Option 𝒱.V) (E : Set ℕ) (i : grid0.Coords) (arg1 : Mr S2048x1536 .bf16) (harg1 : arg1.IsWhole) (arg2 : Mr S2048x128 .bf16) (harg2 : arg2.IsWhole) (arg3 : Mr S128x256 .bf16) (harg3 : arg3.IsWhole) (arg4 : Mr S1x256 .f32) (harg4 : arg4.IsWhole) (arg5 : Mr S1x512 .f32) (harg5 : arg5.IsWhole) (arg6 : Mr S2048x512 .bf16) (harg6 : arg6.IsWhole) (arg7 : Mr S2048x1536 .bf16) (harg7 : arg7.IsWhole) (arg8 : Mr S2048x128 .bf16) (harg8 : arg8.IsWhole) (arg9 : Mr S128x256 .f32) (harg9 : arg9.IsWhole) (arg10 : Mr S1x256 .f32) (harg10 : arg10.IsWhole) (arg11 : Mr S1x512 .f32) (harg11 : arg11.IsWhole) (arg12 : Mr S2048x256 .f32) (harg12 : arg12.IsWhole) (arg13 : Mr S2048x256 .f32) (harg13 : arg13.IsWhole) (arg14 : Mr S2x32x256x128 .f32) (harg14 : arg14.IsWhole) (arg15 : Mr S2048x256 .f32) (harg15 : arg15.IsWhole) (arg16 : Mr S2x256x128 .f32) (harg16 : arg16.IsWhole) (arg17 : Mr S2048x128 .f32) (harg17 : arg17.IsWhole) (arg18 : Mr S1x512 .f32) (harg18 : arg18.IsWhole) (v37 : FVec F S2048x256 .f32)
    (X1 : BufTy.Contents (Elt F) arg1.view.ty) (X5 : BufTy.Contents (Elt F) arg5.view.ty) (X6 : BufTy.Contents (Elt F) arg6.view.ty) (X12 : BufTy.Contents (Elt F) arg12.view.ty) (X13 : BufTy.Contents (Elt F) arg13.view.ty) (X14 : BufTy.Contents (Elt F) arg14.view.ty) {β : Type} {kk : Unit → Prog (TpuEff nD τ sig (Elt F) Λ₀ .tc) β} {Q : β → sProp 𝕄G} :
    (iprop(((arg1.view.loc (c : Thread nD τ) ↦[arg1.view.set]{fullShare} X1) ∗ (arg5.view.loc (c : Thread nD τ) ↦[arg5.view.set]{fullShare} X5) ∗ (arg6.view.loc (c : Thread nD τ) ↦[arg6.view.set]{fullShare} X6) ∗ (arg12.view.loc (c : Thread nD τ) ↦[arg12.view.set]{fullShare} X12) ∗ (arg13.view.loc (c : Thread nD τ) ↦[arg13.view.set]{fullShare} X13) ∗ ((arg14.view.loc (c : Thread nD τ) ↦[arg14.view.set]{fullShare} X14) ∗ ⌜∀ j, (j 1).val < k0_t1_loop.trips → arg14.view.read (Elt F) X14 j = slabs (arg1.view.read (Elt F) X1) (arg12.view.read (Elt F) X12) j⌝) ∗ (∃ f, (arg7.view.loc (c : Thread nD τ) ↦[arg7.view.set]{fullShare} f) ∗ ⌜∀ j, 64 * (32 - 0) ≤ (j 0).val → arg7.view.read (Elt F) f j = dz (arg1.view.read (Elt F) X1) (arg12.view.read (Elt F) X12) (arg13.view.read (Elt F) X13) (arg5.view.read (Elt F) X5) (arg6.view.read (Elt F) X6) j⌝) ∗ (∃ f, (arg15.view.loc (c : Thread nD τ) ↦[arg15.view.set]{fullShare} f) ∗ ⌜∀ j, 64 * (32 - 0) ≤ (j 0).val → arg15.view.read (Elt F) f j = dpre (arg1.view.read (Elt F) X1) (arg12.view.read (Elt F) X12) (arg13.view.read (Elt F) X13) (arg5.view.read (Elt F) X5) (arg6.view.read (Elt F) X6) j⌝) ∗ (∃ f, (arg16.view.loc (c : Thread nD τ) ↦[arg16.view.set]{fullShare} f) ∗ ⌜∀ j, arg16.view.read (Elt F) f j = carry (arg1.view.read (Elt F) X1) (arg12.view.read (Elt F) X12) (arg13.view.read (Elt F) X13) (arg5.view.read (Elt F) X5) (arg6.view.read (Elt F) X6) 0 j⌝) ∗ (∃ f, (arg18.view.loc (c : Thread nD τ) ↦[arg18.view.set]{fullShare} f) ∗ ⌜∀ j, arg18.view.read (Elt F) f j = dgsum (arg1.view.read (Elt F) X1) (arg12.view.read (Elt F) X12) (arg13.view.read (Elt F) X13) (arg5.view.read (Elt F) X5) (arg6.view.read (Elt F) X6) 0 j⌝)) ∗ (∀ acc, ((arg1.view.loc (c : Thread nD τ) ↦[arg1.view.set]{fullShare} X1) ∗ (arg5.view.loc (c : Thread nD τ) ↦[arg5.view.set]{fullShare} X5) ∗ (arg6.view.loc (c : Thread nD τ) ↦[arg6.view.set]{fullShare} X6) ∗ (arg12.view.loc (c : Thread nD τ) ↦[arg12.view.set]{fullShare} X12) ∗ (arg13.view.loc (c : Thread nD τ) ↦[arg13.view.set]{fullShare} X13) ∗ ((arg14.view.loc (c : Thread nD τ) ↦[arg14.view.set]{fullShare} X14) ∗ ⌜∀ j, (j 1).val < k0_t1_loop.trips → arg14.view.read (Elt F) X14 j = slabs (arg1.view.read (Elt F) X1) (arg12.view.read (Elt F) X12) j⌝) ∗ (∃ f, (arg7.view.loc (c : Thread nD τ) ↦[arg7.view.set]{fullShare} f) ∗ ⌜∀ j, 64 * (32 - k0_t2_loop.trips) ≤ (j 0).val → arg7.view.read (Elt F) f j = dz (arg1.view.read (Elt F) X1) (arg12.view.read (Elt F) X12) (arg13.view.read (Elt F) X13) (arg5.view.read (Elt F) X5) (arg6.view.read (Elt F) X6) j⌝) ∗ (∃ f, (arg15.view.loc (c : Thread nD τ) ↦[arg15.view.set]{fullShare} f) ∗ ⌜∀ j, 64 * (32 - k0_t2_loop.trips) ≤ (j 0).val → arg15.view.read (Elt F) f j = dpre (arg1.view.read (Elt F) X1) (arg12.view.read (Elt F) X12) (arg13.view.read (Elt F) X13) (arg5.view.read (Elt F) X5) (arg6.view.read (Elt F) X6) j⌝) ∗ (∃ f, (arg16.view.loc (c : Thread nD τ) ↦[arg16.view.set]{fullShare} f) ∗ ⌜∀ j, arg16.view.read (Elt F) f j = carry (arg1.view.read (Elt F) X1) (arg12.view.read (Elt F) X12) (arg13.view.read (Elt F) X13) (arg5.view.read (Elt F) X5) (arg6.view.read (Elt F) X6) k0_t2_loop.trips j⌝) ∗ (∃ f, (arg18.view.loc (c : Thread nD τ) ↦[arg18.view.set]{fullShare} f) ∗ ⌜∀ j, arg18.view.read (Elt F) f j = dgsum (arg1.view.read (Elt F) X1) (arg12.view.read (Elt F) X12) (arg13.view.read (Elt F) X13) (arg5.view.read (Elt F) X5) (arg6.view.read (Elt F) X6) k0_t2_loop.trips j⌝)) -∗ wp Idealize.ShloMosaic.frame (wpE (defs₀ (F := F)) 𝒱 (c : Thread nD τ) bd) E (kk acc) Q)) : sProp 𝕄G)
      ⊢ wp Idealize.ShloMosaic.frame (wpE (defs₀ (F := F)) 𝒱 (c : Thread nD τ) bd) E
        (Scf.Loop.for k0_t2_loop k0_t2_ok () (k0_t2_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v37) >>= kk) Q := by
  have h := exec_loop Idealize.ShloMosaic.frame (wpE (defs₀ (F := F)) 𝒱 (c : Thread nD τ) bd) E _ _ _ k0_t2_ok () _ (loopInv2 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v37 X1 X5 X6 X12 X13 X14) (kk := kk) (Q := Q)
  exact BIClass.wand_elim h

attribute [local irreducible] dz dpre carry dgsum slabs

set_option maxHeartbeats 1000000 in
/-- The call of head pair 0, run: what it leaves in every result, in the words of `Spec`. -/
theorem point0 (𝒱 : Variants) (c : Dev nD) (bd : Option 𝒱.V) (E : Set ℕ) (i : grid0.Coords) (hi : (i 0).val = 0) (arg1 : Mr S2048x1536 .bf16) (harg1 : arg1.IsWhole) (arg2 : Mr S2048x128 .bf16) (harg2 : arg2.IsWhole) (arg3 : Mr S128x256 .bf16) (harg3 : arg3.IsWhole) (arg4 : Mr S1x256 .f32) (harg4 : arg4.IsWhole) (arg5 : Mr S1x512 .f32) (harg5 : arg5.IsWhole) (arg6 : Mr S2048x512 .bf16) (harg6 : arg6.IsWhole) (arg7 : Mr S2048x1536 .bf16) (harg7 : arg7.IsWhole) (arg8 : Mr S2048x128 .bf16) (harg8 : arg8.IsWhole) (arg9 : Mr S128x256 .f32) (harg9 : arg9.IsWhole) (arg10 : Mr S1x256 .f32) (harg10 : arg10.IsWhole) (arg11 : Mr S1x512 .f32) (harg11 : arg11.IsWhole) (arg12 : Mr S2048x256 .f32) (harg12 : arg12.IsWhole) (arg13 : Mr S2048x256 .f32) (harg13 : arg13.IsWhole) (arg14 : Mr S2x32x256x128 .f32) (harg14 : arg14.IsWhole) (arg15 : Mr S2048x256 .f32) (harg15 : arg15.IsWhole) (arg16 : Mr S2x256x128 .f32) (harg16 : arg16.IsWhole) (arg17 : Mr S2048x128 .f32) (harg17 : arg17.IsWhole) (arg18 : Mr S1x512 .f32) (harg18 : arg18.IsWhole)
    (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (X15 : BufTy.Contents (Elt F) arg15.view.ty) (X16 : BufTy.Contents (Elt F) arg16.view.ty) (X17 : BufTy.Contents (Elt F) arg17.view.ty) (X18 : BufTy.Contents (Elt F) arg18.view.ty) :
    (iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14) ∗ (arg15.view.loc (c : Thread nD τ) ↦[arg15.view.set]{fullShare} X15) ∗ (arg16.view.loc (c : Thread nD τ) ↦[arg16.view.set]{fullShare} X16) ∗ (arg17.view.loc (c : Thread nD τ) ↦[arg17.view.set]{fullShare} X17) ∗ (arg18.view.loc (c : Thread nD τ) ↦[arg18.view.set]{fullShare} X18)) : sProp 𝕄G)
    ⊢ wp Idealize.ShloMosaic.frame (wpE (defs₀ (F := F)) 𝒱 (c : Thread nD τ) bd) E
        (cc0_gla_bwd_skel (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18)
        fun _ => iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (∃ f, (arg7.view.loc (c : Thread nD τ) ↦[arg7.view.set]{fullShare} f) ∗ ⌜arg7.view.read (Elt F) f = dz (arg1.view.read (Elt F) X1) (k0_pay76 (arg2.view.read (Elt F) X2) (arg3.view.read (Elt F) X3) (arg4.view.read (Elt F) X4)) (k0_pay77 (arg2.view.read (Elt F) X2) (arg3.view.read (Elt F) X3) (arg4.view.read (Elt F) X4)) (arg5.view.read (Elt F) X5) (arg6.view.read (Elt F) X6)⌝) ∗ (arg8.view.loc (c : Thread nD τ) ↦[arg8.view.set]{fullShare} X8) ∗ (∃ f, (arg9.view.loc (c : Thread nD τ) ↦[arg9.view.set]{fullShare} f) ∗ ⌜arg9.view.read (Elt F) f = k0_pay2 (k0_pay92 (dpre (arg1.view.read (Elt F) X1) (k0_pay76 (arg2.view.read (Elt F) X2) (arg3.view.read (Elt F) X3) (arg4.view.read (Elt F) X4)) (k0_pay77 (arg2.view.read (Elt F) X2) (arg3.view.read (Elt F) X3) (arg4.view.read (Elt F) X4)) (arg5.view.read (Elt F) X5) (arg6.view.read (Elt F) X6))) (arg2.view.read (Elt F) X2)⌝) ∗ (∃ f, (arg10.view.loc (c : Thread nD τ) ↦[arg10.view.set]{fullShare} f) ∗ ⌜arg10.view.read (Elt F) f = k0_pay1 (dpre (arg1.view.read (Elt F) X1) (k0_pay76 (arg2.view.read (Elt F) X2) (arg3.view.read (Elt F) X3) (arg4.view.read (Elt F) X4)) (k0_pay77 (arg2.view.read (Elt F) X2) (arg3.view.read (Elt F) X3) (arg4.view.read (Elt F) X4)) (arg5.view.read (Elt F) X5) (arg6.view.read (Elt F) X6))⌝) ∗ (∃ f, (arg11.view.loc (c : Thread nD τ) ↦[arg11.view.set]{fullShare} f) ∗ ⌜arg11.view.read (Elt F) f = dgsum (arg1.view.read (Elt F) X1) (k0_pay76 (arg2.view.read (Elt F) X2) (arg3.view.read (Elt F) X3) (arg4.view.read (Elt F) X4)) (k0_pay77 (arg2.view.read (Elt F) X2) (arg3.view.read (Elt F) X3) (arg4.view.read (Elt F) X4)) (arg5.view.read (Elt F) X5) (arg6.view.read (Elt F) X6) 32⌝) ∗ (∃ f, (arg12.view.loc (c : Thread nD τ) ↦[arg12.view.set]{fullShare} f)) ∗ (∃ f, (arg13.view.loc (c : Thread nD τ) ↦[arg13.view.set]{fullShare} f)) ∗ (∃ f, (arg14.view.loc (c : Thread nD τ) ↦[arg14.view.set]{fullShare} f)) ∗ (∃ f, (arg15.view.loc (c : Thread nD τ) ↦[arg15.view.set]{fullShare} f)) ∗ (∃ f, (arg16.view.loc (c : Thread nD τ) ↦[arg16.view.set]{fullShare} f)) ∗ (∃ f, (arg17.view.loc (c : Thread nD τ) ↦[arg17.view.set]{fullShare} f) ∗ ⌜arg17.view.read (Elt F) f = k0_pay4 (k0_pay92 (dpre (arg1.view.read (Elt F) X1) (k0_pay76 (arg2.view.read (Elt F) X2) (arg3.view.read (Elt F) X3) (arg4.view.read (Elt F) X4)) (k0_pay77 (arg2.view.read (Elt F) X2) (arg3.view.read (Elt F) X3) (arg4.view.read (Elt F) X4)) (arg5.view.read (Elt F) X5) (arg6.view.read (Elt F) X6))) (arg3.view.read (Elt F) X3)⌝) ∗ (∃ f, (arg18.view.loc (c : Thread nD τ) ↦[arg18.view.set]{fullShare} f))) := by
  have hc : k0_cond3 i ≠ 1#1 := by unfold k0_cond3; rw [hi]; decide
  have r2 : View.readAt (Elt F) arg2.view (Rect.unit (s := S2048x128) ![0, 0] S2048x128.size inb_S2048x128_S2048x128_0_0).toLoadRect X2 = (arg2.view.read (Elt F) X2) := View.readAt_full _ _ _
  have r3 : View.readAt (Elt F) arg3.view (Rect.unit (s := S128x256) ![0, 0] S128x256.size inb_S128x256_S128x256_0_0).toLoadRect X3 = (arg3.view.read (Elt F) X3) := View.readAt_full _ _ _
  have r4 : View.readAt (Elt F) arg4.view (Rect.unit (s := S1x256) ![0, 0] S1x256.size inb_S1x256_S1x256_0_0).toLoadRect X4 = (arg4.view.read (Elt F) X4) := View.readAt_full _ _ _
  have c81 : (Scalar.cmpi .ne (Scalar.extui (Scalar.cmpi .eq (BitVec.ofNat 32 (i 0).val) 0#32) : BitVec 32) 0#32) = 1#1 := by rw [hi]; decide
  have c84 : (Scalar.cmpi .ne (Scalar.extui (Scalar.cmpi .sgt (BitVec.ofNat 32 (i 0).val) 0#32) : BitVec 32) 0#32) ≠ 1#1 := by rw [hi]; decide
  iintro ⟨H1, H2, H3, H4, H5, H6, H7, H8, H9, H10, H11, H12, H13, H14, H15, H16, H17, H18⟩
  unfold cc0_gla_bwd_skel
  sl_exec
  have e12 : arg12.view.read (Elt F) (arg12.view.writes (Elt F) arg12.view.junk (point0.sl.H12_1 arg2 arg3 arg4 X2 X3 X4)) = (k0_pay76 (arg2.view.read (Elt F) X2) (arg3.view.read (Elt F) X3) (arg4.view.read (Elt F) X4)) := by
    unfold point0.sl.H12_1; exact View.read_writes_full _ _ _ _ _
  have e13 : arg13.view.read (Elt F) (arg13.view.writes (Elt F) arg13.view.junk (point0.sl.H13_1 arg2 arg3 arg4 X2 X3 X4)) = (k0_pay77 (arg2.view.read (Elt F) X2) (arg3.view.read (Elt F) X3) (arg4.view.read (Elt F) X4)) := by
    unfold point0.sl.H13_1; exact View.read_writes_full _ _ _ _ _
  have e16 : arg16.view.read (Elt F) (arg16.view.writes (Elt F) arg16.view.junk (point0.sl.H16_1 (F := F))) = k0_pay78 := by
    unfold point0.sl.H16_1; exact View.read_writes_full _ _ _ _ _
  have e18 : arg18.view.read (Elt F) (arg18.view.writes (Elt F) arg18.view.junk (point0.sl.H18_1 (F := F))) = k0_pay79 := by
    unfold point0.sl.H18_1; exact View.read_writes_full _ _ _ _ _
  generalize arg12.view.writes (Elt F) arg12.view.junk (point0.sl.H12_1 arg2 arg3 arg4 X2 X3 X4) = Y12 at e12 hL3 ⊢
  generalize arg13.view.writes (Elt F) arg13.view.junk (point0.sl.H13_1 arg2 arg3 arg4 X2 X3 X4) = Y13 at e13 ⊢
  generalize arg16.view.writes (Elt F) arg16.view.junk (point0.sl.H16_1 (F := F)) = Y16 at e16 ⊢
  generalize arg18.view.writes (Elt F) arg18.view.junk (point0.sl.H18_1 (F := F)) = Y18 at e18 ⊢
  iapply (loop2_run (F := F) 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 _ X1 X5 X6 Y12 Y13 fL0)
  isplitl [H1 H5 H6 H12 H13 H14 H7 H15 H16 H18]
  · isplitl [H1]; · iexact H1
    isplitl [H5]; · iexact H5
    isplitl [H6]; · iexact H6
    isplitl [H12]; · iexact H12
    isplitl [H13]; · iexact H13
    isplitl [H14]
    · isplitl [H14]; · iexact H14
      ipureintro; exact hL3
    isplitl [H7]
    · iexists X7; isplitl [H7]; · iexact H7
      ipureintro; exact fun j hj => absurd (j 0).isLt (not_lt.mpr hj)
    isplitl [H15]
    · iexists X15; isplitl [H15]; · iexact H15
      ipureintro; exact fun j hj => absurd (j 0).isLt (not_lt.mpr hj)
    isplitl [H16]
    · iexists Y16; isplitl [H16]; · iexact H16
      ipureintro; intro j; rw [e16]; unfold carry; rfl
    · iexists Y18; isplitl [H18]; · iexact H18
      ipureintro; intro j; rw [e18]; unfold dgsum; rfl
  iintro %acc ⟨H1, H5, H6, H12, H13, ⟨H14, %g14⟩, ⟨%Z7, H7, %z7⟩, ⟨%Z15, H15, %z15⟩, ⟨%Z16, H16, %z16⟩, ⟨%Z18, H18, %z18⟩⟩
  rw [trips2] at z7 z15 z16 z18
  rw [e12, e13] at z7 z15 z18
  have q7 : arg7.view.read (Elt F) Z7 = dz (arg1.view.read (Elt F) X1) (k0_pay76 (arg2.view.read (Elt F) X2) (arg3.view.read (Elt F) X3) (arg4.view.read (Elt F) X4)) (k0_pay77 (arg2.view.read (Elt F) X2) (arg3.view.read (Elt F) X3) (arg4.view.read (Elt F) X4)) (arg5.view.read (Elt F) X5) (arg6.view.read (Elt F) X6) := funext fun j => z7 j (Nat.zero_le _)
  have q15 : View.readAt (Elt F) arg15.view (Rect.unit (s := S2048x256) ![0, 0] S2048x256.size inb_S2048x256_S2048x256_0_0).toLoadRect Z15 = dpre (arg1.view.read (Elt F) X1) (k0_pay76 (arg2.view.read (Elt F) X2) (arg3.view.read (Elt F) X3) (arg4.view.read (Elt F) X4)) (k0_pay77 (arg2.view.read (Elt F) X2) (arg3.view.read (Elt F) X3) (arg4.view.read (Elt F) X4)) (arg5.view.read (Elt F) X5) (arg6.view.read (Elt F) X6) :=
    (View.readAt_full _ _ _).trans (funext fun j => z15 j (Nat.zero_le _))
  have q18 : View.readAt (Elt F) arg18.view (Rect.unit (s := S1x512) ![0, 0] S1x512.size inb_S1x512_S1x512_0_0).toLoadRect Z18 = dgsum (arg1.view.read (Elt F) X1) (k0_pay76 (arg2.view.read (Elt F) X2) (arg3.view.read (Elt F) X3) (arg4.view.read (Elt F) X4)) (k0_pay77 (arg2.view.read (Elt F) X2) (arg3.view.read (Elt F) X3) (arg4.view.read (Elt F) X4)) (arg5.view.read (Elt F) X5) (arg6.view.read (Elt F) X6) 32 :=
    (View.readAt_full _ _ _).trans (funext z18)
  have q17 : View.readAt (Elt F) arg17.view (Rect.unit (s := S2048x128) ![0, 0] S2048x128.size inb_S2048x128_S2048x128_0_0).toLoadRect X17 = (arg17.view.read (Elt F) X17) := View.readAt_full _ _ _
  clear z7 z15 z16 z18
  sl_exec
  sl_step
  isplitl [H1]; · iexact H1
  isplitl [H2]; · iexact H2
  isplitl [H3]; · iexact H3
  isplitl [H4]; · iexact H4
  isplitl [H5]; · iexact H5
  isplitl [H6]; · iexact H6
  isplitl [H7]
  · iexists _; isplitl [H7]; · iexact H7
    ipureintro
    exact q7
  isplitl [H8]; · iexact H8
  isplitl [H9]
  · iexists _; isplitl [H9]; · iexact H9
    ipureintro
    try sl_unfold_run_names
    exact View.read_writes_full _ _ _ _ _
  isplitl [H10]
  · iexists _; isplitl [H10]; · iexact H10
    ipureintro
    try sl_unfold_run_names
    exact View.read_writes_full _ _ _ _ _
  isplitl [H11]
  · iexists _; isplitl [H11]; · iexact H11
    ipureintro
    try sl_unfold_run_names
    exact View.read_writes_full _ _ _ _ _
  isplitl [H12]
  · iexists _; iexact H12
  isplitl [H13]
  · iexists _; iexact H13
  isplitl [H14]
  · iexists _; iexact H14
  isplitl [H15]
  · iexists _; iexact H15
  isplitl [H16]
  · iexists _; iexact H16
  isplitl [H17]
  · iexists _; isplitl [H17]; · iexact H17
    ipureintro
    try sl_unfold_run_names
    exact View.read_writes_full _ _ _ _ _
  · iexists _; iexact H18

set_option maxHeartbeats 1000000 in
/-- The call of head pair 1, run: what it leaves in every result, in the words of `Spec`. -/
theorem point1 (𝒱 : Variants) (c : Dev nD) (bd : Option 𝒱.V) (E : Set ℕ) (i : grid0.Coords) (hi : (i 0).val = 1) (arg1 : Mr S2048x1536 .bf16) (harg1 : arg1.IsWhole) (arg2 : Mr S2048x128 .bf16) (harg2 : arg2.IsWhole) (arg3 : Mr S128x256 .bf16) (harg3 : arg3.IsWhole) (arg4 : Mr S1x256 .f32) (harg4 : arg4.IsWhole) (arg5 : Mr S1x512 .f32) (harg5 : arg5.IsWhole) (arg6 : Mr S2048x512 .bf16) (harg6 : arg6.IsWhole) (arg7 : Mr S2048x1536 .bf16) (harg7 : arg7.IsWhole) (arg8 : Mr S2048x128 .bf16) (harg8 : arg8.IsWhole) (arg9 : Mr S128x256 .f32) (harg9 : arg9.IsWhole) (arg10 : Mr S1x256 .f32) (harg10 : arg10.IsWhole) (arg11 : Mr S1x512 .f32) (harg11 : arg11.IsWhole) (arg12 : Mr S2048x256 .f32) (harg12 : arg12.IsWhole) (arg13 : Mr S2048x256 .f32) (harg13 : arg13.IsWhole) (arg14 : Mr S2x32x256x128 .f32) (harg14 : arg14.IsWhole) (arg15 : Mr S2048x256 .f32) (harg15 : arg15.IsWhole) (arg16 : Mr S2x256x128 .f32) (harg16 : arg16.IsWhole) (arg17 : Mr S2048x128 .f32) (harg17 : arg17.IsWhole) (arg18 : Mr S1x512 .f32) (harg18 : arg18.IsWhole)
    (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (X15 : BufTy.Contents (Elt F) arg15.view.ty) (X16 : BufTy.Contents (Elt F) arg16.view.ty) (X17 : BufTy.Contents (Elt F) arg17.view.ty) (X18 : BufTy.Contents (Elt F) arg18.view.ty) :
    (iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14) ∗ (arg15.view.loc (c : Thread nD τ) ↦[arg15.view.set]{fullShare} X15) ∗ (arg16.view.loc (c : Thread nD τ) ↦[arg16.view.set]{fullShare} X16) ∗ (arg17.view.loc (c : Thread nD τ) ↦[arg17.view.set]{fullShare} X17) ∗ (arg18.view.loc (c : Thread nD τ) ↦[arg18.view.set]{fullShare} X18)) : sProp 𝕄G)
    ⊢ wp Idealize.ShloMosaic.frame (wpE (defs₀ (F := F)) 𝒱 (c : Thread nD τ) bd) E
        (cc0_gla_bwd_skel (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18)
        fun _ => iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (∃ f, (arg7.view.loc (c : Thread nD τ) ↦[arg7.view.set]{fullShare} f) ∗ ⌜arg7.view.read (Elt F) f = dz (arg1.view.read (Elt F) X1) (k0_pay76 (arg2.view.read (Elt F) X2) (arg3.view.read (Elt F) X3) (arg4.view.read (Elt F) X4)) (k0_pay77 (arg2.view.read (Elt F) X2) (arg3.view.read (Elt F) X3) (arg4.view.read (Elt F) X4)) (arg5.view.read (Elt F) X5) (arg6.view.read (Elt F) X6)⌝) ∗ (∃ f, (arg8.view.loc (c : Thread nD τ) ↦[arg8.view.set]{fullShare} f) ∗ ⌜arg8.view.read (Elt F) f = k0_pay6 (k0_pay5 (k0_pay92 (dpre (arg1.view.read (Elt F) X1) (k0_pay76 (arg2.view.read (Elt F) X2) (arg3.view.read (Elt F) X3) (arg4.view.read (Elt F) X4)) (k0_pay77 (arg2.view.read (Elt F) X2) (arg3.view.read (Elt F) X3) (arg4.view.read (Elt F) X4)) (arg5.view.read (Elt F) X5) (arg6.view.read (Elt F) X6))) (arg3.view.read (Elt F) X3) (arg17.view.read (Elt F) X17))⌝) ∗ (∃ f, (arg9.view.loc (c : Thread nD τ) ↦[arg9.view.set]{fullShare} f) ∗ ⌜arg9.view.read (Elt F) f = k0_pay2 (k0_pay92 (dpre (arg1.view.read (Elt F) X1) (k0_pay76 (arg2.view.read (Elt F) X2) (arg3.view.read (Elt F) X3) (arg4.view.read (Elt F) X4)) (k0_pay77 (arg2.view.read (Elt F) X2) (arg3.view.read (Elt F) X3) (arg4.view.read (Elt F) X4)) (arg5.view.read (Elt F) X5) (arg6.view.read (Elt F) X6))) (arg2.view.read (Elt F) X2)⌝) ∗ (∃ f, (arg10.view.loc (c : Thread nD τ) ↦[arg10.view.set]{fullShare} f) ∗ ⌜arg10.view.read (Elt F) f = k0_pay1 (dpre (arg1.view.read (Elt F) X1) (k0_pay76 (arg2.view.read (Elt F) X2) (arg3.view.read (Elt F) X3) (arg4.view.read (Elt F) X4)) (k0_pay77 (arg2.view.read (Elt F) X2) (arg3.view.read (Elt F) X3) (arg4.view.read (Elt F) X4)) (arg5.view.read (Elt F) X5) (arg6.view.read (Elt F) X6))⌝) ∗ (∃ f, (arg11.view.loc (c : Thread nD τ) ↦[arg11.view.set]{fullShare} f) ∗ ⌜arg11.view.read (Elt F) f = dgsum (arg1.view.read (Elt F) X1) (k0_pay76 (arg2.view.read (Elt F) X2) (arg3.view.read (Elt F) X3) (arg4.view.read (Elt F) X4)) (k0_pay77 (arg2.view.read (Elt F) X2) (arg3.view.read (Elt F) X3) (arg4.view.read (Elt F) X4)) (arg5.view.read (Elt F) X5) (arg6.view.read (Elt F) X6) 32⌝) ∗ (∃ f, (arg12.view.loc (c : Thread nD τ) ↦[arg12.view.set]{fullShare} f)) ∗ (∃ f, (arg13.view.loc (c : Thread nD τ) ↦[arg13.view.set]{fullShare} f)) ∗ (∃ f, (arg14.view.loc (c : Thread nD τ) ↦[arg14.view.set]{fullShare} f)) ∗ (∃ f, (arg15.view.loc (c : Thread nD τ) ↦[arg15.view.set]{fullShare} f)) ∗ (∃ f, (arg16.view.loc (c : Thread nD τ) ↦[arg16.view.set]{fullShare} f)) ∗ (∃ f, (arg17.view.loc (c : Thread nD τ) ↦[arg17.view.set]{fullShare} f) ∗ ⌜arg17.view.read (Elt F) f = k0_pay5 (k0_pay92 (dpre (arg1.view.read (Elt F) X1) (k0_pay76 (arg2.view.read (Elt F) X2) (arg3.view.read (Elt F) X3) (arg4.view.read (Elt F) X4)) (k0_pay77 (arg2.view.read (Elt F) X2) (arg3.view.read (Elt F) X3) (arg4.view.read (Elt F) X4)) (arg5.view.read (Elt F) X5) (arg6.view.read (Elt F) X6))) (arg3.view.read (Elt F) X3) (arg17.view.read (Elt F) X17)⌝) ∗ (∃ f, (arg18.view.loc (c : Thread nD τ) ↦[arg18.view.set]{fullShare} f))) := by
  have hc : k0_cond3 i = 1#1 := by unfold k0_cond3; rw [hi]; decide
  have r2 : View.readAt (Elt F) arg2.view (Rect.unit (s := S2048x128) ![0, 0] S2048x128.size inb_S2048x128_S2048x128_0_0).toLoadRect X2 = (arg2.view.read (Elt F) X2) := View.readAt_full _ _ _
  have r3 : View.readAt (Elt F) arg3.view (Rect.unit (s := S128x256) ![0, 0] S128x256.size inb_S128x256_S128x256_0_0).toLoadRect X3 = (arg3.view.read (Elt F) X3) := View.readAt_full _ _ _
  have r4 : View.readAt (Elt F) arg4.view (Rect.unit (s := S1x256) ![0, 0] S1x256.size inb_S1x256_S1x256_0_0).toLoadRect X4 = (arg4.view.read (Elt F) X4) := View.readAt_full _ _ _
  have c81 : (Scalar.cmpi .ne (Scalar.extui (Scalar.cmpi .eq (BitVec.ofNat 32 (i 0).val) 0#32) : BitVec 32) 0#32) ≠ 1#1 := by rw [hi]; decide
  have c84 : (Scalar.cmpi .ne (Scalar.extui (Scalar.cmpi .sgt (BitVec.ofNat 32 (i 0).val) 0#32) : BitVec 32) 0#32) = 1#1 := by rw [hi]; decide
  iintro ⟨H1, H2, H3, H4, H5, H6, H7, H8, H9, H10, H11, H12, H13, H14, H15, H16, H17, H18⟩
  unfold cc0_gla_bwd_skel
  sl_exec
  have e12 : arg12.view.read (Elt F) (arg12.view.writes (Elt F) arg12.view.junk (point1.sl.H12_1 arg2 arg3 arg4 X2 X3 X4)) = (k0_pay76 (arg2.view.read (Elt F) X2) (arg3.view.read (Elt F) X3) (arg4.view.read (Elt F) X4)) := by
    unfold point1.sl.H12_1; exact View.read_writes_full _ _ _ _ _
  have e13 : arg13.view.read (Elt F) (arg13.view.writes (Elt F) arg13.view.junk (point1.sl.H13_1 arg2 arg3 arg4 X2 X3 X4)) = (k0_pay77 (arg2.view.read (Elt F) X2) (arg3.view.read (Elt F) X3) (arg4.view.read (Elt F) X4)) := by
    unfold point1.sl.H13_1; exact View.read_writes_full _ _ _ _ _
  have e16 : arg16.view.read (Elt F) (arg16.view.writes (Elt F) arg16.view.junk (point1.sl.H16_1 (F := F))) = k0_pay78 := by
    unfold point1.sl.H16_1; exact View.read_writes_full _ _ _ _ _
  have e18 : arg18.view.read (Elt F) (arg18.view.writes (Elt F) arg18.view.junk (point1.sl.H18_1 (F := F))) = k0_pay79 := by
    unfold point1.sl.H18_1; exact View.read_writes_full _ _ _ _ _
  generalize arg12.view.writes (Elt F) arg12.view.junk (point1.sl.H12_1 arg2 arg3 arg4 X2 X3 X4) = Y12 at e12 hL3 ⊢
  generalize arg13.view.writes (Elt F) arg13.view.junk (point1.sl.H13_1 arg2 arg3 arg4 X2 X3 X4) = Y13 at e13 ⊢
  generalize arg16.view.writes (Elt F) arg16.view.junk (point1.sl.H16_1 (F := F)) = Y16 at e16 ⊢
  generalize arg18.view.writes (Elt F) arg18.view.junk (point1.sl.H18_1 (F := F)) = Y18 at e18 ⊢
  iapply (loop2_run (F := F) 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 _ X1 X5 X6 Y12 Y13 fL0)
  isplitl [H1 H5 H6 H12 H13 H14 H7 H15 H16 H18]
  · isplitl [H1]; · iexact H1
    isplitl [H5]; · iexact H5
    isplitl [H6]; · iexact H6
    isplitl [H12]; · iexact H12
    isplitl [H13]; · iexact H13
    isplitl [H14]
    · isplitl [H14]; · iexact H14
      ipureintro; exact hL3
    isplitl [H7]
    · iexists X7; isplitl [H7]; · iexact H7
      ipureintro; exact fun j hj => absurd (j 0).isLt (not_lt.mpr hj)
    isplitl [H15]
    · iexists X15; isplitl [H15]; · iexact H15
      ipureintro; exact fun j hj => absurd (j 0).isLt (not_lt.mpr hj)
    isplitl [H16]
    · iexists Y16; isplitl [H16]; · iexact H16
      ipureintro; intro j; rw [e16]; unfold carry; rfl
    · iexists Y18; isplitl [H18]; · iexact H18
      ipureintro; intro j; rw [e18]; unfold dgsum; rfl
  iintro %acc ⟨H1, H5, H6, H12, H13, ⟨H14, %g14⟩, ⟨%Z7, H7, %z7⟩, ⟨%Z15, H15, %z15⟩, ⟨%Z16, H16, %z16⟩, ⟨%Z18, H18, %z18⟩⟩
  rw [trips2] at z7 z15 z16 z18
  rw [e12, e13] at z7 z15 z18
  have q7 : arg7.view.read (Elt F) Z7 = dz (arg1.view.read (Elt F) X1) (k0_pay76 (arg2.view.read (Elt F) X2) (arg3.view.read (Elt F) X3) (arg4.view.read (Elt F) X4)) (k0_pay77 (arg2.view.read (Elt F) X2) (arg3.view.read (Elt F) X3) (arg4.view.read (Elt F) X4)) (arg5.view.read (Elt F) X5) (arg6.view.read (Elt F) X6) := funext fun j => z7 j (Nat.zero_le _)
  have q15 : View.readAt (Elt F) arg15.view (Rect.unit (s := S2048x256) ![0, 0] S2048x256.size inb_S2048x256_S2048x256_0_0).toLoadRect Z15 = dpre (arg1.view.read (Elt F) X1) (k0_pay76 (arg2.view.read (Elt F) X2) (arg3.view.read (Elt F) X3) (arg4.view.read (Elt F) X4)) (k0_pay77 (arg2.view.read (Elt F) X2) (arg3.view.read (Elt F) X3) (arg4.view.read (Elt F) X4)) (arg5.view.read (Elt F) X5) (arg6.view.read (Elt F) X6) :=
    (View.readAt_full _ _ _).trans (funext fun j => z15 j (Nat.zero_le _))
  have q18 : View.readAt (Elt F) arg18.view (Rect.unit (s := S1x512) ![0, 0] S1x512.size inb_S1x512_S1x512_0_0).toLoadRect Z18 = dgsum (arg1.view.read (Elt F) X1) (k0_pay76 (arg2.view.read (Elt F) X2) (arg3.view.read (Elt F) X3) (arg4.view.read (Elt F) X4)) (k0_pay77 (arg2.view.read (Elt F) X2) (arg3.view.read (Elt F) X3) (arg4.view.read (Elt F) X4)) (arg5.view.read (Elt F) X5) (arg6.view.read (Elt F) X6) 32 :=
    (View.readAt_full _ _ _).trans (funext z18)
  have q17 : View.readAt (Elt F) arg17.view (Rect.unit (s := S2048x128) ![0, 0] S2048x128.size inb_S2048x128_S2048x128_0_0).toLoadRect X17 = (arg17.view.read (Elt F) X17) := View.readAt_full _ _ _
  clear z7 z15 z16 z18
  sl_exec
  sl_step
  isplitl [H1]; · iexact H1
  isplitl [H2]; · iexact H2
  isplitl [H3]; · iexact H3
  isplitl [H4]; · iexact H4
  isplitl [H5]; · iexact H5
  isplitl [H6]; · iexact H6
  isplitl [H7]
  · iexists _; isplitl [H7]; · iexact H7
    ipureintro
    exact q7
  isplitl [H8]
  · iexists _; isplitl [H8]; · iexact H8
    ipureintro
    try sl_unfold_run_names
    exact (View.read_writes_full _ _ _ _ _).trans (congrArg k0_pay6 (View.readAt_writes_full _ _ _ _ _ _))
  isplitl [H9]
  · iexists _; isplitl [H9]; · iexact H9
    ipureintro
    try sl_unfold_run_names
    exact View.read_writes_full _ _ _ _ _
  isplitl [H10]
  · iexists _; isplitl [H10]; · iexact H10
    ipureintro
    try sl_unfold_run_names
    exact View.read_writes_full _ _ _ _ _
  isplitl [H11]
  · iexists _; isplitl [H11]; · iexact H11
    ipureintro
    try sl_unfold_run_names
    exact View.read_writes_full _ _ _ _ _
  isplitl [H12]
  · iexists _; iexact H12
  isplitl [H13]
  · iexists _; iexact H13
  isplitl [H14]
  · iexists _; iexact H14
  isplitl [H15]
  · iexists _; iexact H15
  isplitl [H16]
  · iexists _; iexact H16
  isplitl [H17]
  · iexists _; isplitl [H17]; · iexact H17
    ipureintro
    try sl_unfold_run_names
    exact View.read_writes_full _ _ _ _ _
  · iexists _; iexact H18

end Cert.KernelIdeal.Hand

end
-- ==== Proof.Run.lean ====
module

public import proofs.«01_k».proof.Proof.Gen.KernelIdeal.Frame
public import proofs.«01_k».proof.Proof.Gen.KernelIdeal.Skeleton
public import Idealize.ShloMosaic.Lib.Exec
public import Idealize.ShloMosaic.Lib.Tactic
public import Idealize.ShloMosaic.Lib.VecWindow
public import Idealize.ShloMosaic.Lib.Writes
public import proofs.«01_k».proof.Proof.Body

@[expose] public section

set_option maxRecDepth 16384

noncomputable section

namespace Cert.KernelIdeal.Hand

open Idealize.ShloMosaic.Pipeline

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄G" => MT nD τ sig Unit (Elt F) ℕ (UR sig nD τ) ℕ

attribute [local irreducible] dz dpre carry dgsum slabs

/-- The call of head pair 0 in terms of what the buffers hold. -/
theorem own0 (𝒱 : Variants) (c : Dev nD) (bd : Option 𝒱.V) (E : Set ℕ) (i : grid0.Coords) (hi : (i 0).val = 0) (arg1 : Mr S2048x1536 .bf16) (harg1 : arg1.IsWhole) (arg2 : Mr S2048x128 .bf16) (harg2 : arg2.IsWhole) (arg3 : Mr S128x256 .bf16) (harg3 : arg3.IsWhole) (arg4 : Mr S1x256 .f32) (harg4 : arg4.IsWhole) (arg5 : Mr S1x512 .f32) (harg5 : arg5.IsWhole) (arg6 : Mr S2048x512 .bf16) (harg6 : arg6.IsWhole) (arg7 : Mr S2048x1536 .bf16) (harg7 : arg7.IsWhole) (arg8 : Mr S2048x128 .bf16) (harg8 : arg8.IsWhole) (arg9 : Mr S128x256 .f32) (harg9 : arg9.IsWhole) (arg10 : Mr S1x256 .f32) (harg10 : arg10.IsWhole) (arg11 : Mr S1x512 .f32) (harg11 : arg11.IsWhole) (arg12 : Mr S2048x256 .f32) (harg12 : arg12.IsWhole) (arg13 : Mr S2048x256 .f32) (harg13 : arg13.IsWhole) (arg14 : Mr S2x32x256x128 .f32) (harg14 : arg14.IsWhole) (arg15 : Mr S2048x256 .f32) (harg15 : arg15.IsWhole) (arg16 : Mr S2x256x128 .f32) (harg16 : arg16.IsWhole) (arg17 : Mr S2048x128 .f32) (harg17 : arg17.IsWhole) (arg18 : Mr S1x512 .f32) (harg18 : arg18.IsWhole)
    (x1 : Vec F S2048x1536 .bf16) (x2 : Vec F S2048x128 .bf16) (x3 : Vec F S128x256 .bf16) (x4 : Vec F S1x256 .f32) (x5 : Vec F S1x512 .f32) (x6 : Vec F S2048x512 .bf16) (x7 : Vec F S2048x1536 .bf16) (x8 : Vec F S2048x128 .bf16) (x9 : Vec F S128x256 .f32) (x10 : Vec F S1x256 .f32) (x11 : Vec F S1x512 .f32) (x12 : Vec F S2048x256 .f32) (x13 : Vec F S2048x256 .f32) (x14 : Vec F S2x32x256x128 .f32) (x15 : Vec F S2048x256 .f32) (x16 : Vec F S2x256x128 .f32) (x17 : Vec F S2048x128 .f32) (x18 : Vec F S1x512 .f32) :
    (iprop(owns c.tc arg1 fullShare x1 ∗ owns c.tc arg2 fullShare x2 ∗ owns c.tc arg3 fullShare x3 ∗ owns c.tc arg4 fullShare x4 ∗ owns c.tc arg5 fullShare x5 ∗ owns c.tc arg6 fullShare x6 ∗ owns c.tc arg7 fullShare x7 ∗ owns c.tc arg8 fullShare x8 ∗ owns c.tc arg9 fullShare x9 ∗ owns c.tc arg10 fullShare x10 ∗ owns c.tc arg11 fullShare x11 ∗ owns c.tc arg12 fullShare x12 ∗ owns c.tc arg13 fullShare x13 ∗ owns c.tc arg14 fullShare x14 ∗ owns c.tc arg15 fullShare x15 ∗ owns c.tc arg16 fullShare x16 ∗ owns c.tc arg17 fullShare x17 ∗ owns c.tc arg18 fullShare x18) : sProp 𝕄G)
    ⊢ wp Idealize.ShloMosaic.frame (wpE (defs₀ (F := F)) 𝒱 c.tc bd) E
        (cc0_gla_bwd (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18)
        fun _ => iprop(owns c.tc arg1 fullShare x1 ∗ owns c.tc arg2 fullShare x2 ∗ owns c.tc arg3 fullShare x3 ∗ owns c.tc arg4 fullShare x4 ∗ owns c.tc arg5 fullShare x5 ∗ owns c.tc arg6 fullShare x6 ∗ owns c.tc arg7 fullShare (dz x1 (k0_pay76 x2 x3 x4) (k0_pay77 x2 x3 x4) x5 x6) ∗ owns c.tc arg8 fullShare x8 ∗ owns c.tc arg9 fullShare (k0_pay2 (k0_pay92 (dpre x1 (k0_pay76 x2 x3 x4) (k0_pay77 x2 x3 x4) x5 x6)) x2) ∗ owns c.tc arg10 fullShare (k0_pay1 (dpre x1 (k0_pay76 x2 x3 x4) (k0_pay77 x2 x3 x4) x5 x6)) ∗ owns c.tc arg11 fullShare (dgsum x1 (k0_pay76 x2 x3 x4) (k0_pay77 x2 x3 x4) x5 x6 32) ∗ (∃ x : Vec F S2048x256 .f32, owns c.tc arg12 fullShare x) ∗ (∃ x : Vec F S2048x256 .f32, owns c.tc arg13 fullShare x) ∗ (∃ x : Vec F S2x32x256x128 .f32, owns c.tc arg14 fullShare x) ∗ (∃ x : Vec F S2048x256 .f32, owns c.tc arg15 fullShare x) ∗ (∃ x : Vec F S2x256x128 .f32, owns c.tc arg16 fullShare x) ∗ owns c.tc arg17 fullShare (k0_pay4 (k0_pay92 (dpre x1 (k0_pay76 x2 x3 x4) (k0_pay77 x2 x3 x4) x5 x6)) x3) ∗ (∃ x : Vec F S1x512 .f32, owns c.tc arg18 fullShare x)) := by
  unfold owns
  iintro ⟨⟨%X1, %e1, H1⟩, ⟨%X2, %e2, H2⟩, ⟨%X3, %e3, H3⟩, ⟨%X4, %e4, H4⟩, ⟨%X5, %e5, H5⟩, ⟨%X6, %e6, H6⟩, ⟨%X7, %e7, H7⟩, ⟨%X8, %e8, H8⟩, ⟨%X9, %e9, H9⟩, ⟨%X10, %e10, H10⟩, ⟨%X11, %e11, H11⟩, ⟨%X12, %e12, H12⟩, ⟨%X13, %e13, H13⟩, ⟨%X14, %e14, H14⟩, ⟨%X15, %e15, H15⟩, ⟨%X16, %e16, H16⟩, ⟨%X17, %e17, H17⟩, ⟨%X18, %e18, H18⟩⟩
  subst e1; subst e2; subst e3; subst e4; subst e5; subst e6; subst e7; subst e8; subst e9; subst e10; subst e11; subst e12; subst e13; subst e14; subst e15; subst e16; subst e17; subst e18
  rw [cc0_gla_bwd_eq_skeleton]
  iapply (wp_wand_r Idealize.ShloMosaic.frame (wpE (defs₀ (F := F)) 𝒱 c.tc bd) E)
  isplitl [H1 H2 H3 H4 H5 H6 H7 H8 H9 H10 H11 H12 H13 H14 H15 H16 H17 H18]
  · iapply point0 𝒱 c bd E i hi arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X1 X2 X3 X4 X5 X6 X7 X8 X9 X10 X11 X12 X13 X14 X15 X16 X17 X18
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    iexact H18
  iintro %a ⟨H1, H2, H3, H4, H5, H6, H7, H8, H9, H10, H11, H12, H13, H14, H15, H16, H17, H18⟩
  isplitl [H1]
  · iexists X1; isplitr [H1]; · (ipureintro; rfl)
    iexact H1
  isplitl [H2]
  · iexists X2; isplitr [H2]; · (ipureintro; rfl)
    iexact H2
  isplitl [H3]
  · iexists X3; isplitr [H3]; · (ipureintro; rfl)
    iexact H3
  isplitl [H4]
  · iexists X4; isplitr [H4]; · (ipureintro; rfl)
    iexact H4
  isplitl [H5]
  · iexists X5; isplitr [H5]; · (ipureintro; rfl)
    iexact H5
  isplitl [H6]
  · iexists X6; isplitr [H6]; · (ipureintro; rfl)
    iexact H6
  isplitl [H7]
  · icases H7 with ⟨%f, H7, %e⟩; iexists f; isplitr [H7]; · (ipureintro; exact e)
    iexact H7
  isplitl [H8]
  · iexists X8; isplitr [H8]; · (ipureintro; rfl)
    iexact H8
  isplitl [H9]
  · icases H9 with ⟨%f, H9, %e⟩; iexists f; isplitr [H9]; · (ipureintro; exact e)
    iexact H9
  isplitl [H10]
  · icases H10 with ⟨%f, H10, %e⟩; iexists f; isplitr [H10]; · (ipureintro; exact e)
    iexact H10
  isplitl [H11]
  · icases H11 with ⟨%f, H11, %e⟩; iexists f; isplitr [H11]; · (ipureintro; exact e)
    iexact H11
  isplitl [H12]
  · icases H12 with ⟨%f, H12⟩; iexists arg12.view.read (Elt F) f; iexists f; isplitr [H12]; · (ipureintro; rfl)
    iexact H12
  isplitl [H13]
  · icases H13 with ⟨%f, H13⟩; iexists arg13.view.read (Elt F) f; iexists f; isplitr [H13]; · (ipureintro; rfl)
    iexact H13
  isplitl [H14]
  · icases H14 with ⟨%f, H14⟩; iexists arg14.view.read (Elt F) f; iexists f; isplitr [H14]; · (ipureintro; rfl)
    iexact H14
  isplitl [H15]
  · icases H15 with ⟨%f, H15⟩; iexists arg15.view.read (Elt F) f; iexists f; isplitr [H15]; · (ipureintro; rfl)
    iexact H15
  isplitl [H16]
  · icases H16 with ⟨%f, H16⟩; iexists arg16.view.read (Elt F) f; iexists f; isplitr [H16]; · (ipureintro; rfl)
    iexact H16
  isplitl [H17]
  · icases H17 with ⟨%f, H17, %e⟩; iexists f; isplitr [H17]; · (ipureintro; exact e)
    iexact H17
  · icases H18 with ⟨%f, H18⟩; iexists arg18.view.read (Elt F) f; iexists f; isplitr [H18]; · (ipureintro; rfl)
    iexact H18

/-- The call of head pair 1 in terms of what the buffers hold. -/
theorem own1 (𝒱 : Variants) (c : Dev nD) (bd : Option 𝒱.V) (E : Set ℕ) (i : grid0.Coords) (hi : (i 0).val = 1) (arg1 : Mr S2048x1536 .bf16) (harg1 : arg1.IsWhole) (arg2 : Mr S2048x128 .bf16) (harg2 : arg2.IsWhole) (arg3 : Mr S128x256 .bf16) (harg3 : arg3.IsWhole) (arg4 : Mr S1x256 .f32) (harg4 : arg4.IsWhole) (arg5 : Mr S1x512 .f32) (harg5 : arg5.IsWhole) (arg6 : Mr S2048x512 .bf16) (harg6 : arg6.IsWhole) (arg7 : Mr S2048x1536 .bf16) (harg7 : arg7.IsWhole) (arg8 : Mr S2048x128 .bf16) (harg8 : arg8.IsWhole) (arg9 : Mr S128x256 .f32) (harg9 : arg9.IsWhole) (arg10 : Mr S1x256 .f32) (harg10 : arg10.IsWhole) (arg11 : Mr S1x512 .f32) (harg11 : arg11.IsWhole) (arg12 : Mr S2048x256 .f32) (harg12 : arg12.IsWhole) (arg13 : Mr S2048x256 .f32) (harg13 : arg13.IsWhole) (arg14 : Mr S2x32x256x128 .f32) (harg14 : arg14.IsWhole) (arg15 : Mr S2048x256 .f32) (harg15 : arg15.IsWhole) (arg16 : Mr S2x256x128 .f32) (harg16 : arg16.IsWhole) (arg17 : Mr S2048x128 .f32) (harg17 : arg17.IsWhole) (arg18 : Mr S1x512 .f32) (harg18 : arg18.IsWhole)
    (x1 : Vec F S2048x1536 .bf16) (x2 : Vec F S2048x128 .bf16) (x3 : Vec F S128x256 .bf16) (x4 : Vec F S1x256 .f32) (x5 : Vec F S1x512 .f32) (x6 : Vec F S2048x512 .bf16) (x7 : Vec F S2048x1536 .bf16) (x8 : Vec F S2048x128 .bf16) (x9 : Vec F S128x256 .f32) (x10 : Vec F S1x256 .f32) (x11 : Vec F S1x512 .f32) (x12 : Vec F S2048x256 .f32) (x13 : Vec F S2048x256 .f32) (x14 : Vec F S2x32x256x128 .f32) (x15 : Vec F S2048x256 .f32) (x16 : Vec F S2x256x128 .f32) (x17 : Vec F S2048x128 .f32) (x18 : Vec F S1x512 .f32) :
    (iprop(owns c.tc arg1 fullShare x1 ∗ owns c.tc arg2 fullShare x2 ∗ owns c.tc arg3 fullShare x3 ∗ owns c.tc arg4 fullShare x4 ∗ owns c.tc arg5 fullShare x5 ∗ owns c.tc arg6 fullShare x6 ∗ owns c.tc arg7 fullShare x7 ∗ owns c.tc arg8 fullShare x8 ∗ owns c.tc arg9 fullShare x9 ∗ owns c.tc arg10 fullShare x10 ∗ owns c.tc arg11 fullShare x11 ∗ owns c.tc arg12 fullShare x12 ∗ owns c.tc arg13 fullShare x13 ∗ owns c.tc arg14 fullShare x14 ∗ owns c.tc arg15 fullShare x15 ∗ owns c.tc arg16 fullShare x16 ∗ owns c.tc arg17 fullShare x17 ∗ owns c.tc arg18 fullShare x18) : sProp 𝕄G)
    ⊢ wp Idealize.ShloMosaic.frame (wpE (defs₀ (F := F)) 𝒱 c.tc bd) E
        (cc0_gla_bwd (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18)
        fun _ => iprop(owns c.tc arg1 fullShare x1 ∗ owns c.tc arg2 fullShare x2 ∗ owns c.tc arg3 fullShare x3 ∗ owns c.tc arg4 fullShare x4 ∗ owns c.tc arg5 fullShare x5 ∗ owns c.tc arg6 fullShare x6 ∗ owns c.tc arg7 fullShare (dz x1 (k0_pay76 x2 x3 x4) (k0_pay77 x2 x3 x4) x5 x6) ∗ owns c.tc arg8 fullShare (k0_pay6 (k0_pay5 (k0_pay92 (dpre x1 (k0_pay76 x2 x3 x4) (k0_pay77 x2 x3 x4) x5 x6)) x3 x17)) ∗ owns c.tc arg9 fullShare (k0_pay2 (k0_pay92 (dpre x1 (k0_pay76 x2 x3 x4) (k0_pay77 x2 x3 x4) x5 x6)) x2) ∗ owns c.tc arg10 fullShare (k0_pay1 (dpre x1 (k0_pay76 x2 x3 x4) (k0_pay77 x2 x3 x4) x5 x6)) ∗ owns c.tc arg11 fullShare (dgsum x1 (k0_pay76 x2 x3 x4) (k0_pay77 x2 x3 x4) x5 x6 32) ∗ (∃ x : Vec F S2048x256 .f32, owns c.tc arg12 fullShare x) ∗ (∃ x : Vec F S2048x256 .f32, owns c.tc arg13 fullShare x) ∗ (∃ x : Vec F S2x32x256x128 .f32, owns c.tc arg14 fullShare x) ∗ (∃ x : Vec F S2048x256 .f32, owns c.tc arg15 fullShare x) ∗ (∃ x : Vec F S2x256x128 .f32, owns c.tc arg16 fullShare x) ∗ owns c.tc arg17 fullShare (k0_pay5 (k0_pay92 (dpre x1 (k0_pay76 x2 x3 x4) (k0_pay77 x2 x3 x4) x5 x6)) x3 x17) ∗ (∃ x : Vec F S1x512 .f32, owns c.tc arg18 fullShare x)) := by
  unfold owns
  iintro ⟨⟨%X1, %e1, H1⟩, ⟨%X2, %e2, H2⟩, ⟨%X3, %e3, H3⟩, ⟨%X4, %e4, H4⟩, ⟨%X5, %e5, H5⟩, ⟨%X6, %e6, H6⟩, ⟨%X7, %e7, H7⟩, ⟨%X8, %e8, H8⟩, ⟨%X9, %e9, H9⟩, ⟨%X10, %e10, H10⟩, ⟨%X11, %e11, H11⟩, ⟨%X12, %e12, H12⟩, ⟨%X13, %e13, H13⟩, ⟨%X14, %e14, H14⟩, ⟨%X15, %e15, H15⟩, ⟨%X16, %e16, H16⟩, ⟨%X17, %e17, H17⟩, ⟨%X18, %e18, H18⟩⟩
  subst e1; subst e2; subst e3; subst e4; subst e5; subst e6; subst e7; subst e8; subst e9; subst e10; subst e11; subst e12; subst e13; subst e14; subst e15; subst e16; subst e17; subst e18
  rw [cc0_gla_bwd_eq_skeleton]
  iapply (wp_wand_r Idealize.ShloMosaic.frame (wpE (defs₀ (F := F)) 𝒱 c.tc bd) E)
  isplitl [H1 H2 H3 H4 H5 H6 H7 H8 H9 H10 H11 H12 H13 H14 H15 H16 H17 H18]
  · iapply point1 𝒱 c bd E i hi arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X1 X2 X3 X4 X5 X6 X7 X8 X9 X10 X11 X12 X13 X14 X15 X16 X17 X18
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    iexact H18
  iintro %a ⟨H1, H2, H3, H4, H5, H6, H7, H8, H9, H10, H11, H12, H13, H14, H15, H16, H17, H18⟩
  isplitl [H1]
  · iexists X1; isplitr [H1]; · (ipureintro; rfl)
    iexact H1
  isplitl [H2]
  · iexists X2; isplitr [H2]; · (ipureintro; rfl)
    iexact H2
  isplitl [H3]
  · iexists X3; isplitr [H3]; · (ipureintro; rfl)
    iexact H3
  isplitl [H4]
  · iexists X4; isplitr [H4]; · (ipureintro; rfl)
    iexact H4
  isplitl [H5]
  · iexists X5; isplitr [H5]; · (ipureintro; rfl)
    iexact H5
  isplitl [H6]
  · iexists X6; isplitr [H6]; · (ipureintro; rfl)
    iexact H6
  isplitl [H7]
  · icases H7 with ⟨%f, H7, %e⟩; iexists f; isplitr [H7]; · (ipureintro; exact e)
    iexact H7
  isplitl [H8]
  · icases H8 with ⟨%f, H8, %e⟩; iexists f; isplitr [H8]; · (ipureintro; exact e)
    iexact H8
  isplitl [H9]
  · icases H9 with ⟨%f, H9, %e⟩; iexists f; isplitr [H9]; · (ipureintro; exact e)
    iexact H9
  isplitl [H10]
  · icases H10 with ⟨%f, H10, %e⟩; iexists f; isplitr [H10]; · (ipureintro; exact e)
    iexact H10
  isplitl [H11]
  · icases H11 with ⟨%f, H11, %e⟩; iexists f; isplitr [H11]; · (ipureintro; exact e)
    iexact H11
  isplitl [H12]
  · icases H12 with ⟨%f, H12⟩; iexists arg12.view.read (Elt F) f; iexists f; isplitr [H12]; · (ipureintro; rfl)
    iexact H12
  isplitl [H13]
  · icases H13 with ⟨%f, H13⟩; iexists arg13.view.read (Elt F) f; iexists f; isplitr [H13]; · (ipureintro; rfl)
    iexact H13
  isplitl [H14]
  · icases H14 with ⟨%f, H14⟩; iexists arg14.view.read (Elt F) f; iexists f; isplitr [H14]; · (ipureintro; rfl)
    iexact H14
  isplitl [H15]
  · icases H15 with ⟨%f, H15⟩; iexists arg15.view.read (Elt F) f; iexists f; isplitr [H15]; · (ipureintro; rfl)
    iexact H15
  isplitl [H16]
  · icases H16 with ⟨%f, H16⟩; iexists arg16.view.read (Elt F) f; iexists f; isplitr [H16]; · (ipureintro; rfl)
    iexact H16
  isplitl [H17]
  · icases H17 with ⟨%f, H17, %e⟩; iexists f; isplitr [H17]; · (ipureintro; exact e)
    iexact H17
  · icases H18 with ⟨%f, H18⟩; iexists arg18.view.read (Elt F) f; iexists f; isplitr [H18]; · (ipureintro; rfl)
    iexact H18

variable (m : (ℓ : Loc nD τ sig) → Buf (Elt F) ℓ) (ρ : Dev nD → PrngReg)

/-- What window 0 holds at point `t`. -/
def x0B (c : Dev nD) (t : Fin cfg0.N) : Vec F S2048x1536 .bf16 := iblk m c 0 t
/-- What window 1 holds at point `t`. -/
def x1B (c : Dev nD) (t : Fin cfg0.N) : Vec F S2048x128 .bf16 := iblk m c 1 t
/-- What window 2 holds at point `t`. -/
def x2B (c : Dev nD) (t : Fin cfg0.N) : Vec F S128x256 .bf16 := iblk m c 2 t
/-- What window 3 holds at point `t`. -/
def x3B (c : Dev nD) (t : Fin cfg0.N) : Vec F S1x256 .f32 := iblk m c 3 t
/-- What window 4 holds at point `t`. -/
def x4B (c : Dev nD) (t : Fin cfg0.N) : Vec F S1x512 .f32 := iblk m c 4 t
/-- What window 5 holds at point `t`. -/
def x5B (c : Dev nD) (t : Fin cfg0.N) : Vec F S2048x512 .bf16 := iblk m c 5 t

/-- The log decays the call at point `t` works with. -/
def laB (c : Dev nD) (t : Fin cfg0.N) : Vec F S2048x256 .f32 := k0_pay76 (x1B m c t) (x2B m c t) (x3B m c t)
/-- Their derivative factor. -/
def omB (c : Dev nD) (t : Fin cfg0.N) : Vec F S2048x256 .f32 := k0_pay77 (x1B m c t) (x2B m c t) (x3B m c t)
/-- The gradient of the decay's pre-activation at point `t`. -/
def dpreB (c : Dev nD) (t : Fin cfg0.N) : Vec F S2048x256 .f32 := dpre (x0B m c t) (laB m c t) (omB m c t) (x4B m c t) (x5B m c t)
/-- The accumulated gradient of the decay's input after the first head pair. -/
def acc0B (c : Dev nD) : Vec F S2048x128 .f32 := k0_pay4 (k0_pay92 (dpreB m c t0_0)) (x2B m c t0_0)
/-- … and after the second. -/
def acc1B (c : Dev nD) : Vec F S2048x128 .f32 := k0_pay5 (k0_pay92 (dpreB m c t0_1)) (x2B m c t0_1) (acc0B m c)

/-- What the buffers the call keeps between points hold: nothing is said, except of the running sum after the first point. -/
def PhiB (c : Dev nD) (P5 : sProp 𝕄G) : sProp 𝕄G :=
  iprop((∃ x : Vec F S2048x256 .f32, owns c.tc (Memref.whole cc0_scratch0) fullShare x) ∗ (∃ x : Vec F S2048x256 .f32, owns c.tc (Memref.whole cc0_scratch1) fullShare x) ∗ (∃ x : Vec F S2x32x256x128 .f32, owns c.tc (Memref.whole cc0_scratch2) fullShare x) ∗ (∃ x : Vec F S2048x256 .f32, owns c.tc (Memref.whole cc0_scratch3) fullShare x) ∗ (∃ x : Vec F S2x256x128 .f32, owns c.tc (Memref.whole cc0_scratch4) fullShare x) ∗ P5 ∗ (∃ x : Vec F S1x512 .f32, owns c.tc (Memref.whole cc0_scratch6) fullShare x) ∗ (∃ r, prngReg c r))
/-- The running sum at position `n`. -/
def P5B (c : Dev nD) : ℕ → sProp 𝕄G
  | 1 => owns c.tc (Memref.whole cc0_scratch5) fullShare (acc0B m c)
  | _ => iprop(∃ x : Vec F S2048x128 .f32, owns c.tc (Memref.whole cc0_scratch5) fullShare x)

theorem P5B_0 (c : Dev nD) : P5B m c 0 = iprop(∃ x : Vec F S2048x128 .f32, owns c.tc (Memref.whole cc0_scratch5) fullShare x) := rfl
theorem P5B_1 (c : Dev nD) : P5B m c 1 = owns c.tc (Memref.whole cc0_scratch5) fullShare (acc0B m c) := rfl
theorem P5B_2 (c : Dev nD) : P5B m c 2 = iprop(∃ x : Vec F S2048x128 .f32, owns c.tc (Memref.whole cc0_scratch5) fullShare x) := rfl

/-- The launch's data: the arrays the region finds, and what the call leaves in each result block. -/
def dats (p : Fin 1) (c : Dev nD) : Dat τ (Elt F) Unit ℕ (UR sig nD τ) ℕ (cfgs p) c :=
  match p with
  | 0 =>
    { A := fun w => V m c (arrRef spec0 w)
      after := fun w t => match w with
        | 0 => iblk m c 0 t | 1 => iblk m c 1 t | 2 => iblk m c 2 t | 3 => iblk m c 3 t | 4 => iblk m c 4 t | 5 => iblk m c 5 t
        | 6 => dz (x0B m c t) (laB m c t) (omB m c t) (x4B m c t) (x5B m c t)
        | 7 => k0_pay6 (acc1B m c)
        | 8 => k0_pay2 (k0_pay92 (dpreB m c t)) (x1B m c t)
        | 9 => k0_pay1 (dpreB m c t)
        | 10 => dgsum (x0B m c t) (laB m c t) (omB m c t) (x4B m c t) (x5B m c t) 32
      Φ := fun t => PhiB c (P5B m c t.val)
      q := fun _ => fullShare
      owed := fun _ => 0 }
theorem before0 (c : Dev nD) (t : Fin cfg0.N) (d) : (dats m 0 c).before 0 t d = iblk m c 0 t := before0_0_of m (dats m 0 c) rfl (fun _ => rfl) t d
theorem before1 (c : Dev nD) (t : Fin cfg0.N) (d) : (dats m 0 c).before 1 t d = iblk m c 1 t := before0_1_of m (dats m 0 c) rfl (fun _ => rfl) t d
theorem before2 (c : Dev nD) (t : Fin cfg0.N) (d) : (dats m 0 c).before 2 t d = iblk m c 2 t := before0_2_of m (dats m 0 c) rfl (fun _ => rfl) t d
theorem before3 (c : Dev nD) (t : Fin cfg0.N) (d) : (dats m 0 c).before 3 t d = iblk m c 3 t := before0_3_of m (dats m 0 c) rfl (fun _ => rfl) t d
theorem before4 (c : Dev nD) (t : Fin cfg0.N) (d) : (dats m 0 c).before 4 t d = iblk m c 4 t := before0_4_of m (dats m 0 c) rfl (fun _ => rfl) t d
theorem before5 (c : Dev nD) (t : Fin cfg0.N) (d) : (dats m 0 c).before 5 t d = iblk m c 5 t := before0_5_of m (dats m 0 c) rfl (fun _ => rfl) t d

theorem defs₀_row (t : Fin cfg0.N) : defs₀ (F := F) .tc cfg0.body (cfg0.bodyArgs t (cfg0.slots t)) = bodyAt0 t := by
  unfold defs₀; rw [Defs.onTc_tc]

theorem idle0_7_0 : cfg0.idle 7 (cfg0.grid.coords t0_0) = true := by decide +kernel
theorem idle0_7_1 : cfg0.idle 7 (cfg0.grid.coords t0_1) = false := by decide +kernel
theorem noflush0_7_0 : (cfg0.win 7).flush t0_0 = false := by
  have h := (flush0_7 t0_0).not; simpa [t0_0] using h

/-- The body's obligation at point 0. -/
theorem body_at0 (c : Dev nD) :
    (iprop(PhiB c (P5B m c 0) ∗ (dats m 0 c).owesAt () (Fin.castSucc t0_0) ∗ (∃ d, owns c.tc (st0_0 t0_0) fullShare ((dats m 0 c).before 0 t0_0 d)) ∗ (∃ d, owns c.tc (st0_1 t0_0) fullShare ((dats m 0 c).before 1 t0_0 d)) ∗ (∃ d, owns c.tc (st0_2 t0_0) fullShare ((dats m 0 c).before 2 t0_0 d)) ∗ (∃ d, owns c.tc (st0_3 t0_0) fullShare ((dats m 0 c).before 3 t0_0 d)) ∗ (∃ d, owns c.tc (st0_4 t0_0) fullShare ((dats m 0 c).before 4 t0_0 d)) ∗ (∃ d, owns c.tc (st0_5 t0_0) fullShare ((dats m 0 c).before 5 t0_0 d)) ∗ (∃ d, owns c.tc (st0_6 t0_0) fullShare ((dats m 0 c).before 6 t0_0 d)) ∗ (∃ d, owns c.tc (st0_7 t0_0) fullShare ((dats m 0 c).before 7 t0_0 d)) ∗ (∃ d, owns c.tc (st0_8 t0_0) fullShare ((dats m 0 c).before 8 t0_0 d)) ∗ (∃ d, owns c.tc (st0_9 t0_0) fullShare ((dats m 0 c).before 9 t0_0 d)) ∗ (∃ d, owns c.tc (st0_10 t0_0) fullShare ((dats m 0 c).before 10 t0_0 d))) : sProp 𝕄G)
    ⊢ wp Idealize.ShloMosaic.frame (wpE (defs₀ (F := F)) Variants.none c.tc none) Set.univ (bodyAt0 (F := F) t0_0)
      fun _ => iprop(PhiB c (P5B m c 1) ∗ (dats m 0 c).owesAt () (Fin.succ t0_0) ∗ owns c.tc (st0_0 t0_0) fullShare ((dats m 0 c).after 0 t0_0) ∗ owns c.tc (st0_1 t0_0) fullShare ((dats m 0 c).after 1 t0_0) ∗ owns c.tc (st0_2 t0_0) fullShare ((dats m 0 c).after 2 t0_0) ∗ owns c.tc (st0_3 t0_0) fullShare ((dats m 0 c).after 3 t0_0) ∗ owns c.tc (st0_4 t0_0) fullShare ((dats m 0 c).after 4 t0_0) ∗ owns c.tc (st0_5 t0_0) fullShare ((dats m 0 c).after 5 t0_0) ∗ owns c.tc (st0_6 t0_0) fullShare ((dats m 0 c).after 6 t0_0) ∗ (∃ d, owns c.tc (st0_7 t0_0) fullShare ((dats m 0 c).before 7 t0_0 d)) ∗ owns c.tc (st0_8 t0_0) fullShare ((dats m 0 c).after 8 t0_0) ∗ owns c.tc (st0_9 t0_0) fullShare ((dats m 0 c).after 9 t0_0) ∗ owns c.tc (st0_10 t0_0) fullShare ((dats m 0 c).after 10 t0_0)) := by
  simp only [before0, before1, before2, before3, before4, before5]
  rw [P5B_0, P5B_1]
  unfold PhiB bodyAt0
  iintro ⟨⟨⟨%Y11, H11⟩, ⟨%Y12, H12⟩, ⟨%Y13, H13⟩, ⟨%Y14, H14⟩, ⟨%Y15, H15⟩, ⟨%Y16, H16⟩, ⟨%Y17, H17⟩, HR⟩, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (wp_wand_r Idealize.ShloMosaic.frame (wpE (defs₀ (F := F)) Variants.none c.tc none) Set.univ)
  isplitl [H0 H1 H2 H3 H4 H5 H6 H7 H8 H9 H10 H11 H12 H13 H14 H15 H16 H17]
  · iapply own0 Variants.none c none Set.univ (grid0.coords t0_0) (by decide +kernel) (st0_0 t0_0) (hstage0_0 ((cfg0.slots t0_0 0).cast nbuf0_0)) (st0_1 t0_0) (hstage0_1 ((cfg0.slots t0_0 1).cast nbuf0_1)) (st0_2 t0_0) (hstage0_2 ((cfg0.slots t0_0 2).cast nbuf0_2)) (st0_3 t0_0) (hstage0_3 ((cfg0.slots t0_0 3).cast nbuf0_3)) (st0_4 t0_0) (hstage0_4 ((cfg0.slots t0_0 4).cast nbuf0_4)) (st0_5 t0_0) (hstage0_5 ((cfg0.slots t0_0 5).cast nbuf0_5)) (st0_6 t0_0) (hstage0_6 ((cfg0.slots t0_0 6).cast nbuf0_6)) (st0_7 t0_0) (hstage0_7 ((cfg0.slots t0_0 7).cast nbuf0_7)) (st0_8 t0_0) (hstage0_8 ((cfg0.slots t0_0 8).cast nbuf0_8)) (st0_9 t0_0) (hstage0_9 ((cfg0.slots t0_0 9).cast nbuf0_9)) (st0_10 t0_0) (hstage0_10 ((cfg0.slots t0_0 10).cast nbuf0_10)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (x0B m c t0_0) (x1B m c t0_0) (x2B m c t0_0) (x3B m c t0_0) (x4B m c t0_0) (x5B m c t0_0) ((dats m 0 c).before 6 t0_0 d6) ((dats m 0 c).before 7 t0_0 d7) ((dats m 0 c).before 8 t0_0 d8) ((dats m 0 c).before 9 t0_0 d9) ((dats m 0 c).before 10 t0_0 d10) (Y11) (Y12) (Y13) (Y14) (Y15) (Y16) (Y17)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    iexact H17
  iintro %a ⟨H0, H1, H2, H3, H4, H5, H6, H7, H8, H9, H10, H11, H12, H13, H14, H15, H16, H17⟩
  isplitl [H11 H12 H13 H14 H15 H16 H17 HR]
  · isplitl [H11]; · iexact H11
    isplitl [H12]; · iexact H12
    isplitl [H13]; · iexact H13
    isplitl [H14]; · iexact H14
    isplitl [H15]; · iexact H15
    isplitl [H16]; · iexact H16
    isplitl [H17]; · iexact H17
    iexact HR
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · (iexists d7; iexact H7)
  isplitl [H8]; · iexact H8
  isplitl [H9]; · iexact H9
  iexact H10

/-- The body's obligation at point 1. -/
theorem body_at1 (c : Dev nD) :
    (iprop(PhiB c (P5B m c 1) ∗ (dats m 0 c).owesAt () (Fin.castSucc t0_1) ∗ (∃ d, owns c.tc (st0_0 t0_1) fullShare ((dats m 0 c).before 0 t0_1 d)) ∗ (∃ d, owns c.tc (st0_1 t0_1) fullShare ((dats m 0 c).before 1 t0_1 d)) ∗ (∃ d, owns c.tc (st0_2 t0_1) fullShare ((dats m 0 c).before 2 t0_1 d)) ∗ (∃ d, owns c.tc (st0_3 t0_1) fullShare ((dats m 0 c).before 3 t0_1 d)) ∗ (∃ d, owns c.tc (st0_4 t0_1) fullShare ((dats m 0 c).before 4 t0_1 d)) ∗ (∃ d, owns c.tc (st0_5 t0_1) fullShare ((dats m 0 c).before 5 t0_1 d)) ∗ (∃ d, owns c.tc (st0_6 t0_1) fullShare ((dats m 0 c).before 6 t0_1 d)) ∗ (∃ d, owns c.tc (st0_7 t0_1) fullShare ((dats m 0 c).before 7 t0_1 d)) ∗ (∃ d, owns c.tc (st0_8 t0_1) fullShare ((dats m 0 c).before 8 t0_1 d)) ∗ (∃ d, owns c.tc (st0_9 t0_1) fullShare ((dats m 0 c).before 9 t0_1 d)) ∗ (∃ d, owns c.tc (st0_10 t0_1) fullShare ((dats m 0 c).before 10 t0_1 d))) : sProp 𝕄G)
    ⊢ wp Idealize.ShloMosaic.frame (wpE (defs₀ (F := F)) Variants.none c.tc none) Set.univ (bodyAt0 (F := F) t0_1)
      fun _ => iprop(PhiB c (P5B m c 2) ∗ (dats m 0 c).owesAt () (Fin.succ t0_1) ∗ owns c.tc (st0_0 t0_1) fullShare ((dats m 0 c).after 0 t0_1) ∗ owns c.tc (st0_1 t0_1) fullShare ((dats m 0 c).after 1 t0_1) ∗ owns c.tc (st0_2 t0_1) fullShare ((dats m 0 c).after 2 t0_1) ∗ owns c.tc (st0_3 t0_1) fullShare ((dats m 0 c).after 3 t0_1) ∗ owns c.tc (st0_4 t0_1) fullShare ((dats m 0 c).after 4 t0_1) ∗ owns c.tc (st0_5 t0_1) fullShare ((dats m 0 c).after 5 t0_1) ∗ owns c.tc (st0_6 t0_1) fullShare ((dats m 0 c).after 6 t0_1) ∗ owns c.tc (st0_7 t0_1) fullShare ((dats m 0 c).after 7 t0_1) ∗ owns c.tc (st0_8 t0_1) fullShare ((dats m 0 c).after 8 t0_1) ∗ owns c.tc (st0_9 t0_1) fullShare ((dats m 0 c).after 9 t0_1) ∗ owns c.tc (st0_10 t0_1) fullShare ((dats m 0 c).after 10 t0_1)) := by
  simp only [before0, before1, before2, before3, before4, before5]
  rw [P5B_1, P5B_2]
  unfold PhiB bodyAt0
  iintro ⟨⟨⟨%Y11, H11⟩, ⟨%Y12, H12⟩, ⟨%Y13, H13⟩, ⟨%Y14, H14⟩, ⟨%Y15, H15⟩, H16, ⟨%Y17, H17⟩, HR⟩, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (wp_wand_r Idealize.ShloMosaic.frame (wpE (defs₀ (F := F)) Variants.none c.tc none) Set.univ)
  isplitl [H0 H1 H2 H3 H4 H5 H6 H7 H8 H9 H10 H11 H12 H13 H14 H15 H16 H17]
  · iapply own1 Variants.none c none Set.univ (grid0.coords t0_1) (by decide +kernel) (st0_0 t0_1) (hstage0_0 ((cfg0.slots t0_1 0).cast nbuf0_0)) (st0_1 t0_1) (hstage0_1 ((cfg0.slots t0_1 1).cast nbuf0_1)) (st0_2 t0_1) (hstage0_2 ((cfg0.slots t0_1 2).cast nbuf0_2)) (st0_3 t0_1) (hstage0_3 ((cfg0.slots t0_1 3).cast nbuf0_3)) (st0_4 t0_1) (hstage0_4 ((cfg0.slots t0_1 4).cast nbuf0_4)) (st0_5 t0_1) (hstage0_5 ((cfg0.slots t0_1 5).cast nbuf0_5)) (st0_6 t0_1) (hstage0_6 ((cfg0.slots t0_1 6).cast nbuf0_6)) (st0_7 t0_1) (hstage0_7 ((cfg0.slots t0_1 7).cast nbuf0_7)) (st0_8 t0_1) (hstage0_8 ((cfg0.slots t0_1 8).cast nbuf0_8)) (st0_9 t0_1) (hstage0_9 ((cfg0.slots t0_1 9).cast nbuf0_9)) (st0_10 t0_1) (hstage0_10 ((cfg0.slots t0_1 10).cast nbuf0_10)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (x0B m c t0_1) (x1B m c t0_1) (x2B m c t0_1) (x3B m c t0_1) (x4B m c t0_1) (x5B m c t0_1) ((dats m 0 c).before 6 t0_1 d6) ((dats m 0 c).before 7 t0_1 d7) ((dats m 0 c).before 8 t0_1 d8) ((dats m 0 c).before 9 t0_1 d9) ((dats m 0 c).before 10 t0_1 d10) (Y11) (Y12) (Y13) (Y14) (Y15) (acc0B m c) (Y17)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    iexact H17
  iintro %a ⟨H0, H1, H2, H3, H4, H5, H6, H7, H8, H9, H10, H11, H12, H13, H14, H15, H16, H17⟩
  isplitl [H11 H12 H13 H14 H15 H16 H17 HR]
  · isplitl [H11]; · iexact H11
    isplitl [H12]; · iexact H12
    isplitl [H13]; · iexact H13
    isplitl [H14]; · iexact H14
    isplitl [H15]; · iexact H15
    isplitl [H16]; · (iexists _; iexact H16)
    isplitl [H17]; · iexact H17
    iexact HR
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The body's obligation. -/
theorem body_obligation (c : Dev nD) : BodyObligation (dats m 0 c) (defs₀ (F := F)) Variants.none () Set.univ := fun t => by
  rw [bigSep_W0, bigSep_W0, defs₀_row]
  rcases fin_N0 t with rfl | rfl
  · rewrite [idle0_7_0, noflush0_7_0]
    exact triple_restated (body_at0 m c) rfl .rfl fun _ => .rfl
  · rewrite [idle0_7_1]
    exact triple_restated (body_at1 m c) rfl .rfl fun _ => .rfl

theorem phiB_in (c : Dev nD) : ΦA spec0 c ⊢ (PhiB c (P5B m c 0) : sProp 𝕄G) := by
  unfold ΦA; rw [scopedRest0_eq, P5B_0]; unfold PhiB; simp only [owns_whole_eq]
  iintro ⟨⟨⟨%f0, H0⟩, ⟨%f1, H1⟩, ⟨%f2, H2⟩, ⟨%f3, H3⟩, ⟨%f4, H4⟩, ⟨%f5, H5⟩, ⟨%f6, H6⟩⟩, HR⟩
  isplitl [H0]
  · (iexists f0; iexists f0; isplitr [H0]; · (ipureintro; rfl)
     iexact H0)
  isplitl [H1]
  · (iexists f1; iexists f1; isplitr [H1]; · (ipureintro; rfl)
     iexact H1)
  isplitl [H2]
  · (iexists f2; iexists f2; isplitr [H2]; · (ipureintro; rfl)
     iexact H2)
  isplitl [H3]
  · (iexists f3; iexists f3; isplitr [H3]; · (ipureintro; rfl)
     iexact H3)
  isplitl [H4]
  · (iexists f4; iexists f4; isplitr [H4]; · (ipureintro; rfl)
     iexact H4)
  isplitl [H5]
  · (iexists f5; iexists f5; isplitr [H5]; · (ipureintro; rfl)
     iexact H5)
  isplitl [H6]
  · (iexists f6; iexists f6; isplitr [H6]; · (ipureintro; rfl)
     iexact H6)
  iexact HR
theorem phiB_out (c : Dev nD) : (PhiB c (P5B m c 2) : sProp 𝕄G) ⊢ ΦA spec0 c := by
  unfold ΦA; rw [scopedRest0_eq, P5B_2]; unfold PhiB; simp only [owns_whole_eq]
  iintro ⟨⟨%x0, %f0, %e0, H0⟩, ⟨%x1, %f1, %e1, H1⟩, ⟨%x2, %f2, %e2, H2⟩, ⟨%x3, %f3, %e3, H3⟩, ⟨%x4, %f4, %e4, H4⟩, ⟨%x5, %f5, %e5, H5⟩, ⟨%x6, %f6, %e6, H6⟩, HR⟩
  isplitl [H0 H1 H2 H3 H4 H5 H6]
  · isplitl [H0]; · (iexists f0; iexact H0)
    isplitl [H1]; · (iexists f1; iexact H1)
    isplitl [H2]; · (iexists f2; iexact H2)
    isplitl [H3]; · (iexists f3; iexact H3)
    isplitl [H4]; · (iexists f4; iexact H4)
    isplitl [H5]; · (iexists f5; iexact H5)
    iexists f6; iexact H6
  iexact HR

/-- The run of the launch: it ends, and every result holds what `dats` says. -/
theorem run_main : θ_run defs (onTc (τ := τ) (main (F := F))) (s₀ m ρ) (fun r => FramePost cfgs (dats m) 0 (V m) r ∧ r.2.sem = fun _ => 0) :=
  θ_run_frame_track cfgs (dats m) 0 launch0 defs₀ Variants.none m ρ main
    (fun c => (body_obligation m c).loose) (fun c w => by fin_cases w <;> rfl) (fun _ _ => rfl) (V m)
    (hmain m Variants.none) (fun _ _ => rfl) (phiB_in m) (phiB_out m) _ (fun _ h => h)

end Cert.KernelIdeal.Hand

namespace Cert.KernelIdeal.Hand

end Cert.KernelIdeal.Hand

end
-- ==== Proof.Frames.lean ====
module

public import proofs.«01_k».proof.Defs
public import proofs.«01_k».proof.Proof.Run
public import proofs.«01_k».proof.Proof.Gen.Kernel
public import proofs.«01_k».proof.Proof.Gen.ReferenceIdeal.Run

@[expose] public section

noncomputable section

namespace Cert.KernelIdeal.Hand

open Idealize.ShloMosaic Idealize.ShloMosaic.TcCoe Idealize.SL.Sem
open Cert.KernelIdeal Cert.KernelIdeal.Gen

variable {F : FTy → Type} [FloatOps F]

/-- The run leaves every argument as it found it, and every counter at zero. -/
theorem unchanged (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c),
      ((h.1 c).2 main_arg7 (Pipeline.mem_restRefs_of main_arg7 (by decide) (by decide))).trans (V_main_arg7 m c),
      ((h.1 c).1 5).trans (((dats m 0 c).arrAt_in 5 rfl _).trans (V_main_arg8 m c))⟩, h.2⟩) (run_main m ρ)

/-- The idealized call runs and leaves its arguments unchanged. -/
theorem frame_kernelIdeal : Cert.quiescent_KernelIdeal := fun m ρ _ => unchanged m ρ

/-- The printed call's body table is the idealized one's. -/
theorem defs₀_eq : @Cert.Kernel.defs₀ Bits _ Cert.Kernel.Gen.facts = @Cert.KernelIdeal.defs₀ Bits _ Cert.KernelIdeal.Gen.facts := by
  unfold Cert.Kernel.defs₀ Cert.KernelIdeal.defs₀
  refine congrArg Defs.onTc (funext fun l => funext fun a => ?_)
  obtain ⟨n, hn⟩ := l
  cases n with
  | zero => obtain ⟨t, s⟩ := a; rfl
  | succ n => exact absurd hn (by omega)

theorem defs_eq : @Cert.Kernel.defs Bits _ Cert.Kernel.Gen.facts = @Cert.KernelIdeal.defs Bits _ Cert.KernelIdeal.Gen.facts :=
  congrArg (Pipeline.defs (@Cert.KernelIdeal.pcfgs Bits _)) defs₀_eq

/-- The call as printed, at its own number formats: the same text, so the same run. -/
theorem frame_kernel : Cert.quiescent_Kernel := fun m ρ _ => by
  rw [defs_eq]; exact unchanged (F := Bits) m ρ

end Cert.KernelIdeal.Hand

namespace Cert.ReferenceIdeal.Hand

open Idealize.ShloMosaic Idealize.ShloMosaic.TcCoe Idealize.SL.Sem
open Cert.ReferenceIdeal

/-- The reference runs and leaves its arguments unchanged. -/
theorem frame_reference : Cert.quiescent_ReferenceIdeal := fun m ρ _ =>
  (θ_run defs _ _).mono (fun _ h => ⟨fun c => (h c).2.2.2.2.2, sem_eq_zero_of_no_sems (by decide) _⟩) (Value.run (F := Ideal) m ρ)

end Cert.ReferenceIdeal.Hand

end
-- ==== Proof.Norm.lean ====
module

public import Idealize.ShloMosaic.PureOps
public import Idealize.ShloMosaic.PureOps.Ideal
public import Idealize.ShloMosaic.Lib.Pointwise

@[expose] public section

noncomputable section

open Idealize.ShloMosaic

namespace Cert.Norm

/-- A normal single-precision literal's value, from its three fields. -/
theorem lit (b : BitVec 32) (neg : Bool) (ex fr : ℕ) (h1 : (b.extractLsb' (8 + 23) 1 == 1#1) = neg) (h2 : (b.extractLsb' 23 8).toNat = ex)
    (h3 : (b.extractLsb' 0 23).toNat = fr) (he : ex ≠ 255) (h0 : ex ≠ 0) :
    Ideal.ofBits .f32 b = (((if neg then -1 else 1 : ℝ) * (2 ^ 23 + fr : ℕ) * (2 : ℝ) ^ ((ex : Int) - 127 - 23) : ℝ) : EReal) := by
  show Ideal.ieee 8 23 b = _
  unfold Ideal.ieee
  simp only [h1, h2, h3]
  rw [if_neg (by omega), if_neg h0]
  norm_num

theorem c2048 : Ideal.ofBits .f32 0x45000000#32 = ((2048 : ℝ) : EReal) := by
  rw [lit _ false 138 0 (by decide) (by decide) (by decide) (by decide) (by decide)]
  norm_num

theorem eps : ∃ e : ℝ, 0 < e ∧ Ideal.ofBits .f32 0x358637BD#32 = ((e : ℝ) : EReal) :=
  ⟨_, by norm_num, lit _ false 107 407485 (by decide) (by decide) (by decide) (by decide) (by decide)⟩

theorem neghalf : Ideal.ofBits .f32 0xBF000000#32 = ((-(1 / 2) : ℝ) : EReal) := by
  rw [lit _ true 126 0 (by decide) (by decide) (by decide) (by decide) (by decide)]
  norm_num

theorem sum_coe {ι : Type*} (s : Finset ι) (f : ι → ℝ) : (∑ k ∈ s, (f k : EReal)) = ((∑ k ∈ s, f k : ℝ) : EReal) := by
  classical
  induction s using Finset.induction_on with
  | empty => simp
  | insert a s h ih => rw [Finset.sum_insert h, Finset.sum_insert h, ih, EReal.coe_add]

/-- The mean square of a row, moved off zero. -/
def var (y : Fin 2048 → EReal) : EReal :=
  Ideal.div (∑ k : Fin 2048, y k * y k) (Ideal.ofBits .f32 0x45000000#32) + Ideal.ofBits .f32 0x358637BD#32

/-- The cotangent of a row before its normalisation, from the cotangent `d` after it. -/
def back (d y : Fin 2048 → EReal) (j : Fin 2048) : EReal :=
  Ideal.rsqrt (var y) * (d j - y j * Ideal.rsqrt (var y) * Ideal.div (∑ k : Fin 2048, d k * (y k * Ideal.rsqrt (var y))) (Ideal.ofBits .f32 0x45000000#32))

/-- What the row's mean square contributes, per entry of the row. -/
def half (d y : Fin 2048 → EReal) : EReal :=
  Ideal.div ((∑ k : Fin 2048, y k * d k) * (Ideal.ofBits .f32 0xBF000000#32 * Ideal.div (Ideal.rsqrt (var y)) (var y))) (Ideal.ofBits .f32 0x45000000#32)

theorem var_coe (y : Fin 2048 → ℝ) : ∃ v : ℝ, 0 < v ∧ var (fun k => (y k : EReal)) = (v : EReal) := by
  obtain ⟨e, he, hb⟩ := eps
  refine ⟨(∑ k : Fin 2048, y k * y k) * (1 / 2048) + e, ?_, ?_⟩
  · have : 0 ≤ ∑ k : Fin 2048, y k * y k := Finset.sum_nonneg fun k _ => mul_self_nonneg _
    positivity
  · unfold var
    rw [hb, c2048, Ideal.div_coe (by norm_num)]
    simp only [← EReal.coe_mul, sum_coe, ← EReal.coe_add]

/-- For a row and a cotangent with real entries, the chain rule's three terms are the one product. -/
theorem back_eq (d y : Fin 2048 → EReal) (hd : ∀ k, ∃ r : ℝ, d k = (r : EReal)) (hy : ∀ k, ∃ r : ℝ, y k = (r : EReal)) (j : Fin 2048) :
    d j * Ideal.rsqrt (var y) + y j * half d y + half d y * y j = back d y j := by
  choose d' hd' using hd
  choose y' hy' using hy
  obtain rfl : d = fun k => (d' k : EReal) := funext hd'
  obtain rfl : y = fun k => (y' k : EReal) := funext hy'
  obtain ⟨v, hv, e⟩ := var_coe y'
  have hs : Ideal.rsqrt (v : EReal) = (((Real.sqrt v)⁻¹ : ℝ) : EReal) := by
    rw [Ideal.rsqrt_coe, if_neg (by linarith), if_neg (by linarith)]
  unfold back half
  simp only [e, hs, c2048, neghalf, Ideal.div_coe (show (2048 : ℝ) ≠ 0 by norm_num), Ideal.div_coe (ne_of_gt hv), ← EReal.coe_mul, sum_coe, ← EReal.coe_add, ← EReal.coe_sub]
  congr 1
  have hr : (Real.sqrt v)⁻¹ * (Real.sqrt v)⁻¹ = 1 / v := by
    rw [← mul_inv, Real.mul_self_sqrt hv.le, one_div]
  set r := (Real.sqrt v)⁻¹ with hrd
  have hsum : ∑ k, d' k * (y' k * r) = r * ∑ k, y' k * d' k := by
    rw [Finset.mul_sum]
    exact Finset.sum_congr rfl fun k _ => by ring
  rw [hsum, ← hr]
  ring

/-- A number whose magnitude compares below infinity is real. -/
theorem real_of_olt (x : EReal) (h : Ideal.cmp .olt (max x (-x)) (Ideal.ofBits .f32 0x7F800000#32) = 1#1) : ∃ r : ℝ, x = (r : EReal) := by
  have ht : Ideal.ofBits .f32 0x7F800000#32 = (⊤ : EReal) := by
    show Ideal.ieee 8 23 (0x7F800000#32 : BitVec 32) = _
    unfold Ideal.ieee
    have h2 : ((0x7F800000#32 : BitVec 32).extractLsb' 23 8).toNat = 255 := by decide
    have h3 : ((0x7F800000#32 : BitVec 32).extractLsb' 0 23).toNat = 0 := by decide
    have h1 : ((0x7F800000#32 : BitVec 32).extractLsb' (8 + 23) 1 == 1#1) = false := by decide
    simp only [h1, h2, h3]
    norm_num
  rw [ht] at h
  induction x with
  | bot => exact absurd h (by simp [Ideal.cmp])
  | top => exact absurd h (by simp [Ideal.cmp])
  | coe r => exact ⟨r, rfl⟩

end Cert.Norm

end
-- ==== Proof.AttPay.lean ====
module

public import proofs.«01_k».proof.Defs
public import proofs.«01_k».proof.Proof.Norm
public import proofs.«01_k».proof.Proof.Gen.AttFwdIdeal.Skeleton
public import Idealize.ShloMosaic.Lib.Pointwise
public import Idealize.ShloMosaic.Lib.Tactic

@[expose] public section

set_option maxRecDepth 16384

noncomputable section

namespace Cert.AttFwdIdeal.Hand
open Idealize.ShloMosaic
open Cert.AttFwdIdeal Cert.AttFwdIdeal.Gen

/-! # The attention block's payloads at an entry -/

/-- The largest of finitely many scores. -/
def top {n : ℕ} (S : Fin n → EReal) : EReal := Finset.fold max ⊥ S Finset.univ

/-- The sum of the exponentials of the scores below the largest. -/
def tot {n : ℕ} (S : Fin n → EReal) : EReal := ∑ x, Ideal.exp (S x - top S)

/-- The mean of `W` with the exponentials as weights, normalised by a reciprocal. -/
def mix {n : ℕ} (S W : Fin n → EReal) : EReal := ∑ x, Ideal.exp (S x - top S) * Ideal.div 1 (tot S) * W x

/-- The score of band column `j` in row block `t`: columns before the first key are dead. -/
def score (t : ℕ) (q : Fin 128 → EReal) (k : Fin 640 → Fin 128 → EReal) (b : Fin 640 → EReal) (j : Fin 640) : EReal :=
  if 512 ≤ 128 * t + j.val then (∑ x, q x * k j x) * Ideal.ofBits .f32 1035273459#32 + b j else ⊥

/-- A head's row normalised, scaled and gated. -/
def gated (o : Fin 128 → EReal) (g gate : EReal) (d : Fin 128) : EReal :=
  o d * Ideal.rsqrt (Ideal.div (∑ x, o x * o x) (Ideal.ofBits .f32 1124073472#32) + Ideal.ofBits .f32 897988541#32) * g
    * (gate * Ideal.div 1 (1 + Ideal.exp (0 - gate)))

theorem neg_inf : Ideal.ofBits .f32 4286578688#32 = (⊥ : EReal) := by
  show Ideal.ieee 8 23 (4286578688#32 : BitVec 32) = _
  unfold Ideal.ieee
  have h2 : ((4286578688#32 : BitVec 32).extractLsb' 23 8).toNat = 255 := by decide
  have h3 : ((4286578688#32 : BitVec 32).extractLsb' 0 23).toNat = 0 := by decide
  have h1 : ((4286578688#32 : BitVec 32).extractLsb' (8 + 23) 1 == 1#1) = true := by decide
  simp only [h1, h2, h3]
  norm_num

theorem mask_eq : Named.named (F := Ideal) κ "mask" (φ := .f32) 4048155338#32 = (⊥ : EReal) := rfl

theorem live_eq : ∀ (t : Fin 16) (j : Fin 640),
    IntOp.cmpi .sge (BitVec.ofNat 32 j.val) (Scalar.subi 512#32 (Scalar.muli (Scf.iv 0#32 1#32 t.val) 128#32)) = if 512 ≤ 128 * t.val + j.val then 1#1 else 0#1 := by
  decide +kernel

variable (t : Fin k0_t1_loop.trips) (q : Vec Ideal S128x128 .bf16) (k : Vec Ideal S1x640x128 .bf16) (bs : Vec Ideal S1x128x640 .f32) (v : Vec Ideal S1x640x128 .bf16)

theorem trip_lt : t.val < 16 := Nat.lt_of_lt_of_le t.isLt k0_t1_abs.2.1

theorem pay2_apply (i : Fin 128) (j : Fin 640) : k0_pay2 0#32 1#32 t (ix2 i j) = if 512 ≤ 128 * t.val + j.val then 1#1 else 0#1 := by
  refine Eq.trans ?_ (live_eq ⟨t.val, trip_lt t⟩ j)
  pointwise [k0_pay2]

/-- The scores of a row of the block, from the loaded operands. -/
abbrev srow (i : Fin 128) : Fin 640 → EReal := score t.val (fun x => q (ix2 i x)) (fun j x => k (ix3 0 j x)) (fun j => bs (ix3 0 i j))

theorem pay3_apply (i : Fin 128) (j : Fin 640) : k0_pay3 (F := Ideal) 0#32 1#32 t q k bs (ix2 i j) = srow t q k bs i j := by
  have h : k0_pay3 (F := Ideal) 0#32 1#32 t q k bs (ix2 i j) = Scalar.select (k0_pay2 0#32 1#32 t (ix2 i j)) ((∑ x, q (ix2 i x) * k (ix3 0 j x)) * Ideal.ofBits .f32 1035273459#32 + bs (ix3 0 i j)) (Named.named (F := Ideal) κ "mask" (φ := .f32) 4048155338#32) := by
    pointwise [k0_pay3]
  rw [h, pay2_apply, mask_eq]
  unfold srow score
  split <;> rfl

theorem pay4_apply (i : Fin 128) (j : Fin 1) : k0_pay4 (F := Ideal) 0#32 1#32 t q k bs (ix2 i j) = top (srow t q k bs i) := by
  have h : k0_pay4 (F := Ideal) 0#32 1#32 t q k bs (ix2 i j) = Finset.fold max (Ideal.ofBits .f32 4286578688#32) (fun x => k0_pay3 (F := Ideal) 0#32 1#32 t q k bs (ix2 i x)) Finset.univ := by
    pointwise [k0_pay4]
  rw [h, neg_inf]
  exact congrArg (fun f => Finset.fold max ⊥ f Finset.univ) (funext fun x => pay3_apply t q k bs i x)

theorem pay5_apply (i : Fin 128) (j : Fin 640) : k0_pay5 (F := Ideal) 0#32 1#32 t q k bs (ix2 i j) = Ideal.exp (srow t q k bs i j - top (srow t q k bs i)) := by
  rw [← pay3_apply, ← pay4_apply t q k bs i 0]
  pointwise [k0_pay5]

theorem pay6_apply (i : Fin 128) (j : Fin 1) : k0_pay6 (F := Ideal) 0#32 1#32 t q k bs (ix2 i j) = tot (srow t q k bs i) := by
  have h : k0_pay6 (F := Ideal) 0#32 1#32 t q k bs (ix2 i j) = ∑ x, k0_pay5 (F := Ideal) 0#32 1#32 t q k bs (ix2 i x) := by
    pointwise [k0_pay6]
  rw [h]
  exact Finset.sum_congr rfl fun x _ => pay5_apply t q k bs i x

theorem pay7_apply (i : Fin 128) (d : Fin 128) : k0_pay7 (F := Ideal) 0#32 1#32 t q k bs v (ix2 i d) = mix (srow t q k bs i) (fun j => v (ix3 0 j d)) := by
  have h : k0_pay7 (F := Ideal) 0#32 1#32 t q k bs v (ix2 i d) = ∑ x, k0_pay5 (F := Ideal) 0#32 1#32 t q k bs (ix2 i x) * Ideal.div 1 (k0_pay6 (F := Ideal) 0#32 1#32 t q k bs (ix2 i 0)) * v (ix3 0 x d) := by
    pointwise [k0_pay7]
  rw [h, pay6_apply]
  exact Finset.sum_congr rfl fun x _ => by rw [pay5_apply]

theorem pay8_apply (i : Fin 128) (d : Fin 128) : k0_pay8 (F := Ideal) 0#32 1#32 t q k bs v (ix2 i d) = mix (srow t q k bs i) (fun j => v (ix3 0 j d)) := by
  rw [← pay7_apply]
  pointwise [k0_pay8]

theorem pay10_apply (i : Fin 128) (d : Fin 128) : k0_pay10 (F := Ideal) (k0_pay4 0#32 1#32 t q k bs) (k0_pay9 0#32 1#32 t q k bs) (ix2 i d) = top (srow t q k bs i) + Ideal.log (tot (srow t q k bs i)) := by
  rw [← pay4_apply t q k bs i 0, ← pay6_apply t q k bs i 0]
  pointwise [k0_pay10, k0_pay9]

theorem pay11_apply (o : FVec Ideal S128x128 .f32) (ga : Vec Ideal S128x128 .bf16) (g : Vec Ideal S1x128 .f32) (i : Fin 128) (d : Fin 128) :
    k0_pay11 (F := Ideal) o ga g (ix2 i d) = gated (fun x => o (ix2 i x)) (g (ix2 0 d)) (ga (ix2 i d)) d := by
  unfold gated
  pointwise [k0_pay11]

/-! The second head of the pair: the same payloads, cut differently. -/

theorem pay13_eq : k0_pay13 (F := Ideal) (k0_pay2 0#32 1#32 t) (k0_pay12 q k) (Scalar.ofBits .f32 0x3DB504F3#32) bs = k0_pay3 0#32 1#32 t q k bs := rfl
theorem pay14_eq : k0_pay14 (F := Ideal) (k0_pay2 0#32 1#32 t) (k0_pay12 q k) (Scalar.ofBits .f32 0x3DB504F3#32) bs = k0_pay4 0#32 1#32 t q k bs := rfl
theorem pay16_eq : k0_pay16 (F := Ideal) (k0_pay2 0#32 1#32 t) (k0_pay12 q k) (Scalar.ofBits .f32 0x3DB504F3#32) bs = k0_pay6 0#32 1#32 t q k bs := rfl
theorem pay17_eq : k0_pay17 (F := Ideal) (k0_pay2 0#32 1#32 t) (k0_pay12 q k) (Scalar.ofBits .f32 0x3DB504F3#32) bs v = k0_pay7 0#32 1#32 t q k bs v := rfl
theorem pay18_eq : k0_pay18 (F := Ideal) (k0_pay2 0#32 1#32 t) (k0_pay12 q k) (Scalar.ofBits .f32 0x3DB504F3#32) bs v = k0_pay8 0#32 1#32 t q k bs v := rfl
theorem pay19_eq : k0_pay19 (F := Ideal) (k0_pay2 0#32 1#32 t) (k0_pay12 q k) (Scalar.ofBits .f32 0x3DB504F3#32) bs = k0_pay10 (k0_pay4 0#32 1#32 t q k bs) (k0_pay9 0#32 1#32 t q k bs) := rfl
theorem pay1_eq (ga : Vec Ideal S128x128 .bf16) (g : Vec Ideal S1x128 .f32) :
    k0_pay1 (F := Ideal) (k0_pay17 (k0_pay2 0#32 1#32 t) (k0_pay12 q k) (Scalar.ofBits .f32 0x3DB504F3#32) bs v) (k0_pay20 ga)
      (k0_pay21 (k0_pay2 0#32 1#32 t) (k0_pay12 q k) (Scalar.ofBits .f32 0x3DB504F3#32) bs v) k0_pay22 g = k0_pay11 (k0_pay7 0#32 1#32 t q k bs v) ga g := rfl

end Cert.AttFwdIdeal.Hand
end
-- ==== Proof.AttBias.lean ====
module

public import proofs.«01_k».proof.Defs
public import proofs.«01_k».proof.Proof.AttPay
public import proofs.«01_k».proof.Proof.Gen.AttFwdIdeal.Skeleton
public import Idealize.ShloMosaic.Lib.Pointwise
public import Idealize.ShloMosaic.Lib.Tactic

@[expose] public section

set_option maxRecDepth 16384

noncomputable section

namespace Cert.AttFwdIdeal.Hand
open Idealize.ShloMosaic
open Cert.AttFwdIdeal Cert.AttFwdIdeal.Gen

/-! # The attention block's relative bias

A row of 256 bias entries is turned by the row number, one power of two at a time. -/

/-- One conditional turn of the rows: by `s` columns where bit `w` of the row number is set. -/
def rot (w s : BitVec 32) (r : IVec S128x256 32) (x : FVec Ideal S128x256 .f32) : FVec Ideal S128x256 .f32 :=
  select (cmpi .eq (andi (shrsi r (broadcast S128x256 w)) (broadcast S128x256 1#32)) (broadcast S128x256 1#32))
    (dynamicRotate 1 s none x rotates_S128x256_d1) x

/-- The row numbers. -/
def rowi : IVec S128x256 32 := iota .tc S128x256 32 [0] iota_S128x256_d0_w32

/-- The column numbers. -/
def coli : IVec S128x256 32 := iota .tc S128x256 32 [1] iota_S128x256_d1_w32

/-- A head's bias block from its row of bias entries. -/
def biasBlock (w : Vec Ideal S1x1x256 .f32) : FVec Ideal S1x128x640 .f32 :=
  k0_pay48 k0_pay43 rowi coli (k0_pay45 w) (k0_pay47 rowi (k0_pay46 w))

theorem biasBlock_second (w : Vec Ideal S1x1x256 .f32) :
    k0_pay74 (F := Ideal) k0_pay68 rowi coli (k0_pay70 w) (k0_pay71 w) k0_pay72 k0_pay73 = biasBlock w := rfl

theorem rot_roll (s : BitVec 32) (x : FVec Ideal S128x256 .f32) (i : Fin 128) (j : Fin 256) :
    dynamicRotate 1 s none x rotates_S128x256_d1 (ix2 i j) = x (ix2 i ⟨(j.val + 256 - s.toNat % 256) % 256, Nat.mod_lt _ (by decide)⟩) :=
  congrArg x (funext fun b => match b with | ⟨0, _⟩ => rfl | ⟨1, _⟩ => rfl)

theorem bit_eq : ∀ (n : Fin 7) (i : Fin 128),
    IntOp.cmpi .eq (IntOp.andi (IntOp.shrsi .vector (BitVec.ofNat 32 i.val) (BitVec.ofNat 32 n.val)) 1#32) 1#32 = if i.val / 2 ^ n.val % 2 = 1 then 1#1 else 0#1 := by
  decide +kernel

theorem rot_apply (n : Fin 7) (s : BitVec 32) (hs : s.toNat = 2 ^ n.val) (B : ℕ → EReal) (x : FVec Ideal S128x256 .f32)
    (hx : ∀ (i : Fin 128) (j : Fin 256), x (ix2 i j) = B ((j.val + 256 - i.val % 2 ^ n.val) % 256)) (i : Fin 128) (j : Fin 256) :
    rot (BitVec.ofNat 32 n.val) s rowi x (ix2 i j) = B ((j.val + 256 - i.val % 2 ^ (n.val + 1)) % 256) := by
  have h : rot (BitVec.ofNat 32 n.val) s rowi x (ix2 i j) = Scalar.select (IntOp.cmpi .eq (IntOp.andi (IntOp.shrsi .vector (BitVec.ofNat 32 i.val) (BitVec.ofNat 32 n.val)) 1#32) 1#32)
      (dynamicRotate 1 s none x rotates_S128x256_d1 (ix2 i j)) (x (ix2 i j)) := by
    unfold rot rowi
    exact congrArg (fun z => Scalar.select (IntOp.cmpi .eq (IntOp.andi (IntOp.shrsi .vector z (BitVec.ofNat 32 n.val)) 1#32) 1#32)
      (dynamicRotate 1 s none x rotates_S128x256_d1 (ix2 i j)) (x (ix2 i j))) (by pointwise [])
  rw [h, bit_eq, rot_roll, hx, hx, hs]
  have hi := i.isLt; have hj := j.isLt
  have key : ∀ a b : EReal, Scalar.select (α := EReal) 1#1 a b = a ∧ Scalar.select (α := EReal) 0#1 a b = b := fun a b => ⟨rfl, rfl⟩
  match n with
  | ⟨0, _⟩ => split <;> simp only [key] <;> refine congrArg B ?_ <;> simp only [Nat.reduceAdd, Nat.reducePow, Nat.reduceMod] at * <;> omega
  | ⟨1, _⟩ => split <;> simp only [key] <;> refine congrArg B ?_ <;> simp only [Nat.reduceAdd, Nat.reducePow, Nat.reduceMod] at * <;> omega
  | ⟨2, _⟩ => split <;> simp only [key] <;> refine congrArg B ?_ <;> simp only [Nat.reduceAdd, Nat.reducePow, Nat.reduceMod] at * <;> omega
  | ⟨3, _⟩ => split <;> simp only [key] <;> refine congrArg B ?_ <;> simp only [Nat.reduceAdd, Nat.reducePow, Nat.reduceMod] at * <;> omega
  | ⟨4, _⟩ => split <;> simp only [key] <;> refine congrArg B ?_ <;> simp only [Nat.reduceAdd, Nat.reducePow, Nat.reduceMod] at * <;> omega
  | ⟨5, _⟩ => split <;> simp only [key] <;> refine congrArg B ?_ <;> simp only [Nat.reduceAdd, Nat.reducePow, Nat.reduceMod] at * <;> omega
  | ⟨6, _⟩ => split <;> simp only [key] <;> refine congrArg B ?_ <;> simp only [Nat.reduceAdd, Nat.reducePow, Nat.reduceMod] at * <;> omega

theorem static_eq : ∀ (i : Fin 128) (j : Fin 640),
    IntOp.andi (IntOp.cmpi .sge (IntOp.shrsi .vector (BitVec.ofNat 32 j.val) 6#32) (IntOp.shrsi .vector (BitVec.ofNat 32 i.val) 6#32))
      (IntOp.cmpi .sle (IntOp.shrsi .vector (BitVec.ofNat 32 j.val) 6#32) (IntOp.addi (IntOp.shrsi .vector (BitVec.ofNat 32 i.val) 6#32) 8#32))
    = if i.val / 64 ≤ j.val / 64 ∧ j.val / 64 ≤ i.val / 64 + 8 then 1#1 else 0#1 := by
  decide +kernel

theorem slt_eq : ∀ (i : Fin 128) (j : Fin 256), IntOp.cmpi .slt (BitVec.ofNat 32 j.val) (BitVec.ofNat 32 i.val) = if j.val < i.val then 1#1 else 0#1 := by
  decide +kernel

/-- The bias of row `i` at band column `j`: within the window, the entry at the distance. -/
def band (B : ℕ → EReal) (i j : ℕ) : EReal :=
  if i / 64 ≤ j / 64 ∧ j / 64 ≤ i / 64 + 8 then B (j - 384 - i) else ⊥

theorem pay45_apply (w : Vec Ideal S1x1x256 .f32) (a b : Fin 1) : k0_pay45 (F := Ideal) w (ix2 a b) = w (ix3 0 0 0) := by
  have h : k0_pay45 (F := Ideal) w (ix2 a b) = ∑ x : Fin 256, Scalar.select (IntOp.cmpi .eq (BitVec.ofNat 32 x.val) 0#32) (w (ix3 0 0 x)) 0 := by
    pointwise [k0_pay45, k0_pay44]
  have z : ∀ x : Fin 256, IntOp.cmpi .eq (BitVec.ofNat 32 x.val) 0#32 = if x = 0 then 1#1 else 0#1 := by decide +kernel
  rw [h, Finset.sum_eq_single (0 : Fin 256)]
  · rw [z]; rfl
  · intro x _ hx
    rw [z, if_neg hx]; rfl
  · exact fun h => absurd (Finset.mem_univ _) h

theorem biasBlock_apply (w : Vec Ideal S1x1x256 .f32) (B : ℕ → EReal) (hB : ∀ l : Fin 256, w (ix3 0 0 l) = B l.val) (i : Fin 128) (j : Fin 640) :
    biasBlock w (ix3 0 i j) = band B i.val j.val := by
  have h0 : ∀ (i : Fin 128) (j : Fin 256), broadcastTo S128x256 (shapeCast S1x256 (k0_pay44 w) shapeCasts_S1x256_S1x256) broadcasts_S1x256_S128x256 (ix2 i j) = B ((j.val + 256 - i.val % 2 ^ (0 : Fin 7).val) % 256) := by
    intro i j
    have e : broadcastTo S128x256 (shapeCast S1x256 (k0_pay44 w) shapeCasts_S1x256_S1x256) broadcasts_S1x256_S128x256 (ix2 i j) = w (ix3 0 0 j) := by
      pointwise [k0_pay44]
    rw [e, hB]
    have := j.isLt
    refine congrArg B ?_
    show j.val = (j.val + 256 - i.val % 1) % 256
    omega
  have h7 := rot_apply 6 64#32 (by decide) B _ (rot_apply 5 32#32 (by decide) B _ (rot_apply 4 16#32 (by decide) B _ (rot_apply 3 8#32 (by decide) B _
    (rot_apply 2 4#32 (by decide) B _ (rot_apply 1 2#32 (by decide) B _ (rot_apply 0 1#32 (by decide) B _ h0))))))
  have h : biasBlock w (ix3 0 i j) = Scalar.select (k0_pay43 (ix2 i j))
      (if h : j.val < 384 then k0_pay45 (F := Ideal) w (ix2 0 0)
       else Scalar.select (IntOp.cmpi .slt (BitVec.ofNat 32 (j.val - 384)) (BitVec.ofNat 32 i.val)) (k0_pay45 (F := Ideal) w (ix2 0 0))
        (rot 6#32 64#32 rowi (k0_pay47 rowi (k0_pay46 w)) (ix2 i ⟨j.val - 384, by have := j.isLt; omega⟩)))
      (Named.named (F := Ideal) κ "mask" (φ := .f32) 4048155338#32) := by
    pointwise [biasBlock, k0_pay48, rot, rowi, coli]
  have hs : k0_pay43 (ix2 i j) = if i.val / 64 ≤ j.val / 64 ∧ j.val / 64 ≤ i.val / 64 + 8 then 1#1 else 0#1 := by
    refine Eq.trans ?_ (static_eq i j)
    pointwise [k0_pay43]
  have hk : k0_pay47 (F := Ideal) rowi (k0_pay46 w) = rot 5#32 32#32 rowi (rot 4#32 16#32 rowi (rot 3#32 8#32 rowi (rot 2#32 4#32 rowi (rot 1#32 2#32 rowi (rot 0#32 1#32 rowi
      (broadcastTo S128x256 (shapeCast S1x256 (k0_pay44 w) shapeCasts_S1x256_S1x256) broadcasts_S1x256_S128x256)))))) := rfl
  have key : ∀ a b : EReal, Scalar.select (α := EReal) 1#1 a b = a ∧ Scalar.select (α := EReal) 0#1 a b = b := fun a b => ⟨rfl, rfl⟩
  rw [h, hs, hk, pay45_apply, hB]
  have hj := j.isLt
  have hi := i.isLt
  unfold band
  by_cases hw : i.val / 64 ≤ j.val / 64 ∧ j.val / 64 ≤ i.val / 64 + 8
  · rw [if_pos hw, if_pos hw, (key _ _).1]
    by_cases hl : j.val < 384
    · rw [dif_pos hl]
      exact congrArg B (by show 0 = _; omega)
    · rw [dif_neg hl, slt_eq i ⟨j.val - 384, by omega⟩]
      by_cases hd : j.val - 384 < i.val
      · rw [if_pos (show (⟨j.val - 384, by omega⟩ : Fin 256).val < i.val from hd), (key _ _).1]
        exact congrArg B (by show 0 = _; omega)
      · rw [if_neg (show ¬(⟨j.val - 384, by omega⟩ : Fin 256).val < i.val from hd), (key _ _).2]
        refine (h7 i ⟨j.val - 384, by omega⟩).trans (congrArg B ?_)
        show (j.val - 384 + 256 - i.val % 128) % 256 = _
        omega
  · rw [if_neg hw, if_neg hw, (key _ _).2, mask_eq]

end Cert.AttFwdIdeal.Hand
end
-- ==== Proof.AttTrip.lean ====
module

public import proofs.«01_k».proof.Defs
public import proofs.«01_k».proof.Proof.AttBias
public import proofs.«01_k».proof.Proof.Gen.AttFwdIdeal.Frame
public import Idealize.ShloMosaic.Lib.Pointwise
public import Idealize.ShloMosaic.Lib.Tactic
public import Idealize.ShloMosaic.Lib.Writes
public import Idealize.ShloMosaic.Lib.VecWindow

@[expose] public section

set_option maxRecDepth 16384

noncomputable section

namespace Cert.AttFwdIdeal.Hand
open Idealize.ShloMosaic
open Cert.AttFwdIdeal Cert.AttFwdIdeal.Gen

/-- A buffer of the kernel. -/
abbrev Mr (S : Shape) (e : EltTy) := Memref sig .tc .vmem S e

/-! # One point of the attention kernel

The padded keys and values and the bias blocks the body builds, the rows one trip of its loop writes, and so what the point leaves in its three outputs. -/

/-- The keys (`off = 128`) or values (`off = 256`) of head `p` behind 512 rows of zeros. -/
def padded (Z : ℕ → ℕ → EReal) (off p e d : ℕ) : EReal := if e < 512 then 0 else Z (e - 512) (512 * p + off + d)

/-- The scores of row `r` of head `p` over its band. -/
def rowS (Z : ℕ → ℕ → EReal) (B : ℕ → ℕ → EReal) (p r : ℕ) : Fin 640 → EReal :=
  score (r / 128) (fun x => Z r (512 * p + x.val)) (fun j x => padded Z 128 p (128 * (r / 128) + j.val) x.val) (fun j => band (B p) (r % 128) j.val)

/-- The attended values of row `r` of head `p`. -/
def oAt (Z : ℕ → ℕ → EReal) (B : ℕ → ℕ → EReal) (r p : ℕ) (d : Fin 128) : EReal :=
  mix (rowS Z B p r) (fun j => padded Z 256 p (128 * (r / 128) + j.val) d.val)

/-- The logarithm of the sum of the exponentials of the scores of row `r` of head `p`. -/
def lseAt (Z : ℕ → ℕ → EReal) (B : ℕ → ℕ → EReal) (r p : ℕ) (d : Fin 128) : EReal := top (rowS Z B p r) + Ideal.log (tot (rowS Z B p r))

/-- The attended values normalised, scaled and gated. -/
def catAt (Z : ℕ → ℕ → EReal) (B : ℕ → ℕ → EReal) (G : ℕ → EReal) (r p : ℕ) (d : Fin 128) : EReal :=
  gated (fun x => oAt Z B r p x) (G (128 * p + d.val)) (Z r (512 * p + 384 + d.val)) d

/-- A function of row, head and lane as the contents of an output block. -/
def onBlock (f : ℕ → ℕ → Fin 128 → EReal) (y : S2048x256.Idx) : EReal := f (y 0).val ((y 1).val / 128) ⟨(y 1).val % 128, Nat.mod_lt _ (by decide)⟩

theorem load2 {N M R C : ℕ} {e : EltTy} (v : View sig .tc .vmem (⟨2, ![N, M]⟩ : Shape) e) (f : v.ty.Contents (Elt Ideal)) (Z : ℕ → ℕ → Elt Ideal e)
    (hf : ∀ y, v.read (Elt Ideal) f y = Z (y 0).val (y 1).val) {off : Fin 2 → ℕ} (r c : ℕ)
    (inb : ∀ a, off a + (![R, C] : Fin 2 → ℕ) a ≤ (⟨2, ![N, M]⟩ : Shape).size a) (h : off = ![r, c]) (i : Fin R) (d : Fin C) :
    v.readAt (Elt Ideal) (Rect.unit (s := ⟨2, ![N, M]⟩) off ![R, C] inb).toLoadRect f (ix2 i d) = Z (r + i.val) (c + d.val) := by
  subst h
  refine (hf _).trans ?_
  show Z (r + 1 * i.val) (c + 1 * d.val) = _
  rw [Nat.one_mul, Nat.one_mul]

theorem load3 {K N M A R C : ℕ} {e : EltTy} (v : View sig .tc .vmem (⟨3, ![K, N, M]⟩ : Shape) e) (f : v.ty.Contents (Elt Ideal)) (Z : ℕ → ℕ → ℕ → Elt Ideal e)
    (hf : ∀ y, v.read (Elt Ideal) f y = Z (y 0).val (y 1).val (y 2).val) {off : Fin 3 → ℕ} (p r c : ℕ)
    (inb : ∀ a, off a + (![A, R, C] : Fin 3 → ℕ) a ≤ (⟨3, ![K, N, M]⟩ : Shape).size a) (h : off = ![p, r, c]) (a : Fin A) (i : Fin R) (d : Fin C) :
    v.readAt (Elt Ideal) (Rect.unit (s := ⟨3, ![K, N, M]⟩) off ![A, R, C] inb).toLoadRect f (ix3 a i d) = Z (p + a.val) (r + i.val) (c + d.val) := by
  subst h
  refine (hf _).trans ?_
  show Z (p + 1 * a.val) (r + 1 * i.val) (c + 1 * d.val) = _
  rw [Nat.one_mul, Nat.one_mul, Nat.one_mul]

theorem off1_eq : ∀ k : Fin k0_t1_loop.trips, k0_off1 k = ![128 * k.val, 0] := by decide +kernel
theorem off2_eq : ∀ k : Fin k0_t1_loop.trips, k0_off2 k = ![0, 128 * k.val, 0] := by decide +kernel
theorem off3_eq : ∀ k : Fin k0_t1_loop.trips, k0_off3 k = ![128 * k.val, 128 * 0] := by decide +kernel
theorem off4_eq : ∀ k : Fin k0_t1_loop.trips, k0_off4 k = ![128 * k.val, 384] := by decide +kernel
theorem off5_eq : ∀ k : Fin k0_t1_loop.trips, k0_off5 k = ![128 * k.val, 512] := by decide +kernel
theorem off6_eq : ∀ k : Fin k0_t1_loop.trips, k0_off6 k = ![1, 128 * k.val, 0] := by decide +kernel
theorem off7_eq : ∀ k : Fin k0_t1_loop.trips, k0_off7 k = ![128 * k.val, 128 * 1] := by decide +kernel
theorem off8_eq : ∀ k : Fin k0_t1_loop.trips, k0_off8 k = ![128 * k.val, 896] := by decide +kernel

theorem ix2_eta {a b : ℕ} (x : (⟨2, ![a, b]⟩ : Shape).Idx) : x = ix2 (x 0) (x 1) := funext fun k => match k with | ⟨0, _⟩ => rfl | ⟨1, _⟩ => rfl

theorem ix3_eta {a b c : ℕ} (x : (⟨3, ![a, b, c]⟩ : Shape).Idx) : x = ix3 (x 0) (x 1) (x 2) := funext fun k => match k with | ⟨0, _⟩ => rfl | ⟨1, _⟩ => rfl | ⟨2, _⟩ => rfl

/-- A stored block of 128 rows of one head agrees with the output wherever it lies. -/
theorem piece (f : ℕ → ℕ → Fin 128 → EReal) (k p : ℕ) {off : Fin 2 → ℕ} (inb : ∀ a, off a + (![128, 128] : Fin 2 → ℕ) a ≤ S2048x256.size a) (h : off = ![128 * k, 128 * p])
    (w : (⟨2, ![128, 128]⟩ : Shape).Idx → EReal) (hw : ∀ i d : Fin 128, w (ix2 i d) = f (128 * k + i.val) p d) (x : (⟨2, ![128, 128]⟩ : Shape).Idx) :
    w x = onBlock f ((Rect.unit (s := S2048x256) off ![128, 128] inb).emb x) := by
  subst h
  refine (congrArg w (ix2_eta x)).trans ((hw _ _).trans ?_)
  have x1 : (x 1).val < 128 := (x 1).isLt
  have e1 : (128 * p + 1 * (x 1).val) / 128 = p := by omega
  have e2 : (128 * p + 1 * (x 1).val) % 128 = (x 1).val := by omega
  have e3 : (⟨(128 * p + 1 * (x 1).val) % 128, Nat.mod_lt _ (by decide)⟩ : Fin 128) = x 1 := Fin.ext e2
  show _ = f (128 * k + 1 * (x 0).val) ((128 * p + 1 * (x 1).val) / 128) ⟨(128 * p + 1 * (x 1).val) % 128, Nat.mod_lt _ (by decide)⟩
  rw [e1, e3, Nat.one_mul]

section
variable (Z : ℕ → ℕ → EReal) (B : ℕ → ℕ → EReal) (G : ℕ → EReal)

section
variable (t : Fin k0_t1_loop.trips) (p : ℕ) (q : Vec Ideal S128x128 .bf16) (k : Vec Ideal S1x640x128 .bf16) (bs : Vec Ideal S1x128x640 .f32) (v : Vec Ideal S1x640x128 .bf16)
  (hq : ∀ i x : Fin 128, q (ix2 i x) = Z (128 * t.val + i.val) (512 * p + x.val))
  (hk : ∀ (j : Fin 640) (x : Fin 128), k (ix3 0 j x) = padded Z 128 p (128 * t.val + j.val) x.val)
  (hb : ∀ (i : Fin 128) (j : Fin 640), bs (ix3 0 i j) = band (B p) i.val j.val)
  (hv : ∀ (j : Fin 640) (x : Fin 128), v (ix3 0 j x) = padded Z 256 p (128 * t.val + j.val) x.val)

include hq hk hb in
theorem row_eq (i : Fin 128) : srow t q k bs i = rowS Z B p (128 * t.val + i.val) := by
  have hi := i.isLt
  have e1 : (128 * t.val + i.val) / 128 = t.val := by omega
  have e2 : (128 * t.val + i.val) % 128 = i.val := by omega
  unfold srow rowS
  rw [e1, e2]
  simp only [hq, hk, hb]

include hq hk hb hv in
theorem mix_row (i d : Fin 128) : mix (srow t q k bs i) (fun j => v (ix3 0 j d)) = oAt Z B (128 * t.val + i.val) p d := by
  have hi := i.isLt
  have e1 : (128 * t.val + i.val) / 128 = t.val := by omega
  rw [row_eq Z B t p q k bs hq hk hb]
  unfold oAt
  rw [e1]
  simp only [hv]

include hq hk hb hv in
theorem o_at (i d : Fin 128) : k0_pay8 (F := Ideal) 0#32 1#32 t q k bs v (ix2 i d) = oAt Z B (128 * t.val + i.val) p d :=
  (pay8_apply t q k bs v i d).trans (mix_row Z B t p q k bs v hq hk hb hv i d)

include hq hk hb in
theorem lse_at (i d : Fin 128) : k0_pay10 (F := Ideal) (k0_pay4 0#32 1#32 t q k bs) (k0_pay9 0#32 1#32 t q k bs) (ix2 i d) = lseAt Z B (128 * t.val + i.val) p d := by
  rw [pay10_apply, row_eq Z B t p q k bs hq hk hb]
  rfl

include hq hk hb hv in
theorem cat_at (ga : Vec Ideal S128x128 .bf16) (g : Vec Ideal S1x128 .f32) (hga : ∀ i d : Fin 128, ga (ix2 i d) = Z (128 * t.val + i.val) (512 * p + 384 + d.val))
    (hg : ∀ d : Fin 128, g (ix2 0 d) = G (128 * p + d.val)) (i d : Fin 128) :
    k0_pay11 (F := Ideal) (k0_pay7 0#32 1#32 t q k bs v) ga g (ix2 i d) = catAt Z B G (128 * t.val + i.val) p d := by
  rw [pay11_apply, hga, hg]
  unfold catAt
  exact congrArg (fun o => gated o _ _ d) (funext fun x => (pay7_apply t q k bs v i x).trans (mix_row Z B t p q k bs v hq hk hb hv i x))
end

/-! ## The scratch buffers -/

/-- A copied slab of 256 rows agrees with the padded array. -/
theorem slab_val {arg1 : Mr S2048x1024 .bf16} (harg1 : arg1.IsWhole) (x0 : Vec Ideal S2048x1024 .bf16) (hZ : ∀ y, x0 y = Z (y 0).val (y 1).val) (off p e r c : ℕ)
    (inb : ∀ a, (![p, e, 0] : Fin 3 → ℕ) a + S1x256x128.size a ≤ S2x2560x128.size a) (inb' : ∀ a, (![r, c] : Fin 2 → ℕ) a + S256x128.size a ≤ S2048x1024.size a)
    (w : Vec Ideal S1x256x128 .bf16)
    (hw : w = k0_pay25 (F := Ideal) (arg1.view.readAt (Elt Ideal) (Rect.unit (s := S2048x1024) ![r, c] S256x128.size inb').toLoadRect (harg1.unread x0))) (he : e = 512 + r ∧ c = 512 * p + off) (x : S1x256x128.Idx) :
    w x = (fun y : S2x2560x128.Idx => padded Z off (y 0).val (y 1).val (y 2).val) ((Rect.unit (s := S2x2560x128) ![p, e, 0] S1x256x128.size inb).emb x) := by
  obtain ⟨he, hc⟩ := he
  subst hw
  have x0' : (x 0).val < 1 := (x 0).isLt
  have h1 : k0_pay25 (F := Ideal) (arg1.view.readAt (Elt Ideal) (Rect.unit (s := S2048x1024) ![r, c] S256x128.size inb').toLoadRect (harg1.unread x0)) x
      = arg1.view.readAt (Elt Ideal) (Rect.unit (s := S2048x1024) ![r, c] S256x128.size inb').toLoadRect (harg1.unread x0) (ix2 (x 1) (x 2)) := by
    have hx : x = ix3 (0 : Fin 1) (x 1) (x 2) := (ix3_eta x).trans (congrArg (fun a : Fin 1 => (ix3 a (x 1 : Fin 256) (x 2 : Fin 128) : S1x256x128.Idx)) (Fin.eq_zero (show Fin 1 from x 0)))
    refine (congrArg _ hx).trans ?_
    pointwise [k0_pay25]
  refine h1.trans ((load2 arg1.view _ Z (fun y => (congrFun (harg1.read_unread x0) y).trans (hZ y)) r c inb' rfl (x 1) (x 2)).trans ?_)
  show _ = padded Z off (p + 1 * (x 0).val) (e + 1 * (x 1).val) (0 + 1 * (x 2).val)
  unfold padded
  rw [if_neg (by omega)]
  have e0 : e + 1 * (x 1).val - 512 = r + (x 1).val := by omega
  have e1 : 512 * (p + 1 * (x 0).val) + off + (0 + 1 * (x 2).val) = c + (x 2).val := by omega
  rw [e0, e1]

/-- The rows of zeros agree with the padded array. -/
theorem zero_val (off p : ℕ) (inb : ∀ a, (![p, 0, 0] : Fin 3 → ℕ) a + S1x512x128.size a ≤ S2x2560x128.size a) (w : Vec Ideal S1x512x128 .bf16) (hw : w = k0_pay23 (F := Ideal)) (x : S1x512x128.Idx) :
    w x = (fun y : S2x2560x128.Idx => padded Z off (y 0).val (y 1).val (y 2).val) ((Rect.unit (s := S2x2560x128) ![p, 0, 0] S1x512x128.size inb).emb x) := by
  subst hw
  have x1 : (x 1).val < 512 := (x 1).isLt
  show _ = padded Z off (p + 1 * (x 0).val) (0 + 1 * (x 1).val) (0 + 1 * (x 2).val)
  unfold padded
  rw [if_pos (by omega)]
  refine (congrArg _ (ix3_eta x)).trans ?_
  pointwise [k0_pay23]

theorem mem256 (y : S2x2560x128.Idx) (p e : ℕ) (inb : ∀ a, (![p, e, 0] : Fin 3 → ℕ) a + (![1, 256, 128] : Fin 3 → ℕ) a ≤ S2x2560x128.size a) :
    y ∈ (Rect.unit (s := S2x2560x128) ![p, e, 0] (![1, 256, 128] : Fin 3 → ℕ) inb).set ↔ (y 0).val = p ∧ e ≤ (y 1).val ∧ (y 1).val < e + 256 := by
  rw [Rect.mem_set_unit]
  constructor
  · intro h
    have h0 : p ≤ (y 0).val ∧ (y 0).val < p + 1 := h 0
    have h1 : e ≤ (y 1).val ∧ (y 1).val < e + 256 := h 1
    omega
  · intro h a
    have h2 : (y 2).val < 128 := (y 2).isLt
    match a with
    | ⟨0, _⟩ => show p ≤ (y 0).val ∧ (y 0).val < p + 1; omega
    | ⟨1, _⟩ => show e ≤ (y 1).val ∧ (y 1).val < e + 256; omega
    | ⟨2, _⟩ => show 0 ≤ (y 2).val ∧ (y 2).val < 0 + 128; omega

theorem mem512 (y : S2x2560x128.Idx) (p : ℕ) (inb : ∀ a, (![p, 0, 0] : Fin 3 → ℕ) a + (![1, 512, 128] : Fin 3 → ℕ) a ≤ S2x2560x128.size a) :
    y ∈ (Rect.unit (s := S2x2560x128) ![p, 0, 0] (![1, 512, 128] : Fin 3 → ℕ) inb).set ↔ (y 0).val = p ∧ (y 1).val < 512 := by
  rw [Rect.mem_set_unit]
  constructor
  · intro h
    have h0 : p ≤ (y 0).val ∧ (y 0).val < p + 1 := h 0
    have h1 : 0 ≤ (y 1).val ∧ (y 1).val < 0 + 512 := h 1
    omega
  · intro h a
    have h2 : (y 2).val < 128 := (y 2).isLt
    match a with
    | ⟨0, _⟩ => show p ≤ (y 0).val ∧ (y 0).val < p + 1; omega
    | ⟨1, _⟩ => show 0 ≤ (y 1).val ∧ (y 1).val < 0 + 512; omega
    | ⟨2, _⟩ => show 0 ≤ (y 2).val ∧ (y 2).val < 0 + 128; omega

theorem covered (Q : Prop) (a b : ℕ) (ha : a < 2) (hb : b < 2560) :
    (a = 1 ∧ 2304 ≤ b ∧ b < 2304 + 256) ∨ (a = 1 ∧ 2048 ≤ b ∧ b < 2048 + 256) ∨ (a = 1 ∧ 1792 ≤ b ∧ b < 1792 + 256) ∨ (a = 1 ∧ 1536 ≤ b ∧ b < 1536 + 256) ∨ (a = 1 ∧ 1280 ≤ b ∧ b < 1280 + 256) ∨ (a = 1 ∧ 1024 ≤ b ∧ b < 1024 + 256) ∨ (a = 1 ∧ 768 ≤ b ∧ b < 768 + 256) ∨ (a = 1 ∧ 512 ≤ b ∧ b < 512 + 256) ∨ (a = 1 ∧ b < 512) ∨ (a = 0 ∧ 2304 ≤ b ∧ b < 2304 + 256) ∨ (a = 0 ∧ 2048 ≤ b ∧ b < 2048 + 256) ∨ (a = 0 ∧ 1792 ≤ b ∧ b < 1792 + 256) ∨ (a = 0 ∧ 1536 ≤ b ∧ b < 1536 + 256) ∨ (a = 0 ∧ 1280 ≤ b ∧ b < 1280 + 256) ∨ (a = 0 ∧ 1024 ≤ b ∧ b < 1024 + 256) ∨ (a = 0 ∧ 768 ≤ b ∧ b < 768 + 256) ∨ (a = 0 ∧ 512 ≤ b ∧ b < 512 + 256) ∨ (a = 0 ∧ b < 512) ∨ Q := by
  rcases (by omega : a = 0 ∨ a = 1) with ha | ha
  · subst ha
    by_cases h2304 : 2304 ≤ b
    · exact (Or.inr (Or.inr (Or.inr (Or.inr (Or.inr (Or.inr (Or.inr (Or.inr (Or.inr (Or.inl ⟨rfl, h2304, by omega⟩))))))))))
    by_cases h2048 : 2048 ≤ b
    · exact (Or.inr (Or.inr (Or.inr (Or.inr (Or.inr (Or.inr (Or.inr (Or.inr (Or.inr (Or.inr (Or.inl ⟨rfl, h2048, by omega⟩)))))))))))
    by_cases h1792 : 1792 ≤ b
    · exact (Or.inr (Or.inr (Or.inr (Or.inr (Or.inr (Or.inr (Or.inr (Or.inr (Or.inr (Or.inr (Or.inr (Or.inl ⟨rfl, h1792, by omega⟩))))))))))))
    by_cases h1536 : 1536 ≤ b
    · exact (Or.inr (Or.inr (Or.inr (Or.inr (Or.inr (Or.inr (Or.inr (Or.inr (Or.inr (Or.inr (Or.inr (Or.inr (Or.inl ⟨rfl, h1536, by omega⟩)))))))))))))
    by_cases h1280 : 1280 ≤ b
    · exact (Or.inr (Or.inr (Or.inr (Or.inr (Or.inr (Or.inr (Or.inr (Or.inr (Or.inr (Or.inr (Or.inr (Or.inr (Or.inr (Or.inl ⟨rfl, h1280, by omega⟩))))))))))))))
    by_cases h1024 : 1024 ≤ b
    · exact (Or.inr (Or.inr (Or.inr (Or.inr (Or.inr (Or.inr (Or.inr (Or.inr (Or.inr (Or.inr (Or.inr (Or.inr (Or.inr (Or.inr (Or.inl ⟨rfl, h1024, by omega⟩)))))))))))))))
    by_cases h768 : 768 ≤ b
    · exact (Or.inr (Or.inr (Or.inr (Or.inr (Or.inr (Or.inr (Or.inr (Or.inr (Or.inr (Or.inr (Or.inr (Or.inr (Or.inr (Or.inr (Or.inr (Or.inl ⟨rfl, h768, by omega⟩))))))))))))))))
    by_cases h512 : 512 ≤ b
    · exact (Or.inr (Or.inr (Or.inr (Or.inr (Or.inr (Or.inr (Or.inr (Or.inr (Or.inr (Or.inr (Or.inr (Or.inr (Or.inr (Or.inr (Or.inr (Or.inr (Or.inl ⟨rfl, h512, by omega⟩)))))))))))))))))
    exact (Or.inr (Or.inr (Or.inr (Or.inr (Or.inr (Or.inr (Or.inr (Or.inr (Or.inr (Or.inr (Or.inr (Or.inr (Or.inr (Or.inr (Or.inr (Or.inr (Or.inr (Or.inl ⟨rfl, Nat.lt_of_not_le h512⟩))))))))))))))))))
  · subst ha
    by_cases h2304 : 2304 ≤ b
    · exact (Or.inl ⟨rfl, h2304, by omega⟩)
    by_cases h2048 : 2048 ≤ b
    · exact (Or.inr (Or.inl ⟨rfl, h2048, by omega⟩))
    by_cases h1792 : 1792 ≤ b
    · exact (Or.inr (Or.inr (Or.inl ⟨rfl, h1792, by omega⟩)))
    by_cases h1536 : 1536 ≤ b
    · exact (Or.inr (Or.inr (Or.inr (Or.inl ⟨rfl, h1536, by omega⟩))))
    by_cases h1280 : 1280 ≤ b
    · exact (Or.inr (Or.inr (Or.inr (Or.inr (Or.inl ⟨rfl, h1280, by omega⟩)))))
    by_cases h1024 : 1024 ≤ b
    · exact (Or.inr (Or.inr (Or.inr (Or.inr (Or.inr (Or.inl ⟨rfl, h1024, by omega⟩))))))
    by_cases h768 : 768 ≤ b
    · exact (Or.inr (Or.inr (Or.inr (Or.inr (Or.inr (Or.inr (Or.inl ⟨rfl, h768, by omega⟩)))))))
    by_cases h512 : 512 ≤ b
    · exact (Or.inr (Or.inr (Or.inr (Or.inr (Or.inr (Or.inr (Or.inr (Or.inl ⟨rfl, h512, by omega⟩))))))))
    exact (Or.inr (Or.inr (Or.inr (Or.inr (Or.inr (Or.inr (Or.inr (Or.inr (Or.inl ⟨rfl, Nat.lt_of_not_le h512⟩)))))))))

theorem bias_val (w : Vec Ideal S1x1x256 .f32) (p : ℕ) (hB : ∀ l : Fin 256, w (ix3 0 0 l) = B p l.val) (inb : ∀ a, (![p, 0, 0] : Fin 3 → ℕ) a + S1x128x640.size a ≤ S2x128x640.size a)
    (u : Vec Ideal S1x128x640 .f32) (hu : u = biasBlock w) (x : S1x128x640.Idx) :
    u x = (fun y : S2x128x640.Idx => band (B (y 0).val) (y 1).val (y 2).val) ((Rect.unit (s := S2x128x640) ![p, 0, 0] S1x128x640.size inb).emb x) := by
  subst hu
  have x0 : (x 0).val < 1 := (x 0).isLt
  have e0 : p + 1 * (x 0).val = p := by omega
  have e1 : 0 + 1 * (x 1).val = (x 1).val := by omega
  have e2 : 0 + 1 * (x 2).val = (x 2).val := by omega
  show _ = band (B (p + 1 * (x 0).val)) (0 + 1 * (x 1).val) (0 + 1 * (x 2).val)
  rw [e0, e1, e2]
  have hx : x = ix3 (0 : Fin 1) (x 1) (x 2) := (ix3_eta x).trans (congrArg (fun a : Fin 1 => (ix3 a (x 1 : Fin 128) (x 2 : Fin 640) : S1x128x640.Idx)) (Fin.eq_zero (show Fin 1 from x 0)))
  exact (congrArg _ hx).trans (biasBlock_apply w (B p) hB (x 1) (x 2))

theorem mem640 (y : S2x128x640.Idx) (p : ℕ) (inb : ∀ a, (![p, 0, 0] : Fin 3 → ℕ) a + (![1, 128, 640] : Fin 3 → ℕ) a ≤ S2x128x640.size a) :
    y ∈ (Rect.unit (s := S2x128x640) ![p, 0, 0] (![1, 128, 640] : Fin 3 → ℕ) inb).set ↔ (y 0).val = p := by
  rw [Rect.mem_set_unit]
  constructor
  · intro h
    have h0 : p ≤ (y 0).val ∧ (y 0).val < p + 1 := h 0
    omega
  · intro h a
    have h1 : (y 1).val < 128 := (y 1).isLt
    have h2 : (y 2).val < 640 := (y 2).isLt
    match a with
    | ⟨0, _⟩ => show p ≤ (y 0).val ∧ (y 0).val < p + 1; omega
    | ⟨1, _⟩ => show 0 ≤ (y 1).val ∧ (y 1).val < 0 + 128; omega
    | ⟨2, _⟩ => show 0 ≤ (y 2).val ∧ (y 2).val < 0 + 640; omega

theorem bias_load {arg2 : Mr S2x1x256 .f32} (harg2 : arg2.IsWhole) (x1 : Vec Ideal S2x1x256 .f32) (hB : ∀ y, x1 y = B (y 0).val (y 2).val) (p : ℕ)
    (inb : ∀ a, (![p, 0, 0] : Fin 3 → ℕ) a + S1x1x256.size a ≤ S2x1x256.size a) (l : Fin 256) :
    arg2.view.readAt (Elt Ideal) (Rect.unit (s := S2x1x256) ![p, 0, 0] S1x1x256.size inb).toLoadRect (harg2.unread x1) (ix3 0 0 l) = B p l.val := by
  refine (load3 arg2.view _ (fun a _ b => B a b) (fun y => (congrFun (harg2.read_unread x1) y).trans (hB y)) p 0 0 inb rfl 0 0 l).trans ?_
  show B (p + 0) (0 + l.val) = _
  rw [Nat.add_zero, Nat.zero_add]

variable (c : Dev nD) (i : grid0.Coords) (arg1 : Mr S2048x1024 .bf16) (harg1 : arg1.IsWhole) (arg2 : Mr S2x1x256 .f32) (harg2 : arg2.IsWhole) (arg3 : Mr S1x256 .f32) (harg3 : arg3.IsWhole) (arg4 : Mr S2048x256 .bf16) (harg4 : arg4.IsWhole) (arg5 : Mr S2048x256 .bf16) (harg5 : arg5.IsWhole) (arg6 : Mr S2048x256 .f32) (harg6 : arg6.IsWhole) (arg7 : Mr S2x2560x128 .bf16) (harg7 : arg7.IsWhole) (arg8 : Mr S2x2560x128 .bf16) (harg8 : arg8.IsWhole) (arg9 : Mr S2x128x640 .f32) (harg9 : arg9.IsWhole)
  (x0 : Vec Ideal S2048x1024 .bf16) (x1 : Vec Ideal S2x1x256 .f32) (x2 : Vec Ideal S1x256 .f32)

theorem keys_read (hZ : ∀ y, x0 y = Z (y 0).val (y 1).val) (f : arg7.view.ty.Contents (Elt Ideal)) (y : S2x2560x128.Idx) :
    arg7.view.read (Elt Ideal) (arg7.view.writes (Elt Ideal) f (kernelRun0_A.sl.HS0_18 c arg1 harg1 x0)) y = padded Z 128 (y 0).val (y 1).val (y 2).val := by
  refine View.read_writes_apply_of_pieces arg7.view f (fun y => padded Z 128 (y 0).val (y 1).val (y 2).val) _ ?_ y ?_
  · unfold kernelRun0_A.sl.HS0_18
    refine List.forall_mem_cons.mpr ⟨slab_val Z harg1 x0 hZ 128 1 2304 1792 640 inb_S2x2560x128_S1x256x128_1_2304_0 inb_S2048x1024_S256x128_1792_640 _ ?_ ⟨rfl, rfl⟩, ?_⟩
    · rfl
    refine List.forall_mem_cons.mpr ⟨slab_val Z harg1 x0 hZ 128 1 2048 1536 640 inb_S2x2560x128_S1x256x128_1_2048_0 inb_S2048x1024_S256x128_1536_640 _ ?_ ⟨rfl, rfl⟩, ?_⟩
    · rfl
    refine List.forall_mem_cons.mpr ⟨slab_val Z harg1 x0 hZ 128 1 1792 1280 640 inb_S2x2560x128_S1x256x128_1_1792_0 inb_S2048x1024_S256x128_1280_640 _ ?_ ⟨rfl, rfl⟩, ?_⟩
    · rfl
    refine List.forall_mem_cons.mpr ⟨slab_val Z harg1 x0 hZ 128 1 1536 1024 640 inb_S2x2560x128_S1x256x128_1_1536_0 inb_S2048x1024_S256x128_1024_640 _ ?_ ⟨rfl, rfl⟩, ?_⟩
    · rfl
    refine List.forall_mem_cons.mpr ⟨slab_val Z harg1 x0 hZ 128 1 1280 768 640 inb_S2x2560x128_S1x256x128_1_1280_0 inb_S2048x1024_S256x128_768_640 _ ?_ ⟨rfl, rfl⟩, ?_⟩
    · rfl
    refine List.forall_mem_cons.mpr ⟨slab_val Z harg1 x0 hZ 128 1 1024 512 640 inb_S2x2560x128_S1x256x128_1_1024_0 inb_S2048x1024_S256x128_512_640 _ ?_ ⟨rfl, rfl⟩, ?_⟩
    · rfl
    refine List.forall_mem_cons.mpr ⟨slab_val Z harg1 x0 hZ 128 1 768 256 640 inb_S2x2560x128_S1x256x128_1_768_0 inb_S2048x1024_S256x128_256_640 _ ?_ ⟨rfl, rfl⟩, ?_⟩
    · rfl
    refine List.forall_mem_cons.mpr ⟨slab_val Z harg1 x0 hZ 128 1 512 0 640 inb_S2x2560x128_S1x256x128_1_512_0 inb_S2048x1024_S256x128_0_640 _ ?_ ⟨rfl, rfl⟩, ?_⟩
    · rfl
    refine List.forall_mem_cons.mpr ⟨zero_val Z 128 1 inb_S2x2560x128_S1x512x128_1_0_0 _ ?_, ?_⟩
    · rfl
    refine List.forall_mem_cons.mpr ⟨slab_val Z harg1 x0 hZ 128 0 2304 1792 128 inb_S2x2560x128_S1x256x128_0_2304_0 inb_S2048x1024_S256x128_1792_128 _ ?_ ⟨rfl, rfl⟩, ?_⟩
    · rfl
    refine List.forall_mem_cons.mpr ⟨slab_val Z harg1 x0 hZ 128 0 2048 1536 128 inb_S2x2560x128_S1x256x128_0_2048_0 inb_S2048x1024_S256x128_1536_128 _ ?_ ⟨rfl, rfl⟩, ?_⟩
    · rfl
    refine List.forall_mem_cons.mpr ⟨slab_val Z harg1 x0 hZ 128 0 1792 1280 128 inb_S2x2560x128_S1x256x128_0_1792_0 inb_S2048x1024_S256x128_1280_128 _ ?_ ⟨rfl, rfl⟩, ?_⟩
    · rfl
    refine List.forall_mem_cons.mpr ⟨slab_val Z harg1 x0 hZ 128 0 1536 1024 128 inb_S2x2560x128_S1x256x128_0_1536_0 inb_S2048x1024_S256x128_1024_128 _ ?_ ⟨rfl, rfl⟩, ?_⟩
    · rfl
    refine List.forall_mem_cons.mpr ⟨slab_val Z harg1 x0 hZ 128 0 1280 768 128 inb_S2x2560x128_S1x256x128_0_1280_0 inb_S2048x1024_S256x128_768_128 _ ?_ ⟨rfl, rfl⟩, ?_⟩
    · rfl
    refine List.forall_mem_cons.mpr ⟨slab_val Z harg1 x0 hZ 128 0 1024 512 128 inb_S2x2560x128_S1x256x128_0_1024_0 inb_S2048x1024_S256x128_512_128 _ ?_ ⟨rfl, rfl⟩, ?_⟩
    · rfl
    refine List.forall_mem_cons.mpr ⟨slab_val Z harg1 x0 hZ 128 0 768 256 128 inb_S2x2560x128_S1x256x128_0_768_0 inb_S2048x1024_S256x128_256_128 _ ?_ ⟨rfl, rfl⟩, ?_⟩
    · rfl
    refine List.forall_mem_cons.mpr ⟨slab_val Z harg1 x0 hZ 128 0 512 0 128 inb_S2x2560x128_S1x256x128_0_512_0 inb_S2048x1024_S256x128_0_128 _ ?_ ⟨rfl, rfl⟩, ?_⟩
    · rfl
    refine List.forall_mem_cons.mpr ⟨zero_val Z 128 0 inb_S2x2560x128_S1x512x128_0_0_0 _ ?_, ?_⟩
    · rfl
    exact fun _ h => absurd h List.not_mem_nil
  · unfold kernelRun0_A.sl.HS0_18
    have y0 : (y 0).val < 2 := (y 0).isLt
    have y1 : (y 1).val < 2560 := (y 1).isLt
    simp only [List.exists_mem_cons_iff, mem256, mem512]
    exact covered _ _ _ y0 y1

theorem values_read (hZ : ∀ y, x0 y = Z (y 0).val (y 1).val) (f : arg8.view.ty.Contents (Elt Ideal)) (y : S2x2560x128.Idx) :
    arg8.view.read (Elt Ideal) (arg8.view.writes (Elt Ideal) f (kernelRun0_A.sl.HS1_18 c arg1 harg1 x0)) y = padded Z 256 (y 0).val (y 1).val (y 2).val := by
  refine View.read_writes_apply_of_pieces arg8.view f (fun y => padded Z 256 (y 0).val (y 1).val (y 2).val) _ ?_ y ?_
  · unfold kernelRun0_A.sl.HS1_18
    refine List.forall_mem_cons.mpr ⟨slab_val Z harg1 x0 hZ 256 1 2304 1792 768 inb_S2x2560x128_S1x256x128_1_2304_0 inb_S2048x1024_S256x128_1792_768 _ ?_ ⟨rfl, rfl⟩, ?_⟩
    · rfl
    refine List.forall_mem_cons.mpr ⟨slab_val Z harg1 x0 hZ 256 1 2048 1536 768 inb_S2x2560x128_S1x256x128_1_2048_0 inb_S2048x1024_S256x128_1536_768 _ ?_ ⟨rfl, rfl⟩, ?_⟩
    · rfl
    refine List.forall_mem_cons.mpr ⟨slab_val Z harg1 x0 hZ 256 1 1792 1280 768 inb_S2x2560x128_S1x256x128_1_1792_0 inb_S2048x1024_S256x128_1280_768 _ ?_ ⟨rfl, rfl⟩, ?_⟩
    · rfl
    refine List.forall_mem_cons.mpr ⟨slab_val Z harg1 x0 hZ 256 1 1536 1024 768 inb_S2x2560x128_S1x256x128_1_1536_0 inb_S2048x1024_S256x128_1024_768 _ ?_ ⟨rfl, rfl⟩, ?_⟩
    · rfl
    refine List.forall_mem_cons.mpr ⟨slab_val Z harg1 x0 hZ 256 1 1280 768 768 inb_S2x2560x128_S1x256x128_1_1280_0 inb_S2048x1024_S256x128_768_768 _ ?_ ⟨rfl, rfl⟩, ?_⟩
    · rfl
    refine List.forall_mem_cons.mpr ⟨slab_val Z harg1 x0 hZ 256 1 1024 512 768 inb_S2x2560x128_S1x256x128_1_1024_0 inb_S2048x1024_S256x128_512_768 _ ?_ ⟨rfl, rfl⟩, ?_⟩
    · rfl
    refine List.forall_mem_cons.mpr ⟨slab_val Z harg1 x0 hZ 256 1 768 256 768 inb_S2x2560x128_S1x256x128_1_768_0 inb_S2048x1024_S256x128_256_768 _ ?_ ⟨rfl, rfl⟩, ?_⟩
    · rfl
    refine List.forall_mem_cons.mpr ⟨slab_val Z harg1 x0 hZ 256 1 512 0 768 inb_S2x2560x128_S1x256x128_1_512_0 inb_S2048x1024_S256x128_0_768 _ ?_ ⟨rfl, rfl⟩, ?_⟩
    · rfl
    refine List.forall_mem_cons.mpr ⟨zero_val Z 256 1 inb_S2x2560x128_S1x512x128_1_0_0 _ ?_, ?_⟩
    · rfl
    refine List.forall_mem_cons.mpr ⟨slab_val Z harg1 x0 hZ 256 0 2304 1792 256 inb_S2x2560x128_S1x256x128_0_2304_0 inb_S2048x1024_S256x128_1792_256 _ ?_ ⟨rfl, rfl⟩, ?_⟩
    · rfl
    refine List.forall_mem_cons.mpr ⟨slab_val Z harg1 x0 hZ 256 0 2048 1536 256 inb_S2x2560x128_S1x256x128_0_2048_0 inb_S2048x1024_S256x128_1536_256 _ ?_ ⟨rfl, rfl⟩, ?_⟩
    · rfl
    refine List.forall_mem_cons.mpr ⟨slab_val Z harg1 x0 hZ 256 0 1792 1280 256 inb_S2x2560x128_S1x256x128_0_1792_0 inb_S2048x1024_S256x128_1280_256 _ ?_ ⟨rfl, rfl⟩, ?_⟩
    · rfl
    refine List.forall_mem_cons.mpr ⟨slab_val Z harg1 x0 hZ 256 0 1536 1024 256 inb_S2x2560x128_S1x256x128_0_1536_0 inb_S2048x1024_S256x128_1024_256 _ ?_ ⟨rfl, rfl⟩, ?_⟩
    · rfl
    refine List.forall_mem_cons.mpr ⟨slab_val Z harg1 x0 hZ 256 0 1280 768 256 inb_S2x2560x128_S1x256x128_0_1280_0 inb_S2048x1024_S256x128_768_256 _ ?_ ⟨rfl, rfl⟩, ?_⟩
    · rfl
    refine List.forall_mem_cons.mpr ⟨slab_val Z harg1 x0 hZ 256 0 1024 512 256 inb_S2x2560x128_S1x256x128_0_1024_0 inb_S2048x1024_S256x128_512_256 _ ?_ ⟨rfl, rfl⟩, ?_⟩
    · rfl
    refine List.forall_mem_cons.mpr ⟨slab_val Z harg1 x0 hZ 256 0 768 256 256 inb_S2x2560x128_S1x256x128_0_768_0 inb_S2048x1024_S256x128_256_256 _ ?_ ⟨rfl, rfl⟩, ?_⟩
    · rfl
    refine List.forall_mem_cons.mpr ⟨slab_val Z harg1 x0 hZ 256 0 512 0 256 inb_S2x2560x128_S1x256x128_0_512_0 inb_S2048x1024_S256x128_0_256 _ ?_ ⟨rfl, rfl⟩, ?_⟩
    · rfl
    refine List.forall_mem_cons.mpr ⟨zero_val Z 256 0 inb_S2x2560x128_S1x512x128_0_0_0 _ ?_, ?_⟩
    · rfl
    exact fun _ h => absurd h List.not_mem_nil
  · unfold kernelRun0_A.sl.HS1_18
    have y0 : (y 0).val < 2 := (y 0).isLt
    have y1 : (y 1).val < 2560 := (y 1).isLt
    simp only [List.exists_mem_cons_iff, mem256, mem512]
    exact covered _ _ _ y0 y1

theorem bias_read (hB : ∀ y, x1 y = B (y 0).val (y 2).val) (f : arg9.view.ty.Contents (Elt Ideal)) (y : S2x128x640.Idx) :
    arg9.view.read (Elt Ideal) (arg9.view.writes (Elt Ideal) f (kernelRun0_A.sl.HS2_2 c arg2 harg2 x1)) y = band (B (y 0).val) (y 1).val (y 2).val := by
  refine View.read_writes_apply_of_pieces arg9.view f (fun y => band (B (y 0).val) (y 1).val (y 2).val) _ ?_ y ?_
  · unfold kernelRun0_A.sl.HS2_2
    refine List.forall_mem_cons.mpr ⟨bias_val B _ 1 (bias_load B harg2 x1 hB 1 inb_S2x1x256_S1x1x256_1_0_0) inb_S2x128x640_S1x128x640_1_0_0 _ ?_, ?_⟩
    · exact biasBlock_second _
    refine List.forall_mem_cons.mpr ⟨bias_val B _ 0 (bias_load B harg2 x1 hB 0 inb_S2x1x256_S1x1x256_0_0_0) inb_S2x128x640_S1x128x640_0_0_0 _ ?_, ?_⟩
    · rfl
    exact fun _ h => absurd h List.not_mem_nil
  · unfold kernelRun0_A.sl.HS2_2
    have y0 : (y 0).val < 2 := (y 0).isLt
    simp only [List.exists_mem_cons_iff, mem640]
    rcases Nat.lt_or_ge (y 0).val 1 with h | h
    · exact Or.inr (Or.inl (Nat.lt_one_iff.mp h))
    · exact Or.inl (Nat.le_antisymm (Nat.le_of_lt_succ y0) h)

/-! ## A trip of the loop -/

theorem trip_pieces (X1 : arg1.view.ty.Contents (Elt Ideal)) (X3 : arg3.view.ty.Contents (Elt Ideal)) (X7 : arg7.view.ty.Contents (Elt Ideal)) (X8 : arg8.view.ty.Contents (Elt Ideal)) (X9 : arg9.view.ty.Contents (Elt Ideal))
    (h1 : ∀ y, arg1.view.read (Elt Ideal) X1 y = Z (y 0).val (y 1).val) (h3 : ∀ y, arg3.view.read (Elt Ideal) X3 y = G (y 1).val)
    (h7 : ∀ y, arg7.view.read (Elt Ideal) X7 y = padded Z 128 (y 0).val (y 1).val (y 2).val) (h8 : ∀ y, arg8.view.read (Elt Ideal) X8 y = padded Z 256 (y 0).val (y 1).val (y 2).val)
    (h9 : ∀ y, arg9.view.read (Elt Ideal) X9 y = band (B (y 0).val) (y 1).val (y 2).val) (k : Fin k0_t1_loop.trips) :
    (∀ pc ∈ (tripL_k0_t1 Variants.none c none i arg1 harg1 arg2 harg2 arg3 harg3 arg4 harg4 arg5 harg5 arg6 harg6 arg7 harg7 arg8 harg8 arg9 harg9 (0#32) X1 X3 X7 X8 X9 k).1, ∀ x, pc.2 x = onBlock (catAt Z B G) (pc.1.emb x)) ∧
    (∀ pc ∈ (tripL_k0_t1 Variants.none c none i arg1 harg1 arg2 harg2 arg3 harg3 arg4 harg4 arg5 harg5 arg6 harg6 arg7 harg7 arg8 harg8 arg9 harg9 (0#32) X1 X3 X7 X8 X9 k).2.1, ∀ x, pc.2 x = onBlock (oAt Z B) (pc.1.emb x)) ∧
    (∀ pc ∈ (tripL_k0_t1 Variants.none c none i arg1 harg1 arg2 harg2 arg3 harg3 arg4 harg4 arg5 harg5 arg6 harg6 arg7 harg7 arg8 harg8 arg9 harg9 (0#32) X1 X3 X7 X8 X9 k).2.2, ∀ x, pc.2 x = onBlock (lseAt Z B) (pc.1.emb x)) := by
  have z0 : ∀ n : ℕ, 0 + n = n := Nat.zero_add
  have q0 : ∀ i x : Fin 128, arg1.view.readAt (Elt Ideal) (Rect.unit (s := S2048x1024) (k0_off1 k) S128x128.size (k0_off1_inb k)).toLoadRect X1 (ix2 i x) = Z (128 * k.val + i.val) (512 * 0 + x.val) :=
    fun i x => (load2 arg1.view X1 Z h1 (128 * k.val) 0 _ (off1_eq k) i x)
  have a0 : ∀ i x : Fin 128, arg1.view.readAt (Elt Ideal) (Rect.unit (s := S2048x1024) (k0_off4 k) S128x128.size (k0_off4_inb k)).toLoadRect X1 (ix2 i x) = Z (128 * k.val + i.val) (512 * 0 + 384 + x.val) :=
    fun i x => (load2 arg1.view X1 Z h1 (128 * k.val) 384 _ (off4_eq k) i x)
  have q1 : ∀ i x : Fin 128, arg1.view.readAt (Elt Ideal) (Rect.unit (s := S2048x1024) (k0_off5 k) S128x128.size (k0_off5_inb k)).toLoadRect X1 (ix2 i x) = Z (128 * k.val + i.val) (512 * 1 + x.val) :=
    fun i x => (load2 arg1.view X1 Z h1 (128 * k.val) 512 _ (off5_eq k) i x)
  have a1 : ∀ i x : Fin 128, arg1.view.readAt (Elt Ideal) (Rect.unit (s := S2048x1024) (k0_off8 k) S128x128.size (k0_off8_inb k)).toLoadRect X1 (ix2 i x) = Z (128 * k.val + i.val) (512 * 1 + 384 + x.val) :=
    fun i x => (load2 arg1.view X1 Z h1 (128 * k.val) 896 _ (off8_eq k) i x)
  have k0 : ∀ (j : Fin 640) (x : Fin 128), arg7.view.readAt (Elt Ideal) (Rect.unit (s := S2x2560x128) (k0_off2 k) S1x640x128.size (k0_off2_inb k)).toLoadRect X7 (ix3 0 j x) = padded Z 128 0 (128 * k.val + j.val) x.val :=
    fun j x => (load3 arg7.view X7 (padded Z 128) h7 0 (128 * k.val) 0 _ (off2_eq k) 0 j x).trans (congrArg (padded Z 128 0 _) (z0 _))
  have k1 : ∀ (j : Fin 640) (x : Fin 128), arg7.view.readAt (Elt Ideal) (Rect.unit (s := S2x2560x128) (k0_off6 k) S1x640x128.size (k0_off6_inb k)).toLoadRect X7 (ix3 0 j x) = padded Z 128 1 (128 * k.val + j.val) x.val :=
    fun j x => (load3 arg7.view X7 (padded Z 128) h7 1 (128 * k.val) 0 _ (off6_eq k) 0 j x).trans (congrArg (padded Z 128 1 _) (z0 _))
  have v0 : ∀ (j : Fin 640) (x : Fin 128), arg8.view.readAt (Elt Ideal) (Rect.unit (s := S2x2560x128) (k0_off2 k) S1x640x128.size (k0_off2_inb k)).toLoadRect X8 (ix3 0 j x) = padded Z 256 0 (128 * k.val + j.val) x.val :=
    fun j x => (load3 arg8.view X8 (padded Z 256) h8 0 (128 * k.val) 0 _ (off2_eq k) 0 j x).trans (congrArg (padded Z 256 0 _) (z0 _))
  have v1 : ∀ (j : Fin 640) (x : Fin 128), arg8.view.readAt (Elt Ideal) (Rect.unit (s := S2x2560x128) (k0_off6 k) S1x640x128.size (k0_off6_inb k)).toLoadRect X8 (ix3 0 j x) = padded Z 256 1 (128 * k.val + j.val) x.val :=
    fun j x => (load3 arg8.view X8 (padded Z 256) h8 1 (128 * k.val) 0 _ (off6_eq k) 0 j x).trans (congrArg (padded Z 256 1 _) (z0 _))
  have b0 : ∀ inb, ∀ (i : Fin 128) (j : Fin 640), arg9.view.readAt (Elt Ideal) (Rect.unit (s := S2x128x640) ![0, 0, 0] S1x128x640.size inb).toLoadRect X9 (ix3 0 i j) = band (B 0) i.val j.val :=
    fun inb i j => (load3 arg9.view X9 (fun p => band (B p)) h9 0 0 0 inb rfl 0 i j).trans (congrArg₂ (band (B 0)) (z0 _) (z0 _))
  have b1 : ∀ inb, ∀ (i : Fin 128) (j : Fin 640), arg9.view.readAt (Elt Ideal) (Rect.unit (s := S2x128x640) ![1, 0, 0] S1x128x640.size inb).toLoadRect X9 (ix3 0 i j) = band (B 1) i.val j.val :=
    fun inb i j => (load3 arg9.view X9 (fun p => band (B p)) h9 1 0 0 inb rfl 0 i j).trans (congrArg₂ (band (B 1)) (z0 _) (z0 _))
  have g0 : ∀ inb, ∀ d : Fin 128, arg3.view.readAt (Elt Ideal) (Rect.unit (s := S1x256) ![0, 0] S1x128.size inb).toLoadRect X3 (ix2 0 d) = G (128 * 0 + d.val) :=
    fun inb d => load2 arg3.view X3 (fun _ => G) h3 0 0 inb rfl 0 d
  have g1 : ∀ inb, ∀ d : Fin 128, arg3.view.readAt (Elt Ideal) (Rect.unit (s := S1x256) ![0, 128] S1x128.size inb).toLoadRect X3 (ix2 0 d) = G (128 * 1 + d.val) :=
    fun inb d => load2 arg3.view X3 (fun _ => G) h3 0 128 inb rfl 0 d
  refine ⟨?_, ?_, ?_⟩
  · unfold tripL_k0_t1 trip_k0_t1
    dsimp only
    refine List.forall_mem_cons.mpr ⟨piece (catAt Z B G) k.val 1 (k0_off7_inb k) (off7_eq k) _ (fun i d => ?_), ?_⟩
    · exact (cat_at Z B G k 1 _ _ _ _ q1 k1 (b1 _) v1 _ _ a1 (g1 _) i d)
    refine List.forall_mem_cons.mpr ⟨piece (catAt Z B G) k.val 0 (k0_off3_inb k) (off3_eq k) _ (fun i d => ?_), ?_⟩
    · exact (cat_at Z B G k 0 _ _ _ _ q0 k0 (b0 _) v0 _ _ a0 (g0 _) i d)
    exact fun _ h => absurd h List.not_mem_nil
  · unfold tripL_k0_t1 trip_k0_t1
    dsimp only
    refine List.forall_mem_cons.mpr ⟨piece (oAt Z B) k.val 1 (k0_off7_inb k) (off7_eq k) _ (fun i d => ?_), ?_⟩
    · exact (o_at Z B k 1 _ _ _ _ q1 k1 (b1 _) v1 i d)
    refine List.forall_mem_cons.mpr ⟨piece (oAt Z B) k.val 0 (k0_off3_inb k) (off3_eq k) _ (fun i d => ?_), ?_⟩
    · exact (o_at Z B k 0 _ _ _ _ q0 k0 (b0 _) v0 i d)
    exact fun _ h => absurd h List.not_mem_nil
  · unfold tripL_k0_t1 trip_k0_t1
    dsimp only
    refine List.forall_mem_cons.mpr ⟨piece (lseAt Z B) k.val 1 (k0_off7_inb k) (off7_eq k) _ (fun i d => ?_), ?_⟩
    · exact (lse_at Z B k 1 _ _ _ q1 k1 (b1 _) i d)
    refine List.forall_mem_cons.mpr ⟨piece (lseAt Z B) k.val 0 (k0_off3_inb k) (off3_eq k) _ (fun i d => ?_), ?_⟩
    · exact (lse_at Z B k 0 _ _ _ q0 k0 (b0 _) i d)
    exact fun _ h => absurd h List.not_mem_nil

theorem pb_pieces (X1 : arg1.view.ty.Contents (Elt Ideal)) (X3 : arg3.view.ty.Contents (Elt Ideal)) (X7 : arg7.view.ty.Contents (Elt Ideal)) (X8 : arg8.view.ty.Contents (Elt Ideal)) (X9 : arg9.view.ty.Contents (Elt Ideal))
    (h1 : ∀ y, arg1.view.read (Elt Ideal) X1 y = Z (y 0).val (y 1).val) (h3 : ∀ y, arg3.view.read (Elt Ideal) X3 y = G (y 1).val)
    (h7 : ∀ y, arg7.view.read (Elt Ideal) X7 y = padded Z 128 (y 0).val (y 1).val (y 2).val) (h8 : ∀ y, arg8.view.read (Elt Ideal) X8 y = padded Z 256 (y 0).val (y 1).val (y 2).val)
    (h9 : ∀ y, arg9.view.read (Elt Ideal) X9 y = band (B (y 0).val) (y 1).val (y 2).val) (n : ℕ) (hn : n ≤ k0_t1_loop.trips) :
    (∀ pc ∈ (pb_k0_t1 Variants.none c none i arg1 harg1 arg2 harg2 arg3 harg3 arg4 harg4 arg5 harg5 arg6 harg6 arg7 harg7 arg8 harg8 arg9 harg9 (0#32) X1 X3 X7 X8 X9 n).1, ∀ x, pc.2 x = onBlock (catAt Z B G) (pc.1.emb x)) ∧
    (∀ pc ∈ (pb_k0_t1 Variants.none c none i arg1 harg1 arg2 harg2 arg3 harg3 arg4 harg4 arg5 harg5 arg6 harg6 arg7 harg7 arg8 harg8 arg9 harg9 (0#32) X1 X3 X7 X8 X9 n).2.1, ∀ x, pc.2 x = onBlock (oAt Z B) (pc.1.emb x)) ∧
    (∀ pc ∈ (pb_k0_t1 Variants.none c none i arg1 harg1 arg2 harg2 arg3 harg3 arg4 harg4 arg5 harg5 arg6 harg6 arg7 harg7 arg8 harg8 arg9 harg9 (0#32) X1 X3 X7 X8 X9 n).2.2, ∀ x, pc.2 x = onBlock (lseAt Z B) (pc.1.emb x)) := by
  induction n with
  | zero => exact ⟨fun _ h => absurd h List.not_mem_nil, fun _ h => absurd h List.not_mem_nil, fun _ h => absurd h List.not_mem_nil⟩
  | succ n ih =>
    obtain ⟨i1, i2, i3⟩ := ih (Nat.le_of_succ_le hn)
    obtain ⟨t1, t2, t3⟩ := trip_pieces Z B G c i arg1 harg1 arg2 harg2 arg3 harg3 arg4 harg4 arg5 harg5 arg6 harg6 arg7 harg7 arg8 harg8 arg9 harg9 X1 X3 X7 X8 X9 h1 h3 h7 h8 h9 ⟨n, hn⟩
    have hs := pb_k0_t1_succ Variants.none c none i arg1 harg1 arg2 harg2 arg3 harg3 arg4 harg4 arg5 harg5 arg6 harg6 arg7 harg7 arg8 harg8 arg9 harg9 (0#32) X1 X3 X7 X8 X9 ⟨n, hn⟩
    rw [show n + 1 = (⟨n, hn⟩ : Fin k0_t1_loop.trips).val + 1 from rfl, hs]
    exact ⟨fun pc h => (List.mem_append.mp h).elim (t1 pc) (i1 pc), fun pc h => (List.mem_append.mp h).elim (t2 pc) (i2 pc), fun pc h => (List.mem_append.mp h).elim (t3 pc) (i3 pc)⟩

/-- What the body leaves in its three outputs. -/
theorem run_pieces (hZ : ∀ y, x0 y = Z (y 0).val (y 1).val) (hB : ∀ y, x1 y = B (y 0).val (y 2).val) (hG : ∀ y, x2 y = G (y 1).val) :
    (∀ pc ∈ (kernelRun0_A c i arg1 harg1 arg2 harg2 arg3 harg3 arg4 harg4 arg5 harg5 arg6 harg6 arg7 harg7 arg8 harg8 arg9 harg9 x0 x1 x2).1, ∀ x, pc.2 x = onBlock (catAt Z B G) (pc.1.emb x)) ∧
    (∀ pc ∈ (kernelRun0_A c i arg1 harg1 arg2 harg2 arg3 harg3 arg4 harg4 arg5 harg5 arg6 harg6 arg7 harg7 arg8 harg8 arg9 harg9 x0 x1 x2).2.1, ∀ x, pc.2 x = onBlock (oAt Z B) (pc.1.emb x)) ∧
    (∀ pc ∈ (kernelRun0_A c i arg1 harg1 arg2 harg2 arg3 harg3 arg4 harg4 arg5 harg5 arg6 harg6 arg7 harg7 arg8 harg8 arg9 harg9 x0 x1 x2).2.2.1, ∀ x, pc.2 x = onBlock (lseAt Z B) (pc.1.emb x)) := by
  unfold kernelRun0_A
  dsimp only
  exact pb_pieces Z B G c i arg1 harg1 arg2 harg2 arg3 harg3 arg4 harg4 arg5 harg5 arg6 harg6 arg7 harg7 arg8 harg8 arg9 harg9 _ _ _ _ _ (fun y => (congrFun (harg1.read_unread x0) y).trans (hZ y)) (fun y => (congrFun (harg3.read_unread x2) y).trans (hG y))
    (keys_read Z c arg1 harg1 arg7 x0 hZ _) (values_read Z c arg1 harg1 arg8 x0 hZ _) (bias_read B c arg2 harg2 arg9 x1 hB _) _ (Nat.le_refl _)

end

end Cert.AttFwdIdeal.Hand
end
-- ==== Proof.AttMath.lean ====
module

public import proofs.«01_k».proof.Defs
public import proofs.«01_k».proof.Proof.AttTrip
public import proofs.«01_k».proof.Proof.Norm
public import proofs.«01_k».proof.Proof.Gen.AttFwdIdeal.Frame
public import Idealize.ShloMosaic.Lib.Pointwise
public import Idealize.ShloMosaic.Lib.Tactic
public import Idealize.ShloMosaic.Lib.Writes
public import Idealize.ShloMosaic.Lib.VecWindow

@[expose] public section

set_option maxRecDepth 16384

noncomputable section

namespace Cert.AttFwdIdeal.Hand
open Idealize.ShloMosaic
open Cert.AttFwdIdeal Cert.AttFwdIdeal.Gen

/-! # The band is the whole row

Over the keys a row may attend to, the band's scores are the whole row's; everywhere else both are −∞, whose exponential is nothing. -/

section
variable (b : ℕ) (hb : b < 16)

include hb in
theorem sum_band (f : Fin 640 → EReal) (h : Fin 2048 → EReal) (hlive : ∀ (j : Fin 640) (y : Fin 2048), y.val + 512 = 128 * b + j.val → f j = h y)
    (hdead : ∀ j : Fin 640, 128 * b + j.val < 512 → f j = 0) (hout : ∀ y : Fin 2048, (∀ j : Fin 640, y.val + 512 ≠ 128 * b + j.val) → h y = 0) :
    ∑ j, f j = ∑ y, h y := by
  refine Finset.sum_bij_ne_zero (fun j _ _ => (⟨128 * b + j.val - 512, by have := j.isLt; omega⟩ : Fin 2048)) (fun _ _ _ => Finset.mem_univ _) ?_ ?_ ?_
  · intro j _ hj j' _ hj' e
    have e := congrArg Fin.val e
    have l : ¬ 128 * b + j.val < 512 := fun l => hj (hdead j l)
    have l' : ¬ 128 * b + j'.val < 512 := fun l => hj' (hdead j' l)
    exact Fin.ext (by show j.val = j'.val; have : 128 * b + j.val - 512 = 128 * b + j'.val - 512 := e; omega)
  · intro y _ hy
    by_cases hc : ∀ j : Fin 640, y.val + 512 ≠ 128 * b + j.val
    · exact absurd (hout y hc) hy
    · obtain ⟨j, hj⟩ := not_forall.mp hc
      have hj := not_not.mp hj
      exact ⟨j, Finset.mem_univ _, by rw [hlive j y hj]; exact hy, Fin.ext (by show 128 * b + j.val - 512 = y.val; omega)⟩
  · intro j _ hj
    have l : ¬ 128 * b + j.val < 512 := fun l => hj (hdead j l)
    exact hlive j _ (by show 128 * b + j.val - 512 + 512 = _; omega)

theorem top_eq_sup {n : ℕ} (S : Fin n → EReal) : top S = Finset.univ.sup S := rfl

include hb in
theorem top_band (S : Fin 640 → EReal) (D : Fin 2048 → EReal) (hlive : ∀ (j : Fin 640) (y : Fin 2048), y.val + 512 = 128 * b + j.val → S j = D y)
    (hdead : ∀ j : Fin 640, 128 * b + j.val < 512 → S j = ⊥) (hout : ∀ y : Fin 2048, (∀ j : Fin 640, y.val + 512 ≠ 128 * b + j.val) → D y = ⊥) :
    top S = top D := by
  rw [top_eq_sup, top_eq_sup]
  refine le_antisymm (Finset.sup_le fun j _ => ?_) (Finset.sup_le fun y _ => ?_)
  · by_cases l : 128 * b + j.val < 512
    · rw [hdead j l]; exact bot_le
    · rw [hlive j ⟨128 * b + j.val - 512, by have := j.isLt; omega⟩ (by show 128 * b + j.val - 512 + 512 = _; omega)]
      exact Finset.le_sup (Finset.mem_univ _)
  · by_cases hc : ∀ j : Fin 640, y.val + 512 ≠ 128 * b + j.val
    · rw [hout y hc]; exact bot_le
    · obtain ⟨j, hj⟩ := not_forall.mp hc
      rw [← hlive j y (not_not.mp hj)]
      exact Finset.le_sup (Finset.mem_univ _)

theorem exp_bot_sub (x : EReal) : Ideal.exp (⊥ - x) = 0 := by
  rw [EReal.bot_sub]
  rfl

variable (S : Fin 640 → EReal) (D : Fin 2048 → EReal) (hlive : ∀ (j : Fin 640) (y : Fin 2048), y.val + 512 = 128 * b + j.val → S j = D y)
    (hdead : ∀ j : Fin 640, 128 * b + j.val < 512 → S j = ⊥) (hout : ∀ y : Fin 2048, (∀ j : Fin 640, y.val + 512 ≠ 128 * b + j.val) → D y = ⊥)

include hb hlive hdead hout in
theorem tot_band : tot S = tot D := by
  unfold tot
  rw [top_band b hb S D hlive hdead hout]
  refine sum_band b hb _ _ (fun j y h => by rw [hlive j y h]) (fun j h => ?_) (fun y h => ?_)
  · rw [hdead j h]; exact exp_bot_sub _
  · rw [hout y h]; exact exp_bot_sub _

include hb hlive hdead hout in
theorem mix_band (W : Fin 640 → EReal) (W' : Fin 2048 → EReal) (hW : ∀ (j : Fin 640) (y : Fin 2048), y.val + 512 = 128 * b + j.val → W j = W' y) : mix S W = mix D W' := by
  unfold mix
  rw [top_band b hb S D hlive hdead hout, tot_band b hb S D hlive hdead hout]
  refine sum_band b hb _ _ (fun j y h => by rw [hlive j y h, hW j y h]) (fun j h => ?_) (fun y h => ?_)
  · rw [hdead j h, exp_bot_sub, zero_mul, zero_mul]
  · rw [hout y h, exp_bot_sub, zero_mul, zero_mul]
end

/-! ## The whole row -/

/-- Query `r` may attend to key `y`: the key's chunk of 64 is the query's or one of the eight before it. -/
abbrev near (r y : ℕ) : Prop := y / 64 ≤ r / 64 ∧ r / 64 ≤ y / 64 + 8

/-- The scores of row `r` of head `a` over every key. -/
def dense (Q K R : ℕ → ℕ → EReal) (a r : ℕ) (y : Fin 2048) : EReal :=
  if near r y.val then (∑ x : Fin 128, Q r (128 * a + x.val) * K y.val (128 * a + x.val)) * Ideal.ofBits .f32 1035273459#32 + R a (min (r + 128 - y.val) 256) else ⊥

section
variable (Z B Q K W R : ℕ → ℕ → EReal) (a p r : ℕ) (hr : r < 2048)
  (hq : ∀ r x, r < 2048 → x < 128 → Z r (512 * p + x) = Q r (128 * a + x)) (hk : ∀ r x, r < 2048 → x < 128 → Z r (512 * p + 128 + x) = K r (128 * a + x))
  (hw : ∀ r x, r < 2048 → x < 128 → Z r (512 * p + 256 + x) = W r (128 * a + x)) (hB : ∀ l, l < 256 → B p l = R a (256 - l))

include hr hq hk hB in
theorem rowS_live (j : Fin 640) (y : Fin 2048) (h : y.val + 512 = 128 * (r / 128) + j.val) : rowS Z B p r j = dense Q K R a r y := by
  have hy := y.isLt
  have hj := j.isLt
  unfold rowS score dense
  rw [if_pos (by omega)]
  have hs : ∑ x : Fin 128, Z r (512 * p + x.val) * padded Z 128 p (128 * (r / 128) + j.val) x.val = ∑ x : Fin 128, Q r (128 * a + x.val) * K y.val (128 * a + x.val) := by
    refine Finset.sum_congr rfl fun x _ => ?_
    unfold padded
    rw [if_neg (by omega), hq r x.val hr x.isLt, ← h, Nat.add_sub_cancel, hk y.val x.val hy x.isLt]
  rw [hs]
  unfold band
  dsimp only
  by_cases hn : near r y.val
  · have hn' := hn
    unfold near at hn'
    rw [if_pos hn, if_pos (by omega), hB _ (by omega)]
    congr 2
    omega
  · have hn' := hn
    unfold near at hn'
    rw [if_neg hn, if_neg (by omega), EReal.add_bot]

theorem rowS_dead (j : Fin 640) (h : 128 * (r / 128) + j.val < 512) : rowS Z B p r j = ⊥ := by
  unfold rowS score
  rw [if_neg (by omega)]

include hr in
theorem dense_out (y : Fin 2048) (h : ∀ j : Fin 640, y.val + 512 ≠ 128 * (r / 128) + j.val) : dense Q K R a r y = ⊥ := by
  have hy := y.isLt
  unfold dense
  refine if_neg fun hn => ?_
  unfold near at hn
  have hlt : y.val + 512 - 128 * (r / 128) < 640 := by omega
  exact h ⟨_, hlt⟩ (by show y.val + 512 = 128 * (r / 128) + (y.val + 512 - 128 * (r / 128)); omega)

include hr hq hk hB hw in
theorem oAt_dense (d : Fin 128) : oAt Z B r p d = mix (dense Q K R a r) (fun y => W y.val (128 * a + d.val)) := by
  unfold oAt
  refine mix_band (r / 128) (by omega) _ _ (rowS_live Z B Q K R a p r hr hq hk hB) (rowS_dead Z B p r) (dense_out Q K R a r hr) _ _ fun j y h => ?_
  unfold padded
  rw [if_neg (by omega), ← h, Nat.add_sub_cancel, hw y.val d.val y.isLt d.isLt]

include hr hq hk hB in
theorem lseAt_dense (d : Fin 128) : lseAt Z B r p d = top (dense Q K R a r) + Ideal.log (tot (dense Q K R a r)) := by
  unfold lseAt
  rw [top_band (r / 128) (by omega) _ _ (rowS_live Z B Q K R a p r hr hq hk hB) (rowS_dead Z B p r) (dense_out Q K R a r hr),
    tot_band (r / 128) (by omega) _ _ (rowS_live Z B Q K R a p r hr hq hk hB) (rowS_dead Z B p r) (dense_out Q K R a r hr)]
end

/-! ## The normaliser is not zero -/

theorem exp_nonneg (x : EReal) : 0 ≤ Ideal.exp x := by
  induction x with
  | bot => exact le_refl _
  | top => exact le_top
  | coe x => exact EReal.coe_nonneg.mpr (Real.exp_pos x).le

theorem tot_ne {n : ℕ} (D : Fin n → EReal) (y : Fin n) (hy : D y ≠ ⊥) (ht : ∀ x, D x ≠ ⊤) : tot D ≠ 0 := by
  obtain ⟨k, -, hk⟩ := Finset.exists_max_image Finset.univ D ⟨y, Finset.mem_univ y⟩
  have e : top D = D k := le_antisymm (Finset.sup_le fun x _ => hk x (Finset.mem_univ x)) (Finset.le_sup (f := D) (Finset.mem_univ k))
  have hb : D k ≠ ⊥ := fun h => hy (le_bot_iff.mp (h ▸ hk y (Finset.mem_univ y)))
  have h1 : Ideal.exp (D k - top D) = 1 := by
    rw [e, EReal.sub_self (ht k) hb]
    show ((Real.exp 0 : ℝ) : EReal) = 1
    rw [Real.exp_zero]
    rfl
  have h2 : (1 : EReal) ≤ tot D := h1 ▸ Finset.single_le_sum (f := fun x => Ideal.exp (D x - top D)) (fun x _ => exp_nonneg _) (Finset.mem_univ k)
  exact fun h => absurd (h ▸ h2) (by norm_num)

theorem scale_real : ∃ s : ℝ, Ideal.ofBits .f32 1035273459#32 = (s : EReal) :=
  ⟨_, Norm.lit _ false 123 3474675 (by decide) (by decide) (by decide) (by decide) (by decide)⟩

/-- With real queries, keys and biases no row's normaliser is zero. -/
theorem dense_tot_ne (Q K R : ℕ → ℕ → EReal) (a r : ℕ) (hr : r < 2048) (hQ : ∀ i j, ∃ x : ℝ, Q i j = x) (hK : ∀ i j, ∃ x : ℝ, K i j = x) (hR : ∀ i j, ∃ x : ℝ, R i j = x) :
    tot (dense Q K R a r) ≠ 0 := by
  have hreal : ∀ y : Fin 2048, ∃ x : ℝ, (∑ x : Fin 128, Q r (128 * a + x.val) * K y.val (128 * a + x.val)) * Ideal.ofBits .f32 1035273459#32 + R a (min (r + 128 - y.val) 256) = (x : EReal) := by
    intro y
    choose q hq using fun x : Fin 128 => hQ r (128 * a + x.val)
    choose k hk using fun x : Fin 128 => hK y.val (128 * a + x.val)
    obtain ⟨s, hs⟩ := scale_real
    obtain ⟨t, ht⟩ := hR a (min (r + 128 - y.val) 256)
    refine ⟨(∑ x, q x * k x) * s + t, ?_⟩
    rw [hs, ht, EReal.coe_add, EReal.coe_mul, ← Norm.sum_coe]
    simp only [hq, hk, EReal.coe_mul]
  refine tot_ne _ ⟨r, hr⟩ ?_ fun y => ?_
  · unfold dense
    rw [if_pos (show near r r from ⟨le_refl _, Nat.le_add_right _ _⟩)]
    obtain ⟨x, hx⟩ := hreal ⟨r, hr⟩
    exact fun h => EReal.coe_ne_bot x (hx.symm.trans h)
  · unfold dense
    split
    · obtain ⟨x, hx⟩ := hreal y
      exact fun h => EReal.coe_ne_top x (hx.symm.trans h)
    · exact bot_ne_top

/-- The weighted mean with a reciprocal is the one with quotients when the normaliser is not zero. -/
theorem mix_div {n : ℕ} (D W : Fin n → EReal) (h : tot D ≠ 0) : mix D W = ∑ y, W y * Ideal.div (Ideal.exp (D y - top D)) (tot D) := by
  unfold mix
  refine Finset.sum_congr rfl fun y _ => ?_
  unfold Ideal.div
  rw [if_neg h, if_neg h, one_mul, mul_comm]

end Cert.AttFwdIdeal.Hand
-- ==== Proof.AttMask.lean ====
module

public import proofs.«01_k».proof.Defs
public import proofs.«01_k».proof.Proof.AttMath
public import proofs.«01_k».proof.Proof.Gen.AttFwdReferenceIdeal.Run
public import proofs.«01_k».proof.Proof.Gen.AttFwdReferenceIdeal.Read
public import Idealize.ShloMosaic.Lib.Pointwise

@[expose] public section

set_option maxRecDepth 16384

noncomputable section

namespace Cert.AttFwdReferenceIdeal.Hand

open Idealize.ShloMosaic Idealize.ShloMosaic.TcCoe
open Cert.AttFwdReferenceIdeal Cert.AttFwdReferenceIdeal.Gen Cert.AttFwdReferenceIdeal.Read
open Cert.AttFwdIdeal.Hand (top tot mix gated near dense)

/-! # The reference at an entry -/

/-- An array of two axes as a function of two numbers. -/
def ext {N M : ℕ} (x : (⟨2, ![N, M]⟩ : Shape).Idx → EReal) (r c : ℕ) : EReal := if h : r < N ∧ c < M then x (ix2 ⟨r, h.1⟩ ⟨c, h.2⟩) else 0

theorem ext_eq {N M : ℕ} (x : (⟨2, ![N, M]⟩ : Shape).Idx → EReal) (r c : ℕ) (hr : r < N) (hc : c < M) : ext x r c = x (ix2 ⟨r, hr⟩ ⟨c, hc⟩) :=
  dif_pos ⟨hr, hc⟩

/-- The row of the bias table for a query and a key. -/
def place (r y : ℕ) : ℕ := if r + 128 < y then 0 else min (r + 128 - y) 256

/-- The same row from the difference of the positions, as the words compute it. -/
def clipped (d : BitVec 32) : BitVec 32 := IntOp.addi (IntOp.minsi 128#32 (IntOp.maxsi 4294967168#32 d)) 128#32

theorem clipped_pos : ∀ n : Fin 2048, clipped (BitVec.ofNat 32 n.val) = BitVec.ofNat 32 (min (n.val + 128) 256) := by decide +kernel

theorem clipped_neg : ∀ n : Fin 2048, clipped (IntOp.subi 0#32 (BitVec.ofNat 32 n.val)) = BitVec.ofNat 32 (128 - n.val) := by decide +kernel

theorem clipped_eq (r y : ℕ) (hr : r < 2048) (hy : y < 2048) : clipped (IntOp.subi (BitVec.ofNat 32 r) (BitVec.ofNat 32 y)) = BitVec.ofNat 32 (place r y) := by
  unfold place
  by_cases h : y ≤ r
  · have e : IntOp.subi (BitVec.ofNat 32 r) (BitVec.ofNat 32 y) = BitVec.ofNat 32 (r - y) := by
      apply BitVec.eq_of_toNat_eq
      show (BitVec.ofNat 32 r - BitVec.ofNat 32 y).toNat = _
      simp only [BitVec.toNat_sub, BitVec.toNat_ofNat]
      omega
    rw [e, clipped_pos ⟨r - y, by omega⟩, if_neg (by omega)]
    congr 2
    show r - y + 128 = r + 128 - y
    omega
  · have e : IntOp.subi (BitVec.ofNat 32 r) (BitVec.ofNat 32 y) = IntOp.subi 0#32 (BitVec.ofNat 32 (y - r)) := by
      apply BitVec.eq_of_toNat_eq
      show (BitVec.ofNat 32 r - BitVec.ofNat 32 y).toNat = (0#32 - BitVec.ofNat 32 (y - r)).toNat
      simp only [BitVec.toNat_sub, BitVec.toNat_ofNat]
      omega
    rw [e, clipped_neg ⟨y - r, by omega⟩]
    show BitVec.ofNat 32 (128 - (y - r)) = _
    split
    · congr 1; omega
    · congr 1; omega

theorem hot_eq (n : ℕ) (hn : n < 257) (l : Fin 257) : IntOp.cmpi .eq (BitVec.ofNat 32 n) (BitVec.ofNat 32 l.val) = if l.val = n then 1#1 else 0#1 := by
  have hl := l.isLt
  by_cases h : l.val = n
  · rw [if_pos h, h]
    show BitVec.ofBool (BitVec.ofNat 32 n == BitVec.ofNat 32 n) = 1#1
    rw [beq_self_eq_true]
    rfl
  · rw [if_neg h]
    have hne : BitVec.ofNat 32 n ≠ BitVec.ofNat 32 l.val := by
      intro e
      have e := congrArg BitVec.toNat e
      simp only [BitVec.toNat_ofNat] at e
      omega
    show BitVec.ofBool (BitVec.ofNat 32 n == BitVec.ofNat 32 l.val) = 0#1
    rw [beq_eq_false_iff_ne.mpr hne]
    rfl

theorem mask_word : ∀ cy cr : Fin 32, IntOp.andi (IntOp.cmpi .sle (BitVec.ofNat 32 cy.val) (BitVec.ofNat 32 cr.val)) (IntOp.cmpi .sge (BitVec.ofNat 32 cy.val) (IntOp.subi (BitVec.ofNat 32 cr.val) 8#32))
    = if cy.val ≤ cr.val ∧ cr.val ≤ cy.val + 8 then 1#1 else 0#1 := by decide +kernel

theorem v41_at (r y : Fin 2048) : val_main_v41 (F := Ideal) (ix2 r y) = if near r.val y.val then 1#1 else 0#1 := by
  refine Eq.trans ?_ (mask_word ⟨y.val / 64, by omega⟩ ⟨r.val / 64, by omega⟩)
  pointwise [val_main_v41, val_main_v40, val_main_v39, val_main_v38, val_main_v37, val_main_v36, val_main_c_2, val_main_v35, val_main_v34, val_main_v33, val_main_v32, val_main_v31, val_main_v30, val_main_v29, val_main_v28, val_main_v27, val_main_v26]

theorem v17_at (r y : Fin 2048) : val_main_v17 (F := Ideal) (ix2 r y) = BitVec.ofNat 32 (place r.val y.val) := by
  refine Eq.trans ?_ (clipped_eq r.val y.val r.isLt y.isLt)
  unfold clipped
  pointwise [val_main_v17, val_main_v16, val_main_c_1, val_main_v15, val_main_call0_v4, val_main_call0_v3, val_main_c_0, val_main_call0_v2, val_main_call0_v1, val_main_call0_v0, val_main_c, val_main_v14, val_main_v13, val_main_v12, val_main_v11, val_main_v10, val_main_v9]
  rfl

theorem v24_at (r y : Fin 2048) (l : Fin 257) : val_main_v24 (F := Ideal) (ix3 r y l) = if l.val = place r.val y.val then (1 : EReal) else 0 := by
  have h : val_main_v24 (F := Ideal) (ix3 r y l) = FloatOps.uitofp (F := Ideal) .f32 (IntOp.cmpi .eq (val_main_v17 (F := Ideal) (ix2 r y)) (BitVec.ofNat 32 l.val)) := by
    pointwise [val_main_v24, val_main_v23, val_main_v22, val_main_v21, val_main_v20, val_main_v19, val_main_v18]
  rw [h, v17_at, hot_eq _ (by unfold place; split <;> omega)]
  split
  · show (((1#1 : BitVec 1).toNat : ℝ) : EReal) = 1
    norm_num
  · show (((0#1 : BitVec 1).toNat : ℝ) : EReal) = 0
    norm_num

variable (x0 x1 x2 x3 : (⟨S2048x1024, .bf16⟩ : BufTy).Contents (Elt Ideal)) (x4 : (⟨S8x257, .f32⟩ : BufTy).Contents (Elt Ideal)) (x5 : (⟨S1024, .f32⟩ : BufTy).Contents (Elt Ideal))

theorem v25_at (a : Fin 8) (r y : Fin 2048) : val_main_v25 (F := Ideal) x4 (ix3 a r y) = ext x4 a.val (place r.val y.val) := by
  have hp : place r.val y.val < 257 := by unfold place; split <;> omega
  have h : val_main_v25 (F := Ideal) x4 (ix3 a r y) = ∑ l : Fin 257, x4 (ix2 a l) * val_main_v24 (F := Ideal) (ix3 r y l) := by
    pointwise [val_main_v25]
  rw [h, ext_eq x4 _ _ a.isLt hp, Finset.sum_eq_single (⟨place r.val y.val, hp⟩ : Fin 257)]
  · rw [v24_at, if_pos rfl, mul_one]
  · intro l _ hl
    rw [v24_at, if_neg (fun e => hl (Fin.ext e)), mul_zero]
  · exact fun h => absurd (Finset.mem_univ _) h

theorem v8_at (a : Fin 8) (r y : Fin 2048) : val_main_v8 (F := Ideal) x0 x1 (ix3 a r y)
    = (∑ x : Fin 128, ext x0 r.val (128 * a.val + x.val) * ext x1 y.val (128 * a.val + x.val)) * Ideal.ofBits .f32 1035273459#32 := by
  have h : val_main_v8 (F := Ideal) x0 x1 (ix3 a r y) = (∑ x : Fin 128, val_main_v4 (F := Ideal) x0 (ix3 r a x) * val_main_v5 (F := Ideal) x1 (ix3 y a x)) * Ideal.ofBits .f32 1035273459#32 := by
    pointwise [val_main_v8, val_main_v7, val_main_cst, val_main_v6]
  have h4 : ∀ x : Fin 128, val_main_v4 (F := Ideal) x0 (ix3 r a x) = ext x0 r.val (128 * a.val + x.val) := by
    intro x
    rw [val_main_v4_apply, val_main_v0_apply, ext_eq x0 _ _ r.isLt (by omega)]
    refine congrArg x0 (funext fun k => match k with | ⟨0, _⟩ => Fin.ext ?_ | ⟨1, _⟩ => Fin.ext ?_)
    · show (((r.val * 8 + a.val) * 128 + x.val) / 1024) = r.val; omega
    · show (((r.val * 8 + a.val) * 128 + x.val) % 1024) = 128 * a.val + x.val; omega
  have h5 : ∀ x : Fin 128, val_main_v5 (F := Ideal) x1 (ix3 y a x) = ext x1 y.val (128 * a.val + x.val) := by
    intro x
    rw [val_main_v5_apply, val_main_v1_apply, ext_eq x1 _ _ y.isLt (by omega)]
    refine congrArg x1 (funext fun k => match k with | ⟨0, _⟩ => Fin.ext ?_ | ⟨1, _⟩ => Fin.ext ?_)
    · show (((y.val * 8 + a.val) * 128 + x.val) / 1024) = y.val; omega
    · show (((y.val * 8 + a.val) * 128 + x.val) % 1024) = 128 * a.val + x.val; omega
  rw [h]
  simp only [h4, h5]

abbrev D (a : ℕ) (r : ℕ) : Fin 2048 → EReal := dense (ext x0) (ext x1) (ext x4) a r

theorem v43_at (a : Fin 8) (r y : Fin 2048) : val_main_v43 (F := Ideal) x0 x1 x4 (ix3 a r y) = D x0 x1 x4 a.val r.val y := by
  have h : val_main_v43 (F := Ideal) x0 x1 x4 (ix3 a r y) = Scalar.select (val_main_v41 (F := Ideal) (ix2 r y)) (val_main_v8 (F := Ideal) x0 x1 (ix3 a r y) + val_main_v25 (F := Ideal) x4 (ix3 a r y)) (Ideal.ofBits .f32 4286578688#32) := by
    pointwise [val_main_v43, val_main_v42, val_main_call1_v2, val_main_call1_v1, val_main_call1_v0, val_main_cst_3]
    rfl
  rw [h, v41_at, v8_at, v25_at, Cert.AttFwdIdeal.Hand.neg_inf]
  unfold D dense
  by_cases hn : near r.val y.val
  · have hn' := hn
    unfold near at hn'
    rw [if_pos hn, if_pos hn]
    unfold place
    rw [if_neg (by omega)]
    rfl
  · rw [if_neg hn, if_neg hn]
    rfl

end Cert.AttFwdReferenceIdeal.Hand
-- ==== Proof.AttHost.lean ====
module

public import proofs.«01_k».proof.Defs
public import proofs.«01_k».proof.Proof.AttMask
public import proofs.«01_k».proof.Proof.Gen.AttFwdIdeal.Value
public import Idealize.ShloMosaic.Lib.StableHlo.Run
public import Idealize.ShloMosaic.Lib.Pointwise
public import Idealize.ShloMosaic.Lib.Pipeline.Value

@[expose] public section

set_option maxRecDepth 16384

noncomputable section

namespace Cert.AttFwdIdeal.Hand

open Idealize.ShloMosaic Idealize.ShloMosaic.TcCoe Idealize.ShloMosaic.Pipeline Idealize.SL.Sem
open Cert.AttFwdIdeal Cert.AttFwdIdeal.Gen
open Cert.AttFwdReferenceIdeal.Hand (ext ext_eq)

/-! # What the call reads and what it leaves -/

section
variable (x0 x1 x2 x3 : Vec Ideal S2048x1024 .bf16)

/-- The four operands packed by head. -/
def packed : Vec Ideal S2048x4096 .bf16 :=
  shapeCast S2048x4096 (concatenate S2048x8x512 2 [⟨S2048x8x128, shapeCast S2048x8x128 x0 shapeCasts_S2048x1024_S2048x8x128⟩, ⟨S2048x8x128, shapeCast S2048x8x128 x1 shapeCasts_S2048x1024_S2048x8x128⟩, ⟨S2048x8x128, shapeCast S2048x8x128 x2 shapeCasts_S2048x1024_S2048x8x128⟩, ⟨S2048x8x128, shapeCast S2048x8x128 x3 shapeCasts_S2048x1024_S2048x8x128⟩] concatenates_S2048x8x128_S2048x8x128_S2048x8x128_S2048x8x128_S2048x8x512_d2) shapeCasts_S2048x8x512_S2048x4096

theorem packed_0 (i : Fin 2048) (j : Fin 4096) (a : Fin 8) (d : Fin 128) (hj : j.val = 512 * a.val + 0 + d.val) :
    packed x0 x1 x2 x3 (ix2 i j) = x0 (ix2 i ⟨128 * a.val + d.val, by omega⟩) := by
  have h1 : j.val / 512 = a.val := by omega
  have h2 : j.val % 512 = 0 + d.val := by omega
  have ha := d.isLt
  unfold packed
  pointwise []
  rw [dif_pos (by omega)]
  exact congrArg x0 (congrArg (ix2 i) (Fin.ext (by show _ * 128 + _ = 128 * a.val + d.val; omega)))

theorem packed_1 (i : Fin 2048) (j : Fin 4096) (a : Fin 8) (d : Fin 128) (hj : j.val = 512 * a.val + 128 + d.val) :
    packed x0 x1 x2 x3 (ix2 i j) = x1 (ix2 i ⟨128 * a.val + d.val, by omega⟩) := by
  have h1 : j.val / 512 = a.val := by omega
  have h2 : j.val % 512 = 128 + d.val := by omega
  have ha := d.isLt
  unfold packed
  pointwise []
  rw [dif_neg (by omega)]
  rw [dif_pos (by omega)]
  exact congrArg x1 (congrArg (ix2 i) (Fin.ext (by show _ * 128 + _ = 128 * a.val + d.val; omega)))

theorem packed_2 (i : Fin 2048) (j : Fin 4096) (a : Fin 8) (d : Fin 128) (hj : j.val = 512 * a.val + 256 + d.val) :
    packed x0 x1 x2 x3 (ix2 i j) = x2 (ix2 i ⟨128 * a.val + d.val, by omega⟩) := by
  have h1 : j.val / 512 = a.val := by omega
  have h2 : j.val % 512 = 256 + d.val := by omega
  have ha := d.isLt
  unfold packed
  pointwise []
  rw [dif_neg (by omega)]
  rw [dif_neg (by omega)]
  rw [dif_pos (by omega)]
  exact congrArg x2 (congrArg (ix2 i) (Fin.ext (by show _ * 128 + _ = 128 * a.val + d.val; omega)))

theorem packed_3 (i : Fin 2048) (j : Fin 4096) (a : Fin 8) (d : Fin 128) (hj : j.val = 512 * a.val + 384 + d.val) :
    packed x0 x1 x2 x3 (ix2 i j) = x3 (ix2 i ⟨128 * a.val + d.val, by omega⟩) := by
  have h1 : j.val / 512 = a.val := by omega
  have h2 : j.val % 512 = 384 + d.val := by omega
  have ha := d.isLt
  unfold packed
  pointwise []
  rw [dif_neg (by omega)]
  rw [dif_neg (by omega)]
  rw [dif_neg (by omega)]
  exact congrArg x3 (congrArg (ix2 i) (Fin.ext (by show _ * 128 + _ = 128 * a.val + d.val; omega)))

theorem pad_at (x : Vec Ideal S2048x4096 .bf16) (v : Vec Ideal S_ .bf16) (i : Fin 2048) (j : Fin 4096) :
    pad S2048x7168 ![0, 3072] ![0, 0] ![0, 0] x v pads_S2048x4096_S2048x7168_000_307200 h_S_ (ix2 i (⟨3072 + j.val, by omega⟩ : Fin 7168)) = x (ix2 i j) := by
  pointwise []
end

variable (m : (ℓ : Loc nD τ sig) → Buf (Elt Ideal) ℓ)

/-- The packed operands of the call. -/
abbrev pk (c : Dev nD) : Vec Ideal S2048x4096 .bf16 := packed (m ((c : Thread nD τ).loc main_arg0)) (m ((c : Thread nD τ).loc main_arg1)) (m ((c : Thread nD τ).loc main_arg2)) (m ((c : Thread nD τ).loc main_arg3))

theorem V6 (c : Dev nD) : V m c main_v6 = pad S2048x7168 ![0, 3072] ![0, 0] ![0, 0] (pk m c) (sitofp (F := Ideal) .bf16 (constantI S_ 32 0#32)) pads_S2048x4096_S2048x7168_000_307200 h_S_ := by
  show StableHlo.after (List.flatten [hostOps0, hostOps0_1, hostOps0_2]) (fun b => m (c, b)) main_v6 = _
  simp only [hostOps0, hostOps0_1, hostOps0_2, List.flatten_cons, List.flatten_nil, List.append_nil, List.cons_append, List.nil_append]
  after_results_simp
  rfl

theorem V9 (c : Dev nD) : V m c main_v9 = broadcastInDim S8x1x256 ![0, 2] bcast_S8x256_S8x1x256_0_2 (Host.reverse [1] (extractStridedSlice S8x256 ![0, 1] (m ((c : Thread nD τ).loc main_arg4)) slices_S8x257_S8x256_0_1)) := by
  show StableHlo.after (List.flatten [hostOps0, hostOps0_1, hostOps0_2]) (fun b => m (c, b)) main_v9 = _
  simp only [hostOps0, hostOps0_1, hostOps0_2, List.flatten_cons, List.flatten_nil, List.append_nil, List.cons_append, List.nil_append]
  after_results_simp

theorem V10 (c : Dev nD) : V m c main_v10 = broadcastInDim S1x1024 ![1] bcast_S1024_S1x1024_1 (m ((c : Thread nD τ).loc main_arg5)) := by
  show StableHlo.after (List.flatten [hostOps0, hostOps0_1, hostOps0_2]) (fun b => m (c, b)) main_v10 = _
  simp only [hostOps0, hostOps0_1, hostOps0_2, List.flatten_cons, List.flatten_nil, List.append_nil, List.cons_append, List.nil_append]
  after_results_simp

theorem rows_at (x : Vec Ideal S8x257 .f32) (a : Fin 8) (l : Fin 256) :
    broadcastInDim S8x1x256 ![0, 2] bcast_S8x256_S8x1x256_0_2 (Host.reverse [1] (extractStridedSlice S8x256 ![0, 1] x slices_S8x257_S8x256_0_1)) (ix3 a (0 : Fin 1) l) = x (ix2 a ⟨256 - l.val, by omega⟩) := by
  pointwise []
  exact congrArg x (congrArg (ix2 a) (Fin.ext (by show 1 + (l.rev : Fin 256).val = 256 - l.val; rw [Fin.val_rev]; omega)))

theorem V10_at (c : Dev nD) (e : Fin 1024) : (V m c main_v10 : Vec Ideal S1x1024 .f32) (ix2 (0 : Fin 1) e) = (m ((c : Thread nD τ).loc main_arg5) : Vec Ideal S1024 .f32) (ix1 e) := by
  rw [V10]
  pointwise []

theorem t_lt (t : Fin cfg0.N) : t.val < 4 := lt_of_lt_of_eq t.isLt N_0

theorem idx_facts : ∀ t : Fin cfg0.N, win0_0.index t 0 = 0 ∧ win0_0.index t 1 = 3 + t.val ∧ win0_1.index t 0 = t.val ∧ win0_1.index t 1 = 0 ∧ win0_1.index t 2 = 0 ∧ win0_2.index t 0 = 0 ∧ win0_2.index t 1 = t.val ∧ win0_3.index t 0 = 0 ∧ win0_3.index t 1 = t.val ∧ win0_4.index t 0 = 0 ∧ win0_4.index t 1 = t.val ∧ win0_5.index t 0 = 0 ∧ win0_5.index t 1 = t.val :=
  (by decide +kernel : ∀ t : Fin grid0.N, win0_0.index t 0 = 0 ∧ win0_0.index t 1 = 3 + t.val ∧ win0_1.index t 0 = t.val ∧ win0_1.index t 1 = 0 ∧ win0_1.index t 2 = 0 ∧ win0_2.index t 0 = 0 ∧ win0_2.index t 1 = t.val ∧ win0_3.index t 0 = 0 ∧ win0_3.index t 1 = t.val ∧ win0_4.index t 0 = 0 ∧ win0_4.index t 1 = t.val ∧ win0_5.index t 0 = 0 ∧ win0_5.index t 1 = t.val)

theorem blk0 (c : Dev nD) (t : Fin cfg0.N) (r : Fin 2048) (k : Fin 1024) :
    iblk m c 0 t (ix2 r k) = pk m c (ix2 r ⟨1024 * t.val + k.val, by have := t_lt t; omega⟩) := by
  have ht := t_lt t
  refine Eq.trans ?_ (pad_at _ (sitofp (F := Ideal) .bf16 (constantI S_ 32 0#32)) r ⟨1024 * t.val + k.val, by omega⟩)
  refine Eq.trans ?_ (congrFun (V6 m c) _)
  unfold iblk
  rw [View.read_apply]
  show V m c main_v6 _ = _
  congr 1
  funext a
  apply Fin.ext
  match a with
  | ⟨0, _⟩ => show win0_0.index t 0 * 2048 + 1 * r.val = r.val; rw [(idx_facts t).1]; omega
  | ⟨1, _⟩ => show win0_0.index t 1 * 1024 + 1 * k.val = 3072 + (1024 * t.val + k.val); rw [(idx_facts t).2.1]; omega

theorem blk1 (c : Dev nD) (t : Fin cfg0.N) (p : Fin 2) (l : Fin 256) :
    iblk m c 1 t (ix3 p (0 : Fin 1) l) = (m ((c : Thread nD τ).loc main_arg4) : Vec Ideal S8x257 .f32) (ix2 ⟨2 * t.val + p.val, by have := t_lt t; omega⟩ ⟨256 - l.val, by omega⟩) := by
  have ht := t_lt t
  refine Eq.trans ?_ (rows_at _ ⟨2 * t.val + p.val, by omega⟩ l)
  refine Eq.trans ?_ (congrFun (V9 m c) _)
  unfold iblk
  rw [View.read_apply]
  show V m c main_v9 _ = _
  congr 1
  funext a
  apply Fin.ext
  match a with
  | ⟨0, _⟩ => show win0_1.index t 0 * 2 + 1 * p.val = 2 * t.val + p.val; rw [(idx_facts t).2.2.1]; omega
  | ⟨1, _⟩ => show win0_1.index t 1 * 1 + 1 * 0 = 0; rw [(idx_facts t).2.2.2.1]
  | ⟨2, _⟩ => show win0_1.index t 2 * 256 + 1 * l.val = l.val; rw [(idx_facts t).2.2.2.2.1]; omega

theorem blk2 (c : Dev nD) (t : Fin cfg0.N) (k : Fin 256) :
    iblk m c 2 t (ix2 (0 : Fin 1) k) = (m ((c : Thread nD τ).loc main_arg5) : Vec Ideal S1024 .f32) (ix1 ⟨256 * t.val + k.val, by have := t_lt t; omega⟩) := by
  have ht := t_lt t
  refine Eq.trans ?_ (V10_at m c ⟨256 * t.val + k.val, by omega⟩)
  unfold iblk
  rw [View.read_apply]
  show V m c main_v10 _ = _
  congr 1
  funext a
  apply Fin.ext
  match a with
  | ⟨0, _⟩ => show win0_2.index t 0 * 1 + 1 * 0 = 0; rw [(idx_facts t).2.2.2.2.2.1]
  | ⟨1, _⟩ => show win0_2.index t 1 * 256 + 1 * k.val = 256 * t.val + k.val; rw [(idx_facts t).2.2.2.2.2.2.1]; omega

/-- The queries. -/
abbrev aq (c : Dev nD) : ℕ → ℕ → EReal := ext (N := 2048) (M := 1024) (m ((c : Thread nD τ).loc main_arg0))
/-- The keys. -/
abbrev ak (c : Dev nD) : ℕ → ℕ → EReal := ext (N := 2048) (M := 1024) (m ((c : Thread nD τ).loc main_arg1))
/-- The values. -/
abbrev av (c : Dev nD) : ℕ → ℕ → EReal := ext (N := 2048) (M := 1024) (m ((c : Thread nD τ).loc main_arg2))
/-- The gates. -/
abbrev ag (c : Dev nD) : ℕ → ℕ → EReal := ext (N := 2048) (M := 1024) (m ((c : Thread nD τ).loc main_arg3))
/-- The bias table. -/
abbrev rb (c : Dev nD) : ℕ → ℕ → EReal := ext (N := 8) (M := 257) (m ((c : Thread nD τ).loc main_arg4))

/-- The packed operands as the grid point's block shows them. -/
def zt (c : Dev nD) (t : ℕ) (r n : ℕ) : EReal :=
  if n % 512 < 128 then aq m c r (128 * (2 * t + n / 512) + n % 512) else if n % 512 < 256 then ak m c r (128 * (2 * t + n / 512) + (n % 512 - 128))
  else if n % 512 < 384 then av m c r (128 * (2 * t + n / 512) + (n % 512 - 256)) else ag m c r (128 * (2 * t + n / 512) + (n % 512 - 384))

/-- The bias rows as the grid point's block shows them. -/
def bt (c : Dev nD) (t : ℕ) (p l : ℕ) : EReal := rb m c (2 * t + p) (256 - l)

/-- The gains as the grid point's block shows them. -/
def gt (c : Dev nD) (t : ℕ) (n : ℕ) : EReal := if h : 256 * t + n < 1024 then (m ((c : Thread nD τ).loc main_arg5) : Vec Ideal S1024 .f32) (ix1 ⟨256 * t + n, h⟩) else 0

theorem zt_eq (c : Dev nD) (t : Fin cfg0.N) (y : S2048x1024.Idx) : iblk m c 0 t y = zt m c t.val (y 0).val (y 1).val := by
  have ht := t_lt t
  have y0 : (y 0).val < 2048 := (y 0).isLt
  have y1 : (y 1).val < 1024 := (y 1).isLt
  have e : iblk m c 0 t y = pk m c (ix2 ⟨(y 0).val, y0⟩ ⟨1024 * t.val + (y 1).val, by omega⟩) :=
    (congrArg _ (ix2_eta y)).trans (blk0 m c t ⟨(y 0).val, y0⟩ ⟨(y 1).val, y1⟩)
  rw [e]
  unfold zt
  have ha : 2 * t.val + (y 1).val / 512 < 8 := by omega
  split
  · rw [aq, ext_eq _ _ _ y0 (by omega)]
    exact packed_0 _ _ _ _ _ _ ⟨_, ha⟩ ⟨(y 1).val % 512, by omega⟩ (by show 1024 * t.val + (y 1).val = 512 * (2 * t.val + (y 1).val / 512) + 0 + (y 1).val % 512; omega)
  split
  · rw [ak, ext_eq _ _ _ y0 (by omega)]
    exact packed_1 _ _ _ _ _ _ ⟨_, ha⟩ ⟨(y 1).val % 512 - 128, by omega⟩ (by show 1024 * t.val + (y 1).val = 512 * (2 * t.val + (y 1).val / 512) + 128 + ((y 1).val % 512 - 128); omega)
  split
  · rw [av, ext_eq _ _ _ y0 (by omega)]
    exact packed_2 _ _ _ _ _ _ ⟨_, ha⟩ ⟨(y 1).val % 512 - 256, by omega⟩ (by show 1024 * t.val + (y 1).val = 512 * (2 * t.val + (y 1).val / 512) + 256 + ((y 1).val % 512 - 256); omega)
  · rw [ag, ext_eq _ _ _ y0 (by omega)]
    exact packed_3 _ _ _ _ _ _ ⟨_, ha⟩ ⟨(y 1).val % 512 - 384, by omega⟩ (by show 1024 * t.val + (y 1).val = 512 * (2 * t.val + (y 1).val / 512) + 384 + ((y 1).val % 512 - 384); omega)

theorem bt_eq (c : Dev nD) (t : Fin cfg0.N) (y : S2x1x256.Idx) : iblk m c 1 t y = bt m c t.val (y 0).val (y 2).val := by
  have ht := t_lt t
  have y0 : (y 0).val < 2 := (y 0).isLt
  have y2 : (y 2).val < 256 := (y 2).isLt
  have hy : y = ix3 (⟨(y 0).val, y0⟩ : Fin 2) (0 : Fin 1) (⟨(y 2).val, y2⟩ : Fin 256) := (ix3_eta y).trans (congrArg (fun a : Fin 1 => (ix3 (y 0 : Fin 2) a (y 2 : Fin 256) : S2x1x256.Idx)) (Fin.eq_zero (show Fin 1 from y 1)))
  unfold bt
  rw [rb, ext_eq _ _ _ (by omega) (by omega)]
  exact (congrArg _ hy).trans (blk1 m c t ⟨(y 0).val, y0⟩ ⟨(y 2).val, y2⟩)

theorem gt_eq (c : Dev nD) (t : Fin cfg0.N) (y : S1x256.Idx) : iblk m c 2 t y = gt m c t.val (y 1).val := by
  have ht := t_lt t
  have y1 : (y 1).val < 256 := (y 1).isLt
  have hy : y = ix2 (0 : Fin 1) (⟨(y 1).val, y1⟩ : Fin 256) := (ix2_eta y).trans (congrArg (fun a : Fin 1 => (ix2 a (y 1 : Fin 256) : S1x256.Idx)) (Fin.eq_zero (show Fin 1 from y 0)))
  unfold gt
  rw [dif_pos (by omega)]
  exact (congrArg _ hy).trans (blk2 m c t ⟨(y 1).val, y1⟩)

/-- The scores of a row of a head. -/
abbrev sc (c : Dev nD) (a r : ℕ) : Fin 2048 → EReal := dense (aq m c) (ak m c) (rb m c) a r

/-- The attended values. -/
def oK (c : Dev nD) (a r : ℕ) (d : Fin 128) : EReal := mix (sc m c a r) (fun y => av m c y.val (128 * a + d.val))

theorem zq (c : Dev nD) (t p : ℕ) (r x : ℕ) (_ : r < 2048) (hx : x < 128) : zt m c t r (512 * p + x) = aq m c r (128 * (2 * t + p) + x) := by
  have e1 : (512 * p + x) % 512 = x := by omega
  have e2 : (512 * p + x) / 512 = p := by omega
  unfold zt
  rw [e1, e2, if_pos (by omega)]

theorem zk (c : Dev nD) (t p : ℕ) (r x : ℕ) (_ : r < 2048) (hx : x < 128) : zt m c t r (512 * p + 128 + x) = ak m c r (128 * (2 * t + p) + x) := by
  have e1 : (512 * p + 128 + x) % 512 = 128 + x := by omega
  have e2 : (512 * p + 128 + x) / 512 = p := by omega
  unfold zt
  rw [e1, e2, if_neg (by omega), if_pos (by omega), Nat.add_sub_cancel_left]

theorem zv (c : Dev nD) (t p : ℕ) (r x : ℕ) (_ : r < 2048) (hx : x < 128) : zt m c t r (512 * p + 256 + x) = av m c r (128 * (2 * t + p) + x) := by
  have e1 : (512 * p + 256 + x) % 512 = 256 + x := by omega
  have e2 : (512 * p + 256 + x) / 512 = p := by omega
  unfold zt
  rw [e1, e2, if_neg (by omega), if_neg (by omega), if_pos (by omega), Nat.add_sub_cancel_left]

theorem zg (c : Dev nD) (t p : ℕ) (r x : ℕ) (_ : r < 2048) (hx : x < 128) : zt m c t r (512 * p + 384 + x) = ag m c r (128 * (2 * t + p) + x) := by
  have e1 : (512 * p + 384 + x) % 512 = 384 + x := by omega
  have e2 : (512 * p + 384 + x) / 512 = p := by omega
  unfold zt
  rw [e1, e2, if_neg (by omega), if_neg (by omega), if_neg (by omega), Nat.add_sub_cancel_left]

theorem o_point (c : Dev nD) (t p r : ℕ) (hr : r < 2048) (d : Fin 128) : oAt (zt m c t) (bt m c t) r p d = oK m c (2 * t + p) r d :=
  oAt_dense _ _ _ _ _ _ (2 * t + p) p r hr (zq m c t p) (zk m c t p) (zv m c t p) (fun l _ => rfl) d

theorem lse_point (c : Dev nD) (t p r : ℕ) (hr : r < 2048) (d : Fin 128) : lseAt (zt m c t) (bt m c t) r p d = top (sc m c (2 * t + p) r) + Ideal.log (tot (sc m c (2 * t + p) r)) :=
  lseAt_dense _ _ _ _ _ (2 * t + p) p r hr (zq m c t p) (zk m c t p) (fun l _ => rfl) d

/-- The gated values of a row at a column. -/
def F3 (c : Dev nD) (r : Fin 2048) (e : Fin 1024) : EReal :=
  gated (fun x => oK m c (e.val / 128) r.val x) ((m ((c : Thread nD τ).loc main_arg5) : Vec Ideal S1024 .f32) (ix1 e)) ((m ((c : Thread nD τ).loc main_arg3) : Vec Ideal S2048x1024 .bf16) (ix2 r e)) ⟨e.val % 128, by omega⟩

/-- The attended values of a row at a column. -/
def F4 (c : Dev nD) (r : Fin 2048) (e : Fin 1024) : EReal := oK m c (e.val / 128) r.val ⟨e.val % 128, by omega⟩

/-- The logarithm of the row's sum of exponentials at a column. -/
def F5 (c : Dev nD) (r : Fin 2048) (e : Fin 1024) : EReal := top (sc m c (e.val / 128) r.val) + Ideal.log (tot (sc m c (e.val / 128) r.val))

theorem at3 (c : Dev nD) (t : Fin cfg0.N) (y : S2048x256.Idx) (e : Fin 1024) (he : e.val = 256 * t.val + (y 1).val) :
    onBlock (catAt (zt m c t.val) (bt m c t.val) (gt m c t.val)) y = F3 m c ⟨(y 0).val, (y 0).isLt⟩ e := by
  have y0 : (y 0).val < 2048 := (y 0).isLt
  have y1 : (y 1).val < 256 := (y 1).isLt
  have e1 : e.val / 128 = 2 * t.val + (y 1).val / 128 := by omega
  have e2 : (⟨e.val % 128, by omega⟩ : Fin 128) = ⟨(y 1).val % 128, by omega⟩ := Fin.ext (by show e.val % 128 = (y 1).val % 128; omega)
  unfold F3
  rw [e2, e1]
  show catAt (zt m c t.val) (bt m c t.val) (gt m c t.val) (y 0).val ((y 1).val / 128) ⟨(y 1).val % 128, _⟩ = _
  unfold catAt
  simp only [o_point m c _ _ _ y0]
  have hg : gt m c t.val (128 * ((y 1).val / 128) + (y 1).val % 128) = (m ((c : Thread nD τ).loc main_arg5) : Vec Ideal S1024 .f32) (ix1 e) := by
    unfold gt
    rw [dif_pos (by have := t_lt t; omega)]
    exact congrArg _ (congrArg ix1 (Fin.ext (by show 256 * t.val + (128 * ((y 1).val / 128) + (y 1).val % 128) = e.val; omega)))
  have ha : zt m c t.val (y 0).val (512 * ((y 1).val / 128) + 384 + (y 1).val % 128) = (m ((c : Thread nD τ).loc main_arg3) : Vec Ideal S2048x1024 .bf16) (ix2 ⟨(y 0).val, y0⟩ e) := by
    rw [zg m c _ _ _ _ y0 (by omega), ag, ext_eq _ _ _ y0 (by have := t_lt t; omega)]
    exact congrArg _ (congrArg (ix2 _) (Fin.ext (by show 128 * (2 * t.val + (y 1).val / 128) + (y 1).val % 128 = e.val; omega)))
  rw [hg, ha]

theorem at4 (c : Dev nD) (t : Fin cfg0.N) (y : S2048x256.Idx) (e : Fin 1024) (he : e.val = 256 * t.val + (y 1).val) :
    onBlock (oAt (zt m c t.val) (bt m c t.val)) y = F4 m c ⟨(y 0).val, (y 0).isLt⟩ e := by
  have y0 : (y 0).val < 2048 := (y 0).isLt
  have y1 : (y 1).val < 256 := (y 1).isLt
  have e1 : e.val / 128 = 2 * t.val + (y 1).val / 128 := by omega
  have e2 : (⟨e.val % 128, by omega⟩ : Fin 128) = ⟨(y 1).val % 128, by omega⟩ := Fin.ext (by show e.val % 128 = (y 1).val % 128; omega)
  unfold F4
  rw [e2, e1]
  exact o_point m c _ _ _ y0 _

theorem at5 (c : Dev nD) (t : Fin cfg0.N) (y : S2048x256.Idx) (e : Fin 1024) (he : e.val = 256 * t.val + (y 1).val) :
    onBlock (lseAt (zt m c t.val) (bt m c t.val)) y = F5 m c ⟨(y 0).val, (y 0).isLt⟩ e := by
  have y0 : (y 0).val < 2048 := (y 0).isLt
  have y1 : (y 1).val < 256 := (y 1).isLt
  have e1 : e.val / 128 = 2 * t.val + (y 1).val / 128 := by omega
  unfold F5
  rw [e1]
  exact lse_point m c _ _ _ y0 _

/-- What the call leaves of result 1. -/
def G3 (c : Dev nD) : Buf (Elt Ideal) ((c : Thread nD τ).loc main_v11_0) :=
  fun i => F3 m c ⟨(i 0).val, (i 0).isLt⟩ ⟨(i 1).val, (i 1).isLt⟩

theorem out3 (c : Dev nD) (t : Fin cfg0.N) (y : S2048x256.Idx) :
    out0_A_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (iblk m c 0 t) (iblk m c 1 t) (iblk m c 2 t) y = onBlock (catAt (zt m c t.val) (bt m c t.val) (gt m c t.val)) y := by
  unfold out0_A_3
  refine View.read_writes_apply_of_pieces VO0_3 VO0_3.junk (onBlock (catAt (zt m c t.val) (bt m c t.val) (gt m c t.val))) _ ?_ y (cover0_A_3 (F := Ideal) c _ _ _ _ _ _ _ _ _ _ _ _ _ _ _ _ _ _ _ _ _ _ y)
  exact (run_pieces (zt m c t.val) (bt m c t.val) (gt m c t.val) c _ _ _ _ _ _ _ _ _ _ _ _ _ _ _ _ _ _ _ _ _ _ (zt_eq m c t) (bt_eq m c t) (gt_eq m c t)).1

theorem flushed3_eq (c : Dev nD) (t : Fin cfg0.N) : (dats m 0 c).flushed 3 t = ((cfg0.win 3).blk t).view.read (Elt Ideal) (G3 m c) := by
  have ht := t_lt t
  rw [Value.flushed3_A]
  funext y
  rw [View.read_apply]
  have y1 : (y 1).val < 256 := (y 1).isLt
  refine (out3 m c t y).trans ((at3 m c t y ⟨256 * t.val + (y 1).val, by omega⟩ rfl).trans ?_)
  unfold G3
  refine congrArg₂ (F3 m c) (Fin.ext ?_) (Fin.ext ?_)
  · show (y 0).val = win0_3.index t 0 * 2048 + 1 * (y 0).val; rw [(idx_facts t).2.2.2.2.2.2.2.1]; omega
  · show 256 * t.val + (y 1).val = win0_3.index t 1 * 256 + 1 * (y 1).val; rw [(idx_facts t).2.2.2.2.2.2.2.2.1]; omega

theorem flush3 : ∀ t : Fin cfg0.N, ((cfgs 0).win 3).flush t = true := by decide +kernel

theorem final3 (c : Dev nD) : (dats m 0 c).arrAt 3 cfg0.N = G3 m c :=
  (dats m 0 c).arrAt_eq_of_cover 3 (G3 m c) (fun t _ => flushed3_eq m c t) fun i => by
    have h0 : (i 0 : Nat) < 2048 := (i 0).isLt
    have h1 : (i 1 : Nat) < 1024 := (i 1).isLt
    have ht : (i 1 : Nat) / 256 < cfg0.N := lt_of_lt_of_eq (by omega : (i 1 : Nat) / 256 < 4) (show cfg0.N = 4 from N_0).symm
    generalize htt : (⟨(i 1 : Nat) / 256, ht⟩ : Fin cfg0.N) = t
    have e0 : t.val = (i 1 : Nat) / 256 := by rw [← htt]
    refine ⟨t, flush3 t, ?_⟩
    show i ∈ ((View.whole main_v11_0).slice (win0_3.rect t)).set
    rw [View.set_slice_whole, Rect.mem_set_unit]
    intro a
    match a with
    | ⟨0, _⟩ => show win0_3.index t 0 * 2048 ≤ (i 0 : Nat) ∧ (i 0 : Nat) < win0_3.index t 0 * 2048 + 2048
                rw [(idx_facts t).2.2.2.2.2.2.2.1]; omega
    | ⟨1, _⟩ => show win0_3.index t 1 * 256 ≤ (i 1 : Nat) ∧ (i 1 : Nat) < win0_3.index t 1 * 256 + 256
                rw [(idx_facts t).2.2.2.2.2.2.2.2.1]; omega

/-- What the call leaves of result 2. -/
def G4 (c : Dev nD) : Buf (Elt Ideal) ((c : Thread nD τ).loc main_v11_1) :=
  fun i => F4 m c ⟨(i 0).val, (i 0).isLt⟩ ⟨(i 1).val, (i 1).isLt⟩

theorem out4 (c : Dev nD) (t : Fin cfg0.N) (y : S2048x256.Idx) :
    out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (iblk m c 0 t) (iblk m c 1 t) (iblk m c 2 t) y = onBlock (oAt (zt m c t.val) (bt m c t.val)) y := by
  unfold out0_A_4
  refine View.read_writes_apply_of_pieces VO0_4 VO0_4.junk (onBlock (oAt (zt m c t.val) (bt m c t.val))) _ ?_ y (cover0_A_4 (F := Ideal) c _ _ _ _ _ _ _ _ _ _ _ _ _ _ _ _ _ _ _ _ _ _ y)
  exact (run_pieces (zt m c t.val) (bt m c t.val) (gt m c t.val) c _ _ _ _ _ _ _ _ _ _ _ _ _ _ _ _ _ _ _ _ _ _ (zt_eq m c t) (bt_eq m c t) (gt_eq m c t)).2.1

theorem flushed4_eq (c : Dev nD) (t : Fin cfg0.N) : (dats m 0 c).flushed 4 t = ((cfg0.win 4).blk t).view.read (Elt Ideal) (G4 m c) := by
  have ht := t_lt t
  rw [Value.flushed4_A]
  funext y
  rw [View.read_apply]
  have y1 : (y 1).val < 256 := (y 1).isLt
  refine (out4 m c t y).trans ((at4 m c t y ⟨256 * t.val + (y 1).val, by omega⟩ rfl).trans ?_)
  unfold G4
  refine congrArg₂ (F4 m c) (Fin.ext ?_) (Fin.ext ?_)
  · show (y 0).val = win0_4.index t 0 * 2048 + 1 * (y 0).val; rw [(idx_facts t).2.2.2.2.2.2.2.2.2.1]; omega
  · show 256 * t.val + (y 1).val = win0_4.index t 1 * 256 + 1 * (y 1).val; rw [(idx_facts t).2.2.2.2.2.2.2.2.2.2.1]; omega

theorem flush4 : ∀ t : Fin cfg0.N, ((cfgs 0).win 4).flush t = true := by decide +kernel

theorem final4 (c : Dev nD) : (dats m 0 c).arrAt 4 cfg0.N = G4 m c :=
  (dats m 0 c).arrAt_eq_of_cover 4 (G4 m c) (fun t _ => flushed4_eq m c t) fun i => by
    have h0 : (i 0 : Nat) < 2048 := (i 0).isLt
    have h1 : (i 1 : Nat) < 1024 := (i 1).isLt
    have ht : (i 1 : Nat) / 256 < cfg0.N := lt_of_lt_of_eq (by omega : (i 1 : Nat) / 256 < 4) (show cfg0.N = 4 from N_0).symm
    generalize htt : (⟨(i 1 : Nat) / 256, ht⟩ : Fin cfg0.N) = t
    have e0 : t.val = (i 1 : Nat) / 256 := by rw [← htt]
    refine ⟨t, flush4 t, ?_⟩
    show i ∈ ((View.whole main_v11_1).slice (win0_4.rect t)).set
    rw [View.set_slice_whole, Rect.mem_set_unit]
    intro a
    match a with
    | ⟨0, _⟩ => show win0_4.index t 0 * 2048 ≤ (i 0 : Nat) ∧ (i 0 : Nat) < win0_4.index t 0 * 2048 + 2048
                rw [(idx_facts t).2.2.2.2.2.2.2.2.2.1]; omega
    | ⟨1, _⟩ => show win0_4.index t 1 * 256 ≤ (i 1 : Nat) ∧ (i 1 : Nat) < win0_4.index t 1 * 256 + 256
                rw [(idx_facts t).2.2.2.2.2.2.2.2.2.2.1]; omega

/-- What the call leaves of result 3. -/
def G5 (c : Dev nD) : Buf (Elt Ideal) ((c : Thread nD τ).loc main_v11_2) :=
  fun i => F5 m c ⟨(i 0).val, (i 0).isLt⟩ ⟨(i 1).val, (i 1).isLt⟩

theorem out5 (c : Dev nD) (t : Fin cfg0.N) (y : S2048x256.Idx) :
    out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (iblk m c 0 t) (iblk m c 1 t) (iblk m c 2 t) y = onBlock (lseAt (zt m c t.val) (bt m c t.val)) y := by
  unfold out0_A_5
  refine View.read_writes_apply_of_pieces VO0_5 VO0_5.junk (onBlock (lseAt (zt m c t.val) (bt m c t.val))) _ ?_ y (cover0_A_5 (F := Ideal) c _ _ _ _ _ _ _ _ _ _ _ _ _ _ _ _ _ _ _ _ _ _ y)
  exact (run_pieces (zt m c t.val) (bt m c t.val) (gt m c t.val) c _ _ _ _ _ _ _ _ _ _ _ _ _ _ _ _ _ _ _ _ _ _ (zt_eq m c t) (bt_eq m c t) (gt_eq m c t)).2.2

theorem flushed5_eq (c : Dev nD) (t : Fin cfg0.N) : (dats m 0 c).flushed 5 t = ((cfg0.win 5).blk t).view.read (Elt Ideal) (G5 m c) := by
  have ht := t_lt t
  rw [Value.flushed5_A]
  funext y
  rw [View.read_apply]
  have y1 : (y 1).val < 256 := (y 1).isLt
  refine (out5 m c t y).trans ((at5 m c t y ⟨256 * t.val + (y 1).val, by omega⟩ rfl).trans ?_)
  unfold G5
  refine congrArg₂ (F5 m c) (Fin.ext ?_) (Fin.ext ?_)
  · show (y 0).val = win0_5.index t 0 * 2048 + 1 * (y 0).val; rw [(idx_facts t).2.2.2.2.2.2.2.2.2.2.2.1]; omega
  · show 256 * t.val + (y 1).val = win0_5.index t 1 * 256 + 1 * (y 1).val; rw [(idx_facts t).2.2.2.2.2.2.2.2.2.2.2.2]; omega

theorem flush5 : ∀ t : Fin cfg0.N, ((cfgs 0).win 5).flush t = true := by decide +kernel

theorem final5 (c : Dev nD) : (dats m 0 c).arrAt 5 cfg0.N = G5 m c :=
  (dats m 0 c).arrAt_eq_of_cover 5 (G5 m c) (fun t _ => flushed5_eq m c t) fun i => by
    have h0 : (i 0 : Nat) < 2048 := (i 0).isLt
    have h1 : (i 1 : Nat) < 1024 := (i 1).isLt
    have ht : (i 1 : Nat) / 256 < cfg0.N := lt_of_lt_of_eq (by omega : (i 1 : Nat) / 256 < 4) (show cfg0.N = 4 from N_0).symm
    generalize htt : (⟨(i 1 : Nat) / 256, ht⟩ : Fin cfg0.N) = t
    have e0 : t.val = (i 1 : Nat) / 256 := by rw [← htt]
    refine ⟨t, flush5 t, ?_⟩
    show i ∈ ((View.whole main_v11_2).slice (win0_5.rect t)).set
    rw [View.set_slice_whole, Rect.mem_set_unit]
    intro a
    match a with
    | ⟨0, _⟩ => show win0_5.index t 0 * 2048 ≤ (i 0 : Nat) ∧ (i 0 : Nat) < win0_5.index t 0 * 2048 + 2048
                rw [(idx_facts t).2.2.2.2.2.2.2.2.2.2.2.1]; omega
    | ⟨1, _⟩ => show win0_5.index t 1 * 256 ≤ (i 1 : Nat) ∧ (i 1 : Nat) < win0_5.index t 1 * 256 + 256
                rw [(idx_facts t).2.2.2.2.2.2.2.2.2.2.2.2]; omega

end Cert.AttFwdIdeal.Hand
-- ==== Proof.AttRef.lean ====
module

public import proofs.«01_k».proof.Defs
public import proofs.«01_k».proof.Proof.AttMask
public import proofs.«01_k».proof.Proof.Gen.AttFwdReferenceIdeal.Run
public import proofs.«01_k».proof.Proof.Gen.AttFwdReferenceIdeal.Read
public import Idealize.ShloMosaic.Lib.Pointwise

@[expose] public section

set_option maxRecDepth 16384

noncomputable section

namespace Cert.AttFwdReferenceIdeal.Hand

open Idealize.ShloMosaic Idealize.ShloMosaic.TcCoe
open Cert.AttFwdReferenceIdeal Cert.AttFwdReferenceIdeal.Gen Cert.AttFwdReferenceIdeal.Read
open Cert.AttFwdIdeal.Hand (top tot mix gated near dense)

variable (x0 x1 x2 x3 : (⟨S2048x1024, .bf16⟩ : BufTy).Contents (Elt Ideal)) (x4 : (⟨S8x257, .f32⟩ : BufTy).Contents (Elt Ideal)) (x5 : (⟨S1024, .f32⟩ : BufTy).Contents (Elt Ideal))

theorem v44_at (a : Fin 8) (r : Fin 2048) : val_main_v44 (F := Ideal) x0 x1 x4 (ix2 a r) = top (D x0 x1 x4 a.val r.val) := by
  have h : val_main_v44 (F := Ideal) x0 x1 x4 (ix2 a r) = Finset.fold max (Ideal.ofBits .f32 4286578688#32) (fun y => val_main_v43 (F := Ideal) x0 x1 x4 (ix3 a r y)) Finset.univ := by
    pointwise [val_main_v44, val_main_cst_4]
  rw [h, Cert.AttFwdIdeal.Hand.neg_inf]
  exact congrArg (fun f => Finset.fold max ⊥ f Finset.univ) (funext fun y => v43_at x0 x1 x4 a r y)

theorem v53_at (a : Fin 8) (r : Fin 2048) : val_main_v53 (F := Ideal) x0 x1 x4 (ix2 a r) = top (D x0 x1 x4 a.val r.val) := by
  have h : val_main_v53 (F := Ideal) x0 x1 x4 (ix2 a r) = Finset.fold max (Ideal.ofBits .f32 4286578688#32) (fun y => val_main_v43 (F := Ideal) x0 x1 x4 (ix3 a r y)) Finset.univ := by
    pointwise [val_main_v53, val_main_cst_6]
  rw [h, Cert.AttFwdIdeal.Hand.neg_inf]
  exact congrArg (fun f => Finset.fold max ⊥ f Finset.univ) (funext fun y => v43_at x0 x1 x4 a r y)

theorem max_bot_word (x : EReal) : FloatOps.maximumf (F := Ideal) (φ := .f32) (FloatOps.ofBits .f32 0xFF800000#32) x = x :=
  (congrArg (fun z => max z x) Cert.AttFwdIdeal.Hand.neg_inf).trans (max_eq_right bot_le)

theorem v55_at (a : Fin 8) (r : Fin 2048) : val_main_v55 (F := Ideal) x0 x1 x4 (ix2 a r) = top (D x0 x1 x4 a.val r.val) := by
  rw [val_main_v55_apply, v53_at, val_main_v54_apply, val_main_cst_7_apply]
  exact max_bot_word _

theorem v49_at (a : Fin 8) (r : Fin 2048) : val_main_v49 (F := Ideal) x0 x1 x4 (ix2 a r) = tot (D x0 x1 x4 a.val r.val) := by
  have h : val_main_v49 (F := Ideal) x0 x1 x4 (ix2 a r) = ∑ y : Fin 2048, Ideal.exp (val_main_v43 (F := Ideal) x0 x1 x4 (ix3 a r y) - val_main_v44 (F := Ideal) x0 x1 x4 (ix2 a r)) := by
    pointwise [val_main_v49, val_main_cst_5, val_main_v48, val_main_v47, val_main_v46, val_main_v45]
  rw [h, v44_at]
  unfold tot
  simp only [v43_at]

theorem v52_at (a : Fin 8) (r : Fin 2048) : val_main_v52 (F := Ideal) x0 x1 x4 (ix3 a r 0) = top (D x0 x1 x4 a.val r.val) + Ideal.log (tot (D x0 x1 x4 a.val r.val)) := by
  have e5 : idx_main_v45 (ix3 a r 0) = ix2 a r := funext fun k => match k with | ⟨0, _⟩ => rfl | ⟨1, _⟩ => rfl
  have e0 : idx_main_v50 (ix3 a r 0) = ix2 a r := funext fun k => match k with | ⟨0, _⟩ => rfl | ⟨1, _⟩ => rfl
  rw [val_main_v52_apply, val_main_v51_apply, val_main_v45_apply, val_main_v50_apply, e5, e0, v44_at, v49_at]
  rfl

theorem v63_at (a : Fin 8) (r y : Fin 2048) : val_main_v63 (F := Ideal) x0 x1 x4 (ix3 a r y)
    = Ideal.div (Ideal.exp (D x0 x1 x4 a.val r.val y - top (D x0 x1 x4 a.val r.val))) (tot (D x0 x1 x4 a.val r.val)) := by
  have h : val_main_v63 (F := Ideal) x0 x1 x4 (ix3 a r y) = Ideal.div (Ideal.exp (val_main_v43 (F := Ideal) x0 x1 x4 (ix3 a r y) - val_main_v55 (F := Ideal) x0 x1 x4 (ix2 a r)))
      (∑ y : Fin 2048, Ideal.exp (val_main_v43 (F := Ideal) x0 x1 x4 (ix3 a r y) - val_main_v55 (F := Ideal) x0 x1 x4 (ix2 a r))) := by
    pointwise [val_main_v63, val_main_v62, val_main_v61, val_main_v60, val_main_cst_8, val_main_v59, val_main_v58, val_main_v57, val_main_v56]
  rw [h, v55_at]
  unfold tot
  simp only [v43_at]

/-- The reference's attended values. -/
def oRef (a r : ℕ) (d : Fin 128) : EReal :=
  ∑ y : Fin 2048, ext x2 y.val (128 * a + d.val) * Ideal.div (Ideal.exp (D x0 x1 x4 a r y - top (D x0 x1 x4 a r))) (tot (D x0 x1 x4 a r))

theorem v66_at (r : Fin 2048) (a : Fin 8) (d : Fin 128) : val_main_v66 (F := Ideal) x0 x1 x2 x4 (ix3 r a d) = oRef x0 x1 x2 x4 a.val r.val d := by
  have h : val_main_v66 (F := Ideal) x0 x1 x2 x4 (ix3 r a d) = ∑ y : Fin 2048, val_main_v64 (F := Ideal) x2 (ix3 y a d) * val_main_v63 (F := Ideal) x0 x1 x4 (ix3 a r y) := by
    pointwise [val_main_v66, val_main_v65]
  have h4 : ∀ y : Fin 2048, val_main_v64 (F := Ideal) x2 (ix3 y a d) = ext x2 y.val (128 * a.val + d.val) := by
    intro y
    rw [val_main_v64_apply, val_main_v2_apply, ext_eq x2 _ _ y.isLt (by omega)]
    refine congrArg x2 (funext fun k => match k with | ⟨0, _⟩ => Fin.ext ?_ | ⟨1, _⟩ => Fin.ext ?_)
    · show (((y.val * 8 + a.val) * 128 + d.val) / 1024) = y.val; omega
    · show (((y.val * 8 + a.val) * 128 + d.val) % 1024) = 128 * a.val + d.val; omega
  rw [h]
  unfold oRef
  simp only [h4, v63_at]

theorem v80_at (r : Fin 2048) (a : Fin 8) (d : Fin 128) (e : Fin 1024) (he : e.val = 128 * a.val + d.val) :
    val_main_v80 (F := Ideal) x0 x1 x2 x4 x5 (ix3 r a d) * val_main_v82 (F := Ideal) x3 (ix2 r e) = gated (fun x => oRef x0 x1 x2 x4 a.val r.val x) (x5 (ix1 e)) (x3 (ix2 r e)) d := by
  have h : val_main_v80 (F := Ideal) x0 x1 x2 x4 x5 (ix3 r a d) = val_main_v66 (F := Ideal) x0 x1 x2 x4 (ix3 r a d)
      * Ideal.rsqrt (Ideal.div (∑ x : Fin 128, val_main_v66 (F := Ideal) x0 x1 x2 x4 (ix3 r a x) * val_main_v66 (F := Ideal) x0 x1 x2 x4 (ix3 r a x)) (Ideal.ofBits .f32 1124073472#32) + Ideal.ofBits .f32 897988541#32)
      * val_main_v67 (F := Ideal) x5 (ix2 a d) := by
    pointwise [val_main_v80, val_main_v79, val_main_v78, val_main_v77, val_main_v76, val_main_v75, val_main_v74, val_main_v73, val_main_cst_11, val_main_v72, val_main_v71, val_main_cst_10, val_main_v70, val_main_v69, val_main_cst_9, val_main_v68]
  have h2 : val_main_v82 (F := Ideal) x3 (ix2 r e) = x3 (ix2 r e) * Ideal.div 1 (1 + Ideal.exp (-x3 (ix2 r e))) := by
    pointwise [val_main_v82, val_main_call2_v5, val_main_call2_v4, val_main_call2_cst_0, val_main_call2_v3, val_main_call2_v2, val_main_call2_cst, val_main_call2_v1, val_main_call2_v0, val_main_v3]
  have h3 : val_main_v67 (F := Ideal) x5 (ix2 a d) = x5 (ix1 e) := by
    rw [val_main_v67_apply]
    refine congrArg x5 (funext fun k => match k with | ⟨0, _⟩ => Fin.ext ?_)
    show a.val * 128 + d.val = e.val
    omega
  rw [h, h2, h3]
  unfold gated
  simp only [v66_at, zero_sub]

/-! ## The three results -/

theorem v84_at (r : Fin 2048) (e : Fin 1024) (a : Fin 8) (d : Fin 128) (he : e.val = 128 * a.val + d.val) :
    val_main_v84 (F := Ideal) x0 x1 x2 x3 x4 x5 (ix2 r e) = gated (fun x => oRef x0 x1 x2 x4 a.val r.val x) (x5 (ix1 e)) (x3 (ix2 r e)) d := by
  refine Eq.trans ?_ (v80_at x0 x1 x2 x3 x4 x5 r a d e he)
  rw [val_main_v84_apply, val_main_v83_apply, val_main_v81_apply]
  refine congrArg (fun z => val_main_v80 (F := Ideal) x0 x1 x2 x4 x5 z * val_main_v82 (F := Ideal) x3 (ix2 r e)) (funext fun k => match k with | ⟨0, _⟩ => Fin.ext ?_ | ⟨1, _⟩ => Fin.ext ?_ | ⟨2, _⟩ => Fin.ext ?_)
  · show (r.val * 1024 + e.val) / 1024 = r.val; omega
  · show (r.val * 1024 + e.val) / 128 % 8 = a.val; omega
  · show (r.val * 1024 + e.val) % 128 = d.val; omega

theorem v86_at (r : Fin 2048) (e : Fin 1024) (a : Fin 8) (d : Fin 128) (he : e.val = 128 * a.val + d.val) :
    val_main_v86 (F := Ideal) x0 x1 x2 x4 (ix2 r e) = oRef x0 x1 x2 x4 a.val r.val d := by
  refine Eq.trans ?_ (v66_at x0 x1 x2 x4 r a d)
  rw [val_main_v86_apply, val_main_v85_apply]
  refine congrArg (val_main_v66 (F := Ideal) x0 x1 x2 x4) (funext fun k => match k with | ⟨0, _⟩ => Fin.ext ?_ | ⟨1, _⟩ => Fin.ext ?_ | ⟨2, _⟩ => Fin.ext ?_)
  · show (r.val * 1024 + e.val) / 1024 = r.val; omega
  · show (r.val * 1024 + e.val) / 128 % 8 = a.val; omega
  · show (r.val * 1024 + e.val) % 128 = d.val; omega

theorem v89_at (r : Fin 2048) (e : Fin 1024) (a : Fin 8) (d : Fin 128) (he : e.val = 128 * a.val + d.val) :
    val_main_v89 (F := Ideal) x0 x1 x4 (ix2 r e) = top (D x0 x1 x4 a.val r.val) + Ideal.log (tot (D x0 x1 x4 a.val r.val)) := by
  refine Eq.trans ?_ (v52_at x0 x1 x4 a r)
  have h : val_main_v88 (F := Ideal) x0 x1 x4 (ix3 r a d) = val_main_v52 (F := Ideal) x0 x1 x4 (ix3 a r 0) := by
    pointwise [val_main_v88, val_main_v87]
  rw [val_main_v89_apply]
  refine Eq.trans (congrArg (val_main_v88 (F := Ideal) x0 x1 x4) (funext fun k => match k with | ⟨0, _⟩ => Fin.ext ?_ | ⟨1, _⟩ => Fin.ext ?_ | ⟨2, _⟩ => Fin.ext ?_)) h
  · show (r.val * 1024 + e.val) / 1024 = r.val; omega
  · show (r.val * 1024 + e.val) / 128 % 8 = a.val; omega
  · show (r.val * 1024 + e.val) % 128 = d.val; omega

end Cert.AttFwdReferenceIdeal.Hand
-- ==== Proof.AttFwd.lean ====
module

public import proofs.«01_k».proof.Defs
public import proofs.«01_k».proof.Proof.Norm
public import proofs.«01_k».proof.Proof.AttHost
public import proofs.«01_k».proof.Proof.AttRef
public import proofs.«01_k».proof.Proof.Gen.AttFwd.Frame
public import proofs.«01_k».proof.Proof.Gen.AttFwdIdeal.Frame
public import proofs.«01_k».proof.Proof.Gen.AttFwdIdeal.Value
public import proofs.«01_k».proof.Proof.Gen.AttFwdReferenceIdeal.Run
public import proofs.«01_k».proof.Proof.Gen.AttFwdReferenceIdeal.Read
public import proofs.«01_k».proof.Proof.Gen.Pre_finite_att
public import Idealize.ShloMosaic.Lib.Quiescent

@[expose] public section

set_option maxRecDepth 16384

noncomputable section

open Idealize.ShloMosaic Idealize.ShloMosaic.TcCoe Idealize.SL.Sem

namespace Cert.AttFwdReferenceIdeal.Hand

open Cert.AttFwdReferenceIdeal Cert.AttFwdReferenceIdeal.Gen

theorem frame_reference : Cert.quiescent_AttFwdReferenceIdeal := by
  intro m ρ _
  refine (θ_run _ _ _).mono (fun r h => ⟨fun c => (h c).2.2.2, sem_eq_zero_of_no_sems (by decide) _⟩) (Cert.AttFwdReferenceIdeal.Value.run m ρ)

/-- A table of real numbers reads as a real number everywhere. -/
theorem ext_real {N M : ℕ} (x : (⟨2, ![N, M]⟩ : Shape).Idx → EReal) (h : ∀ i, ∃ r : ℝ, x i = (r : EReal)) (i j : ℕ) : ∃ r : ℝ, ext x i j = (r : EReal) := by
  unfold ext
  split
  · exact h _
  · exact ⟨0, rfl⟩

end Cert.AttFwdReferenceIdeal.Hand

namespace Cert.AttFwdIdeal.Hand

open Cert.AttFwdIdeal Cert.AttFwdIdeal.Gen
open Cert.AttFwdReferenceIdeal.Hand (ext ext_real oRef)

/-- The kernel's mask word stands for the constant it names. -/
theorem preserves : Cert.preserves_AttFwd_AttFwdIdeal :=
  IdealRules.named_const.statement Cert.AttFwdIdeal.κ "mask" .f32 0xF149F2CA#32 ⊥ rfl

variable (m : (ℓ : Loc nD τ sig) → Buf (Elt Ideal) ℓ)

/-- Where the scores are real numbers the attended values are the softmax's. -/
theorem oK_oRef (c : Dev nD) (a r : ℕ) (hr : r < 2048) (d : Fin 128)
    (hq : ∀ i j, ∃ x : ℝ, aq m c i j = (x : EReal)) (hk : ∀ i j, ∃ x : ℝ, ak m c i j = (x : EReal)) (hb : ∀ i j, ∃ x : ℝ, rb m c i j = (x : EReal)) :
    oK m c a r d = oRef (m ((c : Thread nD τ).loc main_arg0)) (m ((c : Thread nD τ).loc main_arg1)) (m ((c : Thread nD τ).loc main_arg2)) (m ((c : Thread nD τ).loc main_arg4)) a r d :=
  mix_div _ _ (dense_tot_ne _ _ _ a r hr hq hk hb)

/-- The kernel's idealization and the reference leave the same three arrays, for queries, keys and biases with no infinity. -/
theorem algebraic : Cert.algebraic_AttFwdIdeal_AttFwdReferenceIdeal_pre_finite_att := by
  intro m g m' g' hpre hagree
  refine ⟨fun c => G3 m c, fun c => G4 m c, fun c => G5 m c,
    (θ_run _ _ _).mono (fun r h c => ⟨((h c).1).trans (final3 m c), ((h c).2.1).trans (final4 m c), ((h c).2.2.1).trans (final5 m c), (h c).2.2.2⟩) (Value.run_blocks m g),
    (θ_run _ _ _).mono (fun r h c => ⟨(h c).1.trans ?_, (h c).2.1.trans ?_, (h c).2.2.1.trans ?_, (h c).2.2.2⟩) (Cert.AttFwdReferenceIdeal.Value.run m' g')⟩
  all_goals obtain ⟨h0, h1, h2, h3, h4, h5⟩ := hagree c
  all_goals have hp := hpre c
  all_goals have hq := ext_real (N := 2048) (M := 1024) (m ((c : Thread nD τ).loc main_arg0)) (fun i => Norm.real_of_olt _ (congrFun hp.1 i))
  all_goals have hk := ext_real (N := 2048) (M := 1024) (m ((c : Thread nD τ).loc main_arg1)) (fun i => Norm.real_of_olt _ (congrFun hp.2.1 i))
  all_goals have hb := ext_real (N := 8) (M := 257) (m ((c : Thread nD τ).loc main_arg4)) (fun i => Norm.real_of_olt _ (congrFun hp.2.2 i))
  · rw [Cert.AttFwdReferenceIdeal.Read.val_main_v84_eq, h0, h1, h2, h3, h4, h5]
    funext i
    have i1 : (i 1).val < 1024 := (i 1).isLt
    refine (congrArg _ (ix2_eta i)).trans ((Cert.AttFwdReferenceIdeal.Hand.v84_at _ _ _ _ _ _ _ _ ⟨(i 1).val / 128, by omega⟩ ⟨(i 1).val % 128, by omega⟩ (by show (i 1).val = 128 * ((i 1).val / 128) + (i 1).val % 128; omega)).trans ?_)
    unfold G3 F3
    simp only [oK_oRef m c _ _ (i 0).isLt _ hq hk hb]
    rfl
  · rw [Cert.AttFwdReferenceIdeal.Read.val_main_v86_eq, h0, h1, h2, h4]
    funext i
    have i1 : (i 1).val < 1024 := (i 1).isLt
    refine (congrArg _ (ix2_eta i)).trans ((Cert.AttFwdReferenceIdeal.Hand.v86_at _ _ _ _ _ _ ⟨(i 1).val / 128, by omega⟩ ⟨(i 1).val % 128, by omega⟩ (by show (i 1).val = 128 * ((i 1).val / 128) + (i 1).val % 128; omega)).trans ?_)
    exact (oK_oRef m c _ _ (i 0).isLt _ hq hk hb).symm
  · rw [Cert.AttFwdReferenceIdeal.Read.val_main_v89_eq, h0, h1, h4]
    funext i
    have i1 : (i 1).val < 1024 := (i 1).isLt
    exact (congrArg _ (ix2_eta i)).trans (Cert.AttFwdReferenceIdeal.Hand.v89_at _ _ _ _ _ ⟨(i 1).val / 128, by omega⟩ ⟨(i 1).val % 128, by omega⟩ (by show (i 1).val = 128 * ((i 1).val / 128) + (i 1).val % 128; omega))

end Cert.AttFwdIdeal.Hand

end
-- ==== Proof.Dots.lean ====
module

public import Idealize.ShloMosaic.Lib.Pipeline.Value
public import Idealize.ShloMosaic.Lib.ValueIdx
public import Idealize.ShloMosaic.PureOps.Ideal.Laws

@[expose] public section

noncomputable section

namespace Cert.Dots

open Idealize.ShloMosaic Idealize.ShloMosaic.ValueIdx

variable {A0 A1 B0 B1 M N : Nat}

/-- With no batch axes, the left operand's free axis takes the output's first coordinate. -/
theorem lhs_free (D : DotDims ⟨2, ![A0, A1]⟩ ⟨2, ![B0, B1]⟩ ⟨2, ![M, N]⟩) {a : Fin 2} (hb : D.lhsBatch = [])
    (hn : D.lhsNonContracting = [a]) (j : (⟨2, ![M, N]⟩ : Shape).Idx) (k : D.contr.Idx) :
    (D.lhsIdx j k a).val = (j 0).val := by
  have key : ∀ (p : Nat) (hp : p < 2), p = 0 → (j ⟨p, hp⟩).val = (j 0).val := fun p hp h => by subst h; rfl
  unfold DotDims.lhsIdx
  rw [dif_neg (by rw [hb]; simp), dif_pos (by rw [hn]; exact List.mem_singleton.mpr rfl)]
  simp only [Fin.val_cast]
  exact key _ _ (by simp [hb, hn])

/-- With no batch axes, the right operand's free axis takes the output's second coordinate. -/
theorem rhs_free (D : DotDims ⟨2, ![A0, A1]⟩ ⟨2, ![B0, B1]⟩ ⟨2, ![M, N]⟩) {a b : Fin 2} (hbl : D.lhsBatch = []) (hb : D.rhsBatch = [])
    (hl : D.lhsNonContracting = [b]) (hn : D.rhsNonContracting = [a]) (j : (⟨2, ![M, N]⟩ : Shape).Idx) (k : D.contr.Idx) :
    (D.rhsIdx j k a).val = (j 1).val := by
  have key : ∀ (p : Nat) (hp : p < 2), p = 1 → (j ⟨p, hp⟩).val = (j 1).val := fun p hp h => by subst h; rfl
  unfold DotDims.rhsIdx
  rw [dif_neg (by rw [hb]; simp), dif_pos (by rw [hn]; exact List.mem_singleton.mpr rfl)]
  simp only [Fin.val_cast]
  exact key _ _ (by simp [hbl, hl, hn])

theorem contr_rank {sl sr so : Shape} (D : DotDims sl sr so) {c : Fin sl.rank} (hc : D.lhsContracting = [c]) : D.contr.rank = 1 := by
  rw [D.rank_contr, hc]; rfl

/-- The contraction of the first axes: the index maps at one contraction position. -/
theorem idx_tn {K : Nat} (D : DotDims ⟨2, ![K, M]⟩ ⟨2, ![K, N]⟩ ⟨2, ![M, N]⟩)
    (hlc : D.lhsContracting = [0]) (hrc : D.rhsContracting = [0]) (hln : D.lhsNonContracting = [1]) (hrn : D.rhsNonContracting = [1])
    (hlb : D.lhsBatch = []) (hrb : D.rhsBatch = []) (hs : D.contr.size ⟨0, by rw [contr_rank D hlc]; exact Nat.one_pos⟩ = K)
    (i : Fin M) (j : Fin N) (k : Fin K) :
    D.lhsIdx (ix2 i j) ((contrEquiv1 D K (contr_rank D hlc) hs).symm k) = ix2 k i
    ∧ D.rhsIdx (ix2 i j) ((contrEquiv1 D K (contr_rank D hlc) hs).symm k) = ix2 k j := by
  have hk := contrEquiv1_symm_val D K (contr_rank D hlc) hs k
  constructor <;> funext a <;> apply Fin.ext
  · match a with
    | ⟨0, _⟩ => exact (D.lhsIdx_val_of_single hlc _ _).trans hk
    | ⟨1, _⟩ => exact lhs_free D hlb hln _ _
  · match a with
    | ⟨0, _⟩ => exact (D.rhsIdx_val_of_single hrc _ _).trans hk
    | ⟨1, _⟩ => exact rhs_free D hlb hrb hln hrn _ _

/-- The contraction of the last axes: the index maps at one contraction position. -/
theorem idx_nt {K : Nat} (D : DotDims ⟨2, ![M, K]⟩ ⟨2, ![N, K]⟩ ⟨2, ![M, N]⟩)
    (hlc : D.lhsContracting = [1]) (hrc : D.rhsContracting = [1]) (hln : D.lhsNonContracting = [0]) (hrn : D.rhsNonContracting = [0])
    (hlb : D.lhsBatch = []) (hrb : D.rhsBatch = []) (hs : D.contr.size ⟨0, by rw [contr_rank D hlc]; exact Nat.one_pos⟩ = K)
    (i : Fin M) (j : Fin N) (k : Fin K) :
    D.lhsIdx (ix2 i j) ((contrEquiv1 D K (contr_rank D hlc) hs).symm k) = ix2 i k
    ∧ D.rhsIdx (ix2 i j) ((contrEquiv1 D K (contr_rank D hlc) hs).symm k) = ix2 j k := by
  have hk := contrEquiv1_symm_val D K (contr_rank D hlc) hs k
  constructor <;> funext a <;> apply Fin.ext
  · match a with
    | ⟨0, _⟩ => exact lhs_free D hlb hln _ _
    | ⟨1, _⟩ => exact (D.lhsIdx_val_of_single hlc _ _).trans hk
  · match a with
    | ⟨0, _⟩ => exact rhs_free D hlb hrb hln hrn _ _
    | ⟨1, _⟩ => exact (D.rhsIdx_val_of_single hrc _ _).trans hk

/-- The plain product: the index maps at one contraction position. -/
theorem idx_nn {K : Nat} (D : DotDims ⟨2, ![M, K]⟩ ⟨2, ![K, N]⟩ ⟨2, ![M, N]⟩)
    (hlc : D.lhsContracting = [1]) (hrc : D.rhsContracting = [0]) (hln : D.lhsNonContracting = [0]) (hrn : D.rhsNonContracting = [1])
    (hlb : D.lhsBatch = []) (hrb : D.rhsBatch = []) (hs : D.contr.size ⟨0, by rw [contr_rank D hlc]; exact Nat.one_pos⟩ = K)
    (i : Fin M) (j : Fin N) (k : Fin K) :
    D.lhsIdx (ix2 i j) ((contrEquiv1 D K (contr_rank D hlc) hs).symm k) = ix2 i k
    ∧ D.rhsIdx (ix2 i j) ((contrEquiv1 D K (contr_rank D hlc) hs).symm k) = ix2 k j := by
  have hk := contrEquiv1_symm_val D K (contr_rank D hlc) hs k
  constructor <;> funext a <;> apply Fin.ext
  · match a with
    | ⟨0, _⟩ => exact lhs_free D hlb hln _ _
    | ⟨1, _⟩ => exact (D.lhsIdx_val_of_single hlc _ _).trans hk
  · match a with
    | ⟨0, _⟩ => exact (D.rhsIdx_val_of_single hrc _ _).trans hk
    | ⟨1, _⟩ => exact rhs_free D hlb hrb hln hrn _ _

/-- A product contracting both first axes, read at an entry. -/
theorem matmul_tn {K : Nat} (D : DotDims ⟨2, ![K, M]⟩ ⟨2, ![K, N]⟩ ⟨2, ![M, N]⟩)
    (hlc : D.lhsContracting = [0]) (hrc : D.rhsContracting = [0]) (hln : D.lhsNonContracting = [1]) (hrn : D.rhsNonContracting = [1])
    (hlb : D.lhsBatch = []) (hrb : D.rhsBatch = []) (hs : D.contr.size ⟨0, by rw [contr_rank D hlc]; exact Nat.one_pos⟩ = K)
    {φ₁ φ₂ : FTy} (prec : Option ContractPrecision) (a : FVec Ideal ⟨2, ![K, M]⟩ φ₁) (b : FVec Ideal ⟨2, ![K, N]⟩ φ₂)
    (acc : FVec Ideal ⟨2, ![M, N]⟩ .f32) (i : Fin M) (j : Fin N) :
    FloatOps.matmul D prec a b acc (ix2 i j) = acc (ix2 i j) + ∑ k : Fin K, a (ix2 k i) * b (ix2 k j) := by
  rw [Ideal.matmul_apply, ← Equiv.sum_comp (contrEquiv1 D K (contr_rank D hlc) hs).symm]
  refine congrArg (acc (ix2 i j) + ·) (Finset.sum_congr rfl fun k _ => ?_)
  obtain ⟨el, er⟩ := idx_tn D hlc hrc hln hrn hlb hrb hs i j k
  rw [el, er]

/-- A product contracting both last axes, read at an entry. -/
theorem matmul_nt {K : Nat} (D : DotDims ⟨2, ![M, K]⟩ ⟨2, ![N, K]⟩ ⟨2, ![M, N]⟩)
    (hlc : D.lhsContracting = [1]) (hrc : D.rhsContracting = [1]) (hln : D.lhsNonContracting = [0]) (hrn : D.rhsNonContracting = [0])
    (hlb : D.lhsBatch = []) (hrb : D.rhsBatch = []) (hs : D.contr.size ⟨0, by rw [contr_rank D hlc]; exact Nat.one_pos⟩ = K)
    {φ₁ φ₂ : FTy} (prec : Option ContractPrecision) (a : FVec Ideal ⟨2, ![M, K]⟩ φ₁) (b : FVec Ideal ⟨2, ![N, K]⟩ φ₂)
    (acc : FVec Ideal ⟨2, ![M, N]⟩ .f32) (i : Fin M) (j : Fin N) :
    FloatOps.matmul D prec a b acc (ix2 i j) = acc (ix2 i j) + ∑ k : Fin K, a (ix2 i k) * b (ix2 j k) := by
  rw [Ideal.matmul_apply, ← Equiv.sum_comp (contrEquiv1 D K (contr_rank D hlc) hs).symm]
  refine congrArg (acc (ix2 i j) + ·) (Finset.sum_congr rfl fun k _ => ?_)
  obtain ⟨el, er⟩ := idx_nt D hlc hrc hln hrn hlb hrb hs i j k
  rw [el, er]

/-- A plain product, read at an entry. -/
theorem matmul_nn {K : Nat} (D : DotDims ⟨2, ![M, K]⟩ ⟨2, ![K, N]⟩ ⟨2, ![M, N]⟩)
    (hlc : D.lhsContracting = [1]) (hrc : D.rhsContracting = [0]) (hln : D.lhsNonContracting = [0]) (hrn : D.rhsNonContracting = [1])
    (hlb : D.lhsBatch = []) (hrb : D.rhsBatch = []) (hs : D.contr.size ⟨0, by rw [contr_rank D hlc]; exact Nat.one_pos⟩ = K)
    {φ₁ φ₂ : FTy} (prec : Option ContractPrecision) (a : FVec Ideal ⟨2, ![M, K]⟩ φ₁) (b : FVec Ideal ⟨2, ![K, N]⟩ φ₂)
    (acc : FVec Ideal ⟨2, ![M, N]⟩ .f32) (i : Fin M) (j : Fin N) :
    FloatOps.matmul D prec a b acc (ix2 i j) = acc (ix2 i j) + ∑ k : Fin K, a (ix2 i k) * b (ix2 k j) := by
  rw [Ideal.matmul_apply, ← Equiv.sum_comp (contrEquiv1 D K (contr_rank D hlc) hs).symm]
  refine congrArg (acc (ix2 i j) + ·) (Finset.sum_congr rfl fun k _ => ?_)
  obtain ⟨el, er⟩ := idx_nn D hlc hrc hln hrn hlb hrb hs i j k
  rw [el, er]

theorem hz : (![0, 0] : Fin 2 → Nat) = fun _ => 0 := funext fun a => by fin_cases a <;> rfl

end Cert.Dots

end
-- ==== Proof.Dh.lean ====
module

public import proofs.«01_k».proof.Defs
public import proofs.«01_k».proof.Proof.Dots
public import proofs.«01_k».proof.Proof.Norm
public import proofs.«01_k».proof.Proof.Gen.Dh
public import proofs.«01_k».proof.Proof.Gen.Dh.Frame
public import proofs.«01_k».proof.Proof.Gen.DhIdeal.Frame
public import proofs.«01_k».proof.Proof.Gen.DhIdeal.Value
public import proofs.«01_k».proof.Proof.Gen.DhReferenceIdeal.Run
public import proofs.«01_k».proof.Proof.Gen.DhReferenceIdeal.Read
public import proofs.«01_k».proof.Proof.Gen.Pre_finite_dh
public import Idealize.ShloMosaic.Lib.Pipeline.ValueKit.Acc
public import Idealize.ShloMosaic.Lib.Pipeline.Value
public import Idealize.ShloMosaic.Lib.Pointwise
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.DhIdeal.Hand

open Cert.DhIdeal Cert.DhIdeal.Gen

/-- A buffer of the kernel. -/
abbrev Mr (S : Shape) (e : EltTy) := Memref sig .tc .vmem S e

theorem out0_A_9_eq (c : Dev nD) (i : grid0.Coords) (arg2 : Mr S512x1024 .bf16) (harg2 : arg2.IsWhole) (arg3 : Mr S512x1024 .bf16) (harg3 : arg3.IsWhole) (arg4 : Mr S512x128 .bf16) (harg4 : arg4.IsWhole) (arg5 : Mr S1024x2048 .bf16) (harg5 : arg5.IsWhole) (arg6 : Mr S128x2048 .bf16) (harg6 : arg6.IsWhole) (arg7 : Mr S512x2048 .f32) (harg7 : arg7.IsWhole) (arg8 : Mr S512x2048 .f32) (harg8 : arg8.IsWhole) (arg9 : Mr S1x2048 .f32) (harg9 : arg9.IsWhole) (arg10 : Mr S512x2048 .f32) (harg10 : arg10.IsWhole) (arg11 : Mr S1x2048 .f32) (harg11 : arg11.IsWhole) (arg12 : Mr S512x2048 .f32) (harg12 : arg12.IsWhole) (hc0 : cond0_0 i) (hc1 : cond0_1 i) (hc2 : cond0_2 i) (hc3 : ¬cond0_3 i) (hc4 : ¬cond0_4 i)
    (x0 : Vec Ideal S512x1024 .bf16) (x1 : Vec Ideal S512x1024 .bf16) (x2 : Vec Ideal S512x128 .bf16) (x3 : Vec Ideal S1024x2048 .bf16) (x4 : Vec Ideal S128x2048 .bf16) (x5 : Vec Ideal S512x2048 .f32) (x6 : Vec Ideal S512x2048 .f32) (x7 : Vec Ideal S1x2048 .f32) :
    out0_A_9 c i arg2 harg2 arg3 harg3 arg4 harg4 arg5 harg5 arg6 harg6 arg7 harg7 arg8 harg8 arg9 harg9 arg10 harg10 arg11 harg11 arg12 harg12 hc0 hc1 hc2 hc3 hc4 x0 x1 x2 x3 x4 x5 x6 x7 = (k0_pay1 (F := Ideal)) := by
  frame_out

theorem out0_D_8_eq (c : Dev nD) (i : grid0.Coords) (arg2 : Mr S512x1024 .bf16) (harg2 : arg2.IsWhole) (arg3 : Mr S512x1024 .bf16) (harg3 : arg3.IsWhole) (arg4 : Mr S512x128 .bf16) (harg4 : arg4.IsWhole) (arg5 : Mr S1024x2048 .bf16) (harg5 : arg5.IsWhole) (arg6 : Mr S128x2048 .bf16) (harg6 : arg6.IsWhole) (arg7 : Mr S512x2048 .f32) (harg7 : arg7.IsWhole) (arg8 : Mr S512x2048 .f32) (harg8 : arg8.IsWhole) (arg9 : Mr S1x2048 .f32) (harg9 : arg9.IsWhole) (arg10 : Mr S512x2048 .f32) (harg10 : arg10.IsWhole) (arg11 : Mr S1x2048 .f32) (harg11 : arg11.IsWhole) (arg12 : Mr S512x2048 .f32) (harg12 : arg12.IsWhole) (hc0 : ¬cond0_0 i) (hc1 : ¬cond0_1 i) (hc2 : ¬cond0_2 i) (hc3 : cond0_3 i) (hc4 : cond0_4 i)
    (x0 : Vec Ideal S512x1024 .bf16) (x1 : Vec Ideal S512x1024 .bf16) (x2 : Vec Ideal S512x128 .bf16) (x3 : Vec Ideal S1024x2048 .bf16) (x4 : Vec Ideal S128x2048 .bf16) (x5 : Vec Ideal S512x2048 .f32) (x6 : Vec Ideal S512x2048 .f32) (x7 : Vec Ideal S1x2048 .f32) (xo9 : Vec Ideal S1x2048 .f32) (xs0 : Vec Ideal S512x2048 .f32) :
    out0_D_8 c i arg2 harg2 arg3 harg3 arg4 harg4 arg5 harg5 arg6 harg6 arg7 harg7 arg8 harg8 arg9 harg9 arg10 harg10 arg11 harg11 arg12 harg12 hc0 hc1 hc2 hc3 hc4 x0 x1 x2 x3 x4 x5 x6 x7 xo9 xs0 = k0_pay8 x5 (k0_pay4 xs0 x1 x3) x7 x6 := by
  frame_out

theorem out0_D_9_eq (c : Dev nD) (i : grid0.Coords) (arg2 : Mr S512x1024 .bf16) (harg2 : arg2.IsWhole) (arg3 : Mr S512x1024 .bf16) (harg3 : arg3.IsWhole) (arg4 : Mr S512x128 .bf16) (harg4 : arg4.IsWhole) (arg5 : Mr S1024x2048 .bf16) (harg5 : arg5.IsWhole) (arg6 : Mr S128x2048 .bf16) (harg6 : arg6.IsWhole) (arg7 : Mr S512x2048 .f32) (harg7 : arg7.IsWhole) (arg8 : Mr S512x2048 .f32) (harg8 : arg8.IsWhole) (arg9 : Mr S1x2048 .f32) (harg9 : arg9.IsWhole) (arg10 : Mr S512x2048 .f32) (harg10 : arg10.IsWhole) (arg11 : Mr S1x2048 .f32) (harg11 : arg11.IsWhole) (arg12 : Mr S512x2048 .f32) (harg12 : arg12.IsWhole) (hc0 : ¬cond0_0 i) (hc1 : ¬cond0_1 i) (hc2 : ¬cond0_2 i) (hc3 : cond0_3 i) (hc4 : cond0_4 i)
    (x0 : Vec Ideal S512x1024 .bf16) (x1 : Vec Ideal S512x1024 .bf16) (x2 : Vec Ideal S512x128 .bf16) (x3 : Vec Ideal S1024x2048 .bf16) (x4 : Vec Ideal S128x2048 .bf16) (x5 : Vec Ideal S512x2048 .f32) (x6 : Vec Ideal S512x2048 .f32) (x7 : Vec Ideal S1x2048 .f32) (xo9 : Vec Ideal S1x2048 .f32) (xs0 : Vec Ideal S512x2048 .f32) :
    out0_D_9 c i arg2 harg2 arg3 harg3 arg4 harg4 arg5 harg5 arg6 harg6 arg7 harg7 arg8 harg8 arg9 harg9 arg10 harg10 arg11 harg11 arg12 harg12 hc0 hc1 hc2 hc3 hc4 x0 x1 x2 x3 x4 x5 x6 x7 xo9 xs0 = k0_pay7 x5 (k0_pay4 xs0 x1 x3) xo9 := by
  frame_out

theorem sout0_A_0_eq (c : Dev nD) (i : grid0.Coords) (arg2 : Mr S512x1024 .bf16) (harg2 : arg2.IsWhole) (arg3 : Mr S512x1024 .bf16) (harg3 : arg3.IsWhole) (arg4 : Mr S512x128 .bf16) (harg4 : arg4.IsWhole) (arg5 : Mr S1024x2048 .bf16) (harg5 : arg5.IsWhole) (arg6 : Mr S128x2048 .bf16) (harg6 : arg6.IsWhole) (arg7 : Mr S512x2048 .f32) (harg7 : arg7.IsWhole) (arg8 : Mr S512x2048 .f32) (harg8 : arg8.IsWhole) (arg9 : Mr S1x2048 .f32) (harg9 : arg9.IsWhole) (arg10 : Mr S512x2048 .f32) (harg10 : arg10.IsWhole) (arg11 : Mr S1x2048 .f32) (harg11 : arg11.IsWhole) (arg12 : Mr S512x2048 .f32) (harg12 : arg12.IsWhole) (hc0 : cond0_0 i) (hc1 : cond0_1 i) (hc2 : cond0_2 i) (hc3 : ¬cond0_3 i) (hc4 : ¬cond0_4 i)
    (x0 : Vec Ideal S512x1024 .bf16) (x1 : Vec Ideal S512x1024 .bf16) (x2 : Vec Ideal S512x128 .bf16) (x3 : Vec Ideal S1024x2048 .bf16) (x4 : Vec Ideal S128x2048 .bf16) (x5 : Vec Ideal S512x2048 .f32) (x6 : Vec Ideal S512x2048 .f32) (x7 : Vec Ideal S1x2048 .f32) :
    sout0_A_0 c i arg2 harg2 arg3 harg3 arg4 harg4 arg5 harg5 arg6 harg6 arg7 harg7 arg8 harg8 arg9 harg9 arg10 harg10 arg11 harg11 arg12 harg12 hc0 hc1 hc2 hc3 hc4 x0 x1 x2 x3 x4 x5 x6 x7 = k0_pay3 (k0_pay2 x2 x4) x0 x3 := by
  frame_out

theorem sout0_E_0_eq (c : Dev nD) (i : grid0.Coords) (arg2 : Mr S512x1024 .bf16) (harg2 : arg2.IsWhole) (arg3 : Mr S512x1024 .bf16) (harg3 : arg3.IsWhole) (arg4 : Mr S512x128 .bf16) (harg4 : arg4.IsWhole) (arg5 : Mr S1024x2048 .bf16) (harg5 : arg5.IsWhole) (arg6 : Mr S128x2048 .bf16) (harg6 : arg6.IsWhole) (arg7 : Mr S512x2048 .f32) (harg7 : arg7.IsWhole) (arg8 : Mr S512x2048 .f32) (harg8 : arg8.IsWhole) (arg9 : Mr S1x2048 .f32) (harg9 : arg9.IsWhole) (arg10 : Mr S512x2048 .f32) (harg10 : arg10.IsWhole) (arg11 : Mr S1x2048 .f32) (harg11 : arg11.IsWhole) (arg12 : Mr S512x2048 .f32) (harg12 : arg12.IsWhole) (hc0 : ¬cond0_0 i) (hc1 : cond0_1 i) (hc2 : cond0_2 i) (hc3 : ¬cond0_3 i) (hc4 : ¬cond0_4 i)
    (x0 : Vec Ideal S512x1024 .bf16) (x1 : Vec Ideal S512x1024 .bf16) (x2 : Vec Ideal S512x128 .bf16) (x3 : Vec Ideal S1024x2048 .bf16) (x4 : Vec Ideal S128x2048 .bf16) (x5 : Vec Ideal S512x2048 .f32) (x6 : Vec Ideal S512x2048 .f32) (x7 : Vec Ideal S1x2048 .f32) :
    sout0_E_0 c i arg2 harg2 arg3 harg3 arg4 harg4 arg5 harg5 arg6 harg6 arg7 harg7 arg8 harg8 arg9 harg9 arg10 harg10 arg11 harg11 arg12 harg12 hc0 hc1 hc2 hc3 hc4 x0 x1 x2 x3 x4 x5 x6 x7 = k0_pay3 (k0_pay2 x2 x4) x0 x3 := by
  frame_out

theorem sout0_B_0_eq (c : Dev nD) (i : grid0.Coords) (arg2 : Mr S512x1024 .bf16) (harg2 : arg2.IsWhole) (arg3 : Mr S512x1024 .bf16) (harg3 : arg3.IsWhole) (arg4 : Mr S512x128 .bf16) (harg4 : arg4.IsWhole) (arg5 : Mr S1024x2048 .bf16) (harg5 : arg5.IsWhole) (arg6 : Mr S128x2048 .bf16) (harg6 : arg6.IsWhole) (arg7 : Mr S512x2048 .f32) (harg7 : arg7.IsWhole) (arg8 : Mr S512x2048 .f32) (harg8 : arg8.IsWhole) (arg9 : Mr S1x2048 .f32) (harg9 : arg9.IsWhole) (arg10 : Mr S512x2048 .f32) (harg10 : arg10.IsWhole) (arg11 : Mr S1x2048 .f32) (harg11 : arg11.IsWhole) (arg12 : Mr S512x2048 .f32) (harg12 : arg12.IsWhole) (hc0 : ¬cond0_0 i) (hc1 : ¬cond0_1 i) (hc2 : cond0_2 i) (hc3 : ¬cond0_3 i) (hc4 : ¬cond0_4 i)
    (x0 : Vec Ideal S512x1024 .bf16) (x1 : Vec Ideal S512x1024 .bf16) (x2 : Vec Ideal S512x128 .bf16) (x3 : Vec Ideal S1024x2048 .bf16) (x4 : Vec Ideal S128x2048 .bf16) (x5 : Vec Ideal S512x2048 .f32) (x6 : Vec Ideal S512x2048 .f32) (x7 : Vec Ideal S1x2048 .f32) (xs0 : Vec Ideal S512x2048 .f32) :
    sout0_B_0 c i arg2 harg2 arg3 harg3 arg4 harg4 arg5 harg5 arg6 harg6 arg7 harg7 arg8 harg8 arg9 harg9 arg10 harg10 arg11 harg11 arg12 harg12 hc0 hc1 hc2 hc3 hc4 x0 x1 x2 x3 x4 x5 x6 x7 xs0 = k0_pay3 xs0 x0 x3 := by
  frame_out

theorem sout0_C_0_eq (c : Dev nD) (i : grid0.Coords) (arg2 : Mr S512x1024 .bf16) (harg2 : arg2.IsWhole) (arg3 : Mr S512x1024 .bf16) (harg3 : arg3.IsWhole) (arg4 : Mr S512x128 .bf16) (harg4 : arg4.IsWhole) (arg5 : Mr S1024x2048 .bf16) (harg5 : arg5.IsWhole) (arg6 : Mr S128x2048 .bf16) (harg6 : arg6.IsWhole) (arg7 : Mr S512x2048 .f32) (harg7 : arg7.IsWhole) (arg8 : Mr S512x2048 .f32) (harg8 : arg8.IsWhole) (arg9 : Mr S1x2048 .f32) (harg9 : arg9.IsWhole) (arg10 : Mr S512x2048 .f32) (harg10 : arg10.IsWhole) (arg11 : Mr S1x2048 .f32) (harg11 : arg11.IsWhole) (arg12 : Mr S512x2048 .f32) (harg12 : arg12.IsWhole) (hc0 : ¬cond0_0 i) (hc1 : ¬cond0_1 i) (hc2 : ¬cond0_2 i) (hc3 : cond0_3 i) (hc4 : ¬cond0_4 i)
    (x0 : Vec Ideal S512x1024 .bf16) (x1 : Vec Ideal S512x1024 .bf16) (x2 : Vec Ideal S512x128 .bf16) (x3 : Vec Ideal S1024x2048 .bf16) (x4 : Vec Ideal S128x2048 .bf16) (x5 : Vec Ideal S512x2048 .f32) (x6 : Vec Ideal S512x2048 .f32) (x7 : Vec Ideal S1x2048 .f32) (xs0 : Vec Ideal S512x2048 .f32) :
    sout0_C_0 c i arg2 harg2 arg3 harg3 arg4 harg4 arg5 harg5 arg6 harg6 arg7 harg7 arg8 harg8 arg9 harg9 arg10 harg10 arg11 harg11 arg12 harg12 hc0 hc1 hc2 hc3 hc4 x0 x1 x2 x3 x4 x5 x6 x7 xs0 = k0_pay4 xs0 x1 x3 := by
  frame_out

theorem sout0_D_0_eq (c : Dev nD) (i : grid0.Coords) (arg2 : Mr S512x1024 .bf16) (harg2 : arg2.IsWhole) (arg3 : Mr S512x1024 .bf16) (harg3 : arg3.IsWhole) (arg4 : Mr S512x128 .bf16) (harg4 : arg4.IsWhole) (arg5 : Mr S1024x2048 .bf16) (harg5 : arg5.IsWhole) (arg6 : Mr S128x2048 .bf16) (harg6 : arg6.IsWhole) (arg7 : Mr S512x2048 .f32) (harg7 : arg7.IsWhole) (arg8 : Mr S512x2048 .f32) (harg8 : arg8.IsWhole) (arg9 : Mr S1x2048 .f32) (harg9 : arg9.IsWhole) (arg10 : Mr S512x2048 .f32) (harg10 : arg10.IsWhole) (arg11 : Mr S1x2048 .f32) (harg11 : arg11.IsWhole) (arg12 : Mr S512x2048 .f32) (harg12 : arg12.IsWhole) (hc0 : ¬cond0_0 i) (hc1 : ¬cond0_1 i) (hc2 : ¬cond0_2 i) (hc3 : cond0_3 i) (hc4 : cond0_4 i)
    (x0 : Vec Ideal S512x1024 .bf16) (x1 : Vec Ideal S512x1024 .bf16) (x2 : Vec Ideal S512x128 .bf16) (x3 : Vec Ideal S1024x2048 .bf16) (x4 : Vec Ideal S128x2048 .bf16) (x5 : Vec Ideal S512x2048 .f32) (x6 : Vec Ideal S512x2048 .f32) (x7 : Vec Ideal S1x2048 .f32) (xo9 : Vec Ideal S1x2048 .f32) (xs0 : Vec Ideal S512x2048 .f32) :
    sout0_D_0 c i arg2 harg2 arg3 harg3 arg4 harg4 arg5 harg5 arg6 harg6 arg7 harg7 arg8 harg8 arg9 harg9 arg10 harg10 arg11 harg11 arg12 harg12 hc0 hc1 hc2 hc3 hc4 x0 x1 x2 x3 x4 x5 x6 x7 xo9 xs0 = k0_pay4 xs0 x1 x3 := by
  frame_out

section
variable (zg : Vec Ideal S2048x3072 .bf16) (za : Vec Ideal S2048x4096 .bf16) (ga : Vec Ideal S2048x128 .bf16) (wm : Vec Ideal S7168x2048 .bf16) (wga : Vec Ideal S128x2048 .bf16)
  (x : Vec Ideal S2048x2048 .f32) (dout : Vec Ideal S2048x2048 .f32) (g : Vec Ideal S1x2048 .f32)

/-- One step of the cotangent's sum: 1024 of the projection's outputs, the first three steps' of the one group, the last four's of the other. -/
def chunk (i : Fin 2048) (s : ℕ) (j : Fin 2048) : EReal :=
  if h : s < 3 then ∑ q : Fin 1024, zg (ix2 i ⟨s * 1024 + q.val, by omega⟩) * wm (ix2 ⟨s * 1024 + q.val, by omega⟩ j)
  else if h' : s < 7 then ∑ q : Fin 1024, za (ix2 i ⟨(s - 3) * 1024 + q.val, by omega⟩) * wm (ix2 ⟨s * 1024 + q.val, by omega⟩ j)
  else 0

/-- The gate projection's part of the cotangent. -/
def gate (i j : Fin 2048) : EReal := ∑ q : Fin 128, ga (ix2 i q) * wga (ix2 q j)

/-- The cotangent of the normalised rows. -/
def dhS (i j : Fin 2048) : EReal := gate ga wga i j + ∑ s ∈ Finset.range 7, chunk zg za wm i s j

/-- The cotangent of the layer's input. -/
def dxS (i j : Fin 2048) : EReal := dout (ix2 i j) + Norm.back (fun k => dhS zg za ga wm wga i k * g (ix2 0 k)) (fun k => x (ix2 i k)) j

/-- One row's part of the gain's cotangent. -/
def dgS (i j : Fin 2048) : EReal := dhS zg za ga wm wga i j * (x (ix2 i j) * Ideal.rsqrt (Norm.var fun k => x (ix2 i k)))

end

theorem pay1_apply (j : Fin 2048) : k0_pay1 (F := Ideal) (ix2 0 j) = 0 := by
  pointwise [k0_pay1]

theorem pay2_apply (a : Vec Ideal S512x128 .bf16) (b : Vec Ideal S128x2048 .bf16) (i : Fin 512) (j : Fin 2048) :
    k0_pay2 a b (ix2 i j) = ∑ q : Fin 128, a (ix2 i q) * b (ix2 q j) := by
  pointwise [k0_pay2]

theorem pay3_apply (s : Vec Ideal S512x2048 .f32) (a : Vec Ideal S512x1024 .bf16) (b : Vec Ideal S1024x2048 .bf16) (i : Fin 512) (j : Fin 2048) :
    k0_pay3 s a b (ix2 i j) = s (ix2 i j) + ∑ q : Fin 1024, a (ix2 i q) * b (ix2 q j) := by
  pointwise [k0_pay3]

theorem pay4_apply (s : Vec Ideal S512x2048 .f32) (a : Vec Ideal S512x1024 .bf16) (b : Vec Ideal S1024x2048 .bf16) (i : Fin 512) (j : Fin 2048) :
    k0_pay4 s a b (ix2 i j) = s (ix2 i j) + ∑ q : Fin 1024, a (ix2 i q) * b (ix2 q j) := by
  pointwise [k0_pay4]

theorem pay7_apply (x d : Vec Ideal S512x2048 .f32) (a : Vec Ideal S1x2048 .f32) (j : Fin 2048) :
    k0_pay7 x d a (ix2 0 j) = a (ix2 0 j) + ∑ i : Fin 512, d (ix2 i j) * (x (ix2 i j) * Ideal.rsqrt (Norm.var fun k => x (ix2 i k))) := by
  unfold Norm.var
  pointwise [k0_pay7, k0_pay6, k0_pay5]

theorem pay8_apply (x d : Vec Ideal S512x2048 .f32) (g : Vec Ideal S1x2048 .f32) (o : Vec Ideal S512x2048 .f32) (i : Fin 512) (j : Fin 2048) :
    k0_pay8 x d g o (ix2 i j) = o (ix2 i j) + Norm.back (fun k => d (ix2 i k) * g (ix2 0 k)) (fun k => x (ix2 i k)) j := by
  unfold Norm.back Norm.var
  pointwise [k0_pay8, k0_pay6, k0_pay5]

variable (m : (ℓ : Loc nD τ sig) → Buf (Elt Ideal) ℓ) (ρ : Dev nD → PrngReg)

theorem idx_facts : ∀ t : Fin cfg0.N, win0_0.index t 0 = t.val / 7 ∧ win0_0.index t 1 = min (t.val % 7) 2 ∧ win0_1.index t 0 = t.val / 7 ∧ win0_1.index t 1 = t.val % 7 - 3 ∧ win0_2.index t 0 = t.val / 7 ∧ win0_2.index t 1 = 0 ∧ win0_3.index t 0 = t.val % 7 ∧ win0_3.index t 1 = 0 ∧ win0_4.index t 0 = 0 ∧ win0_4.index t 1 = 0 ∧ win0_5.index t 0 = t.val / 7 ∧ win0_5.index t 1 = 0 ∧ win0_6.index t 0 = t.val / 7 ∧ win0_6.index t 1 = 0 ∧ win0_7.index t 0 = 0 ∧ win0_7.index t 1 = 0 ∧ win0_8.index t 0 = t.val / 7 ∧ win0_8.index t 1 = 0 ∧ win0_9.index t 0 = 0 ∧ win0_9.index t 1 = 0 :=
  (by decide +kernel : ∀ t : Fin grid0.N, win0_0.index t 0 = t.val / 7 ∧ win0_0.index t 1 = min (t.val % 7) 2 ∧ win0_1.index t 0 = t.val / 7 ∧ win0_1.index t 1 = t.val % 7 - 3 ∧ win0_2.index t 0 = t.val / 7 ∧ win0_2.index t 1 = 0 ∧ win0_3.index t 0 = t.val % 7 ∧ win0_3.index t 1 = 0 ∧ win0_4.index t 0 = 0 ∧ win0_4.index t 1 = 0 ∧ win0_5.index t 0 = t.val / 7 ∧ win0_5.index t 1 = 0 ∧ win0_6.index t 0 = t.val / 7 ∧ win0_6.index t 1 = 0 ∧ win0_7.index t 0 = 0 ∧ win0_7.index t 1 = 0 ∧ win0_8.index t 0 = t.val / 7 ∧ win0_8.index t 1 = 0 ∧ win0_9.index t 0 = 0 ∧ win0_9.index t 1 = 0)

theorem t_lt (t : Fin cfg0.N) : t.val < 28 := lt_of_lt_of_eq t.isLt (show cfg0.N = 28 from N_0)

/-- The row of the whole array a block's row is. -/
def row (t : Fin cfg0.N) (r : Fin 512) : Fin 2048 := ⟨t.val / 7 * 512 + r.val, by have := t_lt t; omega⟩

theorem blk0 (c : Dev nD) (t : Fin cfg0.N) (h : t.val % 7 < 3) (r : Fin 512) (k : Fin 1024) :
    iblk m c 0 t (ix2 r k) = (m (c.tc.loc main_arg0) : Vec Ideal S2048x3072 .bf16) (ix2 (row t r) (⟨t.val % 7 * 1024 + k.val, by omega⟩)) := by
  have ht := t_lt t
  unfold iblk
  rw [View.read_apply]
  show m (c.tc.loc main_arg0) _ = _
  congr 1
  funext a
  apply Fin.ext
  match a with
  | ⟨0, _⟩ => show win0_0.index t 0 * 512 + 1 * r.val = t.val / 7 * 512 + r.val; rw [(idx_facts t).1]; omega
  | ⟨1, _⟩ => show win0_0.index t 1 * 1024 + 1 * k.val = t.val % 7 * 1024 + k.val; rw [(idx_facts t).2.1]; omega

theorem blk1 (c : Dev nD) (t : Fin cfg0.N) (h : ¬ t.val % 7 < 3) (r : Fin 512) (k : Fin 1024) :
    iblk m c 1 t (ix2 r k) = (m (c.tc.loc main_arg1) : Vec Ideal S2048x4096 .bf16) (ix2 (row t r) (⟨(t.val % 7 - 3) * 1024 + k.val, by omega⟩)) := by
  have ht := t_lt t
  unfold iblk
  rw [View.read_apply]
  show m (c.tc.loc main_arg1) _ = _
  congr 1
  funext a
  apply Fin.ext
  match a with
  | ⟨0, _⟩ => show win0_1.index t 0 * 512 + 1 * r.val = t.val / 7 * 512 + r.val; rw [(idx_facts t).2.2.1]; omega
  | ⟨1, _⟩ => show win0_1.index t 1 * 1024 + 1 * k.val = (t.val % 7 - 3) * 1024 + k.val; rw [(idx_facts t).2.2.2.1]; omega

theorem blk2 (c : Dev nD) (t : Fin cfg0.N) (r : Fin 512) (k : Fin 128) :
    iblk m c 2 t (ix2 r k) = (m (c.tc.loc main_arg2) : Vec Ideal S2048x128 .bf16) (ix2 (row t r) k) := by
  have ht := t_lt t
  unfold iblk
  rw [View.read_apply]
  show m (c.tc.loc main_arg2) _ = _
  congr 1
  funext a
  apply Fin.ext
  match a with
  | ⟨0, _⟩ => show win0_2.index t 0 * 512 + 1 * r.val = t.val / 7 * 512 + r.val; rw [(idx_facts t).2.2.2.2.1]; omega
  | ⟨1, _⟩ => show win0_2.index t 1 * 128 + 1 * k.val = k.val; rw [(idx_facts t).2.2.2.2.2.1]; omega

theorem blk3 (c : Dev nD) (t : Fin cfg0.N) (r : Fin 1024) (k : Fin 2048) :
    iblk m c 3 t (ix2 r k) = (m (c.tc.loc main_arg3) : Vec Ideal S7168x2048 .bf16) (ix2 (⟨t.val % 7 * 1024 + r.val, by omega⟩) k) := by
  have ht := t_lt t
  unfold iblk
  rw [View.read_apply]
  show m (c.tc.loc main_arg3) _ = _
  congr 1
  funext a
  apply Fin.ext
  match a with
  | ⟨0, _⟩ => show win0_3.index t 0 * 1024 + 1 * r.val = t.val % 7 * 1024 + r.val; rw [(idx_facts t).2.2.2.2.2.2.1]; omega
  | ⟨1, _⟩ => show win0_3.index t 1 * 2048 + 1 * k.val = k.val; rw [(idx_facts t).2.2.2.2.2.2.2.1]; omega

theorem blk4 (c : Dev nD) (t : Fin cfg0.N) (r : Fin 128) (k : Fin 2048) :
    iblk m c 4 t (ix2 r k) = (m (c.tc.loc main_arg4) : Vec Ideal S128x2048 .bf16) (ix2 r k) := by
  have ht := t_lt t
  unfold iblk
  rw [View.read_apply]
  show m (c.tc.loc main_arg4) _ = _
  congr 1
  funext a
  apply Fin.ext
  match a with
  | ⟨0, _⟩ => show win0_4.index t 0 * 128 + 1 * r.val = r.val; rw [(idx_facts t).2.2.2.2.2.2.2.2.1]; omega
  | ⟨1, _⟩ => show win0_4.index t 1 * 2048 + 1 * k.val = k.val; rw [(idx_facts t).2.2.2.2.2.2.2.2.2.1]; omega

theorem blk5 (c : Dev nD) (t : Fin cfg0.N) (r : Fin 512) (k : Fin 2048) :
    iblk m c 5 t (ix2 r k) = (m (c.tc.loc main_arg5) : Vec Ideal S2048x2048 .f32) (ix2 (row t r) k) := by
  have ht := t_lt t
  unfold iblk
  rw [View.read_apply]
  show m (c.tc.loc main_arg5) _ = _
  congr 1
  funext a
  apply Fin.ext
  match a with
  | ⟨0, _⟩ => show win0_5.index t 0 * 512 + 1 * r.val = t.val / 7 * 512 + r.val; rw [(idx_facts t).2.2.2.2.2.2.2.2.2.2.1]; omega
  | ⟨1, _⟩ => show win0_5.index t 1 * 2048 + 1 * k.val = k.val; rw [(idx_facts t).2.2.2.2.2.2.2.2.2.2.2.1]; omega

theorem blk6 (c : Dev nD) (t : Fin cfg0.N) (r : Fin 512) (k : Fin 2048) :
    iblk m c 6 t (ix2 r k) = (m (c.tc.loc main_arg6) : Vec Ideal S2048x2048 .f32) (ix2 (row t r) k) := by
  have ht := t_lt t
  unfold iblk
  rw [View.read_apply]
  show m (c.tc.loc main_arg6) _ = _
  congr 1
  funext a
  apply Fin.ext
  match a with
  | ⟨0, _⟩ => show win0_6.index t 0 * 512 + 1 * r.val = t.val / 7 * 512 + r.val; rw [(idx_facts t).2.2.2.2.2.2.2.2.2.2.2.2.1]; omega
  | ⟨1, _⟩ => show win0_6.index t 1 * 2048 + 1 * k.val = k.val; rw [(idx_facts t).2.2.2.2.2.2.2.2.2.2.2.2.2.1]; omega

theorem blk7 (c : Dev nD) (t : Fin cfg0.N) (r : Fin 1) (k : Fin 2048) :
    iblk m c 7 t (ix2 r k) = (m (c.tc.loc main_arg7) : Vec Ideal S1x2048 .f32) (ix2 r k) := by
  have ht := t_lt t
  unfold iblk
  rw [View.read_apply]
  show m (c.tc.loc main_arg7) _ = _
  congr 1
  funext a
  apply Fin.ext
  match a with
  | ⟨0, _⟩ => show win0_7.index t 0 * 1 + 1 * r.val = r.val; rw [(idx_facts t).2.2.2.2.2.2.2.2.2.2.2.2.2.2.1]; omega
  | ⟨1, _⟩ => show win0_7.index t 1 * 2048 + 1 * k.val = k.val; rw [(idx_facts t).2.2.2.2.2.2.2.2.2.2.2.2.2.2.2.1]; omega

theorem step_lo (c : Dev nD) (t : Fin cfg0.N) (h : t.val % 7 < 3) (s : Vec Ideal S512x2048 .f32) (r : Fin 512) (j : Fin 2048) :
    k0_pay3 s (iblk m c 0 t) (iblk m c 3 t) (ix2 r j) = s (ix2 r j) + chunk (m (c.tc.loc main_arg0)) (m (c.tc.loc main_arg1)) (m (c.tc.loc main_arg3)) (row t r) (t.val % 7) j := by
  unfold chunk
  rw [dif_pos h, pay3_apply]
  exact congrArg _ <| Finset.sum_congr rfl fun q _ => congrArg₂ _ (blk0 m c t h r q) (blk3 m c t q j)

theorem step_hi (c : Dev nD) (t : Fin cfg0.N) (h : ¬ t.val % 7 < 3) (s : Vec Ideal S512x2048 .f32) (r : Fin 512) (j : Fin 2048) :
    k0_pay4 s (iblk m c 1 t) (iblk m c 3 t) (ix2 r j) = s (ix2 r j) + chunk (m (c.tc.loc main_arg0)) (m (c.tc.loc main_arg1)) (m (c.tc.loc main_arg3)) (row t r) (t.val % 7) j := by
  unfold chunk
  rw [dif_neg h, dif_pos (Nat.mod_lt _ (by decide)), pay4_apply]
  exact congrArg _ <| Finset.sum_congr rfl fun q _ => congrArg₂ _ (blk1 m c t h r q) (blk3 m c t q j)

theorem gate_eq (c : Dev nD) (t : Fin cfg0.N) (r : Fin 512) (j : Fin 2048) :
    k0_pay2 (iblk m c 2 t) (iblk m c 4 t) (ix2 r j) = gate (m (c.tc.loc main_arg2)) (m (c.tc.loc main_arg4)) (row t r) j :=
  (pay2_apply _ _ r j).trans (Finset.sum_congr rfl fun q _ => congrArg₂ _ (blk2 m c t r q) (blk4 m c t q j))

/-- What the accumulator holds after each point. -/
theorem acc_eq (c : Dev nD) (r : Fin 512) (j : Fin 2048) : ∀ (n : ℕ) (hn : n < cfg0.N),
    (outsAt0 m c n hn).2.2 (ix2 r j) = gate (m (c.tc.loc main_arg2)) (m (c.tc.loc main_arg4)) (row ⟨n, hn⟩ r) j + ∑ s ∈ Finset.range (n % 7 + 1), chunk (m (c.tc.loc main_arg0)) (m (c.tc.loc main_arg1)) (m (c.tc.loc main_arg3)) (row ⟨n, hn⟩ r) s j := by
  intro n
  induction n with
  | zero =>
    intro hn
    rw [outsAt0_A m c ⟨0, hn⟩ (show (0 : ℕ) % 28 = 0 by decide) (show (0 : ℕ) % 7 = 0 by decide) (show (0 : ℕ) % 7 ≤ 2 by decide) (show ¬ 3 ≤ (0 : ℕ) % 7 by decide) (show ¬ (0 : ℕ) % 7 = 6 by decide)]
    dsimp only
    rw [sout0_A_0_eq, step_lo m c ⟨0, hn⟩ (show (0 : ℕ) % 7 < 3 by decide), gate_eq]
    exact congrArg _ (Finset.sum_range_one fun s => chunk (m (c.tc.loc main_arg0)) (m (c.tc.loc main_arg1)) (m (c.tc.loc main_arg3)) (row ⟨0, hn⟩ r) s j).symm
  | succ n ih =>
    intro hn
    have h28 : n + 1 < 28 := t_lt ⟨n + 1, hn⟩
    by_cases h1 : (n + 1) % 7 = 0
    · rw [outsAt0_E m c ⟨n + 1, hn⟩ (by dsimp only; omega) (by dsimp only; omega) (by dsimp only; omega) (by dsimp only; omega) (by dsimp only; omega)]
      dsimp only
      rw [sout0_E_0_eq, step_lo m c ⟨n + 1, hn⟩ (by dsimp only; omega), gate_eq, h1]
      exact congrArg _ (Finset.sum_range_one fun s => chunk (m (c.tc.loc main_arg0)) (m (c.tc.loc main_arg1)) (m (c.tc.loc main_arg3)) (row ⟨n + 1, hn⟩ r) s j).symm
    · have hrow : row ⟨n, by omega⟩ r = row ⟨n + 1, hn⟩ r := Fin.ext (by show n / 7 * 512 + r.val = (n + 1) / 7 * 512 + r.val; omega)
      have ih' := ih (by omega)
      rw [hrow] at ih'
      rw [Finset.sum_range_succ, ← add_assoc, show (n + 1) % 7 = n % 7 + 1 by omega, ← ih']
      have hm : (n + 1) % 7 = n % 7 + 1 := by omega
      by_cases h2 : (n + 1) % 7 ≤ 2
      · rw [outsAt0_B m c ⟨n + 1, hn⟩ (by dsimp only; omega) (by dsimp only; omega) (by dsimp only; omega) (by dsimp only; omega) (by dsimp only; omega)]
        dsimp only
        rw [sout0_B_0_eq, step_lo m c ⟨n + 1, hn⟩ (by dsimp only; omega)]
        dsimp only
        rw [hm]
        rfl
      · by_cases h4 : (n + 1) % 7 = 6
        · rw [outsAt0_D m c ⟨n + 1, hn⟩ (by dsimp only; omega) (by dsimp only; omega) (by dsimp only; omega) (by dsimp only; omega) (by dsimp only; omega)]
          dsimp only
          rw [sout0_D_0_eq, step_hi m c ⟨n + 1, hn⟩ (by dsimp only; omega)]
          dsimp only
          rw [hm]
          rfl
        · rw [outsAt0_C m c ⟨n + 1, hn⟩ (by dsimp only; omega) (by dsimp only; omega) (by dsimp only; omega) (by dsimp only; omega) (by dsimp only; omega)]
          dsimp only
          rw [sout0_C_0_eq, step_hi m c ⟨n + 1, hn⟩ (by dsimp only; omega)]
          dsimp only
          rw [hm]
          rfl

/-- The accumulator at a row's last point, as that point's outputs read it. -/
theorem dh_last (c : Dev nD) (t : Fin cfg0.N) (h : t.val % 7 = 6) (r : Fin 512) (j : Fin 2048) :
    k0_pay4 (outsAt0 m c (t.val - 1) (Nat.lt_of_le_of_lt (Nat.sub_le _ _) t.isLt)).2.2 (iblk m c 1 t) (iblk m c 3 t) (ix2 r j) = dhS (m (c.tc.loc main_arg0)) (m (c.tc.loc main_arg1)) (m (c.tc.loc main_arg2)) (m (c.tc.loc main_arg3)) (m (c.tc.loc main_arg4)) (row t r) j := by
  have e := acc_eq m c r j t.val t.isLt
  rw [outsAt0_D m c t (by omega) (by omega) (by omega) (by omega) h] at e
  dsimp only at e
  rw [sout0_D_0_eq, h] at e
  exact e

theorem dx_apply (c : Dev nD) (t : Fin cfg0.N) (h : t.val % 7 = 6) (r : Fin 512) (j : Fin 2048) :
    (outsAt0 m c t.val t.isLt).1 (ix2 r j) = dxS (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (row t r) j := by
  rw [outsAt0_D m c t (by omega) (by omega) (by omega) (by omega) h]
  dsimp only
  rw [out0_D_8_eq, pay8_apply]
  unfold dxS
  refine congrArg₂ _ (blk6 m c t r j) (congrArg₂ (fun a b => Norm.back a b j) (funext fun k => ?_) (funext fun k => ?_))
  · exact congrArg₂ _ (dh_last m c t h r k) (blk7 m c t 0 k)
  · exact blk5 m c t r k

/-- One row block's part of the gain's cotangent. -/
def part (c : Dev nD) (s : ℕ) (j : Fin 2048) : EReal :=
  if h : s < 4 then ∑ r : Fin 512, dgS (m (c.tc.loc main_arg0)) (m (c.tc.loc main_arg1)) (m (c.tc.loc main_arg2)) (m (c.tc.loc main_arg3)) (m (c.tc.loc main_arg4)) (m (c.tc.loc main_arg5)) ⟨s * 512 + r.val, by omega⟩ j else 0

theorem part_eq (c : Dev nD) (t : Fin cfg0.N) (h : t.val % 7 = 6) (a : Vec Ideal S1x2048 .f32) (j : Fin 2048) :
    k0_pay7 (iblk m c 5 t) (k0_pay4 (outsAt0 m c (t.val - 1) (Nat.lt_of_le_of_lt (Nat.sub_le _ _) t.isLt)).2.2 (iblk m c 1 t) (iblk m c 3 t)) a (ix2 0 j)
      = a (ix2 0 j) + part m c (t.val / 7) j := by
  have ht := t_lt t
  unfold part
  rw [dif_pos (by omega)]
  refine (pay7_apply _ _ _ j).trans (congrArg (a (ix2 0 j) + ·) (Finset.sum_congr rfl fun r _ => ?_))
  unfold dgS
  refine congrArg₂ _ (dh_last m c t h r j) (congrArg₂ _ (blk5 m c t r j) (congrArg (fun v => Ideal.rsqrt (Norm.var v)) (funext fun k => blk5 m c t r k)))

theorem dg_acc (c : Dev nD) (j : Fin 2048) : ∀ (n : ℕ) (hn : n < cfg0.N),
    (outsAt0 m c n hn).2.1 (ix2 0 j) = ∑ s ∈ Finset.range ((n + 1) / 7), part m c s j := by
  intro n
  induction n with
  | zero =>
    intro hn
    rw [outsAt0_A m c ⟨0, hn⟩ (show (0 : ℕ) % 28 = 0 by decide) (show (0 : ℕ) % 7 = 0 by decide) (show (0 : ℕ) % 7 ≤ 2 by decide) (show ¬ 3 ≤ (0 : ℕ) % 7 by decide) (show ¬ (0 : ℕ) % 7 = 6 by decide)]
    dsimp only
    rw [out0_A_9_eq, pay1_apply]
    rfl
  | succ n ih =>
    intro hn
    have h28 : n + 1 < 28 := t_lt ⟨n + 1, hn⟩
    have ih' := ih (by omega)
    by_cases h4 : (n + 1) % 7 = 6
    · rw [outsAt0_D m c ⟨n + 1, hn⟩ (by dsimp only; omega) (by dsimp only; omega) (by dsimp only; omega) (by dsimp only; omega) (by dsimp only; omega)]
      dsimp only
      rw [out0_D_9_eq, part_eq m c ⟨n + 1, hn⟩ h4]
      rw [show (n + 1 + 1) / 7 = (n + 1) / 7 + 1 by omega, Finset.sum_range_succ, ← ih']
      rfl
    · rw [show (n + 1 + 1) / 7 = (n + 1) / 7 by omega, ← ih']
      by_cases h1 : (n + 1) % 7 = 0
      · rw [outsAt0_E m c ⟨n + 1, hn⟩ (by dsimp only; omega) (by dsimp only; omega) (by dsimp only; omega) (by dsimp only; omega) (by dsimp only; omega)]
        rfl
      · by_cases h2 : (n + 1) % 7 ≤ 2
        · rw [outsAt0_B m c ⟨n + 1, hn⟩ (by dsimp only; omega) (by dsimp only; omega) (by dsimp only; omega) (by dsimp only; omega) (by dsimp only; omega)]
          rfl
        · rw [outsAt0_C m c ⟨n + 1, hn⟩ (by dsimp only; omega) (by dsimp only; omega) (by dsimp only; omega) (by dsimp only; omega) (by dsimp only; omega)]
          rfl

theorem dg_total (c : Dev nD) (j : Fin 2048) :
    (∑ s ∈ Finset.range 4, part m c s j) = ∑ i : Fin 2048, dgS (m (c.tc.loc main_arg0)) (m (c.tc.loc main_arg1)) (m (c.tc.loc main_arg2)) (m (c.tc.loc main_arg3)) (m (c.tc.loc main_arg4)) (m (c.tc.loc main_arg5)) i j := by
  refine Eq.trans ?_ (Equiv.sum_comp (finProdFinEquiv (m := 4) (n := 512)) fun i : Fin 2048 => dgS (m (c.tc.loc main_arg0)) (m (c.tc.loc main_arg1)) (m (c.tc.loc main_arg2)) (m (c.tc.loc main_arg3)) (m (c.tc.loc main_arg4)) (m (c.tc.loc main_arg5)) i j)
  rw [Fintype.sum_prod_type, Finset.sum_range]
  refine Finset.sum_congr rfl fun s _ => ?_
  unfold part
  rw [dif_pos s.isLt]
  refine Finset.sum_congr rfl fun r _ => ?_
  refine congrArg (fun i => dgS (m (c.tc.loc main_arg0)) (m (c.tc.loc main_arg1)) (m (c.tc.loc main_arg2)) (m (c.tc.loc main_arg3)) (m (c.tc.loc main_arg4)) (m (c.tc.loc main_arg5)) i j) (Fin.ext ?_)
  show s.val * 512 + r.val = r.val + 512 * s.val
  omega

/-- What the call leaves of the input's cotangent. -/
def G8 (c : Dev nD) : Buf (Elt Ideal) ((c : Thread nD τ).loc main_v0_0) :=
  fun i => dxS (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) ⟨(i 0).val, (i 0).isLt⟩ ⟨(i 1).val, (i 1).isLt⟩

/-- What the call leaves of the gain's cotangent. -/
def G9 (c : Dev nD) : Buf (Elt Ideal) ((c : Thread nD τ).loc main_v0_1) :=
  fun i => (∑ r : Fin 2048, dgS (m (c.tc.loc main_arg0)) (m (c.tc.loc main_arg1)) (m (c.tc.loc main_arg2)) (m (c.tc.loc main_arg3)) (m (c.tc.loc main_arg4)) (m (c.tc.loc main_arg5)) r ⟨(i 1).val, (i 1).isLt⟩ : EReal)

theorem flushed8_eq (c : Dev nD) (t : Fin cfg0.N) (hf : (cfg0.win 8).flush t = true) :
    (dats m 0 c).flushed 8 t = ((cfg0.win 8).blk t).view.read (Elt Ideal) (G8 m c) := by
  have h6 : t.val % 7 = 6 := (flush0_8 t).mp hf
  rw [Value.flushed8]
  funext y
  rw [View.read_apply]
  have hy : y = ix2 (⟨(y 0).val, (y 0).isLt⟩ : Fin 512) (⟨(y 1).val, (y 1).isLt⟩ : Fin 2048) := by
    funext a; match a with
    | ⟨0, _⟩ => rfl
    | ⟨1, _⟩ => rfl
  refine (congrArg ((outsAt0 m c t.val t.isLt).1) hy).trans ((dx_apply m c t h6 _ _).trans ?_)
  unfold G8
  refine congrArg₂ (dxS (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7))) (Fin.ext ?_) (Fin.ext ?_)
  · show t.val / 7 * 512 + (y 0).val = win0_8.index t 0 * 512 + 1 * (y 0).val; rw [(idx_facts t).2.2.2.2.2.2.2.2.2.2.2.2.2.2.2.2.1]; omega
  · show (y 1).val = win0_8.index t 1 * 2048 + 1 * (y 1).val; rw [(idx_facts t).2.2.2.2.2.2.2.2.2.2.2.2.2.2.2.2.2.1]; omega

theorem final8 (c : Dev nD) : (dats m 0 c).arrAt 8 cfg0.N = G8 m c :=
  (dats m 0 c).arrAt_eq_of_cover 8 (G8 m c) (fun t hf => flushed8_eq m c t hf) fun i => by
    have h0 : (i 0 : Nat) < 2048 := (i 0).isLt
    have h1 : (i 1 : Nat) < 2048 := (i 1).isLt
    have ht : (i 0 : Nat) / 512 * 7 + 6 < cfg0.N := lt_of_lt_of_eq (by omega : (i 0 : Nat) / 512 * 7 + 6 < 28) (show cfg0.N = 28 from N_0).symm
    generalize htt : (⟨(i 0 : Nat) / 512 * 7 + 6, ht⟩ : Fin cfg0.N) = t
    have e0 : t.val = (i 0 : Nat) / 512 * 7 + 6 := by rw [← htt]
    refine ⟨t, (flush0_8 t).mpr (by omega), ?_⟩
    show i ∈ ((View.whole main_v0_0).slice (win0_8.rect t)).set
    rw [View.set_slice_whole, Rect.mem_set_unit]
    intro a
    match a with
    | ⟨0, _⟩ => show win0_8.index t 0 * 512 ≤ (i 0 : Nat) ∧ (i 0 : Nat) < win0_8.index t 0 * 512 + 512
                rw [(idx_facts t).2.2.2.2.2.2.2.2.2.2.2.2.2.2.2.2.1]; omega
    | ⟨1, _⟩ => show win0_8.index t 1 * 2048 ≤ (i 1 : Nat) ∧ (i 1 : Nat) < win0_8.index t 1 * 2048 + 2048
                rw [(idx_facts t).2.2.2.2.2.2.2.2.2.2.2.2.2.2.2.2.2.1]; omega

theorem flushed9_eq (c : Dev nD) (t : Fin cfg0.N) (hf : (cfg0.win 9).flush t = true) :
    (dats m 0 c).flushed 9 t = ((cfg0.win 9).blk t).view.read (Elt Ideal) (G9 m c) := by
  have ht : t.val = 27 := by have := (flush0_9 t).mp hf; have := t_lt t; omega
  rw [Value.flushed9]
  funext y
  rw [View.read_apply]
  have hy : y = ix2 (0 : Fin 1) (⟨(y 1).val, (y 1).isLt⟩ : Fin 2048) := by
    funext a; match a with
    | ⟨0, _⟩ => exact Fin.ext (by have : (y 0).val < 1 := (y 0).isLt; show (y 0).val = 0; omega)
    | ⟨1, _⟩ => rfl
  obtain ⟨n, hn⟩ := t
  obtain rfl : n = 27 := ht
  refine (congrArg ((outsAt0 m c 27 hn).2.1) hy).trans ((dg_acc m c _ 27 hn).trans ((dg_total m c _).trans ?_))
  unfold G9
  refine congrArg (fun j => ∑ r : Fin 2048, dgS (m (c.tc.loc main_arg0)) (m (c.tc.loc main_arg1)) (m (c.tc.loc main_arg2)) (m (c.tc.loc main_arg3)) (m (c.tc.loc main_arg4)) (m (c.tc.loc main_arg5)) r j) (Fin.ext ?_)
  generalize htt : (⟨27, hn⟩ : Fin cfg0.N) = t
  show (y 1).val = win0_9.index t 1 * 2048 + 1 * (y 1).val; rw [(idx_facts t).2.2.2.2.2.2.2.2.2.2.2.2.2.2.2.2.2.2.2]; omega

theorem final9 (c : Dev nD) : (dats m 0 c).arrAt 9 cfg0.N = G9 m c :=
  (dats m 0 c).arrAt_eq_of_cover 9 (G9 m c) (fun t hf => flushed9_eq m c t hf) fun i => by
    have h0 : (i 0 : Nat) < 1 := (i 0).isLt
    have h1 : (i 1 : Nat) < 2048 := (i 1).isLt
    have ht : 27 < cfg0.N := lt_of_lt_of_eq (by omega : 27 < 28) (show cfg0.N = 28 from N_0).symm
    have hf : (cfg0.win 9).flush ⟨27, ht⟩ = true := (flush0_9 _).mpr rfl
    generalize htt : (⟨27, ht⟩ : Fin cfg0.N) = t at hf
    refine ⟨t, hf, ?_⟩
    show i ∈ ((View.whole main_v0_1).slice (win0_9.rect t)).set
    rw [View.set_slice_whole, Rect.mem_set_unit]
    intro a
    match a with
    | ⟨0, _⟩ => show win0_9.index t 0 * 1 ≤ (i 0 : Nat) ∧ (i 0 : Nat) < win0_9.index t 0 * 1 + 1
                rw [(idx_facts t).2.2.2.2.2.2.2.2.2.2.2.2.2.2.2.2.2.2.1]; omega
    | ⟨1, _⟩ => show win0_9.index t 1 * 2048 ≤ (i 1 : Nat) ∧ (i 1 : Nat) < win0_9.index t 1 * 2048 + 2048
                rw [(idx_facts t).2.2.2.2.2.2.2.2.2.2.2.2.2.2.2.2.2.2.2]; omega

end Cert.DhIdeal.Hand

namespace Cert.DhReferenceIdeal.Hand

open Cert.DhReferenceIdeal Cert.DhReferenceIdeal.Gen Cert.DhReferenceIdeal.Read
open Cert.DhIdeal.Hand (chunk gate dhS dxS dgS)

variable (zg : Vec Ideal S2048x3072 .bf16) (za : Vec Ideal S2048x4096 .bf16) (ga : Vec Ideal S2048x128 .bf16) (wm : Vec Ideal S7168x2048 .bf16) (wga : Vec Ideal S128x2048 .bf16)
  (x : Vec Ideal S2048x2048 .f32) (dout : Vec Ideal S2048x2048 .f32) (g : Vec Ideal S1x2048 .f32)

theorem var_apply (i : Fin 2048) : val_main_v6 (F := Ideal) x (ix2 i 0) = Norm.var fun k => x (ix2 i k) := by
  unfold Norm.var
  pointwise [val_main_v6, val_main_v5, val_main_v4, val_main_v3, val_main_v2, val_main_v1, val_main_v0, val_main_cst, val_main_cst_0, val_main_cst_1]

theorem r_apply (i : Fin 2048) : val_main_v7 (F := Ideal) x (ix2 i 0) = Ideal.rsqrt (Norm.var fun k => x (ix2 i k)) := by
  rw [← var_apply]; rfl

theorem sum_lo (i j : Fin 2048) : val_main_v31 (F := Ideal) zg wm (ix2 i j) = ∑ s ∈ Finset.range 3, chunk zg za wm i s j := by
  have e : val_main_v31 (F := Ideal) zg wm (ix2 i j) = ∑ k : Fin 3072, zg (ix2 i k) * wm (ix2 ⟨k.val, by omega⟩ j) := by
    pointwise [val_main_v31, val_main_v25, val_main_v17, val_main_v16, val_main_v15]
  rw [e, Finset.sum_range]
  refine (Equiv.sum_comp (finProdFinEquiv (m := 3) (n := 1024)) fun k : Fin 3072 => zg (ix2 i k) * wm (ix2 ⟨k.val, by omega⟩ j)).symm.trans ?_
  rw [Fintype.sum_prod_type]
  refine Finset.sum_congr rfl fun s _ => ?_
  unfold chunk
  rw [dif_pos s.isLt]
  refine Finset.sum_congr rfl fun q _ => ?_
  have he : (finProdFinEquiv (s, q)).val = s.val * 1024 + q.val := by show q.val + 1024 * s.val = _; omega
  refine congrArg₂ _ (congrArg (fun k => zg (ix2 i k)) (Fin.ext he)) (congrArg (fun k => wm (ix2 k j)) (Fin.ext he))

theorem sum_hi (i j : Fin 2048) : val_main_v29 (F := Ideal) za wm (ix2 i j) = ∑ s ∈ Finset.range 4, chunk zg za wm i (3 + s) j := by
  have e : val_main_v29 (F := Ideal) za wm (ix2 i j) = ∑ k : Fin 4096, za (ix2 i k) * wm (ix2 ⟨3072 + k.val, by omega⟩ j) := by
    pointwise [val_main_v29, val_main_v26, val_main_v20, val_main_v19, val_main_v15]
  rw [e, Finset.sum_range]
  refine (Equiv.sum_comp (finProdFinEquiv (m := 4) (n := 1024)) fun k : Fin 4096 => za (ix2 i k) * wm (ix2 ⟨3072 + k.val, by omega⟩ j)).symm.trans ?_
  rw [Fintype.sum_prod_type]
  refine Finset.sum_congr rfl fun s _ => ?_
  have hs := s.isLt
  unfold chunk
  rw [dif_neg (by omega), dif_pos (by omega)]
  refine Finset.sum_congr rfl fun q _ => ?_
  have he : (finProdFinEquiv (s, q)).val = s.val * 1024 + q.val := by show q.val + 1024 * s.val = _; omega
  refine congrArg₂ _ (congrArg (fun k => za (ix2 i k)) (Fin.ext ?_)) (congrArg (fun k => wm (ix2 k j)) (Fin.ext ?_))
  · show (finProdFinEquiv (s, q)).val = (3 + s.val - 3) * 1024 + q.val; omega
  · show 3072 + (finProdFinEquiv (s, q)).val = (3 + s.val) * 1024 + q.val; omega

theorem dh_apply (i j : Fin 2048) : val_main_v32 (F := Ideal) zg za ga wm wga (ix2 i j) = dhS zg za ga wm wga i j := by
  have e : val_main_v28 (F := Ideal) ga wga (ix2 i j) = gate ga wga i j := by
    unfold gate
    pointwise [val_main_v28, val_main_v27, val_main_v23, val_main_v22]
  have e7 : (∑ s ∈ Finset.range 7, chunk zg za wm i s j) = (∑ s ∈ Finset.range 3, chunk zg za wm i s j) + ∑ s ∈ Finset.range 4, chunk zg za wm i (3 + s) j :=
    Finset.sum_range_add _ 3 4
  show val_main_v28 (F := Ideal) ga wga (ix2 i j) + val_main_v29 (F := Ideal) za wm (ix2 i j) + val_main_v31 (F := Ideal) zg wm (ix2 i j) = _
  unfold dhS
  rw [e, sum_lo zg za, sum_hi zg za, e7, add_assoc, add_comm (∑ s ∈ Finset.range 4, _)]

theorem u_apply (i : Fin 2048) : val_main_v46 (F := Ideal) zg za ga wm wga x g (ix2 i 0) = Norm.half (fun k => dhS zg za ga wm wga i k * g (ix2 0 k)) (fun k => x (ix2 i k)) := by
  unfold Norm.half
  rw [← var_apply]
  simp only [← dh_apply]
  pointwise [val_main_v46, val_main_v45, val_main_v44, val_main_v40, val_main_v39, val_main_v38, val_main_v37, val_main_v36, val_main_v10, val_main_v9, val_main_v8, val_main_v7, val_main_cst_2, val_main_cst_4, val_main_cst_5]

theorem dx_apply (hd : ∀ i j, ∃ r : ℝ, dhS zg za ga wm wga i j = (r : EReal)) (hx : ∀ i, ∃ r : ℝ, x i = (r : EReal)) (hg : ∀ i, ∃ r : ℝ, g i = (r : EReal)) (i j : Fin 2048) :
    val_main_v52 (F := Ideal) zg za ga wm wga x dout g (ix2 i j) = dxS zg za ga wm wga x dout g i j := by
  unfold dxS
  rw [← Norm.back_eq _ _ (fun k => by
    obtain ⟨a, ha⟩ := hd i k
    obtain ⟨b, hb⟩ := hg (ix2 0 k)
    exact ⟨a * b, by rw [ha, hb, EReal.coe_mul]⟩) (fun k => hx _), ← u_apply, ← r_apply, ← add_assoc, ← add_assoc, ← dh_apply]
  pointwise [val_main_v52, val_main_v51, val_main_v50, val_main_v49, val_main_v48, val_main_v47, val_main_v43, val_main_v42, val_main_v41, val_main_v37, val_main_v36, val_main_cst_6]
  simp only [Finset.univ_unique, Finset.sum_singleton]
  rfl

theorem dg_apply (j : Fin 2048) : val_main_v35 (F := Ideal) zg za ga wm wga x (ix2 0 j) = ∑ i : Fin 2048, dgS zg za ga wm wga x i j := by
  unfold dgS
  simp only [← r_apply, ← dh_apply]
  pointwise [val_main_v35, val_main_v34, val_main_v33, val_main_v12, val_main_v11, val_main_cst_3]
  exact Finset.sum_congr rfl fun k _ => mul_comm _ _

/-- The reference keeps its arguments and leaves every semaphore at zero. -/
theorem frame_reference : Cert.quiescent_DhReferenceIdeal := by
  intro m ρ _
  refine (θ_run _ _ _).mono (fun r h => ⟨fun c => (h c).2.2, sem_eq_zero_of_no_sems (by decide) _⟩) (Cert.DhReferenceIdeal.Value.run m ρ)

end Cert.DhReferenceIdeal.Hand

namespace Cert.DhIdeal.Hand

open Cert.DhIdeal Cert.DhIdeal.Gen

theorem ix_eta {a b : ℕ} (i : (⟨2, ![a, b]⟩ : Shape).Idx) : i = ix2 (⟨(i 0).val, (i 0).isLt⟩ : Fin a) (⟨(i 1).val, (i 1).isLt⟩ : Fin b) := by
  funext k; match k with
  | ⟨0, _⟩ => rfl
  | ⟨1, _⟩ => rfl

/-- A product of reals, and a sum of such, is a real. -/
theorem sum_real {ι : Type} [Fintype ι] (f g : ι → EReal) (hf : ∀ k, ∃ r : ℝ, f k = (r : EReal)) (hg : ∀ k, ∃ r : ℝ, g k = (r : EReal)) :
    ∃ r : ℝ, (∑ k, f k * g k) = (r : EReal) := by
  choose a ha using hf
  choose b hb using hg
  exact ⟨∑ k, a k * b k, by simp only [ha, hb, ← EReal.coe_mul, Norm.sum_coe]⟩

theorem dh_real (zg : Vec Ideal S2048x3072 .bf16) (za : Vec Ideal S2048x4096 .bf16) (ga : Vec Ideal S2048x128 .bf16) (wm : Vec Ideal S7168x2048 .bf16) (wga : Vec Ideal S128x2048 .bf16)
    (h0 : ∀ i, ∃ r : ℝ, zg i = (r : EReal)) (h1 : ∀ i, ∃ r : ℝ, za i = (r : EReal)) (h2 : ∀ i, ∃ r : ℝ, ga i = (r : EReal))
    (h3 : ∀ i, ∃ r : ℝ, wm i = (r : EReal)) (h4 : ∀ i, ∃ r : ℝ, wga i = (r : EReal)) (i j : Fin 2048) : ∃ r : ℝ, dhS zg za ga wm wga i j = (r : EReal) := by
  have hc : ∀ s, ∃ r : ℝ, chunk zg za wm i s j = (r : EReal) := fun s => by
    unfold chunk
    split
    · exact sum_real _ _ (fun _ => h0 _) (fun _ => h3 _)
    · split
      · exact sum_real _ _ (fun _ => h1 _) (fun _ => h3 _)
      · exact ⟨0, rfl⟩
  obtain ⟨a, ha⟩ : ∃ r : ℝ, gate ga wga i j = (r : EReal) := sum_real _ _ (fun _ => h2 _) (fun _ => h4 _)
  choose b hb using hc
  exact ⟨a + ∑ s ∈ Finset.range 7, b s, by unfold dhS; simp only [ha, hb, Norm.sum_coe, EReal.coe_add]⟩

/-- The kernel's idealization and the reference leave the same two arrays, for arguments with no infinity (the residual gradient's apart). -/
theorem algebraic : Cert.algebraic_DhIdeal_DhReferenceIdeal_pre_finite_dh := by
  intro m g m' g' hpre hagree
  refine ⟨fun c => G8 m c, fun c => G9 m c,
    (θ_run _ _ _).mono (fun r h c => ⟨((h c).1).trans (final8 m c), ((h c).2.1).trans (final9 m c), (h c).2.2⟩) (Value.run_blocks m g),
    (θ_run _ _ _).mono (fun r h c => ⟨(h c).1.trans ?_, (h c).2.1.trans ?_, (h c).2.2⟩) (Cert.DhReferenceIdeal.Value.run m' g')⟩
  · obtain ⟨h0, h1, h2, h3, h4, h5, h6, h7⟩ := hagree c
    have hp := hpre c
    rw [Cert.DhReferenceIdeal.Read.val_main_v52_eq, h0, h1, h2, h3, h4, h5, h6, h7]
    funext i
    exact (congrArg _ (ix_eta i)).trans (Cert.DhReferenceIdeal.Hand.dx_apply _ _ _ _ _ _ _ _
      (dh_real _ _ _ _ _ (fun i => Norm.real_of_olt _ (congrFun hp.1 i)) (fun i => Norm.real_of_olt _ (congrFun hp.2.1 i)) (fun i => Norm.real_of_olt _ (congrFun hp.2.2.1 i))
        (fun i => Norm.real_of_olt _ (congrFun hp.2.2.2.1 i)) (fun i => Norm.real_of_olt _ (congrFun hp.2.2.2.2.1 i)))
      (fun i => Norm.real_of_olt _ (congrFun hp.2.2.2.2.2.1 i)) (fun i => Norm.real_of_olt _ (congrFun hp.2.2.2.2.2.2 i)) _ _)
  · obtain ⟨h0, h1, h2, h3, h4, h5, h6, h7⟩ := hagree c
    rw [Cert.DhReferenceIdeal.Read.val_main_v35_eq, h0, h1, h2, h3, h4, h5]
    funext i
    have hi : i = ix2 (0 : Fin 1) (⟨(i 1).val, (i 1).isLt⟩ : Fin 2048) := by
      funext k; match k with
      | ⟨0, _⟩ => exact Fin.ext (by have : (i 0).val < 1 := (i 0).isLt; show (i 0).val = 0; omega)
      | ⟨1, _⟩ => rfl
    exact (congrArg _ hi).trans (Cert.DhReferenceIdeal.Hand.dg_apply _ _ _ _ _ _ _)

end Cert.DhIdeal.Hand

end
-- ==== Proof.DwinAtt.lean ====
module

public import proofs.«01_k».proof.Defs
public import proofs.«01_k».proof.Proof.Dots
public import proofs.«01_k».proof.Proof.Gen.DwinAtt
public import proofs.«01_k».proof.Proof.Gen.DwinAtt.Frame
public import proofs.«01_k».proof.Proof.Gen.DwinAttIdeal.Frame
public import proofs.«01_k».proof.Proof.Gen.DwinAttIdeal.Value
public import proofs.«01_k».proof.Proof.Gen.DwinAttReferenceIdeal.Run
public import proofs.«01_k».proof.Proof.Gen.DwinAttReferenceIdeal.Read
public import Idealize.ShloMosaic.Lib.Pipeline.Value
public import Idealize.ShloMosaic.Lib.Quiescent

@[expose] public section

set_option maxRecDepth 16384

noncomputable section

open Idealize.ShloMosaic Idealize.ShloMosaic.TcCoe Idealize.SL.Sem Idealize.ShloMosaic.ValueIdx
open Idealize.ShloMosaic.Pipeline (Dat)

namespace Cert.DwinAttIdeal.Hand

open Cert.DwinAttIdeal Cert.DwinAttIdeal.Gen

variable (m : (ℓ : Loc nD τ sig) → Buf (Elt Ideal) ℓ) (ρ : Dev nD → PrngReg)

/-- The product of the transposed first operand with the second, entry by entry. -/
def gradW (a : Vec Ideal S2048x4096 .bf16) (b : Vec Ideal S2048x2048 .bf16) : Vec Ideal S4096x2048 .bf16 :=
  fun i => ∑ k : Fin 2048, a (ix2 k ⟨(i 0).val, (i 0).isLt⟩) * b (ix2 k ⟨(i 1).val, (i 1).isLt⟩)

/-- What one grid point stores: the product of its two blocks. -/
theorem pay_apply (x : Vec Ideal S2048x512 .bf16) (y : Vec Ideal S2048x1024 .bf16) (j : S512x1024.Idx) :
    k0_pay1 x y j = ∑ k : Fin 2048, x (ix2 k ⟨(j 0).val, (j 0).isLt⟩) * y (ix2 k ⟨(j 1).val, (j 1).isLt⟩) := by
  unfold k0_pay1
  have hj : j = ix2 ⟨(j 0).val, (j 0).isLt⟩ ⟨(j 1).val, (j 1).isLt⟩ := by
    funext a; match a with
    | ⟨0, _⟩ => rfl
    | ⟨1, _⟩ => rfl
  refine (congrArg _ hj).trans ?_
  refine (Dots.matmul_tn (φ₁ := .bf16) (φ₂ := .bf16) dot_S2048x512_S2048x1024_S512x1024_0_0_1_1_n_n rfl rfl rfl rfl rfl rfl rfl none x y (constant S512x1024 .f32 0x00000000#32) _ _).trans ?_
  show Ideal.ofBits .f32 0x00000000#32 + _ = _
  rw [Ideal.ofBits_zero_f32, zero_add]
  rfl

theorem out_eq (x : Vec Ideal S2048x512 .bf16) (y : Vec Ideal S2048x1024 .bf16) : out0_2 x y = k0_pay1 x y := by
  unfold out0_2
  rw [View.canon_unit_zero Dots.hz, View.ld_unit_zero (S := S2048x512) Dots.hz, View.ld_unit_zero (S := S2048x1024) Dots.hz]

theorem idx_facts : ∀ t : Fin cfg0.N, win0_0.index t 0 = 0 ∧ win0_0.index t 1 = win0_2.index t 0 ∧ win0_1.index t 0 = 0
    ∧ win0_1.index t 1 = win0_2.index t 1 :=
  (by decide +kernel : ∀ t : Fin grid0.N, win0_0.index t 0 = 0 ∧ win0_0.index t 1 = win0_2.index t 0 ∧ win0_1.index t 0 = 0
    ∧ win0_1.index t 1 = win0_2.index t 1)

theorem covers : ∀ p : Fin 8, ∀ q : Fin 2, ∃ t : Fin cfg0.N, win0_2.index t 0 = p.val ∧ win0_2.index t 1 = q.val :=
  (by decide +kernel : ∀ p : Fin 8, ∀ q : Fin 2, ∃ t : Fin grid0.N, win0_2.index t 0 = p.val ∧ win0_2.index t 1 = q.val)

theorem blk0 (c : Dev nD) (t : Fin cfg0.N) (k : Fin 2048) (r : Fin 512) (h : win0_2.index t 0 * 512 + 1 * r.val < 4096) :
    iblk m c 0 t (ix2 k r) = (m ((c : Thread nD τ).loc main_arg0) : Vec Ideal S2048x4096 .bf16) (ix2 k ⟨win0_2.index t 0 * 512 + 1 * r.val, h⟩) := by
  obtain ⟨h0, h1, -, -⟩ := idx_facts t
  unfold iblk
  rw [View.read_apply]
  show m ((c : Thread nD τ).loc main_arg0) _ = _
  congr 1
  funext a
  apply Fin.ext
  match a with
  | ⟨0, _⟩ => show win0_0.index t 0 * 2048 + 1 * k.val = k.val; rw [h0]; omega
  | ⟨1, _⟩ => show win0_0.index t 1 * 512 + 1 * r.val = win0_2.index t 0 * 512 + 1 * r.val; rw [h1]

theorem blk1 (c : Dev nD) (t : Fin cfg0.N) (k : Fin 2048) (r : Fin 1024) (h : win0_2.index t 1 * 1024 + 1 * r.val < 2048) :
    iblk m c 1 t (ix2 k r) = (m ((c : Thread nD τ).loc main_arg1) : Vec Ideal S2048x2048 .bf16) (ix2 k ⟨win0_2.index t 1 * 1024 + 1 * r.val, h⟩) := by
  obtain ⟨-, -, h0, h1⟩ := idx_facts t
  unfold iblk
  rw [View.read_apply]
  show m ((c : Thread nD τ).loc main_arg1) _ = _
  congr 1
  funext a
  apply Fin.ext
  match a with
  | ⟨0, _⟩ => show win0_1.index t 0 * 2048 + 1 * k.val = k.val; rw [h0]; omega
  | ⟨1, _⟩ => show win0_1.index t 1 * 1024 + 1 * r.val = win0_2.index t 1 * 1024 + 1 * r.val; rw [h1]

/-- The result array of the call as one function of its two arguments. -/
def G (c : Dev nD) : Buf (Elt Ideal) ((c : Thread nD τ).loc main_v0) :=
  gradW (m ((c : Thread nD τ).loc main_arg0)) (m ((c : Thread nD τ).loc main_arg1))

/-- What a grid point writes back is its block of the product. -/
theorem flushed_eq (c : Dev nD) (t : Fin cfg0.N) :
    (dats m 0 c).flushed 2 t = ((cfg0.win 2).blk t).view.read (Elt Ideal) (G m c) := by
  rw [Value.flushed2, out_eq]
  funext y
  rw [View.read_apply]
  refine (pay_apply (iblk m c 0 t) (iblk m c 1 t) y).trans ?_
  unfold G gradW
  refine Finset.sum_congr rfl fun k _ => ?_
  rw [blk0 m c t k ⟨(y 0).val, (y 0).isLt⟩ ((((cfg0.win 2).blk t).view.emb y) 0).isLt, blk1 m c t k ⟨(y 1).val, (y 1).isLt⟩ ((((cfg0.win 2).blk t).view.emb y) 1).isLt]
  rfl

/-- After the run the result array is the product. -/
theorem final (c : Dev nD) : (dats m 0 c).arrAt 2 cfg0.N = G m c :=
  (dats m 0 c).arrAt_eq_of_cover 2 (G m c) (fun t _ => flushed_eq m c t) fun i => by
    have h0 : (i 0 : Nat) < 4096 := (i 0).isLt
    have h1 : (i 1 : Nat) < 2048 := (i 1).isLt
    obtain ⟨t, e0, e1⟩ := covers ⟨(i 0 : Nat) / 512, by omega⟩ ⟨(i 1 : Nat) / 1024, by omega⟩
    refine ⟨t, flush0_2 t, ?_⟩
    show i ∈ ((View.whole main_v0).slice (win0_2.rect t)).set
    rw [View.set_slice_whole, Rect.mem_set_unit]
    intro a
    match a with
    | ⟨0, _⟩ => show win0_2.index t 0 * 512 ≤ (i 0 : Nat) ∧ (i 0 : Nat) < win0_2.index t 0 * 512 + 512
                rw [e0]; dsimp only; omega
    | ⟨1, _⟩ => show win0_2.index t 1 * 1024 ≤ (i 1 : Nat) ∧ (i 1 : Nat) < win0_2.index t 1 * 1024 + 1024
                rw [e1]; dsimp only; omega

end Cert.DwinAttIdeal.Hand

namespace Cert.DwinAttReferenceIdeal.Hand

open Cert.DwinAttReferenceIdeal Cert.DwinAttReferenceIdeal.Gen Cert.DwinAttReferenceIdeal.Read

/-- The reference's gradient is the same product, entry by entry. -/
theorem ref_apply (a : Vec Ideal S2048x4096 .bf16) (b : Vec Ideal S2048x2048 .bf16) :
    val_main_v7 (F := Ideal) a b = Cert.DwinAttIdeal.Hand.gradW a b := by
  funext i
  rw [val_main_v7_apply, val_main_v6_apply, val_main_v5_apply, val_main_v4_apply]
  show (∑ k : Fin 2048, _) = _
  unfold Cert.DwinAttIdeal.Hand.gradW
  refine Finset.sum_congr rfl fun k _ => ?_
  rw [val_main_v3_apply, val_main_v1_apply]
  show a _ * b _ = a _ * b _

  congr 2 <;> (funext d; match d with
    | ⟨0, _⟩ => rfl
    | ⟨1, _⟩ => rfl)

/-- The reference keeps its arguments and leaves every semaphore at zero. -/
theorem frame_reference : Cert.quiescent_DwinAttReferenceIdeal := by
  intro m ρ _
  refine (θ_run _ _ _).mono (fun r h => ⟨fun c => (h c).2, sem_eq_zero_of_no_sems (by decide) _⟩) (Cert.DwinAttReferenceIdeal.Value.run m ρ)

end Cert.DwinAttReferenceIdeal.Hand

namespace Cert.DwinAttIdeal.Hand

/-- The kernel's idealization and the reference leave the same gradient. -/
theorem algebraic : Cert.algebraic_DwinAttIdeal_DwinAttReferenceIdeal := by
  intro m g m' g' _ hagree
  refine ⟨fun c => G m c, (θ_run _ _ _).mono (fun r h c => ⟨((h c).1).trans (final m c), (h c).2⟩) (Value.run_blocks m g),
    (θ_run _ _ _).mono (fun r h c => ⟨(h c).1.trans ?_, (h c).2⟩) (Cert.DwinAttReferenceIdeal.Value.run m' g')⟩
  refine (Cert.DwinAttReferenceIdeal.Read.val_main_v7_eq _ _).trans ((Cert.DwinAttReferenceIdeal.Hand.ref_apply _ _).trans ?_)
  rw [(hagree c).1, (hagree c).2]
  rfl

end Cert.DwinAttIdeal.Hand

end
-- ==== Proof.DwinGate.lean ====
module

public import proofs.«01_k».proof.Defs
public import proofs.«01_k».proof.Proof.Dots
public import proofs.«01_k».proof.Proof.Gen.DwinGate
public import proofs.«01_k».proof.Proof.Gen.DwinGate.Frame
public import proofs.«01_k».proof.Proof.Gen.DwinGateIdeal.Frame
public import proofs.«01_k».proof.Proof.Gen.DwinGateIdeal.Value
public import proofs.«01_k».proof.Proof.Gen.DwinGateReferenceIdeal.Run
public import proofs.«01_k».proof.Proof.Gen.DwinGateReferenceIdeal.Read
public import Idealize.ShloMosaic.Lib.Pipeline.Value
public import Idealize.ShloMosaic.Lib.Quiescent

@[expose] public section

set_option maxRecDepth 16384

noncomputable section

open Idealize.ShloMosaic Idealize.ShloMosaic.TcCoe Idealize.SL.Sem Idealize.ShloMosaic.ValueIdx
open Idealize.ShloMosaic.Pipeline (Dat)

namespace Cert.DwinGateIdeal.Hand

open Cert.DwinGateIdeal Cert.DwinGateIdeal.Gen

variable (m : (ℓ : Loc nD τ sig) → Buf (Elt Ideal) ℓ) (ρ : Dev nD → PrngReg)

/-- The product of the transposed first operand with the second, entry by entry. -/
def gradW (a : Vec Ideal S2048x128 .bf16) (b : Vec Ideal S2048x2048 .bf16) : Vec Ideal S128x2048 .bf16 :=
  fun i => ∑ k : Fin 2048, a (ix2 k ⟨(i 0).val, (i 0).isLt⟩) * b (ix2 k ⟨(i 1).val, (i 1).isLt⟩)

/-- What one grid point stores: the product of its two blocks. -/
theorem pay_apply (x : Vec Ideal S2048x128 .bf16) (y : Vec Ideal S2048x1024 .bf16) (j : S128x1024.Idx) :
    k0_pay1 x y j = ∑ k : Fin 2048, x (ix2 k ⟨(j 0).val, (j 0).isLt⟩) * y (ix2 k ⟨(j 1).val, (j 1).isLt⟩) := by
  unfold k0_pay1
  have hj : j = ix2 ⟨(j 0).val, (j 0).isLt⟩ ⟨(j 1).val, (j 1).isLt⟩ := by
    funext a; match a with
    | ⟨0, _⟩ => rfl
    | ⟨1, _⟩ => rfl
  refine (congrArg _ hj).trans ?_
  refine (Dots.matmul_tn (φ₁ := .bf16) (φ₂ := .bf16) dot_S2048x128_S2048x1024_S128x1024_0_0_1_1_n_n rfl rfl rfl rfl rfl rfl rfl none x y (constant S128x1024 .f32 0x00000000#32) _ _).trans ?_
  show Ideal.ofBits .f32 0x00000000#32 + _ = _
  rw [Ideal.ofBits_zero_f32, zero_add]
  rfl

theorem out_eq (x : Vec Ideal S2048x128 .bf16) (y : Vec Ideal S2048x1024 .bf16) : out0_2 x y = k0_pay1 x y := by
  unfold out0_2
  rw [View.canon_unit_zero Dots.hz, View.ld_unit_zero (S := S2048x128) Dots.hz, View.ld_unit_zero (S := S2048x1024) Dots.hz]

theorem idx_facts : ∀ t : Fin cfg0.N, win0_0.index t 0 = 0 ∧ win0_0.index t 1 = win0_2.index t 0 ∧ win0_1.index t 0 = 0
    ∧ win0_1.index t 1 = win0_2.index t 1 :=
  (by decide +kernel : ∀ t : Fin grid0.N, win0_0.index t 0 = 0 ∧ win0_0.index t 1 = win0_2.index t 0 ∧ win0_1.index t 0 = 0
    ∧ win0_1.index t 1 = win0_2.index t 1)

theorem covers : ∀ p : Fin 1, ∀ q : Fin 2, ∃ t : Fin cfg0.N, win0_2.index t 0 = p.val ∧ win0_2.index t 1 = q.val :=
  (by decide +kernel : ∀ p : Fin 1, ∀ q : Fin 2, ∃ t : Fin grid0.N, win0_2.index t 0 = p.val ∧ win0_2.index t 1 = q.val)

theorem blk0 (c : Dev nD) (t : Fin cfg0.N) (k : Fin 2048) (r : Fin 128) (h : win0_2.index t 0 * 128 + 1 * r.val < 128) :
    iblk m c 0 t (ix2 k r) = (m ((c : Thread nD τ).loc main_arg0) : Vec Ideal S2048x128 .bf16) (ix2 k ⟨win0_2.index t 0 * 128 + 1 * r.val, h⟩) := by
  obtain ⟨h0, h1, -, -⟩ := idx_facts t
  unfold iblk
  rw [View.read_apply]
  show m ((c : Thread nD τ).loc main_arg0) _ = _
  congr 1
  funext a
  apply Fin.ext
  match a with
  | ⟨0, _⟩ => show win0_0.index t 0 * 2048 + 1 * k.val = k.val; rw [h0]; omega
  | ⟨1, _⟩ => show win0_0.index t 1 * 128 + 1 * r.val = win0_2.index t 0 * 128 + 1 * r.val; rw [h1]

theorem blk1 (c : Dev nD) (t : Fin cfg0.N) (k : Fin 2048) (r : Fin 1024) (h : win0_2.index t 1 * 1024 + 1 * r.val < 2048) :
    iblk m c 1 t (ix2 k r) = (m ((c : Thread nD τ).loc main_arg1) : Vec Ideal S2048x2048 .bf16) (ix2 k ⟨win0_2.index t 1 * 1024 + 1 * r.val, h⟩) := by
  obtain ⟨-, -, h0, h1⟩ := idx_facts t
  unfold iblk
  rw [View.read_apply]
  show m ((c : Thread nD τ).loc main_arg1) _ = _
  congr 1
  funext a
  apply Fin.ext
  match a with
  | ⟨0, _⟩ => show win0_1.index t 0 * 2048 + 1 * k.val = k.val; rw [h0]; omega
  | ⟨1, _⟩ => show win0_1.index t 1 * 1024 + 1 * r.val = win0_2.index t 1 * 1024 + 1 * r.val; rw [h1]

/-- The result array of the call as one function of its two arguments. -/
def G (c : Dev nD) : Buf (Elt Ideal) ((c : Thread nD τ).loc main_v0) :=
  gradW (m ((c : Thread nD τ).loc main_arg0)) (m ((c : Thread nD τ).loc main_arg1))

/-- What a grid point writes back is its block of the product. -/
theorem flushed_eq (c : Dev nD) (t : Fin cfg0.N) :
    (dats m 0 c).flushed 2 t = ((cfg0.win 2).blk t).view.read (Elt Ideal) (G m c) := by
  rw [Value.flushed2, out_eq]
  funext y
  rw [View.read_apply]
  refine (pay_apply (iblk m c 0 t) (iblk m c 1 t) y).trans ?_
  unfold G gradW
  refine Finset.sum_congr rfl fun k _ => ?_
  rw [blk0 m c t k ⟨(y 0).val, (y 0).isLt⟩ ((((cfg0.win 2).blk t).view.emb y) 0).isLt, blk1 m c t k ⟨(y 1).val, (y 1).isLt⟩ ((((cfg0.win 2).blk t).view.emb y) 1).isLt]
  rfl

/-- After the run the result array is the product. -/
theorem final (c : Dev nD) : (dats m 0 c).arrAt 2 cfg0.N = G m c :=
  (dats m 0 c).arrAt_eq_of_cover 2 (G m c) (fun t _ => flushed_eq m c t) fun i => by
    have h0 : (i 0 : Nat) < 128 := (i 0).isLt
    have h1 : (i 1 : Nat) < 2048 := (i 1).isLt
    obtain ⟨t, e0, e1⟩ := covers ⟨(i 0 : Nat) / 128, by omega⟩ ⟨(i 1 : Nat) / 1024, by omega⟩
    refine ⟨t, flush0_2 t, ?_⟩
    show i ∈ ((View.whole main_v0).slice (win0_2.rect t)).set
    rw [View.set_slice_whole, Rect.mem_set_unit]
    intro a
    match a with
    | ⟨0, _⟩ => show win0_2.index t 0 * 128 ≤ (i 0 : Nat) ∧ (i 0 : Nat) < win0_2.index t 0 * 128 + 128
                rw [e0]; dsimp only; omega
    | ⟨1, _⟩ => show win0_2.index t 1 * 1024 ≤ (i 1 : Nat) ∧ (i 1 : Nat) < win0_2.index t 1 * 1024 + 1024
                rw [e1]; dsimp only; omega

end Cert.DwinGateIdeal.Hand

namespace Cert.DwinGateReferenceIdeal.Hand

open Cert.DwinGateReferenceIdeal Cert.DwinGateReferenceIdeal.Gen Cert.DwinGateReferenceIdeal.Read

/-- The reference's gradient is the same product, entry by entry. -/
theorem ref_apply (a : Vec Ideal S2048x128 .bf16) (b : Vec Ideal S2048x2048 .bf16) :
    val_main_v7 (F := Ideal) a b = Cert.DwinGateIdeal.Hand.gradW a b := by
  funext i
  rw [val_main_v7_apply, val_main_v6_apply, val_main_v5_apply, val_main_v4_apply]
  show (∑ k : Fin 2048, _) = _
  unfold Cert.DwinGateIdeal.Hand.gradW
  refine Finset.sum_congr rfl fun k _ => ?_
  rw [val_main_v3_apply, val_main_v1_apply]
  show a _ * b _ = a _ * b _

  congr 2 <;> (funext d; match d with
    | ⟨0, _⟩ => rfl
    | ⟨1, _⟩ => rfl)

/-- The reference keeps its arguments and leaves every semaphore at zero. -/
theorem frame_reference : Cert.quiescent_DwinGateReferenceIdeal := by
  intro m ρ _
  refine (θ_run _ _ _).mono (fun r h => ⟨fun c => (h c).2, sem_eq_zero_of_no_sems (by decide) _⟩) (Cert.DwinGateReferenceIdeal.Value.run m ρ)

end Cert.DwinGateReferenceIdeal.Hand

namespace Cert.DwinGateIdeal.Hand

/-- The kernel's idealization and the reference leave the same gradient. -/
theorem algebraic : Cert.algebraic_DwinGateIdeal_DwinGateReferenceIdeal := by
  intro m g m' g' _ hagree
  refine ⟨fun c => G m c, (θ_run _ _ _).mono (fun r h c => ⟨((h c).1).trans (final m c), (h c).2⟩) (Value.run_blocks m g),
    (θ_run _ _ _).mono (fun r h c => ⟨(h c).1.trans ?_, (h c).2⟩) (Cert.DwinGateReferenceIdeal.Value.run m' g')⟩
  refine (Cert.DwinGateReferenceIdeal.Read.val_main_v7_eq _ _).trans ((Cert.DwinGateReferenceIdeal.Hand.ref_apply _ _).trans ?_)
  rw [(hagree c).1, (hagree c).2]
  rfl

end Cert.DwinGateIdeal.Hand

end
-- ==== Proof.DwinGla.lean ====
module

public import proofs.«01_k».proof.Defs
public import proofs.«01_k».proof.Proof.Dots
public import proofs.«01_k».proof.Proof.Gen.DwinGla
public import proofs.«01_k».proof.Proof.Gen.DwinGla.Frame
public import proofs.«01_k».proof.Proof.Gen.DwinGlaIdeal.Frame
public import proofs.«01_k».proof.Proof.Gen.DwinGlaIdeal.Value
public import proofs.«01_k».proof.Proof.Gen.DwinGlaReferenceIdeal.Run
public import proofs.«01_k».proof.Proof.Gen.DwinGlaReferenceIdeal.Read
public import Idealize.ShloMosaic.Lib.Pipeline.Value
public import Idealize.ShloMosaic.Lib.Quiescent

@[expose] public section

set_option maxRecDepth 16384

noncomputable section

open Idealize.ShloMosaic Idealize.ShloMosaic.TcCoe Idealize.SL.Sem Idealize.ShloMosaic.ValueIdx
open Idealize.ShloMosaic.Pipeline (Dat)

namespace Cert.DwinGlaIdeal.Hand

open Cert.DwinGlaIdeal Cert.DwinGlaIdeal.Gen

variable (m : (ℓ : Loc nD τ sig) → Buf (Elt Ideal) ℓ) (ρ : Dev nD → PrngReg)

/-- The product of the transposed first operand with the second, entry by entry. -/
def gradW (a : Vec Ideal S2048x3072 .bf16) (b : Vec Ideal S2048x2048 .bf16) : Vec Ideal S3072x2048 .bf16 :=
  fun i => ∑ k : Fin 2048, a (ix2 k ⟨(i 0).val, (i 0).isLt⟩) * b (ix2 k ⟨(i 1).val, (i 1).isLt⟩)

/-- What one grid point stores: the product of its two blocks. -/
theorem pay_apply (x : Vec Ideal S2048x512 .bf16) (y : Vec Ideal S2048x1024 .bf16) (j : S512x1024.Idx) :
    k0_pay1 x y j = ∑ k : Fin 2048, x (ix2 k ⟨(j 0).val, (j 0).isLt⟩) * y (ix2 k ⟨(j 1).val, (j 1).isLt⟩) := by
  unfold k0_pay1
  have hj : j = ix2 ⟨(j 0).val, (j 0).isLt⟩ ⟨(j 1).val, (j 1).isLt⟩ := by
    funext a; match a with
    | ⟨0, _⟩ => rfl
    | ⟨1, _⟩ => rfl
  refine (congrArg _ hj).trans ?_
  refine (Dots.matmul_tn (φ₁ := .bf16) (φ₂ := .bf16) dot_S2048x512_S2048x1024_S512x1024_0_0_1_1_n_n rfl rfl rfl rfl rfl rfl rfl none x y (constant S512x1024 .f32 0x00000000#32) _ _).trans ?_
  show Ideal.ofBits .f32 0x00000000#32 + _ = _
  rw [Ideal.ofBits_zero_f32, zero_add]
  rfl

theorem out_eq (x : Vec Ideal S2048x512 .bf16) (y : Vec Ideal S2048x1024 .bf16) : out0_2 x y = k0_pay1 x y := by
  unfold out0_2
  rw [View.canon_unit_zero Dots.hz, View.ld_unit_zero (S := S2048x512) Dots.hz, View.ld_unit_zero (S := S2048x1024) Dots.hz]

theorem idx_facts : ∀ t : Fin cfg0.N, win0_0.index t 0 = 0 ∧ win0_0.index t 1 = win0_2.index t 0 ∧ win0_1.index t 0 = 0
    ∧ win0_1.index t 1 = win0_2.index t 1 :=
  (by decide +kernel : ∀ t : Fin grid0.N, win0_0.index t 0 = 0 ∧ win0_0.index t 1 = win0_2.index t 0 ∧ win0_1.index t 0 = 0
    ∧ win0_1.index t 1 = win0_2.index t 1)

theorem covers : ∀ p : Fin 6, ∀ q : Fin 2, ∃ t : Fin cfg0.N, win0_2.index t 0 = p.val ∧ win0_2.index t 1 = q.val :=
  (by decide +kernel : ∀ p : Fin 6, ∀ q : Fin 2, ∃ t : Fin grid0.N, win0_2.index t 0 = p.val ∧ win0_2.index t 1 = q.val)

theorem blk0 (c : Dev nD) (t : Fin cfg0.N) (k : Fin 2048) (r : Fin 512) (h : win0_2.index t 0 * 512 + 1 * r.val < 3072) :
    iblk m c 0 t (ix2 k r) = (m ((c : Thread nD τ).loc main_arg0) : Vec Ideal S2048x3072 .bf16) (ix2 k ⟨win0_2.index t 0 * 512 + 1 * r.val, h⟩) := by
  obtain ⟨h0, h1, -, -⟩ := idx_facts t
  unfold iblk
  rw [View.read_apply]
  show m ((c : Thread nD τ).loc main_arg0) _ = _
  congr 1
  funext a
  apply Fin.ext
  match a with
  | ⟨0, _⟩ => show win0_0.index t 0 * 2048 + 1 * k.val = k.val; rw [h0]; omega
  | ⟨1, _⟩ => show win0_0.index t 1 * 512 + 1 * r.val = win0_2.index t 0 * 512 + 1 * r.val; rw [h1]

theorem blk1 (c : Dev nD) (t : Fin cfg0.N) (k : Fin 2048) (r : Fin 1024) (h : win0_2.index t 1 * 1024 + 1 * r.val < 2048) :
    iblk m c 1 t (ix2 k r) = (m ((c : Thread nD τ).loc main_arg1) : Vec Ideal S2048x2048 .bf16) (ix2 k ⟨win0_2.index t 1 * 1024 + 1 * r.val, h⟩) := by
  obtain ⟨-, -, h0, h1⟩ := idx_facts t
  unfold iblk
  rw [View.read_apply]
  show m ((c : Thread nD τ).loc main_arg1) _ = _
  congr 1
  funext a
  apply Fin.ext
  match a with
  | ⟨0, _⟩ => show win0_1.index t 0 * 2048 + 1 * k.val = k.val; rw [h0]; omega
  | ⟨1, _⟩ => show win0_1.index t 1 * 1024 + 1 * r.val = win0_2.index t 1 * 1024 + 1 * r.val; rw [h1]

/-- The result array of the call as one function of its two arguments. -/
def G (c : Dev nD) : Buf (Elt Ideal) ((c : Thread nD τ).loc main_v0) :=
  gradW (m ((c : Thread nD τ).loc main_arg0)) (m ((c : Thread nD τ).loc main_arg1))

/-- What a grid point writes back is its block of the product. -/
theorem flushed_eq (c : Dev nD) (t : Fin cfg0.N) :
    (dats m 0 c).flushed 2 t = ((cfg0.win 2).blk t).view.read (Elt Ideal) (G m c) := by
  rw [Value.flushed2, out_eq]
  funext y
  rw [View.read_apply]
  refine (pay_apply (iblk m c 0 t) (iblk m c 1 t) y).trans ?_
  unfold G gradW
  refine Finset.sum_congr rfl fun k _ => ?_
  rw [blk0 m c t k ⟨(y 0).val, (y 0).isLt⟩ ((((cfg0.win 2).blk t).view.emb y) 0).isLt, blk1 m c t k ⟨(y 1).val, (y 1).isLt⟩ ((((cfg0.win 2).blk t).view.emb y) 1).isLt]
  rfl

/-- After the run the result array is the product. -/
theorem final (c : Dev nD) : (dats m 0 c).arrAt 2 cfg0.N = G m c :=
  (dats m 0 c).arrAt_eq_of_cover 2 (G m c) (fun t _ => flushed_eq m c t) fun i => by
    have h0 : (i 0 : Nat) < 3072 := (i 0).isLt
    have h1 : (i 1 : Nat) < 2048 := (i 1).isLt
    obtain ⟨t, e0, e1⟩ := covers ⟨(i 0 : Nat) / 512, by omega⟩ ⟨(i 1 : Nat) / 1024, by omega⟩
    refine ⟨t, flush0_2 t, ?_⟩
    show i ∈ ((View.whole main_v0).slice (win0_2.rect t)).set
    rw [View.set_slice_whole, Rect.mem_set_unit]
    intro a
    match a with
    | ⟨0, _⟩ => show win0_2.index t 0 * 512 ≤ (i 0 : Nat) ∧ (i 0 : Nat) < win0_2.index t 0 * 512 + 512
                rw [e0]; dsimp only; omega
    | ⟨1, _⟩ => show win0_2.index t 1 * 1024 ≤ (i 1 : Nat) ∧ (i 1 : Nat) < win0_2.index t 1 * 1024 + 1024
                rw [e1]; dsimp only; omega

end Cert.DwinGlaIdeal.Hand

namespace Cert.DwinGlaReferenceIdeal.Hand

open Cert.DwinGlaReferenceIdeal Cert.DwinGlaReferenceIdeal.Gen Cert.DwinGlaReferenceIdeal.Read

/-- The reference's gradient is the same product, entry by entry. -/
theorem ref_apply (a : Vec Ideal S2048x3072 .bf16) (b : Vec Ideal S2048x2048 .bf16) :
    val_main_v7 (F := Ideal) a b = Cert.DwinGlaIdeal.Hand.gradW a b := by
  funext i
  rw [val_main_v7_apply, val_main_v6_apply, val_main_v5_apply, val_main_v4_apply]
  show (∑ k : Fin 2048, _) = _
  unfold Cert.DwinGlaIdeal.Hand.gradW
  refine Finset.sum_congr rfl fun k _ => ?_
  rw [val_main_v3_apply, val_main_v1_apply]
  show a _ * b _ = a _ * b _

  congr 2 <;> (funext d; match d with
    | ⟨0, _⟩ => rfl
    | ⟨1, _⟩ => rfl)

/-- The reference keeps its arguments and leaves every semaphore at zero. -/
theorem frame_reference : Cert.quiescent_DwinGlaReferenceIdeal := by
  intro m ρ _
  refine (θ_run _ _ _).mono (fun r h => ⟨fun c => (h c).2, sem_eq_zero_of_no_sems (by decide) _⟩) (Cert.DwinGlaReferenceIdeal.Value.run m ρ)

end Cert.DwinGlaReferenceIdeal.Hand

namespace Cert.DwinGlaIdeal.Hand

/-- The kernel's idealization and the reference leave the same gradient. -/
theorem algebraic : Cert.algebraic_DwinGlaIdeal_DwinGlaReferenceIdeal := by
  intro m g m' g' _ hagree
  refine ⟨fun c => G m c, (θ_run _ _ _).mono (fun r h c => ⟨((h c).1).trans (final m c), (h c).2⟩) (Value.run_blocks m g),
    (θ_run _ _ _).mono (fun r h c => ⟨(h c).1.trans ?_, (h c).2⟩) (Cert.DwinGlaReferenceIdeal.Value.run m' g')⟩
  refine (Cert.DwinGlaReferenceIdeal.Read.val_main_v7_eq _ _).trans ((Cert.DwinGlaReferenceIdeal.Hand.ref_apply _ _).trans ?_)
  rw [(hagree c).1, (hagree c).2]
  rfl

end Cert.DwinGlaIdeal.Hand

end
-- ==== Proof.DwoutAtt.lean ====
module

public import proofs.«01_k».proof.Defs
public import proofs.«01_k».proof.Proof.Dots
public import proofs.«01_k».proof.Proof.Gen.DwoutAtt
public import proofs.«01_k».proof.Proof.Gen.DwoutAtt.Frame
public import proofs.«01_k».proof.Proof.Gen.DwoutAttIdeal.Frame
public import proofs.«01_k».proof.Proof.Gen.DwoutAttIdeal.Value
public import proofs.«01_k».proof.Proof.Gen.DwoutAttReferenceIdeal.Run
public import proofs.«01_k».proof.Proof.Gen.DwoutAttReferenceIdeal.Read
public import Idealize.ShloMosaic.Lib.Pipeline.Value
public import Idealize.ShloMosaic.Lib.Quiescent

@[expose] public section

set_option maxRecDepth 16384

noncomputable section

open Idealize.ShloMosaic Idealize.ShloMosaic.TcCoe Idealize.SL.Sem Idealize.ShloMosaic.ValueIdx
open Idealize.ShloMosaic.Pipeline (Dat)

namespace Cert.DwoutAttIdeal.Hand

open Cert.DwoutAttIdeal Cert.DwoutAttIdeal.Gen

variable (m : (ℓ : Loc nD τ sig) → Buf (Elt Ideal) ℓ) (ρ : Dev nD → PrngReg)

/-- The product of the transposed first operand with the second, entry by entry. -/
def gradW (a : Vec Ideal S2048x1024 .bf16) (b : Vec Ideal S2048x2048 .bf16) : Vec Ideal S1024x2048 .bf16 :=
  fun i => ∑ k : Fin 2048, a (ix2 k ⟨(i 0).val, (i 0).isLt⟩) * b (ix2 k ⟨(i 1).val, (i 1).isLt⟩)

/-- What one grid point stores: the product of its two blocks. -/
theorem pay_apply (x : Vec Ideal S2048x512 .bf16) (y : Vec Ideal S2048x1024 .bf16) (j : S512x1024.Idx) :
    k0_pay1 x y j = ∑ k : Fin 2048, x (ix2 k ⟨(j 0).val, (j 0).isLt⟩) * y (ix2 k ⟨(j 1).val, (j 1).isLt⟩) := by
  unfold k0_pay1
  have hj : j = ix2 ⟨(j 0).val, (j 0).isLt⟩ ⟨(j 1).val, (j 1).isLt⟩ := by
    funext a; match a with
    | ⟨0, _⟩ => rfl
    | ⟨1, _⟩ => rfl
  refine (congrArg _ hj).trans ?_
  refine (Dots.matmul_tn (φ₁ := .bf16) (φ₂ := .bf16) dot_S2048x512_S2048x1024_S512x1024_0_0_1_1_n_n rfl rfl rfl rfl rfl rfl rfl none x y (constant S512x1024 .f32 0x00000000#32) _ _).trans ?_
  show Ideal.ofBits .f32 0x00000000#32 + _ = _
  rw [Ideal.ofBits_zero_f32, zero_add]
  rfl

theorem out_eq (x : Vec Ideal S2048x512 .bf16) (y : Vec Ideal S2048x1024 .bf16) : out0_2 x y = k0_pay1 x y := by
  unfold out0_2
  rw [View.canon_unit_zero Dots.hz, View.ld_unit_zero (S := S2048x512) Dots.hz, View.ld_unit_zero (S := S2048x1024) Dots.hz]

theorem idx_facts : ∀ t : Fin cfg0.N, win0_0.index t 0 = 0 ∧ win0_0.index t 1 = win0_2.index t 0 ∧ win0_1.index t 0 = 0
    ∧ win0_1.index t 1 = win0_2.index t 1 :=
  (by decide +kernel : ∀ t : Fin grid0.N, win0_0.index t 0 = 0 ∧ win0_0.index t 1 = win0_2.index t 0 ∧ win0_1.index t 0 = 0
    ∧ win0_1.index t 1 = win0_2.index t 1)

theorem covers : ∀ p : Fin 2, ∀ q : Fin 2, ∃ t : Fin cfg0.N, win0_2.index t 0 = p.val ∧ win0_2.index t 1 = q.val :=
  (by decide +kernel : ∀ p : Fin 2, ∀ q : Fin 2, ∃ t : Fin grid0.N, win0_2.index t 0 = p.val ∧ win0_2.index t 1 = q.val)

theorem blk0 (c : Dev nD) (t : Fin cfg0.N) (k : Fin 2048) (r : Fin 512) (h : win0_2.index t 0 * 512 + 1 * r.val < 1024) :
    iblk m c 0 t (ix2 k r) = (m ((c : Thread nD τ).loc main_arg0) : Vec Ideal S2048x1024 .bf16) (ix2 k ⟨win0_2.index t 0 * 512 + 1 * r.val, h⟩) := by
  obtain ⟨h0, h1, -, -⟩ := idx_facts t
  unfold iblk
  rw [View.read_apply]
  show m ((c : Thread nD τ).loc main_arg0) _ = _
  congr 1
  funext a
  apply Fin.ext
  match a with
  | ⟨0, _⟩ => show win0_0.index t 0 * 2048 + 1 * k.val = k.val; rw [h0]; omega
  | ⟨1, _⟩ => show win0_0.index t 1 * 512 + 1 * r.val = win0_2.index t 0 * 512 + 1 * r.val; rw [h1]

theorem blk1 (c : Dev nD) (t : Fin cfg0.N) (k : Fin 2048) (r : Fin 1024) (h : win0_2.index t 1 * 1024 + 1 * r.val < 2048) :
    iblk m c 1 t (ix2 k r) = (m ((c : Thread nD τ).loc main_arg1) : Vec Ideal S2048x2048 .bf16) (ix2 k ⟨win0_2.index t 1 * 1024 + 1 * r.val, h⟩) := by
  obtain ⟨-, -, h0, h1⟩ := idx_facts t
  unfold iblk
  rw [View.read_apply]
  show m ((c : Thread nD τ).loc main_arg1) _ = _
  congr 1
  funext a
  apply Fin.ext
  match a with
  | ⟨0, _⟩ => show win0_1.index t 0 * 2048 + 1 * k.val = k.val; rw [h0]; omega
  | ⟨1, _⟩ => show win0_1.index t 1 * 1024 + 1 * r.val = win0_2.index t 1 * 1024 + 1 * r.val; rw [h1]

/-- The result array of the call as one function of its two arguments. -/
def G (c : Dev nD) : Buf (Elt Ideal) ((c : Thread nD τ).loc main_v0) :=
  gradW (m ((c : Thread nD τ).loc main_arg0)) (m ((c : Thread nD τ).loc main_arg1))

/-- What a grid point writes back is its block of the product. -/
theorem flushed_eq (c : Dev nD) (t : Fin cfg0.N) :
    (dats m 0 c).flushed 2 t = ((cfg0.win 2).blk t).view.read (Elt Ideal) (G m c) := by
  rw [Value.flushed2, out_eq]
  funext y
  rw [View.read_apply]
  refine (pay_apply (iblk m c 0 t) (iblk m c 1 t) y).trans ?_
  unfold G gradW
  refine Finset.sum_congr rfl fun k _ => ?_
  rw [blk0 m c t k ⟨(y 0).val, (y 0).isLt⟩ ((((cfg0.win 2).blk t).view.emb y) 0).isLt, blk1 m c t k ⟨(y 1).val, (y 1).isLt⟩ ((((cfg0.win 2).blk t).view.emb y) 1).isLt]
  rfl

/-- After the run the result array is the product. -/
theorem final (c : Dev nD) : (dats m 0 c).arrAt 2 cfg0.N = G m c :=
  (dats m 0 c).arrAt_eq_of_cover 2 (G m c) (fun t _ => flushed_eq m c t) fun i => by
    have h0 : (i 0 : Nat) < 1024 := (i 0).isLt
    have h1 : (i 1 : Nat) < 2048 := (i 1).isLt
    obtain ⟨t, e0, e1⟩ := covers ⟨(i 0 : Nat) / 512, by omega⟩ ⟨(i 1 : Nat) / 1024, by omega⟩
    refine ⟨t, flush0_2 t, ?_⟩
    show i ∈ ((View.whole main_v0).slice (win0_2.rect t)).set
    rw [View.set_slice_whole, Rect.mem_set_unit]
    intro a
    match a with
    | ⟨0, _⟩ => show win0_2.index t 0 * 512 ≤ (i 0 : Nat) ∧ (i 0 : Nat) < win0_2.index t 0 * 512 + 512
                rw [e0]; dsimp only; omega
    | ⟨1, _⟩ => show win0_2.index t 1 * 1024 ≤ (i 1 : Nat) ∧ (i 1 : Nat) < win0_2.index t 1 * 1024 + 1024
                rw [e1]; dsimp only; omega

end Cert.DwoutAttIdeal.Hand

namespace Cert.DwoutAttReferenceIdeal.Hand

open Cert.DwoutAttReferenceIdeal Cert.DwoutAttReferenceIdeal.Gen Cert.DwoutAttReferenceIdeal.Read

/-- The reference's gradient is the same product, entry by entry. -/
theorem ref_apply (a : Vec Ideal S2048x1024 .bf16) (b : Vec Ideal S2048x2048 .bf16) :
    val_main_v6 (F := Ideal) a b = Cert.DwoutAttIdeal.Hand.gradW a b := by
  funext i
  rw [val_main_v6_apply, val_main_v5_apply, val_main_v4_apply]
  show (∑ k : Fin 2048, _) = _
  unfold Cert.DwoutAttIdeal.Hand.gradW
  refine Finset.sum_congr rfl fun k _ => ?_
  rw [val_main_v3_apply, val_main_v1_apply]
  show b _ * a _ = a _ * b _
  rw [mul_comm]
  congr 2 <;> (funext d; match d with
    | ⟨0, _⟩ => rfl
    | ⟨1, _⟩ => rfl)

/-- The reference keeps its arguments and leaves every semaphore at zero. -/
theorem frame_reference : Cert.quiescent_DwoutAttReferenceIdeal := by
  intro m ρ _
  refine (θ_run _ _ _).mono (fun r h => ⟨fun c => (h c).2, sem_eq_zero_of_no_sems (by decide) _⟩) (Cert.DwoutAttReferenceIdeal.Value.run m ρ)

end Cert.DwoutAttReferenceIdeal.Hand

namespace Cert.DwoutAttIdeal.Hand

/-- The kernel's idealization and the reference leave the same gradient. -/
theorem algebraic : Cert.algebraic_DwoutAttIdeal_DwoutAttReferenceIdeal := by
  intro m g m' g' _ hagree
  refine ⟨fun c => G m c, (θ_run _ _ _).mono (fun r h c => ⟨((h c).1).trans (final m c), (h c).2⟩) (Value.run_blocks m g),
    (θ_run _ _ _).mono (fun r h c => ⟨(h c).1.trans ?_, (h c).2⟩) (Cert.DwoutAttReferenceIdeal.Value.run m' g')⟩
  refine (Cert.DwoutAttReferenceIdeal.Read.val_main_v6_eq _ _).trans ((Cert.DwoutAttReferenceIdeal.Hand.ref_apply _ _).trans ?_)
  rw [(hagree c).1, (hagree c).2]
  rfl

end Cert.DwoutAttIdeal.Hand

end
-- ==== Proof.DwoutGla.lean ====
module

public import proofs.«01_k».proof.Defs
public import proofs.«01_k».proof.Proof.Dots
public import proofs.«01_k».proof.Proof.Gen.DwoutGla
public import proofs.«01_k».proof.Proof.Gen.DwoutGla.Frame
public import proofs.«01_k».proof.Proof.Gen.DwoutGlaIdeal.Frame
public import proofs.«01_k».proof.Proof.Gen.DwoutGlaIdeal.Value
public import proofs.«01_k».proof.Proof.Gen.DwoutGlaReferenceIdeal.Run
public import proofs.«01_k».proof.Proof.Gen.DwoutGlaReferenceIdeal.Read
public import Idealize.ShloMosaic.Lib.Pipeline.Value
public import Idealize.ShloMosaic.Lib.Quiescent

@[expose] public section

set_option maxRecDepth 16384

noncomputable section

open Idealize.ShloMosaic Idealize.ShloMosaic.TcCoe Idealize.SL.Sem Idealize.ShloMosaic.ValueIdx
open Idealize.ShloMosaic.Pipeline (Dat)

namespace Cert.DwoutGlaIdeal.Hand

open Cert.DwoutGlaIdeal Cert.DwoutGlaIdeal.Gen

variable (m : (ℓ : Loc nD τ sig) → Buf (Elt Ideal) ℓ) (ρ : Dev nD → PrngReg)

/-- The product of the transposed first operand with the second, entry by entry. -/
def gradW (a : Vec Ideal S2048x1024 .bf16) (b : Vec Ideal S2048x2048 .bf16) : Vec Ideal S1024x2048 .bf16 :=
  fun i => ∑ k : Fin 2048, a (ix2 k ⟨(i 0).val, (i 0).isLt⟩) * b (ix2 k ⟨(i 1).val, (i 1).isLt⟩)

/-- What one grid point stores: the product of its two blocks. -/
theorem pay_apply (x : Vec Ideal S2048x512 .bf16) (y : Vec Ideal S2048x1024 .bf16) (j : S512x1024.Idx) :
    k0_pay1 x y j = ∑ k : Fin 2048, x (ix2 k ⟨(j 0).val, (j 0).isLt⟩) * y (ix2 k ⟨(j 1).val, (j 1).isLt⟩) := by
  unfold k0_pay1
  have hj : j = ix2 ⟨(j 0).val, (j 0).isLt⟩ ⟨(j 1).val, (j 1).isLt⟩ := by
    funext a; match a with
    | ⟨0, _⟩ => rfl
    | ⟨1, _⟩ => rfl
  refine (congrArg _ hj).trans ?_
  refine (Dots.matmul_tn (φ₁ := .bf16) (φ₂ := .bf16) dot_S2048x512_S2048x1024_S512x1024_0_0_1_1_n_n rfl rfl rfl rfl rfl rfl rfl none x y (constant S512x1024 .f32 0x00000000#32) _ _).trans ?_
  show Ideal.ofBits .f32 0x00000000#32 + _ = _
  rw [Ideal.ofBits_zero_f32, zero_add]
  rfl

theorem out_eq (x : Vec Ideal S2048x512 .bf16) (y : Vec Ideal S2048x1024 .bf16) : out0_2 x y = k0_pay1 x y := by
  unfold out0_2
  rw [View.canon_unit_zero Dots.hz, View.ld_unit_zero (S := S2048x512) Dots.hz, View.ld_unit_zero (S := S2048x1024) Dots.hz]

theorem idx_facts : ∀ t : Fin cfg0.N, win0_0.index t 0 = 0 ∧ win0_0.index t 1 = win0_2.index t 0 ∧ win0_1.index t 0 = 0
    ∧ win0_1.index t 1 = win0_2.index t 1 :=
  (by decide +kernel : ∀ t : Fin grid0.N, win0_0.index t 0 = 0 ∧ win0_0.index t 1 = win0_2.index t 0 ∧ win0_1.index t 0 = 0
    ∧ win0_1.index t 1 = win0_2.index t 1)

theorem covers : ∀ p : Fin 2, ∀ q : Fin 2, ∃ t : Fin cfg0.N, win0_2.index t 0 = p.val ∧ win0_2.index t 1 = q.val :=
  (by decide +kernel : ∀ p : Fin 2, ∀ q : Fin 2, ∃ t : Fin grid0.N, win0_2.index t 0 = p.val ∧ win0_2.index t 1 = q.val)

theorem blk0 (c : Dev nD) (t : Fin cfg0.N) (k : Fin 2048) (r : Fin 512) (h : win0_2.index t 0 * 512 + 1 * r.val < 1024) :
    iblk m c 0 t (ix2 k r) = (m ((c : Thread nD τ).loc main_arg0) : Vec Ideal S2048x1024 .bf16) (ix2 k ⟨win0_2.index t 0 * 512 + 1 * r.val, h⟩) := by
  obtain ⟨h0, h1, -, -⟩ := idx_facts t
  unfold iblk
  rw [View.read_apply]
  show m ((c : Thread nD τ).loc main_arg0) _ = _
  congr 1
  funext a
  apply Fin.ext
  match a with
  | ⟨0, _⟩ => show win0_0.index t 0 * 2048 + 1 * k.val = k.val; rw [h0]; omega
  | ⟨1, _⟩ => show win0_0.index t 1 * 512 + 1 * r.val = win0_2.index t 0 * 512 + 1 * r.val; rw [h1]

theorem blk1 (c : Dev nD) (t : Fin cfg0.N) (k : Fin 2048) (r : Fin 1024) (h : win0_2.index t 1 * 1024 + 1 * r.val < 2048) :
    iblk m c 1 t (ix2 k r) = (m ((c : Thread nD τ).loc main_arg1) : Vec Ideal S2048x2048 .bf16) (ix2 k ⟨win0_2.index t 1 * 1024 + 1 * r.val, h⟩) := by
  obtain ⟨-, -, h0, h1⟩ := idx_facts t
  unfold iblk
  rw [View.read_apply]
  show m ((c : Thread nD τ).loc main_arg1) _ = _
  congr 1
  funext a
  apply Fin.ext
  match a with
  | ⟨0, _⟩ => show win0_1.index t 0 * 2048 + 1 * k.val = k.val; rw [h0]; omega
  | ⟨1, _⟩ => show win0_1.index t 1 * 1024 + 1 * r.val = win0_2.index t 1 * 1024 + 1 * r.val; rw [h1]

/-- The result array of the call as one function of its two arguments. -/
def G (c : Dev nD) : Buf (Elt Ideal) ((c : Thread nD τ).loc main_v0) :=
  gradW (m ((c : Thread nD τ).loc main_arg0)) (m ((c : Thread nD τ).loc main_arg1))

/-- What a grid point writes back is its block of the product. -/
theorem flushed_eq (c : Dev nD) (t : Fin cfg0.N) :
    (dats m 0 c).flushed 2 t = ((cfg0.win 2).blk t).view.read (Elt Ideal) (G m c) := by
  rw [Value.flushed2, out_eq]
  funext y
  rw [View.read_apply]
  refine (pay_apply (iblk m c 0 t) (iblk m c 1 t) y).trans ?_
  unfold G gradW
  refine Finset.sum_congr rfl fun k _ => ?_
  rw [blk0 m c t k ⟨(y 0).val, (y 0).isLt⟩ ((((cfg0.win 2).blk t).view.emb y) 0).isLt, blk1 m c t k ⟨(y 1).val, (y 1).isLt⟩ ((((cfg0.win 2).blk t).view.emb y) 1).isLt]
  rfl

/-- After the run the result array is the product. -/
theorem final (c : Dev nD) : (dats m 0 c).arrAt 2 cfg0.N = G m c :=
  (dats m 0 c).arrAt_eq_of_cover 2 (G m c) (fun t _ => flushed_eq m c t) fun i => by
    have h0 : (i 0 : Nat) < 1024 := (i 0).isLt
    have h1 : (i 1 : Nat) < 2048 := (i 1).isLt
    obtain ⟨t, e0, e1⟩ := covers ⟨(i 0 : Nat) / 512, by omega⟩ ⟨(i 1 : Nat) / 1024, by omega⟩
    refine ⟨t, flush0_2 t, ?_⟩
    show i ∈ ((View.whole main_v0).slice (win0_2.rect t)).set
    rw [View.set_slice_whole, Rect.mem_set_unit]
    intro a
    match a with
    | ⟨0, _⟩ => show win0_2.index t 0 * 512 ≤ (i 0 : Nat) ∧ (i 0 : Nat) < win0_2.index t 0 * 512 + 512
                rw [e0]; dsimp only; omega
    | ⟨1, _⟩ => show win0_2.index t 1 * 1024 ≤ (i 1 : Nat) ∧ (i 1 : Nat) < win0_2.index t 1 * 1024 + 1024
                rw [e1]; dsimp only; omega

end Cert.DwoutGlaIdeal.Hand

namespace Cert.DwoutGlaReferenceIdeal.Hand

open Cert.DwoutGlaReferenceIdeal Cert.DwoutGlaReferenceIdeal.Gen Cert.DwoutGlaReferenceIdeal.Read

/-- The reference's gradient is the same product, entry by entry. -/
theorem ref_apply (a : Vec Ideal S2048x1024 .bf16) (b : Vec Ideal S2048x2048 .bf16) :
    val_main_v6 (F := Ideal) a b = Cert.DwoutGlaIdeal.Hand.gradW a b := by
  funext i
  rw [val_main_v6_apply, val_main_v5_apply, val_main_v4_apply]
  show (∑ k : Fin 2048, _) = _
  unfold Cert.DwoutGlaIdeal.Hand.gradW
  refine Finset.sum_congr rfl fun k _ => ?_
  rw [val_main_v3_apply, val_main_v1_apply]
  show b _ * a _ = a _ * b _
  rw [mul_comm]
  congr 2 <;> (funext d; match d with
    | ⟨0, _⟩ => rfl
    | ⟨1, _⟩ => rfl)

/-- The reference keeps its arguments and leaves every semaphore at zero. -/
theorem frame_reference : Cert.quiescent_DwoutGlaReferenceIdeal := by
  intro m ρ _
  refine (θ_run _ _ _).mono (fun r h => ⟨fun c => (h c).2, sem_eq_zero_of_no_sems (by decide) _⟩) (Cert.DwoutGlaReferenceIdeal.Value.run m ρ)

end Cert.DwoutGlaReferenceIdeal.Hand

namespace Cert.DwoutGlaIdeal.Hand

/-- The kernel's idealization and the reference leave the same gradient. -/
theorem algebraic : Cert.algebraic_DwoutGlaIdeal_DwoutGlaReferenceIdeal := by
  intro m g m' g' _ hagree
  refine ⟨fun c => G m c, (θ_run _ _ _).mono (fun r h c => ⟨((h c).1).trans (final m c), (h c).2⟩) (Value.run_blocks m g),
    (θ_run _ _ _).mono (fun r h c => ⟨(h c).1.trans ?_, (h c).2⟩) (Cert.DwoutGlaReferenceIdeal.Value.run m' g')⟩
  refine (Cert.DwoutGlaReferenceIdeal.Read.val_main_v6_eq _ _).trans ((Cert.DwoutGlaReferenceIdeal.Hand.ref_apply _ _).trans ?_)
  rw [(hagree c).1, (hagree c).2]
  rfl

end Cert.DwoutGlaIdeal.Hand

end
-- ==== Proof.RealSpec.lean ====
module

public import Idealize.ShloMosaic.PureOps
public import Idealize.ShloMosaic.PureOps.Ideal
public import Idealize.ShloMosaic.Lib.Pointwise
public import proofs.«01_k».proof.Proof.Norm

@[expose] public section

noncomputable section

namespace Cert.Gla

/-! # One head of the gated recurrence and its gradient, over the reals

32 chunks of 64 rows; keys of 128 columns, values of 256. A chunk's number is any natural number here. -/

/-- What one head reads: the logarithm of the decay and its derivative's factor, queries, keys, values, gate,
    the cotangent, the norm's weight, the queries' scale and the norm's epsilon. -/
structure Head where
  la : ℕ → Fin 64 → Fin 128 → ℝ
  om : ℕ → Fin 64 → Fin 128 → ℝ
  q : ℕ → Fin 64 → Fin 128 → ℝ
  k : ℕ → Fin 64 → Fin 128 → ℝ
  v : ℕ → Fin 64 → Fin 256 → ℝ
  gate : ℕ → Fin 64 → Fin 256 → ℝ
  dc : ℕ → Fin 64 → Fin 256 → ℝ
  g : Fin 256 → ℝ
  sc : ℝ
  eps : ℝ

/-! ## One row's norm and gate -/

section
variable (eps : ℝ) (g : Fin 256 → ℝ)

/-- The mean square of a row, moved off zero. -/
def var (o : Fin 256 → ℝ) : ℝ := (∑ b, o b * o b) * (1 / 256) + eps
theorem var_pos (he : 0 < eps) (o : Fin 256 → ℝ) : 0 < var eps o := by
  have : 0 ≤ ∑ k, o k * o k := Finset.sum_nonneg fun k _ => mul_self_nonneg _
  unfold var
  positivity
/-- The normalised row. -/
def oh (o : Fin 256 → ℝ) (b : Fin 256) : ℝ := o b * (Real.sqrt (var eps o))⁻¹
/-- The gate's sigmoid. -/
def sig (x : ℝ) : ℝ := (1 + Real.exp (-x))⁻¹
/-- The cotangent of the row after norm and weight. -/
def dn (gt d : Fin 256 → ℝ) (b : Fin 256) : ℝ := d b * (gt b * sig (gt b))
/-- The cotangent of the row before the norm. -/
def dO (o gt d : Fin 256 → ℝ) (b : Fin 256) : ℝ :=
  (Real.sqrt (var eps o))⁻¹ * (dn gt d b * g b - oh eps o b * ((∑ j, dn gt d j * g j * oh eps o j) * (1 / 256)))
/-- The gate's cotangent. -/
def dG (o gt d : Fin 256 → ℝ) (b : Fin 256) : ℝ :=
  d b * (oh eps o b * g b) * (sig (gt b) * (1 + gt b * (1 - sig (gt b))))
end

/-- A sum over 32 that vanishes from `k` on. -/
theorem sum_below (f : ℕ → ℝ) (k : ℕ) (hk : k ≤ 32) (h0 : ∀ m, k ≤ m → m < 32 → f m = 0) :
    (∑ m : Fin 32, f m.val) = ∑ m ∈ Finset.range k, f m := by
  rw [Fin.sum_univ_eq_sum_range f 32]
  refine (Finset.sum_subset (Finset.range_subset_range.mpr hk) fun m h hm => ?_).symm
  exact h0 m (not_lt.mp fun h' => hm (Finset.mem_range.mpr h')) (Finset.mem_range.mp h)

namespace Head
variable (H : Head)

def lend (n : ℕ) (a : Fin 128) : ℝ := ∑ c, H.la n c a
def dec (n : ℕ) (c : Fin 64) (a : Fin 128) : ℝ := Real.exp (H.lend n a - ∑ c', if c'.val ≤ c.val then H.la n c' a else 0)
def kd (n : ℕ) (c : Fin 64) (a : Fin 128) : ℝ := H.k n c a * H.dec n c a
def U (n : ℕ) (b : Fin 256) (a : Fin 128) : ℝ := ∑ c, H.v n c b * H.kd n c a
def al (n : ℕ) (a : Fin 128) : ℝ := Real.exp (H.lend n a)

/-- The state before chunk `n`. -/
def S : ℕ → Fin 256 → Fin 128 → ℝ
  | 0 => fun _ _ => 0
  | n + 1 => fun b a => H.al n a * S n b a + H.U n b a

def qs (n : ℕ) (c : Fin 64) (a : Fin 128) : ℝ := H.q n c a * H.sc
/-- The chunk's output before the norm. -/
def o (n : ℕ) (c : Fin 64) (b : Fin 256) : ℝ := ∑ a, H.qs n c a * H.S (n + 1) b a
/-- Its cotangent. -/
def dol (n : ℕ) (c : Fin 64) : Fin 256 → ℝ := dO H.eps H.g (H.o n c) (H.gate n c) (H.dc n c)
/-- The state's cotangent from the chunk's own output. -/
def dS (n : ℕ) (b : Fin 256) (a : Fin 128) : ℝ := ∑ c, H.dol n c b * H.qs n c a

/-- The carry after `j` chunks of the backward sweep. -/
def carry : ℕ → Fin 256 → Fin 128 → ℝ
  | 0 => fun _ _ => 0
  | j + 1 => fun b a => H.al (31 - j) a * (H.dS (31 - j) b a + carry j b a)
/-- The state's whole cotangent. -/
def gt (n : ℕ) (b : Fin 256) (a : Fin 128) : ℝ := H.dS n b a + H.carry (31 - n) b a

def dq (n : ℕ) (c : Fin 64) (a : Fin 128) : ℝ := (∑ b, H.dol n c b * H.S (n + 1) b a) * H.sc
def dkd (n : ℕ) (c : Fin 64) (a : Fin 128) : ℝ := ∑ b, H.v n c b * H.gt n b a
def dk (n : ℕ) (c : Fin 64) (a : Fin 128) : ℝ := H.dkd n c a * H.dec n c a
def dv (n : ℕ) (c : Fin 64) (b : Fin 256) : ℝ := ∑ a, H.kd n c a * H.gt n b a
def dgate (n : ℕ) (c : Fin 64) : Fin 256 → ℝ := dG H.eps H.g (H.o n c) (H.gate n c) (H.dc n c)
def dla (n : ℕ) (c : Fin 64) (a : Fin 128) : ℝ :=
  (∑ c', if c'.val < c.val then H.dkd n c' a * H.kd n c' a else 0) + (∑ b, H.gt n b a * H.S n b a) * H.al n a
def dpre (n : ℕ) (c : Fin 64) (a : Fin 128) : ℝ := H.dla n c a * H.om n c a
/-- The norm weight's gradient from one chunk. -/
def dg (n : ℕ) (b : Fin 256) : ℝ := ∑ c, dn (H.gate n c) (H.dc n c) b * oh H.eps (H.o n c) b

/-! ## The closed forms -/

/-- The logarithm of the decay up to and with chunk `n`. -/
def C (n : ℕ) (a : Fin 128) : ℝ := ∑ m ∈ Finset.range (n + 1), H.lend m a

theorem C_succ (n : ℕ) (a : Fin 128) : H.C (n + 1) a = H.C n a + H.lend (n + 1) a := Finset.sum_range_succ _ _

theorem S_closed (n : ℕ) (b : Fin 256) (a : Fin 128) :
    H.S (n + 1) b a = ∑ m ∈ Finset.range (n + 1), H.U m b a * Real.exp (H.C n a - H.C m a) := by
  induction n with
  | zero =>
    rw [Finset.sum_range_one, sub_self, Real.exp_zero]
    show H.al 0 a * 0 + H.U 0 b a = _
    ring
  | succ n ih =>
    rw [Finset.sum_range_succ, sub_self, Real.exp_zero, mul_one]
    show H.al (n + 1) a * H.S (n + 1) b a + H.U (n + 1) b a = _
    rw [ih, Finset.mul_sum]
    refine congrArg (· + _) (Finset.sum_congr rfl fun m _ => ?_)
    rw [C_succ, show H.C n a + H.lend (n + 1) a - H.C m a = H.lend (n + 1) a + (H.C n a - H.C m a) by ring, Real.exp_add]
    unfold al
    ring

theorem S_prev (n : ℕ) (b : Fin 256) (a : Fin 128) :
    H.S n b a * H.al n a = ∑ m ∈ Finset.range n, H.U m b a * Real.exp (H.C n a - H.C m a) := by
  have h := H.S_closed n b a
  rw [Finset.sum_range_succ, sub_self, Real.exp_zero, mul_one] at h
  have h' : H.S (n + 1) b a = H.al n a * H.S n b a + H.U n b a := rfl
  linarith

theorem S_mask (n : Fin 32) (b : Fin 256) (a : Fin 128) :
    H.S (n.val + 1) b a = ∑ m : Fin 32, H.U m.val b a * (if m.val ≤ n.val then Real.exp (H.C n.val a - H.C m.val a) else 0) := by
  rw [S_closed, sum_below (fun m => H.U m b a * (if m ≤ n.val then Real.exp (H.C n.val a - H.C m a) else 0)) (n.val + 1) (by omega)
    (fun m h _ => by rw [if_neg (by omega), mul_zero])]
  exact Finset.sum_congr rfl fun m hm => by rw [if_pos (by have := Finset.mem_range.mp hm; omega)]

theorem gt_closed (j : ℕ) (hj : j ≤ 31) (b : Fin 256) (a : Fin 128) :
    H.gt (31 - j) b a = ∑ i ∈ Finset.range (j + 1), H.dS (31 - i) b a * Real.exp (H.C (31 - i) a - H.C (31 - j) a) := by
  induction j with
  | zero =>
    rw [Finset.sum_range_one, sub_self, Real.exp_zero]
    show H.dS 31 b a + 0 = _
    ring
  | succ j ih =>
    rw [Finset.sum_range_succ, sub_self, Real.exp_zero, mul_one]
    have e : H.gt (31 - (j + 1)) b a = H.dS (31 - (j + 1)) b a + H.al (31 - j) a * H.gt (31 - j) b a := by
      unfold gt
      rw [show 31 - (31 - (j + 1)) = j + 1 by omega, show 31 - (31 - j) = j by omega]
      rfl
    rw [e, ih (by omega), Finset.mul_sum, add_comm]
    refine congrArg (· + _) (Finset.sum_congr rfl fun i _ => ?_)
    have hC := H.C_succ (31 - (j + 1)) a
    rw [show 31 - (j + 1) + 1 = 31 - j by omega] at hC
    rw [show H.C (31 - i) a - H.C (31 - (j + 1)) a = H.lend (31 - j) a + (H.C (31 - i) a - H.C (31 - j) a) by rw [hC]; ring, Real.exp_add]
    unfold al
    ring

theorem gt_mask (m : Fin 32) (b : Fin 256) (a : Fin 128) :
    H.gt m.val b a = ∑ n : Fin 32, H.dS n.val b a * (if m.val ≤ n.val then Real.exp (H.C n.val a - H.C m.val a) else 0) := by
  have h := H.gt_closed (31 - m.val) (by omega) b a
  rw [show 31 - (31 - m.val) = m.val by omega] at h
  rw [h, Fin.sum_univ_eq_sum_range (fun n => H.dS n b a * (if m.val ≤ n then Real.exp (H.C n a - H.C m.val a) else 0)) 32,
    ← Finset.sum_range_reflect _ 32,
    ← Fin.sum_univ_eq_sum_range (fun j => H.dS (32 - 1 - j) b a * (if m.val ≤ 32 - 1 - j then Real.exp (H.C (32 - 1 - j) a - H.C m.val a) else 0)) 32,
    sum_below (fun j => H.dS (32 - 1 - j) b a * (if m.val ≤ 32 - 1 - j then Real.exp (H.C (32 - 1 - j) a - H.C m.val a) else 0)) (31 - m.val + 1) (by omega)
    (fun j h h' => by rw [if_neg (by omega), mul_zero])]
  exact Finset.sum_congr rfl fun i hi => by rw [if_pos (by have := Finset.mem_range.mp hi; omega)]

/-- What the reference sums for the decay: the product of the state's own cotangent and a chunk's update, decayed. -/
def Q (n m : ℕ) (a : Fin 128) : ℝ := (∑ b, H.dS n b a * H.U m b a) * (if m ≤ n then Real.exp (H.C n a - H.C m a) else 0)

/-- Sums of a lower triangular array over rows and columns from `n` on leave the block below and left of `(n, n)`. -/
theorem tri_sum (Q : Fin 32 → Fin 32 → ℝ) (hQ : ∀ i j : Fin 32, i.val < j.val → Q i j = 0) (n : Fin 32) :
    (∑ i : Fin 32, if n.val ≤ i.val then (-∑ j, Q j i) + ∑ j, Q i j else 0) = ∑ i : Fin 32, ∑ j : Fin 32, if n.val ≤ i.val ∧ j.val < n.val then Q i j else 0 := by
  have e1 : (∑ i : Fin 32, if n.val ≤ i.val then (-∑ j, Q j i) + ∑ j, Q i j else 0)
      = (∑ i : Fin 32, ∑ j : Fin 32, if n.val ≤ i.val then Q i j else 0) - ∑ i : Fin 32, ∑ j : Fin 32, if n.val ≤ i.val then Q j i else 0 := by
    rw [← Finset.sum_sub_distrib]
    refine Finset.sum_congr rfl fun i _ => ?_
    by_cases h : n.val ≤ i.val
    · simp only [if_pos h]; ring
    · simp only [if_neg h, Finset.sum_const_zero, sub_zero]
  rw [e1, Finset.sum_comm (f := fun i j : Fin 32 => if n.val ≤ i.val then Q j i else 0), ← Finset.sum_sub_distrib]
  refine Finset.sum_congr rfl fun i _ => ?_
  rw [← Finset.sum_sub_distrib]
  refine Finset.sum_congr rfl fun j _ => ?_
  by_cases h : n.val ≤ i.val <;> by_cases h' : n.val ≤ j.val
  · rw [if_pos h, if_pos h', if_neg (by omega), sub_self]
  · rw [if_pos h, if_neg h', if_pos ⟨h, by omega⟩, sub_zero]
  · rw [if_neg h, if_pos h', if_neg (by omega), hQ i j (by omega), sub_zero]
  · rw [if_neg h, if_neg h', if_neg (by omega), sub_zero]

theorem decay_sum (n : Fin 32) (a : Fin 128) :
    (∑ i : Fin 32, if n.val ≤ i.val then (-∑ j : Fin 32, H.Q j.val i.val a) + ∑ j : Fin 32, H.Q i.val j.val a else 0)
      = (∑ b, H.gt n.val b a * H.S n.val b a) * H.al n.val a := by
  rw [tri_sum (fun i j => H.Q i.val j.val a) (fun i j h => by unfold Q; rw [if_neg (by omega), mul_zero]) n]
  have e : ∀ b, H.gt n.val b a * H.S n.val b a * H.al n.val a
      = ∑ i : Fin 32, ∑ j : Fin 32, if n.val ≤ i.val ∧ j.val < n.val then H.dS i.val b a * H.U j.val b a * Real.exp (H.C i.val a - H.C j.val a) else 0 := fun b => by
    rw [mul_assoc, S_prev, gt_mask, Finset.sum_mul]
    refine Finset.sum_congr rfl fun i _ => ?_
    rw [sum_below (fun j => if n.val ≤ i.val ∧ j < n.val then H.dS i.val b a * H.U j b a * Real.exp (H.C i.val a - H.C j a) else 0) n.val (by omega)
      (fun j h _ => if_neg (by omega)), Finset.mul_sum]
    refine Finset.sum_congr rfl fun j hj => ?_
    have := Finset.mem_range.mp hj
    by_cases h : n.val ≤ i.val
    · rw [if_pos h, if_pos ⟨h, this⟩, show H.C i.val a - H.C j a = (H.C i.val a - H.C n.val a) + (H.C n.val a - H.C j a) by ring, Real.exp_add]
      ring
    · rw [if_neg h, if_neg (fun h' => h h'.1)]
      ring
  rw [Finset.sum_mul, Finset.sum_congr rfl fun b _ => e b, Finset.sum_comm (s := (Finset.univ : Finset (Fin 256)))]
  refine Finset.sum_congr rfl fun i _ => ?_
  rw [Finset.sum_comm (s := (Finset.univ : Finset (Fin 256)))]
  refine Finset.sum_congr rfl fun j _ => ?_
  by_cases h : n.val ≤ i.val ∧ j.val < n.val
  · simp only [if_pos h]
    unfold Q
    rw [if_pos (by omega), Finset.sum_mul]
  · simp only [if_neg h, Finset.sum_const_zero]

/-- The reference's reversed sum over a chunk's rows. -/
theorem dla_ref (n : Fin 32) (c : Fin 64) (a : Fin 128) (f : Fin 64 → ℝ) (T : ℝ) :
    (∑ c' : Fin 64, if c.val ≤ c'.val then -f c' + (if c'.val = 63 then T + ∑ e, f e else 0) else 0)
      = (∑ c' : Fin 64, if c'.val < c.val then f c' else 0) + T := by
  have e1 : ∀ c' : Fin 64, (if c.val ≤ c'.val then -f c' + (if c'.val = 63 then T + ∑ e, f e else 0) else 0)
      = ((if c'.val < c.val then f c' else 0) - f c') + (if c' = (63 : Fin 64) then T + ∑ e, f e else 0) := fun c' => by
    have h63 : (c' = (63 : Fin 64)) ↔ c'.val = 63 := ⟨fun h => by rw [h]; rfl, fun h => Fin.ext h⟩
    by_cases h : c.val ≤ c'.val
    · rw [if_pos h, if_neg (show ¬ c'.val < c.val by omega)]
      simp only [h63]
      ring
    · rw [if_neg h, if_pos (show c'.val < c.val by omega), if_neg (show ¬ c' = (63 : Fin 64) by rw [h63]; omega)]
      ring
  rw [Finset.sum_congr rfl fun c' _ => e1 c', Finset.sum_add_distrib, Finset.sum_sub_distrib, Finset.sum_ite_eq' Finset.univ (63 : Fin 64),
    if_pos (Finset.mem_univ _)]
  ring

end Head

/-- The chain rule's three terms for the norm are the one product. -/
theorem dO_chain (eps : ℝ) (he : 0 < eps) (g o gt d : Fin 256 → ℝ) (b : Fin 256) :
    dn gt d b * g b * (Real.sqrt (var eps o))⁻¹
      + o b * ((∑ j, o j * (dn gt d j * g j)) * (-(1 / 2) * ((Real.sqrt (var eps o))⁻¹ / var eps o)) / 256)
      + (∑ j, o j * (dn gt d j * g j)) * (-(1 / 2) * ((Real.sqrt (var eps o))⁻¹ / var eps o)) / 256 * o b
      = dO eps g o gt d b := by
  have hv : 0 < var eps o := by
    have : 0 ≤ ∑ k, o k * o k := Finset.sum_nonneg fun k _ => mul_self_nonneg _
    unfold var
    positivity
  have hr : (Real.sqrt (var eps o))⁻¹ * (Real.sqrt (var eps o))⁻¹ = 1 / var eps o := by
    rw [← mul_inv, Real.mul_self_sqrt hv.le, one_div]
  unfold dO oh
  have e : (∑ j, dn gt d j * g j * (o j * (Real.sqrt (var eps o))⁻¹)) = (∑ j, o j * (dn gt d j * g j)) * (Real.sqrt (var eps o))⁻¹ := by
    rw [Finset.sum_mul]
    exact Finset.sum_congr rfl fun j _ => by ring
  rw [e]
  generalize (∑ j, o j * (dn gt d j * g j)) = T
  set r := (Real.sqrt (var eps o))⁻¹
  rw [div_eq_mul_one_div r, ← hr]
  ring

/-! ## Literals and elementary functions at real arguments -/

open Idealize.ShloMosaic

theorem c256 : Ideal.ofBits .f32 0x43800000#32 = ((256 : ℝ) : EReal) := by
  rw [Norm.lit _ false 135 0 (by decide) (by decide) (by decide) (by decide) (by decide)]
  norm_num

theorem c16 : Ideal.ofBits .f32 0x41800000#32 = ((16 : ℝ) : EReal) := by
  rw [Norm.lit _ false 131 0 (by decide) (by decide) (by decide) (by decide) (by decide)]
  norm_num

theorem c1_16 : Ideal.ofBits .f32 0x3D800000#32 = ((1 / 16 : ℝ) : EReal) := by
  rw [Norm.lit _ false 123 0 (by decide) (by decide) (by decide) (by decide) (by decide)]
  norm_num

theorem scale : ∃ e : ℝ, Ideal.ofBits .f32 0x3DB504F3#32 = ((e : ℝ) : EReal) :=
  ⟨_, Norm.lit _ false 123 3474675 (by decide) (by decide) (by decide) (by decide) (by decide)⟩

theorem rsqrt_pos (v : ℝ) (h : 0 < v) : Ideal.rsqrt (v : EReal) = (((Real.sqrt v)⁻¹ : ℝ) : EReal) := by
  rw [Ideal.rsqrt_coe, if_neg (by linarith), if_neg (by linarith)]

theorem sig_coe (x : ℝ) : Ideal.div 1 (1 + Ideal.exp (0 - (x : EReal))) = ((sig x : ℝ) : EReal) := by
  have hp : (0 : ℝ) < 1 + Real.exp (-x) := by have := Real.exp_pos (-x); linarith
  rw [show (0 : EReal) - (x : EReal) = ((-x : ℝ) : EReal) by rw [zero_sub, EReal.coe_neg], Ideal.exp_coe, ← EReal.coe_one, ← EReal.coe_add, Ideal.div_coe hp.ne', ← EReal.coe_mul]
  unfold sig
  rw [one_mul, one_div]

/-- The logarithm of the decay from its pre-activation. -/
def la16 (x : ℝ) : ℝ := (min x 0 - Real.log (1 + Real.exp (-|x|))) * (1 / 16)
/-- Its derivative. -/
def om16 (x : ℝ) : ℝ := (1 - sig x) * (1 / 16)

/-! ## The arguments, and a head's part of them -/

/-- The arguments' real values. -/
structure Args where
  q : Fin 2048 → Fin 512 → ℝ
  k : Fin 2048 → Fin 512 → ℝ
  v : Fin 2048 → Fin 1024 → ℝ
  gate : Fin 2048 → Fin 1024 → ℝ
  ga : Fin 2048 → Fin 16 → ℝ
  wa : Fin 16 → Fin 512 → ℝ
  ba : Fin 512 → ℝ
  g : Fin 1024 → ℝ
  dc : Fin 2048 → Fin 1024 → ℝ
  sc : ℝ
  eps : ℝ

/-- Row `c` of chunk `n`. -/
def row (n : ℕ) (c : Fin 64) : Fin 2048 := ⟨(n * 64 + c.val) % 2048, Nat.mod_lt _ (by decide)⟩
/-- Column `a` of head `h`'s keys. -/
def col1 (h : ℕ) (a : Fin 128) : Fin 512 := ⟨(h * 128 + a.val) % 512, Nat.mod_lt _ (by decide)⟩
/-- Column `b` of head `h`'s values. -/
def col2 (h : ℕ) (b : Fin 256) : Fin 1024 := ⟨(h * 256 + b.val) % 1024, Nat.mod_lt _ (by decide)⟩

theorem row_mk (n : Fin 32) (c : Fin 64) (h : n.val * 64 + c.val < 2048) : (⟨n.val * 64 + c.val, h⟩ : Fin 2048) = row n.val c := Fin.ext (Nat.mod_eq_of_lt h).symm
theorem col1_mk (p : Fin 4) (a : Fin 128) (h : p.val * 128 + a.val < 512) : (⟨p.val * 128 + a.val, h⟩ : Fin 512) = col1 p.val a := Fin.ext (Nat.mod_eq_of_lt h).symm
theorem col2_mk (p : Fin 4) (b : Fin 256) (h : p.val * 256 + b.val < 1024) : (⟨p.val * 256 + b.val, h⟩ : Fin 1024) = col2 p.val b := Fin.ext (Nat.mod_eq_of_lt h).symm

namespace Args
variable (A : Args)

/-- The alpha gate's pre-activation. -/
def pre (i : Fin 2048) (j : Fin 512) : ℝ := (∑ e, A.ga i e * A.wa e j) + A.ba j

/-- Head `h`'s part. -/
def head (h : ℕ) : Head where
  la n c a := la16 (A.pre (row n c) (col1 h a))
  om n c a := om16 (A.pre (row n c) (col1 h a))
  q n c a := A.q (row n c) (col1 h a)
  k n c a := A.k (row n c) (col1 h a)
  v n c b := A.v (row n c) (col2 h b)
  gate n c b := A.gate (row n c) (col2 h b)
  dc n c b := A.dc (row n c) (col2 h b)
  g b := A.g (col2 h b)
  sc := A.sc
  eps := A.eps

/-- The pre-activation's gradient. -/
def dpreAt (i : Fin 2048) (j : Fin 512) : ℝ :=
  (A.head (j.val / 128)).dpre (i.val / 64) ⟨i.val % 64, Nat.mod_lt _ (by decide)⟩ ⟨j.val % 128, Nat.mod_lt _ (by decide)⟩

end Args

/-- The real value at row `c` of chunk `n`, place `j` of a head's 768 columns. -/
def dzR (H : Head) (n : ℕ) (c : Fin 64) (j : ℕ) : ℝ :=
  if h : j < 128 then H.dq n c ⟨j, h⟩ else if h : j - 128 < 128 then H.dk n c ⟨j - 128, h⟩
  else if h : j - 256 < 256 then H.dv n c ⟨j - 256, h⟩ else H.dgate n c ⟨(j - 512) % 256, Nat.mod_lt _ (by decide)⟩

/-- A sum over all rows, chunk by chunk. -/
theorem sum_rows (f : ℕ → Fin 64 → ℝ) : (∑ i : Fin 2048, f (i.val / 64) ⟨i.val % 64, Nat.mod_lt _ (by decide)⟩) = ∑ n : Fin 32, ∑ c, f n.val c := by
  rw [← Fintype.sum_prod_type' (f := fun (n : Fin 32) (c : Fin 64) => f n.val c)]
  refine (Fintype.sum_equiv (finProdFinEquiv (m := 32) (n := 64)) _ _ fun x => ?_).symm
  have h1 : ((finProdFinEquiv (m := 32) (n := 64)) x).val / 64 = x.1.val := by
    show (x.2.val + 64 * x.1.val) / 64 = x.1.val
    omega
  have h2 : ((finProdFinEquiv (m := 32) (n := 64)) x).val % 64 = x.2.val := by
    show (x.2.val + 64 * x.1.val) % 64 = x.2.val
    omega
  show f x.1.val x.2 = f (((finProdFinEquiv (m := 32) (n := 64)) x).val / 64) ⟨((finProdFinEquiv (m := 32) (n := 64)) x).val % 64, _⟩
  simp only [h1, h2]

/-- The soft-plus the reference writes is the kernel's form of the logarithm. -/
theorem la16_ref (p : ℝ) : -(max (-p) 0 + Real.log (1 + Real.exp (-|-p|))) * (1 / 16) = la16 p := by
  unfold la16
  rw [abs_neg, show max (-p) 0 = -min p 0 by rw [← neg_zero, max_neg_neg, neg_zero]]
  ring

theorem om_ref (p : ℝ) : Real.exp (-p - (max (-p) 0 + Real.log (1 + Real.exp (-|-p|)))) = 1 - sig p := by
  have h1 : (0 : ℝ) < 1 + Real.exp (-|-p|) := by have := Real.exp_pos (-|-p|); linarith
  have h2 : (0 : ℝ) < 1 + Real.exp (-p) := by have := Real.exp_pos (-p); linarith
  unfold sig
  rw [show -p - (max (-p) 0 + Real.log (1 + Real.exp (-|-p|))) = (-p - max (-p) 0) - Real.log (1 + Real.exp (-|-p|)) by ring, Real.exp_sub, Real.exp_log h1, abs_neg]
  rw [abs_neg] at h1
  rcases le_total 0 p with h | h
  · rw [abs_of_nonneg h, max_eq_right (by linarith), sub_zero]
    field_simp
    ring
  · rw [abs_of_nonpos h, max_eq_left (by linarith), sub_self, Real.exp_zero, neg_neg]
    rw [abs_of_nonpos h, neg_neg] at h1
    have h3 : Real.exp p * Real.exp (-p) = 1 := by rw [← Real.exp_add]; simp
    field_simp
    nlinarith [h3]

end Cert.Gla

end
-- ==== Proof.GlaHost.lean ====
module

public import proofs.«01_k».proof.Proof.RealSpec
public import proofs.«01_k».proof.Proof.Run
public import Idealize.ShloMosaic.Lib.StableHlo.Run
public import Idealize.ShloMosaic.Lib.Pointwise

@[expose] public section

set_option maxRecDepth 16384

noncomputable section

open Idealize.ShloMosaic Idealize.ShloMosaic.TcCoe

namespace Cert.KernelIdeal.Hand

open Cert.KernelIdeal Cert.KernelIdeal.Gen Idealize.ShloMosaic.StableHlo

variable (m : (ℓ : Loc nD τ sig) → Buf (Elt Ideal) ℓ)

theorem V8 (c : Dev nD) : V m c main_v8 = broadcastInDim S1x512 ![1] bcast_S512_S1x512_1 (m ((c : Thread nD τ).loc main_arg6)) := by
  show StableHlo.after (List.flatten [hostOps0, hostOps0_1, hostOps0_2, hostOps0_3, hostOps0_4]) (fun b => m (c, b)) main_v8 = _
  simp only [hostOps0, hostOps0_1, hostOps0_2, hostOps0_3, hostOps0_4, List.flatten_cons, List.flatten_nil, List.append_nil, List.cons_append, List.nil_append]
  after_results_simp

theorem V9 (c : Dev nD) : V m c main_v9 = broadcastInDim S1x1024 ![1] bcast_S1024_S1x1024_1 (m ((c : Thread nD τ).loc main_arg7)) := by
  show StableHlo.after (List.flatten [hostOps0, hostOps0_1, hostOps0_2, hostOps0_3, hostOps0_4]) (fun b => m (c, b)) main_v9 = _
  simp only [hostOps0, hostOps0_1, hostOps0_2, hostOps0_3, hostOps0_4, List.flatten_cons, List.flatten_nil, List.append_nil, List.cons_append, List.nil_append]
  after_results_simp

theorem V5 (c : Dev nD) : V m c main_v5 = shapeCast S2048x3072 (concatenate S2048x4x768 2 [⟨S2048x4x128, shapeCast S2048x4x128 (m ((c : Thread nD τ).loc main_arg0)) shapeCasts_S2048x512_S2048x4x128⟩, ⟨S2048x4x128, shapeCast S2048x4x128 (m ((c : Thread nD τ).loc main_arg1)) shapeCasts_S2048x512_S2048x4x128⟩, ⟨S2048x4x256, shapeCast S2048x4x256 (m ((c : Thread nD τ).loc main_arg2)) shapeCasts_S2048x1024_S2048x4x256⟩, ⟨S2048x4x256, shapeCast S2048x4x256 (m ((c : Thread nD τ).loc main_arg3)) shapeCasts_S2048x1024_S2048x4x256⟩] concatenates_S2048x4x128_S2048x4x128_S2048x4x256_S2048x4x256_S2048x4x768_d2) shapeCasts_S2048x4x768_S2048x3072 := by
  show StableHlo.after (List.flatten [hostOps0, hostOps0_1, hostOps0_2, hostOps0_3, hostOps0_4]) (fun b => m (c, b)) main_v5 = _
  simp only [hostOps0, hostOps0_1, hostOps0_2, hostOps0_3, hostOps0_4, List.flatten_cons, List.flatten_nil, List.append_nil, List.cons_append, List.nil_append]
  after_results_simp
  rfl

theorem V6 (c : Dev nD) : V m c main_v6 = pad S2048x128 ![0, 0] ![0, 112] ![0, 0] (m ((c : Thread nD τ).loc main_arg4)) (sitofp (F := Ideal) .bf16 (constantI S_ 32 0#32)) pads_S2048x16_S2048x128_000_01120 h_S_ := by
  show StableHlo.after (List.flatten [hostOps0, hostOps0_1, hostOps0_2, hostOps0_3, hostOps0_4]) (fun b => m (c, b)) main_v6 = _
  simp only [hostOps0, hostOps0_1, hostOps0_2, hostOps0_3, hostOps0_4, List.flatten_cons, List.flatten_nil, List.append_nil, List.cons_append, List.nil_append]
  after_results_simp
  rfl

theorem V7 (c : Dev nD) : V m c main_v7 = pad S128x512 ![0, 0] ![112, 0] ![0, 0] (m ((c : Thread nD τ).loc main_arg5)) (sitofp (F := Ideal) .bf16 (constantI S_ 32 0#32)) pads_S16x512_S128x512_01120_000 h_S_ := by
  show StableHlo.after (List.flatten [hostOps0, hostOps0_1, hostOps0_2, hostOps0_3, hostOps0_4]) (fun b => m (c, b)) main_v7 = _
  simp only [hostOps0, hostOps0_1, hostOps0_2, hostOps0_3, hostOps0_4, List.flatten_cons, List.flatten_nil, List.append_nil, List.cons_append, List.nil_append]
  after_results_simp
  rfl

theorem bf_zero : (FloatOps.sitofp (F := Ideal) FTy.bf16 (0#32) : EReal) = 0 := by
  show (((0#32 : BitVec 32).toInt : ℝ) : EReal) = 0
  simp

theorem V8_apply (c : Dev nD) (z : Fin 1) (j : Fin 512) : (V m c main_v8 : Vec Ideal S1x512 .f32) (ix2 z j) = (m ((c : Thread nD τ).loc main_arg6) : Vec Ideal S512 .f32) (ix1 j) := by
  rw [V8]
  pointwise []

theorem V9_apply (c : Dev nD) (z : Fin 1) (j : Fin 1024) : (V m c main_v9 : Vec Ideal S1x1024 .f32) (ix2 z j) = (m ((c : Thread nD τ).loc main_arg7) : Vec Ideal S1024 .f32) (ix1 j) := by
  rw [V9]
  pointwise []

theorem pad_ga (x : Vec Ideal S2048x16 .bf16) (i : Fin 2048) (e : Fin 128) :
    pad S2048x128 ![0, 0] ![0, 112] ![0, 0] x (sitofp (F := Ideal) .bf16 (constantI S_ 32 0#32)) pads_S2048x16_S2048x128_000_01120 h_S_ (ix2 i e) = if h : e.val < 16 then x (ix2 i ⟨e.val, h⟩) else (0 : EReal) := by
  rw [← bf_zero]
  pointwise []

theorem pad_wa (x : Vec Ideal S16x512 .bf16) (e : Fin 128) (j : Fin 512) :
    pad S128x512 ![0, 0] ![112, 0] ![0, 0] x (sitofp (F := Ideal) .bf16 (constantI S_ 32 0#32)) pads_S16x512_S128x512_01120_000 h_S_ (ix2 e j) = if h : e.val < 16 then x (ix2 ⟨e.val, h⟩ j) else (0 : EReal) := by
  rw [← bf_zero]
  pointwise []

theorem V6_apply (c : Dev nD) (i : Fin 2048) (e : Fin 128) : (V m c main_v6 : Vec Ideal S2048x128 .bf16) (ix2 i e) = if h : e.val < 16 then (m ((c : Thread nD τ).loc main_arg4) : Vec Ideal S2048x16 .bf16) (ix2 i ⟨e.val, h⟩) else (0 : EReal) :=
  (congrFun (V6 m c) (ix2 i e)).trans (pad_ga _ i e)

theorem V7_apply (c : Dev nD) (e : Fin 128) (j : Fin 512) : (V m c main_v7 : Vec Ideal S128x512 .bf16) (ix2 e j) = if h : e.val < 16 then (m ((c : Thread nD τ).loc main_arg5) : Vec Ideal S16x512 .bf16) (ix2 ⟨e.val, h⟩ j) else (0 : EReal) :=
  (congrFun (V7 m c) (ix2 e j)).trans (pad_wa _ e j)

/-- The packed rows: for every head its query, key, value and gate columns. -/
def packed (x0 x1 : Vec Ideal S2048x512 .bf16) (x2 x3 : Vec Ideal S2048x1024 .bf16) : Vec Ideal S2048x3072 .bf16 :=
  shapeCast S2048x3072 (concatenate S2048x4x768 2 [⟨S2048x4x128, shapeCast S2048x4x128 x0 shapeCasts_S2048x512_S2048x4x128⟩, ⟨S2048x4x128, shapeCast S2048x4x128 x1 shapeCasts_S2048x512_S2048x4x128⟩, ⟨S2048x4x256, shapeCast S2048x4x256 x2 shapeCasts_S2048x1024_S2048x4x256⟩, ⟨S2048x4x256, shapeCast S2048x4x256 x3 shapeCasts_S2048x1024_S2048x4x256⟩] concatenates_S2048x4x128_S2048x4x128_S2048x4x256_S2048x4x256_S2048x4x768_d2) shapeCasts_S2048x4x768_S2048x3072

theorem packed_q (x0 x1 : Vec Ideal S2048x512 .bf16) (x2 x3 : Vec Ideal S2048x1024 .bf16) (i : Fin 2048) (j : Fin 3072) (h : Fin 4) (a : Fin 128) (hj : j.val = 768 * h.val + 0 + a.val) :
    packed x0 x1 x2 x3 (ix2 i j) = x0 (ix2 i ⟨h.val * 128 + a.val, by omega⟩) := by
  have h1 : j.val / 768 = h.val := by omega
  have h2 : j.val % 768 = 0 + a.val := by omega
  have ha := a.isLt
  unfold packed
  pointwise []
  rw [dif_pos (by omega)]
  exact congrArg x0 (congrArg (ix2 i) (Fin.ext (by show _ * 128 + _ = h.val * 128 + a.val; omega)))

theorem packed_k (x0 x1 : Vec Ideal S2048x512 .bf16) (x2 x3 : Vec Ideal S2048x1024 .bf16) (i : Fin 2048) (j : Fin 3072) (h : Fin 4) (a : Fin 128) (hj : j.val = 768 * h.val + 128 + a.val) :
    packed x0 x1 x2 x3 (ix2 i j) = x1 (ix2 i ⟨h.val * 128 + a.val, by omega⟩) := by
  have h1 : j.val / 768 = h.val := by omega
  have h2 : j.val % 768 = 128 + a.val := by omega
  have ha := a.isLt
  unfold packed
  pointwise []
  rw [dif_neg (by omega)]
  rw [dif_pos (by omega)]
  exact congrArg x1 (congrArg (ix2 i) (Fin.ext (by show _ * 128 + _ = h.val * 128 + a.val; omega)))

theorem packed_v (x0 x1 : Vec Ideal S2048x512 .bf16) (x2 x3 : Vec Ideal S2048x1024 .bf16) (i : Fin 2048) (j : Fin 3072) (h : Fin 4) (a : Fin 256) (hj : j.val = 768 * h.val + 256 + a.val) :
    packed x0 x1 x2 x3 (ix2 i j) = x2 (ix2 i ⟨h.val * 256 + a.val, by omega⟩) := by
  have h1 : j.val / 768 = h.val := by omega
  have h2 : j.val % 768 = 256 + a.val := by omega
  have ha := a.isLt
  unfold packed
  pointwise []
  rw [dif_neg (by omega)]
  rw [dif_neg (by omega)]
  rw [dif_pos (by omega)]
  exact congrArg x2 (congrArg (ix2 i) (Fin.ext (by show _ * 256 + _ = h.val * 256 + a.val; omega)))

theorem packed_gate (x0 x1 : Vec Ideal S2048x512 .bf16) (x2 x3 : Vec Ideal S2048x1024 .bf16) (i : Fin 2048) (j : Fin 3072) (h : Fin 4) (a : Fin 256) (hj : j.val = 768 * h.val + 512 + a.val) :
    packed x0 x1 x2 x3 (ix2 i j) = x3 (ix2 i ⟨h.val * 256 + a.val, by omega⟩) := by
  have h1 : j.val / 768 = h.val := by omega
  have h2 : j.val % 768 = 512 + a.val := by omega
  have ha := a.isLt
  unfold packed
  pointwise []
  rw [dif_neg (by omega)]
  rw [dif_neg (by omega)]
  rw [dif_neg (by omega)]
  exact congrArg x3 (congrArg (ix2 i) (Fin.ext (by show _ * 256 + _ = h.val * 256 + a.val; omega)))

theorem V5_q (c : Dev nD) (i : Fin 2048) (j : Fin 3072) (h : Fin 4) (a : Fin 128) (hj : j.val = 768 * h.val + 0 + a.val) :
    (V m c main_v5 : Vec Ideal S2048x3072 .bf16) (ix2 i j) = (m ((c : Thread nD τ).loc main_arg0) : Vec Ideal S2048x512 .bf16) (ix2 i ⟨h.val * 128 + a.val, by omega⟩) :=
  (congrFun (V5 m c) (ix2 i j)).trans (packed_q _ _ _ _ i j h a hj)

theorem V5_k (c : Dev nD) (i : Fin 2048) (j : Fin 3072) (h : Fin 4) (a : Fin 128) (hj : j.val = 768 * h.val + 128 + a.val) :
    (V m c main_v5 : Vec Ideal S2048x3072 .bf16) (ix2 i j) = (m ((c : Thread nD τ).loc main_arg1) : Vec Ideal S2048x512 .bf16) (ix2 i ⟨h.val * 128 + a.val, by omega⟩) :=
  (congrFun (V5 m c) (ix2 i j)).trans (packed_k _ _ _ _ i j h a hj)

theorem V5_v (c : Dev nD) (i : Fin 2048) (j : Fin 3072) (h : Fin 4) (a : Fin 256) (hj : j.val = 768 * h.val + 256 + a.val) :
    (V m c main_v5 : Vec Ideal S2048x3072 .bf16) (ix2 i j) = (m ((c : Thread nD τ).loc main_arg2) : Vec Ideal S2048x1024 .bf16) (ix2 i ⟨h.val * 256 + a.val, by omega⟩) :=
  (congrFun (V5 m c) (ix2 i j)).trans (packed_v _ _ _ _ i j h a hj)

theorem V5_gate (c : Dev nD) (i : Fin 2048) (j : Fin 3072) (h : Fin 4) (a : Fin 256) (hj : j.val = 768 * h.val + 512 + a.val) :
    (V m c main_v5 : Vec Ideal S2048x3072 .bf16) (ix2 i j) = (m ((c : Thread nD τ).loc main_arg3) : Vec Ideal S2048x1024 .bf16) (ix2 i ⟨h.val * 256 + a.val, by omega⟩) :=
  (congrFun (V5 m c) (ix2 i j)).trans (packed_gate _ _ _ _ i j h a hj)

end Cert.KernelIdeal.Hand
-- ==== Proof.GlaVal.lean ====
module

public import proofs.«01_k».proof.Proof.Spec
public import proofs.«01_k».proof.Proof.RealSpec
public import proofs.«01_k».proof.Proof.Norm
public import Idealize.ShloMosaic.Lib.Pointwise

@[expose] public section

set_option maxRecDepth 16384

noncomputable section

open Idealize.ShloMosaic Idealize.ShloMosaic.TcCoe

namespace Cert.KernelIdeal.Hand

open Cert.KernelIdeal Cert.KernelIdeal.Gen
open Cert.Gla (c256 c16 c1_16 rsqrt_pos sig_coe la16 om16)

/-! # The recurrence's gradient on real numbers: what one chunk of the kernel computes -/

theorem tri_apply (c d : Fin 64) : k0_pay80 (F := Ideal) (ix2 c d) = (((if d.val ≤ c.val then 1 else 0 : ℝ)) : EReal) := by
  pointwise [k0_pay80]
  rw [show IntOp.cmpi CmpIPredicate.sle (BitVec.ofNat 32 d.val) (BitVec.ofNat 32 c.val) = if d.val ≤ c.val then 1#1 else 0#1 from
    (by decide +kernel : ∀ c d : Fin 64, IntOp.cmpi CmpIPredicate.sle (BitVec.ofNat 32 d.val) (BitVec.ofNat 32 c.val) = if d.val ≤ c.val then 1#1 else 0#1) c d]
  by_cases h : d.val ≤ c.val
  · rw [if_pos h, if_pos h]; rfl
  · rw [if_neg h, if_neg h]; rfl

theorem stri_apply (c d : Fin 64) : k0_pay81 (F := Ideal) (ix2 c d) = (((if d.val < c.val then 1 else 0 : ℝ)) : EReal) := by
  pointwise [k0_pay81]
  rw [show IntOp.cmpi CmpIPredicate.slt (BitVec.ofNat 32 d.val) (BitVec.ofNat 32 c.val) = if d.val < c.val then 1#1 else 0#1 from
    (by decide +kernel : ∀ c d : Fin 64, IntOp.cmpi CmpIPredicate.slt (BitVec.ofNat 32 d.val) (BitVec.ofNat 32 c.val) = if d.val < c.val then 1#1 else 0#1) c d]
  by_cases h : d.val < c.val
  · rw [if_pos h, if_pos h]; rfl
  · rw [if_neg h, if_neg h]; rfl

/-- The chunk's values are head `H`'s, chunk `n`. -/
structure Reals (H : Gla.Head) (n : ℕ) (a : Chunk Ideal) : Prop where
  la : ∀ c x, a.la (ix2 c x) = ((H.la n c x : ℝ) : EReal)
  om : ∀ c x, a.om (ix2 c x) = ((H.om n c x : ℝ) : EReal)
  q : ∀ c x, a.q (ix2 c x) = ((H.q n c x : ℝ) : EReal)
  k : ∀ c x, a.k (ix2 c x) = ((H.k n c x : ℝ) : EReal)
  v : ∀ c b, a.v (ix2 c b) = ((H.v n c b : ℝ) : EReal)
  gate : ∀ c b, a.gate (ix2 c b) = ((H.gate n c b : ℝ) : EReal)
  dc : ∀ c b, a.dc (ix2 c b) = ((H.dc n c b : ℝ) : EReal)
  g : ∀ b, a.g (ix2 0 b) = ((H.g b : ℝ) : EReal)
  sc : Ideal.ofBits .f32 0x3DB504F3#32 = ((H.sc : ℝ) : EReal)
  eps : Ideal.ofBits .f32 0x358637BD#32 = ((H.eps : ℝ) : EReal)
  pos : 0 < H.eps

theorem pay12_r (H : Gla.Head) (n : ℕ) (la : Vec Ideal S64x128 .f32) (h : ∀ c a, la (ix2 c a) = ((H.la n c a : ℝ) : EReal)) (c : Fin 64) (a : Fin 128) :
    k0_pay12 k0_pay80 la (ix2 c a) = ((H.dec n c a : ℝ) : EReal) := by
  pointwise [k0_pay12, k0_pay11]
  simp only [tri_apply, h, ← EReal.coe_mul, Norm.sum_coe, ← EReal.coe_add, ← EReal.coe_sub, Ideal.exp_coe, sub_self, mul_zero, Finset.sum_const_zero, add_zero]
  unfold Gla.Head.dec Gla.Head.lend
  simp only [ite_mul, one_mul, zero_mul]

theorem step_r (H : Gla.Head) (n : ℕ) (st : FVec Ideal S256x128 .f32) (la : Vec Ideal S64x128 .f32) (k : Vec Ideal S64x128 .bf16) (v : Vec Ideal S64x256 .bf16)
    (hs : ∀ b x, st (ix2 b x) = ((H.S n b x : ℝ) : EReal))
    (h : ∀ c a, la (ix2 c a) = ((H.la n c a : ℝ) : EReal)) (hk : ∀ c a, k (ix2 c a) = ((H.k n c a : ℝ) : EReal))
    (hv : ∀ c a, v (ix2 c a) = ((H.v n c a : ℝ) : EReal)) (b : Fin 256) (a : Fin 128) :
    fwdStep st la k v (ix2 b a) = ((H.S (n + 1) b a : ℝ) : EReal) := by
  pointwise [fwdStep, k0_pay7]
  simp only [tri_apply, h, hk, hv, hs, ← EReal.coe_mul, Norm.sum_coe, ← EReal.coe_add, ← EReal.coe_sub, Ideal.exp_coe, sub_self, mul_zero, Finset.sum_const_zero, add_zero]
  simp only [ite_mul, one_mul, zero_mul]
  show _ = ((H.al n a * H.S n b a + H.U n b a : ℝ) : EReal)
  rfl

section
variable {H : Gla.Head} {n : ℕ} {a : Chunk Ideal} (h : Reals H n a) {S Sp : Vec Ideal S1x1x256x128 .f32} {cr : Vec Ideal S1x256x128 .f32}
  (hS : ∀ b x, S (ix4 0 0 b x) = ((H.S (n + 1) b x : ℝ) : EReal)) (hc : ∀ b x, cr (ix3 0 b x) = ((H.carry (31 - n) b x : ℝ) : EReal))
include h

theorem qs_r (c : Fin 64) (x : Fin 128) : cQs a (ix2 c x) = ((H.qs n c x : ℝ) : EReal) := by
  pointwise [cQs, k0_pay17]
  simp only [h.q, h.sc, ← EReal.coe_mul, Norm.sum_coe, ← EReal.coe_add, ← EReal.coe_sub, Ideal.exp_coe]
  rfl

theorem al_r (x : Fin 128) : k0_pay13 a.la (ix2 0 x) = ((H.al n x : ℝ) : EReal) := by
  pointwise [k0_pay13, k0_pay11]
  simp only [h.la, ← EReal.coe_mul, Norm.sum_coe, ← EReal.coe_add, ← EReal.coe_sub, Ideal.exp_coe]
  rfl

theorem kd_r (c : Fin 64) (x : Fin 128) : k0_pay14 k0_pay80 a.la a.k (ix2 c x) = ((H.kd n c x : ℝ) : EReal) := by
  pointwise [k0_pay14]
  simp only [pay12_r H n a.la h.la, h.k, ← EReal.coe_mul, Norm.sum_coe, ← EReal.coe_add, ← EReal.coe_sub, Ideal.exp_coe]
  rfl

theorem kdr_r (c : Fin 64) (x : Fin 128) : k0_pay15 k0_pay80 a.la a.k (ix2 c x) = ((H.kd n c x : ℝ) : EReal) := by
  pointwise [k0_pay15]
  exact kd_r h c x

theorem v_r (c : Fin 64) (b : Fin 256) : k0_pay16 a.v (ix2 c b) = ((H.v n c b : ℝ) : EReal) := by
  pointwise [k0_pay16]
  exact h.v c b

theorem g_r (b : Fin 256) : k0_pay21 a.g (ix2 0 b) = ((H.g b : ℝ) : EReal) := by
  pointwise [k0_pay21]
  exact h.g b

theorem sig_r (c : Fin 64) (b : Fin 256) : k0_pay26 a.gate (ix2 c b) = ((Gla.sig (H.gate n c b) : ℝ) : EReal) := by
  pointwise [k0_pay26, k0_pay22]
  rw [h.gate]
  exact sig_coe _

theorem dn_r (c : Fin 64) (b : Fin 256) : k0_pay27 a.gate a.dc (ix2 c b) = ((Gla.dn (H.gate n c) (H.dc n c) b : ℝ) : EReal) := by
  pointwise [k0_pay27, k0_pay22, k0_pay23]
  simp only [sig_r h, h.gate, h.dc, ← EReal.coe_mul, Norm.sum_coe, ← EReal.coe_add, ← EReal.coe_sub, Ideal.exp_coe]
  rfl

include hS

theorem s_r (b : Fin 256) (x : Fin 128) : k0_pay18 S (ix2 b x) = ((H.S (n + 1) b x : ℝ) : EReal) := by
  pointwise [k0_pay18]
  exact hS b x

theorem o_r (c : Fin 64) (b : Fin 256) : k0_pay20 (cQs a) (k0_pay18 S) (ix2 c b) = ((H.o n c b : ℝ) : EReal) := by
  pointwise [k0_pay20]
  simp only [qs_r h, s_r h hS, ← EReal.coe_mul, Norm.sum_coe, ← EReal.coe_add, ← EReal.coe_sub, Ideal.exp_coe]
  rfl

theorem r_r (c : Fin 64) : k0_pay24 (cQs a) (k0_pay18 S) (ix2 c 0) = (((Real.sqrt (Gla.var H.eps (H.o n c)))⁻¹ : ℝ) : EReal) := by
  have hv : 0 < Gla.var H.eps (H.o n c) := Gla.var_pos _ h.pos _
  pointwise [k0_pay24]
  simp only [o_r h hS, h.eps, c256, Ideal.div_coe (show (256 : ℝ) ≠ 0 by norm_num), ← EReal.coe_mul, Norm.sum_coe, ← EReal.coe_add, ← EReal.coe_sub, Ideal.exp_coe]
  exact rsqrt_pos _ hv

theorem oh_r (c : Fin 64) (b : Fin 256) : k0_pay25 (cQs a) (k0_pay18 S) (ix2 c b) = ((Gla.oh H.eps (H.o n c) b : ℝ) : EReal) := by
  pointwise [k0_pay25]
  simp only [o_r h hS, r_r h hS, ← EReal.coe_mul, Norm.sum_coe, ← EReal.coe_add, ← EReal.coe_sub, Ideal.exp_coe]
  rfl

theorem do_r (c : Fin 64) (b : Fin 256) : cDo a S (ix2 c b) = ((H.dol n c b : ℝ) : EReal) := by
  pointwise [cDo, k0_pay32]
  simp only [oh_r h hS, r_r h hS, dn_r h, g_r h, c256, Ideal.div_coe (show (256 : ℝ) ≠ 0 by norm_num), ← EReal.coe_mul, Norm.sum_coe, ← EReal.coe_add, ← EReal.coe_sub, Ideal.exp_coe]
  rfl

theorem dq_r (c : Fin 64) (x : Fin 128) : cDq a S (ix2 c x) = ((H.dq n c x : ℝ) : EReal) := by
  pointwise [cDq, k0_pay43]
  simp only [do_r h hS, s_r h hS, h.sc, ← EReal.coe_mul, Norm.sum_coe, ← EReal.coe_add, ← EReal.coe_sub, Ideal.exp_coe]
  rfl

theorem dgate_r (c : Fin 64) (b : Fin 256) : cDgate a S (ix2 c b) = ((H.dgate n c b : ℝ) : EReal) := by
  pointwise [cDgate, k0_pay46, k0_pay30, k0_pay22, k0_pay28, k0_pay29, k0_pay23]
  simp only [oh_r h hS, sig_r h, g_r h, h.gate, h.dc, ← EReal.coe_one, ← EReal.coe_mul, Norm.sum_coe, ← EReal.coe_add, ← EReal.coe_sub, Ideal.exp_coe]
  rfl

theorem dg_r (old : Vec Ideal S1x256 .f32) (D : Fin 256 → ℝ) (ho : ∀ b, old (ix2 0 b) = ((D b : ℝ) : EReal)) (b : Fin 256) :
    cDg a S old (ix2 0 b) = ((D b + H.dg n b : ℝ) : EReal) := by
  pointwise [cDg, k0_pay31]
  simp only [oh_r h hS, dn_r h, ho, ← EReal.coe_mul, Norm.sum_coe, ← EReal.coe_add, ← EReal.coe_sub, Ideal.exp_coe]
  rfl

include hc

theorem gt_r (b : Fin 256) (x : Fin 128) : cGt a S cr (ix2 b x) = ((H.gt n b x : ℝ) : EReal) := by
  show k0_pay33 _ _ _ _ _ _ _ = _
  pointwise [k0_pay33]
  have hd : ∀ c b, k0_pay32 (k0_pay21 a.g) (k0_pay24 (cQs a) (k0_pay18 S)) (k0_pay25 (cQs a) (k0_pay18 S)) (k0_pay27 a.gate a.dc) (ix2 c b) = ((H.dol n c b : ℝ) : EReal) := fun c b => do_r h hS c b
  simp only [hd, qs_r h, hc, ← EReal.coe_mul, Norm.sum_coe, ← EReal.coe_add, ← EReal.coe_sub, Ideal.exp_coe]
  rfl

theorem gtr_r (b : Fin 256) (x : Fin 128) : cGtr a S cr (ix2 b x) = ((H.gt n b x : ℝ) : EReal) := by
  pointwise [cGtr, k0_pay34]
  exact gt_r h hS hc b x

theorem dkd_r (c : Fin 64) (x : Fin 128) : cDkdec a S cr (ix2 c x) = ((H.dkd n c x : ℝ) : EReal) := by
  pointwise [cDkdec, k0_pay36]
  have hd := gtr_r h hS hc
  unfold cGtr at hd
  simp only [hd, v_r h, ← EReal.coe_mul, Norm.sum_coe, ← EReal.coe_add, ← EReal.coe_sub, Ideal.exp_coe]
  rfl

theorem dk_r (c : Fin 64) (x : Fin 128) : cDk a S cr (ix2 c x) = ((H.dk n c x : ℝ) : EReal) := by
  pointwise [cDk, k0_pay44]
  simp only [dkd_r h hS hc, pay12_r H n a.la h.la, ← EReal.coe_mul, Norm.sum_coe, ← EReal.coe_add, ← EReal.coe_sub, Ideal.exp_coe]
  rfl

theorem dv_r (c : Fin 64) (b : Fin 256) : cDv a S cr (ix2 c b) = ((H.dv n c b : ℝ) : EReal) := by
  pointwise [cDv, k0_pay45]
  simp only [gtr_r h hS hc, kdr_r h, ← EReal.coe_mul, Norm.sum_coe, ← EReal.coe_add, ← EReal.coe_sub, Ideal.exp_coe]
  rfl

theorem next_r (hn : n ≤ 31) (b : Fin 256) (x : Fin 128) : cNext a S cr (ix3 0 b x) = ((H.carry (31 - n + 1) b x : ℝ) : EReal) := by
  pointwise [cNext, k0_pay47]
  simp only [gt_r h hS hc, al_r h, ← EReal.coe_mul, Norm.sum_coe, ← EReal.coe_add, ← EReal.coe_sub, Ideal.exp_coe]
  have e : H.carry (31 - n + 1) b x = H.al (31 - (31 - n)) x * (H.dS (31 - (31 - n)) b x + H.carry (31 - n) b x) := rfl
  rw [e, show 31 - (31 - n) = n by omega]
  rfl

theorem dpre_r (hn : n ≤ 31) (hSp : ∀ b x, 0 < n → Sp (ix4 0 0 b x) = ((H.S n b x : ℝ) : EReal))
    (c : Fin 64) (x : Fin 128) : cDpre a (BitVec.ofNat 32 n) S Sp cr (ix2 c x) = ((H.dpre n c x : ℝ) : EReal) := by
  have hd := dkd_r h hS hc
  unfold cDkdec at hd
  have hg : ∀ b x, k0_pay33 (cQs a) (k0_pay21 a.g) (k0_pay24 (cQs a) (k0_pay18 S)) (k0_pay25 (cQs a) (k0_pay18 S)) (k0_pay27 a.gate a.dc) cr (ix2 b x) = ((H.gt n b x : ℝ) : EReal) := fun b x => gt_r h hS hc b x
  have h19 : ∀ b x, k0_pay19 (BitVec.ofNat 32 n) Sp (ix2 b x) = ((H.S n b x : ℝ) : EReal) := fun b x => by
    pointwise [k0_pay19]
    rw [show Scalar.cmpi CmpIPredicate.sgt (BitVec.ofNat 32 n) 0#32 = if 0 < n then 1#1 else 0#1 from
      (by decide +kernel : ∀ n : Fin 32, Scalar.cmpi CmpIPredicate.sgt (BitVec.ofNat 32 n.val) 0#32 = if 0 < n.val then 1#1 else 0#1) ⟨n, by omega⟩]
    by_cases h0 : 0 < n
    · rw [if_pos h0]; exact hSp b x h0
    · obtain rfl : n = 0 := by omega
      rfl
  pointwise [cDpre, k0_pay42, k0_pay41, k0_pay40, k0_pay39, k0_pay38, k0_pay37, k0_pay35]
  simp only [hd, hg, h19, al_r h, kd_r h, stri_apply, h.om, ← EReal.coe_mul, Norm.sum_coe, ← EReal.coe_add, ← EReal.coe_sub, Ideal.exp_coe, sub_self, mul_zero, Finset.sum_const_zero, add_zero]
  unfold Gla.Head.dpre Gla.Head.dla
  simp only [ite_mul, one_mul, zero_mul]
end

theorem pay75_r (z : Vec Ideal S2048x128 .bf16) (w : Vec Ideal S128x256 .bf16) (b : Vec Ideal S1x256 .f32) (P : Fin 2048 → Fin 256 → ℝ)
    (hP : ∀ i j, (∑ e : Fin 128, z (ix2 i e) * w (ix2 e j)) + b (ix2 0 j) = ((P i j : ℝ) : EReal)) (i : Fin 2048) (j : Fin 256) :
    k0_pay75 z w b (ix2 i j) = ((P i j : ℝ) : EReal) := by
  pointwise [k0_pay75]
  exact hP i j

theorem pay76_r (z : Vec Ideal S2048x128 .bf16) (w : Vec Ideal S128x256 .bf16) (b : Vec Ideal S1x256 .f32) (P : Fin 2048 → Fin 256 → ℝ)
    (hP : ∀ i j, (∑ e : Fin 128, z (ix2 i e) * w (ix2 e j)) + b (ix2 0 j) = ((P i j : ℝ) : EReal)) (i : Fin 2048) (j : Fin 256) :
    k0_pay76 z w b (ix2 i j) = ((la16 (P i j) : ℝ) : EReal) := by
  pointwise [k0_pay76]
  simp only [pay75_r z w b P hP]
  have habs : (FloatOps.absf (F := Ideal) (φ := .f32) ((P i j : ℝ) : EReal) : EReal) = ((|P i j| : ℝ) : EReal) :=
     (EReal.coe_strictMono.monotone.map_max (a := P i j) (b := -(P i j))).symm
  rw [habs, c1_16]
  have hp : (0 : ℝ) < 1 + Real.exp (-|P i j|) := by have := Real.exp_pos (-|P i j|); linarith
  rw [show (0 : EReal) - ((|P i j| : ℝ) : EReal) = ((-|P i j| : ℝ) : EReal) by rw [zero_sub, EReal.coe_neg], Ideal.exp_coe, ← EReal.coe_one, ← EReal.coe_add,
    Ideal.log_coe, if_neg (by linarith), show min ((P i j : ℝ) : EReal) 0 = ((min (P i j) 0 : ℝ) : EReal) from (EReal.coe_strictMono.monotone.map_min (a := P i j) (b := 0)).symm]
  simp only [← EReal.coe_mul, Norm.sum_coe, ← EReal.coe_add, ← EReal.coe_sub, Ideal.exp_coe]
  rfl

theorem pay77_r (z : Vec Ideal S2048x128 .bf16) (w : Vec Ideal S128x256 .bf16) (b : Vec Ideal S1x256 .f32) (P : Fin 2048 → Fin 256 → ℝ)
    (hP : ∀ i j, (∑ e : Fin 128, z (ix2 i e) * w (ix2 e j)) + b (ix2 0 j) = ((P i j : ℝ) : EReal)) (i : Fin 2048) (j : Fin 256) :
    k0_pay77 z w b (ix2 i j) = ((om16 (P i j) : ℝ) : EReal) := by
  pointwise [k0_pay77]
  simp only [pay75_r z w b P hP, sig_coe, c1_16]
  simp only [← EReal.coe_one, ← EReal.coe_mul, Norm.sum_coe, ← EReal.coe_add, ← EReal.coe_sub, Ideal.exp_coe]
  rfl

end Cert.KernelIdeal.Hand

end
-- ==== Proof.GlaPoint.lean ====
module

public import proofs.«01_k».proof.Proof.GlaVal

@[expose] public section

set_option maxRecDepth 16384

noncomputable section

open Idealize.ShloMosaic Idealize.ShloMosaic.TcCoe

namespace Cert.KernelIdeal.Hand

open Cert.KernelIdeal Cert.KernelIdeal.Gen

/-! # The recurrence's gradient on real numbers: what a grid point computes -/

section
variable {z : Vec Ideal S2048x1536 .bf16} {la om : Vec Ideal S2048x256 .f32} {g : Vec Ideal S1x512 .f32} {dc : Vec Ideal S2048x512 .bf16}
  {H : ℕ → Gla.Head} (hR : ∀ p < 2, ∀ n < 32, Reals (H p) n (chunkAt z la om g dc p n))
include hR

theorem state_r (p : ℕ) (hp : p < 2) (n : ℕ) (hn : n ≤ 32) (b : Fin 256) (x : Fin 128) :
    state z la p n (ix2 b x) = (((H p).S n b x : ℝ) : EReal) := by
  induction n generalizing b x with
  | zero =>
    show k0_pay82 (F := Ideal) (ix2 b x) = ((0 : ℝ) : EReal)
    pointwise [k0_pay82]
    rfl
  | succ n ih =>
    have h := hR p hp n (by omega)
    exact step_r (H p) n _ _ _ _ (fun b x => ih (by omega) b x) h.la h.k h.v b x

theorem slab_r (p : ℕ) (hp : p < 2) (n : ℕ) (hn : n < 32) (b : Fin 256) (x : Fin 128) :
    slab z la p n (ix4 0 0 b x) = (((H p).S (n + 1) b x : ℝ) : EReal) :=
  state_r hR p hp (n + 1) hn b x

theorem carry_r (p : Fin 2) (k : ℕ) (hk : k ≤ 32) (b : Fin 256) (x : Fin 128) :
    carry z la om g dc k (ix3 p b x) = (((H p.val).carry k b x : ℝ) : EReal) := by
  induction k generalizing b x with
  | zero =>
    show k0_pay78 (F := Ideal) (ix3 p b x) = ((0 : ℝ) : EReal)
    pointwise [k0_pay78]
    rfl
  | succ k ih =>
    have h := hR p.val p.isLt (31 - k) (by omega)
    have e := next_r h (S := slab z la p.val (31 - k)) (cr := fun i => carry z la om g dc k (ix3 p (i 1) (i 2)))
      (fun b x => slab_r hR p.val p.isLt (31 - k) (by omega) b x)
      (fun b x => by rw [show 31 - (31 - k) = k by omega]; exact ih (by omega) b x) (by omega) b x
    rw [show 31 - (31 - k) = k by omega] at e
    exact e

theorem carryAt_r (p : Fin 2) (n : ℕ) (b : Fin 256) (x : Fin 128) :
    carryAt z la om g dc p n (ix3 0 b x) = (((H p.val).carry (31 - n) b x : ℝ) : EReal) :=
  carry_r hR p (31 - n) (by omega) b x

theorem dgsum_r (k : ℕ) (hk : k ≤ 32) (j : Fin 512) :
    dgsum z la om g dc k (ix2 0 j) = ((∑ i ∈ Finset.range k, (H (j.val / 256)).dg (31 - i) ⟨j.val % 256, Nat.mod_lt _ (by decide)⟩ : ℝ) : EReal) := by
  induction k generalizing j with
  | zero =>
    show k0_pay79 (F := Ideal) (ix2 0 j) = _
    rw [Finset.range_zero, Finset.sum_empty]
    pointwise [k0_pay79]
    rfl
  | succ k ih =>
    have hp : j.val / 256 < 2 := by omega
    have h := hR (j.val / 256) hp (31 - k) (by omega)
    have e := dg_r h (S := slab z la (j.val / 256) (31 - k)) (fun b x => slab_r hR _ hp (31 - k) (by omega) b x)
      (cut (N := 1) (M := 512) (by decide) (by decide) 1 256 0 (256 * (j.val / 256)) (dgsum z la om g dc k))
      (fun b => ∑ i ∈ Finset.range k, (H (j.val / 256)).dg (31 - i) b)
      (fun b => by
        have hb := b.isLt
        have e1 : cut (N := 1) (M := 512) (by decide) (by decide) 1 256 0 (256 * (j.val / 256)) (dgsum z la om g dc k) (ix2 0 b)
            = dgsum z la om g dc k (ix2 0 ⟨256 * (j.val / 256) + b.val, by omega⟩) := by
          refine congrArg (dgsum z la om g dc k) (funext fun a => Fin.ext ?_)
          match a with
          | ⟨0, _⟩ => show (0 + 0) % 1 = 0; rfl
          | ⟨1, _⟩ => show (256 * (j.val / 256) + b.val) % 512 = 256 * (j.val / 256) + b.val; omega
        rw [e1, ih (by omega)]
        congr 2
        funext i
        have h1 : (256 * (j.val / 256) + b.val) / 256 = j.val / 256 := by omega
        have h2 : (256 * (j.val / 256) + b.val) % 256 = b.val := by omega
        simp only [h1, h2])
      ⟨j.val % 256, Nat.mod_lt _ (by decide)⟩
    rw [Finset.sum_range_succ]
    exact e

theorem dgsum_r32 (j : Fin 512) :
    dgsum z la om g dc 32 (ix2 0 j) = ((∑ n : Fin 32, (H (j.val / 256)).dg n.val ⟨j.val % 256, Nat.mod_lt _ (by decide)⟩ : ℝ) : EReal) := by
  rw [dgsum_r hR 32 (by decide) j, Fin.sum_univ_eq_sum_range (fun n => (H (j.val / 256)).dg n ⟨j.val % 256, Nat.mod_lt _ (by decide)⟩) 32,
    ← Finset.sum_range_reflect _ 32]
  exact congrArg _ (Finset.sum_congr rfl fun i hi => by rw [show 31 - (32 - 1 - i) = i by have := Finset.mem_range.mp hi; omega])

theorem dpre_eq (i : Fin 2048) (j : Fin 256) :
    dpre z la om g dc (ix2 i j) = (((H (j.val / 128)).dpre (i.val / 64) ⟨i.val % 64, Nat.mod_lt _ (by decide)⟩ ⟨j.val % 128, Nat.mod_lt _ (by decide)⟩ : ℝ) : EReal) := by
  have hp : j.val / 128 < 2 := by omega
  have hn : i.val / 64 < 32 := by omega
  exact dpre_r (hR _ hp _ hn) (fun b x => slab_r hR _ hp _ hn b x)
    (fun b x => by
      have e := carryAt_r hR (Fin.ofNat 2 (j.val / 128)) (i.val / 64) b x
      rw [show (Fin.ofNat 2 (j.val / 128)).val = j.val / 128 from Nat.mod_eq_of_lt hp] at e
      exact e) (by omega)
    (fun b x h0 => by
      have e := slab_r hR _ hp (i.val / 64 - 1) (by omega) b x
      rw [show i.val / 64 - 1 + 1 = i.val / 64 by omega] at e
      exact e) _ _

theorem dz_eq (i : Fin 2048) (j : Fin 1536) :
    dz z la om g dc (ix2 i j) = ((Gla.dzR (H (j.val / 768)) (i.val / 64) ⟨i.val % 64, Nat.mod_lt _ (by decide)⟩ (j.val % 768) : ℝ) : EReal) := by
  have hp : j.val / 768 < 2 := by omega
  have hn : i.val / 64 < 32 := by omega
  have h := hR _ hp _ hn
  have hS := fun b x => slab_r hR _ hp _ hn b x
  have hc : ∀ b x, carryAt z la om g dc (Fin.ofNat 2 (j.val / 768)) (i.val / 64) (ix3 0 b x) = (((H (j.val / 768)).carry (31 - i.val / 64) b x : ℝ) : EReal) := fun b x => by
    have e := carryAt_r hR (Fin.ofNat 2 (j.val / 768)) (i.val / 64) b x
    rw [show (Fin.ofNat 2 (j.val / 768)).val = j.val / 768 from Nat.mod_eq_of_lt hp] at e
    exact e
  show dzAt z la om g dc (j.val / 768) (i.val / 64) (⟨i.val % 64, Nat.mod_lt _ (by decide)⟩ : Fin 64) (j.val % 768) = _
  unfold dzAt Gla.dzR
  by_cases h1 : j.val % 768 < 128
  · rw [dif_pos h1, dif_pos h1]; exact dq_r h hS _ _
  rw [dif_neg h1, dif_neg h1]
  by_cases h2 : j.val % 768 - 128 < 128
  · rw [dif_pos h2, dif_pos h2]; exact dk_r h hS hc _ _
  rw [dif_neg h2, dif_neg h2]
  by_cases h3 : j.val % 768 - 256 < 256
  · rw [dif_pos h3, dif_pos h3]; exact dv_r h hS hc _ _
  rw [dif_neg h3, dif_neg h3]
  exact dgate_r h hS _ _

end

end Cert.KernelIdeal.Hand

end
-- ==== Proof.GlaScan.lean ====
module

public import Idealize.ShloMosaic.PureOps
public import Idealize.ShloMosaic.PureOps.Ideal
public import Idealize.ShloMosaic.Lib.Pointwise
public import proofs.«01_k».proof.Proof.Gen.ReferenceIdeal.Run

@[expose] public section

set_option maxRecDepth 16384

noncomputable section

open Idealize.ShloMosaic Idealize.ShloMosaic.TcCoe

namespace Cert.Gla

/-! # The reference's running sums, as sums over the rows before or after -/

theorem foldl_sum {ι : Type} (g : ι → EReal) (l : List ι) (r : EReal) : l.foldl (fun r n => r + g n) r = r + (l.map g).sum := by
  induction l generalizing r with
  | nil => simp
  | cons a l ih => rw [List.foldl_cons, ih, List.map_cons, List.sum_cons, add_assoc]

theorem window_sum {s t : Shape} (window strides lo hi : Fin s.rank → Nat) (h : s.ReduceWindows window strides lo hi t) (x : s.Idx → EReal) (j : t.Idx) :
    Ideal.hostReduceWindowAdd window strides lo hi h x 0 j
      = ∑ w : (⟨s.rank, window⟩ : Shape).Idx,
          if hin : ∀ a, lo a ≤ (j (a.cast h.1.symm)).val * strides a + (w a).val ∧ (j (a.cast h.1.symm)).val * strides a + (w a).val - lo a < s.size a
          then x (fun a => ⟨(j (a.cast h.1.symm)).val * strides a + (w a).val - lo a, (hin a).2⟩) else 0 := by
  unfold Ideal.hostReduceWindowAdd Host.reduceWindow
  rw [← Equiv.sum_comp (⟨s.rank, window⟩ : Shape).rowMajor.symm, Fin.sum_univ_def]
  refine (foldl_sum _ _ _).trans ?_
  rw [zero_add]
  refine congrArg List.sum (List.map_congr_left fun n _ => ?_)
  split
  · rfl
  · rfl

/-- A window reaching `K` rows back sums the rows up to its own. -/
theorem rows_before (K : ℕ) (f : Fin (K + 1) → EReal) (c : Fin (K + 1)) (g : Fin (K + 1) → EReal)
    (hg : ∀ k, g k = if h : K ≤ c.val + k.val then f ⟨c.val + k.val - K, by omega⟩ else 0) :
    ∑ k, g k = ∑ c' : Fin (K + 1), if c'.val ≤ c.val then f c' else 0 := by
  rw [Finset.sum_congr rfl fun k _ => hg k, ← Finset.sum_filter]
  rw [← Finset.sum_subset (Finset.filter_subset (fun k : Fin (K + 1) => K ≤ c.val + k.val) Finset.univ) (fun k _ hk => dif_neg (fun h => hk (Finset.mem_filter.mpr ⟨Finset.mem_univ _, h⟩)))]
  have hc := c.isLt
  refine Finset.sum_bij (fun k _ => (⟨c.val + k.val - K, by have := k.isLt; omega⟩ : Fin (K + 1))) ?_ ?_ ?_ ?_
  · intro k hk
    have := k.isLt
    refine Finset.mem_filter.mpr ⟨Finset.mem_univ _, ?_⟩
    show c.val + k.val - K ≤ c.val
    omega
  · intro k hk k' hk' e
    have h1 := (Finset.mem_filter.mp hk).2
    have h2 := (Finset.mem_filter.mp hk').2
    have e' : c.val + k.val - K = c.val + k'.val - K := congrArg Fin.val e
    exact Fin.ext (by omega)
  · intro c' hc'
    have h1 := (Finset.mem_filter.mp hc').2
    refine ⟨⟨c'.val + K - c.val, by omega⟩, Finset.mem_filter.mpr ⟨Finset.mem_univ _, ?_⟩, Fin.ext ?_⟩
    · show K ≤ c.val + (c'.val + K - c.val)
      omega
    · show c.val + (c'.val + K - c.val) - K = c'.val
      omega
  · intro k hk
    rw [dif_pos (Finset.mem_filter.mp hk).2]

/-- A window reaching forward sums the rows from its own on. -/
theorem rows_after (K : ℕ) (f : Fin (K + 1) → EReal) (c : Fin (K + 1)) (g : Fin (K + 1) → EReal)
    (hg : ∀ k, g k = if h : c.val + k.val < K + 1 then f ⟨c.val + k.val, h⟩ else 0) :
    ∑ k, g k = ∑ c' : Fin (K + 1), if c.val ≤ c'.val then f c' else 0 := by
  rw [Finset.sum_congr rfl fun k _ => hg k, ← Finset.sum_filter]
  rw [← Finset.sum_subset (Finset.filter_subset (fun k : Fin (K + 1) => c.val + k.val < K + 1) Finset.univ) (fun k _ hk => dif_neg (fun h => hk (Finset.mem_filter.mpr ⟨Finset.mem_univ _, h⟩)))]
  have hc := c.isLt
  refine Finset.sum_bij (fun k hk => (⟨c.val + k.val, (Finset.mem_filter.mp hk).2⟩ : Fin (K + 1))) ?_ ?_ ?_ ?_
  · intro k hk
    refine Finset.mem_filter.mpr ⟨Finset.mem_univ _, ?_⟩
    show c.val ≤ c.val + k.val
    omega
  · intro k hk k' hk' e
    have e' : c.val + k.val = c.val + k'.val := congrArg Fin.val e
    exact Fin.ext (by omega)
  · intro c' hc'
    have h1 := (Finset.mem_filter.mp hc').2
    have := c'.isLt
    refine ⟨⟨c'.val - c.val, by omega⟩, Finset.mem_filter.mpr ⟨Finset.mem_univ _, ?_⟩, Fin.ext ?_⟩
    · show c.val + (c'.val - c.val) < K + 1
      omega
    · show c.val + (c'.val - c.val) = c'.val
      omega
  · intro k hk
    rw [dif_pos (Finset.mem_filter.mp hk).2]

/-- The window's positions, when only one axis is longer than one. -/
theorem sum_w4 (f : (⟨4, ![1, 64, 1, 1]⟩ : Shape).Idx → EReal) : ∑ w, f w = ∑ k : Fin 64, f (ix4 (0 : Fin 1) k (0 : Fin 1) (0 : Fin 1)) := by
  refine (Fintype.sum_bijective (fun k : Fin 64 => (ix4 (0 : Fin 1) k (0 : Fin 1) (0 : Fin 1) : (⟨4, ![1, 64, 1, 1]⟩ : Shape).Idx)) ⟨fun k k' e => ?_, fun w => ⟨w 1, ?_⟩⟩ _ _ (fun k => rfl)).symm
  · exact congrFun e 1
  · funext a
    match a with
    | ⟨0, _⟩ => exact (Subsingleton.elim (α := Fin 1) _ _)
    | ⟨1, _⟩ => rfl
    | ⟨2, _⟩ => exact (Subsingleton.elim (α := Fin 1) _ _)
    | ⟨3, _⟩ => exact (Subsingleton.elim (α := Fin 1) _ _)

theorem sum_w3 (f : (⟨3, ![32, 1, 1]⟩ : Shape).Idx → EReal) : ∑ w, f w = ∑ k : Fin 32, f (ix3 k (0 : Fin 1) (0 : Fin 1)) := by
  refine (Fintype.sum_bijective (fun k : Fin 32 => (ix3 k (0 : Fin 1) (0 : Fin 1) : (⟨3, ![32, 1, 1]⟩ : Shape).Idx)) ⟨fun k k' e => ?_, fun w => ⟨w 0, ?_⟩⟩ _ _ (fun k => rfl)).symm
  · exact congrFun e 0
  · funext a
    match a with
    | ⟨0, _⟩ => rfl
    | ⟨1, _⟩ => exact (Subsingleton.elim (α := Fin 1) _ _)
    | ⟨2, _⟩ => exact (Subsingleton.elim (α := Fin 1) _ _)

open Cert.ReferenceIdeal Cert.ReferenceIdeal.Gen

theorem scan4_before (h) (x : S32x64x4x128.Idx → EReal) (n : Fin 32) (c : Fin 64) (p : Fin 4) (a : Fin 128) :
    Ideal.hostReduceWindowAdd (s := S32x64x4x128) ![1, 64, 1, 1] ![1, 1, 1, 1] ![0, 63, 0, 0] ![0, 0, 0, 0] (t := S32x64x4x128) h x 0 (ix4 n c p a)
      = ∑ c' : Fin 64, if c'.val ≤ c.val then x (ix4 n c' p a) else 0 := by
  rw [window_sum]
  refine (sum_w4 _).trans (rows_before 63 (fun c' => x (ix4 n c' p a)) c _ fun k => ?_)
  have hn := n.isLt
  have hc := c.isLt
  have hp := p.isLt
  have ha := a.isLt
  have hk := k.isLt
  by_cases hh : 63 ≤ c.val + k.val
  · rw [dif_pos hh]
    refine (dif_pos (fun ax => ?_)).trans (congrArg x (funext fun ax => Fin.ext ?_))
    · match ax with
      | ⟨0, _⟩ => show 0 ≤ n.val * 1 + 0 ∧ n.val * 1 + 0 - 0 < 32; omega
      | ⟨1, _⟩ => show 63 ≤ c.val * 1 + k.val ∧ c.val * 1 + k.val - 63 < 64; omega
      | ⟨2, _⟩ => show 0 ≤ p.val * 1 + 0 ∧ p.val * 1 + 0 - 0 < 4; omega
      | ⟨3, _⟩ => show 0 ≤ a.val * 1 + 0 ∧ a.val * 1 + 0 - 0 < 128; omega
    · match ax with
      | ⟨0, _⟩ => show n.val * 1 + 0 - 0 = n.val; omega
      | ⟨1, _⟩ => show c.val * 1 + k.val - 63 = c.val + k.val - 63; omega
      | ⟨2, _⟩ => show p.val * 1 + 0 - 0 = p.val; omega
      | ⟨3, _⟩ => show a.val * 1 + 0 - 0 = a.val; omega
  · rw [dif_neg hh]
    refine dif_neg fun hin => hh ?_
    have h1 : 63 ≤ c.val * 1 + k.val := (hin (1 : Fin 4)).1
    omega

theorem scan4_after (h) (x : S32x64x4x128.Idx → EReal) (n : Fin 32) (c : Fin 64) (p : Fin 4) (a : Fin 128) :
    Ideal.hostReduceWindowAdd (s := S32x64x4x128) ![1, 64, 1, 1] ![1, 1, 1, 1] ![0, 0, 0, 0] ![0, 63, 0, 0] (t := S32x64x4x128) h x 0 (ix4 n c p a)
      = ∑ c' : Fin 64, if c.val ≤ c'.val then x (ix4 n c' p a) else 0 := by
  rw [window_sum]
  refine (sum_w4 _).trans (rows_after 63 (fun c' => x (ix4 n c' p a)) c _ fun k => ?_)
  have hn := n.isLt
  have hc := c.isLt
  have hp := p.isLt
  have ha := a.isLt
  have hk := k.isLt
  by_cases hh : c.val + k.val < 63 + 1
  · rw [dif_pos hh]
    refine (dif_pos (fun ax => ?_)).trans (congrArg x (funext fun ax => Fin.ext ?_))
    · match ax with
      | ⟨0, _⟩ => show 0 ≤ n.val * 1 + 0 ∧ n.val * 1 + 0 - 0 < 32; omega
      | ⟨1, _⟩ => show 0 ≤ c.val * 1 + k.val ∧ c.val * 1 + k.val - 0 < 64; omega
      | ⟨2, _⟩ => show 0 ≤ p.val * 1 + 0 ∧ p.val * 1 + 0 - 0 < 4; omega
      | ⟨3, _⟩ => show 0 ≤ a.val * 1 + 0 ∧ a.val * 1 + 0 - 0 < 128; omega
    · match ax with
      | ⟨0, _⟩ => show n.val * 1 + 0 - 0 = n.val; omega
      | ⟨1, _⟩ => show c.val * 1 + k.val - 0 = c.val + k.val; omega
      | ⟨2, _⟩ => show p.val * 1 + 0 - 0 = p.val; omega
      | ⟨3, _⟩ => show a.val * 1 + 0 - 0 = a.val; omega
  · rw [dif_neg hh]
    refine dif_neg fun hin => hh ?_
    have h1 : c.val * 1 + k.val - 0 < 64 := (hin (1 : Fin 4)).2
    omega

theorem scan3_before (h) (x : S32x4x128.Idx → EReal) (n : Fin 32) (p : Fin 4) (a : Fin 128) :
    Ideal.hostReduceWindowAdd (s := S32x4x128) ![32, 1, 1] ![1, 1, 1] ![31, 0, 0] ![0, 0, 0] (t := S32x4x128) h x 0 (ix3 n p a)
      = ∑ m : Fin 32, if m.val ≤ n.val then x (ix3 m p a) else 0 := by
  rw [window_sum]
  refine (sum_w3 _).trans (rows_before 31 (fun m => x (ix3 m p a)) n _ fun k => ?_)
  have hn := n.isLt
  have hp := p.isLt
  have ha := a.isLt
  have hk := k.isLt
  by_cases hh : 31 ≤ n.val + k.val
  · rw [dif_pos hh]
    refine (dif_pos (fun ax => ?_)).trans (congrArg x (funext fun ax => Fin.ext ?_))
    · match ax with
      | ⟨0, _⟩ => show 31 ≤ n.val * 1 + k.val ∧ n.val * 1 + k.val - 31 < 32; omega
      | ⟨1, _⟩ => show 0 ≤ p.val * 1 + 0 ∧ p.val * 1 + 0 - 0 < 4; omega
      | ⟨2, _⟩ => show 0 ≤ a.val * 1 + 0 ∧ a.val * 1 + 0 - 0 < 128; omega
    · match ax with
      | ⟨0, _⟩ => show n.val * 1 + k.val - 31 = n.val + k.val - 31; omega
      | ⟨1, _⟩ => show p.val * 1 + 0 - 0 = p.val; omega
      | ⟨2, _⟩ => show a.val * 1 + 0 - 0 = a.val; omega
  · rw [dif_neg hh]
    refine dif_neg fun hin => hh ?_
    have h1 : 31 ≤ n.val * 1 + k.val := (hin (0 : Fin 3)).1
    omega

theorem scan3_after (h) (x : S32x4x128.Idx → EReal) (n : Fin 32) (p : Fin 4) (a : Fin 128) :
    Ideal.hostReduceWindowAdd (s := S32x4x128) ![32, 1, 1] ![1, 1, 1] ![0, 0, 0] ![31, 0, 0] (t := S32x4x128) h x 0 (ix3 n p a)
      = ∑ m : Fin 32, if n.val ≤ m.val then x (ix3 m p a) else 0 := by
  rw [window_sum]
  refine (sum_w3 _).trans (rows_after 31 (fun m => x (ix3 m p a)) n _ fun k => ?_)
  have hn := n.isLt
  have hp := p.isLt
  have ha := a.isLt
  have hk := k.isLt
  by_cases hh : n.val + k.val < 31 + 1
  · rw [dif_pos hh]
    refine (dif_pos (fun ax => ?_)).trans (congrArg x (funext fun ax => Fin.ext ?_))
    · match ax with
      | ⟨0, _⟩ => show 0 ≤ n.val * 1 + k.val ∧ n.val * 1 + k.val - 0 < 32; omega
      | ⟨1, _⟩ => show 0 ≤ p.val * 1 + 0 ∧ p.val * 1 + 0 - 0 < 4; omega
      | ⟨2, _⟩ => show 0 ≤ a.val * 1 + 0 ∧ a.val * 1 + 0 - 0 < 128; omega
    · match ax with
      | ⟨0, _⟩ => show n.val * 1 + k.val - 0 = n.val + k.val; omega
      | ⟨1, _⟩ => show p.val * 1 + 0 - 0 = p.val; omega
      | ⟨2, _⟩ => show a.val * 1 + 0 - 0 = a.val; omega
  · rw [dif_neg hh]
    refine dif_neg fun hin => hh ?_
    have h1 : n.val * 1 + k.val - 0 < 32 := (hin (0 : Fin 3)).2
    omega

end Cert.Gla

end
-- ==== Proof.GlaRef.lean ====
module

public import proofs.«01_k».proof.Proof.RealSpec
public import proofs.«01_k».proof.Proof.GlaScan
public import proofs.«01_k».proof.Proof.Norm
public import proofs.«01_k».proof.Proof.Gen.ReferenceIdeal.Read
public import Idealize.ShloMosaic.Lib.Pointwise

@[expose] public section

set_option maxRecDepth 16384

noncomputable section

open Idealize.ShloMosaic Idealize.ShloMosaic.TcCoe

namespace Cert.ReferenceIdeal.Hand

open Cert.ReferenceIdeal Cert.ReferenceIdeal.Gen Cert.ReferenceIdeal.Read
open Cert.Gla

/-! # The reference's values on real arguments -/

variable {A : Args} {x0 x1 : (⟨S2048x512, .bf16⟩ : BufTy).Contents (Elt Ideal)} {x2 x3 x8 : (⟨S2048x1024, .bf16⟩ : BufTy).Contents (Elt Ideal)}
 {x4 : (⟨S2048x16, .bf16⟩ : BufTy).Contents (Elt Ideal)} {x5 : (⟨S16x512, .bf16⟩ : BufTy).Contents (Elt Ideal)} {x6 : (⟨S512, .f32⟩ : BufTy).Contents (Elt Ideal)} {x7 : (⟨S1024, .f32⟩ : BufTy).Contents (Elt Ideal)}

/-- The arguments are the real values `A` tells. -/
structure Refs (A : Args) (x0 x1 : (⟨S2048x512, .bf16⟩ : BufTy).Contents (Elt Ideal)) (x2 x3 x8 : (⟨S2048x1024, .bf16⟩ : BufTy).Contents (Elt Ideal))
    (x4 : (⟨S2048x16, .bf16⟩ : BufTy).Contents (Elt Ideal)) (x5 : (⟨S16x512, .bf16⟩ : BufTy).Contents (Elt Ideal)) (x6 : (⟨S512, .f32⟩ : BufTy).Contents (Elt Ideal)) (x7 : (⟨S1024, .f32⟩ : BufTy).Contents (Elt Ideal)) : Prop where
  q : ∀ i j, x0 (ix2 i j) = ((A.q i j : ℝ) : EReal)
  k : ∀ i j, x1 (ix2 i j) = ((A.k i j : ℝ) : EReal)
  v : ∀ i j, x2 (ix2 i j) = ((A.v i j : ℝ) : EReal)
  gate : ∀ i j, x3 (ix2 i j) = ((A.gate i j : ℝ) : EReal)
  ga : ∀ i j, x4 (ix2 i j) = ((A.ga i j : ℝ) : EReal)
  wa : ∀ i j, x5 (ix2 i j) = ((A.wa i j : ℝ) : EReal)
  ba : ∀ j, x6 (ix1 j) = ((A.ba j : ℝ) : EReal)
  g : ∀ j, x7 (ix1 j) = ((A.g j : ℝ) : EReal)
  dc : ∀ i j, x8 (ix2 i j) = ((A.dc i j : ℝ) : EReal)
  sc : Ideal.ofBits .f32 0x3DB504F3#32 = ((A.sc : ℝ) : EReal)
  eps : Ideal.ofBits .f32 0x358637BD#32 = ((A.eps : ℝ) : EReal)
  pos : 0 < A.eps

variable (h : Refs A x0 x1 x2 x3 x8 x4 x5 x6 x7)

theorem inf_top : Ideal.ofBits .f32 0x7F800000#32 = (⊤ : EReal) := by
  show Ideal.ieee 8 23 (0x7F800000#32 : BitVec 32) = _
  unfold Ideal.ieee
  have h2 : ((0x7F800000#32 : BitVec 32).extractLsb' 23 8).toNat = 255 := by decide
  have h3 : ((0x7F800000#32 : BitVec 32).extractLsb' 0 23).toNat = 0 := by decide
  have h1 : ((0x7F800000#32 : BitVec 32).extractLsb' (8 + 23) 1 == 1#1) = false := by decide
  simp only [h1, h2, h3]
  norm_num

/-- The arithmetic of real numbers among the extended ones, and three of the program's constants. -/
theorem rules : (∀ x y : ℝ, (x : EReal) * y = ((x * y : ℝ) : EReal)) ∧ (∀ x y : ℝ, (x : EReal) + y = ((x + y : ℝ) : EReal)) ∧ (∀ x y : ℝ, (x : EReal) - y = ((x - y : ℝ) : EReal))
    ∧ (∀ x : ℝ, -(x : EReal) = ((-x : ℝ) : EReal)) ∧ (∀ x : ℝ, Ideal.exp (x : EReal) = (Real.exp x : EReal)) ∧ Ideal.ofBits .f32 0x43800000#32 = ((256 : ℝ) : EReal)
    ∧ Ideal.ofBits .f32 0x41800000#32 = ((16 : ℝ) : EReal) ∧ Ideal.ofBits .f32 0xBF000000#32 = ((-(1 / 2) : ℝ) : EReal) :=
  ⟨fun x y => (EReal.coe_mul x y).symm, fun x y => (EReal.coe_add x y).symm, fun x y => (EReal.coe_sub x y).symm, fun x => (EReal.coe_neg x).symm, fun _ => Ideal.exp_coe _, Cert.Gla.c256, Cert.Gla.c16, Norm.neghalf⟩

theorem int_zero : (FloatOps.sitofp (F := Ideal) FTy.f32 (0#32) : EReal) = 0 := by
  show (((0#32 : BitVec 32).toInt : ℝ) : EReal) = 0
  simp

include h in
theorem v9_r (i : Fin 2048) (j : Fin 512) : val_main_v9 (F := Ideal) x4 x5 x6 (ix2 i j) = ((A.pre i j : ℝ) : EReal) := by
  pointwise [val_main_v9, val_main_v6, val_main_v7, val_main_v8, val_main_v4, val_main_v5]
  simp only [h.ga, h.wa, h.ba, row_mk, col1_mk, col2_mk, rules, Norm.sum_coe, h.sc, h.eps]
  rfl

include h in
theorem soft_r (i : Fin 2048) (j : Fin 512) : val_main_call0_v1_0 (F := Ideal) x4 x5 x6 (ix2 i j) = ((max (-A.pre i j) 0 + Real.log (1 + Real.exp (-|-A.pre i j|)) : ℝ) : EReal) := by
  pointwise [val_main_call0_v1_0, val_main_call0_call0_v4, val_main_call0_call0_v6, val_main_call0_call0_v11, val_main_call0_call0_v1, val_main_call0_call0_v10, val_main_call0_call0_v9, val_main_call0_call0_v8, val_main_call0_call0_v7, val_main_call0_call0_v3, val_main_call0_call0_v2, val_main_call0_call0_cst, val_main_call0_call0_v0, val_main_call0_call0_v5, val_main_call0_v0]
  rw [v9_r h, ← EReal.coe_neg]
  have habs : (FloatOps.absf (F := Ideal) (φ := .f32) ((-A.pre i j : ℝ) : EReal)) = ((|-A.pre i j| : ℝ) : EReal) := by
    show max _ _ = _
    rw [← EReal.coe_neg]
    exact (EReal.coe_strictMono.monotone.map_max).symm
  have hp : (0 : ℝ) < 1 + Real.exp (-|-A.pre i j|) := by have := Real.exp_pos (-|-A.pre i j|); linarith
  have hm : max ((-A.pre i j : ℝ) : EReal) 0 = ((max (-A.pre i j) 0 : ℝ) : EReal) := by
    rw [← EReal.coe_zero]
    exact (EReal.coe_strictMono.monotone.map_max).symm
  simp only [habs, hm, ← EReal.coe_neg, Ideal.exp_coe, ne_eq, not_true_eq_false, if_false]
  unfold Ideal.log1p
  rw [← EReal.coe_one, ← EReal.coe_add, Ideal.log_coe, if_neg (by linarith), ← EReal.coe_add]

include h in
theorem v12_r (i : Fin 2048) (j : Fin 512) : val_main_v12 (F := Ideal) x4 x5 x6 (ix2 i j) = ((la16 (A.pre i j) : ℝ) : EReal) := by
  pointwise [val_main_v12, val_main_v11, val_main_cst, val_main_v10_0]
  rw [soft_r h, Cert.Gla.c16, Ideal.div_coe (by norm_num), ← EReal.coe_neg, ← EReal.coe_mul, la16_ref]

include h in
theorem v10_1_r (i : Fin 2048) (j : Fin 512) : val_main_v10_1 (F := Ideal) x4 x5 x6 (ix2 i j) = ((1 - Gla.sig (A.pre i j) : ℝ) : EReal) := by
  pointwise [val_main_v10_1, val_main_call0_call0_v21, val_main_call0_call0_v20, val_main_call0_call0_v16, val_main_call0_call0_v19, val_main_call0_call0_v18, val_main_call0_call0_v17, val_main_call0_call0_v15, val_main_call0_call0_v14, val_main_call0_call0_v13, val_main_call0_call0_cst_0, val_main_call0_call0_cst_1, val_main_call0_call0_cst_2, val_main_call0_call0_cst_3, val_main_call0_v0]
  rw [soft_r h, v9_r h]
  rw [inf_top, if_neg (by rw [← EReal.coe_neg]; exact EReal.coe_ne_top _), if_neg (EReal.coe_ne_top _), ← EReal.coe_neg, ← EReal.coe_sub, Ideal.exp_coe, om_ref]

include h in
theorem v18_r (n : Fin 32) (c : Fin 64) (p : Fin 4) (a : Fin 128) : val_main_v18 (F := Ideal) x4 x5 x6 (ix4 n c p a) = (((A.head p.val).la n.val c a : ℝ) : EReal) := by
  pointwise [val_main_v18]
  simp only [v12_r h, row_mk, col1_mk, col2_mk, rules, Norm.sum_coe, h.sc, h.eps]
  try rfl

include h in
theorem v19_r (n : Fin 32) (c : Fin 64) (p : Fin 4) (a : Fin 128) : val_main_v19 (F := Ideal) x4 x5 x6 (ix4 n c p a) = ((∑ c' : Fin 64, if c'.val ≤ c.val then (A.head p.val).la n.val c' a else 0 : ℝ) : EReal) := by
  have h0 : val_main_call1_call0_v0 (F := Ideal) (Shape.Idx.first h_S_) = 0 := by pointwise [val_main_call1_call0_v0, val_main_call1_call0_cst]
  unfold val_main_v19 Host.reduceWindowAdd
  show Ideal.hostReduceWindowAdd _ _ _ _ _ _ (val_main_call1_call0_v0 (F := Ideal) (Shape.Idx.first h_S_)) _ = _
  rw [h0]
  refine (Gla.scan4_before _ _ n c p a).trans ?_
  simp only [v18_r h, ← EReal.coe_zero, ← apply_ite (f := Real.toEReal), Norm.sum_coe]

include h in
theorem v21_r (n : Fin 32) (p : Fin 4) (a : Fin 128) : val_main_v21 (F := Ideal) x4 x5 x6 (ix3 n p a) = (((A.head p.val).lend n.val a : ℝ) : EReal) := by
  pointwise [val_main_v21, val_main_v20]
  simp only [v19_r h, row_mk, col1_mk, col2_mk, rules, Norm.sum_coe, h.sc, h.eps]
  unfold Head.lend
  refine congrArg Real.toEReal (Finset.sum_congr rfl fun c _ => ?_)
  exact if_pos (by have := c.isLt; show c.val ≤ 63; omega)

include h in
theorem v25_r (n : Fin 32) (c : Fin 64) (p : Fin 4) (a : Fin 128) : val_main_v25 (F := Ideal) x4 x5 x6 (ix4 n c p a) = (((A.head p.val).dec n.val c a : ℝ) : EReal) := by
  pointwise [val_main_v25, val_main_v24, val_main_v23, val_main_v22]
  simp only [v21_r h, v19_r h, row_mk, col1_mk, col2_mk, rules, Norm.sum_coe, h.sc, h.eps]
  rfl

include h in
theorem v16_r (n : Fin 32) (c : Fin 64) (p : Fin 4) (a : Fin 128) : val_main_v16 (F := Ideal) x1 (ix4 n c p a) = (((A.head p.val).k n.val c a : ℝ) : EReal) := by
  pointwise [val_main_v16, val_main_v1]
  simp only [h.k, row_mk, col1_mk, col2_mk, rules, Norm.sum_coe, h.sc, h.eps]
  rfl

include h in
theorem v26_r (n : Fin 32) (c : Fin 64) (p : Fin 4) (a : Fin 128) : val_main_v26 (F := Ideal) x1 x4 x5 x6 (ix4 n c p a) = (((A.head p.val).kd n.val c a : ℝ) : EReal) := by
  pointwise [val_main_v26]
  simp only [v16_r h, v25_r h, row_mk, col1_mk, col2_mk, rules, Norm.sum_coe, h.sc, h.eps]
  rfl

include h in
theorem v17_r (n : Fin 32) (c : Fin 64) (p : Fin 4) (b : Fin 256) : val_main_v17 (F := Ideal) x2 (ix4 n c p b) = (((A.head p.val).v n.val c b : ℝ) : EReal) := by
  pointwise [val_main_v17, val_main_v2]
  simp only [h.v, row_mk, col1_mk, col2_mk, rules, Norm.sum_coe, h.sc, h.eps]
  rfl

include h in
theorem v27_r (n : Fin 32) (p : Fin 4) (a : Fin 128) (b : Fin 256) : val_main_v27 (F := Ideal) x1 x2 x4 x5 x6 (ix4 n p a b) = (((A.head p.val).U n.val b a : ℝ) : EReal) := by
  pointwise [val_main_v27]
  simp only [v26_r h, v17_r h, row_mk, col1_mk, col2_mk, rules, Norm.sum_coe, h.sc, h.eps]
  congr 1
  exact Finset.sum_congr rfl fun c _ => mul_comm _ _

include h in
theorem v28_r (n : Fin 32) (p : Fin 4) (a : Fin 128) : val_main_v28 (F := Ideal) x4 x5 x6 (ix3 n p a) = (((A.head p.val).C n.val a : ℝ) : EReal) := by
  have h0 : val_main_call2_call0_v0 (F := Ideal) (Shape.Idx.first h_S_) = 0 := by pointwise [val_main_call2_call0_v0, val_main_call2_call0_cst]
  unfold val_main_v28 Host.reduceWindowAdd
  show Ideal.hostReduceWindowAdd _ _ _ _ _ _ (val_main_call2_call0_v0 (F := Ideal) (Shape.Idx.first h_S_)) _ = _
  rw [h0]
  refine (Gla.scan3_before _ _ n p a).trans ?_
  simp only [v21_r h, ← EReal.coe_zero, ← apply_ite (f := Real.toEReal), Norm.sum_coe]
  congr 1
  have hn := n.isLt
  refine (sum_below (fun m => if m ≤ n.val then (A.head p.val).lend m a else 0) (n.val + 1) (by omega) fun m h1 _ => if_neg (by omega)).trans ?_
  exact Finset.sum_congr rfl fun m hm => if_pos (Nat.lt_succ_iff.mp (Finset.mem_range.mp hm))

include h in
theorem v42_r (n m : Fin 32) (p : Fin 4) (a : Fin 128) : val_main_v42 (F := Ideal) x4 x5 x6 (ix4 n m p a) = ((Real.exp ((A.head p.val).C n.val a - (A.head p.val).C m.val a) : ℝ) : EReal) := by
  pointwise [val_main_v42, val_main_v41, val_main_v40, val_main_v39, val_main_v38, val_main_v37]
  simp only [v28_r h, row_mk, col1_mk, col2_mk, rules, Norm.sum_coe, h.sc, h.eps]

theorem mask (n m : Fin 32) : IntOp.cmpi (w := 32) .sge (BitVec.ofNat 32 n.val) (BitVec.ofNat 32 m.val) = if m.val ≤ n.val then 1#1 else 0#1 := by
  revert n m
  decide +kernel

theorem v43_1_r (n m : Fin 32) (p : Fin 4) (a : Fin 128) : val_main_v43_1 (F := Ideal) (ix4 n m p a) = if m.val ≤ n.val then 1#1 else 0#1 := by
  refine Eq.trans ?_ (mask n m)
  pointwise [val_main_v43_1, val_main_v36, val_main_v35, val_main_v34, val_main_v33, val_main_v32, val_main_v31, val_main_v30, val_main_v29]

include h in
theorem v43_0_r (n m : Fin 32) (p : Fin 4) (a : Fin 128) : val_main_v43_0 (F := Ideal) x4 x5 x6 (ix4 n m p a) = (((if m.val ≤ n.val then Real.exp ((A.head p.val).C n.val a - (A.head p.val).C m.val a) else 0) : ℝ) : EReal) := by
  have h0 : val_main_call3_v2 (F := Ideal) (ix4 n m p a) = 0 := by
    pointwise [val_main_call3_v2, val_main_call3_v0, val_main_cst_1]
    show constant (F := Ideal) S_ .f32 0x00000000#32 ix0 = 0
    pointwise []
  show Scalar.select (val_main_v43_1 (F := Ideal) (ix4 n m p a)) (val_main_v42 (F := Ideal) x4 x5 x6 (ix4 n m p a)) (val_main_call3_v2 (F := Ideal) (ix4 n m p a)) = _
  rw [v43_1_r, v42_r h, h0]
  by_cases hh : m.val ≤ n.val
  · rw [if_pos hh, if_pos hh]
    rfl
  · rw [if_neg hh, if_neg hh]
    rfl

include h in
theorem v15_r (n : Fin 32) (c : Fin 64) (p : Fin 4) (a : Fin 128) : val_main_v15 (F := Ideal) x0 (ix4 n c p a) = (((A.head p.val).qs n.val c a : ℝ) : EReal) := by
  pointwise [val_main_v15, val_main_v13, val_main_v14, val_main_cst_0, val_main_v0]
  simp only [h.q, row_mk, col1_mk, col2_mk, rules, Norm.sum_coe, h.sc, h.eps]
  rfl

include h in
theorem v45_r (n : Fin 32) (p : Fin 4) (a : Fin 128) (b : Fin 256) : val_main_v45 (F := Ideal) x1 x2 x4 x5 x6 (ix4 n p a b) = (((A.head p.val).S (n.val + 1) b a : ℝ) : EReal) := by
  pointwise [val_main_v45, val_main_v44]
  simp only [v27_r h, v43_0_r h, row_mk, col1_mk, col2_mk, rules, Norm.sum_coe, h.sc, h.eps]
  rw [Head.S_mask]

include h in
theorem v47_r (n : Fin 32) (c : Fin 64) (p : Fin 4) (b : Fin 256) : val_main_v47 (F := Ideal) x0 x1 x2 x4 x5 x6 (ix4 n c p b) = (((A.head p.val).o n.val c b : ℝ) : EReal) := by
  pointwise [val_main_v47, val_main_v46]
  simp only [v45_r h, v15_r h, row_mk, col1_mk, col2_mk, rules, Norm.sum_coe, h.sc, h.eps]
  congr 1
  exact Finset.sum_congr rfl fun a _ => mul_comm _ _

/-- Head `p`'s output row `i`, before the norm. -/
def rowHead (A : Args) (p : ℕ) (i : Fin 2048) : Fin 256 → ℝ := (A.head p).o (i.val / 64) ⟨i.val % 64, Nat.mod_lt _ (by decide)⟩
/-- Column `b` of head `p` in row `i`. -/
def at2 (f : Fin 2048 → Fin 1024 → ℝ) (p : Fin 4) (i : Fin 2048) (b : Fin 256) : ℝ := f i (col2 p.val b)

theorem row_of (i : Fin 2048) : row (i.val / 64) ⟨i.val % 64, Nat.mod_lt _ (by decide)⟩ = i := by
  have := i.isLt
  refine Fin.ext ?_
  show (i.val / 64 * 64 + i.val % 64) % 2048 = i.val
  omega
theorem col1_of (j : Fin 512) : col1 (j.val / 128) ⟨j.val % 128, Nat.mod_lt _ (by decide)⟩ = j := by
  have := j.isLt
  refine Fin.ext ?_
  show (j.val / 128 * 128 + j.val % 128) % 512 = j.val
  omega
theorem col2_of (j : Fin 1024) : col2 (j.val / 256) ⟨j.val % 256, Nat.mod_lt _ (by decide)⟩ = j := by
  have := j.isLt
  refine Fin.ext ?_
  show (j.val / 256 * 256 + j.val % 256) % 1024 = j.val
  omega
theorem rowHead_row (p : ℕ) (n : Fin 32) (c : Fin 64) : rowHead A p (row n.val c) = (A.head p).o n.val c := by
  have hn := n.isLt
  have hc := c.isLt
  have h1 : (row n.val c).val = n.val * 64 + c.val := Nat.mod_eq_of_lt (by omega)
  unfold rowHead
  have h2 : (row n.val c).val / 64 = n.val := by omega
  have h3 : (row n.val c).val % 64 = c.val := by omega
  simp only [h2, h3]
theorem at2_gate (p : Fin 4) (i : Fin 2048) : at2 A.gate p i = (A.head p.val).gate (i.val / 64) ⟨i.val % 64, Nat.mod_lt _ (by decide)⟩ := by
  funext b
  show A.gate i _ = A.gate (row _ _) _
  rw [row_of]
theorem at2_dc (p : Fin 4) (i : Fin 2048) : at2 A.dc p i = (A.head p.val).dc (i.val / 64) ⟨i.val % 64, Nat.mod_lt _ (by decide)⟩ := by
  funext b
  show A.dc i _ = A.dc (row _ _) _
  rw [row_of]

include h in
theorem v48_r (i : Fin 2048) (p : Fin 4) (b : Fin 256) : val_main_v48 (F := Ideal) x0 x1 x2 x4 x5 x6 (ix3 i p b) = ((rowHead A p.val i b : ℝ) : EReal) := by
  pointwise [val_main_v48]
  simp only [v47_r h, row_mk, col1_mk, col2_mk, rules, Norm.sum_coe, h.sc, h.eps]
  rfl

include h in
theorem v55_r (i : Fin 2048) (p : Fin 4) (z : Fin 1) : val_main_v55 (F := Ideal) x0 x1 x2 x4 x5 x6 (ix3 i p z) = ((var A.eps (rowHead A p.val i) : ℝ) : EReal) := by
  pointwise [val_main_v55, val_main_v54, val_main_v53, val_main_v52, val_main_v51, val_main_v50, val_main_v49, val_main_cst_2, val_main_cst_3, val_main_cst_4]
  simp only [v48_r h, Ideal.div_coe (show (256 : ℝ) ≠ 0 by norm_num), row_mk, col1_mk, col2_mk, rules, Norm.sum_coe, h.sc, h.eps]
  rfl

include h in
theorem v56_r (i : Fin 2048) (p : Fin 4) (z : Fin 1) : val_main_v56 (F := Ideal) x0 x1 x2 x4 x5 x6 (ix3 i p z) = (((Real.sqrt (var A.eps (rowHead A p.val i)))⁻¹ : ℝ) : EReal) := by
  pointwise [val_main_v56]
  simp only [v55_r h, rsqrt_pos _ (var_pos A.eps h.pos _), row_mk, col1_mk, col2_mk, rules, Norm.sum_coe, h.sc, h.eps]

include h in
theorem v61_r (i : Fin 2048) (p : Fin 4) (b : Fin 256) : val_main_v61 (F := Ideal) x0 x1 x2 x4 x5 x6 (ix3 i p b) = ((oh A.eps (rowHead A p.val i) b : ℝ) : EReal) := by
  pointwise [val_main_v61, val_main_v60]
  simp only [v48_r h, v56_r h, row_mk, col1_mk, col2_mk, rules, Norm.sum_coe, h.sc, h.eps]
  rfl

include h in
theorem v67_2_r (i : Fin 2048) (j : Fin 1024) : val_main_v67_2 (F := Ideal) x3 (ix2 i j) = ((Gla.sig (A.gate i j) : ℝ) : EReal) := by
  pointwise [val_main_v67_2, val_main_call4_v4, val_main_call4_v3, val_main_call4_v2, val_main_call4_v1, val_main_call4_v0, val_main_call4_cst, val_main_call4_cst_0, val_main_v3]
  rw [h.gate, ← zero_sub, sig_coe]

include h in
theorem v62_r (p : Fin 4) (b : Fin 256) : val_main_v62 (F := Ideal) x7 (ix2 p b) = (((A.head p.val).g b : ℝ) : EReal) := by
  pointwise [val_main_v62]
  simp only [h.g, row_mk, col1_mk, col2_mk, rules, Norm.sum_coe, h.sc, h.eps]
  rfl

include h in
theorem v73_r (i : Fin 2048) (p : Fin 4) (b : Fin 256) : val_main_v73 (F := Ideal) x3 x8 (ix3 i p b) = ((dn (at2 A.gate p i) (at2 A.dc p i) b : ℝ) : EReal) := by
  pointwise [val_main_v73, val_main_v71, val_main_v69, val_main_v67_0, val_main_v3]
  simp only [h.gate, h.dc, v67_2_r h, row_mk, col1_mk, col2_mk, rules, Norm.sum_coe, h.sc, h.eps]
  rfl

include h in
theorem v78_r (i : Fin 2048) (p : Fin 4) (b : Fin 256) : val_main_v78 (F := Ideal) x3 x7 x8 (ix3 i p b) = ((dn (at2 A.gate p i) (at2 A.dc p i) b * (A.head p.val).g b : ℝ) : EReal) := by
  pointwise [val_main_v78, val_main_v77, val_main_v63]
  simp only [v73_r h, v62_r h, row_mk, col1_mk, col2_mk, rules, Norm.sum_coe, h.sc, h.eps]

include h in
theorem v94_r (i : Fin 2048) (p : Fin 4) (b : Fin 256) : val_main_v94 (F := Ideal) x0 x1 x2 x3 x4 x5 x6 x7 x8 (ix3 i p b) = ((dO A.eps (A.head p.val).g (rowHead A p.val i) (at2 A.gate p i) (at2 A.dc p i) b : ℝ) : EReal) := by
  pointwise [val_main_v94, val_main_v93, val_main_v92, val_main_v91, val_main_v90, val_main_v89, val_main_v88, val_main_v87, val_main_v86, val_main_v85, val_main_v84, val_main_v83, val_main_v82, val_main_v81, val_main_v59, val_main_v58, val_main_v57, val_main_cst_5, val_main_cst_8, val_main_cst_9, val_main_cst_10]
  simp only [v78_r h, v48_r h, v55_r h, v56_r h, Ideal.div_coe (show (256 : ℝ) ≠ 0 by norm_num), Ideal.div_coe (var_pos A.eps h.pos _).ne', Finset.univ_unique, Finset.sum_singleton, row_mk, col1_mk, col2_mk, rules, Norm.sum_coe, h.sc, h.eps]
  rw [← dO_chain A.eps h.pos]
  congr 1
  ring

include h in
theorem v95_r (n : Fin 32) (c : Fin 64) (p : Fin 4) (b : Fin 256) : val_main_v95 (F := Ideal) x0 x1 x2 x3 x4 x5 x6 x7 x8 (ix4 n c p b) = (((A.head p.val).dol n.val c b : ℝ) : EReal) := by
  pointwise [val_main_v95]
  simp only [v94_r h, row_mk, col1_mk, col2_mk, rules, Norm.sum_coe, h.sc, h.eps]
  rw [rowHead_row]
  rfl

include h in
theorem v98_r (n : Fin 32) (c : Fin 64) (p : Fin 4) (a : Fin 128) : val_main_v98 (F := Ideal) x0 x1 x2 x3 x4 x5 x6 x7 x8 (ix4 n c p a) = ((∑ b, (A.head p.val).dol n.val c b * (A.head p.val).S (n.val + 1) b a : ℝ) : EReal) := by
  pointwise [val_main_v98, val_main_v97, val_main_v96]
  simp only [v95_r h, v45_r h, row_mk, col1_mk, col2_mk, rules, Norm.sum_coe, h.sc, h.eps]

include h in
theorem v137_r (n : Fin 32) (c : Fin 64) (p : Fin 4) (a : Fin 128) : val_main_v137 (F := Ideal) x0 x1 x2 x3 x4 x5 x6 x7 x8 (ix4 n c p a) = (((A.head p.val).dq n.val c a : ℝ) : EReal) := by
  pointwise [val_main_v137, val_main_v136, val_main_cst_18]
  simp only [v98_r h, row_mk, col1_mk, col2_mk, rules, Norm.sum_coe, h.sc, h.eps]
  rfl

include h in
theorem v100_r (n : Fin 32) (p : Fin 4) (a : Fin 128) (b : Fin 256) : val_main_v100 (F := Ideal) x0 x1 x2 x3 x4 x5 x6 x7 x8 (ix4 n p a b) = (((A.head p.val).dS n.val b a : ℝ) : EReal) := by
  pointwise [val_main_v100, val_main_v99, val_main_v96]
  simp only [v95_r h, v15_r h, row_mk, col1_mk, col2_mk, rules, Norm.sum_coe, h.sc, h.eps]
  rfl

include h in
theorem v105_r (m : Fin 32) (p : Fin 4) (a : Fin 128) (b : Fin 256) : val_main_v105 (F := Ideal) x0 x1 x2 x3 x4 x5 x6 x7 x8 (ix4 m p a b) = (((A.head p.val).gt m.val b a : ℝ) : EReal) := by
  pointwise [val_main_v105, val_main_v104, val_main_v101]
  simp only [v100_r h, v43_0_r h, row_mk, col1_mk, col2_mk, rules, Norm.sum_coe, h.sc, h.eps]
  rw [Head.gt_mask]

include h in
theorem v103_r (n m : Fin 32) (p : Fin 4) (a : Fin 128) : val_main_v103 (F := Ideal) x0 x1 x2 x3 x4 x5 x6 x7 x8 (ix4 n m p a) = ((∑ b, (A.head p.val).dS n.val b a * (A.head p.val).U m.val b a : ℝ) : EReal) := by
  pointwise [val_main_v103, val_main_v102, val_main_v101]
  simp only [v100_r h, v27_r h, row_mk, col1_mk, col2_mk, rules, Norm.sum_coe, h.sc, h.eps]

include h in
theorem v107_r (n m : Fin 32) (p : Fin 4) (a : Fin 128) : val_main_v107 (F := Ideal) x0 x1 x2 x3 x4 x5 x6 x7 x8 (ix4 n m p a) = (((A.head p.val).Q n.val m.val a : ℝ) : EReal) := by
  have h0 : val_main_call6_v0 (F := Ideal) (ix4 n m p a) = 0 := by pointwise [val_main_call6_v0, val_main_call6_cst]
  show Scalar.select (val_main_v43_1 (F := Ideal) (ix4 n m p a)) (val_main_v103 (F := Ideal) x0 x1 x2 x3 x4 x5 x6 x7 x8 (ix4 n m p a)) (val_main_call6_v0 (F := Ideal) (ix4 n m p a)) * (val_main_v42 (F := Ideal) x4 x5 x6 (ix4 n m p a) : EReal) = _
  rw [v43_1_r, v42_r h, v103_r h, h0]
  unfold Head.Q
  by_cases hh : m.val ≤ n.val
  · rw [if_pos hh, if_pos hh, EReal.coe_mul]
    rfl
  · rw [if_neg hh, if_neg hh, mul_zero]
    exact zero_mul _

include h in
theorem v115_r (n : Fin 32) (p : Fin 4) (a : Fin 128) : val_main_v115 (F := Ideal) x0 x1 x2 x3 x4 x5 x6 x7 x8 (ix3 n p a) = (((-∑ j : Fin 32, (A.head p.val).Q j.val n.val a) + ∑ j : Fin 32, (A.head p.val).Q n.val j.val a : ℝ) : EReal) := by
  pointwise [val_main_v115, val_main_v114, val_main_v113, val_main_v112, val_main_v111, val_main_v110, val_main_v109, val_main_v108, val_main_cst_11, val_main_cst_12, val_main_cst_13, val_main_cst_14]
  simp only [v107_r h, Finset.univ_unique, Finset.sum_singleton, Finset.sum_neg_distrib, row_mk, col1_mk, col2_mk, rules, Norm.sum_coe, h.sc, h.eps]

include h in
theorem v116_r (n : Fin 32) (p : Fin 4) (a : Fin 128) : val_main_v116 (F := Ideal) x0 x1 x2 x3 x4 x5 x6 x7 x8 (ix3 n p a) = (((∑ b, (A.head p.val).gt n.val b a * (A.head p.val).S n.val b a) * (A.head p.val).al n.val a : ℝ) : EReal) := by
  have h0 : val_main_call7_call0_v0 (F := Ideal) (Shape.Idx.first h_S_) = 0 := by pointwise [val_main_call7_call0_v0, val_main_call7_call0_cst]
  unfold val_main_v116 Host.reduceWindowAdd
  show Ideal.hostReduceWindowAdd _ _ _ _ _ _ (val_main_call7_call0_v0 (F := Ideal) (Shape.Idx.first h_S_)) _ = _
  rw [h0]
  refine (Gla.scan3_after _ _ n p a).trans ?_
  simp only [v115_r h, ← EReal.coe_zero, ← apply_ite (f := Real.toEReal), Norm.sum_coe]
  rw [Head.decay_sum]

include h in
theorem v118_r (n : Fin 32) (c : Fin 64) (p : Fin 4) (b : Fin 256) : val_main_v118 (F := Ideal) x0 x1 x2 x3 x4 x5 x6 x7 x8 (ix4 n c p b) = (((A.head p.val).dv n.val c b : ℝ) : EReal) := by
  pointwise [val_main_v118, val_main_v117]
  simp only [v105_r h, v26_r h, row_mk, col1_mk, col2_mk, rules, Norm.sum_coe, h.sc, h.eps]
  congr 1
  exact Finset.sum_congr rfl fun a _ => mul_comm _ _

include h in
theorem v120_r (n : Fin 32) (c : Fin 64) (p : Fin 4) (a : Fin 128) : val_main_v120 (F := Ideal) x0 x1 x2 x3 x4 x5 x6 x7 x8 (ix4 n c p a) = (((A.head p.val).dkd n.val c a : ℝ) : EReal) := by
  pointwise [val_main_v120, val_main_v119]
  simp only [v105_r h, v17_r h, row_mk, col1_mk, col2_mk, rules, Norm.sum_coe, h.sc, h.eps]
  congr 1
  exact Finset.sum_congr rfl fun a _ => mul_comm _ _

include h in
theorem v122_r (n : Fin 32) (c : Fin 64) (p : Fin 4) (a : Fin 128) : val_main_v122 (F := Ideal) x0 x1 x2 x3 x4 x5 x6 x7 x8 (ix4 n c p a) = (((A.head p.val).dk n.val c a : ℝ) : EReal) := by
  pointwise [val_main_v122]
  simp only [v120_r h, v25_r h, row_mk, col1_mk, col2_mk, rules, Norm.sum_coe, h.sc, h.eps]
  rfl

include h in
theorem v123_r (n : Fin 32) (c : Fin 64) (p : Fin 4) (a : Fin 128) : val_main_v123 (F := Ideal) x0 x1 x2 x3 x4 x5 x6 x7 x8 (ix4 n c p a) = (((A.head p.val).dkd n.val c a * (A.head p.val).kd n.val c a : ℝ) : EReal) := by
  pointwise [val_main_v123, val_main_v121]
  simp only [v120_r h, v16_r h, v25_r h, row_mk, col1_mk, col2_mk, rules, Norm.sum_coe, h.sc, h.eps]
  unfold Head.kd
  congr 1
  ring

include h in
theorem v128_r (n : Fin 32) (p : Fin 4) (a : Fin 128) : val_main_v128 (F := Ideal) x0 x1 x2 x3 x4 x5 x6 x7 x8 (ix3 n p a) = (((∑ b, (A.head p.val).gt n.val b a * (A.head p.val).S n.val b a) * (A.head p.val).al n.val a + ∑ c, (A.head p.val).dkd n.val c a * (A.head p.val).kd n.val c a : ℝ) : EReal) := by
  pointwise [val_main_v128, val_main_v127, val_main_v125, val_main_v124, val_main_cst_15, val_main_cst_16]
  simp only [v123_r h, v116_r h, Finset.univ_unique, Finset.sum_singleton, row_mk, col1_mk, col2_mk, rules, Norm.sum_coe, h.sc, h.eps]

include h in
theorem v131_r (n : Fin 32) (c : Fin 64) (p : Fin 4) (a : Fin 128) : val_main_v131 (F := Ideal) x0 x1 x2 x3 x4 x5 x6 x7 x8 (ix4 n c p a) = ((-((A.head p.val).dkd n.val c a * (A.head p.val).kd n.val c a) + (if c.val = 63 then (∑ b, (A.head p.val).gt n.val b a * (A.head p.val).S n.val b a) * (A.head p.val).al n.val a + ∑ c, (A.head p.val).dkd n.val c a * (A.head p.val).kd n.val c a else 0) : ℝ) : EReal) := by
  pointwise [val_main_v131, val_main_v130, val_main_v129, val_main_v126, val_main_cst_17]
  simp only [v123_r h, v128_r h, row_mk, col1_mk, col2_mk, rules, Norm.sum_coe, h.sc, h.eps]
  by_cases hc : c.val = 63
  · rw [dif_pos (by omega), if_pos hc, ← EReal.coe_add]
  · rw [dif_neg (by omega), if_neg hc, add_zero, add_zero]

include h in
theorem v132_r (n : Fin 32) (c : Fin 64) (p : Fin 4) (a : Fin 128) : val_main_v132 (F := Ideal) x0 x1 x2 x3 x4 x5 x6 x7 x8 (ix4 n c p a) = (((A.head p.val).dla n.val c a : ℝ) : EReal) := by
  have h0 : val_main_call8_call0_v0 (F := Ideal) (Shape.Idx.first h_S_) = 0 := by pointwise [val_main_call8_call0_v0, val_main_call8_call0_cst]
  unfold val_main_v132 Host.reduceWindowAdd
  show Ideal.hostReduceWindowAdd _ _ _ _ _ _ (val_main_call8_call0_v0 (F := Ideal) (Shape.Idx.first h_S_)) _ = _
  rw [h0]
  refine (Gla.scan4_after _ _ n c p a).trans ?_
  simp only [v131_r h, ← EReal.coe_zero, ← apply_ite (f := Real.toEReal), Norm.sum_coe]
  congr 1
  exact Head.dla_ref n c a (fun c => (A.head p.val).dkd n.val c a * (A.head p.val).kd n.val c a) ((∑ b, (A.head p.val).gt n.val b a * (A.head p.val).S n.val b a) * (A.head p.val).al n.val a)

include h in
theorem v141_r (i : Fin 2048) (j : Fin 512) : val_main_v141 (F := Ideal) x0 x1 x2 x3 x4 x5 x6 x7 x8 (ix2 i j) = ((A.dpreAt i j : ℝ) : EReal) := by
  pointwise [val_main_v141, val_main_call9_v1, val_main_call9_v0, val_main_v140, val_main_v139, val_main_cst_19, val_main_v133]
  rw [v10_1_r h, v132_r h, Cert.Gla.c16, Ideal.div_coe (by norm_num)]
  simp only [← EReal.coe_mul, ← EReal.coe_neg]
  congr 1
  unfold Args.dpreAt Head.dpre
  show _ = (A.head (j.val / 128)).dla _ _ _ * om16 (A.pre (row _ _) (col1 _ _))
  rw [row_of, col1_of]
  unfold om16
  ring

include h in
theorem v158_r (z : Fin 1) (j : Fin 512) : val_main_v158 (F := Ideal) x0 x1 x2 x3 x4 x5 x6 x7 x8 (ix2 z j) = ((∑ i, A.dpreAt i j : ℝ) : EReal) := by
  pointwise [val_main_v158, val_main_v144, val_main_v143, val_main_v142, val_main_cst_20, val_main_cst_21]
  simp only [v141_r h, Finset.univ_unique, Finset.sum_singleton, row_mk, col1_mk, col2_mk, rules, Norm.sum_coe, h.sc, h.eps]

include h in
theorem v146_r (e : Fin 16) (j : Fin 512) : val_main_v146 (F := Ideal) x0 x1 x2 x3 x4 x5 x6 x7 x8 (ix2 e j) = ((∑ i, A.dpreAt i j * A.ga i e : ℝ) : EReal) := by
  pointwise [val_main_v146, val_main_v145, val_main_v4]
  simp only [v141_r h, h.ga, row_mk, col1_mk, col2_mk, rules, Norm.sum_coe, h.sc, h.eps]

include h in
theorem v147_r (i : Fin 2048) (e : Fin 16) : val_main_v147 (F := Ideal) x0 x1 x2 x3 x4 x5 x6 x7 x8 (ix2 i e) = ((∑ j, A.dpreAt i j * A.wa e j : ℝ) : EReal) := by
  pointwise [val_main_v147, val_main_v5]
  simp only [v141_r h, h.wa, row_mk, col1_mk, col2_mk, rules, Norm.sum_coe, h.sc, h.eps]

include h in
theorem v157_r (e : Fin 128) (j : Fin 512) : val_main_v157 (F := Ideal) x0 x1 x2 x3 x4 x5 x6 x7 x8 (ix2 e j) = ((if h : e.val < 16 then ∑ i, A.dpreAt i j * A.ga i ⟨e.val, h⟩ else 0 : ℝ) : EReal) := by
  pointwise [val_main_v157, val_main_call11_v0, val_main_c_22]
  simp only [v146_r h, row_mk, col1_mk, col2_mk, rules, Norm.sum_coe, h.sc, h.eps]
  by_cases he : e.val < 16
  · rw [dif_pos he, dif_pos he]
  · rw [dif_neg he, dif_neg he, int_zero, EReal.coe_zero]

include h in
theorem v156_r (i : Fin 2048) (e : Fin 128) : val_main_v156 (F := Ideal) x0 x1 x2 x3 x4 x5 x6 x7 x8 (ix2 i e) = ((if h : e.val < 16 then ∑ j, A.dpreAt i j * A.wa ⟨e.val, h⟩ j else 0 : ℝ) : EReal) := by
  pointwise [val_main_v156, val_main_v155, val_main_call10_v0, val_main_c]
  simp only [v147_r h, row_mk, col1_mk, col2_mk, rules, Norm.sum_coe, h.sc, h.eps]
  by_cases he : e.val < 16
  · rw [dif_pos he, dif_pos he]
  · rw [dif_neg he, dif_neg he, int_zero, EReal.coe_zero]

include h in
theorem v159_r (z : Fin 1) (j : Fin 1024) : val_main_v159 (F := Ideal) x0 x1 x2 x3 x4 x5 x6 x8 (ix2 z j) = ((∑ n : Fin 32, (A.head (j.val / 256)).dg n.val ⟨j.val % 256, Nat.mod_lt _ (by decide)⟩ : ℝ) : EReal) := by
  pointwise [val_main_v159, val_main_v80, val_main_v79, val_main_v76, val_main_v75, val_main_v74, val_main_cst_6, val_main_cst_7]
  simp only [v61_r h, v73_r h, Finset.univ_unique, Finset.sum_singleton, row_mk, col1_mk, col2_mk, rules, Norm.sum_coe, h.sc, h.eps]
  congr 1
  refine (Finset.sum_congr rfl fun i _ => ?_).trans (sum_rows fun n c => dn ((A.head (j.val / 256)).gate n c) ((A.head (j.val / 256)).dc n c) ⟨j.val % 256, Nat.mod_lt _ (by decide)⟩ * oh A.eps ((A.head (j.val / 256)).o n c) ⟨j.val % 256, Nat.mod_lt _ (by decide)⟩)
  rw [mul_comm, at2_gate, at2_dc]
  rfl

include h in
theorem v72_r (i : Fin 2048) (j : Fin 1024) : val_main_v72 (F := Ideal) x0 x1 x2 x3 x4 x5 x6 x7 x8 (ix2 i j) = ((dG A.eps (A.head (j.val / 256)).g (rowHead A (j.val / 256) i) (at2 A.gate ⟨j.val / 256, by have := j.isLt; omega⟩ i) (at2 A.dc ⟨j.val / 256, by have := j.isLt; omega⟩ i) ⟨j.val % 256, Nat.mod_lt _ (by decide)⟩ : ℝ) : EReal) := by
  pointwise [val_main_v72, val_main_call5_v2, val_main_call5_v1, val_main_call5_v0, val_main_v67_1, val_main_call4_v7, val_main_call4_v6, val_main_call4_cst_1, val_main_v70, val_main_v69, val_main_v66, val_main_v65, val_main_v64, val_main_v63, val_main_v3]
  simp only [v61_r h, v62_r h, v67_2_r h, h.gate, h.dc]
  simp only [← EReal.coe_one, ← EReal.coe_mul, ← EReal.coe_add, ← EReal.coe_sub]
  congr 1
  unfold dG at2
  simp only [col2_of]
  ring

include h in
theorem v154_r (i : Fin 2048) (j : Fin 3072) : val_main_v154 (F := Ideal) x0 x1 x2 x3 x4 x5 x6 x7 x8 (ix2 i j) = ((dzR (A.head (j.val / 768)) (i.val / 64) ⟨i.val % 64, Nat.mod_lt _ (by decide)⟩ (j.val % 768) : ℝ) : EReal) := by
  pointwise [val_main_v154, val_main_v153, val_main_v152, val_main_v151, val_main_v150, val_main_v149, val_main_v148, val_main_v138, val_main_v135, val_main_v134]
  simp only [v137_r h, v122_r h, v118_r h, v72_r h, row_mk, col1_mk, col2_mk, rules, Norm.sum_coe, h.sc, h.eps]
  have hj := j.isLt
  unfold dzR
  by_cases h1 : j.val % 768 < 128
  · rw [dif_pos h1, dif_pos h1]
  rw [dif_neg h1, dif_neg h1]
  by_cases h2 : j.val % 768 - 128 < 128
  · rw [dif_pos h2, dif_pos h2]
  rw [dif_neg h2, dif_neg h2]
  have e1 : j.val % 768 - 128 - 128 = j.val % 768 - 256 := by omega
  by_cases h3 : j.val % 768 - 256 < 256
  · rw [dif_pos h3, dif_pos (by omega)]
    simp only [e1]
  rw [dif_neg h3, dif_neg (by omega)]
  have e2 : (j.val / 768 * 256 + (j.val % 768 - 128 - 128 - 256)) / 256 = j.val / 768 := by omega
  have e3 : (j.val / 768 * 256 + (j.val % 768 - 128 - 128 - 256)) % 256 = (j.val % 768 - 512) % 256 := by omega
  simp only [e2, e3, at2_gate, at2_dc]
  rfl

end Cert.ReferenceIdeal.Hand
-- ==== Proof.GlaAt.lean ====
module

public import proofs.«01_k».proof.Proof.GlaHost
public import proofs.«01_k».proof.Proof.GlaPoint
public import proofs.«01_k».proof.Proof.GlaRef

@[expose] public section

set_option maxRecDepth 16384

noncomputable section

open Idealize.ShloMosaic Idealize.ShloMosaic.TcCoe

namespace Cert.KernelIdeal.Hand

open Idealize.ShloMosaic.Pipeline Cert.KernelIdeal Cert.KernelIdeal.Gen
open Cert.Gla (Args row col1 col2 la16 om16)

/-! # What the windows hold, on real numbers -/

theorem t_lt (t : Fin cfg0.N) : t.val < 2 := lt_of_lt_of_eq t.isLt (show cfg0.N = 2 from N_0)

theorem idx_facts : ∀ t : Fin cfg0.N, win0_0.index t 0 = 0 ∧ win0_0.index t 1 = t.val ∧ win0_1.index t 0 = 0 ∧ win0_1.index t 1 = 0 ∧ win0_2.index t 0 = 0 ∧ win0_2.index t 1 = t.val ∧ win0_3.index t 0 = 0 ∧ win0_3.index t 1 = t.val ∧ win0_4.index t 0 = 0 ∧ win0_4.index t 1 = t.val ∧ win0_5.index t 0 = 0 ∧ win0_5.index t 1 = t.val ∧ win0_6.index t 0 = 0 ∧ win0_6.index t 1 = t.val ∧ win0_7.index t 0 = 0 ∧ win0_7.index t 1 = 0 ∧ win0_8.index t 0 = 0 ∧ win0_8.index t 1 = t.val ∧ win0_9.index t 0 = 0 ∧ win0_9.index t 1 = t.val ∧ win0_10.index t 0 = 0 ∧ win0_10.index t 1 = t.val :=
  (by decide +kernel : ∀ t : Fin grid0.N, win0_0.index t 0 = 0 ∧ win0_0.index t 1 = t.val ∧ win0_1.index t 0 = 0 ∧ win0_1.index t 1 = 0 ∧ win0_2.index t 0 = 0 ∧ win0_2.index t 1 = t.val ∧ win0_3.index t 0 = 0 ∧ win0_3.index t 1 = t.val ∧ win0_4.index t 0 = 0 ∧ win0_4.index t 1 = t.val ∧ win0_5.index t 0 = 0 ∧ win0_5.index t 1 = t.val ∧ win0_6.index t 0 = 0 ∧ win0_6.index t 1 = t.val ∧ win0_7.index t 0 = 0 ∧ win0_7.index t 1 = 0 ∧ win0_8.index t 0 = 0 ∧ win0_8.index t 1 = t.val ∧ win0_9.index t 0 = 0 ∧ win0_9.index t 1 = t.val ∧ win0_10.index t 0 = 0 ∧ win0_10.index t 1 = t.val)

/-- A sum over the padded columns is a sum over the columns there are. -/
theorem sum_pad (f : Fin 16 → ℝ) : (∑ e : Fin 128, if h : e.val < 16 then f ⟨e.val, h⟩ else 0) = ∑ e, f e := by
  rw [Fin.sum_univ_add (a := 16) (b := 112) (fun e : Fin 128 => if h : e.val < 16 then f ⟨e.val, h⟩ else 0)]
  refine Eq.trans (congrArg₂ (· + ·) (Finset.sum_congr rfl fun e _ => dif_pos (show (Fin.castAdd 112 e).val < 16 from e.isLt))
    (Finset.sum_eq_zero fun e _ => dif_neg (show ¬ (Fin.natAdd 16 e).val < 16 from not_lt.mpr (Nat.le_add_right 16 e.val)))) ?_
  exact add_zero _

variable (m : (ℓ : Loc nD τ sig) → Buf (Elt Ideal) ℓ)

/-- The column of the whole array a head pair's column is. -/
def colT (t : Fin cfg0.N) (j : Fin 256) : Fin 512 := ⟨t.val * 256 + j.val, by have := t_lt t; omega⟩

theorem blk0 (c : Dev nD) (t : Fin cfg0.N) (r : Fin 2048) (k : Fin 1536) :
    x0B m c t (ix2 r k) = (V m c main_v5 : Vec Ideal S2048x3072 .bf16) (ix2 r ⟨t.val * 1536 + k.val, by have := t_lt t; omega⟩) := by
  have ht := t_lt t
  unfold x0B iblk
  rw [View.read_apply]
  show V m c main_v5 _ = _
  congr 1
  funext a
  apply Fin.ext
  match a with
  | ⟨0, _⟩ => show win0_0.index t 0 * 2048 + 1 * r.val = r.val; rw [(idx_facts t).1]; omega
  | ⟨1, _⟩ => show win0_0.index t 1 * 1536 + 1 * k.val = t.val * 1536 + k.val; rw [(idx_facts t).2.1]; omega

theorem blk1 (c : Dev nD) (t : Fin cfg0.N) (r : Fin 2048) (k : Fin 128) :
    x1B m c t (ix2 r k) = (V m c main_v6 : Vec Ideal S2048x128 .bf16) (ix2 r k) := by
  have ht := t_lt t
  unfold x1B iblk
  rw [View.read_apply]
  show V m c main_v6 _ = _
  congr 1
  funext a
  apply Fin.ext
  match a with
  | ⟨0, _⟩ => show win0_1.index t 0 * 2048 + 1 * r.val = r.val; rw [(idx_facts t).2.2.1]; omega
  | ⟨1, _⟩ => show win0_1.index t 1 * 128 + 1 * k.val = k.val; rw [(idx_facts t).2.2.2.1]; omega

theorem blk2 (c : Dev nD) (t : Fin cfg0.N) (r : Fin 128) (k : Fin 256) :
    x2B m c t (ix2 r k) = (V m c main_v7 : Vec Ideal S128x512 .bf16) (ix2 r ⟨t.val * 256 + k.val, by have := t_lt t; omega⟩) := by
  have ht := t_lt t
  unfold x2B iblk
  rw [View.read_apply]
  show V m c main_v7 _ = _
  congr 1
  funext a
  apply Fin.ext
  match a with
  | ⟨0, _⟩ => show win0_2.index t 0 * 128 + 1 * r.val = r.val; rw [(idx_facts t).2.2.2.2.1]; omega
  | ⟨1, _⟩ => show win0_2.index t 1 * 256 + 1 * k.val = t.val * 256 + k.val; rw [(idx_facts t).2.2.2.2.2.1]; omega

theorem blk3 (c : Dev nD) (t : Fin cfg0.N) (r : Fin 1) (k : Fin 256) :
    x3B m c t (ix2 r k) = (V m c main_v8 : Vec Ideal S1x512 .f32) (ix2 r ⟨t.val * 256 + k.val, by have := t_lt t; omega⟩) := by
  have ht := t_lt t
  unfold x3B iblk
  rw [View.read_apply]
  show V m c main_v8 _ = _
  congr 1
  funext a
  apply Fin.ext
  match a with
  | ⟨0, _⟩ => show win0_3.index t 0 * 1 + 1 * r.val = r.val; rw [(idx_facts t).2.2.2.2.2.2.1]; omega
  | ⟨1, _⟩ => show win0_3.index t 1 * 256 + 1 * k.val = t.val * 256 + k.val; rw [(idx_facts t).2.2.2.2.2.2.2.1]; omega

theorem blk4 (c : Dev nD) (t : Fin cfg0.N) (r : Fin 1) (k : Fin 512) :
    x4B m c t (ix2 r k) = (V m c main_v9 : Vec Ideal S1x1024 .f32) (ix2 r ⟨t.val * 512 + k.val, by have := t_lt t; omega⟩) := by
  have ht := t_lt t
  unfold x4B iblk
  rw [View.read_apply]
  show V m c main_v9 _ = _
  congr 1
  funext a
  apply Fin.ext
  match a with
  | ⟨0, _⟩ => show win0_4.index t 0 * 1 + 1 * r.val = r.val; rw [(idx_facts t).2.2.2.2.2.2.2.2.1]; omega
  | ⟨1, _⟩ => show win0_4.index t 1 * 512 + 1 * k.val = t.val * 512 + k.val; rw [(idx_facts t).2.2.2.2.2.2.2.2.2.1]; omega

theorem blk5 (c : Dev nD) (t : Fin cfg0.N) (r : Fin 2048) (k : Fin 512) :
    x5B m c t (ix2 r k) = (V m c main_arg8 : Vec Ideal S2048x1024 .bf16) (ix2 r ⟨t.val * 512 + k.val, by have := t_lt t; omega⟩) := by
  have ht := t_lt t
  unfold x5B iblk
  rw [View.read_apply]
  show V m c main_arg8 _ = _
  congr 1
  funext a
  apply Fin.ext
  match a with
  | ⟨0, _⟩ => show win0_5.index t 0 * 2048 + 1 * r.val = r.val; rw [(idx_facts t).2.2.2.2.2.2.2.2.2.2.1]; omega
  | ⟨1, _⟩ => show win0_5.index t 1 * 512 + 1 * k.val = t.val * 512 + k.val; rw [(idx_facts t).2.2.2.2.2.2.2.2.2.2.2.1]; omega

/-- The arguments on device `c` are the real values `A` tells. -/
def Holds (c : Dev nD) (A : Args) : Prop :=
  Cert.ReferenceIdeal.Hand.Refs A (m ((c : Thread nD τ).loc main_arg0)) (m ((c : Thread nD τ).loc main_arg1)) (m ((c : Thread nD τ).loc main_arg2)) (m ((c : Thread nD τ).loc main_arg3)) (m ((c : Thread nD τ).loc main_arg8)) (m ((c : Thread nD τ).loc main_arg4)) (m ((c : Thread nD τ).loc main_arg5)) (m ((c : Thread nD τ).loc main_arg6)) (m ((c : Thread nD τ).loc main_arg7))

variable {c : Dev nD} {A : Args} (h : Holds m c A)
include h

theorem x1_r (t : Fin cfg0.N) (i : Fin 2048) (e : Fin 128) : x1B m c t (ix2 i e) = ((if h : e.val < 16 then A.ga i ⟨e.val, h⟩ else 0 : ℝ) : EReal) := by
  refine (blk1 m c t i e).trans ((V6_apply m c i e).trans ?_)
  by_cases he : e.val < 16
  · rw [dif_pos he, dif_pos he]; exact h.ga i ⟨e.val, he⟩
  · rw [dif_neg he, dif_neg he, EReal.coe_zero]

theorem x2_r (t : Fin cfg0.N) (e : Fin 128) (j : Fin 256) : x2B m c t (ix2 e j) = ((if h : e.val < 16 then A.wa ⟨e.val, h⟩ (colT t j) else 0 : ℝ) : EReal) := by
  refine (blk2 m c t e j).trans ((V7_apply m c e _).trans ?_)
  by_cases he : e.val < 16
  · rw [dif_pos he, dif_pos he]; exact h.wa ⟨e.val, he⟩ _
  · rw [dif_neg he, dif_neg he, EReal.coe_zero]

theorem x3_r (t : Fin cfg0.N) (j : Fin 256) : x3B m c t (ix2 0 j) = ((A.ba (colT t j) : ℝ) : EReal) :=
  (blk3 m c t 0 j).trans ((V8_apply m c 0 _).trans (h.ba _))

theorem pre_r (t : Fin cfg0.N) (i : Fin 2048) (j : Fin 256) :
    (∑ e : Fin 128, x1B m c t (ix2 i e) * x2B m c t (ix2 e j)) + x3B m c t (ix2 0 j) = ((A.pre i (colT t j) : ℝ) : EReal) := by
  simp only [x1_r m h, x2_r m h, x3_r m h, ← EReal.coe_mul, Norm.sum_coe, ← EReal.coe_add]
  congr 1
  unfold Args.pre
  rw [← sum_pad fun e => A.ga i e * A.wa e (colT t j)]
  refine congrArg (· + _) (Finset.sum_congr rfl fun e _ => ?_)
  by_cases he : e.val < 16
  · rw [dif_pos he, dif_pos he, dif_pos he]
  · rw [dif_neg he, dif_neg he, dif_neg he, mul_zero]

theorem la_r (t : Fin cfg0.N) (i : Fin 2048) (j : Fin 256) : laB m c t (ix2 i j) = ((la16 (A.pre i (colT t j)) : ℝ) : EReal) :=
  pay76_r _ _ _ (fun i j => A.pre i (colT t j)) (pre_r m h t) i j

theorem om_r (t : Fin cfg0.N) (i : Fin 2048) (j : Fin 256) : omB m c t (ix2 i j) = ((om16 (A.pre i (colT t j)) : ℝ) : EReal) :=
  pay77_r _ _ _ (fun i j => A.pre i (colT t j)) (pre_r m h t) i j

theorem cut_row (n : ℕ) (x : Fin 64) (hx : (64 * n + x.val) % 2048 < 2048) : (⟨(64 * n + x.val) % 2048, hx⟩ : Fin 2048) = row n x :=
  Fin.ext (by show (64 * n + x.val) % 2048 = (n * 64 + x.val) % 2048; rw [Nat.mul_comm])

theorem cut_col1 (t : Fin cfg0.N) (p : ℕ) (hp : p < 2) (a : Fin 128) (hx : (128 * p + a.val) % 256 < 256) : colT t ⟨(128 * p + a.val) % 256, hx⟩ = col1 (2 * t.val + p) a :=
  Fin.ext (by have := t_lt t; show t.val * 256 + (128 * p + a.val) % 256 = ((2 * t.val + p) * 128 + a.val) % 512; omega)

theorem zq_r (t : Fin cfg0.N) (p : ℕ) (hp : p < 2) (n : ℕ) (x : Fin 64) (a : Fin 128) :
    x0B m c t (ix2 (⟨(64 * n + x.val) % 2048, Nat.mod_lt _ (by decide)⟩ : Fin 2048) (⟨(768 * p + a.val) % 1536, Nat.mod_lt _ (by decide)⟩ : Fin 1536)) = ((A.q (row n x) (col1 (2 * t.val + p) a) : ℝ) : EReal) := by
  have ht := t_lt t
  have ha := a.isLt
  refine (blk0 m c t _ _).trans ((V5_q m c _ _ (⟨2 * t.val + p, by omega⟩ : Fin 4) a (by show t.val * 1536 + (768 * p + a.val) % 1536 = 768 * (2 * t.val + p) + 0 + a.val; omega)).trans ((h.q _ _).trans ?_))
  refine congrArg Real.toEReal (congrArg₂ A.q (cut_row m h n x _) (Fin.ext ?_))
  show (2 * t.val + p) * 128 + a.val = ((2 * t.val + p) * 128 + a.val) % 512
  omega

theorem zk_r (t : Fin cfg0.N) (p : ℕ) (hp : p < 2) (n : ℕ) (x : Fin 64) (a : Fin 128) :
    x0B m c t (ix2 (⟨(64 * n + x.val) % 2048, Nat.mod_lt _ (by decide)⟩ : Fin 2048) (⟨(768 * p + 128 + a.val) % 1536, Nat.mod_lt _ (by decide)⟩ : Fin 1536)) = ((A.k (row n x) (col1 (2 * t.val + p) a) : ℝ) : EReal) := by
  have ht := t_lt t
  have ha := a.isLt
  refine (blk0 m c t _ _).trans ((V5_k m c _ _ (⟨2 * t.val + p, by omega⟩ : Fin 4) a (by show t.val * 1536 + (768 * p + 128 + a.val) % 1536 = 768 * (2 * t.val + p) + 128 + a.val; omega)).trans ((h.k _ _).trans ?_))
  refine congrArg Real.toEReal (congrArg₂ A.k (cut_row m h n x _) (Fin.ext ?_))
  show (2 * t.val + p) * 128 + a.val = ((2 * t.val + p) * 128 + a.val) % 512
  omega

theorem zv_r (t : Fin cfg0.N) (p : ℕ) (hp : p < 2) (n : ℕ) (x : Fin 64) (a : Fin 256) :
    x0B m c t (ix2 (⟨(64 * n + x.val) % 2048, Nat.mod_lt _ (by decide)⟩ : Fin 2048) (⟨(768 * p + 256 + a.val) % 1536, Nat.mod_lt _ (by decide)⟩ : Fin 1536)) = ((A.v (row n x) (col2 (2 * t.val + p) a) : ℝ) : EReal) := by
  have ht := t_lt t
  have ha := a.isLt
  refine (blk0 m c t _ _).trans ((V5_v m c _ _ (⟨2 * t.val + p, by omega⟩ : Fin 4) a (by show t.val * 1536 + (768 * p + 256 + a.val) % 1536 = 768 * (2 * t.val + p) + 256 + a.val; omega)).trans ((h.v _ _).trans ?_))
  refine congrArg Real.toEReal (congrArg₂ A.v (cut_row m h n x _) (Fin.ext ?_))
  show (2 * t.val + p) * 256 + a.val = ((2 * t.val + p) * 256 + a.val) % 1024
  omega

theorem zgate_r (t : Fin cfg0.N) (p : ℕ) (hp : p < 2) (n : ℕ) (x : Fin 64) (a : Fin 256) :
    x0B m c t (ix2 (⟨(64 * n + x.val) % 2048, Nat.mod_lt _ (by decide)⟩ : Fin 2048) (⟨(768 * p + 512 + a.val) % 1536, Nat.mod_lt _ (by decide)⟩ : Fin 1536)) = ((A.gate (row n x) (col2 (2 * t.val + p) a) : ℝ) : EReal) := by
  have ht := t_lt t
  have ha := a.isLt
  refine (blk0 m c t _ _).trans ((V5_gate m c _ _ (⟨2 * t.val + p, by omega⟩ : Fin 4) a (by show t.val * 1536 + (768 * p + 512 + a.val) % 1536 = 768 * (2 * t.val + p) + 512 + a.val; omega)).trans ((h.gate _ _).trans ?_))
  refine congrArg Real.toEReal (congrArg₂ A.gate (cut_row m h n x _) (Fin.ext ?_))
  show (2 * t.val + p) * 256 + a.val = ((2 * t.val + p) * 256 + a.val) % 1024
  omega

theorem xdc_r (t : Fin cfg0.N) (p : ℕ) (hp : p < 2) (n : ℕ) (x : Fin 64) (b : Fin 256) :
    x5B m c t (ix2 (⟨(64 * n + x.val) % 2048, Nat.mod_lt _ (by decide)⟩ : Fin 2048) (⟨(256 * p + b.val) % 512, Nat.mod_lt _ (by decide)⟩ : Fin 512)) = ((A.dc (row n x) (col2 (2 * t.val + p) b) : ℝ) : EReal) := by
  have ht := t_lt t
  refine (blk5 m c t _ _).trans ((congrFun (V_main_arg8 m c) _).trans ((h.dc _ _).trans ?_))
  refine congrArg Real.toEReal (congrArg₂ A.dc (cut_row m h n x _) (Fin.ext ?_))
  show t.val * 512 + (256 * p + b.val) % 512 = ((2 * t.val + p) * 256 + b.val) % 1024
  omega

theorem xg_r (t : Fin cfg0.N) (p : ℕ) (hp : p < 2) (b : Fin 256) (z : Fin 1) :
    x4B m c t (ix2 z (⟨(256 * p + b.val) % 512, Nat.mod_lt _ (by decide)⟩ : Fin 512)) = ((A.g (col2 (2 * t.val + p) b) : ℝ) : EReal) := by
  have ht := t_lt t
  refine (blk4 m c t _ _).trans ((V9_apply m c _ _).trans ((h.g _).trans ?_))
  refine congrArg Real.toEReal (congrArg A.g (Fin.ext ?_))
  show t.val * 512 + (256 * p + b.val) % 512 = ((2 * t.val + p) * 256 + b.val) % 1024
  omega

/-- At every grid point the chunks hold the two heads' real values. -/
theorem reals_at (t : Fin cfg0.N) : ∀ p < 2, ∀ n < 32, Reals (A.head (2 * t.val + p)) n (chunkAt (x0B m c t) (laB m c t) (omB m c t) (x4B m c t) (x5B m c t) p n) := by
  intro p hp n hn
  exact {
    la := fun x a => (la_r m h t _ _).trans (congrArg Real.toEReal (congrArg la16 (congrArg₂ A.pre (cut_row m h n x _) (cut_col1 m h t p hp a _))))
    om := fun x a => (om_r m h t _ _).trans (congrArg Real.toEReal (congrArg om16 (congrArg₂ A.pre (cut_row m h n x _) (cut_col1 m h t p hp a _))))
    q := fun x a => zq_r m h t p hp n x a
    k := fun x a => zk_r m h t p hp n x a
    v := fun x b => zv_r m h t p hp n x b
    gate := fun x b => zgate_r m h t p hp n x b
    dc := fun x b => xdc_r m h t p hp n x b
    g := fun b => xg_r m h t p hp b _
    sc := h.sc
    eps := h.eps
    pos := h.pos }

theorem dpreB_r (t : Fin cfg0.N) (i : Fin 2048) (j : Fin 256) : dpreB m c t (ix2 i j) = ((A.dpreAt i (colT t j) : ℝ) : EReal) := by
  have ht := t_lt t
  refine (dpre_eq (reals_at m h t) i j).trans (congrArg Real.toEReal ?_)
  unfold Args.dpreAt
  have h1 : (colT t j).val / 128 = 2 * t.val + j.val / 128 := by show (t.val * 256 + j.val) / 128 = _; omega
  have h2 : (colT t j).val % 128 = j.val % 128 := by show (t.val * 256 + j.val) % 128 = _; omega
  simp only [h1, h2]

end Cert.KernelIdeal.Hand

end
-- ==== Proof.GlaFinal.lean ====
module

public import proofs.«01_k».proof.Defs
public import proofs.«01_k».proof.Proof.GlaAt
public import proofs.«01_k».proof.Proof.Frames
public import proofs.«01_k».proof.Proof.Gen.Pre_finite
public import Idealize.ShloMosaic.Lib.Pipeline.ValueKit.Acc
public import Idealize.ShloMosaic.Lib.Pipeline.Value
public import Idealize.ShloMosaic.Lib.Pointwise
public import Idealize.ShloMosaic.Lib.Quiescent

@[expose] public section

set_option maxRecDepth 16384

noncomputable section

open Idealize.ShloMosaic Idealize.ShloMosaic.TcCoe

namespace Cert.KernelIdeal.Hand

open Idealize.ShloMosaic.Pipeline Idealize.SL.Sem Cert.KernelIdeal Cert.KernelIdeal.Gen
open Cert.Gla (Args row col1 col2 la16 om16)

/-! # The recurrence's gradient: the kernel's results are the reference's -/

theorem pay1_apply (x : Vec Ideal S2048x256 .f32) (z : Fin 1) (j : Fin 256) : k0_pay1 x (ix2 z j) = ∑ i : Fin 2048, x (ix2 i j) := by
  pointwise [k0_pay1]

theorem pay2_apply (x : Vec Ideal S2048x256 .f32) (y : Vec Ideal S2048x128 .bf16) (e : Fin 128) (j : Fin 256) :
    k0_pay2 (k0_pay92 x) y (ix2 e j) = ∑ i : Fin 2048, y (ix2 i e) * x (ix2 i j) := by
  pointwise [k0_pay2, k0_pay92]

theorem pay4_apply (x : Vec Ideal S2048x256 .f32) (w : Vec Ideal S128x256 .bf16) (i : Fin 2048) (e : Fin 128) :
    k0_pay4 (k0_pay92 x) w (ix2 i e) = ∑ j : Fin 256, x (ix2 i j) * w (ix2 e j) := by
  pointwise [k0_pay4, k0_pay3, k0_pay92]

theorem pay5_apply (x : Vec Ideal S2048x256 .f32) (w : Vec Ideal S128x256 .bf16) (a : Vec Ideal S2048x128 .f32) (i : Fin 2048) (e : Fin 128) :
    k0_pay6 (k0_pay5 (k0_pay92 x) w a) (ix2 i e) = a (ix2 i e) + ∑ j : Fin 256, x (ix2 i j) * w (ix2 e j) := by
  pointwise [k0_pay6, k0_pay5, k0_pay3, k0_pay92]

/-- The columns of both head pairs are all the columns. -/
theorem sum_cols (f : Fin 512 → ℝ) : (∑ j : Fin 256, f (colT t0_0 j)) + ∑ j : Fin 256, f (colT t0_1 j) = ∑ j, f j := by
  rw [Fin.sum_univ_add (a := 256) (b := 256) f]
  refine congrArg₂ (· + ·) (Finset.sum_congr rfl fun j _ => congrArg f (Fin.ext ?_)) (Finset.sum_congr rfl fun j _ => congrArg f (Fin.ext ?_))
  · show 0 * 256 + j.val = j.val; omega
  · show 1 * 256 + j.val = 256 + j.val; omega

variable (m : (ℓ : Loc nD τ sig) → Buf (Elt Ideal) ℓ)

section
variable {c : Dev nD} {A : Args} (h : Holds m c A)
include h

theorem out6_r (t : Fin cfg0.N) (i : Fin 2048) (j : Fin 1536) (j' : Fin 3072) (hj : j'.val = t.val * 1536 + j.val) :
    dz (x0B m c t) (laB m c t) (omB m c t) (x4B m c t) (x5B m c t) (ix2 i j) = ((Gla.dzR (A.head (j'.val / 768)) (i.val / 64) ⟨i.val % 64, Nat.mod_lt _ (by decide)⟩ (j'.val % 768) : ℝ) : EReal) := by
  refine (dz_eq (reals_at m h t) i j).trans (congrArg Real.toEReal ?_)
  have h1 : j'.val / 768 = 2 * t.val + j.val / 768 := by omega
  have h2 : j'.val % 768 = j.val % 768 := by omega
  rw [h1, h2]

theorem out10_r (t : Fin cfg0.N) (z : Fin 1) (j : Fin 512) (j' : Fin 1024) (hj : j'.val = t.val * 512 + j.val) :
    dgsum (x0B m c t) (laB m c t) (omB m c t) (x4B m c t) (x5B m c t) 32 (ix2 z j) = ((∑ n : Fin 32, (A.head (j'.val / 256)).dg n.val ⟨j'.val % 256, Nat.mod_lt _ (by decide)⟩ : ℝ) : EReal) := by
  obtain rfl : z = 0 := Subsingleton.elim _ _
  refine (dgsum_r32 (reals_at m h t) j).trans (congrArg Real.toEReal ?_)
  have h1 : j'.val / 256 = 2 * t.val + j.val / 256 := by omega
  have h2 : j'.val % 256 = j.val % 256 := by omega
  simp only [h1, h2]

theorem out9_r (t : Fin cfg0.N) (z : Fin 1) (j : Fin 256) : k0_pay1 (dpreB m c t) (ix2 z j) = ((∑ i, A.dpreAt i (colT t j) : ℝ) : EReal) := by
  rw [pay1_apply]
  simp only [dpreB_r m h, Norm.sum_coe]

theorem out8_r (t : Fin cfg0.N) (e : Fin 128) (j : Fin 256) :
    k0_pay2 (k0_pay92 (dpreB m c t)) (x1B m c t) (ix2 e j) = ((if h : e.val < 16 then ∑ i, A.dpreAt i (colT t j) * A.ga i ⟨e.val, h⟩ else 0 : ℝ) : EReal) := by
  rw [pay2_apply]
  simp only [dpreB_r m h, x1_r m h, ← EReal.coe_mul, Norm.sum_coe]
  by_cases he : e.val < 16
  · simp only [dif_pos he]
    exact congrArg Real.toEReal (Finset.sum_congr rfl fun i _ => mul_comm _ _)
  · simp only [dif_neg he, zero_mul, Finset.sum_const_zero]

theorem out7_r (i : Fin 2048) (e : Fin 128) :
    k0_pay6 (acc1B m c) (ix2 i e) = ((if h : e.val < 16 then ∑ j, A.dpreAt i j * A.wa ⟨e.val, h⟩ j else 0 : ℝ) : EReal) := by
  unfold acc1B acc0B
  rw [pay5_apply, pay4_apply]
  simp only [dpreB_r m h, x2_r m h, ← EReal.coe_mul, Norm.sum_coe, ← EReal.coe_add]
  by_cases he : e.val < 16
  · simp only [dif_pos he]
    exact congrArg Real.toEReal (sum_cols fun j => A.dpreAt i j * A.wa ⟨e.val, he⟩ j)
  · simp only [dif_neg he, mul_zero, Finset.sum_const_zero, add_zero]

end

/-- The gradient of the packed projections. -/
def G6 (A : Args) (c : Dev nD) : Buf (Elt Ideal) ((c : Thread nD τ).loc main_v10_0) :=
  fun i => ((Gla.dzR (A.head ((i 1).val / 768)) ((i 0).val / 64) ⟨(i 0).val % 64, Nat.mod_lt _ (by decide)⟩ ((i 1).val % 768) : ℝ) : EReal)

theorem flushed6_eq {c : Dev nD} {A : Args} (h : Holds m c A) (t : Fin cfg0.N) : (dats m 0 c).flushed 6 t = ((cfg0.win 6).blk t).view.read (Elt Ideal) (G6 A c) := by
  have ht := t_lt t
  show (cfg0.win 6).cut (grid0.coords t) (dz (x0B m c t) (laB m c t) (omB m c t) (x4B m c t) (x5B m c t)) = _
  funext y
  rw [View.read_apply]
  have hy : y = ix2 (⟨(y 0).val, (y 0).isLt⟩ : Fin 2048) (⟨(y 1).val, (y 1).isLt⟩ : Fin 1536) := by
    funext a; match a with
    | ⟨0, _⟩ => rfl
    | ⟨1, _⟩ => rfl
  refine (congrArg (dz (x0B m c t) (laB m c t) (omB m c t) (x4B m c t) (x5B m c t)) hy).trans ((out6_r m h t (⟨(y 0).val, (y 0).isLt⟩ : Fin 2048) (⟨(y 1).val, (y 1).isLt⟩ : Fin 1536) (⟨t.val * 1536 + (y 1).val, by have : (y 1).val < 1536 := (y 1).isLt; omega⟩ : Fin 3072) rfl).trans ?_)
  show G6 A c (ix2 (⟨(y 0).val, (y 0).isLt⟩ : Fin 2048) (⟨t.val * 1536 + (y 1).val, by have : (y 1).val < 1536 := (y 1).isLt; omega⟩ : Fin 3072)) = _
  refine congrArg (G6 A c) (funext fun a => Fin.ext ?_)
  match a with
  | ⟨0, _⟩ => show (y 0).val = win0_6.index t 0 * 2048 + 1 * (y 0).val; rw [(idx_facts t).2.2.2.2.2.2.2.2.2.2.2.2.1]; omega
  | ⟨1, _⟩ => show t.val * 1536 + (y 1).val = win0_6.index t 1 * 1536 + 1 * (y 1).val; rw [(idx_facts t).2.2.2.2.2.2.2.2.2.2.2.2.2.1]; omega

theorem final6 {c : Dev nD} {A : Args} (h : Holds m c A) : (dats m 0 c).arrAt 6 cfg0.N = G6 A c :=
  (dats m 0 c).arrAt_eq_of_cover 6 (G6 A c) (fun t _ => flushed6_eq m h t) fun i => by
    have h0 : (i 0 : Nat) < 2048 := (i 0).isLt
    have h1 : (i 1 : Nat) < 3072 := (i 1).isLt
    have ht : (i 1 : Nat) / 1536 < cfg0.N := lt_of_lt_of_eq (by omega : (i 1 : Nat) / 1536 < 2) (show cfg0.N = 2 from N_0).symm
    generalize htt : (⟨(i 1 : Nat) / 1536, ht⟩ : Fin cfg0.N) = t
    have e0 : t.val = (i 1 : Nat) / 1536 := by rw [← htt]
    refine ⟨t, flush0_6 t, ?_⟩
    show i ∈ ((View.whole main_v10_0).slice (win0_6.rect t)).set
    rw [View.set_slice_whole, Rect.mem_set_unit]
    intro a
    match a with
    | ⟨0, _⟩ => show win0_6.index t 0 * 2048 ≤ (i 0 : Nat) ∧ (i 0 : Nat) < win0_6.index t 0 * 2048 + 2048
                rw [(idx_facts t).2.2.2.2.2.2.2.2.2.2.2.2.1]; omega
    | ⟨1, _⟩ => show win0_6.index t 1 * 1536 ≤ (i 1 : Nat) ∧ (i 1 : Nat) < win0_6.index t 1 * 1536 + 1536
                rw [(idx_facts t).2.2.2.2.2.2.2.2.2.2.2.2.2.1]; omega

/-- The gradient of the gate's input. -/
def G7 (A : Args) (c : Dev nD) : Buf (Elt Ideal) ((c : Thread nD τ).loc main_v10_1) :=
  fun i => ((if h : (i 1).val < 16 then ∑ j, A.dpreAt ⟨(i 0).val, (i 0).isLt⟩ j * A.wa ⟨(i 1).val, h⟩ j else 0 : ℝ) : EReal)

theorem flushed7_eq {c : Dev nD} {A : Args} (h : Holds m c A) (t : Fin cfg0.N) : (dats m 0 c).flushed 7 t = ((cfg0.win 7).blk t).view.read (Elt Ideal) (G7 A c) := by
  have ht := t_lt t
  show (cfg0.win 7).cut (grid0.coords t) (k0_pay6 (acc1B m c)) = _
  funext y
  rw [View.read_apply]
  have hy : y = ix2 (⟨(y 0).val, (y 0).isLt⟩ : Fin 2048) (⟨(y 1).val, (y 1).isLt⟩ : Fin 128) := by
    funext a; match a with
    | ⟨0, _⟩ => rfl
    | ⟨1, _⟩ => rfl
  refine (congrArg (k0_pay6 (acc1B m c)) hy).trans ((out7_r m h (⟨(y 0).val, (y 0).isLt⟩ : Fin 2048) (⟨(y 1).val, (y 1).isLt⟩ : Fin 128)).trans ?_)
  show G7 A c (ix2 (⟨(y 0).val, (y 0).isLt⟩ : Fin 2048) (⟨(y 1).val, by have : (y 1).val < 128 := (y 1).isLt; omega⟩ : Fin 128)) = _
  refine congrArg (G7 A c) (funext fun a => Fin.ext ?_)
  match a with
  | ⟨0, _⟩ => show (y 0).val = win0_7.index t 0 * 2048 + 1 * (y 0).val; rw [(idx_facts t).2.2.2.2.2.2.2.2.2.2.2.2.2.2.1]; omega
  | ⟨1, _⟩ => show (y 1).val = win0_7.index t 1 * 128 + 1 * (y 1).val; rw [(idx_facts t).2.2.2.2.2.2.2.2.2.2.2.2.2.2.2.1]; omega

theorem final7 {c : Dev nD} {A : Args} (h : Holds m c A) : (dats m 0 c).arrAt 7 cfg0.N = G7 A c :=
  (dats m 0 c).arrAt_eq_of_cover 7 (G7 A c) (fun t _ => flushed7_eq m h t) fun i => by
    have h0 : (i 0 : Nat) < 2048 := (i 0).isLt
    have h1 : (i 1 : Nat) < 128 := (i 1).isLt
    have ht : 1 < cfg0.N := lt_of_lt_of_eq (by omega : 1 < 2) (show cfg0.N = 2 from N_0).symm
    generalize htt : (⟨1, ht⟩ : Fin cfg0.N) = t
    have e0 : t.val = 1 := by rw [← htt]
    refine ⟨t, (flush0_7 t).mpr (by omega), ?_⟩
    show i ∈ ((View.whole main_v10_1).slice (win0_7.rect t)).set
    rw [View.set_slice_whole, Rect.mem_set_unit]
    intro a
    match a with
    | ⟨0, _⟩ => show win0_7.index t 0 * 2048 ≤ (i 0 : Nat) ∧ (i 0 : Nat) < win0_7.index t 0 * 2048 + 2048
                rw [(idx_facts t).2.2.2.2.2.2.2.2.2.2.2.2.2.2.1]; omega
    | ⟨1, _⟩ => show win0_7.index t 1 * 128 ≤ (i 1 : Nat) ∧ (i 1 : Nat) < win0_7.index t 1 * 128 + 128
                rw [(idx_facts t).2.2.2.2.2.2.2.2.2.2.2.2.2.2.2.1]; omega

/-- The gradient of the gate's weights. -/
def G8 (A : Args) (c : Dev nD) : Buf (Elt Ideal) ((c : Thread nD τ).loc main_v10_2) :=
  fun i => ((if h : (i 0).val < 16 then ∑ r, A.dpreAt r ⟨(i 1).val, (i 1).isLt⟩ * A.ga r ⟨(i 0).val, h⟩ else 0 : ℝ) : EReal)

theorem flushed8_eq {c : Dev nD} {A : Args} (h : Holds m c A) (t : Fin cfg0.N) : (dats m 0 c).flushed 8 t = ((cfg0.win 8).blk t).view.read (Elt Ideal) (G8 A c) := by
  have ht := t_lt t
  show (cfg0.win 8).cut (grid0.coords t) (k0_pay2 (k0_pay92 (dpreB m c t)) (x1B m c t)) = _
  funext y
  rw [View.read_apply]
  have hy : y = ix2 (⟨(y 0).val, (y 0).isLt⟩ : Fin 128) (⟨(y 1).val, (y 1).isLt⟩ : Fin 256) := by
    funext a; match a with
    | ⟨0, _⟩ => rfl
    | ⟨1, _⟩ => rfl
  refine (congrArg (k0_pay2 (k0_pay92 (dpreB m c t)) (x1B m c t)) hy).trans ((out8_r m h t (⟨(y 0).val, (y 0).isLt⟩ : Fin 128) (⟨(y 1).val, (y 1).isLt⟩ : Fin 256)).trans ?_)
  show G8 A c (ix2 (⟨(y 0).val, (y 0).isLt⟩ : Fin 128) (⟨t.val * 256 + (y 1).val, by have : (y 1).val < 256 := (y 1).isLt; omega⟩ : Fin 512)) = _
  refine congrArg (G8 A c) (funext fun a => Fin.ext ?_)
  match a with
  | ⟨0, _⟩ => show (y 0).val = win0_8.index t 0 * 128 + 1 * (y 0).val; rw [(idx_facts t).2.2.2.2.2.2.2.2.2.2.2.2.2.2.2.2.1]; omega
  | ⟨1, _⟩ => show t.val * 256 + (y 1).val = win0_8.index t 1 * 256 + 1 * (y 1).val; rw [(idx_facts t).2.2.2.2.2.2.2.2.2.2.2.2.2.2.2.2.2.1]; omega

theorem final8 {c : Dev nD} {A : Args} (h : Holds m c A) : (dats m 0 c).arrAt 8 cfg0.N = G8 A c :=
  (dats m 0 c).arrAt_eq_of_cover 8 (G8 A c) (fun t _ => flushed8_eq m h t) fun i => by
    have h0 : (i 0 : Nat) < 128 := (i 0).isLt
    have h1 : (i 1 : Nat) < 512 := (i 1).isLt
    have ht : (i 1 : Nat) / 256 < cfg0.N := lt_of_lt_of_eq (by omega : (i 1 : Nat) / 256 < 2) (show cfg0.N = 2 from N_0).symm
    generalize htt : (⟨(i 1 : Nat) / 256, ht⟩ : Fin cfg0.N) = t
    have e0 : t.val = (i 1 : Nat) / 256 := by rw [← htt]
    refine ⟨t, flush0_8 t, ?_⟩
    show i ∈ ((View.whole main_v10_2).slice (win0_8.rect t)).set
    rw [View.set_slice_whole, Rect.mem_set_unit]
    intro a
    match a with
    | ⟨0, _⟩ => show win0_8.index t 0 * 128 ≤ (i 0 : Nat) ∧ (i 0 : Nat) < win0_8.index t 0 * 128 + 128
                rw [(idx_facts t).2.2.2.2.2.2.2.2.2.2.2.2.2.2.2.2.1]; omega
    | ⟨1, _⟩ => show win0_8.index t 1 * 256 ≤ (i 1 : Nat) ∧ (i 1 : Nat) < win0_8.index t 1 * 256 + 256
                rw [(idx_facts t).2.2.2.2.2.2.2.2.2.2.2.2.2.2.2.2.2.1]; omega

/-- The gradient of the gate's bias. -/
def G9 (A : Args) (c : Dev nD) : Buf (Elt Ideal) ((c : Thread nD τ).loc main_v10_3) :=
  fun i => ((∑ r, A.dpreAt r ⟨(i 1).val, (i 1).isLt⟩ : ℝ) : EReal)

theorem flushed9_eq {c : Dev nD} {A : Args} (h : Holds m c A) (t : Fin cfg0.N) : (dats m 0 c).flushed 9 t = ((cfg0.win 9).blk t).view.read (Elt Ideal) (G9 A c) := by
  have ht := t_lt t
  show (cfg0.win 9).cut (grid0.coords t) (k0_pay1 (dpreB m c t)) = _
  funext y
  rw [View.read_apply]
  have hy : y = ix2 (⟨(y 0).val, (y 0).isLt⟩ : Fin 1) (⟨(y 1).val, (y 1).isLt⟩ : Fin 256) := by
    funext a; match a with
    | ⟨0, _⟩ => rfl
    | ⟨1, _⟩ => rfl
  refine (congrArg (k0_pay1 (dpreB m c t)) hy).trans ((out9_r m h t (⟨(y 0).val, (y 0).isLt⟩ : Fin 1) (⟨(y 1).val, (y 1).isLt⟩ : Fin 256)).trans ?_)
  show G9 A c (ix2 (⟨(y 0).val, (y 0).isLt⟩ : Fin 1) (⟨t.val * 256 + (y 1).val, by have : (y 1).val < 256 := (y 1).isLt; omega⟩ : Fin 512)) = _
  refine congrArg (G9 A c) (funext fun a => Fin.ext ?_)
  match a with
  | ⟨0, _⟩ => show (y 0).val = win0_9.index t 0 * 1 + 1 * (y 0).val; rw [(idx_facts t).2.2.2.2.2.2.2.2.2.2.2.2.2.2.2.2.2.2.1]; omega
  | ⟨1, _⟩ => show t.val * 256 + (y 1).val = win0_9.index t 1 * 256 + 1 * (y 1).val; rw [(idx_facts t).2.2.2.2.2.2.2.2.2.2.2.2.2.2.2.2.2.2.2.1]; omega

theorem final9 {c : Dev nD} {A : Args} (h : Holds m c A) : (dats m 0 c).arrAt 9 cfg0.N = G9 A c :=
  (dats m 0 c).arrAt_eq_of_cover 9 (G9 A c) (fun t _ => flushed9_eq m h t) fun i => by
    have h0 : (i 0 : Nat) < 1 := (i 0).isLt
    have h1 : (i 1 : Nat) < 512 := (i 1).isLt
    have ht : (i 1 : Nat) / 256 < cfg0.N := lt_of_lt_of_eq (by omega : (i 1 : Nat) / 256 < 2) (show cfg0.N = 2 from N_0).symm
    generalize htt : (⟨(i 1 : Nat) / 256, ht⟩ : Fin cfg0.N) = t
    have e0 : t.val = (i 1 : Nat) / 256 := by rw [← htt]
    refine ⟨t, flush0_9 t, ?_⟩
    show i ∈ ((View.whole main_v10_3).slice (win0_9.rect t)).set
    rw [View.set_slice_whole, Rect.mem_set_unit]
    intro a
    match a with
    | ⟨0, _⟩ => show win0_9.index t 0 * 1 ≤ (i 0 : Nat) ∧ (i 0 : Nat) < win0_9.index t 0 * 1 + 1
                rw [(idx_facts t).2.2.2.2.2.2.2.2.2.2.2.2.2.2.2.2.2.2.1]; omega
    | ⟨1, _⟩ => show win0_9.index t 1 * 256 ≤ (i 1 : Nat) ∧ (i 1 : Nat) < win0_9.index t 1 * 256 + 256
                rw [(idx_facts t).2.2.2.2.2.2.2.2.2.2.2.2.2.2.2.2.2.2.2.1]; omega

/-- The gradient of the output norm's scale. -/
def G10 (A : Args) (c : Dev nD) : Buf (Elt Ideal) ((c : Thread nD τ).loc main_v10_4) :=
  fun i => ((∑ n : Fin 32, (A.head ((i 1).val / 256)).dg n.val ⟨(i 1).val % 256, Nat.mod_lt _ (by decide)⟩ : ℝ) : EReal)

theorem flushed10_eq {c : Dev nD} {A : Args} (h : Holds m c A) (t : Fin cfg0.N) : (dats m 0 c).flushed 10 t = ((cfg0.win 10).blk t).view.read (Elt Ideal) (G10 A c) := by
  have ht := t_lt t
  show (cfg0.win 10).cut (grid0.coords t) (dgsum (x0B m c t) (laB m c t) (omB m c t) (x4B m c t) (x5B m c t) 32) = _
  funext y
  rw [View.read_apply]
  have hy : y = ix2 (⟨(y 0).val, (y 0).isLt⟩ : Fin 1) (⟨(y 1).val, (y 1).isLt⟩ : Fin 512) := by
    funext a; match a with
    | ⟨0, _⟩ => rfl
    | ⟨1, _⟩ => rfl
  refine (congrArg (dgsum (x0B m c t) (laB m c t) (omB m c t) (x4B m c t) (x5B m c t) 32) hy).trans ((out10_r m h t (⟨(y 0).val, (y 0).isLt⟩ : Fin 1) (⟨(y 1).val, (y 1).isLt⟩ : Fin 512) (⟨t.val * 512 + (y 1).val, by have : (y 1).val < 512 := (y 1).isLt; omega⟩ : Fin 1024) rfl).trans ?_)
  show G10 A c (ix2 (⟨(y 0).val, (y 0).isLt⟩ : Fin 1) (⟨t.val * 512 + (y 1).val, by have : (y 1).val < 512 := (y 1).isLt; omega⟩ : Fin 1024)) = _
  refine congrArg (G10 A c) (funext fun a => Fin.ext ?_)
  match a with
  | ⟨0, _⟩ => show (y 0).val = win0_10.index t 0 * 1 + 1 * (y 0).val; rw [(idx_facts t).2.2.2.2.2.2.2.2.2.2.2.2.2.2.2.2.2.2.2.2.1]; omega
  | ⟨1, _⟩ => show t.val * 512 + (y 1).val = win0_10.index t 1 * 512 + 1 * (y 1).val; rw [(idx_facts t).2.2.2.2.2.2.2.2.2.2.2.2.2.2.2.2.2.2.2.2.2]; omega

theorem final10 {c : Dev nD} {A : Args} (h : Holds m c A) : (dats m 0 c).arrAt 10 cfg0.N = G10 A c :=
  (dats m 0 c).arrAt_eq_of_cover 10 (G10 A c) (fun t _ => flushed10_eq m h t) fun i => by
    have h0 : (i 0 : Nat) < 1 := (i 0).isLt
    have h1 : (i 1 : Nat) < 1024 := (i 1).isLt
    have ht : (i 1 : Nat) / 512 < cfg0.N := lt_of_lt_of_eq (by omega : (i 1 : Nat) / 512 < 2) (show cfg0.N = 2 from N_0).symm
    generalize htt : (⟨(i 1 : Nat) / 512, ht⟩ : Fin cfg0.N) = t
    have e0 : t.val = (i 1 : Nat) / 512 := by rw [← htt]
    refine ⟨t, flush0_10 t, ?_⟩
    show i ∈ ((View.whole main_v10_4).slice (win0_10.rect t)).set
    rw [View.set_slice_whole, Rect.mem_set_unit]
    intro a
    match a with
    | ⟨0, _⟩ => show win0_10.index t 0 * 1 ≤ (i 0 : Nat) ∧ (i 0 : Nat) < win0_10.index t 0 * 1 + 1
                rw [(idx_facts t).2.2.2.2.2.2.2.2.2.2.2.2.2.2.2.2.2.2.2.2.1]; omega
    | ⟨1, _⟩ => show win0_10.index t 1 * 512 ≤ (i 1 : Nat) ∧ (i 1 : Nat) < win0_10.index t 1 * 512 + 512
                rw [(idx_facts t).2.2.2.2.2.2.2.2.2.2.2.2.2.2.2.2.2.2.2.2.2]; omega

/-- Finite arguments are real values. -/
theorem real_args (x0 : Vec Ideal S2048x512 .bf16) (x1 : Vec Ideal S2048x512 .bf16) (x2 : Vec Ideal S2048x1024 .bf16) (x3 : Vec Ideal S2048x1024 .bf16) (x4 : Vec Ideal S2048x16 .bf16) (x5 : Vec Ideal S16x512 .bf16) (x6 : Vec Ideal S512 .f32) (x7 : Vec Ideal S1024 .f32) (x8 : Vec Ideal S2048x1024 .bf16)
    (h0 : ∀ i, ∃ r : ℝ, x0 i = (r : EReal)) (h1 : ∀ i, ∃ r : ℝ, x1 i = (r : EReal)) (h2 : ∀ i, ∃ r : ℝ, x2 i = (r : EReal)) (h3 : ∀ i, ∃ r : ℝ, x3 i = (r : EReal)) (h4 : ∀ i, ∃ r : ℝ, x4 i = (r : EReal)) (h5 : ∀ i, ∃ r : ℝ, x5 i = (r : EReal)) (h6 : ∀ i, ∃ r : ℝ, x6 i = (r : EReal)) (h7 : ∀ i, ∃ r : ℝ, x7 i = (r : EReal)) (h8 : ∀ i, ∃ r : ℝ, x8 i = (r : EReal)) :
    ∃ A : Args, Cert.ReferenceIdeal.Hand.Refs A x0 x1 x2 x3 x8 x4 x5 x6 x7 := by
  obtain ⟨e, he, heq⟩ := Norm.eps
  obtain ⟨s, hs⟩ := Gla.scale
  choose r0 hr0 using h0
  choose r1 hr1 using h1
  choose r2 hr2 using h2
  choose r3 hr3 using h3
  choose r4 hr4 using h4
  choose r5 hr5 using h5
  choose r6 hr6 using h6
  choose r7 hr7 using h7
  choose r8 hr8 using h8
  exact ⟨{ q := fun i j => r0 (ix2 i j), k := fun i j => r1 (ix2 i j), v := fun i j => r2 (ix2 i j), gate := fun i j => r3 (ix2 i j), ga := fun i j => r4 (ix2 i j), wa := fun i j => r5 (ix2 i j), ba := fun j => r6 (ix1 j), g := fun j => r7 (ix1 j), dc := fun i j => r8 (ix2 i j), sc := s, eps := e },
    { q := fun i j => hr0 (ix2 i j), k := fun i j => hr1 (ix2 i j), v := fun i j => hr2 (ix2 i j), gate := fun i j => hr3 (ix2 i j), ga := fun i j => hr4 (ix2 i j), wa := fun i j => hr5 (ix2 i j), ba := fun j => hr6 (ix1 j), g := fun j => hr7 (ix1 j), dc := fun i j => hr8 (ix2 i j), sc := hs, eps := heq, pos := he }⟩

theorem holds_of_finite (hpre : Cert.Pre_KernelIdeal_finite m) (c : Dev nD) : ∃ A : Args, Holds m c A := by
  have hp := hpre c
  exact real_args _ _ _ _ _ _ _ _ _ (fun i => Norm.real_of_olt _ (congrFun hp.1 i)) (fun i => Norm.real_of_olt _ (congrFun hp.2.1 i)) (fun i => Norm.real_of_olt _ (congrFun hp.2.2.1 i)) (fun i => Norm.real_of_olt _ (congrFun hp.2.2.2.1 i)) (fun i => Norm.real_of_olt _ (congrFun hp.2.2.2.2.1 i)) (fun i => Norm.real_of_olt _ (congrFun hp.2.2.2.2.2.1 i)) (fun i => Norm.real_of_olt _ (congrFun hp.2.2.2.2.2.2.1 i)) (fun i => Norm.real_of_olt _ (congrFun hp.2.2.2.2.2.2.2.1 i)) (fun i => Norm.real_of_olt _ (congrFun hp.2.2.2.2.2.2.2.2 i))

theorem ix2_eta {N M : ℕ} (i : (⟨2, ![N, M]⟩ : Shape).Idx) : i = ix2 (⟨(i 0).val, (i 0).isLt⟩ : Fin N) (⟨(i 1).val, (i 1).isLt⟩ : Fin M) := by
  funext k; match k with
  | ⟨0, _⟩ => rfl
  | ⟨1, _⟩ => rfl

/-- The run ends with every result what the reference's real value is, and every argument as it was. -/
theorem run_values (A : Dev nD → Args) (h : ∀ c, Holds m c (A c)) (ρ : Dev nD → PrngReg) :
    θ_run defs (onTc (τ := τ) (main (F := Ideal))) ⟨m, fun _ => 0, ρ⟩ (fun r => ∀ c : Dev nD,
      r.2.mem ((c.tc : Thread nD τ).loc main_v10_0) = G6 (A c) c ∧ r.2.mem ((c.tc : Thread nD τ).loc main_v10_1) = G7 (A c) c ∧ r.2.mem ((c.tc : Thread nD τ).loc main_v10_2) = G8 (A c) c ∧ r.2.mem ((c.tc : Thread nD τ).loc main_v10_3) = G9 (A c) c ∧ r.2.mem ((c.tc : Thread nD τ).loc main_v10_4) = G10 (A c) c
      ∧ r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7) ∧ r.2.mem ((c.tc : Thread nD τ).loc main_arg8) = m ((c.tc : Thread nD τ).loc main_arg8)) :=
  (θ_run defs _ _).mono (fun _ hr c => ⟨((hr.1 c).1 6).trans (final6 m (h c)), ((hr.1 c).1 7).trans (final7 m (h c)), ((hr.1 c).1 8).trans (final8 m (h c)), ((hr.1 c).1 9).trans (final9 m (h c)), ((hr.1 c).1 10).trans (final10 m (h c)),
      ((hr.1 c).2 main_arg0 (Pipeline.mem_restRefs_of main_arg0 (by decide) (by decide))).trans (V_main_arg0 m c), ((hr.1 c).2 main_arg1 (Pipeline.mem_restRefs_of main_arg1 (by decide) (by decide))).trans (V_main_arg1 m c), ((hr.1 c).2 main_arg2 (Pipeline.mem_restRefs_of main_arg2 (by decide) (by decide))).trans (V_main_arg2 m c), ((hr.1 c).2 main_arg3 (Pipeline.mem_restRefs_of main_arg3 (by decide) (by decide))).trans (V_main_arg3 m c), ((hr.1 c).2 main_arg4 (Pipeline.mem_restRefs_of main_arg4 (by decide) (by decide))).trans (V_main_arg4 m c), ((hr.1 c).2 main_arg5 (Pipeline.mem_restRefs_of main_arg5 (by decide) (by decide))).trans (V_main_arg5 m c), ((hr.1 c).2 main_arg6 (Pipeline.mem_restRefs_of main_arg6 (by decide) (by decide))).trans (V_main_arg6 m c), ((hr.1 c).2 main_arg7 (Pipeline.mem_restRefs_of main_arg7 (by decide) (by decide))).trans (V_main_arg7 m c),
      ((hr.1 c).1 5).trans (((dats m 0 c).arrAt_in 5 rfl _).trans (V_main_arg8 m c))⟩) (run_main m ρ)

theorem algebraic : Cert.algebraic_KernelIdeal_ReferenceIdeal_pre_finite := by
  intro m g m' g' hpre hagree
  choose A hA using holds_of_finite m hpre
  refine ⟨fun c => G6 (A c) c, fun c => G7 (A c) c, fun c => G8 (A c) c, fun c => G9 (A c) c, fun c => G10 (A c) c, run_values m A hA g,
    (θ_run _ _ _).mono (fun r h c => ⟨(h c).1.trans ?_, (h c).2.1.trans ?_, (h c).2.2.1.trans ?_, (h c).2.2.2.1.trans ?_, (h c).2.2.2.2.1.trans ?_, (h c).2.2.2.2.2⟩) (Cert.ReferenceIdeal.Value.run m' g')⟩
  · obtain ⟨h0, h1, h2, h3, h4, h5, h6, h7, h8⟩ := hagree c
    refine (Cert.ReferenceIdeal.Read.val_main_v154_eq _).trans ?_
    show Cert.ReferenceIdeal.Read.val_main_v154 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) = _
    rw [h0, h1, h2, h3, h4, h5, h6, h7, h8]
    funext i
    exact (congrArg _ (ix2_eta i)).trans (Cert.ReferenceIdeal.Hand.v154_r (hA c) _ _)
  · obtain ⟨h0, h1, h2, h3, h4, h5, h6, h7, h8⟩ := hagree c
    refine (Cert.ReferenceIdeal.Read.val_main_v156_eq _).trans ?_
    show Cert.ReferenceIdeal.Read.val_main_v156 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) = _
    rw [h0, h1, h2, h3, h4, h5, h6, h7, h8]
    funext i
    exact (congrArg _ (ix2_eta i)).trans (Cert.ReferenceIdeal.Hand.v156_r (hA c) _ _)
  · obtain ⟨h0, h1, h2, h3, h4, h5, h6, h7, h8⟩ := hagree c
    refine (Cert.ReferenceIdeal.Read.val_main_v157_eq _).trans ?_
    show Cert.ReferenceIdeal.Read.val_main_v157 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) = _
    rw [h0, h1, h2, h3, h4, h5, h6, h7, h8]
    funext i
    exact (congrArg _ (ix2_eta i)).trans (Cert.ReferenceIdeal.Hand.v157_r (hA c) _ _)
  · obtain ⟨h0, h1, h2, h3, h4, h5, h6, h7, h8⟩ := hagree c
    refine (Cert.ReferenceIdeal.Read.val_main_v158_eq _).trans ?_
    show Cert.ReferenceIdeal.Read.val_main_v158 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) = _
    rw [h0, h1, h2, h3, h4, h5, h6, h7, h8]
    funext i
    exact (congrArg _ (ix2_eta i)).trans (Cert.ReferenceIdeal.Hand.v158_r (hA c) _ _)
  · obtain ⟨h0, h1, h2, h3, h4, h5, h6, h7, h8⟩ := hagree c
    refine (Cert.ReferenceIdeal.Read.val_main_v159_eq _).trans ?_
    show Cert.ReferenceIdeal.Read.val_main_v159 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg8)) = _
    rw [h0, h1, h2, h3, h4, h5, h6, h8]
    funext i
    exact (congrArg _ (ix2_eta i)).trans (Cert.ReferenceIdeal.Hand.v159_r (hA c) _ _)

end Cert.KernelIdeal.Hand

end
-- ==== Proof.FwdVal.lean ====
module

public import proofs.«01_k».proof.Proof.RealSpec
public import proofs.«01_k».proof.Proof.Norm
public import proofs.«01_k».proof.Proof.Gen.GlaFwdIdeal.Skeleton
public import Idealize.ShloMosaic.Lib.Pointwise

@[expose] public section

set_option maxRecDepth 16384

noncomputable section

open Idealize.ShloMosaic Idealize.ShloMosaic.TcCoe

namespace Cert.GlaFwdIdeal.Hand

open Cert.GlaFwdIdeal Cert.GlaFwdIdeal.Gen
open Cert.Gla (c256 c1_16 rsqrt_pos sig_coe la16)

/-! # The recurrence's forward pass on real numbers: what one chunk of the kernel computes -/

/-- Head `H`'s gated output: chunk `n`, row `c`, column `b`. -/
def outH (H : Gla.Head) (n : ℕ) (c : Fin 64) (b : Fin 256) : ℝ := Gla.oh H.eps (H.o n c) b * H.g b * (H.gate n c b * Gla.sig (H.gate n c b))

theorem tri_apply (c d : Fin 64) : k0_pay15 (F := Ideal) (ix2 c d) = (((if d.val ≤ c.val then 1 else 0 : ℝ)) : EReal) := by
  pointwise [k0_pay15]
  rw [show IntOp.cmpi CmpIPredicate.sle (BitVec.ofNat 32 d.val) (BitVec.ofNat 32 c.val) = if d.val ≤ c.val then 1#1 else 0#1 from
    (by decide +kernel : ∀ c d : Fin 64, IntOp.cmpi CmpIPredicate.sle (BitVec.ofNat 32 d.val) (BitVec.ofNat 32 c.val) = if d.val ≤ c.val then 1#1 else 0#1) c d]
  by_cases h : d.val ≤ c.val
  · rw [if_pos h, if_pos h]; rfl
  · rw [if_neg h, if_neg h]; rfl

section
variable (H : Gla.Head) (n : ℕ) (la : Vec Ideal S64x128 .f32) (q k : Vec Ideal S64x128 .bf16) (v gate : Vec Ideal S64x256 .bf16) (st : Vec Ideal S1x256x128 .f32) (g : Vec Ideal S1x256 .f32)
  (hla : ∀ c a, la (ix2 c a) = ((H.la n c a : ℝ) : EReal)) (hk : ∀ c a, k (ix2 c a) = ((H.k n c a : ℝ) : EReal))
  (hv : ∀ c a, v (ix2 c a) = ((H.v n c a : ℝ) : EReal)) (hs : ∀ b x, st (ix3 0 b x) = ((H.S n b x : ℝ) : EReal))
  (hq : ∀ c a, q (ix2 c a) = ((H.q n c a : ℝ) : EReal)) (hgate : ∀ c b, gate (ix2 c b) = ((H.gate n c b : ℝ) : EReal)) (hg : ∀ b, g (ix2 0 b) = ((H.g b : ℝ) : EReal))
  (hsc : Ideal.ofBits .f32 0x3DB504F3#32 = ((H.sc : ℝ) : EReal)) (heps : Ideal.ofBits .f32 0x358637BD#32 = ((H.eps : ℝ) : EReal)) (hpos : 0 < H.eps)

include hla hk hv hs

theorem pay2_r (b : Fin 256) (a : Fin 128) : k0_pay2 k0_pay15 la k st v (ix2 b a) = ((H.S (n + 1) b a : ℝ) : EReal) := by
  pointwise [k0_pay2]
  simp only [tri_apply, hla, hk, hv, hs, ← EReal.coe_mul, Norm.sum_coe, ← EReal.coe_add, ← EReal.coe_sub, Ideal.exp_coe, sub_self, mul_zero, Finset.sum_const_zero, add_zero]
  simp only [ite_mul, one_mul, zero_mul]
  show _ = ((H.al n a * H.S n b a + H.U n b a : ℝ) : EReal)
  rfl

theorem pay3_r (z : Fin 1) (b : Fin 256) (a : Fin 128) : k0_pay3 k0_pay15 la k st v (ix3 z b a) = ((H.S (n + 1) b a : ℝ) : EReal) := by
  pointwise [k0_pay3]
  exact pay2_r H n la k v st hla hk hv hs b a

theorem pay9_r (b : Fin 256) (a : Fin 128) : k0_pay9 k0_pay15 la (k0_pay5 la) (k0_pay7 la) (k0_pay8 la) k st v (ix2 b a) = ((H.S (n + 1) b a : ℝ) : EReal) := by
  pointwise [k0_pay9, k0_pay5, k0_pay7, k0_pay8, k0_pay6]
  simp only [tri_apply, hla, hk, hv, hs, ← EReal.coe_mul, Norm.sum_coe, ← EReal.coe_add, ← EReal.coe_sub, Ideal.exp_coe, sub_self, mul_zero, Finset.sum_const_zero, add_zero]
  simp only [ite_mul, one_mul, zero_mul]
  show _ = ((H.al n a * H.S n b a + H.U n b a : ℝ) : EReal)
  rfl

theorem pay10_r (z : Fin 1) (b : Fin 256) (a : Fin 128) : k0_pay10 k0_pay15 la (k0_pay5 la) (k0_pay7 la) (k0_pay8 la) k st v (ix3 z b a) = ((H.S (n + 1) b a : ℝ) : EReal) := by
  pointwise [k0_pay10]
  exact pay9_r H n la k v st hla hk hv hs b a

include hq hsc in
theorem pay11_r (c : Fin 64) (b : Fin 256) : k0_pay11 k0_pay15 la (k0_pay5 la) (k0_pay7 la) (k0_pay8 la) k st v q (ix2 c b) = ((H.o n c b : ℝ) : EReal) := by
  pointwise [k0_pay11]
  simp only [pay9_r H n la k v st hla hk hv hs, hq, hsc, ← EReal.coe_mul, Norm.sum_coe]
  rfl

omit hla hk hv hs

include hgate hg heps hpos in
theorem pay1_r (o : FVec Ideal S64x256 .f32) (ho : ∀ c b, o (ix2 c b) = ((H.o n c b : ℝ) : EReal)) (c : Fin 64) (b : Fin 256) :
    k0_pay1 o (k0_pay12 gate) g (ix2 c b) = ((outH H n c b : ℝ) : EReal) := by
  have hv : 0 < Gla.var H.eps (H.o n c) := Gla.var_pos _ hpos _
  have hr := rsqrt_pos _ hv
  unfold Gla.var at hr
  pointwise [k0_pay1, k0_pay12]
  simp only [ho, heps, hgate, hg, c256, sig_coe, Ideal.div_coe (show (256 : ℝ) ≠ 0 by norm_num), ← EReal.coe_mul, Norm.sum_coe, ← EReal.coe_add, hr]
  rfl

include hgate hg heps hpos hq hsc in
theorem pay4_r (s : FVec Ideal S256x128 .f32) (hS : ∀ b a, s (ix2 b a) = ((H.S (n + 1) b a : ℝ) : EReal)) (c : Fin 64) (b : Fin 256) :
    k0_pay4 s q gate g (ix2 c b) = ((outH H n c b : ℝ) : EReal) := by
  have hv : 0 < Gla.var H.eps (H.o n c) := Gla.var_pos _ hpos _
  have hr := rsqrt_pos _ hv
  unfold Gla.var at hr
  have ho : ∀ c b, ((∑ a, H.q n c a * H.sc * H.S (n + 1) b a : ℝ)) = H.o n c b := fun c b => rfl
  pointwise [k0_pay4]
  simp only [hS, hq, hsc, heps, hgate, hg, c256, sig_coe, Ideal.div_coe (show (256 : ℝ) ≠ 0 by norm_num), ← EReal.coe_mul, Norm.sum_coe, ho, ← EReal.coe_add, hr]
  rfl
end

theorem pay13_r (z : Vec Ideal S2048x128 .bf16) (w : Vec Ideal S128x256 .bf16) (b : Vec Ideal S1x256 .f32) (P : Fin 2048 → Fin 256 → ℝ)
    (hP : ∀ i j, (∑ e : Fin 128, z (ix2 i e) * w (ix2 e j)) + b (ix2 0 j) = ((P i j : ℝ) : EReal)) (i : Fin 2048) (j : Fin 256) :
    k0_pay13 z w b (ix2 i j) = ((la16 (P i j) : ℝ) : EReal) := by
  pointwise [k0_pay13]
  simp only [hP]
  have habs : (FloatOps.absf (F := Ideal) (φ := .f32) ((P i j : ℝ) : EReal) : EReal) = ((|P i j| : ℝ) : EReal) :=
     (EReal.coe_strictMono.monotone.map_max (a := P i j) (b := -(P i j))).symm
  rw [habs, c1_16]
  have hp : (0 : ℝ) < 1 + Real.exp (-|P i j|) := by have := Real.exp_pos (-|P i j|); linarith
  rw [show (0 : EReal) - ((|P i j| : ℝ) : EReal) = ((-|P i j| : ℝ) : EReal) by rw [zero_sub, EReal.coe_neg], Ideal.exp_coe, ← EReal.coe_one, ← EReal.coe_add,
    Ideal.log_coe, if_neg (by linarith), show min ((P i j : ℝ) : EReal) 0 = ((min (P i j) 0 : ℝ) : EReal) from (EReal.coe_strictMono.monotone.map_min (a := P i j) (b := 0)).symm]
  simp only [← EReal.coe_mul, Norm.sum_coe, ← EReal.coe_add, ← EReal.coe_sub, Ideal.exp_coe]
  rfl

end Cert.GlaFwdIdeal.Hand

end
-- ==== Proof.FwdRun.lean ====
module

public import proofs.«01_k».proof.Defs
public import proofs.«01_k».proof.Proof.Gen.GlaFwd
public import proofs.«01_k».proof.Proof.Gen.GlaFwdIdeal.Frame.Runs
public import Idealize.ShloMosaic.Lib.Pipeline.Value

@[expose] public section

set_option maxRecDepth 16384

noncomputable section

namespace Cert.GlaFwdIdeal.Hand

open Cert.GlaFwdIdeal Cert.GlaFwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! # The run of the recurrence's forward call

What a trip stores does not depend on what its output buffer held, so the pieces a point leaves there are those of a run from any contents. -/

/-- A buffer of the kernel. -/
abbrev Mr (S : Shape) (e : EltTy) := Memref sig .tc .vmem S e

variable {F : FTy → Type} [FloatOps F]

local notation "𝕄" => MT nD τ sig Unit (Elt F) ℕ (UR sig nD τ) ℕ

variable (m : (ℓ : Loc nD τ sig) → Buf (Elt F) ℓ) (ρ : Dev nD → PrngReg)

section
variable (c : Dev nD) (i : grid0.Coords) (arg1 : Mr S2048x1536 .bf16) (harg1 : arg1.IsWhole) (arg2 : Mr S2048x128 .bf16) (harg2 : arg2.IsWhole) (arg3 : Mr S128x256 .bf16) (harg3 : arg3.IsWhole) (arg4 : Mr S1x256 .f32) (harg4 : arg4.IsWhole)
  (arg5 : Mr S1x512 .f32) (harg5 : arg5.IsWhole) (arg6 : Mr S2048x512 .bf16) (harg6 : arg6.IsWhole) (arg7 : Mr S2048x256 .f32) (harg7 : arg7.IsWhole) (arg8 : Mr S2x256x128 .f32) (harg8 : arg8.IsWhole)
  (x0 : Vec F S2048x1536 .bf16) (x1 : Vec F S2048x128 .bf16) (x2 : Vec F S128x256 .bf16) (x3 : Vec F S1x256 .f32) (x4 : Vec F S1x512 .f32)

/-- The trips' pieces do not depend on what the output buffer held before the loop. -/
theorem pb_any (v34 : FVec F S64x64 .bf16) (X1 : arg1.view.ty.Contents (Elt F)) (X5 : arg5.view.ty.Contents (Elt F)) (X7 : arg7.view.ty.Contents (Elt F)) (f f' : arg6.view.ty.Contents (Elt F)) (f8 : arg8.view.ty.Contents (Elt F)) (n : ℕ) (hn : n ≤ k0_t1_loop.trips) :
    pb_k0_t1 Variants.none c none i arg1 harg1 arg2 harg2 arg3 harg3 arg4 harg4 arg5 harg5 arg6 harg6 arg7 harg7 arg8 harg8 v34 (0#32) X1 X5 X7 f f8 n = pb_k0_t1 Variants.none c none i arg1 harg1 arg2 harg2 arg3 harg3 arg4 harg4 arg5 harg5 arg6 harg6 arg7 harg7 arg8 harg8 v34 (0#32) X1 X5 X7 f' f8 n := by
  induction n with
  | zero => rfl
  | succ n ih =>
    have e : ∀ (k : Fin k0_t1_loop.trips) g g' g8, tripL_k0_t1 Variants.none c none i arg1 harg1 arg2 harg2 arg3 harg3 arg4 harg4 arg5 harg5 arg6 harg6 arg7 harg7 arg8 harg8 v34 (0#32) X1 X5 X7 k g g8 = tripL_k0_t1 Variants.none c none i arg1 harg1 arg2 harg2 arg3 harg3 arg4 harg4 arg5 harg5 arg6 harg6 arg7 harg7 arg8 harg8 v34 (0#32) X1 X5 X7 k g' g8 := fun k g g' g8 => by
      unfold tripL_k0_t1 trip_k0_t1
      rfl
    rw [show n + 1 = (⟨n, hn⟩ : Fin k0_t1_loop.trips).val + 1 from rfl, pb_k0_t1_succ, pb_k0_t1_succ, show (⟨n, hn⟩ : Fin k0_t1_loop.trips).val = n from rfl, ih (Nat.le_of_succ_le hn),
      e ⟨n, hn⟩ _ (arg6.view.writes (Elt F) f' (pb_k0_t1 Variants.none c none i arg1 harg1 arg2 harg2 arg3 harg3 arg4 harg4 arg5 harg5 arg6 harg6 arg7 harg7 arg8 harg8 v34 (0#32) X1 X5 X7 f' f8 n).1)]

set_option maxHeartbeats 1000000 in
/-- One grid point: the body runs, keeps its inputs and its scratch, and leaves the found pieces in its output buffer. -/
def point : { L5 : List (View.Piece (Elt F) S2048x512 .bf16) //
      ∀ (E : Set ℕ) (K : PUnit → sProp 𝕄),
        iprop(owns c.tc arg1 fullShare x0 ∗ owns c.tc arg2 fullShare x1 ∗ owns c.tc arg3 fullShare x2 ∗ owns c.tc arg4 fullShare x3 ∗ owns c.tc arg5 fullShare x4 ∗ (∃ d, owns c.tc arg6 fullShare d) ∗ (∃ d, owns c.tc arg7 fullShare d) ∗ (∃ d, owns c.tc arg8 fullShare d)
            ∗ (iprop(owns c.tc arg1 fullShare x0 ∗ owns c.tc arg2 fullShare x1 ∗ owns c.tc arg3 fullShare x2 ∗ owns c.tc arg4 fullShare x3 ∗ owns c.tc arg5 fullShare x4 ∗ (∃ f, arg6.view.loc c.tc ↦[arg6.view.set]{fullShare} arg6.view.writes (Elt F) f L5) ∗ (∃ d, owns c.tc arg7 fullShare d) ∗ (∃ d, owns c.tc arg8 fullShare d)) -∗ K ⟨⟩))
          ⊢ wp frame (wpE (defs₀ (F := F)) Variants.none c none) E (cc0_gla_fwd i arg1 harg1 arg2 harg2 arg3 harg3 arg4 harg4 arg5 harg5 arg6 harg6 arg7 harg7 arg8 harg8) K } := by
  refine ⟨?_, fun E K => ?run⟩
  case run =>
    simp only [cc0_gla_fwd_eq_skeleton]; unfold cc0_gla_fwd_skel
    simp only [k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4
    sl_exec
    sl_step
    rw [pb_any c i arg1 harg1 arg2 harg2 arg3 harg3 arg4 harg4 arg5 harg5 arg6 harg6 arg7 harg7 arg8 harg8 _ _ _ _ f5 arg6.view.junk _ _ (Nat.le_refl _)]
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists f5; iexact H5
    isplitl [HS0]
    · iexists _, _; isplitr; swap; · iexact HS0
      ipureintro; rfl
    iexists _, _; isplitr; swap; · iexact HS1
    ipureintro; rfl

/-- The pieces fill the output block. -/
theorem covered (y : S2048x512.Idx) : ∃ pc ∈ (point c i arg1 harg1 arg2 harg2 arg3 harg3 arg4 harg4 arg5 harg5 arg6 harg6 arg7 harg7 arg8 harg8 x0 x1 x2 x3 x4).1, y ∈ pc.1.set :=
  View.cover_of_tiledL (point c i arg1 harg1 arg2 harg2 arg3 harg3 arg4 harg4 arg5 harg5 arg6 harg6 arg7 harg7 arg8 harg8 x0 x1 x2 x3 x4).1 S64x256.size (by sl_kernel_rfl) y

/-- What a point leaves in its output block. -/
def outOf : Vec F S2048x512 .bf16 := VO0_5.read (Elt F) (VO0_5.writes (Elt F) VO0_5.junk (point c i arg1 harg1 arg2 harg2 arg3 harg3 arg4 harg4 arg5 harg5 arg6 harg6 arg7 harg7 arg8 harg8 x0 x1 x2 x3 x4).1)
end

/-- The output block after point `t`. -/
def outAt (c : Dev nD) (t : Fin cfg0.N) : Vec F S2048x512 .bf16 :=
  outOf c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (iblk m c 0 t) (iblk m c 1 t) (iblk m c 2 t) (iblk m c 3 t) (iblk m c 4 t)

/-- Each input's buffer keeps its block, the output's holds what the point left. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t
  Φ _ := Pipeline.ΦA spec0 c
  q _ := fullShare
  owed _ := 0

theorem A_eq (c : Dev nD) (w : Fin cfg0.W) : (dats m 0 c).A w = V m c (Pipeline.arrRef spec0 w) := by dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = outAt m c t := by dsimp only [dats]
theorem before0 (c : Dev nD) (t : Fin cfg0.N) (d) : (dats m 0 c).before 0 t d = iblk m c 0 t := before0_0_of m (dats m 0 c) (A_eq m c 0) (after0 m c) t d
theorem before1 (c : Dev nD) (t : Fin cfg0.N) (d) : (dats m 0 c).before 1 t d = iblk m c 1 t := before0_1_of m (dats m 0 c) (A_eq m c 1) (after1 m c) t d
theorem before2 (c : Dev nD) (t : Fin cfg0.N) (d) : (dats m 0 c).before 2 t d = iblk m c 2 t := before0_2_of m (dats m 0 c) (A_eq m c 2) (after2 m c) t d
theorem before3 (c : Dev nD) (t : Fin cfg0.N) (d) : (dats m 0 c).before 3 t d = iblk m c 3 t := before0_3_of m (dats m 0 c) (A_eq m c 3) (after3 m c) t d
theorem before4 (c : Dev nD) (t : Fin cfg0.N) (d) : (dats m 0 c).before 4 t d = iblk m c 4 t := before0_4_of m (dats m 0 c) (A_eq m c 4) (after4 m c) t d

/-- What the body is called with at point `t`. -/
def bodyPre (c : Dev nD) (t : Fin cfg0.N) : sProp 𝕄 :=
  iprop((dats m 0 c).Φ t.castSucc ∗ (dats m 0 c).owesAt () t.castSucc
    ∗ (∃ d, owns c.tc (ms0_0 t) fullShare ((dats m 0 c).before 0 t d))
    ∗ (∃ d, owns c.tc (ms0_1 t) fullShare ((dats m 0 c).before 1 t d))
    ∗ (∃ d, owns c.tc (ms0_2 t) fullShare ((dats m 0 c).before 2 t d))
    ∗ (∃ d, owns c.tc (ms0_3 t) fullShare ((dats m 0 c).before 3 t d))
    ∗ (∃ d, owns c.tc (ms0_4 t) fullShare ((dats m 0 c).before 4 t d))
    ∗ (∃ d, owns c.tc (ms0_5 t) fullShare ((dats m 0 c).before 5 t d)))

/-- What the body returns. -/
def bodyPost (c : Dev nD) (t : Fin cfg0.N) : sProp 𝕄 :=
  iprop((dats m 0 c).Φ t.succ ∗ (dats m 0 c).owesAt () t.succ
    ∗ owns c.tc (ms0_0 t) fullShare ((dats m 0 c).after 0 t)
    ∗ owns c.tc (ms0_1 t) fullShare ((dats m 0 c).after 1 t)
    ∗ owns c.tc (ms0_2 t) fullShare ((dats m 0 c).after 2 t)
    ∗ owns c.tc (ms0_3 t) fullShare ((dats m 0 c).after 3 t)
    ∗ owns c.tc (ms0_4 t) fullShare ((dats m 0 c).after 4 t)
    ∗ owns c.tc (ms0_5 t) fullShare ((dats m 0 c).after 5 t))

set_option maxHeartbeats 800000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).Φ t.succ = (dats m 0 c).Φ t.castSucc from rfl,
    show (dats m 0 c).owesAt () t.succ = (dats m 0 c).owesAt () t.castSucc from rfl,
    after0, after1, after2, after3, after4, after5]
  rw [show (dats m 0 c).Φ t.castSucc = Pipeline.ΦA spec0 c from rfl, PhiA0_eq]
  unfold outAt
  unfold outOf
  iintro ⟨⟨⟨HS0, HS1⟩, Hg⟩, Ho, ⟨%d0, H0⟩, ⟨%d1, H1⟩, ⟨%d2, H2⟩, ⟨%d3, H3⟩, ⟨%d4, H4⟩, ⟨%d5, H5⟩⟩
  iapply ((point c (grid0.coords t) _ _ _ _ _ _ _ _ _ _ _ _ _ _ _ _ (iblk m c 0 t) (iblk m c 1 t) (iblk m c 2 t) (iblk m c 3 t) (iblk m c 4 t)).2 Set.univ _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  isplitl [HS1]; · iexact HS1
  iintro ⟨H0, H1, H2, H3, H4, ⟨%e5, H5⟩, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  unfold owns; iexists _; isplitr
  swap; · iexact H5
  ipureintro; exact View.read_writes_of_cover _ _ _ _ _ (covered c _ _ _ _ _ _ _ _ _ _ _ _ _ _ _ _ _ _ _ _ _ _)

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
theorem run_main : θ_run defs (onTc (τ := τ) (main (F := F))) (s₀ m ρ) (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The arguments of core `c` end as they were. -/
def Kept (r : PUnit × MemSt nD τ sig (Elt F)) (c : Dev nD) : Prop :=
  r.2.mem (c.tc.loc main_arg0) = m (c.tc.loc main_arg0)
    ∧ r.2.mem (c.tc.loc main_arg1) = m (c.tc.loc main_arg1)
    ∧ r.2.mem (c.tc.loc main_arg2) = m (c.tc.loc main_arg2)
    ∧ r.2.mem (c.tc.loc main_arg3) = m (c.tc.loc main_arg3)
    ∧ r.2.mem (c.tc.loc main_arg4) = m (c.tc.loc main_arg4)
    ∧ r.2.mem (c.tc.loc main_arg5) = m (c.tc.loc main_arg5)
    ∧ r.2.mem (c.tc.loc main_arg6) = m (c.tc.loc main_arg6)
    ∧ r.2.mem (c.tc.loc main_arg7) = m (c.tc.loc main_arg7)

theorem kept (r : PUnit × MemSt nD τ sig (Elt F)) (h : Pipeline.FramePost cfgs (dats m) 0 (V m) r) (c : Dev nD) : Kept m r c :=
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c),
    ((h c).2 main_arg7 (Pipeline.mem_restRefs_of main_arg7 (by decide) (by decide))).trans (V_main_arg7 m c)⟩

/-- The run leaves every argument as it found it, and every counter at zero. -/
theorem unchanged : θ_run defs (onTc (τ := τ) (main (F := F))) ⟨m, fun _ => 0, ρ⟩ (fun r => (∀ c : Dev nD, Kept m r c) ∧ r.2.sem = fun _ => 0) :=
  (θ_run defs _ _).mono (fun r h => ⟨fun c => kept m r h.1 c, h.2⟩) (run_main m ρ)

/-- The run with the result's array named. -/
theorem run_blocks : θ_run defs (onTc (τ := τ) (main (F := F))) ⟨m, fun _ => 0, ρ⟩ fun r => ∀ c : Dev nD,
    r.2.mem ((c : Thread nD τ).loc main_v10) = (dats m 0 c).arrAt 5 cfg0.N ∧ Kept m r c :=
  (θ_run defs _ _).mono (fun r h c => ⟨(h.1 c).1 5, kept m r h.1 c⟩) (run_main m ρ)

/-- The two points' blocks are apart. -/
theorem apart : ∀ t t' : Fin cfg0.N, win0_5.index t = win0_5.index t' → t = t' :=
  (by decide +kernel : ∀ t t' : Fin grid0.N, win0_5.index t = win0_5.index t' → t = t')

/-- Block `t` of the final array is what point `t` left. -/
theorem blocks (c : Dev nD) (t : Fin cfg0.N) (hf : (cfg0.win 5).flush t = true) :
    ((cfg0.win 5).blk t).view.read (Elt F) ((dats m 0 c).arrAt 5 cfg0.N) = (dats m 0 c).flushed 5 t :=
  (dats m 0 c).read_blk_arrAt_eq_flushed 5 (fun t t' _ _ hne => (cfg0.win 5).disjoint_blk fun h => hne (apart t t' h)) cfg0.N t t.isLt hf

theorem flushed_eq (c : Dev nD) (t : Fin cfg0.N) : (dats m 0 c).flushed 5 t = (cfg0.win 5).cut (grid0.coords t) (outAt m c t) := by
  show (cfg0.win 5).cut (grid0.coords t) ((dats m 0 c).after 5 t) = _
  rw [after5]

/-- The idealized call runs and leaves its arguments unchanged. -/
theorem frame_ideal : Cert.quiescent_GlaFwdIdeal := fun m ρ _ => unchanged m ρ

/-- The printed call's body table is the idealized one's. -/
theorem defs₀_eq : @Cert.GlaFwd.defs₀ Bits _ Cert.GlaFwd.Gen.facts = @Cert.GlaFwdIdeal.defs₀ Bits _ Cert.GlaFwdIdeal.Gen.facts := by
  unfold Cert.GlaFwd.defs₀ Cert.GlaFwdIdeal.defs₀
  refine congrArg Defs.onTc (funext fun l => funext fun a => ?_)
  obtain ⟨n, hn⟩ := l
  cases n with
  | zero => obtain ⟨t, s⟩ := a; rfl
  | succ n => exact absurd hn (by omega)

theorem defs_eq : @Cert.GlaFwd.defs Bits _ Cert.GlaFwd.Gen.facts = @Cert.GlaFwdIdeal.defs Bits _ Cert.GlaFwdIdeal.Gen.facts :=
  congrArg (Pipeline.defs (@Cert.GlaFwdIdeal.pcfgs Bits _)) defs₀_eq

/-- The call as printed, at its own number formats: the same text, so the same run. -/
theorem frame_printed : Cert.quiescent_GlaFwd := fun m ρ _ => by
  rw [defs_eq]; exact unchanged (F := Bits) m ρ

end Cert.GlaFwdIdeal.Hand

end
-- ==== Proof.FwdTrip.lean ====
module

public import proofs.«01_k».proof.Proof.FwdVal
public import proofs.«01_k».proof.Proof.FwdRun
public import Idealize.ShloMosaic.Lib.Pointwise
public import Idealize.ShloMosaic.Lib.Tactic
public import Idealize.ShloMosaic.Lib.Writes
public import Idealize.ShloMosaic.Lib.VecWindow

@[expose] public section

set_option maxRecDepth 16384

noncomputable section

namespace Cert.GlaFwdIdeal.Hand
open Idealize.ShloMosaic
open Cert.GlaFwdIdeal Cert.GlaFwdIdeal.Gen

/-! # One point of the recurrence's forward kernel -/

/-- A buffer written whole reads as what was written. -/
theorem read_full {S : Shape} {e : EltTy} (v : View sig .tc .vmem S e) (f : v.ty.Contents (Elt Ideal)) {off : Fin S.rank → ℕ} (inb : ∀ a, off a + S.size a ≤ S.size a) (w : S.Idx → Elt Ideal e) (y : S.Idx) :
    v.read (Elt Ideal) (v.writes (Elt Ideal) f [⟨Rect.unit off S.size inb, w⟩]) y = w y := by
  have e : (Rect.unit (s := S) off S.size inb).emb y = y := funext fun a => Fin.ext (by
    have := inb a
    show off a + 1 * (y a).val = (y a).val
    omega)
  have h := View.read_writes_cons_emb (Val := Elt Ideal) v f (Rect.unit off S.size inb) w [] y
  rwa [e] at h

theorem load2 {N M R C : ℕ} {e : EltTy} (v : View sig .tc .vmem (⟨2, ![N, M]⟩ : Shape) e) (f : v.ty.Contents (Elt Ideal)) (Z : ℕ → ℕ → Elt Ideal e)
    (hf : ∀ y, v.read (Elt Ideal) f y = Z (y 0).val (y 1).val) {off : Fin 2 → ℕ} (r c : ℕ)
    (inb : ∀ a, off a + (![R, C] : Fin 2 → ℕ) a ≤ (⟨2, ![N, M]⟩ : Shape).size a) (h : off = ![r, c]) (i : Fin R) (d : Fin C) :
    v.readAt (Elt Ideal) (Rect.unit (s := ⟨2, ![N, M]⟩) off ![R, C] inb).toLoadRect f (ix2 i d) = Z (r + i.val) (c + d.val) := by
  subst h
  refine (hf _).trans ?_
  show Z (r + 1 * i.val) (c + 1 * d.val) = _
  rw [Nat.one_mul, Nat.one_mul]

theorem off1_eq : ∀ k : Fin k0_t1_loop.trips, k0_off1 k = ![64 * k.val, 128 * 0] := by decide +kernel
theorem off2_eq : ∀ k : Fin k0_t1_loop.trips, k0_off2 k = ![64 * k.val, 768 * 0 + 128] := by decide +kernel
theorem off3_eq : ∀ k : Fin k0_t1_loop.trips, k0_off3 k = ![64 * k.val, 768 * 0 + 256] := by decide +kernel
theorem off4_eq : ∀ k : Fin k0_t1_loop.trips, k0_off4 k = ![64 * k.val, 768 * 0] := by decide +kernel
theorem off5_eq : ∀ k : Fin k0_t1_loop.trips, k0_off5 k = ![64 * k.val, 768 * 0 + 512] := by decide +kernel
theorem off6_eq : ∀ k : Fin k0_t1_loop.trips, k0_off6 k = ![64 * k.val, 256 * 0] := by decide +kernel
theorem off7_eq : ∀ k : Fin k0_t1_loop.trips, k0_off7 k = ![64 * k.val, 128 * 1] := by decide +kernel
theorem off8_eq : ∀ k : Fin k0_t1_loop.trips, k0_off8 k = ![64 * k.val, 768 * 1 + 128] := by decide +kernel
theorem off9_eq : ∀ k : Fin k0_t1_loop.trips, k0_off9 k = ![64 * k.val, 768 * 1 + 256] := by decide +kernel
theorem off10_eq : ∀ k : Fin k0_t1_loop.trips, k0_off10 k = ![64 * k.val, 768 * 1] := by decide +kernel
theorem off11_eq : ∀ k : Fin k0_t1_loop.trips, k0_off11 k = ![64 * k.val, 768 * 1 + 512] := by decide +kernel
theorem off12_eq : ∀ k : Fin k0_t1_loop.trips, k0_off12 k = ![64 * k.val, 256 * 1] := by decide +kernel

/-- The gated output as a function of row, head and column. -/
def rowOut (Hs : ℕ → Gla.Head) (r p : ℕ) (b : Fin 256) : EReal := ((outH (Hs p) (r / 64) ⟨r % 64, Nat.mod_lt _ (by decide)⟩ b : ℝ) : EReal)
/-- The same as the contents of the output block. -/
def onBlock (f : ℕ → ℕ → Fin 256 → EReal) (y : S2048x512.Idx) : EReal := f (y 0).val ((y 1).val / 256) ⟨(y 1).val % 256, Nat.mod_lt _ (by decide)⟩
/-- The two heads' states before chunk `n` as the contents of their buffer. -/
def states (Hs : ℕ → Gla.Head) (n : ℕ) (y : S2x256x128.Idx) : EReal := (((Hs (y 0).val).S n (y 1) (y 2) : ℝ) : EReal)

/-- A stored block of 64 rows of one head agrees with the output wherever it lies. -/
theorem piece (f : ℕ → ℕ → Fin 256 → EReal) (k p : ℕ) {off : Fin 2 → ℕ} (inb : ∀ a, off a + (![64, 256] : Fin 2 → ℕ) a ≤ S2048x512.size a) (h : off = ![64 * k, 256 * p])
    (w : (⟨2, ![64, 256]⟩ : Shape).Idx → EReal) (hw : ∀ (i : Fin 64) (d : Fin 256), w (ix2 i d) = f (64 * k + i.val) p d) (x : (⟨2, ![64, 256]⟩ : Shape).Idx) :
    w x = onBlock f ((Rect.unit (s := S2048x512) off ![64, 256] inb).emb x) := by
  subst h
  refine (congrArg w (ix2_eta x)).symm.trans ((hw _ _).trans ?_)
  have x1 : (x 1).val < 256 := (x 1).isLt
  have e1 : (256 * p + 1 * (x 1).val) / 256 = p := by omega
  have e2 : (256 * p + 1 * (x 1).val) % 256 = (x 1).val := by omega
  have e3 : (⟨(256 * p + 1 * (x 1).val) % 256, Nat.mod_lt _ (by decide)⟩ : Fin 256) = x 1 := Fin.ext e2
  show _ = f (64 * k + 1 * (x 0).val) ((256 * p + 1 * (x 1).val) / 256) ⟨(256 * p + 1 * (x 1).val) % 256, Nat.mod_lt _ (by decide)⟩
  rw [e1, e3, Nat.one_mul]

/-- A stored slab of one head's state. -/
theorem slab (Hs : ℕ → Gla.Head) (n p : ℕ) (inb : ∀ a, (![p, 0, 0] : Fin 3 → ℕ) a + (![1, 256, 128] : Fin 3 → ℕ) a ≤ S2x256x128.size a)
    (w : (⟨3, ![1, 256, 128]⟩ : Shape).Idx → EReal) (hw : ∀ (z : Fin 1) (b : Fin 256) (a : Fin 128), w (ix3 z b a) = (((Hs p).S n b a : ℝ) : EReal)) (x : (⟨3, ![1, 256, 128]⟩ : Shape).Idx) :
    w x = states Hs n ((Rect.unit (s := S2x256x128) ![p, 0, 0] ![1, 256, 128] inb).emb x) := by
  refine (congrArg w (ix3_eta x)).symm.trans ((hw _ _ _).trans ?_)
  have x0 : (x 0).val < 1 := (x 0).isLt
  have e0 : p + 1 * (x 0).val = p := by omega
  have e1 : (⟨0 + 1 * (x 1).val, by have := (x 1).isLt; show _ < 256; have h2 : (x 1).val < 256 := (x 1).isLt; omega⟩ : Fin 256) = x 1 := Fin.ext (by show 0 + 1 * (x 1).val = _; omega)
  have e2 : (⟨0 + 1 * (x 2).val, by have h2 : (x 2).val < 128 := (x 2).isLt; omega⟩ : Fin 128) = x 2 := Fin.ext (by show 0 + 1 * (x 2).val = _; omega)
  show _ = (((Hs (p + 1 * (x 0).val)).S n ⟨0 + 1 * (x 1).val, _⟩ ⟨0 + 1 * (x 2).val, _⟩ : ℝ) : EReal)
  rw [e0, e1, e2]

/-- A load of one head's state. -/
theorem loadS (Hs : ℕ → Gla.Head) (n p : ℕ) (v : View sig .tc .vmem S2x256x128 .f32) (f : v.ty.Contents (Elt Ideal)) (hf : ∀ y, v.read (Elt Ideal) f y = states Hs n y)
    (inb : ∀ a, (![p, 0, 0] : Fin 3 → ℕ) a + (![1, 256, 128] : Fin 3 → ℕ) a ≤ S2x256x128.size a) (b : Fin 256) (a : Fin 128) :
    v.readAt (Elt Ideal) (Rect.unit (s := S2x256x128) ![p, 0, 0] ![1, 256, 128] inb).toLoadRect f (ix3 0 b a) = (((Hs p).S n b a : ℝ) : EReal) :=
  (hf _).trans (slab Hs n p inb (fun x => (((Hs p).S n (x 1) (x 2) : ℝ) : EReal)) (fun _ _ _ => rfl) (ix3 0 b a)).symm

theorem mem1 (y : S2x256x128.Idx) (p : ℕ) (inb : ∀ a, (![p, 0, 0] : Fin 3 → ℕ) a + (![1, 256, 128] : Fin 3 → ℕ) a ≤ S2x256x128.size a) :
    y ∈ (Rect.unit (s := S2x256x128) ![p, 0, 0] (![1, 256, 128] : Fin 3 → ℕ) inb).set ↔ (y 0).val = p := by
  rw [Rect.mem_set_unit]
  constructor
  · intro h
    have h0 : p ≤ (y 0).val ∧ (y 0).val < p + 1 := h 0
    omega
  · intro h a
    have h1 : (y 1).val < 256 := (y 1).isLt
    have h2 : (y 2).val < 128 := (y 2).isLt
    match a with
    | ⟨0, _⟩ => show p ≤ (y 0).val ∧ (y 0).val < p + 1; omega
    | ⟨1, _⟩ => show 0 ≤ (y 1).val ∧ (y 1).val < 0 + 256; omega
    | ⟨2, _⟩ => show 0 ≤ (y 2).val ∧ (y 2).val < 0 + 128; omega

/-- The buffers a point reads hold the values of the heads `Hs`. -/
structure Ok (Hs : ℕ → Gla.Head) (Z La : ℕ → ℕ → EReal) (G : ℕ → EReal) : Prop where
  q : ∀ p n (c : Fin 64) (a : Fin 128), p < 2 → n < 32 → Z (64 * n + c.val) (768 * p + a.val) = (((Hs p).q n c a : ℝ) : EReal)
  k : ∀ p n (c : Fin 64) (a : Fin 128), p < 2 → n < 32 → Z (64 * n + c.val) (768 * p + 128 + a.val) = (((Hs p).k n c a : ℝ) : EReal)
  v : ∀ p n (c : Fin 64) (b : Fin 256), p < 2 → n < 32 → Z (64 * n + c.val) (768 * p + 256 + b.val) = (((Hs p).v n c b : ℝ) : EReal)
  gate : ∀ p n (c : Fin 64) (b : Fin 256), p < 2 → n < 32 → Z (64 * n + c.val) (768 * p + 512 + b.val) = (((Hs p).gate n c b : ℝ) : EReal)
  la : ∀ p n (c : Fin 64) (a : Fin 128), p < 2 → n < 32 → La (64 * n + c.val) (128 * p + a.val) = (((Hs p).la n c a : ℝ) : EReal)
  g : ∀ p (b : Fin 256), p < 2 → G (256 * p + b.val) = (((Hs p).g b : ℝ) : EReal)
  sc : ∀ p, p < 2 → Ideal.ofBits .f32 0x3DB504F3#32 = (((Hs p).sc : ℝ) : EReal)
  eps : ∀ p, p < 2 → Ideal.ofBits .f32 0x358637BD#32 = (((Hs p).eps : ℝ) : EReal)
  pos : ∀ p, p < 2 → 0 < (Hs p).eps

section
variable {Hs : ℕ → Gla.Head} {Z La : ℕ → ℕ → EReal} {G : ℕ → EReal} (ok : Ok Hs Z La G)
variable (c : Dev nD) (i : grid0.Coords) (arg1 : Mr S2048x1536 .bf16) (harg1 : arg1.IsWhole) (arg2 : Mr S2048x128 .bf16) (harg2 : arg2.IsWhole) (arg3 : Mr S128x256 .bf16) (harg3 : arg3.IsWhole) (arg4 : Mr S1x256 .f32) (harg4 : arg4.IsWhole) (arg5 : Mr S1x512 .f32) (harg5 : arg5.IsWhole) (arg6 : Mr S2048x512 .bf16) (harg6 : arg6.IsWhole) (arg7 : Mr S2048x256 .f32) (harg7 : arg7.IsWhole) (arg8 : Mr S2x256x128 .f32) (harg8 : arg8.IsWhole)

theorem rowOut_at (k p : ℕ) (c : Fin 64) (b : Fin 256) : rowOut Hs (64 * k + c.val) p b = ((outH (Hs p) k c b : ℝ) : EReal) := by
  have hc := c.isLt
  have e1 : (64 * k + c.val) / 64 = k := by omega
  have e2 : (64 * k + c.val) % 64 = c.val := by omega
  unfold rowOut
  simp only [e1, e2]

include ok in
theorem trip_pieces (X1 : arg1.view.ty.Contents (Elt Ideal)) (X5 : arg5.view.ty.Contents (Elt Ideal)) (X7 : arg7.view.ty.Contents (Elt Ideal)) (f6 : arg6.view.ty.Contents (Elt Ideal)) (f8 : arg8.view.ty.Contents (Elt Ideal))
    (h1 : ∀ y, arg1.view.read (Elt Ideal) X1 y = Z (y 0).val (y 1).val) (h5 : ∀ y, arg5.view.read (Elt Ideal) X5 y = G (y 1).val)
    (h7 : ∀ y, arg7.view.read (Elt Ideal) X7 y = La (y 0).val (y 1).val) (k : Fin k0_t1_loop.trips)
    (h8 : ∀ y, arg8.view.read (Elt Ideal) f8 y = states Hs k.val y) :
    (∀ pc ∈ (tripL_k0_t1 Variants.none c none i arg1 harg1 arg2 harg2 arg3 harg3 arg4 harg4 arg5 harg5 arg6 harg6 arg7 harg7 arg8 harg8 k0_pay15 (0#32) X1 X5 X7 k f6 f8).1, ∀ x, pc.2 x = onBlock (rowOut Hs) (pc.1.emb x)) ∧
    (∀ y, arg8.view.read (Elt Ideal) (arg8.view.writes (Elt Ideal) f8 (tripL_k0_t1 Variants.none c none i arg1 harg1 arg2 harg2 arg3 harg3 arg4 harg4 arg5 harg5 arg6 harg6 arg7 harg7 arg8 harg8 k0_pay15 (0#32) X1 X5 X7 k f6 f8).2) y = states Hs (k.val + 1) y) := by
  have hk : k.val < 32 := Nat.lt_of_lt_of_le k.isLt k0_t1_abs.2.1
  unfold tripL_k0_t1 trip_k0_t1
  dsimp only
  unfold trip_k0_t1.sl.v141
  refine ⟨?_, ?_⟩
  · intro pc hpc
    simp only [List.mem_append, List.mem_cons, List.not_mem_nil, or_false] at hpc
    rcases hpc with rfl | rfl <;> intro x
    · refine piece _ k.val 1 (k0_off12_inb k) (off12_eq k) _ (fun i d => ?_) x
      rw [rowOut_at]
      refine pay1_r (Hs 1) k.val _ _ (fun c a => (load2 _ _ Z h1 _ _ _ (off11_eq k) c a).trans (ok.gate 1 k.val c a (by decide) hk)) (fun b => (load2 _ _ (fun _ => G) h5 _ _ _ rfl 0 b).trans (ok.g 1 b (by decide))) (ok.eps 1 (by decide)) (ok.pos 1 (by decide)) _ (fun c b => ?_) i d
      exact pay11_r (Hs 1) k.val _ _ _ _ _ (fun c a => (load2 _ _ La h7 _ _ _ (off7_eq k) c a).trans (ok.la 1 k.val c a (by decide) hk)) (fun c a => (load2 _ _ Z h1 _ _ _ (off8_eq k) c a).trans (ok.k 1 k.val c a (by decide) hk)) (fun c a => (load2 _ _ Z h1 _ _ _ (off9_eq k) c a).trans (ok.v 1 k.val c a (by decide) hk)) (fun b a => loadS Hs k.val 1 arg8.view f8 h8 _ b a) (fun c a => (load2 _ _ Z h1 _ _ _ (off10_eq k) c a).trans (ok.q 1 k.val c a (by decide) hk)) (ok.sc 1 (by decide)) c b
    · refine piece _ k.val 0 (k0_off6_inb k) (off6_eq k) _ (fun i d => ?_) x
      rw [rowOut_at]
      refine pay4_r (Hs 0) k.val _ _ _ (fun c a => (load2 _ _ Z h1 _ _ _ (off4_eq k) c a).trans (ok.q 0 k.val c a (by decide) hk)) (fun c a => (load2 _ _ Z h1 _ _ _ (off5_eq k) c a).trans (ok.gate 0 k.val c a (by decide) hk)) (fun b => (load2 _ _ (fun _ => G) h5 _ _ _ rfl 0 b).trans (ok.g 0 b (by decide))) (ok.sc 0 (by decide)) (ok.eps 0 (by decide)) (ok.pos 0 (by decide)) _ (fun b a => ?_) i d
      exact pay2_r (Hs 0) k.val _ _ _ _ (fun c a => (load2 _ _ La h7 _ _ _ (off1_eq k) c a).trans (ok.la 0 k.val c a (by decide) hk)) (fun c a => (load2 _ _ Z h1 _ _ _ (off2_eq k) c a).trans (ok.k 0 k.val c a (by decide) hk)) (fun c a => (load2 _ _ Z h1 _ _ _ (off3_eq k) c a).trans (ok.v 0 k.val c a (by decide) hk)) (fun b a => loadS Hs k.val 0 arg8.view f8 h8 _ b a) b a
  · intro y
    refine View.read_writes_apply_of_pieces (Val := Elt Ideal) arg8.view f8 (states Hs (k.val + 1)) _ ?_ y ?_
    · intro pc hpc
      simp only [List.mem_append, List.mem_cons, List.not_mem_nil, or_false] at hpc
      rcases hpc with rfl | rfl <;> intro x
      · exact slab Hs (k.val + 1) 1 inb_S2x256x128_S1x256x128_1_0_0 _ (fun z b a => pay10_r (Hs 1) k.val _ _ _ _ (fun c a => (load2 _ _ La h7 _ _ _ (off7_eq k) c a).trans (ok.la 1 k.val c a (by decide) hk)) (fun c a => (load2 _ _ Z h1 _ _ _ (off8_eq k) c a).trans (ok.k 1 k.val c a (by decide) hk)) (fun c a => (load2 _ _ Z h1 _ _ _ (off9_eq k) c a).trans (ok.v 1 k.val c a (by decide) hk)) (fun b a => loadS Hs k.val 1 arg8.view f8 h8 _ b a) z b a) x
      · exact slab Hs (k.val + 1) 0 inb_S2x256x128_S1x256x128_0_0_0 _ (fun z b a => pay3_r (Hs 0) k.val _ _ _ _ (fun c a => (load2 _ _ La h7 _ _ _ (off1_eq k) c a).trans (ok.la 0 k.val c a (by decide) hk)) (fun c a => (load2 _ _ Z h1 _ _ _ (off2_eq k) c a).trans (ok.k 0 k.val c a (by decide) hk)) (fun c a => (load2 _ _ Z h1 _ _ _ (off3_eq k) c a).trans (ok.v 0 k.val c a (by decide) hk)) (fun b a => loadS Hs k.val 0 arg8.view f8 h8 _ b a) z b a) x
    · have hy : (y 0).val < 2 := (y 0).isLt
      by_cases h : (y 0).val = 1
      · exact ⟨_, List.mem_cons_self, (mem1 y 1 inb_S2x256x128_S1x256x128_1_0_0).2 h⟩
      · exact ⟨_, List.mem_cons_of_mem _ List.mem_cons_self, (mem1 y 0 inb_S2x256x128_S1x256x128_0_0_0).2 (by omega)⟩
include ok in
theorem pb_pieces (X1 : arg1.view.ty.Contents (Elt Ideal)) (X5 : arg5.view.ty.Contents (Elt Ideal)) (X7 : arg7.view.ty.Contents (Elt Ideal)) (f6 : arg6.view.ty.Contents (Elt Ideal)) (f8 : arg8.view.ty.Contents (Elt Ideal))
    (h1 : ∀ y, arg1.view.read (Elt Ideal) X1 y = Z (y 0).val (y 1).val) (h5 : ∀ y, arg5.view.read (Elt Ideal) X5 y = G (y 1).val)
    (h7 : ∀ y, arg7.view.read (Elt Ideal) X7 y = La (y 0).val (y 1).val) (h8 : ∀ y, arg8.view.read (Elt Ideal) f8 y = states Hs 0 y) (n : ℕ) (hn : n ≤ k0_t1_loop.trips) :
    (∀ pc ∈ (pb_k0_t1 Variants.none c none i arg1 harg1 arg2 harg2 arg3 harg3 arg4 harg4 arg5 harg5 arg6 harg6 arg7 harg7 arg8 harg8 k0_pay15 (0#32) X1 X5 X7 f6 f8 n).1, ∀ x, pc.2 x = onBlock (rowOut Hs) (pc.1.emb x)) ∧
    (∀ y, arg8.view.read (Elt Ideal) (arg8.view.writes (Elt Ideal) f8 (pb_k0_t1 Variants.none c none i arg1 harg1 arg2 harg2 arg3 harg3 arg4 harg4 arg5 harg5 arg6 harg6 arg7 harg7 arg8 harg8 k0_pay15 (0#32) X1 X5 X7 f6 f8 n).2) y = states Hs n y) := by
  induction n with
  | zero => exact ⟨fun _ h => absurd h List.not_mem_nil, h8⟩
  | succ n ih =>
    obtain ⟨i1, i2⟩ := ih (Nat.le_of_succ_le hn)
    have t := trip_pieces ok c i arg1 harg1 arg2 harg2 arg3 harg3 arg4 harg4 arg5 harg5 arg6 harg6 arg7 harg7 arg8 harg8 X1 X5 X7 (arg6.view.writes (Elt Ideal) f6 (pb_k0_t1 Variants.none c none i arg1 harg1 arg2 harg2 arg3 harg3 arg4 harg4 arg5 harg5 arg6 harg6 arg7 harg7 arg8 harg8 k0_pay15 (0#32) X1 X5 X7 f6 f8 n).1) (arg8.view.writes (Elt Ideal) f8 (pb_k0_t1 Variants.none c none i arg1 harg1 arg2 harg2 arg3 harg3 arg4 harg4 arg5 harg5 arg6 harg6 arg7 harg7 arg8 harg8 k0_pay15 (0#32) X1 X5 X7 f6 f8 n).2) h1 h5 h7 ⟨n, hn⟩ i2
    have hs := pb_k0_t1_succ (F := Ideal) Variants.none c none i arg1 harg1 arg2 harg2 arg3 harg3 arg4 harg4 arg5 harg5 arg6 harg6 arg7 harg7 arg8 harg8 k0_pay15 (0#32) X1 X5 X7 f6 f8 ⟨n, hn⟩
    rw [show n + 1 = (⟨n, hn⟩ : Fin k0_t1_loop.trips).val + 1 from rfl, hs]
    refine ⟨fun pc h => (List.mem_append.mp h).elim (t.1 pc) (i1 pc), fun y => ?_⟩
    rw [View.writes_append]
    exact t.2 y

/-- What the body leaves in its output. -/
theorem run_pieces (x0 : Vec Ideal S2048x1536 .bf16) (x1 : Vec Ideal S2048x128 .bf16) (x2 : Vec Ideal S128x256 .bf16) (x3 : Vec Ideal S1x256 .f32) (x4 : Vec Ideal S1x512 .f32)
    (ok : Ok Hs Z La G) (hZ : ∀ y, x0 y = Z (y 0).val (y 1).val) (hL : ∀ y, k0_pay13 x1 x2 x3 y = La (y 0).val (y 1).val) (hG : ∀ y, x4 y = G (y 1).val) :
    ∀ pc ∈ (point (F := Ideal) c i arg1 harg1 arg2 harg2 arg3 harg3 arg4 harg4 arg5 harg5 arg6 harg6 arg7 harg7 arg8 harg8 x0 x1 x2 x3 x4).1, ∀ x, pc.2 x = onBlock (rowOut Hs) (pc.1.emb x) := by
  unfold point
  dsimp only
  refine (pb_pieces ok c i arg1 harg1 arg2 harg2 arg3 harg3 arg4 harg4 arg5 harg5 arg6 harg6 arg7 harg7 arg8 harg8 _ _ _ _ _ (fun y => (congrFun (harg1.read_unread x0) y).trans (hZ y)) (fun y => (congrFun (harg5.read_unread x4) y).trans (hG y)) (fun y => ?_) (fun y => ?_) _ (Nat.le_refl _)).1
  · unfold point.sl.HS0_1
    rw [read_full, View.readAt_full, View.readAt_full, View.readAt_full, harg2.read_unread, harg3.read_unread, harg4.read_unread]
    exact hL y
  · unfold point.sl.HS1_1
    rw [read_full]
    refine (congrArg k0_pay14 (ix3_eta y)).symm.trans ?_
    pointwise [k0_pay14]
    rfl
end

end Cert.GlaFwdIdeal.Hand
end
-- ==== Proof.FwdRef.lean ====
module

public import proofs.«01_k».proof.Proof.RealSpec
public import proofs.«01_k».proof.Proof.GlaRef
public import proofs.«01_k».proof.Proof.GlaScan
public import proofs.«01_k».proof.Proof.Norm
public import proofs.«01_k».proof.Proof.Gen.GlaFwdReferenceIdeal.Read
public import Idealize.ShloMosaic.Lib.Pointwise

@[expose] public section

set_option maxRecDepth 16384

noncomputable section

open Idealize.ShloMosaic Idealize.ShloMosaic.TcCoe

namespace Cert.GlaFwdReferenceIdeal.Hand

open Cert.GlaFwdReferenceIdeal Cert.GlaFwdReferenceIdeal.Gen Cert.GlaFwdReferenceIdeal.Read
open Cert.Gla
open Cert.ReferenceIdeal.Hand (rules mask rowHead row_of col2_of rowHead_row)

/-! # The values of the reference of the recurrence's forward pass, on real arguments -/

variable {A : Args} {x0 x1 : (⟨S2048x512, .bf16⟩ : BufTy).Contents (Elt Ideal)} {x2 x3 : (⟨S2048x1024, .bf16⟩ : BufTy).Contents (Elt Ideal)}
 {x4 : (⟨S2048x16, .bf16⟩ : BufTy).Contents (Elt Ideal)} {x5 : (⟨S16x512, .bf16⟩ : BufTy).Contents (Elt Ideal)} {x6 : (⟨S512, .f32⟩ : BufTy).Contents (Elt Ideal)} {x7 : (⟨S1024, .f32⟩ : BufTy).Contents (Elt Ideal)}

/-- The arguments are the real values `A` tells. -/
structure Refs (A : Args) (x0 x1 : (⟨S2048x512, .bf16⟩ : BufTy).Contents (Elt Ideal)) (x2 x3 : (⟨S2048x1024, .bf16⟩ : BufTy).Contents (Elt Ideal))
    (x4 : (⟨S2048x16, .bf16⟩ : BufTy).Contents (Elt Ideal)) (x5 : (⟨S16x512, .bf16⟩ : BufTy).Contents (Elt Ideal)) (x6 : (⟨S512, .f32⟩ : BufTy).Contents (Elt Ideal)) (x7 : (⟨S1024, .f32⟩ : BufTy).Contents (Elt Ideal)) : Prop where
  q : ∀ i j, x0 (ix2 i j) = ((A.q i j : ℝ) : EReal)
  k : ∀ i j, x1 (ix2 i j) = ((A.k i j : ℝ) : EReal)
  v : ∀ i j, x2 (ix2 i j) = ((A.v i j : ℝ) : EReal)
  gate : ∀ i j, x3 (ix2 i j) = ((A.gate i j : ℝ) : EReal)
  ga : ∀ i j, x4 (ix2 i j) = ((A.ga i j : ℝ) : EReal)
  wa : ∀ i j, x5 (ix2 i j) = ((A.wa i j : ℝ) : EReal)
  ba : ∀ j, x6 (ix1 j) = ((A.ba j : ℝ) : EReal)
  g : ∀ j, x7 (ix1 j) = ((A.g j : ℝ) : EReal)
  sc : Ideal.ofBits .f32 0x3DB504F3#32 = ((A.sc : ℝ) : EReal)
  eps : Ideal.ofBits .f32 0x358637BD#32 = ((A.eps : ℝ) : EReal)
  pos : 0 < A.eps

variable (h : Refs A x0 x1 x2 x3 x4 x5 x6 x7)

include h in
theorem v9_r (i : Fin 2048) (j : Fin 512) : val_main_v9 (F := Ideal) x4 x5 x6 (ix2 i j) = ((A.pre i j : ℝ) : EReal) := by
  pointwise [val_main_v9, val_main_v6, val_main_v7, val_main_v8, val_main_v4, val_main_v5]
  simp only [h.ga, h.wa, h.ba, row_mk, col1_mk, col2_mk, rules, Norm.sum_coe, h.sc, h.eps]
  rfl

include h in
theorem soft_r (i : Fin 2048) (j : Fin 512) : val_main_call0_v1 (F := Ideal) x4 x5 x6 (ix2 i j) = ((max (-A.pre i j) 0 + Real.log (1 + Real.exp (-|-A.pre i j|)) : ℝ) : EReal) := by
  pointwise [val_main_call0_v1, val_main_call0_call0_v4, val_main_call0_call0_v6, val_main_call0_call0_v11, val_main_call0_call0_v1, val_main_call0_call0_v10, val_main_call0_call0_v9, val_main_call0_call0_v8, val_main_call0_call0_v7, val_main_call0_call0_v3, val_main_call0_call0_v2, val_main_call0_call0_cst, val_main_call0_call0_v0, val_main_call0_call0_v5, val_main_call0_v0]
  rw [v9_r h, ← EReal.coe_neg]
  have habs : (FloatOps.absf (F := Ideal) (φ := .f32) ((-A.pre i j : ℝ) : EReal)) = ((|-A.pre i j| : ℝ) : EReal) := by
    show max _ _ = _
    rw [← EReal.coe_neg]
    exact (EReal.coe_strictMono.monotone.map_max).symm
  have hp : (0 : ℝ) < 1 + Real.exp (-|-A.pre i j|) := by have := Real.exp_pos (-|-A.pre i j|); linarith
  have hm : max ((-A.pre i j : ℝ) : EReal) 0 = ((max (-A.pre i j) 0 : ℝ) : EReal) := by
    rw [← EReal.coe_zero]
    exact (EReal.coe_strictMono.monotone.map_max).symm
  simp only [habs, hm, ← EReal.coe_neg, Ideal.exp_coe, ne_eq, not_true_eq_false, if_false]
  unfold Ideal.log1p
  rw [← EReal.coe_one, ← EReal.coe_add, Ideal.log_coe, if_neg (by linarith), ← EReal.coe_add]

include h in
theorem v12_r (i : Fin 2048) (j : Fin 512) : val_main_v12 (F := Ideal) x4 x5 x6 (ix2 i j) = ((la16 (A.pre i j) : ℝ) : EReal) := by
  pointwise [val_main_v12, val_main_v11, val_main_cst, val_main_v10]
  rw [soft_r h, Cert.Gla.c16, Ideal.div_coe (by norm_num), ← EReal.coe_neg, ← EReal.coe_mul, la16_ref]

include h in
theorem v18_r (n : Fin 32) (c : Fin 64) (p : Fin 4) (a : Fin 128) : val_main_v18 (F := Ideal) x4 x5 x6 (ix4 n c p a) = (((A.head p.val).la n.val c a : ℝ) : EReal) := by
  pointwise [val_main_v18]
  simp only [v12_r h, row_mk, col1_mk, col2_mk, rules, Norm.sum_coe, h.sc, h.eps]
  try rfl

include h in
theorem v19_r (n : Fin 32) (c : Fin 64) (p : Fin 4) (a : Fin 128) : val_main_v19 (F := Ideal) x4 x5 x6 (ix4 n c p a) = ((∑ c' : Fin 64, if c'.val ≤ c.val then (A.head p.val).la n.val c' a else 0 : ℝ) : EReal) := by
  have h0 : val_main_call1_call0_v0 (F := Ideal) (Shape.Idx.first h_S_) = 0 := by pointwise [val_main_call1_call0_v0, val_main_call1_call0_cst]
  unfold val_main_v19 Host.reduceWindowAdd
  show Ideal.hostReduceWindowAdd _ _ _ _ _ _ (val_main_call1_call0_v0 (F := Ideal) (Shape.Idx.first h_S_)) _ = _
  rw [h0]
  refine (Gla.scan4_before _ _ n c p a).trans ?_
  simp only [v18_r h, ← EReal.coe_zero, ← apply_ite (f := Real.toEReal), Norm.sum_coe]

include h in
theorem v21_r (n : Fin 32) (p : Fin 4) (a : Fin 128) : val_main_v21 (F := Ideal) x4 x5 x6 (ix3 n p a) = (((A.head p.val).lend n.val a : ℝ) : EReal) := by
  pointwise [val_main_v21, val_main_v20]
  simp only [v19_r h, row_mk, col1_mk, col2_mk, rules, Norm.sum_coe, h.sc, h.eps]
  unfold Head.lend
  refine congrArg Real.toEReal (Finset.sum_congr rfl fun c _ => ?_)
  exact if_pos (by have := c.isLt; show c.val ≤ 63; omega)

include h in
theorem v25_r (n : Fin 32) (c : Fin 64) (p : Fin 4) (a : Fin 128) : val_main_v25 (F := Ideal) x4 x5 x6 (ix4 n c p a) = (((A.head p.val).dec n.val c a : ℝ) : EReal) := by
  pointwise [val_main_v25, val_main_v24, val_main_v23, val_main_v22]
  simp only [v21_r h, v19_r h, row_mk, col1_mk, col2_mk, rules, Norm.sum_coe, h.sc, h.eps]
  rfl

include h in
theorem v16_r (n : Fin 32) (c : Fin 64) (p : Fin 4) (a : Fin 128) : val_main_v16 (F := Ideal) x1 (ix4 n c p a) = (((A.head p.val).k n.val c a : ℝ) : EReal) := by
  pointwise [val_main_v16, val_main_v1]
  simp only [h.k, row_mk, col1_mk, col2_mk, rules, Norm.sum_coe, h.sc, h.eps]
  rfl

include h in
theorem v26_r (n : Fin 32) (c : Fin 64) (p : Fin 4) (a : Fin 128) : val_main_v26 (F := Ideal) x1 x4 x5 x6 (ix4 n c p a) = (((A.head p.val).kd n.val c a : ℝ) : EReal) := by
  pointwise [val_main_v26]
  simp only [v16_r h, v25_r h, row_mk, col1_mk, col2_mk, rules, Norm.sum_coe, h.sc, h.eps]
  rfl

include h in
theorem v17_r (n : Fin 32) (c : Fin 64) (p : Fin 4) (b : Fin 256) : val_main_v17 (F := Ideal) x2 (ix4 n c p b) = (((A.head p.val).v n.val c b : ℝ) : EReal) := by
  pointwise [val_main_v17, val_main_v2]
  simp only [h.v, row_mk, col1_mk, col2_mk, rules, Norm.sum_coe, h.sc, h.eps]
  rfl

include h in
theorem v27_r (n : Fin 32) (p : Fin 4) (a : Fin 128) (b : Fin 256) : val_main_v27 (F := Ideal) x1 x2 x4 x5 x6 (ix4 n p a b) = (((A.head p.val).U n.val b a : ℝ) : EReal) := by
  pointwise [val_main_v27]
  simp only [v26_r h, v17_r h, row_mk, col1_mk, col2_mk, rules, Norm.sum_coe, h.sc, h.eps]
  congr 1
  exact Finset.sum_congr rfl fun c _ => mul_comm _ _

include h in
theorem v28_r (n : Fin 32) (p : Fin 4) (a : Fin 128) : val_main_v28 (F := Ideal) x4 x5 x6 (ix3 n p a) = (((A.head p.val).C n.val a : ℝ) : EReal) := by
  have h0 : val_main_call2_call0_v0 (F := Ideal) (Shape.Idx.first h_S_) = 0 := by pointwise [val_main_call2_call0_v0, val_main_call2_call0_cst]
  unfold val_main_v28 Host.reduceWindowAdd
  show Ideal.hostReduceWindowAdd _ _ _ _ _ _ (val_main_call2_call0_v0 (F := Ideal) (Shape.Idx.first h_S_)) _ = _
  rw [h0]
  refine (Gla.scan3_before _ _ n p a).trans ?_
  simp only [v21_r h, ← EReal.coe_zero, ← apply_ite (f := Real.toEReal), Norm.sum_coe]
  congr 1
  have hn := n.isLt
  refine (sum_below (fun m => if m ≤ n.val then (A.head p.val).lend m a else 0) (n.val + 1) (by omega) fun m h1 _ => if_neg (by omega)).trans ?_
  exact Finset.sum_congr rfl fun m hm => if_pos (Nat.lt_succ_iff.mp (Finset.mem_range.mp hm))

include h in
theorem v42_r (n m : Fin 32) (p : Fin 4) (a : Fin 128) : val_main_v42 (F := Ideal) x4 x5 x6 (ix4 n m p a) = ((Real.exp ((A.head p.val).C n.val a - (A.head p.val).C m.val a) : ℝ) : EReal) := by
  pointwise [val_main_v42, val_main_v41, val_main_v40, val_main_v39, val_main_v38, val_main_v37]
  simp only [v28_r h, row_mk, col1_mk, col2_mk, rules, Norm.sum_coe, h.sc, h.eps]

theorem v43_1_r (n m : Fin 32) (p : Fin 4) (a : Fin 128) : val_main_call3_v1 (F := Ideal) (ix4 n m p a) = if m.val ≤ n.val then 1#1 else 0#1 := by
  refine Eq.trans ?_ (mask n m)
  pointwise [val_main_call3_v1, val_main_v36, val_main_v35, val_main_v34, val_main_v33, val_main_v32, val_main_v31, val_main_v30, val_main_v29]

include h in
theorem v43_r (n m : Fin 32) (p : Fin 4) (a : Fin 128) : val_main_v43 (F := Ideal) x4 x5 x6 (ix4 n m p a) = (((if m.val ≤ n.val then Real.exp ((A.head p.val).C n.val a - (A.head p.val).C m.val a) else 0) : ℝ) : EReal) := by
  have h0 : val_main_call3_v2 (F := Ideal) (ix4 n m p a) = 0 := by
    pointwise [val_main_call3_v2, val_main_call3_v0, val_main_cst_1]
    show constant (F := Ideal) S_ .f32 0x00000000#32 ix0 = 0
    pointwise []
  show Scalar.select (val_main_call3_v1 (F := Ideal) (ix4 n m p a)) (val_main_v42 (F := Ideal) x4 x5 x6 (ix4 n m p a)) (val_main_call3_v2 (F := Ideal) (ix4 n m p a)) = _
  rw [v43_1_r, v42_r h, h0]
  by_cases hh : m.val ≤ n.val
  · rw [if_pos hh, if_pos hh]
    rfl
  · rw [if_neg hh, if_neg hh]
    rfl

include h in
theorem v15_r (n : Fin 32) (c : Fin 64) (p : Fin 4) (a : Fin 128) : val_main_v15 (F := Ideal) x0 (ix4 n c p a) = (((A.head p.val).qs n.val c a : ℝ) : EReal) := by
  pointwise [val_main_v15, val_main_v13, val_main_v14, val_main_cst_0, val_main_v0]
  simp only [h.q, row_mk, col1_mk, col2_mk, rules, Norm.sum_coe, h.sc, h.eps]
  rfl

include h in
theorem v45_r (n : Fin 32) (p : Fin 4) (a : Fin 128) (b : Fin 256) : val_main_v45 (F := Ideal) x1 x2 x4 x5 x6 (ix4 n p a b) = (((A.head p.val).S (n.val + 1) b a : ℝ) : EReal) := by
  pointwise [val_main_v45, val_main_v44]
  simp only [v27_r h, v43_r h, row_mk, col1_mk, col2_mk, rules, Norm.sum_coe, h.sc, h.eps]
  rw [Head.S_mask]

include h in
theorem v47_r (n : Fin 32) (c : Fin 64) (p : Fin 4) (b : Fin 256) : val_main_v47 (F := Ideal) x0 x1 x2 x4 x5 x6 (ix4 n c p b) = (((A.head p.val).o n.val c b : ℝ) : EReal) := by
  pointwise [val_main_v47, val_main_v46]
  simp only [v45_r h, v15_r h, row_mk, col1_mk, col2_mk, rules, Norm.sum_coe, h.sc, h.eps]
  congr 1
  exact Finset.sum_congr rfl fun a _ => mul_comm _ _

include h in
theorem v48_r (i : Fin 2048) (p : Fin 4) (b : Fin 256) : val_main_v48 (F := Ideal) x0 x1 x2 x4 x5 x6 (ix3 i p b) = ((rowHead A p.val i b : ℝ) : EReal) := by
  pointwise [val_main_v48]
  simp only [v47_r h, row_mk, col1_mk, col2_mk, rules, Norm.sum_coe, h.sc, h.eps]
  rfl

include h in
theorem v55_r (i : Fin 2048) (p : Fin 4) (z : Fin 1) : val_main_v55 (F := Ideal) x0 x1 x2 x4 x5 x6 (ix3 i p z) = ((var A.eps (rowHead A p.val i) : ℝ) : EReal) := by
  pointwise [val_main_v55, val_main_v54, val_main_v53, val_main_v52, val_main_v51, val_main_v50, val_main_v49, val_main_cst_2, val_main_cst_3, val_main_cst_4]
  simp only [v48_r h, Ideal.div_coe (show (256 : ℝ) ≠ 0 by norm_num), row_mk, col1_mk, col2_mk, rules, Norm.sum_coe, h.sc, h.eps]
  rfl

include h in
theorem v56_r (i : Fin 2048) (p : Fin 4) (z : Fin 1) : val_main_v56 (F := Ideal) x0 x1 x2 x4 x5 x6 (ix3 i p z) = (((Real.sqrt (var A.eps (rowHead A p.val i)))⁻¹ : ℝ) : EReal) := by
  pointwise [val_main_v56]
  simp only [v55_r h, rsqrt_pos _ (var_pos A.eps h.pos _), row_mk, col1_mk, col2_mk, rules, Norm.sum_coe, h.sc, h.eps]

include h in
theorem v58_r (i : Fin 2048) (p : Fin 4) (b : Fin 256) : val_main_v58 (F := Ideal) x0 x1 x2 x4 x5 x6 (ix3 i p b) = ((oh A.eps (rowHead A p.val i) b : ℝ) : EReal) := by
  pointwise [val_main_v58, val_main_v57]
  simp only [v48_r h, v56_r h, row_mk, col1_mk, col2_mk, rules, Norm.sum_coe, h.sc, h.eps]
  rfl

include h in
theorem sig_r (i : Fin 2048) (j : Fin 1024) : val_main_call4_v5 (F := Ideal) x3 (ix2 i j) = ((Gla.sig (A.gate i j) : ℝ) : EReal) := by
  pointwise [val_main_call4_v5, val_main_call4_v4, val_main_call4_v3, val_main_call4_v2, val_main_call4_v1, val_main_call4_v0, val_main_call4_cst, val_main_call4_cst_0, val_main_v3]
  rw [h.gate, ← zero_sub, sig_coe]

include h in
theorem v59_r (p : Fin 4) (b : Fin 256) : val_main_v59 (F := Ideal) x7 (ix2 p b) = (((A.head p.val).g b : ℝ) : EReal) := by
  pointwise [val_main_v59]
  simp only [h.g, row_mk, col1_mk, col2_mk, rules, Norm.sum_coe, h.sc, h.eps]
  rfl

/-- The gated output of the recurrence: row `i`, column `j`. -/
def outAt (A : Args) (i : Fin 2048) (j : Fin 1024) : ℝ :=
  oh A.eps (rowHead A (j.val / 256) i) ⟨j.val % 256, Nat.mod_lt _ (by decide)⟩ * A.g j * (A.gate i j * Gla.sig (A.gate i j))

include h in
theorem v62_r (i : Fin 2048) (p : Fin 4) (b : Fin 256) : val_main_v62 (F := Ideal) x0 x1 x2 x4 x5 x6 x7 (ix3 i p b) = ((oh A.eps (rowHead A p.val i) b * (A.head p.val).g b : ℝ) : EReal) := by
  pointwise [val_main_v62, val_main_v61, val_main_v60]
  simp only [v58_r h, v59_r h, rules]

include h in
theorem v66_r (i : Fin 2048) (j : Fin 1024) : val_main_v66 (F := Ideal) x0 x1 x2 x3 x4 x5 x6 x7 (ix2 i j) = ((outAt A i j : ℝ) : EReal) := by
  pointwise [val_main_v66, val_main_v65, val_main_v64, val_main_v63, val_main_v3]
  simp only [v62_r h, sig_r h, h.gate, rules, row_mk, col1_mk, col2_mk]
  unfold outAt
  have e : (A.head (j.val / 256)).g ⟨j.val % 256, Nat.mod_lt _ (by decide)⟩ = A.g j := by
    show A.g (col2 _ _) = _
    rw [col2_of]
  rw [← e]

end Cert.GlaFwdReferenceIdeal.Hand

end
-- ==== Proof.FwdHost.lean ====
module

public import proofs.«01_k».proof.Proof.FwdTrip
public import proofs.«01_k».proof.Proof.FwdRef
public import proofs.«01_k».proof.Proof.GlaAt
public import Idealize.ShloMosaic.Lib.StableHlo.Run

@[expose] public section

set_option maxRecDepth 16384

noncomputable section

open Idealize.ShloMosaic Idealize.ShloMosaic.TcCoe

namespace Cert.GlaFwdIdeal.Hand

open Idealize.ShloMosaic.Pipeline Idealize.ShloMosaic.StableHlo Cert.GlaFwdIdeal Cert.GlaFwdIdeal.Gen
open Cert.Gla (Args row col1 col2 la16 oh)
open Cert.KernelIdeal.Hand (packed packed_q packed_k packed_v packed_gate pad_ga pad_wa sum_pad)

/-! # The forward call's packed arguments, its windows and its result on real numbers -/

variable (m : (ℓ : Loc nD τ sig) → Buf (Elt Ideal) ℓ)

theorem V5 (c : Dev nD) : V m c main_v5 = packed (m ((c : Thread nD τ).loc main_arg0)) (m ((c : Thread nD τ).loc main_arg1)) (m ((c : Thread nD τ).loc main_arg2)) (m ((c : Thread nD τ).loc main_arg3)) := by
  show StableHlo.after (List.flatten [hostOps0, hostOps0_1, hostOps0_2, hostOps0_3, hostOps0_4]) (fun b => m (c, b)) main_v5 = _
  simp only [hostOps0, hostOps0_1, hostOps0_2, hostOps0_3, hostOps0_4, List.flatten_cons, List.flatten_nil, List.append_nil, List.cons_append, List.nil_append]
  after_results_simp
  rfl

theorem V6 (c : Dev nD) : V m c main_v6 = pad S2048x128 ![0, 0] ![0, 112] ![0, 0] (m ((c : Thread nD τ).loc main_arg4)) (sitofp (F := Ideal) .bf16 (constantI S_ 32 0#32)) pads_S2048x16_S2048x128_000_01120 h_S_ := by
  show StableHlo.after (List.flatten [hostOps0, hostOps0_1, hostOps0_2, hostOps0_3, hostOps0_4]) (fun b => m (c, b)) main_v6 = _
  simp only [hostOps0, hostOps0_1, hostOps0_2, hostOps0_3, hostOps0_4, List.flatten_cons, List.flatten_nil, List.append_nil, List.cons_append, List.nil_append]
  after_results_simp
  rfl

theorem V7 (c : Dev nD) : V m c main_v7 = pad S128x512 ![0, 0] ![112, 0] ![0, 0] (m ((c : Thread nD τ).loc main_arg5)) (sitofp (F := Ideal) .bf16 (constantI S_ 32 0#32)) pads_S16x512_S128x512_01120_000 h_S_ := by
  show StableHlo.after (List.flatten [hostOps0, hostOps0_1, hostOps0_2, hostOps0_3, hostOps0_4]) (fun b => m (c, b)) main_v7 = _
  simp only [hostOps0, hostOps0_1, hostOps0_2, hostOps0_3, hostOps0_4, List.flatten_cons, List.flatten_nil, List.append_nil, List.cons_append, List.nil_append]
  after_results_simp
  rfl

theorem V8 (c : Dev nD) : V m c main_v8 = broadcastInDim S1x512 ![1] bcast_S512_S1x512_1 (m ((c : Thread nD τ).loc main_arg6)) := by
  show StableHlo.after (List.flatten [hostOps0, hostOps0_1, hostOps0_2, hostOps0_3, hostOps0_4]) (fun b => m (c, b)) main_v8 = _
  simp only [hostOps0, hostOps0_1, hostOps0_2, hostOps0_3, hostOps0_4, List.flatten_cons, List.flatten_nil, List.append_nil, List.cons_append, List.nil_append]
  after_results_simp

theorem V9 (c : Dev nD) : V m c main_v9 = broadcastInDim S1x1024 ![1] bcast_S1024_S1x1024_1 (m ((c : Thread nD τ).loc main_arg7)) := by
  show StableHlo.after (List.flatten [hostOps0, hostOps0_1, hostOps0_2, hostOps0_3, hostOps0_4]) (fun b => m (c, b)) main_v9 = _
  simp only [hostOps0, hostOps0_1, hostOps0_2, hostOps0_3, hostOps0_4, List.flatten_cons, List.flatten_nil, List.append_nil, List.cons_append, List.nil_append]
  after_results_simp

theorem V8_apply (c : Dev nD) (z : Fin 1) (j : Fin 512) : (V m c main_v8 : Vec Ideal S1x512 .f32) (ix2 z j) = (m ((c : Thread nD τ).loc main_arg6) : Vec Ideal S512 .f32) (ix1 j) := by
  rw [V8]
  pointwise []

theorem V9_apply (c : Dev nD) (z : Fin 1) (j : Fin 1024) : (V m c main_v9 : Vec Ideal S1x1024 .f32) (ix2 z j) = (m ((c : Thread nD τ).loc main_arg7) : Vec Ideal S1024 .f32) (ix1 j) := by
  rw [V9]
  pointwise []

theorem V6_apply (c : Dev nD) (i : Fin 2048) (e : Fin 128) : (V m c main_v6 : Vec Ideal S2048x128 .bf16) (ix2 i e) = if h : e.val < 16 then (m ((c : Thread nD τ).loc main_arg4) : Vec Ideal S2048x16 .bf16) (ix2 i ⟨e.val, h⟩) else (0 : EReal) :=
  (congrFun (V6 m c) (ix2 i e)).trans (pad_ga _ i e)

theorem V7_apply (c : Dev nD) (e : Fin 128) (j : Fin 512) : (V m c main_v7 : Vec Ideal S128x512 .bf16) (ix2 e j) = if h : e.val < 16 then (m ((c : Thread nD τ).loc main_arg5) : Vec Ideal S16x512 .bf16) (ix2 ⟨e.val, h⟩ j) else (0 : EReal) :=
  (congrFun (V7 m c) (ix2 e j)).trans (pad_wa _ e j)

theorem t_lt (t : Fin cfg0.N) : t.val < 2 := lt_of_lt_of_eq t.isLt (show cfg0.N = 2 from N_0)

theorem idx_facts : ∀ t : Fin cfg0.N, win0_0.index t 0 = 0 ∧ win0_0.index t 1 = t.val ∧ win0_1.index t 0 = 0 ∧ win0_1.index t 1 = 0 ∧ win0_2.index t 0 = 0 ∧ win0_2.index t 1 = t.val ∧ win0_3.index t 0 = 0 ∧ win0_3.index t 1 = t.val ∧ win0_4.index t 0 = 0 ∧ win0_4.index t 1 = t.val ∧ win0_5.index t 0 = 0 ∧ win0_5.index t 1 = t.val :=
  (by decide +kernel : ∀ t : Fin grid0.N, win0_0.index t 0 = 0 ∧ win0_0.index t 1 = t.val ∧ win0_1.index t 0 = 0 ∧ win0_1.index t 1 = 0 ∧ win0_2.index t 0 = 0 ∧ win0_2.index t 1 = t.val ∧ win0_3.index t 0 = 0 ∧ win0_3.index t 1 = t.val ∧ win0_4.index t 0 = 0 ∧ win0_4.index t 1 = t.val ∧ win0_5.index t 0 = 0 ∧ win0_5.index t 1 = t.val)

/-- The column of the whole array a head pair's column is. -/
def colT (t : Fin cfg0.N) (j : Fin 256) : Fin 512 := ⟨t.val * 256 + j.val, by have := t_lt t; omega⟩

theorem blk0 (c : Dev nD) (t : Fin cfg0.N) (r : Fin 2048) (k : Fin 1536) :
    (iblk m c 0 t : Vec Ideal S2048x1536 .bf16) (ix2 r k) = (V m c main_v5 : Vec Ideal S2048x3072 .bf16) (ix2 r ⟨t.val * 1536 + k.val, by have := t_lt t; omega⟩) := by
  have ht := t_lt t
  unfold iblk
  rw [View.read_apply]
  show V m c main_v5 _ = _
  congr 1
  funext a
  apply Fin.ext
  match a with
  | ⟨0, _⟩ => show win0_0.index t 0 * 2048 + 1 * r.val = r.val; rw [(idx_facts t).1]; omega
  | ⟨1, _⟩ => show win0_0.index t 1 * 1536 + 1 * k.val = t.val * 1536 + k.val; rw [(idx_facts t).2.1]; omega

theorem blk1 (c : Dev nD) (t : Fin cfg0.N) (r : Fin 2048) (k : Fin 128) :
    (iblk m c 1 t : Vec Ideal S2048x128 .bf16) (ix2 r k) = (V m c main_v6 : Vec Ideal S2048x128 .bf16) (ix2 r k) := by
  have ht := t_lt t
  unfold iblk
  rw [View.read_apply]
  show V m c main_v6 _ = _
  congr 1
  funext a
  apply Fin.ext
  match a with
  | ⟨0, _⟩ => show win0_1.index t 0 * 2048 + 1 * r.val = r.val; rw [(idx_facts t).2.2.1]; omega
  | ⟨1, _⟩ => show win0_1.index t 1 * 128 + 1 * k.val = k.val; rw [(idx_facts t).2.2.2.1]; omega

theorem blk2 (c : Dev nD) (t : Fin cfg0.N) (r : Fin 128) (k : Fin 256) :
    (iblk m c 2 t : Vec Ideal S128x256 .bf16) (ix2 r k) = (V m c main_v7 : Vec Ideal S128x512 .bf16) (ix2 r ⟨t.val * 256 + k.val, by have := t_lt t; omega⟩) := by
  have ht := t_lt t
  unfold iblk
  rw [View.read_apply]
  show V m c main_v7 _ = _
  congr 1
  funext a
  apply Fin.ext
  match a with
  | ⟨0, _⟩ => show win0_2.index t 0 * 128 + 1 * r.val = r.val; rw [(idx_facts t).2.2.2.2.1]; omega
  | ⟨1, _⟩ => show win0_2.index t 1 * 256 + 1 * k.val = t.val * 256 + k.val; rw [(idx_facts t).2.2.2.2.2.1]; omega

theorem blk3 (c : Dev nD) (t : Fin cfg0.N) (r : Fin 1) (k : Fin 256) :
    (iblk m c 3 t : Vec Ideal S1x256 .f32) (ix2 r k) = (V m c main_v8 : Vec Ideal S1x512 .f32) (ix2 r ⟨t.val * 256 + k.val, by have := t_lt t; omega⟩) := by
  have ht := t_lt t
  unfold iblk
  rw [View.read_apply]
  show V m c main_v8 _ = _
  congr 1
  funext a
  apply Fin.ext
  match a with
  | ⟨0, _⟩ => show win0_3.index t 0 * 1 + 1 * r.val = r.val; rw [(idx_facts t).2.2.2.2.2.2.1]; omega
  | ⟨1, _⟩ => show win0_3.index t 1 * 256 + 1 * k.val = t.val * 256 + k.val; rw [(idx_facts t).2.2.2.2.2.2.2.1]; omega

theorem blk4 (c : Dev nD) (t : Fin cfg0.N) (r : Fin 1) (k : Fin 512) :
    (iblk m c 4 t : Vec Ideal S1x512 .f32) (ix2 r k) = (V m c main_v9 : Vec Ideal S1x1024 .f32) (ix2 r ⟨t.val * 512 + k.val, by have := t_lt t; omega⟩) := by
  have ht := t_lt t
  unfold iblk
  rw [View.read_apply]
  show V m c main_v9 _ = _
  congr 1
  funext a
  apply Fin.ext
  match a with
  | ⟨0, _⟩ => show win0_4.index t 0 * 1 + 1 * r.val = r.val; rw [(idx_facts t).2.2.2.2.2.2.2.2.1]; omega
  | ⟨1, _⟩ => show win0_4.index t 1 * 512 + 1 * k.val = t.val * 512 + k.val; rw [(idx_facts t).2.2.2.2.2.2.2.2.2.1]; omega

end Cert.GlaFwdIdeal.Hand

end
-- ==== Proof.GlaFwd.lean ====
module

public import proofs.«01_k».proof.Proof.FwdHost
public import proofs.«01_k».proof.Proof.GlaFinal
public import proofs.«01_k».proof.Proof.Gen.GlaFwdReferenceIdeal.Run
public import proofs.«01_k».proof.Proof.Gen.GlaFwdReferenceIdeal.Read
public import proofs.«01_k».proof.Proof.Gen.Pre_finite_gla
public import Idealize.ShloMosaic.Lib.Quiescent

@[expose] public section

set_option maxRecDepth 16384

noncomputable section

open Idealize.ShloMosaic Idealize.ShloMosaic.TcCoe Idealize.SL.Sem

namespace Cert.GlaFwdReferenceIdeal.Hand

theorem frame_reference : Cert.quiescent_GlaFwdReferenceIdeal := by
  intro m ρ _
  refine (θ_run _ _ _).mono (fun r h => ⟨fun c => (h c).2, sem_eq_zero_of_no_sems (by decide) _⟩) (Cert.GlaFwdReferenceIdeal.Value.run m ρ)

end Cert.GlaFwdReferenceIdeal.Hand

namespace Cert.GlaFwdIdeal.Hand

open Idealize.ShloMosaic.Pipeline Cert.GlaFwdIdeal Cert.GlaFwdIdeal.Gen
open Cert.Gla (Args row col1 col2 la16 oh)
open Cert.GlaFwdReferenceIdeal.Hand (Refs)
open Cert.KernelIdeal.Hand (packed packed_q packed_k packed_v packed_gate sum_pad)

/-! # The forward call and its reference leave the same array -/

variable (m : (ℓ : Loc nD τ sig) → Buf (Elt Ideal) ℓ)

/-- The arguments on device `c` are the real values `A` tells. -/
def Holds (c : Dev nD) (A : Args) : Prop :=
  Refs A (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))

/-- The blocks the decay is made of. -/
abbrev x1B (c : Dev nD) (t : Fin cfg0.N) : Vec Ideal S2048x128 .bf16 := iblk m c 1 t
abbrev x2B (c : Dev nD) (t : Fin cfg0.N) : Vec Ideal S128x256 .bf16 := iblk m c 2 t
abbrev x3B (c : Dev nD) (t : Fin cfg0.N) : Vec Ideal S1x256 .f32 := iblk m c 3 t

/-- The packed rows, the decay and the gains of point `t`, by row and column. -/
def zAt (c : Dev nD) (t : Fin cfg0.N) (r k : ℕ) : EReal := (iblk m c 0 t : Vec Ideal S2048x1536 .bf16) (ix2 (⟨r % 2048, Nat.mod_lt _ (by decide)⟩ : Fin 2048) (⟨k % 1536, Nat.mod_lt _ (by decide)⟩ : Fin 1536))
def laAt (c : Dev nD) (t : Fin cfg0.N) (r k : ℕ) : EReal := k0_pay13 (F := Ideal) (iblk m c 1 t) (iblk m c 2 t) (iblk m c 3 t) (ix2 (⟨r % 2048, Nat.mod_lt _ (by decide)⟩ : Fin 2048) (⟨k % 256, Nat.mod_lt _ (by decide)⟩ : Fin 256))
def gAt (c : Dev nD) (t : Fin cfg0.N) (k : ℕ) : EReal := (iblk m c 4 t : Vec Ideal S1x512 .f32) (ix2 0 (⟨k % 512, Nat.mod_lt _ (by decide)⟩ : Fin 512))

theorem at_mod {N M : ℕ} (y : (⟨2, ![N, M]⟩ : Shape).Idx) (h0 : (y 0).val % N < N) (h1 : (y 1).val % M < M) : y = ix2 (⟨(y 0).val % N, h0⟩ : Fin N) (⟨(y 1).val % M, h1⟩ : Fin M) :=
  (ix2_eta y).symm.trans (congrArg₂ ix2 (Fin.ext (Nat.mod_eq_of_lt (y 0).isLt).symm) (Fin.ext (Nat.mod_eq_of_lt (y 1).isLt).symm))

section
variable {m} {c : Dev nD} {A : Args} (h : Holds m c A)
include h

theorem pre_r (t : Fin cfg0.N) (i : Fin 2048) (j : Fin 256) :
    (∑ e : Fin 128, x1B m c t (ix2 i e) * x2B m c t (ix2 e j)) + x3B m c t (ix2 0 j) = ((A.pre i (colT t j) : ℝ) : EReal) := by
  have h1 : ∀ e : Fin 128, x1B m c t (ix2 i e) = ((if h : e.val < 16 then A.ga i ⟨e.val, h⟩ else 0 : ℝ) : EReal) := fun e => by
    refine (blk1 m c t i e).trans ((V6_apply m c i e).trans ?_)
    by_cases he : e.val < 16
    · rw [dif_pos he, dif_pos he]; exact h.ga i ⟨e.val, he⟩
    · rw [dif_neg he, dif_neg he, EReal.coe_zero]
  have h2 : ∀ e : Fin 128, x2B m c t (ix2 e j) = ((if h : e.val < 16 then A.wa ⟨e.val, h⟩ (colT t j) else 0 : ℝ) : EReal) := fun e => by
    refine (blk2 m c t e j).trans ((V7_apply m c e _).trans ?_)
    by_cases he : e.val < 16
    · rw [dif_pos he, dif_pos he]; exact h.wa ⟨e.val, he⟩ _
    · rw [dif_neg he, dif_neg he, EReal.coe_zero]
  have h3 : x3B m c t (ix2 0 j) = ((A.ba (colT t j) : ℝ) : EReal) := (blk3 m c t 0 j).trans ((V8_apply m c 0 _).trans (h.ba _))
  simp only [h1, h2, h3, ← EReal.coe_mul, Norm.sum_coe, ← EReal.coe_add]
  congr 1
  unfold Args.pre
  rw [← sum_pad fun e => A.ga i e * A.wa e (colT t j)]
  refine congrArg (· + _) (Finset.sum_congr rfl fun e _ => ?_)
  by_cases he : e.val < 16
  · rw [dif_pos he, dif_pos he, dif_pos he]
  · rw [dif_neg he, dif_neg he, dif_neg he, mul_zero]

omit h in
theorem cut_row (n : ℕ) (x : Fin 64) (hx : (64 * n + x.val) % 2048 < 2048) : (⟨(64 * n + x.val) % 2048, hx⟩ : Fin 2048) = row n x :=
  Fin.ext (by show (64 * n + x.val) % 2048 = (n * 64 + x.val) % 2048; rw [Nat.mul_comm])

theorem zq_r (t : Fin cfg0.N) (p : ℕ) (hp : p < 2) (n : ℕ) (x : Fin 64) (a : Fin 128) : zAt m c t (64 * n + x.val) (768 * p + a.val) = ((A.q (row n x) (col1 (2 * t.val + p) a) : ℝ) : EReal) := by
  have ht := t_lt t
  have ha := a.isLt
  refine (blk0 m c t _ _).trans ((congrFun (V5 m c) _).trans ((packed_q _ _ _ _ _ _ (⟨2 * t.val + p, by omega⟩ : Fin 4) a (by show t.val * 1536 + (768 * p + a.val) % 1536 = 768 * (2 * t.val + p) + 0 + a.val; omega)).trans ((h.q _ _).trans ?_)))
  refine congrArg Real.toEReal (congrArg₂ A.q (cut_row n x _) (Fin.ext ?_))
  show (2 * t.val + p) * 128 + a.val = ((2 * t.val + p) * 128 + a.val) % 512
  omega

theorem zk_r (t : Fin cfg0.N) (p : ℕ) (hp : p < 2) (n : ℕ) (x : Fin 64) (a : Fin 128) : zAt m c t (64 * n + x.val) (768 * p + 128 + a.val) = ((A.k (row n x) (col1 (2 * t.val + p) a) : ℝ) : EReal) := by
  have ht := t_lt t
  have ha := a.isLt
  refine (blk0 m c t _ _).trans ((congrFun (V5 m c) _).trans ((packed_k _ _ _ _ _ _ (⟨2 * t.val + p, by omega⟩ : Fin 4) a (by show t.val * 1536 + (768 * p + 128 + a.val) % 1536 = 768 * (2 * t.val + p) + 128 + a.val; omega)).trans ((h.k _ _).trans ?_)))
  refine congrArg Real.toEReal (congrArg₂ A.k (cut_row n x _) (Fin.ext ?_))
  show (2 * t.val + p) * 128 + a.val = ((2 * t.val + p) * 128 + a.val) % 512
  omega

theorem zv_r (t : Fin cfg0.N) (p : ℕ) (hp : p < 2) (n : ℕ) (x : Fin 64) (a : Fin 256) : zAt m c t (64 * n + x.val) (768 * p + 256 + a.val) = ((A.v (row n x) (col2 (2 * t.val + p) a) : ℝ) : EReal) := by
  have ht := t_lt t
  have ha := a.isLt
  refine (blk0 m c t _ _).trans ((congrFun (V5 m c) _).trans ((packed_v _ _ _ _ _ _ (⟨2 * t.val + p, by omega⟩ : Fin 4) a (by show t.val * 1536 + (768 * p + 256 + a.val) % 1536 = 768 * (2 * t.val + p) + 256 + a.val; omega)).trans ((h.v _ _).trans ?_)))
  refine congrArg Real.toEReal (congrArg₂ A.v (cut_row n x _) (Fin.ext ?_))
  show (2 * t.val + p) * 256 + a.val = ((2 * t.val + p) * 256 + a.val) % 1024
  omega

theorem zgate_r (t : Fin cfg0.N) (p : ℕ) (hp : p < 2) (n : ℕ) (x : Fin 64) (a : Fin 256) : zAt m c t (64 * n + x.val) (768 * p + 512 + a.val) = ((A.gate (row n x) (col2 (2 * t.val + p) a) : ℝ) : EReal) := by
  have ht := t_lt t
  have ha := a.isLt
  refine (blk0 m c t _ _).trans ((congrFun (V5 m c) _).trans ((packed_gate _ _ _ _ _ _ (⟨2 * t.val + p, by omega⟩ : Fin 4) a (by show t.val * 1536 + (768 * p + 512 + a.val) % 1536 = 768 * (2 * t.val + p) + 512 + a.val; omega)).trans ((h.gate _ _).trans ?_)))
  refine congrArg Real.toEReal (congrArg₂ A.gate (cut_row n x _) (Fin.ext ?_))
  show (2 * t.val + p) * 256 + a.val = ((2 * t.val + p) * 256 + a.val) % 1024
  omega

/-- At every point the buffers hold the two heads' values. -/
theorem ok_at (t : Fin cfg0.N) : Ok (fun p => A.head (2 * t.val + p)) (zAt m c t) (laAt m c t) (gAt m c t) where
  q p n x a hp _ := zq_r h t p hp n x a
  k p n x a hp _ := zk_r h t p hp n x a
  v p n x b hp _ := zv_r h t p hp n x b
  gate p n x b hp _ := zgate_r h t p hp n x b
  la p n x a hp _ := by
    have ht := t_lt t
    refine (pay13_r _ _ _ (fun i j => A.pre i (colT t j)) (pre_r h t) _ _).trans (congrArg Real.toEReal (congrArg la16 (congrArg₂ A.pre (cut_row n x _) (Fin.ext ?_))))
    show t.val * 256 + (128 * p + a.val) % 256 = ((2 * t.val + p) * 128 + a.val) % 512
    omega
  g p b hp := by
    have ht := t_lt t
    refine (blk4 m c t _ _).trans ((V9_apply m c _ _).trans ((h.g _).trans (congrArg Real.toEReal (congrArg A.g (Fin.ext ?_)))))
    show t.val * 512 + (256 * p + b.val) % 512 = ((2 * t.val + p) * 256 + b.val) % 1024
    omega
  sc _ _ := h.sc
  eps _ _ := h.eps
  pos _ _ := h.pos

theorem out_at (t : Fin cfg0.N) (y : S2048x512.Idx) : outAt m c t y = onBlock (rowOut fun p => A.head (2 * t.val + p)) y := by
  unfold outAt outOf
  refine View.read_writes_apply_of_pieces VO0_5 VO0_5.junk (onBlock (rowOut fun p => A.head (2 * t.val + p))) _ ?_ y (covered (F := Ideal) c _ _ _ _ _ _ _ _ _ _ _ _ _ _ _ _ _ _ _ _ _ _ y)
  exact run_pieces c _ _ _ _ _ _ _ _ _ _ _ _ _ _ _ _ _ _ _ _ _ _ (ok_at h t) (fun y => congrArg (iblk m c 0 t : Vec Ideal S2048x1536 .bf16) (at_mod y _ _)) (fun y => congrArg (k0_pay13 (F := Ideal) (iblk m c 1 t) (iblk m c 2 t) (iblk m c 3 t)) (at_mod y _ _))
    (fun y => congrArg (iblk m c 4 t : Vec Ideal S1x512 .f32) ((at_mod y (Nat.mod_lt _ (by decide)) _).trans (congrArg (ix2 · _) (Subsingleton.elim _ _))))
end

/-- What the call leaves. -/
def G5 (A : Args) (c : Dev nD) : Buf (Elt Ideal) ((c : Thread nD τ).loc main_v10) :=
  fun i => ((Cert.GlaFwdReferenceIdeal.Hand.outAt A ⟨(i 0).val, (i 0).isLt⟩ ⟨(i 1).val, (i 1).isLt⟩ : ℝ) : EReal)

/-- A point's block of the result. -/
theorem head_out (A : Args) (t : ℕ) (ht : t < 2) (i : Fin 2048) (j : Fin 512) (j' : Fin 1024) (hj : j'.val = 512 * t + j.val) :
    rowOut (fun p => A.head (2 * t + p)) i.val (j.val / 256) ⟨j.val % 256, Nat.mod_lt _ (by decide)⟩ = ((Cert.GlaFwdReferenceIdeal.Hand.outAt A i j' : ℝ) : EReal) := by
  have hj' := j.isLt
  have e1 : 2 * t + j.val / 256 = j'.val / 256 := by omega
  have e2 : j.val % 256 = j'.val % 256 := by omega
  unfold rowOut Cert.GlaFwdReferenceIdeal.Hand.outAt
  simp only [e1, e2]
  show ((oh A.eps (Cert.ReferenceIdeal.Hand.rowHead A (j'.val / 256) i) _ * A.g (col2 (j'.val / 256) _) * (A.gate (row (i.val / 64) _) (col2 (j'.val / 256) _) * Gla.sig (A.gate (row (i.val / 64) _) (col2 (j'.val / 256) _))) : ℝ) : EReal) = _
  rw [Cert.ReferenceIdeal.Hand.col2_of, Cert.ReferenceIdeal.Hand.row_of]

theorem flushed5 {c : Dev nD} {A : Args} (h : Holds m c A) (t : Fin cfg0.N) : (dats m 0 c).flushed 5 t = ((cfg0.win 5).blk t).view.read (Elt Ideal) (G5 A c) := by
  have ht := t_lt t
  rw [flushed_eq]
  funext y
  rw [View.read_apply]
  have y1 : (y 1).val < 512 := (y 1).isLt
  refine (out_at h t y).trans ((head_out A t.val ht (y 0) (y 1) ⟨512 * t.val + (y 1).val, by omega⟩ rfl).trans ?_)
  unfold G5
  refine congrArg Real.toEReal (congrArg₂ (Cert.GlaFwdReferenceIdeal.Hand.outAt A) (Fin.ext ?_) (Fin.ext ?_))
  · show (y 0).val = win0_5.index t 0 * 2048 + 1 * (y 0).val; rw [(idx_facts t).2.2.2.2.2.2.2.2.2.2.1]; omega
  · show 512 * t.val + (y 1).val = win0_5.index t 1 * 512 + 1 * (y 1).val; rw [(idx_facts t).2.2.2.2.2.2.2.2.2.2.2]; omega

theorem flush5 : ∀ t : Fin cfg0.N, ((cfgs 0).win 5).flush t = true := by decide +kernel

theorem final5 {c : Dev nD} {A : Args} (h : Holds m c A) : (dats m 0 c).arrAt 5 cfg0.N = G5 A c :=
  (dats m 0 c).arrAt_eq_of_cover 5 (G5 A c) (fun t _ => flushed5 m h t) fun i => by
    have h0 : (i 0 : Nat) < 2048 := (i 0).isLt
    have h1 : (i 1 : Nat) < 1024 := (i 1).isLt
    have ht : (i 1 : Nat) / 512 < cfg0.N := lt_of_lt_of_eq (by omega : (i 1 : Nat) / 512 < 2) (show cfg0.N = 2 from N_0).symm
    generalize htt : (⟨(i 1 : Nat) / 512, ht⟩ : Fin cfg0.N) = t
    have e0 : t.val = (i 1 : Nat) / 512 := by rw [← htt]
    refine ⟨t, flush5 t, ?_⟩
    show i ∈ ((View.whole main_v10).slice (win0_5.rect t)).set
    rw [View.set_slice_whole, Rect.mem_set_unit]
    intro a
    match a with
    | ⟨0, _⟩ => show win0_5.index t 0 * 2048 ≤ (i 0 : Nat) ∧ (i 0 : Nat) < win0_5.index t 0 * 2048 + 2048
                rw [(idx_facts t).2.2.2.2.2.2.2.2.2.2.1]; omega
    | ⟨1, _⟩ => show win0_5.index t 1 * 512 ≤ (i 1 : Nat) ∧ (i 1 : Nat) < win0_5.index t 1 * 512 + 512
                rw [(idx_facts t).2.2.2.2.2.2.2.2.2.2.2]; omega

/-- Finite arguments are real values. -/
theorem real_args (x0 x1 : Vec Ideal S2048x512 .bf16) (x2 x3 : Vec Ideal S2048x1024 .bf16) (x4 : Vec Ideal S2048x16 .bf16) (x5 : Vec Ideal S16x512 .bf16) (x6 : Vec Ideal S512 .f32) (x7 : Vec Ideal S1024 .f32)
    (h0 : ∀ i, ∃ r : ℝ, x0 i = (r : EReal)) (h1 : ∀ i, ∃ r : ℝ, x1 i = (r : EReal)) (h2 : ∀ i, ∃ r : ℝ, x2 i = (r : EReal)) (h3 : ∀ i, ∃ r : ℝ, x3 i = (r : EReal)) (h4 : ∀ i, ∃ r : ℝ, x4 i = (r : EReal)) (h5 : ∀ i, ∃ r : ℝ, x5 i = (r : EReal)) (h6 : ∀ i, ∃ r : ℝ, x6 i = (r : EReal)) (h7 : ∀ i, ∃ r : ℝ, x7 i = (r : EReal)) :
    ∃ A : Args, Refs A x0 x1 x2 x3 x4 x5 x6 x7 := by
  obtain ⟨A, hA⟩ := Cert.KernelIdeal.Hand.real_args x0 x1 x2 x3 x4 x5 x6 x7 x2 h0 h1 h2 h3 h4 h5 h6 h7 h2
  exact ⟨A, { q := hA.q, k := hA.k, v := hA.v, gate := hA.gate, ga := hA.ga, wa := hA.wa, ba := hA.ba, g := hA.g, sc := hA.sc, eps := hA.eps, pos := hA.pos }⟩

theorem holds_of_finite (hpre : Cert.Pre_GlaFwdIdeal_finite_gla m) (c : Dev nD) : ∃ A : Args, Holds m c A := by
  have hp := hpre c
  exact real_args _ _ _ _ _ _ _ _ (fun i => Norm.real_of_olt _ (congrFun hp.1 i)) (fun i => Norm.real_of_olt _ (congrFun hp.2.1 i)) (fun i => Norm.real_of_olt _ (congrFun hp.2.2.1 i)) (fun i => Norm.real_of_olt _ (congrFun hp.2.2.2.1 i)) (fun i => Norm.real_of_olt _ (congrFun hp.2.2.2.2.1 i)) (fun i => Norm.real_of_olt _ (congrFun hp.2.2.2.2.2.1 i)) (fun i => Norm.real_of_olt _ (congrFun hp.2.2.2.2.2.2.1 i)) (fun i => Norm.real_of_olt _ (congrFun hp.2.2.2.2.2.2.2 i))

/-- The forward call and the plain recurrence leave the same array, for arguments with no infinity. -/
theorem algebraic : Cert.algebraic_GlaFwdIdeal_GlaFwdReferenceIdeal_pre_finite_gla := by
  intro m g m' g' hpre hagree
  choose A hA using holds_of_finite m hpre
  refine ⟨fun c => G5 (A c) c, (θ_run _ _ _).mono (fun r h c => ⟨(h c).1.trans (final5 m (hA c)), (h c).2⟩) (run_blocks m g),
    (θ_run _ _ _).mono (fun r h c => ⟨(h c).1.trans ?_, (h c).2⟩) (Cert.GlaFwdReferenceIdeal.Value.run m' g')⟩
  obtain ⟨h0, h1, h2, h3, h4, h5, h6, h7⟩ := hagree c
  rw [Cert.GlaFwdReferenceIdeal.Read.val_main_v66_eq, h0, h1, h2, h3, h4, h5, h6, h7]
  funext i
  exact (congrArg _ (ix2_eta i)).symm.trans (Cert.GlaFwdReferenceIdeal.Hand.v66_r (hA c) _ _)

end Cert.GlaFwdIdeal.Hand

end
-- ==== Proof.Inproj.lean ====
module

public import proofs.«01_k».proof.Defs
public import proofs.«01_k».proof.Proof.Gen.Inproj
public import proofs.«01_k».proof.Proof.Gen.InprojIdeal.Frame
public import proofs.«01_k».proof.Proof.Gen.InprojIdeal.Skeleton
public import proofs.«01_k».proof.Proof.Gen.InprojReferenceIdeal.Run
public import proofs.«01_k».proof.Proof.Gen.InprojReferenceIdeal.Read
public import proofs.«01_k».proof.Proof.Norm
public import Idealize.ShloMosaic.Lib.Exec
public import Idealize.ShloMosaic.Lib.Tactic
public import Idealize.ShloMosaic.Lib.VecWindow
public import Idealize.ShloMosaic.Lib.Writes
public import Idealize.ShloMosaic.Lib.ValueIdx
public import Idealize.ShloMosaic.Lib.Pipeline.TableIdle
public import Idealize.ShloMosaic.Lib.Pointwise

@[expose] public section

set_option maxRecDepth 16384

noncomputable section

namespace Cert.InprojIdeal.Hand

open Idealize.ShloMosaic.Pipeline

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.InprojIdeal Cert.InprojIdeal.Gen

/-- A buffer of the kernel. -/
abbrev Mr (S : Shape) (e : EltTy) := Memref sig .tc .vmem S e

variable {F : FTy → Type} [FloatOps F]

local notation "𝕄G" => MT nD τ sig Unit (Elt F) ℕ (UR sig nD τ) ℕ

set_option maxHeartbeats 1000000 in
/-- A row's first point: the normalised rows are made, kept and written out, and both products are taken of them. -/
theorem point_first (𝒱 : Variants) (c : Dev nD) (bd : Option 𝒱.V) (E : Set ℕ) (i : grid0.Coords) (hi : (i 1).val = 0) (arg2 : Mr S512x2048 .f32) (harg2 : arg2.IsWhole) (arg3 : Mr S1x2048 .f32) (harg3 : arg3.IsWhole) (arg4 : Mr S1024x2048 .bf16) (harg4 : arg4.IsWhole) (arg5 : Mr S128x2048 .bf16) (harg5 : arg5.IsWhole) (arg6 : Mr S512x1024 .bf16) (harg6 : arg6.IsWhole) (arg7 : Mr S512x128 .bf16) (harg7 : arg7.IsWhole) (arg8 : Mr S512x2048 .bf16) (harg8 : arg8.IsWhole) (arg9 : Mr S512x2048 .bf16) (harg9 : arg9.IsWhole) (x2 : Vec F S512x2048 .f32) (x3 : Vec F S1x2048 .f32) (x4 : Vec F S1024x2048 .bf16) (x5 : Vec F S128x2048 .bf16) (x6 : Vec F S512x1024 .bf16) (x7 : Vec F S512x128 .bf16) (x8 : Vec F S512x2048 .bf16) (x9 : Vec F S512x2048 .bf16) :
    (iprop(owns c.tc arg2 fullShare x2 ∗ owns c.tc arg3 fullShare x3 ∗ owns c.tc arg4 fullShare x4 ∗ owns c.tc arg5 fullShare x5 ∗ owns c.tc arg6 fullShare x6 ∗ owns c.tc arg7 fullShare x7 ∗ owns c.tc arg8 fullShare x8 ∗ owns c.tc arg9 fullShare x9) : sProp 𝕄G)
    ⊢ wp Idealize.ShloMosaic.frame (wpE (defs₀ (F := F)) 𝒱 c.tc bd) E (cc0_inproj (F := F) i arg2 harg2 arg3 harg3 arg4 harg4 arg5 harg5 arg6 harg6 arg7 harg7 arg8 harg8 arg9 harg9)
        fun _ => iprop(owns c.tc arg2 fullShare x2 ∗ owns c.tc arg3 fullShare x3 ∗ owns c.tc arg4 fullShare x4 ∗ owns c.tc arg5 fullShare x5 ∗ owns c.tc arg6 fullShare (k0_pay4 (k0_pay2 x2 x3) x4) ∗ owns c.tc arg7 fullShare (k0_pay3 x2 x3 x5) ∗ owns c.tc arg8 fullShare (k0_pay1 x2 x3) ∗ owns c.tc arg9 fullShare (k0_pay2 x2 x3)) := by
  have hc : k0_cond1 i = 1#1 := by unfold k0_cond1; rw [hi]; decide
  unfold owns
  iintro ⟨⟨%X2, %e2, H2⟩, ⟨%X3, %e3, H3⟩, ⟨%X4, %e4, H4⟩, ⟨%X5, %e5, H5⟩, ⟨%X6, %e6, H6⟩, ⟨%X7, %e7, H7⟩, ⟨%X8, %e8, H8⟩, ⟨%X9, %e9, H9⟩⟩
  subst e2; subst e3; subst e4; subst e5; subst e6; subst e7; subst e8; subst e9
  rw [cc0_inproj_eq_skeleton]
  unfold cc0_inproj_skel
  sl_exec
  sl_step
  isplitl [H2]
  · iexists X2; isplitr [H2]; · (ipureintro; rfl)
    iexact H2
  isplitl [H3]
  · iexists X3; isplitr [H3]; · (ipureintro; rfl)
    iexact H3
  isplitl [H4]
  · iexists X4; isplitr [H4]; · (ipureintro; rfl)
    iexact H4
  isplitl [H5]
  · iexists X5; isplitr [H5]; · (ipureintro; rfl)
    iexact H5
  isplitl [H6]
  · iexists _; isplitr [H6]
    rotate_left
    · iexact H6
    · ipureintro
      sl_unfold_run_names
      exact (View.read_writes_full _ _ _ _ _).trans (congrArg₂ k0_pay4 ((View.readAt_full _ _ _).trans ((View.read_writes_full _ _ _ _ _).trans (congrArg₂ k0_pay2 (View.readAt_full _ _ _) (View.readAt_full _ _ _)))) (View.readAt_full _ _ _))
  isplitl [H7]
  · iexists _; isplitr [H7]
    rotate_left
    · iexact H7
    · ipureintro
      sl_unfold_run_names
      exact (View.read_writes_full _ _ _ _ _).trans (congr (congrArg₂ k0_pay3 (View.readAt_full _ _ _) (View.readAt_full _ _ _)) (View.readAt_full _ _ _))
  isplitl [H8]
  · iexists _; isplitr [H8]
    rotate_left
    · iexact H8
    · ipureintro
      sl_unfold_run_names
      exact (View.read_writes_full _ _ _ _ _).trans (congrArg₂ k0_pay1 (View.readAt_full _ _ _) (View.readAt_full _ _ _))
  · iexists _; isplitr [H9]
    rotate_left
    · iexact H9
    · ipureintro
      sl_unfold_run_names
      exact (View.read_writes_full _ _ _ _ _).trans (congrArg₂ k0_pay2 (View.readAt_full _ _ _) (View.readAt_full _ _ _))

set_option maxHeartbeats 1000000 in
/-- A later point of a row: one product with the rows kept. -/
theorem point_later (𝒱 : Variants) (c : Dev nD) (bd : Option 𝒱.V) (E : Set ℕ) (i : grid0.Coords) (hi : (i 1).val ≠ 0) (arg2 : Mr S512x2048 .f32) (harg2 : arg2.IsWhole) (arg3 : Mr S1x2048 .f32) (harg3 : arg3.IsWhole) (arg4 : Mr S1024x2048 .bf16) (harg4 : arg4.IsWhole) (arg5 : Mr S128x2048 .bf16) (harg5 : arg5.IsWhole) (arg6 : Mr S512x1024 .bf16) (harg6 : arg6.IsWhole) (arg7 : Mr S512x128 .bf16) (harg7 : arg7.IsWhole) (arg8 : Mr S512x2048 .bf16) (harg8 : arg8.IsWhole) (arg9 : Mr S512x2048 .bf16) (harg9 : arg9.IsWhole) (x2 : Vec F S512x2048 .f32) (x3 : Vec F S1x2048 .f32) (x4 : Vec F S1024x2048 .bf16) (x5 : Vec F S128x2048 .bf16) (x6 : Vec F S512x1024 .bf16) (x7 : Vec F S512x128 .bf16) (x8 : Vec F S512x2048 .bf16) (x9 : Vec F S512x2048 .bf16) :
    (iprop(owns c.tc arg2 fullShare x2 ∗ owns c.tc arg3 fullShare x3 ∗ owns c.tc arg4 fullShare x4 ∗ owns c.tc arg5 fullShare x5 ∗ owns c.tc arg6 fullShare x6 ∗ owns c.tc arg7 fullShare x7 ∗ owns c.tc arg8 fullShare x8 ∗ owns c.tc arg9 fullShare x9) : sProp 𝕄G)
    ⊢ wp Idealize.ShloMosaic.frame (wpE (defs₀ (F := F)) 𝒱 c.tc bd) E (cc0_inproj (F := F) i arg2 harg2 arg3 harg3 arg4 harg4 arg5 harg5 arg6 harg6 arg7 harg7 arg8 harg8 arg9 harg9)
        fun _ => iprop(owns c.tc arg2 fullShare x2 ∗ owns c.tc arg3 fullShare x3 ∗ owns c.tc arg4 fullShare x4 ∗ owns c.tc arg5 fullShare x5 ∗ owns c.tc arg6 fullShare (k0_pay4 x9 x4) ∗ owns c.tc arg7 fullShare x7 ∗ owns c.tc arg8 fullShare x8 ∗ owns c.tc arg9 fullShare x9) := by
  have hc : k0_cond1 i ≠ 1#1 := by
    have h7 : (i 1).val < 7 := (i 1).isLt
    unfold k0_cond1
    generalize (i 1).val = n at hi h7
    revert hi; revert n; decide
  unfold owns
  iintro ⟨⟨%X2, %e2, H2⟩, ⟨%X3, %e3, H3⟩, ⟨%X4, %e4, H4⟩, ⟨%X5, %e5, H5⟩, ⟨%X6, %e6, H6⟩, ⟨%X7, %e7, H7⟩, ⟨%X8, %e8, H8⟩, ⟨%X9, %e9, H9⟩⟩
  subst e2; subst e3; subst e4; subst e5; subst e6; subst e7; subst e8; subst e9
  rw [cc0_inproj_eq_skeleton]
  unfold cc0_inproj_skel
  sl_exec
  sl_step
  isplitl [H2]
  · iexists X2; isplitr [H2]; · (ipureintro; rfl)
    iexact H2
  isplitl [H3]
  · iexists X3; isplitr [H3]; · (ipureintro; rfl)
    iexact H3
  isplitl [H4]
  · iexists X4; isplitr [H4]; · (ipureintro; rfl)
    iexact H4
  isplitl [H5]
  · iexists X5; isplitr [H5]; · (ipureintro; rfl)
    iexact H5
  isplitl [H6]
  · iexists _; isplitr [H6]
    rotate_left
    · iexact H6
    · ipureintro
      sl_unfold_run_names
      exact (View.read_writes_full _ _ _ _ _).trans (congrArg₂ k0_pay4 (View.readAt_full _ _ _) (View.readAt_full _ _ _))
  isplitl [H7]
  · iexists X7; isplitr [H7]; · (ipureintro; rfl)
    iexact H7
  isplitl [H8]
  · iexists X8; isplitr [H8]; · (ipureintro; rfl)
    iexact H8
  · iexists X9; isplitr [H9]; · (ipureintro; rfl)
    iexact H9

variable (m : (ℓ : Loc nD τ sig) → Buf (Elt F) ℓ) (ρ : Dev nD → PrngReg)

theorem t_lt (t : Fin cfg0.N) : t.val < 28 := lt_of_lt_of_eq t.isLt (show cfg0.N = 28 from N_0)

/-- The first point of the row that position `n` is in. -/
def base (n : ℕ) : Fin cfg0.N := ⟨n / 7 % 4 * 7, by rw [show cfg0.N = 28 from N_0]; omega⟩

theorem base_self (t : Fin cfg0.N) (h : t.val % 7 = 0) : base t.val = t := Fin.ext (by have := t_lt t; show t.val / 7 % 4 * 7 = t.val; omega)
theorem base_pred (n : ℕ) (h : (n + 1) % 7 ≠ 0) : base (n + 1) = base n := Fin.ext (by show (n + 1) / 7 % 4 * 7 = n / 7 % 4 * 7; rw [show (n + 1) / 7 = n / 7 by omega])

/-- The rows the scratch buffer holds after position `n`. -/
def keptB (c : Dev nD) (n : ℕ) : Vec F S512x2048 .bf16 := k0_pay2 (iblk m c 0 (base n) : Vec F S512x2048 .f32) (iblk m c 1 (base n) : Vec F S1x2048 .f32)
/-- The normalised rows written out. -/
def hB (c : Dev nD) (n : ℕ) : Vec F S512x2048 .bf16 := k0_pay1 (iblk m c 0 (base n) : Vec F S512x2048 .f32) (iblk m c 1 (base n) : Vec F S1x2048 .f32)
/-- Their product with the gate's weights. -/
def gateB (c : Dev nD) (n : ℕ) : Vec F S512x128 .bf16 := k0_pay3 (iblk m c 0 (base n) : Vec F S512x2048 .f32) (iblk m c 1 (base n) : Vec F S1x2048 .f32) (iblk m c 3 (base n) : Vec F S128x2048 .bf16)
/-- Their product with one block of the other weights. -/
def zB (c : Dev nD) (t : Fin cfg0.N) : Vec F S512x1024 .bf16 := k0_pay4 (keptB m c t.val) (iblk m c 2 t : Vec F S1024x2048 .bf16)

/-- What the scratch buffer holds before position `n`. -/
def PhiK (c : Dev nD) : ℕ → sProp 𝕄G
  | 0 => iprop(∃ x : Vec F S512x2048 .bf16, owns c.tc (Memref.whole cc0_scratch0) fullShare x)
  | n + 1 => owns c.tc (Memref.whole cc0_scratch0) fullShare (keptB m c n)
def PhiB (c : Dev nD) (n : ℕ) : sProp 𝕄G := iprop(PhiK m c n ∗ (∃ r, prngReg c r))

/-- Whatever it holds, it holds something. -/
theorem PhiK_any (c : Dev nD) (n : ℕ) : PhiK m c n ⊢ (iprop(∃ x : Vec F S512x2048 .bf16, owns c.tc (Memref.whole cc0_scratch0) fullShare x) : sProp 𝕄G) := by
  cases n with
  | zero => exact .rfl
  | succ n => unfold PhiK; iintro H; iexists _; iexact H

/-- The launch's data: the arrays the region finds, and what each point leaves. -/
def dats (p : Fin 1) (c : Dev nD) : Dat τ (Elt F) Unit ℕ (UR sig nD τ) ℕ (cfgs p) c :=
  match p with
  | 0 =>
    { A := fun w => V m c (arrRef spec0 w)
      after := fun w t => match w with
        | 0 => iblk m c 0 t | 1 => iblk m c 1 t | 2 => iblk m c 2 t | 3 => iblk m c 3 t
        | 4 => zB m c t
        | 5 => gateB m c t.val
        | 6 => hB m c t.val
      Φ := fun t => PhiB m c t.val
      q := fun _ => fullShare
      owed := fun _ => 0 }
theorem before0 (c : Dev nD) (t : Fin cfg0.N) (d) : (dats m 0 c).before 0 t d = iblk m c 0 t := before0_0_of m (dats m 0 c) rfl (fun _ => rfl) t d
theorem before1 (c : Dev nD) (t : Fin cfg0.N) (d) : (dats m 0 c).before 1 t d = iblk m c 1 t := before0_1_of m (dats m 0 c) rfl (fun _ => rfl) t d
theorem before2 (c : Dev nD) (t : Fin cfg0.N) (d) : (dats m 0 c).before 2 t d = iblk m c 2 t := before0_2_of m (dats m 0 c) rfl (fun _ => rfl) t d
theorem before3 (c : Dev nD) (t : Fin cfg0.N) (d) : (dats m 0 c).before 3 t d = iblk m c 3 t := before0_3_of m (dats m 0 c) rfl (fun _ => rfl) t d

theorem coord1 (t : Fin cfg0.N) : ((cfg0.grid.coords t) 1).val = t.val % 7 := by
  have e1 : (grid0.coords t 1).val = t.val / 1 % 7 := Pipeline.Grid.coords_val t 1 (by decide) rfl
  rw [Nat.div_one] at e1; exact e1

theorem live (w : Fin 5) (t : Fin cfg0.N) : cfg0.idle (w.castLE (by decide)) (cfg0.grid.coords t) = false := by
  match w with
  | 0 => rfl
  | 1 => rfl
  | 2 => rfl
  | 3 => rfl
  | 4 => rfl
theorem idle5 : ∀ t : Fin cfg0.N, (cfgs 0).idle 5 ((cfgs 0).grid.coords t) = decide (t.val % 7 ≠ 0) := by decide +kernel
theorem flush5 : ∀ t : Fin cfg0.N, ((cfgs 0).win 5).flush t = decide (t.val % 7 = 6) := by decide +kernel
theorem idle6 : ∀ t : Fin cfg0.N, (cfgs 0).idle 6 ((cfgs 0).grid.coords t) = decide (t.val % 7 ≠ 0) := by decide +kernel
theorem flush6 : ∀ t : Fin cfg0.N, ((cfgs 0).win 6).flush t = decide (t.val % 7 = 6) := by decide +kernel
theorem fresh5 : ∀ t : Fin cfg0.N, cfg0.fresh 5 t.val = decide (t.val % 7 = 0) := by decide +kernel
theorem fresh6 : ∀ t : Fin cfg0.N, cfg0.fresh 6 t.val = decide (t.val % 7 = 0) := by decide +kernel

theorem after_same (c : Dev nD) (t : Fin cfg0.N) (h0 : t.val ≠ 0) (h : t.val % 7 ≠ 0) :
    gateB m c t.val = gateB m c (t.val - 1) ∧ hB m c t.val = hB m c (t.val - 1) ∧ keptB m c t.val = keptB m c (t.val - 1) := by
  obtain ⟨n, hn⟩ := t
  obtain ⟨k, rfl⟩ := Nat.exists_eq_succ_of_ne_zero h0
  show gateB m c (k + 1) = gateB m c k ∧ hB m c (k + 1) = hB m c k ∧ keptB m c (k + 1) = keptB m c k
  unfold gateB hB keptB
  rw [base_pred k h]
  exact ⟨rfl, rfl, rfl⟩

/-- At a row's later points the two results written once a row still hold what the first point left. -/
theorem before5 (c : Dev nD) (t : Fin cfg0.N) (h : t.val % 7 ≠ 0) (d) : (dats m 0 c).before 5 t d = gateB m c t.val := by
  rw [Dat.before_out_traj _ 5 rfl (fun _ _ => rfl) (fun t h0 hi _ => (after_same m c t h0 (of_decide_eq_true ((idle5 t).symm.trans hi))).1) t.val t rfl d,
    if_neg (by rw [fresh5]; simpa using h)]
  exact (after_same m c t (fun e => h (by rw [e])) h).1.symm
theorem before6 (c : Dev nD) (t : Fin cfg0.N) (h : t.val % 7 ≠ 0) (d) : (dats m 0 c).before 6 t d = hB m c t.val := by
  rw [Dat.before_out_traj _ 6 rfl (fun _ _ => rfl) (fun t h0 hi _ => (after_same m c t h0 (of_decide_eq_true ((idle6 t).symm.trans hi))).2.1) t.val t rfl d,
    if_neg (by rw [fresh6]; simpa using h)]
  exact (after_same m c t (fun e => h (by rw [e])) h).2.1.symm

theorem defs₀_row (t : Fin cfg0.N) : defs₀ (F := F) .tc cfg0.body (cfg0.bodyArgs t (cfg0.slots t)) = bodyAt0 t := by
  unfold defs₀; rw [Defs.onTc_tc]

/-- The body's obligation at a row's first point. -/
theorem body_first (c : Dev nD) (t : Fin cfg0.N) (h : t.val % 7 = 0) :
    (iprop(PhiB m c t.val ∗ (dats m 0 c).owesAt () t.castSucc ∗ (∃ d, owns c.tc (st0_0 t) fullShare ((dats m 0 c).before 0 t d)) ∗ (∃ d, owns c.tc (st0_1 t) fullShare ((dats m 0 c).before 1 t d)) ∗ (∃ d, owns c.tc (st0_2 t) fullShare ((dats m 0 c).before 2 t d)) ∗ (∃ d, owns c.tc (st0_3 t) fullShare ((dats m 0 c).before 3 t d)) ∗ (∃ d, owns c.tc (st0_4 t) fullShare ((dats m 0 c).before 4 t d)) ∗ (∃ d, owns c.tc (st0_5 t) fullShare ((dats m 0 c).before 5 t d)) ∗ (∃ d, owns c.tc (st0_6 t) fullShare ((dats m 0 c).before 6 t d))) : sProp 𝕄G)
    ⊢ wp Idealize.ShloMosaic.frame (wpE (defs₀ (F := F)) Variants.none c.tc none) Set.univ (bodyAt0 (F := F) t)
      fun _ => iprop(PhiB m c (t.val + 1) ∗ (dats m 0 c).owesAt () t.succ ∗ owns c.tc (st0_0 t) fullShare ((dats m 0 c).after 0 t) ∗ owns c.tc (st0_1 t) fullShare ((dats m 0 c).after 1 t) ∗ owns c.tc (st0_2 t) fullShare ((dats m 0 c).after 2 t) ∗ owns c.tc (st0_3 t) fullShare ((dats m 0 c).after 3 t) ∗ owns c.tc (st0_4 t) fullShare ((dats m 0 c).after 4 t) ∗ owns c.tc (st0_5 t) fullShare ((dats m 0 c).after 5 t) ∗ owns c.tc (st0_6 t) fullShare ((dats m 0 c).after 6 t)) := by
  simp only [before0, before1, before2, before3]
  have ez : zB m c t = k0_pay4 (k0_pay2 (iblk m c 0 t : Vec F S512x2048 .f32) (iblk m c 1 t : Vec F S1x2048 .f32)) (iblk m c 2 t : Vec F S1024x2048 .bf16) := by unfold zB keptB; rw [base_self t h]
  have eg : gateB m c t.val = k0_pay3 (iblk m c 0 t : Vec F S512x2048 .f32) (iblk m c 1 t : Vec F S1x2048 .f32) (iblk m c 3 t : Vec F S128x2048 .bf16) := by unfold gateB; rw [base_self t h]
  have eh : hB m c t.val = k0_pay1 (iblk m c 0 t : Vec F S512x2048 .f32) (iblk m c 1 t : Vec F S1x2048 .f32) := by unfold hB; rw [base_self t h]
  have ek : keptB m c t.val = k0_pay2 (iblk m c 0 t : Vec F S512x2048 .f32) (iblk m c 1 t : Vec F S1x2048 .f32) := by unfold keptB; rw [base_self t h]
  rw [show (dats m 0 c).after 4 t = zB m c t from rfl, show (dats m 0 c).after 5 t = gateB m c t.val from rfl, show (dats m 0 c).after 6 t = hB m c t.val from rfl,
    show PhiB m c (t.val + 1) = iprop(owns c.tc (Memref.whole cc0_scratch0) fullShare (keptB m c t.val) ∗ (∃ r, prngReg c r)) from rfl, ez, eg, eh, ek]
  unfold PhiB bodyAt0
  iintro ⟨⟨HS, HR⟩, HO, ⟨%d0, H0⟩, ⟨%d1, H1⟩, ⟨%d2, H2⟩, ⟨%d3, H3⟩, ⟨%d4, H4⟩, ⟨%d5, H5⟩, ⟨%d6, H6⟩⟩
  ihave HS := (PhiK_any m c t.val) $$ HS
  icases HS with ⟨%x9, HS⟩
  iapply (wp_wand_r Idealize.ShloMosaic.frame (wpE (defs₀ (F := F)) Variants.none c.tc none) Set.univ)
  isplitl [H0 H1 H2 H3 H4 H5 H6 HS]
  · iapply point_first Variants.none c none Set.univ (grid0.coords t) ((coord1 t).trans h) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (Memref.whole cc0_scratch0) (Memref.isWhole_whole _) _ _ _ _ _ _ _ x9
    isplitl [H0]; · iexact H0
    isplitl [H1]; · iexact H1
    isplitl [H2]; · iexact H2
    isplitl [H3]; · iexact H3
    isplitl [H4]; · iexact H4
    isplitl [H5]; · iexact H5
    isplitl [H6]; · iexact H6
    iexact HS
  iintro %a ⟨H0, H1, H2, H3, H4, H5, H6, HS⟩
  isplitl [HS HR]
  · isplitl [HS]; · iexact HS
    iexact HR
  isplitl [HO]; · iexact HO
  isplitl [H0]; · iexact H0
  isplitl [H1]; · iexact H1
  isplitl [H2]; · iexact H2
  isplitl [H3]; · iexact H3
  isplitl [H4]; · iexact H4
  isplitl [H5]; · iexact H5
  iexact H6

/-- The body's obligation at a row's later point. -/
theorem body_later (c : Dev nD) (t : Fin cfg0.N) (h : t.val % 7 ≠ 0) :
    (iprop(PhiB m c t.val ∗ (dats m 0 c).owesAt () t.castSucc ∗ (∃ d, owns c.tc (st0_0 t) fullShare ((dats m 0 c).before 0 t d)) ∗ (∃ d, owns c.tc (st0_1 t) fullShare ((dats m 0 c).before 1 t d)) ∗ (∃ d, owns c.tc (st0_2 t) fullShare ((dats m 0 c).before 2 t d)) ∗ (∃ d, owns c.tc (st0_3 t) fullShare ((dats m 0 c).before 3 t d)) ∗ (∃ d, owns c.tc (st0_4 t) fullShare ((dats m 0 c).before 4 t d)) ∗ (∃ d, owns c.tc (st0_5 t) fullShare ((dats m 0 c).before 5 t d)) ∗ (∃ d, owns c.tc (st0_6 t) fullShare ((dats m 0 c).before 6 t d))) : sProp 𝕄G)
    ⊢ wp Idealize.ShloMosaic.frame (wpE (defs₀ (F := F)) Variants.none c.tc none) Set.univ (bodyAt0 (F := F) t)
      fun _ => iprop(PhiB m c (t.val + 1) ∗ (dats m 0 c).owesAt () t.succ ∗ owns c.tc (st0_0 t) fullShare ((dats m 0 c).after 0 t) ∗ owns c.tc (st0_1 t) fullShare ((dats m 0 c).after 1 t) ∗ owns c.tc (st0_2 t) fullShare ((dats m 0 c).after 2 t) ∗ owns c.tc (st0_3 t) fullShare ((dats m 0 c).after 3 t) ∗ owns c.tc (st0_4 t) fullShare ((dats m 0 c).after 4 t) ∗ owns c.tc (st0_5 t) fullShare ((dats m 0 c).after 5 t) ∗ owns c.tc (st0_6 t) fullShare ((dats m 0 c).after 6 t)) := by
  simp only [before0, before1, before2, before3, before5 m c t h, before6 m c t h]
  have h0 : t.val ≠ 0 := fun e => h (by rw [e])
  obtain ⟨k, hk⟩ := Nat.exists_eq_succ_of_ne_zero h0
  have ek : keptB m c t.val = keptB m c k := by rw [(after_same m c t h0 h).2.2, hk]; rfl
  have ez : zB m c t = k0_pay4 (keptB m c k) (iblk m c 2 t : Vec F S1024x2048 .bf16) := by unfold zB; rw [ek]
  have ep : PhiB m c t.val = iprop(owns c.tc (Memref.whole cc0_scratch0) fullShare (keptB m c k) ∗ (∃ r, prngReg c r)) := by rw [hk]; rfl
  rw [show (dats m 0 c).after 4 t = zB m c t from rfl, show (dats m 0 c).after 5 t = gateB m c t.val from rfl, show (dats m 0 c).after 6 t = hB m c t.val from rfl,
    show PhiB m c (t.val + 1) = iprop(owns c.tc (Memref.whole cc0_scratch0) fullShare (keptB m c t.val) ∗ (∃ r, prngReg c r)) from rfl, ez, ek, ep]
  unfold bodyAt0
  iintro ⟨⟨HS, HR⟩, HO, ⟨%d0, H0⟩, ⟨%d1, H1⟩, ⟨%d2, H2⟩, ⟨%d3, H3⟩, ⟨%d4, H4⟩, ⟨%d5, H5⟩, ⟨%d6, H6⟩⟩
  iapply (wp_wand_r Idealize.ShloMosaic.frame (wpE (defs₀ (F := F)) Variants.none c.tc none) Set.univ)
  isplitl [H0 H1 H2 H3 H4 H5 H6 HS]
  · iapply point_later Variants.none c none Set.univ (grid0.coords t) (fun e => h ((coord1 t).symm.trans e)) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (Memref.whole cc0_scratch0) (Memref.isWhole_whole _) _ _ _ _ _ _ _ _
    isplitl [H0]; · iexact H0
    isplitl [H1]; · iexact H1
    isplitl [H2]; · iexact H2
    isplitl [H3]; · iexact H3
    isplitl [H4]; · iexact H4
    isplitl [H5]; · iexact H5
    isplitl [H6]; · iexact H6
    iexact HS
  iintro %a ⟨H0, H1, H2, H3, H4, H5, H6, HS⟩
  isplitl [HS HR]
  · isplitl [HS]; · iexact HS
    iexact HR
  isplitl [HO]; · iexact HO
  isplitl [H0]; · iexact H0
  isplitl [H1]; · iexact H1
  isplitl [H2]; · iexact H2
  isplitl [H3]; · iexact H3
  isplitl [H4]; · iexact H4
  isplitl [H5]; · iexact H5
  iexact H6

/-- The body's obligation. -/
theorem body_obligation (c : Dev nD) : BodyObligation (dats m 0 c) (defs₀ (F := F)) Variants.none () Set.univ := fun t => by
  rw [bigSep_W0, bigSep_W0, defs₀_row]
  by_cases h : t.val % 7 = 0
  · rewrite [(idle5 t).trans (decide_eq_false (not_not.mpr h))]
    exact triple_restated (body_first m c t h) rfl .rfl fun _ => .rfl
  · by_cases h6 : t.val % 7 = 6
    · rewrite [(idle5 t).trans (decide_eq_true h), (flush5 t).trans (decide_eq_true h6), (flush6 t).trans (decide_eq_true h6)]
      exact triple_restated (body_later m c t h) rfl .rfl fun _ => .rfl
    · rewrite [(idle5 t).trans (decide_eq_true h), (flush5 t).trans (decide_eq_false h6), (flush6 t).trans (decide_eq_false h6)]
      have e5 : (dats m 0 c).after 5 t = (dats m 0 c).before 5 t (gateB m c t.val) := (before5 m c t h _).symm
      have e6 : (dats m 0 c).after 6 t = (dats m 0 c).before 6 t (hB m c t.val) := (before6 m c t h _).symm
      refine triple_restated (body_later m c t h) rfl .rfl fun _ => ?_
      rw [show (dats m 0 c).Φ t.succ = PhiB m c (t.val + 1) from rfl, e5, e6]
      iintro ⟨HP, HO, H0, H1, H2, H3, H4, H5, H6⟩
      isplitl [HP]; · iexact HP
      isplitl [HO]; · iexact HO
      isplitl [H0]; · iexact H0
      isplitl [H1]; · iexact H1
      isplitl [H2]; · iexact H2
      isplitl [H3]; · iexact H3
      isplitl [H4]; · iexact H4
      isplitl [H5]
      · iexists (gateB m c t.val); iexact H5
      iexists (hB m c t.val); iexact H6

theorem phiB_in (c : Dev nD) : ΦA spec0 c ⊢ (PhiB m c 0 : sProp 𝕄G) := by
  unfold ΦA; rw [scopedRest0_eq]; unfold PhiB PhiK; simp only [owns_whole_eq]
  iintro ⟨⟨%f0, H0⟩, HR⟩
  isplitl [H0]
  · (iexists f0; iexists f0; isplitr [H0]; · (ipureintro; rfl)
     iexact H0)
  iexact HR
theorem phiB_out (c : Dev nD) : (PhiB m c 28 : sProp 𝕄G) ⊢ ΦA spec0 c := by
  unfold ΦA; rw [scopedRest0_eq]; unfold PhiB PhiK; simp only [owns_whole_eq]
  iintro ⟨⟨%f0, %e0, H0⟩, HR⟩
  isplitl [H0]; · (iexists f0; iexact H0)
  iexact HR

/-- The run of the launch: it ends, and every result holds what `dats` says. -/
theorem run_main : θ_run defs (onTc (τ := τ) (main (F := F))) (s₀ m ρ) (fun r => FramePost cfgs (dats m) 0 (V m) r ∧ r.2.sem = fun _ => 0) :=
  θ_run_frame_track cfgs (dats m) 0 launch0 defs₀ Variants.none m ρ main
    (fun c => (body_obligation m c).loose) (fun c w => by fin_cases w <;> rfl) (fun _ _ => rfl) (V m)
    (hmain m Variants.none) (fun _ _ => rfl) (phiB_in m) (phiB_out m) _ (fun _ h => h)

/-- The run leaves every argument as it found it, and every counter at zero. -/
theorem unchanged :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun _ h => ⟨fun c => ⟨((h.1 c).1 0).trans (((dats m 0 c).arrAt_in 0 rfl _).trans (V_main_arg0 m c)),
      ((h.1 c).1 1).trans (((dats m 0 c).arrAt_in 1 rfl _).trans (V_main_arg1 m c)),
      ((h.1 c).1 2).trans (((dats m 0 c).arrAt_in 2 rfl _).trans (V_main_arg2 m c)),
      ((h.1 c).1 3).trans (((dats m 0 c).arrAt_in 3 rfl _).trans (V_main_arg3 m c))⟩, h.2⟩) (run_main m ρ)

/-- The idealized call runs and leaves its arguments unchanged. -/
theorem frame_claim : Cert.quiescent_InprojIdeal := fun m ρ _ => unchanged m ρ

/-- The printed call's body table is the idealized one's. -/
theorem defs₀_eq : @Cert.Inproj.defs₀ Bits _ Cert.Inproj.Gen.facts = @Cert.InprojIdeal.defs₀ Bits _ Cert.InprojIdeal.Gen.facts := by
  unfold Cert.Inproj.defs₀ Cert.InprojIdeal.defs₀
  refine congrArg Defs.onTc (funext fun l => funext fun a => ?_)
  obtain ⟨n, hn⟩ := l
  cases n with
  | zero => obtain ⟨t, s⟩ := a; rfl
  | succ n => exact absurd hn (by omega)

end Cert.InprojIdeal.Hand

namespace Cert.Inproj.Hand

/-- The call as printed, at its own number formats: the same text, so the same run. -/
theorem frame_claim : Cert.quiescent_Inproj := fun m ρ _ => by
  rw [show @Cert.Inproj.defs Idealize.ShloMosaic.Bits _ Cert.Inproj.Gen.facts = @Cert.InprojIdeal.defs Idealize.ShloMosaic.Bits _ Cert.InprojIdeal.Gen.facts from
    congrArg (Idealize.ShloMosaic.Pipeline.defs (@Cert.InprojIdeal.pcfgs Idealize.ShloMosaic.Bits _)) Cert.InprojIdeal.Hand.defs₀_eq]
  exact Cert.InprojIdeal.Hand.unchanged (F := Idealize.ShloMosaic.Bits) m ρ

end Cert.Inproj.Hand

namespace Cert.InprojIdeal.Hand

open Idealize.ShloMosaic Idealize.ShloMosaic.TcCoe Idealize.ShloMosaic.Pipeline Idealize.SL.Sem
open Cert.InprojIdeal Cert.InprojIdeal.Gen

section
variable (x : Vec Ideal S2048x2048 .f32) (g : Vec Ideal S1x2048 .f32) (wm : Vec Ideal S7168x2048 .bf16) (wga : Vec Ideal S128x2048 .bf16)

/-- The normalised rows. -/
def hS (i j : Fin 2048) : EReal := x (ix2 i j) * Ideal.rsqrt (Norm.var fun k => x (ix2 i k)) * g (ix2 0 j)

/-- The projection. -/
def zS (i : Fin 2048) (j : Fin 7168) : EReal := ∑ k : Fin 2048, hS x g i k * wm (ix2 j k)

/-- The gate's projection. -/
def gateS (i : Fin 2048) (j : Fin 128) : EReal := ∑ k : Fin 2048, hS x g i k * wga (ix2 j k)

end

theorem pay1_apply (x : Vec Ideal S512x2048 .f32) (g : Vec Ideal S1x2048 .f32) (i : Fin 512) (j : Fin 2048) :
    k0_pay1 x g (ix2 i j) = x (ix2 i j) * Ideal.rsqrt (Norm.var fun k => x (ix2 i k)) * g (ix2 0 j) := by
  unfold Norm.var
  pointwise [k0_pay1]

theorem pay2_apply (x : Vec Ideal S512x2048 .f32) (g : Vec Ideal S1x2048 .f32) (i : Fin 512) (j : Fin 2048) :
    k0_pay2 x g (ix2 i j) = x (ix2 i j) * Ideal.rsqrt (Norm.var fun k => x (ix2 i k)) * g (ix2 0 j) := by
  unfold Norm.var
  pointwise [k0_pay2, k0_pay1]

theorem pay3_apply (x : Vec Ideal S512x2048 .f32) (g : Vec Ideal S1x2048 .f32) (w : Vec Ideal S128x2048 .bf16) (i : Fin 512) (j : Fin 128) :
    k0_pay3 x g w (ix2 i j) = ∑ k : Fin 2048, k0_pay1 x g (ix2 i k) * w (ix2 j k) := by
  pointwise [k0_pay3]

theorem pay4_apply (h : Vec Ideal S512x2048 .bf16) (w : Vec Ideal S1024x2048 .bf16) (i : Fin 512) (j : Fin 1024) :
    k0_pay4 h w (ix2 i j) = ∑ k : Fin 2048, h (ix2 i k) * w (ix2 j k) := by
  pointwise [k0_pay4]

variable (m : (ℓ : Loc nD τ sig) → Buf (Elt Ideal) ℓ) (ρ : Dev nD → PrngReg)

theorem idx_facts : ∀ t : Fin cfg0.N, win0_0.index t 0 = t.val / 7 ∧ win0_0.index t 1 = 0 ∧ win0_1.index t 0 = 0 ∧ win0_1.index t 1 = 0 ∧ win0_2.index t 0 = t.val % 7 ∧ win0_2.index t 1 = 0 ∧ win0_3.index t 0 = 0 ∧ win0_3.index t 1 = 0 ∧ win0_4.index t 0 = t.val / 7 ∧ win0_4.index t 1 = t.val % 7 ∧ win0_5.index t 0 = t.val / 7 ∧ win0_5.index t 1 = 0 ∧ win0_6.index t 0 = t.val / 7 ∧ win0_6.index t 1 = 0 :=
  (by decide +kernel : ∀ t : Fin grid0.N, win0_0.index t 0 = t.val / 7 ∧ win0_0.index t 1 = 0 ∧ win0_1.index t 0 = 0 ∧ win0_1.index t 1 = 0 ∧ win0_2.index t 0 = t.val % 7 ∧ win0_2.index t 1 = 0 ∧ win0_3.index t 0 = 0 ∧ win0_3.index t 1 = 0 ∧ win0_4.index t 0 = t.val / 7 ∧ win0_4.index t 1 = t.val % 7 ∧ win0_5.index t 0 = t.val / 7 ∧ win0_5.index t 1 = 0 ∧ win0_6.index t 0 = t.val / 7 ∧ win0_6.index t 1 = 0)

/-- The row of the whole array a block's row is. -/
def row (t : Fin cfg0.N) (r : Fin 512) : Fin 2048 := ⟨t.val / 7 * 512 + r.val, by have := t_lt t; omega⟩

/-- The row of the weights a block's row is. -/
def col (t : Fin cfg0.N) (r : Fin 1024) : Fin 7168 := ⟨t.val % 7 * 1024 + r.val, by omega⟩

theorem row_base (t : Fin cfg0.N) (r : Fin 512) : row (base t.val) r = row t r :=
  Fin.ext (by have := t_lt t; show t.val / 7 % 4 * 7 / 7 * 512 + r.val = t.val / 7 * 512 + r.val; omega)

theorem blk0 (c : Dev nD) (t : Fin cfg0.N) (r : Fin 512) (k : Fin 2048) :
    iblk m c 0 t (ix2 r k) = (m (c.tc.loc main_arg0) : Vec Ideal S2048x2048 .f32) (ix2 (row t r) k) := by
  have ht := t_lt t
  unfold iblk
  rw [View.read_apply]
  show m (c.tc.loc main_arg0) _ = _
  congr 1
  funext a
  apply Fin.ext
  match a with
  | ⟨0, _⟩ => show win0_0.index t 0 * 512 + 1 * r.val = t.val / 7 * 512 + r.val; rw [(idx_facts t).1]; omega
  | ⟨1, _⟩ => show win0_0.index t 1 * 2048 + 1 * k.val = k.val; rw [(idx_facts t).2.1]; omega

theorem blk1 (c : Dev nD) (t : Fin cfg0.N) (r : Fin 1) (k : Fin 2048) :
    iblk m c 1 t (ix2 r k) = (m (c.tc.loc main_arg1) : Vec Ideal S1x2048 .f32) (ix2 r k) := by
  have ht := t_lt t
  unfold iblk
  rw [View.read_apply]
  show m (c.tc.loc main_arg1) _ = _
  congr 1
  funext a
  apply Fin.ext
  match a with
  | ⟨0, _⟩ => show win0_1.index t 0 * 1 + 1 * r.val = r.val; rw [(idx_facts t).2.2.1]; omega
  | ⟨1, _⟩ => show win0_1.index t 1 * 2048 + 1 * k.val = k.val; rw [(idx_facts t).2.2.2.1]; omega

theorem blk2 (c : Dev nD) (t : Fin cfg0.N) (r : Fin 1024) (k : Fin 2048) :
    iblk m c 2 t (ix2 r k) = (m (c.tc.loc main_arg2) : Vec Ideal S7168x2048 .bf16) (ix2 (col t r) k) := by
  have ht := t_lt t
  unfold iblk
  rw [View.read_apply]
  show m (c.tc.loc main_arg2) _ = _
  congr 1
  funext a
  apply Fin.ext
  match a with
  | ⟨0, _⟩ => show win0_2.index t 0 * 1024 + 1 * r.val = t.val % 7 * 1024 + r.val; rw [(idx_facts t).2.2.2.2.1]; omega
  | ⟨1, _⟩ => show win0_2.index t 1 * 2048 + 1 * k.val = k.val; rw [(idx_facts t).2.2.2.2.2.1]; omega

theorem blk3 (c : Dev nD) (t : Fin cfg0.N) (r : Fin 128) (k : Fin 2048) :
    iblk m c 3 t (ix2 r k) = (m (c.tc.loc main_arg3) : Vec Ideal S128x2048 .bf16) (ix2 r k) := by
  have ht := t_lt t
  unfold iblk
  rw [View.read_apply]
  show m (c.tc.loc main_arg3) _ = _
  congr 1
  funext a
  apply Fin.ext
  match a with
  | ⟨0, _⟩ => show win0_3.index t 0 * 128 + 1 * r.val = r.val; rw [(idx_facts t).2.2.2.2.2.2.1]; omega
  | ⟨1, _⟩ => show win0_3.index t 1 * 2048 + 1 * k.val = k.val; rw [(idx_facts t).2.2.2.2.2.2.2.1]; omega

theorem norm_eq (c : Dev nD) (t : Fin cfg0.N) (r : Fin 512) (j : Fin 2048) :
    k0_pay1 (iblk m c 0 (base t.val)) (iblk m c 1 (base t.val)) (ix2 r j) = hS (m (c.tc.loc main_arg0)) (m (c.tc.loc main_arg1)) (row t r) j := by
  refine (pay1_apply _ _ r j).trans ?_
  unfold hS
  rw [← row_base t r]
  exact congrArg₂ _ (congrArg₂ _ (blk0 m c (base t.val) r j) (congrArg (fun v => Ideal.rsqrt (Norm.var v)) (funext fun k => blk0 m c (base t.val) r k))) (blk1 m c (base t.val) 0 j)

theorem h_apply (c : Dev nD) (t : Fin cfg0.N) (r : Fin 512) (j : Fin 2048) : hB m c t.val (ix2 r j) = hS (m (c.tc.loc main_arg0)) (m (c.tc.loc main_arg1)) (row t r) j :=
  norm_eq m c t r j

theorem kept_apply (c : Dev nD) (t : Fin cfg0.N) (r : Fin 512) (j : Fin 2048) : keptB m c t.val (ix2 r j) = hS (m (c.tc.loc main_arg0)) (m (c.tc.loc main_arg1)) (row t r) j :=
  (pay2_apply _ _ r j).trans ((pay1_apply _ _ r j).symm.trans (norm_eq m c t r j))

theorem gate_apply (c : Dev nD) (t : Fin cfg0.N) (r : Fin 512) (j : Fin 128) : gateB m c t.val (ix2 r j) = gateS (m (c.tc.loc main_arg0)) (m (c.tc.loc main_arg1)) (m (c.tc.loc main_arg3)) (row t r) j :=
  (pay3_apply _ _ _ r j).trans (Finset.sum_congr rfl fun k _ => congrArg₂ _ (norm_eq m c t r k) (blk3 m c (base t.val) j k))

theorem z_apply (c : Dev nD) (t : Fin cfg0.N) (r : Fin 512) (j : Fin 1024) : zB m c t (ix2 r j) = zS (m (c.tc.loc main_arg0)) (m (c.tc.loc main_arg1)) (m (c.tc.loc main_arg2)) (row t r) (col t j) :=
  (pay4_apply _ _ r j).trans (Finset.sum_congr rfl fun k _ => congrArg₂ _ (kept_apply m c t r k) (blk2 m c t j k))

theorem flush4 : ∀ t : Fin cfg0.N, ((cfgs 0).win 4).flush t = true := by decide +kernel

/-- What the call leaves of the projection. -/
def G4 (c : Dev nD) : Buf (Elt Ideal) ((c : Thread nD τ).loc main_v0_0) :=
  fun i => zS (m (c.tc.loc main_arg0)) (m (c.tc.loc main_arg1)) (m (c.tc.loc main_arg2)) ⟨(i 0).val, (i 0).isLt⟩ ⟨(i 1).val, (i 1).isLt⟩

theorem flushed4_eq (c : Dev nD) (t : Fin cfg0.N) : (dats m 0 c).flushed 4 t = ((cfg0.win 4).blk t).view.read (Elt Ideal) (G4 m c) := by
  have ht := t_lt t
  show (cfg0.win 4).cut (grid0.coords t) (zB m c t) = _
  funext y
  rw [View.read_apply]
  have hy : y = ix2 (⟨(y 0).val, (y 0).isLt⟩ : Fin 512) (⟨(y 1).val, (y 1).isLt⟩ : Fin 1024) := by
    funext a; match a with
    | ⟨0, _⟩ => rfl
    | ⟨1, _⟩ => rfl
  refine (congrArg (zB m c t) hy).trans ((z_apply m c t _ _).trans ?_)
  unfold G4
  refine congrArg₂ (zS (m (c.tc.loc main_arg0)) (m (c.tc.loc main_arg1)) (m (c.tc.loc main_arg2))) (Fin.ext ?_) (Fin.ext ?_)
  · show t.val / 7 * 512 + (y 0).val = win0_4.index t 0 * 512 + 1 * (y 0).val; rw [(idx_facts t).2.2.2.2.2.2.2.2.1]; omega
  · show t.val % 7 * 1024 + (y 1).val = win0_4.index t 1 * 1024 + 1 * (y 1).val; rw [(idx_facts t).2.2.2.2.2.2.2.2.2.1]; omega

theorem final4 (c : Dev nD) : (dats m 0 c).arrAt 4 cfg0.N = G4 m c :=
  (dats m 0 c).arrAt_eq_of_cover 4 (G4 m c) (fun t _ => flushed4_eq m c t) fun i => by
    have h0 : (i 0 : Nat) < 2048 := (i 0).isLt
    have h1 : (i 1 : Nat) < 7168 := (i 1).isLt
    have ht : (i 0 : Nat) / 512 * 7 + (i 1 : Nat) / 1024 < cfg0.N := lt_of_lt_of_eq (by omega : (i 0 : Nat) / 512 * 7 + (i 1 : Nat) / 1024 < 28) (show cfg0.N = 28 from N_0).symm
    generalize htt : (⟨(i 0 : Nat) / 512 * 7 + (i 1 : Nat) / 1024, ht⟩ : Fin cfg0.N) = t
    have e0 : t.val = (i 0 : Nat) / 512 * 7 + (i 1 : Nat) / 1024 := by rw [← htt]
    refine ⟨t, flush4 t, ?_⟩
    show i ∈ ((View.whole main_v0_0).slice (win0_4.rect t)).set
    rw [View.set_slice_whole, Rect.mem_set_unit]
    intro a
    match a with
    | ⟨0, _⟩ => show win0_4.index t 0 * 512 ≤ (i 0 : Nat) ∧ (i 0 : Nat) < win0_4.index t 0 * 512 + 512
                rw [(idx_facts t).2.2.2.2.2.2.2.2.1]; omega
    | ⟨1, _⟩ => show win0_4.index t 1 * 1024 ≤ (i 1 : Nat) ∧ (i 1 : Nat) < win0_4.index t 1 * 1024 + 1024
                rw [(idx_facts t).2.2.2.2.2.2.2.2.2.1]; omega

/-- What the call leaves of the gate's projection. -/
def G5 (c : Dev nD) : Buf (Elt Ideal) ((c : Thread nD τ).loc main_v0_1) :=
  fun i => gateS (m (c.tc.loc main_arg0)) (m (c.tc.loc main_arg1)) (m (c.tc.loc main_arg3)) ⟨(i 0).val, (i 0).isLt⟩ ⟨(i 1).val, (i 1).isLt⟩

theorem flushed5_eq (c : Dev nD) (t : Fin cfg0.N) : (dats m 0 c).flushed 5 t = ((cfg0.win 5).blk t).view.read (Elt Ideal) (G5 m c) := by
  have ht := t_lt t
  show (cfg0.win 5).cut (grid0.coords t) (gateB m c t.val) = _
  funext y
  rw [View.read_apply]
  have hy : y = ix2 (⟨(y 0).val, (y 0).isLt⟩ : Fin 512) (⟨(y 1).val, (y 1).isLt⟩ : Fin 128) := by
    funext a; match a with
    | ⟨0, _⟩ => rfl
    | ⟨1, _⟩ => rfl
  refine (congrArg (gateB m c t.val) hy).trans ((gate_apply m c t _ _).trans ?_)
  unfold G5
  refine congrArg₂ (gateS (m (c.tc.loc main_arg0)) (m (c.tc.loc main_arg1)) (m (c.tc.loc main_arg3))) (Fin.ext ?_) (Fin.ext ?_)
  · show t.val / 7 * 512 + (y 0).val = win0_5.index t 0 * 512 + 1 * (y 0).val; rw [(idx_facts t).2.2.2.2.2.2.2.2.2.2.1]; omega
  · show (y 1).val = win0_5.index t 1 * 128 + 1 * (y 1).val; rw [(idx_facts t).2.2.2.2.2.2.2.2.2.2.2.1]; omega

theorem final5 (c : Dev nD) : (dats m 0 c).arrAt 5 cfg0.N = G5 m c :=
  (dats m 0 c).arrAt_eq_of_cover 5 (G5 m c) (fun t _ => flushed5_eq m c t) fun i => by
    have h0 : (i 0 : Nat) < 2048 := (i 0).isLt
    have h1 : (i 1 : Nat) < 128 := (i 1).isLt
    have ht : (i 0 : Nat) / 512 * 7 + 6 < cfg0.N := lt_of_lt_of_eq (by omega : (i 0 : Nat) / 512 * 7 + 6 < 28) (show cfg0.N = 28 from N_0).symm
    generalize htt : (⟨(i 0 : Nat) / 512 * 7 + 6, ht⟩ : Fin cfg0.N) = t
    have e0 : t.val = (i 0 : Nat) / 512 * 7 + 6 := by rw [← htt]
    refine ⟨t, (flush5 t).trans (decide_eq_true (by omega)), ?_⟩
    show i ∈ ((View.whole main_v0_1).slice (win0_5.rect t)).set
    rw [View.set_slice_whole, Rect.mem_set_unit]
    intro a
    match a with
    | ⟨0, _⟩ => show win0_5.index t 0 * 512 ≤ (i 0 : Nat) ∧ (i 0 : Nat) < win0_5.index t 0 * 512 + 512
                rw [(idx_facts t).2.2.2.2.2.2.2.2.2.2.1]; omega
    | ⟨1, _⟩ => show win0_5.index t 1 * 128 ≤ (i 1 : Nat) ∧ (i 1 : Nat) < win0_5.index t 1 * 128 + 128
                rw [(idx_facts t).2.2.2.2.2.2.2.2.2.2.2.1]; omega

/-- What the call leaves of the normalised rows. -/
def G6 (c : Dev nD) : Buf (Elt Ideal) ((c : Thread nD τ).loc main_v0_2) :=
  fun i => hS (m (c.tc.loc main_arg0)) (m (c.tc.loc main_arg1)) ⟨(i 0).val, (i 0).isLt⟩ ⟨(i 1).val, (i 1).isLt⟩

theorem flushed6_eq (c : Dev nD) (t : Fin cfg0.N) : (dats m 0 c).flushed 6 t = ((cfg0.win 6).blk t).view.read (Elt Ideal) (G6 m c) := by
  have ht := t_lt t
  show (cfg0.win 6).cut (grid0.coords t) (hB m c t.val) = _
  funext y
  rw [View.read_apply]
  have hy : y = ix2 (⟨(y 0).val, (y 0).isLt⟩ : Fin 512) (⟨(y 1).val, (y 1).isLt⟩ : Fin 2048) := by
    funext a; match a with
    | ⟨0, _⟩ => rfl
    | ⟨1, _⟩ => rfl
  refine (congrArg (hB m c t.val) hy).trans ((h_apply m c t _ _).trans ?_)
  unfold G6
  refine congrArg₂ (hS (m (c.tc.loc main_arg0)) (m (c.tc.loc main_arg1))) (Fin.ext ?_) (Fin.ext ?_)
  · show t.val / 7 * 512 + (y 0).val = win0_6.index t 0 * 512 + 1 * (y 0).val; rw [(idx_facts t).2.2.2.2.2.2.2.2.2.2.2.2.1]; omega
  · show (y 1).val = win0_6.index t 1 * 2048 + 1 * (y 1).val; rw [(idx_facts t).2.2.2.2.2.2.2.2.2.2.2.2.2]; omega

theorem final6 (c : Dev nD) : (dats m 0 c).arrAt 6 cfg0.N = G6 m c :=
  (dats m 0 c).arrAt_eq_of_cover 6 (G6 m c) (fun t _ => flushed6_eq m c t) fun i => by
    have h0 : (i 0 : Nat) < 2048 := (i 0).isLt
    have h1 : (i 1 : Nat) < 2048 := (i 1).isLt
    have ht : (i 0 : Nat) / 512 * 7 + 6 < cfg0.N := lt_of_lt_of_eq (by omega : (i 0 : Nat) / 512 * 7 + 6 < 28) (show cfg0.N = 28 from N_0).symm
    generalize htt : (⟨(i 0 : Nat) / 512 * 7 + 6, ht⟩ : Fin cfg0.N) = t
    have e0 : t.val = (i 0 : Nat) / 512 * 7 + 6 := by rw [← htt]
    refine ⟨t, (flush6 t).trans (decide_eq_true (by omega)), ?_⟩
    show i ∈ ((View.whole main_v0_2).slice (win0_6.rect t)).set
    rw [View.set_slice_whole, Rect.mem_set_unit]
    intro a
    match a with
    | ⟨0, _⟩ => show win0_6.index t 0 * 512 ≤ (i 0 : Nat) ∧ (i 0 : Nat) < win0_6.index t 0 * 512 + 512
                rw [(idx_facts t).2.2.2.2.2.2.2.2.2.2.2.2.1]; omega
    | ⟨1, _⟩ => show win0_6.index t 1 * 2048 ≤ (i 1 : Nat) ∧ (i 1 : Nat) < win0_6.index t 1 * 2048 + 2048
                rw [(idx_facts t).2.2.2.2.2.2.2.2.2.2.2.2.2]; omega

end Cert.InprojIdeal.Hand

namespace Cert.InprojReferenceIdeal.Hand

open Idealize.ShloMosaic Idealize.ShloMosaic.TcCoe
open Cert.InprojReferenceIdeal Cert.InprojReferenceIdeal.Gen Cert.InprojReferenceIdeal.Read
open Cert.InprojIdeal.Hand (hS zS gateS)

variable (x : Vec Ideal S2048x2048 .f32) (g : Vec Ideal S1x2048 .f32) (wm : Vec Ideal S7168x2048 .bf16) (wga : Vec Ideal S128x2048 .bf16)

theorem h_apply (i j : Fin 2048) : val_main_v12 (F := Ideal) x g (ix2 i j) = hS x g i j := by
  unfold hS Norm.var
  pointwise [val_main_v12, val_main_v11, val_main_v10, val_main_v9, val_main_v8, val_main_v7, val_main_v6, val_main_v5, val_main_v4, val_main_v3, val_main_v2, val_main_v1, val_main_v0, val_main_cst, val_main_cst_0, val_main_cst_1]

theorem z_apply (i : Fin 2048) (j : Fin 7168) : val_main_v21 (F := Ideal) x g wm (ix2 i j) = zS x g wm i j := by
  unfold zS
  simp only [← h_apply]
  pointwise [val_main_v21, val_main_v16, val_main_v15, val_main_v14, val_main_v13]

theorem gate_apply (i : Fin 2048) (j : Fin 128) : val_main_v22 (F := Ideal) x g wga (ix2 i j) = gateS x g wga i j := by
  unfold gateS
  simp only [← h_apply]
  pointwise [val_main_v22, val_main_v20, val_main_v19, val_main_v18, val_main_v17]

/-- The reference keeps its arguments and leaves every semaphore at zero. -/
theorem frame_reference : Cert.quiescent_InprojReferenceIdeal := by
  intro m ρ _
  refine (θ_run _ _ _).mono (fun r h => ⟨fun c => (h c).2.2.2, sem_eq_zero_of_no_sems (by decide) _⟩) (Cert.InprojReferenceIdeal.Value.run m ρ)

end Cert.InprojReferenceIdeal.Hand

namespace Cert.InprojIdeal.Hand

open Idealize.ShloMosaic Idealize.ShloMosaic.TcCoe
open Cert.InprojIdeal Cert.InprojIdeal.Gen

theorem ix_eta {a b : ℕ} (i : (⟨2, ![a, b]⟩ : Shape).Idx) : i = ix2 (⟨(i 0).val, (i 0).isLt⟩ : Fin a) (⟨(i 1).val, (i 1).isLt⟩ : Fin b) := by
  funext k; match k with
  | ⟨0, _⟩ => rfl
  | ⟨1, _⟩ => rfl

/-- The kernel's idealization and the reference leave the same three arrays. -/
theorem algebraic : Cert.algebraic_InprojIdeal_InprojReferenceIdeal := by
  intro m g m' g' hpre hagree
  refine ⟨fun c => G4 m c, fun c => G5 m c, fun c => G6 m c,
    (θ_run _ _ _).mono (fun r h c => ⟨((h.1 c).1 4).trans (final4 m c), ((h.1 c).1 5).trans (final5 m c), ((h.1 c).1 6).trans (final6 m c),
      ((h.1 c).1 0).trans (((dats m 0 c).arrAt_in 0 rfl _).trans (V_main_arg0 m c)),
      ((h.1 c).1 1).trans (((dats m 0 c).arrAt_in 1 rfl _).trans (V_main_arg1 m c)),
      ((h.1 c).1 2).trans (((dats m 0 c).arrAt_in 2 rfl _).trans (V_main_arg2 m c)),
      ((h.1 c).1 3).trans (((dats m 0 c).arrAt_in 3 rfl _).trans (V_main_arg3 m c))⟩) (run_main m g),
    (θ_run _ _ _).mono (fun r h c => ⟨(h c).1.trans ?_, (h c).2.1.trans ?_, (h c).2.2.1.trans ?_, (h c).2.2.2⟩) (Cert.InprojReferenceIdeal.Value.run m' g')⟩
  · obtain ⟨h0, h1, h2, h3⟩ := hagree c
    rw [Cert.InprojReferenceIdeal.Read.val_main_v21_eq, h0, h1, h2]
    funext i
    exact (congrArg _ (ix_eta i)).trans (Cert.InprojReferenceIdeal.Hand.z_apply _ _ _ _ _)
  · obtain ⟨h0, h1, h2, h3⟩ := hagree c
    rw [Cert.InprojReferenceIdeal.Read.val_main_v22_eq, h0, h1, h3]
    funext i
    exact (congrArg _ (ix_eta i)).trans (Cert.InprojReferenceIdeal.Hand.gate_apply _ _ _ _ _)
  · obtain ⟨h0, h1, h2, h3⟩ := hagree c
    rw [Cert.InprojReferenceIdeal.Read.val_main_v12_eq, h0, h1]
    funext i
    exact (congrArg _ (ix_eta i)).trans (Cert.InprojReferenceIdeal.Hand.h_apply _ _ _ _)

end Cert.InprojIdeal.Hand

end
-- ==== Proof.Outproj.lean ====
module

public import proofs.«01_k».proof.Defs
public import proofs.«01_k».proof.Proof.Dots
public import proofs.«01_k».proof.Proof.Gen.Outproj
public import proofs.«01_k».proof.Proof.Gen.Outproj.Frame
public import proofs.«01_k».proof.Proof.Gen.OutprojIdeal.Frame
public import proofs.«01_k».proof.Proof.Gen.OutprojIdeal.Value
public import proofs.«01_k».proof.Proof.Gen.OutprojReferenceIdeal.Run
public import proofs.«01_k».proof.Proof.Gen.OutprojReferenceIdeal.Read
public import Idealize.ShloMosaic.Lib.Pipeline.Value
public import Idealize.ShloMosaic.Lib.Pointwise
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.OutprojIdeal.Hand

open Cert.OutprojIdeal Cert.OutprojIdeal.Gen

variable (m : (ℓ : Loc nD τ sig) → Buf (Elt Ideal) ℓ) (ρ : Dev nD → PrngReg)

/-- The projection of the two groups' outputs by one matrix, entry by entry. -/
def outY (cg ca : Vec Ideal S2048x1024 .bf16) (w : Vec Ideal S2048x2048 .bf16) (i j : Fin 2048) : EReal :=
  (∑ k : Fin 1024, cg (ix2 i k) * w (ix2 ⟨k.val, by omega⟩ j)) + ∑ k : Fin 1024, ca (ix2 i k) * w (ix2 ⟨1024 + k.val, by omega⟩ j)

/-- The reciprocal root of a row's mean square. -/
def rms (y : Fin 2048 → EReal) : EReal :=
  Ideal.rsqrt (Ideal.div (∑ k : Fin 2048, y k * y k) (Ideal.ofBits .f32 0x45000000#32) + Ideal.ofBits .f32 0x358637BD#32)

/-- The residual stream after the layer. -/
def outX (cg ca : Vec Ideal S2048x1024 .bf16) (w : Vec Ideal S2048x2048 .bf16) (x : Vec Ideal S2048x2048 .f32) (g : Vec Ideal S1x2048 .f32) (i j : Fin 2048) : EReal :=
  x (ix2 i j) + outY cg ca w i j * rms (outY cg ca w i) * g (ix2 0 j)

theorem pay1_apply (a b : Vec Ideal S256x1024 .bf16) (u v : Vec Ideal S1024x2048 .bf16) (i : Fin 256) (j : Fin 2048) :
    k0_pay1 a u b v (ix2 i j) = (∑ k : Fin 1024, a (ix2 i k) * u (ix2 k j)) + ∑ k : Fin 1024, b (ix2 i k) * v (ix2 k j) := by
  pointwise [k0_pay1]

theorem pay2_apply (a b : Vec Ideal S256x1024 .bf16) (u v : Vec Ideal S1024x2048 .bf16) (x : Vec Ideal S256x2048 .f32) (g : Vec Ideal S1x2048 .f32) (i : Fin 256) (j : Fin 2048) :
    k0_pay2 a u b v x g (ix2 i j) = x (ix2 i j) + k0_pay1 a u b v (ix2 i j) * rms (fun k => k0_pay1 a u b v (ix2 i k)) * g (ix2 0 j) := by
  unfold k0_pay2 rms
  generalize k0_pay1 a u b v = y
  pointwise

theorem ld_lo (w : Vec Ideal S2048x2048 .bf16) (k : Fin 1024) (j : Fin 2048) : View.ld w r0_1 (ix2 k j) = w (ix2 ⟨k.val, by omega⟩ j) := by
  show w _ = w _
  congr 1
  funext a
  apply Fin.ext
  match a with
  | ⟨0, _⟩ => show 0 + 1 * k.val = k.val; omega
  | ⟨1, _⟩ => show 0 + 1 * j.val = j.val; omega

theorem ld_hi (w : Vec Ideal S2048x2048 .bf16) (k : Fin 1024) (j : Fin 2048) : View.ld w r0_2 (ix2 k j) = w (ix2 ⟨1024 + k.val, by omega⟩ j) := by
  show w _ = w _
  congr 1
  funext a
  apply Fin.ext
  match a with
  | ⟨0, _⟩ => show 1024 + 1 * k.val = 1024 + k.val; omega
  | ⟨1, _⟩ => show 0 + 1 * j.val = j.val; omega

/-- What a grid point stores of the projection. -/
theorem out5_apply (x0 x1 : Vec Ideal S256x1024 .bf16) (x2 : Vec Ideal S2048x2048 .bf16) (x3 : Vec Ideal S256x2048 .f32) (x4 : Vec Ideal S1x2048 .f32) (i : Fin 256) (j : Fin 2048) :
    out0_5 x0 x1 x2 x3 x4 (ix2 i j) = (∑ k : Fin 1024, x0 (ix2 i k) * x2 (ix2 ⟨k.val, by omega⟩ j)) + ∑ k : Fin 1024, x1 (ix2 i k) * x2 (ix2 ⟨1024 + k.val, by omega⟩ j) := by
  unfold out0_5
  rw [View.canon_unit_zero Dots.hz, View.ld_unit_zero (S := S256x1024) Dots.hz, View.ld_unit_zero (S := S256x1024) Dots.hz, pay1_apply]
  refine congrArg₂ _ (Finset.sum_congr rfl fun k _ => ?_) (Finset.sum_congr rfl fun k _ => ?_)
  · rw [ld_lo]
  · rw [ld_hi]

/-- What a grid point stores of the residual stream. -/
theorem out6_apply (x0 x1 : Vec Ideal S256x1024 .bf16) (x2 : Vec Ideal S2048x2048 .bf16) (x3 : Vec Ideal S256x2048 .f32) (x4 : Vec Ideal S1x2048 .f32) (i : Fin 256) (j : Fin 2048) :
    out0_6 x0 x1 x2 x3 x4 (ix2 i j) = x3 (ix2 i j) + out0_5 x0 x1 x2 x3 x4 (ix2 i j) * rms (fun k => out0_5 x0 x1 x2 x3 x4 (ix2 i k)) * x4 (ix2 0 j) := by
  unfold out0_6 out0_5
  rw [View.canon_unit_zero Dots.hz, View.canon_unit_zero Dots.hz, View.ld_unit_zero (S := S256x2048) Dots.hz, View.ld_unit_zero (S := S1x2048) Dots.hz, pay2_apply]

theorem idx_facts : ∀ t : Fin cfg0.N, win0_0.index t 0 = win0_5.index t 0 ∧ win0_0.index t 1 = 0 ∧ win0_1.index t 0 = win0_5.index t 0 ∧ win0_1.index t 1 = 0
    ∧ win0_2.index t 0 = 0 ∧ win0_2.index t 1 = 0 ∧ win0_3.index t 0 = win0_5.index t 0 ∧ win0_3.index t 1 = 0 ∧ win0_4.index t 0 = 0 ∧ win0_4.index t 1 = 0
    ∧ win0_5.index t 1 = 0 ∧ win0_6.index t 0 = win0_5.index t 0 ∧ win0_6.index t 1 = 0 ∧ win0_5.index t 0 < 8 :=
  (by decide +kernel : ∀ t : Fin grid0.N, win0_0.index t 0 = win0_5.index t 0 ∧ win0_0.index t 1 = 0 ∧ win0_1.index t 0 = win0_5.index t 0 ∧ win0_1.index t 1 = 0
    ∧ win0_2.index t 0 = 0 ∧ win0_2.index t 1 = 0 ∧ win0_3.index t 0 = win0_5.index t 0 ∧ win0_3.index t 1 = 0 ∧ win0_4.index t 0 = 0 ∧ win0_4.index t 1 = 0
    ∧ win0_5.index t 1 = 0 ∧ win0_6.index t 0 = win0_5.index t 0 ∧ win0_6.index t 1 = 0 ∧ win0_5.index t 0 < 8)

theorem covers : ∀ p : Fin 8, ∃ t : Fin cfg0.N, win0_5.index t 0 = p.val ∧ win0_6.index t 0 = p.val :=
  (by decide +kernel : ∀ p : Fin 8, ∃ t : Fin grid0.N, win0_5.index t 0 = p.val ∧ win0_6.index t 0 = p.val)

/-- The row of the whole array a block's row is. -/
def row (t : Fin cfg0.N) (r : Fin 256) : Fin 2048 := ⟨win0_5.index t 0 * 256 + r.val, by have := (idx_facts t).2.2.2.2.2.2.2.2.2.2.2.2.2; omega⟩

theorem blk0 (c : Dev nD) (t : Fin cfg0.N) (r : Fin 256) (k : Fin 1024) :
    iblk m c 0 t (ix2 r k) = (m ((c : Thread nD τ).loc main_arg0) : Vec Ideal S2048x1024 .bf16) (ix2 (row t r) k) := by
  unfold iblk
  rw [View.read_apply]
  show m ((c : Thread nD τ).loc main_arg0) _ = _
  congr 1
  funext a
  apply Fin.ext
  match a with
  | ⟨0, _⟩ => show win0_0.index t 0 * 256 + 1 * r.val = win0_5.index t 0 * 256 + r.val; rw [(idx_facts t).1]; omega
  | ⟨1, _⟩ => show win0_0.index t 1 * 1024 + 1 * k.val = k.val; rw [(idx_facts t).2.1]; omega

theorem blk1 (c : Dev nD) (t : Fin cfg0.N) (r : Fin 256) (k : Fin 1024) :
    iblk m c 1 t (ix2 r k) = (m ((c : Thread nD τ).loc main_arg1) : Vec Ideal S2048x1024 .bf16) (ix2 (row t r) k) := by
  unfold iblk
  rw [View.read_apply]
  show m ((c : Thread nD τ).loc main_arg1) _ = _
  congr 1
  funext a
  apply Fin.ext
  match a with
  | ⟨0, _⟩ => show win0_1.index t 0 * 256 + 1 * r.val = win0_5.index t 0 * 256 + r.val; rw [(idx_facts t).2.2.1]; omega
  | ⟨1, _⟩ => show win0_1.index t 1 * 1024 + 1 * k.val = k.val; rw [(idx_facts t).2.2.2.1]; omega

theorem blk2 (c : Dev nD) (t : Fin cfg0.N) (r : Fin 2048) (k : Fin 2048) :
    iblk m c 2 t (ix2 r k) = (m ((c : Thread nD τ).loc main_arg2) : Vec Ideal S2048x2048 .bf16) (ix2 r k) := by
  unfold iblk
  rw [View.read_apply]
  show m ((c : Thread nD τ).loc main_arg2) _ = _
  congr 1
  funext a
  apply Fin.ext
  match a with
  | ⟨0, _⟩ => show win0_2.index t 0 * 2048 + 1 * r.val = r.val; rw [(idx_facts t).2.2.2.2.1]; omega
  | ⟨1, _⟩ => show win0_2.index t 1 * 2048 + 1 * k.val = k.val; rw [(idx_facts t).2.2.2.2.2.1]; omega

theorem blk3 (c : Dev nD) (t : Fin cfg0.N) (r : Fin 256) (k : Fin 2048) :
    iblk m c 3 t (ix2 r k) = (m ((c : Thread nD τ).loc main_arg3) : Vec Ideal S2048x2048 .f32) (ix2 (row t r) k) := by
  unfold iblk
  rw [View.read_apply]
  show m ((c : Thread nD τ).loc main_arg3) _ = _
  congr 1
  funext a
  apply Fin.ext
  match a with
  | ⟨0, _⟩ => show win0_3.index t 0 * 256 + 1 * r.val = win0_5.index t 0 * 256 + r.val; rw [(idx_facts t).2.2.2.2.2.2.1]; omega
  | ⟨1, _⟩ => show win0_3.index t 1 * 2048 + 1 * k.val = k.val; rw [(idx_facts t).2.2.2.2.2.2.2.1]; omega

theorem blk4 (c : Dev nD) (t : Fin cfg0.N) (r : Fin 1) (k : Fin 2048) :
    iblk m c 4 t (ix2 r k) = (m ((c : Thread nD τ).loc main_arg4) : Vec Ideal S1x2048 .f32) (ix2 r k) := by
  unfold iblk
  rw [View.read_apply]
  show m ((c : Thread nD τ).loc main_arg4) _ = _
  congr 1
  funext a
  apply Fin.ext
  match a with
  | ⟨0, _⟩ => show win0_4.index t 0 * 1 + 1 * r.val = r.val; rw [(idx_facts t).2.2.2.2.2.2.2.2.1]; omega
  | ⟨1, _⟩ => show win0_4.index t 1 * 2048 + 1 * k.val = k.val; rw [(idx_facts t).2.2.2.2.2.2.2.2.2.1]; omega

/-- What the call leaves of the projection. -/
def G5 (c : Dev nD) : Buf (Elt Ideal) ((c : Thread nD τ).loc main_v0_0) :=
  fun i => outY (m ((c : Thread nD τ).loc main_arg0)) (m ((c : Thread nD τ).loc main_arg1)) (m ((c : Thread nD τ).loc main_arg2)) ⟨(i 0).val, (i 0).isLt⟩ ⟨(i 1).val, (i 1).isLt⟩

/-- What the call leaves of the residual stream. -/
def G6 (c : Dev nD) : Buf (Elt Ideal) ((c : Thread nD τ).loc main_v0_1) :=
  fun i => outX (m ((c : Thread nD τ).loc main_arg0)) (m ((c : Thread nD τ).loc main_arg1)) (m ((c : Thread nD τ).loc main_arg2)) (m ((c : Thread nD τ).loc main_arg3)) (m ((c : Thread nD τ).loc main_arg4)) ⟨(i 0).val, (i 0).isLt⟩ ⟨(i 1).val, (i 1).isLt⟩

theorem outs5 (c : Dev nD) (t : Fin cfg0.N) (r : Fin 256) (j : Fin 2048) :
    out0_5 (iblk m c 0 t) (iblk m c 1 t) (iblk m c 2 t) (iblk m c 3 t) (iblk m c 4 t) (ix2 r j)
      = outY (m ((c : Thread nD τ).loc main_arg0)) (m ((c : Thread nD τ).loc main_arg1)) (m ((c : Thread nD τ).loc main_arg2)) (row t r) j := by
  refine (out5_apply _ _ _ _ _ r j).trans ?_
  unfold outY
  refine congrArg₂ _ (Finset.sum_congr rfl fun k _ => ?_) (Finset.sum_congr rfl fun k _ => ?_)
  · exact congrArg₂ _ (blk0 m c t r k) (blk2 m c t _ j)
  · exact congrArg₂ _ (blk1 m c t r k) (blk2 m c t _ j)

theorem outs6 (c : Dev nD) (t : Fin cfg0.N) (r : Fin 256) (j : Fin 2048) :
    out0_6 (iblk m c 0 t) (iblk m c 1 t) (iblk m c 2 t) (iblk m c 3 t) (iblk m c 4 t) (ix2 r j)
      = outX (m ((c : Thread nD τ).loc main_arg0)) (m ((c : Thread nD τ).loc main_arg1)) (m ((c : Thread nD τ).loc main_arg2)) (m ((c : Thread nD τ).loc main_arg3)) (m ((c : Thread nD τ).loc main_arg4)) (row t r) j := by
  refine (out6_apply _ _ _ _ _ r j).trans ?_
  unfold outX
  refine congrArg₂ _ (blk3 m c t r j) (congrArg₂ _ (congrArg₂ _ (outs5 m c t r j) ?_) (blk4 m c t 0 j))
  exact congrArg rms (funext fun k => outs5 m c t r k)

theorem flushed5_eq (c : Dev nD) (t : Fin cfg0.N) :
    (dats m 0 c).flushed 5 t = ((cfg0.win 5).blk t).view.read (Elt Ideal) (G5 m c) := by
  rw [Value.flushed5]
  funext y
  rw [View.read_apply]
  have hy : y = ix2 (⟨(y 0).val, (y 0).isLt⟩ : Fin 256) (⟨(y 1).val, (y 1).isLt⟩ : Fin 2048) := by
    funext a; match a with
    | ⟨0, _⟩ => rfl
    | ⟨1, _⟩ => rfl
  refine (congrArg (out0_5 (iblk m c 0 t) (iblk m c 1 t) (iblk m c 2 t) (iblk m c 3 t) (iblk m c 4 t)) hy).trans ((outs5 m c t _ _).trans ?_)
  unfold G5
  refine congrArg₂ (outY _ _ _) (Fin.ext ?_) (Fin.ext ?_)
  · show win0_5.index t 0 * 256 + (y 0).val = win0_5.index t 0 * 256 + 1 * (y 0).val; omega
  · show (y 1).val = win0_5.index t 1 * 2048 + 1 * (y 1).val; rw [(idx_facts t).2.2.2.2.2.2.2.2.2.2.1]; omega

theorem flushed6_eq (c : Dev nD) (t : Fin cfg0.N) :
    (dats m 0 c).flushed 6 t = ((cfg0.win 6).blk t).view.read (Elt Ideal) (G6 m c) := by
  rw [Value.flushed6]
  funext y
  rw [View.read_apply]
  have hy : y = ix2 (⟨(y 0).val, (y 0).isLt⟩ : Fin 256) (⟨(y 1).val, (y 1).isLt⟩ : Fin 2048) := by
    funext a; match a with
    | ⟨0, _⟩ => rfl
    | ⟨1, _⟩ => rfl
  refine (congrArg (out0_6 (iblk m c 0 t) (iblk m c 1 t) (iblk m c 2 t) (iblk m c 3 t) (iblk m c 4 t)) hy).trans ((outs6 m c t _ _).trans ?_)
  unfold G6
  refine congrArg₂ (outX _ _ _ _ _) (Fin.ext ?_) (Fin.ext ?_)
  · show win0_5.index t 0 * 256 + (y 0).val = win0_6.index t 0 * 256 + 1 * (y 0).val
    rw [(idx_facts t).2.2.2.2.2.2.2.2.2.2.2.1]; omega
  · show (y 1).val = win0_6.index t 1 * 2048 + 1 * (y 1).val; rw [(idx_facts t).2.2.2.2.2.2.2.2.2.2.2.2.1]; omega

theorem final5 (c : Dev nD) : (dats m 0 c).arrAt 5 cfg0.N = G5 m c :=
  (dats m 0 c).arrAt_eq_of_cover 5 (G5 m c) (fun t _ => flushed5_eq m c t) fun i => by
    have h0 : (i 0 : Nat) < 2048 := (i 0).isLt
    have h1 : (i 1 : Nat) < 2048 := (i 1).isLt
    obtain ⟨t, e0, -⟩ := covers ⟨(i 0 : Nat) / 256, by omega⟩
    refine ⟨t, flush0_5 t, ?_⟩
    show i ∈ ((View.whole main_v0_0).slice (win0_5.rect t)).set
    rw [View.set_slice_whole, Rect.mem_set_unit]
    intro a
    match a with
    | ⟨0, _⟩ => show win0_5.index t 0 * 256 ≤ (i 0 : Nat) ∧ (i 0 : Nat) < win0_5.index t 0 * 256 + 256
                rw [e0]; dsimp only; omega
    | ⟨1, _⟩ => show win0_5.index t 1 * 2048 ≤ (i 1 : Nat) ∧ (i 1 : Nat) < win0_5.index t 1 * 2048 + 2048
                rw [(idx_facts t).2.2.2.2.2.2.2.2.2.2.1]; omega

theorem final6 (c : Dev nD) : (dats m 0 c).arrAt 6 cfg0.N = G6 m c :=
  (dats m 0 c).arrAt_eq_of_cover 6 (G6 m c) (fun t _ => flushed6_eq m c t) fun i => by
    have h0 : (i 0 : Nat) < 2048 := (i 0).isLt
    have h1 : (i 1 : Nat) < 2048 := (i 1).isLt
    obtain ⟨t, -, e0⟩ := covers ⟨(i 0 : Nat) / 256, by omega⟩
    refine ⟨t, flush0_6 t, ?_⟩
    show i ∈ ((View.whole main_v0_1).slice (win0_6.rect t)).set
    rw [View.set_slice_whole, Rect.mem_set_unit]
    intro a
    match a with
    | ⟨0, _⟩ => show win0_6.index t 0 * 256 ≤ (i 0 : Nat) ∧ (i 0 : Nat) < win0_6.index t 0 * 256 + 256
                rw [e0]; dsimp only; omega
    | ⟨1, _⟩ => show win0_6.index t 1 * 2048 ≤ (i 1 : Nat) ∧ (i 1 : Nat) < win0_6.index t 1 * 2048 + 2048
                rw [(idx_facts t).2.2.2.2.2.2.2.2.2.2.2.2.1]; omega

end Cert.OutprojIdeal.Hand

namespace Cert.OutprojReferenceIdeal.Hand

open Cert.OutprojReferenceIdeal Cert.OutprojReferenceIdeal.Gen Cert.OutprojReferenceIdeal.Read
open Cert.OutprojIdeal.Hand (outY outX rms)

variable (a b : Vec Ideal S2048x1024 .bf16) (w : Vec Ideal S2048x2048 .bf16) (x : Vec Ideal S2048x2048 .f32) (g : Vec Ideal S1x2048 .f32)

theorem cat_lo (i : Fin 2048) (k : Fin 1024) : val_main_v0 (F := Ideal) a b (ix2 i ⟨k.val, by omega⟩) = a (ix2 i k) := by
  have h : (k.val : ℕ) < 1024 := k.isLt
  pointwise [val_main_v0]

theorem cat_hi (i : Fin 2048) (k : Fin 1024) : val_main_v0 (F := Ideal) a b (ix2 i ⟨1024 + k.val, by omega⟩) = b (ix2 i k) := by
  have h : ¬ (1024 + k.val : ℕ) < 1024 := by omega
  pointwise [val_main_v0]

theorem y_apply (i j : Fin 2048) : val_main_v3 (F := Ideal) a b w (ix2 i j) = outY a b w i j := by
  rw [val_main_v3_apply]
  refine (Fin.sum_univ_add (a := 1024) (b := 1024) _).trans ?_
  unfold outY
  refine congrArg₂ _ (Finset.sum_congr rfl fun k _ => ?_) (Finset.sum_congr rfl fun k _ => ?_)
  · refine congrArg₂ _ ((congrArg (val_main_v0 (F := Ideal) a b) ?_).trans (cat_lo a b i k)) (congrArg w ?_) <;> (funext d; match d with
    | ⟨0, _⟩ => rfl
    | ⟨1, _⟩ => rfl)
  · refine congrArg₂ _ ((congrArg (val_main_v0 (F := Ideal) a b) ?_).trans (cat_hi a b i k)) (congrArg w ?_) <;> (funext d; match d with
    | ⟨0, _⟩ => rfl
    | ⟨1, _⟩ => rfl)

theorem x_apply (i j : Fin 2048) : val_main_v16 (F := Ideal) a b w x g (ix2 i j) = outX a b w x g i j := by
  have e : ∀ k : Fin 2048, idx_main_v5 (idx_main_v6 (idx_main_v12 (ix2 i j))) k = ix2 i k := fun k => by
    funext d
    match d with
    | ⟨0, _⟩ => rfl
    | ⟨1, _⟩ => rfl
  have eg : idx_main_v14 (ix2 i j) = ix2 0 j := by
    funext d
    match d with
    | ⟨0, _⟩ => rfl
    | ⟨1, _⟩ => rfl
  rw [val_main_v16_apply, val_main_v15_apply, val_main_v13_apply, val_main_v12_apply, val_main_v11_apply, val_main_v10_apply, val_main_v9_apply, val_main_v8_apply, val_main_v7_apply, val_main_v6_apply, val_main_v5_apply, val_main_v14_apply]
  simp only [val_main_v4_apply, e, y_apply, eg]
  show x (ix2 i j) + outY a b w i j * Ideal.rsqrt (Ideal.div (Ideal.ofBits .f32 0x00000000#32 + ∑ k : Fin 2048, outY a b w i k * outY a b w i k) (Ideal.ofBits .f32 0x45000000#32) + Ideal.ofBits .f32 0x358637BD#32) * g (ix2 0 j) = _
  rw [Ideal.ofBits_zero_f32, zero_add]
  rfl

/-- The reference keeps its arguments and leaves every semaphore at zero. -/
theorem frame_reference : Cert.quiescent_OutprojReferenceIdeal := by
  intro m ρ _
  refine (θ_run _ _ _).mono (fun r h => ⟨fun c => (h c).2.2, sem_eq_zero_of_no_sems (by decide) _⟩) (Cert.OutprojReferenceIdeal.Value.run m ρ)

end Cert.OutprojReferenceIdeal.Hand

namespace Cert.OutprojIdeal.Hand

/-- The kernel's idealization and the reference leave the same projection and the same residual stream. -/
theorem algebraic : Cert.algebraic_OutprojIdeal_OutprojReferenceIdeal := by
  intro m g m' g' _ hagree
  refine ⟨fun c => G5 m c, fun c => G6 m c, (θ_run _ _ _).mono (fun r h c => ⟨((h c).1).trans (final5 m c), ((h c).2.1).trans (final6 m c), (h c).2.2⟩) (Value.run_blocks m g),
    (θ_run _ _ _).mono (fun r h c => ⟨(h c).1.trans ?_, (h c).2.1.trans ?_, (h c).2.2⟩) (Cert.OutprojReferenceIdeal.Value.run m' g')⟩
  · obtain ⟨h0, h1, h2, -, -⟩ := hagree c
    rw [Cert.OutprojReferenceIdeal.Read.val_main_v3_eq, h0, h1, h2]
    funext i
    have hi : i = ix2 (⟨(i 0).val, (i 0).isLt⟩ : Fin 2048) (⟨(i 1).val, (i 1).isLt⟩ : Fin 2048) := by
      funext a; match a with
      | ⟨0, _⟩ => rfl
      | ⟨1, _⟩ => rfl
    exact (congrArg _ hi).trans (Cert.OutprojReferenceIdeal.Hand.y_apply _ _ _ _ _)
  · obtain ⟨h0, h1, h2, h3, h4⟩ := hagree c
    rw [Cert.OutprojReferenceIdeal.Read.val_main_v16_eq, h0, h1, h2, h3, h4]
    funext i
    have hi : i = ix2 (⟨(i 0).val, (i 0).isLt⟩ : Fin 2048) (⟨(i 1).val, (i 1).isLt⟩ : Fin 2048) := by
      funext a; match a with
      | ⟨0, _⟩ => rfl
      | ⟨1, _⟩ => rfl
    exact (congrArg _ hi).trans (Cert.OutprojReferenceIdeal.Hand.x_apply _ _ _ _ _ _ _)

end Cert.OutprojIdeal.Hand

end
-- ==== Proof.PostBwd.lean ====
module

public import proofs.«01_k».proof.Defs
public import proofs.«01_k».proof.Proof.Dots
public import proofs.«01_k».proof.Proof.Norm
public import proofs.«01_k».proof.Proof.Gen.PostBwd
public import proofs.«01_k».proof.Proof.Gen.PostBwd.Frame
public import proofs.«01_k».proof.Proof.Gen.PostBwdIdeal.Frame
public import proofs.«01_k».proof.Proof.Gen.PostBwdIdeal.Value
public import proofs.«01_k».proof.Proof.Gen.PostBwdReferenceIdeal.Run
public import proofs.«01_k».proof.Proof.Gen.PostBwdReferenceIdeal.Read
public import proofs.«01_k».proof.Proof.Gen.Pre_finite_post
public import Idealize.ShloMosaic.Lib.Pipeline.ValueKit.Acc
public import Idealize.ShloMosaic.Lib.Pipeline.Value
public import Idealize.ShloMosaic.Lib.Pointwise
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.PostBwdIdeal.Hand

open Cert.PostBwdIdeal Cert.PostBwdIdeal.Gen

/-- A buffer of the kernel. -/
abbrev Mr (S : Shape) (e : EltTy) := Memref sig .tc .vmem S e

theorem out0_A_4_eq (c : Dev nD) (i : grid0.Coords) (arg1 : Mr S256x2048 .f32) (harg1 : arg1.IsWhole) (arg2 : Mr S256x2048 .f32) (harg2 : arg2.IsWhole) (arg3 : Mr S1x2048 .f32) (harg3 : arg3.IsWhole) (arg4 : Mr S2048x2048 .bf16) (harg4 : arg4.IsWhole) (arg5 : Mr S256x2048 .bf16) (harg5 : arg5.IsWhole) (arg6 : Mr S256x1024 .bf16) (harg6 : arg6.IsWhole) (arg7 : Mr S256x1024 .bf16) (harg7 : arg7.IsWhole) (arg8 : Mr S1x2048 .f32) (harg8 : arg8.IsWhole) (hc0 : cond0_0 i)
    (x0 : Vec Ideal S256x2048 .f32) (x1 : Vec Ideal S256x2048 .f32) (x2 : Vec Ideal S1x2048 .f32) (x3 : Vec Ideal S2048x2048 .bf16) :
    out0_A_4 c i arg1 harg1 arg2 harg2 arg3 harg3 arg4 harg4 arg5 harg5 arg6 harg6 arg7 harg7 arg8 harg8 hc0 x0 x1 x2 x3 = k0_pay7 x1 x0 x2 := by
  frame_out

theorem out0_A_5_eq (c : Dev nD) (i : grid0.Coords) (arg1 : Mr S256x2048 .f32) (harg1 : arg1.IsWhole) (arg2 : Mr S256x2048 .f32) (harg2 : arg2.IsWhole) (arg3 : Mr S1x2048 .f32) (harg3 : arg3.IsWhole) (arg4 : Mr S2048x2048 .bf16) (harg4 : arg4.IsWhole) (arg5 : Mr S256x2048 .bf16) (harg5 : arg5.IsWhole) (arg6 : Mr S256x1024 .bf16) (harg6 : arg6.IsWhole) (arg7 : Mr S256x1024 .bf16) (harg7 : arg7.IsWhole) (arg8 : Mr S1x2048 .f32) (harg8 : arg8.IsWhole) (hc0 : cond0_0 i)
    (x0 : Vec Ideal S256x2048 .f32) (x1 : Vec Ideal S256x2048 .f32) (x2 : Vec Ideal S1x2048 .f32) (x3 : Vec Ideal S2048x2048 .bf16) :
    out0_A_5 c i arg1 harg1 arg2 harg2 arg3 harg3 arg4 harg4 arg5 harg5 arg6 harg6 arg7 harg7 arg8 harg8 hc0 x0 x1 x2 x3 = k0_pay1 (k0_pay7 x1 x0 x2) (View.ld x3 (Rect.unit (s := S2048x2048) ![0, 0] S1024x2048.size inb_S2048x2048_S1024x2048_0_0)) := by
  frame_out

theorem out0_A_6_eq (c : Dev nD) (i : grid0.Coords) (arg1 : Mr S256x2048 .f32) (harg1 : arg1.IsWhole) (arg2 : Mr S256x2048 .f32) (harg2 : arg2.IsWhole) (arg3 : Mr S1x2048 .f32) (harg3 : arg3.IsWhole) (arg4 : Mr S2048x2048 .bf16) (harg4 : arg4.IsWhole) (arg5 : Mr S256x2048 .bf16) (harg5 : arg5.IsWhole) (arg6 : Mr S256x1024 .bf16) (harg6 : arg6.IsWhole) (arg7 : Mr S256x1024 .bf16) (harg7 : arg7.IsWhole) (arg8 : Mr S1x2048 .f32) (harg8 : arg8.IsWhole) (hc0 : cond0_0 i)
    (x0 : Vec Ideal S256x2048 .f32) (x1 : Vec Ideal S256x2048 .f32) (x2 : Vec Ideal S1x2048 .f32) (x3 : Vec Ideal S2048x2048 .bf16) :
    out0_A_6 c i arg1 harg1 arg2 harg2 arg3 harg3 arg4 harg4 arg5 harg5 arg6 harg6 arg7 harg7 arg8 harg8 hc0 x0 x1 x2 x3 = k0_pay2 (k0_pay7 x1 x0 x2) (View.ld x3 (Rect.unit (s := S2048x2048) ![1024, 0] S1024x2048.size inb_S2048x2048_S1024x2048_1024_0)) := by
  frame_out

theorem out0_A_7_eq (c : Dev nD) (i : grid0.Coords) (arg1 : Mr S256x2048 .f32) (harg1 : arg1.IsWhole) (arg2 : Mr S256x2048 .f32) (harg2 : arg2.IsWhole) (arg3 : Mr S1x2048 .f32) (harg3 : arg3.IsWhole) (arg4 : Mr S2048x2048 .bf16) (harg4 : arg4.IsWhole) (arg5 : Mr S256x2048 .bf16) (harg5 : arg5.IsWhole) (arg6 : Mr S256x1024 .bf16) (harg6 : arg6.IsWhole) (arg7 : Mr S256x1024 .bf16) (harg7 : arg7.IsWhole) (arg8 : Mr S1x2048 .f32) (harg8 : arg8.IsWhole) (hc0 : cond0_0 i)
    (x0 : Vec Ideal S256x2048 .f32) (x1 : Vec Ideal S256x2048 .f32) (x2 : Vec Ideal S1x2048 .f32) (x3 : Vec Ideal S2048x2048 .bf16) :
    out0_A_7 c i arg1 harg1 arg2 harg2 arg3 harg3 arg4 harg4 arg5 harg5 arg6 harg6 arg7 harg7 arg8 harg8 hc0 x0 x1 x2 x3 = k0_pay6 x1 x0 (k0_pay3 (F := Ideal)) := by
  frame_out

theorem out0_B_4_eq (c : Dev nD) (i : grid0.Coords) (arg1 : Mr S256x2048 .f32) (harg1 : arg1.IsWhole) (arg2 : Mr S256x2048 .f32) (harg2 : arg2.IsWhole) (arg3 : Mr S1x2048 .f32) (harg3 : arg3.IsWhole) (arg4 : Mr S2048x2048 .bf16) (harg4 : arg4.IsWhole) (arg5 : Mr S256x2048 .bf16) (harg5 : arg5.IsWhole) (arg6 : Mr S256x1024 .bf16) (harg6 : arg6.IsWhole) (arg7 : Mr S256x1024 .bf16) (harg7 : arg7.IsWhole) (arg8 : Mr S1x2048 .f32) (harg8 : arg8.IsWhole) (hc0 : ¬cond0_0 i)
    (x0 : Vec Ideal S256x2048 .f32) (x1 : Vec Ideal S256x2048 .f32) (x2 : Vec Ideal S1x2048 .f32) (x3 : Vec Ideal S2048x2048 .bf16) (xo7 : Vec Ideal S1x2048 .f32) :
    out0_B_4 c i arg1 harg1 arg2 harg2 arg3 harg3 arg4 harg4 arg5 harg5 arg6 harg6 arg7 harg7 arg8 harg8 hc0 x0 x1 x2 x3 xo7 = k0_pay7 x1 x0 x2 := by
  frame_out

theorem out0_B_5_eq (c : Dev nD) (i : grid0.Coords) (arg1 : Mr S256x2048 .f32) (harg1 : arg1.IsWhole) (arg2 : Mr S256x2048 .f32) (harg2 : arg2.IsWhole) (arg3 : Mr S1x2048 .f32) (harg3 : arg3.IsWhole) (arg4 : Mr S2048x2048 .bf16) (harg4 : arg4.IsWhole) (arg5 : Mr S256x2048 .bf16) (harg5 : arg5.IsWhole) (arg6 : Mr S256x1024 .bf16) (harg6 : arg6.IsWhole) (arg7 : Mr S256x1024 .bf16) (harg7 : arg7.IsWhole) (arg8 : Mr S1x2048 .f32) (harg8 : arg8.IsWhole) (hc0 : ¬cond0_0 i)
    (x0 : Vec Ideal S256x2048 .f32) (x1 : Vec Ideal S256x2048 .f32) (x2 : Vec Ideal S1x2048 .f32) (x3 : Vec Ideal S2048x2048 .bf16) (xo7 : Vec Ideal S1x2048 .f32) :
    out0_B_5 c i arg1 harg1 arg2 harg2 arg3 harg3 arg4 harg4 arg5 harg5 arg6 harg6 arg7 harg7 arg8 harg8 hc0 x0 x1 x2 x3 xo7 = k0_pay1 (k0_pay7 x1 x0 x2) (View.ld x3 (Rect.unit (s := S2048x2048) ![0, 0] S1024x2048.size inb_S2048x2048_S1024x2048_0_0)) := by
  frame_out

theorem out0_B_6_eq (c : Dev nD) (i : grid0.Coords) (arg1 : Mr S256x2048 .f32) (harg1 : arg1.IsWhole) (arg2 : Mr S256x2048 .f32) (harg2 : arg2.IsWhole) (arg3 : Mr S1x2048 .f32) (harg3 : arg3.IsWhole) (arg4 : Mr S2048x2048 .bf16) (harg4 : arg4.IsWhole) (arg5 : Mr S256x2048 .bf16) (harg5 : arg5.IsWhole) (arg6 : Mr S256x1024 .bf16) (harg6 : arg6.IsWhole) (arg7 : Mr S256x1024 .bf16) (harg7 : arg7.IsWhole) (arg8 : Mr S1x2048 .f32) (harg8 : arg8.IsWhole) (hc0 : ¬cond0_0 i)
    (x0 : Vec Ideal S256x2048 .f32) (x1 : Vec Ideal S256x2048 .f32) (x2 : Vec Ideal S1x2048 .f32) (x3 : Vec Ideal S2048x2048 .bf16) (xo7 : Vec Ideal S1x2048 .f32) :
    out0_B_6 c i arg1 harg1 arg2 harg2 arg3 harg3 arg4 harg4 arg5 harg5 arg6 harg6 arg7 harg7 arg8 harg8 hc0 x0 x1 x2 x3 xo7 = k0_pay2 (k0_pay7 x1 x0 x2) (View.ld x3 (Rect.unit (s := S2048x2048) ![1024, 0] S1024x2048.size inb_S2048x2048_S1024x2048_1024_0)) := by
  frame_out

theorem out0_B_7_eq (c : Dev nD) (i : grid0.Coords) (arg1 : Mr S256x2048 .f32) (harg1 : arg1.IsWhole) (arg2 : Mr S256x2048 .f32) (harg2 : arg2.IsWhole) (arg3 : Mr S1x2048 .f32) (harg3 : arg3.IsWhole) (arg4 : Mr S2048x2048 .bf16) (harg4 : arg4.IsWhole) (arg5 : Mr S256x2048 .bf16) (harg5 : arg5.IsWhole) (arg6 : Mr S256x1024 .bf16) (harg6 : arg6.IsWhole) (arg7 : Mr S256x1024 .bf16) (harg7 : arg7.IsWhole) (arg8 : Mr S1x2048 .f32) (harg8 : arg8.IsWhole) (hc0 : ¬cond0_0 i)
    (x0 : Vec Ideal S256x2048 .f32) (x1 : Vec Ideal S256x2048 .f32) (x2 : Vec Ideal S1x2048 .f32) (x3 : Vec Ideal S2048x2048 .bf16) (xo7 : Vec Ideal S1x2048 .f32) :
    out0_B_7 c i arg1 harg1 arg2 harg2 arg3 harg3 arg4 harg4 arg5 harg5 arg6 harg6 arg7 harg7 arg8 harg8 hc0 x0 x1 x2 x3 xo7 = k0_pay6 x1 x0 xo7 := by
  frame_out

section
variable (d y : Vec Ideal S2048x2048 .f32) (g : Vec Ideal S1x2048 .f32) (w : Vec Ideal S2048x2048 .bf16)

/-- The cotangent of the rows before their normalisation. -/
def dyS (i j : Fin 2048) : EReal := Norm.back (fun k => d (ix2 i k) * g (ix2 0 k)) (fun k => y (ix2 i k)) j

/-- The cotangent of the rows the projection was given. -/
def dcS (i n : Fin 2048) : EReal := ∑ k : Fin 2048, dyS d y g i k * w (ix2 n k)

/-- One row's part of the gain's cotangent. -/
def dgS (i j : Fin 2048) : EReal := d (ix2 i j) * (y (ix2 i j) * Ideal.rsqrt (Norm.var fun k => y (ix2 i k)))

end

theorem pay7_apply (y d : Vec Ideal S256x2048 .f32) (g : Vec Ideal S1x2048 .f32) (i : Fin 256) (j : Fin 2048) :
    k0_pay7 y d g (ix2 i j) = Norm.back (fun k => d (ix2 i k) * g (ix2 0 k)) (fun k => y (ix2 i k)) j := by
  unfold Norm.back Norm.var
  pointwise [k0_pay7, k0_pay5, k0_pay4]

theorem pay6_apply (y d : Vec Ideal S256x2048 .f32) (a : Vec Ideal S1x2048 .f32) (j : Fin 2048) :
    k0_pay6 y d a (ix2 0 j) = a (ix2 0 j) + ∑ i : Fin 256, d (ix2 i j) * (y (ix2 i j) * Ideal.rsqrt (Norm.var fun k => y (ix2 i k))) := by
  unfold Norm.var
  pointwise [k0_pay6, k0_pay5, k0_pay4]

theorem pay3_apply (j : Fin 2048) : k0_pay3 (F := Ideal) (ix2 0 j) = 0 := by
  pointwise [k0_pay3]

theorem pay1_apply (a : Vec Ideal S256x2048 .bf16) (u : Vec Ideal S1024x2048 .bf16) (i : Fin 256) (j : Fin 1024) :
    k0_pay1 a u (ix2 i j) = ∑ k : Fin 2048, a (ix2 i k) * u (ix2 j k) := by
  pointwise [k0_pay1]

theorem pay2_apply (a : Vec Ideal S256x2048 .bf16) (u : Vec Ideal S1024x2048 .bf16) (i : Fin 256) (j : Fin 1024) :
    k0_pay2 a u (ix2 i j) = ∑ k : Fin 2048, a (ix2 i k) * u (ix2 j k) := by
  pointwise [k0_pay2]

theorem ld_lo (w : Vec Ideal S2048x2048 .bf16) (k : Fin 1024) (j : Fin 2048) :
    View.ld w (Rect.unit (s := S2048x2048) ![0, 0] S1024x2048.size inb_S2048x2048_S1024x2048_0_0) (ix2 k j) = w (ix2 ⟨k.val, by omega⟩ j) := by
  show w _ = w _
  congr 1
  funext a
  apply Fin.ext
  match a with
  | ⟨0, _⟩ => show 0 + 1 * k.val = k.val; omega
  | ⟨1, _⟩ => show 0 + 1 * j.val = j.val; omega

theorem ld_hi (w : Vec Ideal S2048x2048 .bf16) (k : Fin 1024) (j : Fin 2048) :
    View.ld w (Rect.unit (s := S2048x2048) ![1024, 0] S1024x2048.size inb_S2048x2048_S1024x2048_1024_0) (ix2 k j) = w (ix2 ⟨1024 + k.val, by omega⟩ j) := by
  show w _ = w _
  congr 1
  funext a
  apply Fin.ext
  match a with
  | ⟨0, _⟩ => show 1024 + 1 * k.val = 1024 + k.val; omega
  | ⟨1, _⟩ => show 0 + 1 * j.val = j.val; omega

variable (m : (ℓ : Loc nD τ sig) → Buf (Elt Ideal) ℓ) (ρ : Dev nD → PrngReg)

theorem idx_facts : ∀ t : Fin cfg0.N, win0_0.index t 0 = t.val ∧ win0_0.index t 1 = 0 ∧ win0_1.index t 0 = t.val ∧ win0_1.index t 1 = 0 ∧ win0_2.index t 0 = 0 ∧ win0_2.index t 1 = 0 ∧ win0_3.index t 0 = 0 ∧ win0_3.index t 1 = 0 ∧ win0_4.index t 0 = t.val ∧ win0_4.index t 1 = 0 ∧ win0_5.index t 0 = t.val ∧ win0_5.index t 1 = 0 ∧ win0_6.index t 0 = t.val ∧ win0_6.index t 1 = 0 ∧ win0_7.index t 0 = 0 ∧ win0_7.index t 1 = 0 :=
  (by decide +kernel : ∀ t : Fin grid0.N, win0_0.index t 0 = t.val ∧ win0_0.index t 1 = 0 ∧ win0_1.index t 0 = t.val ∧ win0_1.index t 1 = 0 ∧ win0_2.index t 0 = 0 ∧ win0_2.index t 1 = 0 ∧ win0_3.index t 0 = 0 ∧ win0_3.index t 1 = 0 ∧ win0_4.index t 0 = t.val ∧ win0_4.index t 1 = 0 ∧ win0_5.index t 0 = t.val ∧ win0_5.index t 1 = 0 ∧ win0_6.index t 0 = t.val ∧ win0_6.index t 1 = 0 ∧ win0_7.index t 0 = 0 ∧ win0_7.index t 1 = 0)

theorem t_lt (t : Fin cfg0.N) : t.val < 8 := lt_of_lt_of_eq t.isLt (show cfg0.N = 8 from N_0)

/-- The row of the whole array a block's row is. -/
def row (t : Fin cfg0.N) (r : Fin 256) : Fin 2048 := ⟨t.val * 256 + r.val, by have := t_lt t; omega⟩

theorem blk0 (c : Dev nD) (t : Fin cfg0.N) (r : Fin 256) (k : Fin 2048) :
    iblk m c 0 t (ix2 r k) = (m ((c : Thread nD τ).loc main_arg0) : Vec Ideal S2048x2048 .f32) (ix2 (row t r) k) := by
  unfold iblk
  rw [View.read_apply]
  show m ((c : Thread nD τ).loc main_arg0) _ = _
  congr 1
  funext a
  apply Fin.ext
  match a with
  | ⟨0, _⟩ => show win0_0.index t 0 * 256 + 1 * r.val = t.val * 256 + r.val; rw [(idx_facts t).1]; omega
  | ⟨1, _⟩ => show win0_0.index t 1 * 2048 + 1 * k.val = k.val; rw [(idx_facts t).2.1]; omega

theorem blk1 (c : Dev nD) (t : Fin cfg0.N) (r : Fin 256) (k : Fin 2048) :
    iblk m c 1 t (ix2 r k) = (m ((c : Thread nD τ).loc main_arg1) : Vec Ideal S2048x2048 .f32) (ix2 (row t r) k) := by
  unfold iblk
  rw [View.read_apply]
  show m ((c : Thread nD τ).loc main_arg1) _ = _
  congr 1
  funext a
  apply Fin.ext
  match a with
  | ⟨0, _⟩ => show win0_1.index t 0 * 256 + 1 * r.val = t.val * 256 + r.val; rw [(idx_facts t).2.2.1]; omega
  | ⟨1, _⟩ => show win0_1.index t 1 * 2048 + 1 * k.val = k.val; rw [(idx_facts t).2.2.2.1]; omega

theorem blk2 (c : Dev nD) (t : Fin cfg0.N) (r : Fin 1) (k : Fin 2048) :
    iblk m c 2 t (ix2 r k) = (m ((c : Thread nD τ).loc main_arg2) : Vec Ideal S1x2048 .f32) (ix2 r k) := by
  unfold iblk
  rw [View.read_apply]
  show m ((c : Thread nD τ).loc main_arg2) _ = _
  congr 1
  funext a
  apply Fin.ext
  match a with
  | ⟨0, _⟩ => show win0_2.index t 0 * 1 + 1 * r.val = r.val; rw [(idx_facts t).2.2.2.2.1]; omega
  | ⟨1, _⟩ => show win0_2.index t 1 * 2048 + 1 * k.val = k.val; rw [(idx_facts t).2.2.2.2.2.1]; omega

theorem blk3 (c : Dev nD) (t : Fin cfg0.N) (r : Fin 2048) (k : Fin 2048) :
    iblk m c 3 t (ix2 r k) = (m ((c : Thread nD τ).loc main_arg3) : Vec Ideal S2048x2048 .bf16) (ix2 r k) := by
  unfold iblk
  rw [View.read_apply]
  show m ((c : Thread nD τ).loc main_arg3) _ = _
  congr 1
  funext a
  apply Fin.ext
  match a with
  | ⟨0, _⟩ => show win0_3.index t 0 * 2048 + 1 * r.val = r.val; rw [(idx_facts t).2.2.2.2.2.2.1]; omega
  | ⟨1, _⟩ => show win0_3.index t 1 * 2048 + 1 * k.val = k.val; rw [(idx_facts t).2.2.2.2.2.2.2.1]; omega

theorem after_4 (c : Dev nD) (t : Fin cfg0.N) : (outsAt0 m c t.val t.isLt).1 = k0_pay7 (iblk m c 1 t) (iblk m c 0 t) (iblk m c 2 t) := by
  by_cases h0 : t.val % 8 = 0
  · rw [outsAt0_A m c t h0]; dsimp only; rw [out0_A_4_eq]
  · rw [outsAt0_B m c t h0]; dsimp only; rw [out0_B_4_eq]

theorem after_5 (c : Dev nD) (t : Fin cfg0.N) : (outsAt0 m c t.val t.isLt).2.1 = k0_pay1 (k0_pay7 (iblk m c 1 t) (iblk m c 0 t) (iblk m c 2 t))
    (View.ld (iblk m c 3 t) (Rect.unit (s := S2048x2048) ![0, 0] S1024x2048.size inb_S2048x2048_S1024x2048_0_0)) := by
  by_cases h0 : t.val % 8 = 0
  · rw [outsAt0_A m c t h0]; dsimp only; rw [out0_A_5_eq]; rfl
  · rw [outsAt0_B m c t h0]; dsimp only; rw [out0_B_5_eq]; rfl

theorem after_6 (c : Dev nD) (t : Fin cfg0.N) : (outsAt0 m c t.val t.isLt).2.2.1 = k0_pay2 (k0_pay7 (iblk m c 1 t) (iblk m c 0 t) (iblk m c 2 t))
    (View.ld (iblk m c 3 t) (Rect.unit (s := S2048x2048) ![1024, 0] S1024x2048.size inb_S2048x2048_S1024x2048_1024_0)) := by
  by_cases h0 : t.val % 8 = 0
  · rw [outsAt0_A m c t h0]; dsimp only; rw [out0_A_6_eq]; rfl
  · rw [outsAt0_B m c t h0]; dsimp only; rw [out0_B_6_eq]; rfl

theorem dy_apply (c : Dev nD) (t : Fin cfg0.N) (r : Fin 256) (j : Fin 2048) :
    k0_pay7 (iblk m c 1 t) (iblk m c 0 t) (iblk m c 2 t) (ix2 r j) = dyS (m ((c : Thread nD τ).loc main_arg0)) (m ((c : Thread nD τ).loc main_arg1)) (m ((c : Thread nD τ).loc main_arg2)) (row t r) j := by
  refine (pay7_apply _ _ _ r j).trans ?_
  unfold dyS
  refine congrArg₂ (fun a b => Norm.back a b j) (funext fun k => ?_) (funext fun k => ?_)
  · exact congrArg₂ _ (blk0 m c t r k) (blk2 m c t 0 k)
  · exact blk1 m c t r k

theorem dcg_apply (c : Dev nD) (t : Fin cfg0.N) (r : Fin 256) (j : Fin 1024) :
    (outsAt0 m c t.val t.isLt).2.1 (ix2 r j) = dcS (m ((c : Thread nD τ).loc main_arg0)) (m ((c : Thread nD τ).loc main_arg1)) (m ((c : Thread nD τ).loc main_arg2)) (m ((c : Thread nD τ).loc main_arg3)) (row t r) ⟨j.val, by omega⟩ := by
  rw [after_5, pay1_apply]
  refine Finset.sum_congr rfl fun k _ => ?_
  rw [dy_apply, ld_lo]
  exact congrArg _ (blk3 m c t _ k)

theorem dca_apply (c : Dev nD) (t : Fin cfg0.N) (r : Fin 256) (j : Fin 1024) :
    (outsAt0 m c t.val t.isLt).2.2.1 (ix2 r j) = dcS (m ((c : Thread nD τ).loc main_arg0)) (m ((c : Thread nD τ).loc main_arg1)) (m ((c : Thread nD τ).loc main_arg2)) (m ((c : Thread nD τ).loc main_arg3)) (row t r) ⟨1024 + j.val, by omega⟩ := by
  rw [after_6, pay2_apply]
  refine Finset.sum_congr rfl fun k _ => ?_
  rw [dy_apply, ld_hi]
  exact congrArg _ (blk3 m c t _ k)

/-- One block's part of the gain's cotangent. -/
def part (c : Dev nD) (t : Fin cfg0.N) (j : Fin 2048) : EReal := ∑ r : Fin 256, dgS (m ((c : Thread nD τ).loc main_arg0)) (m ((c : Thread nD τ).loc main_arg1)) (row t r) j

theorem part_eq (c : Dev nD) (t : Fin cfg0.N) (a : Vec Ideal S1x2048 .f32) (j : Fin 2048) :
    k0_pay6 (iblk m c 1 t) (iblk m c 0 t) a (ix2 0 j) = a (ix2 0 j) + part m c t j := by
  refine (pay6_apply _ _ _ j).trans (congrArg (a (ix2 0 j) + ·) (Finset.sum_congr rfl fun r _ => ?_))
  unfold dgS
  refine congrArg₂ _ (blk0 m c t r j) (congrArg₂ _ (blk1 m c t r j) (congrArg (fun v => Ideal.rsqrt (Norm.var v)) (funext fun k => blk1 m c t r k)))

theorem dg_acc (c : Dev nD) (j : Fin 2048) : ∀ (n : ℕ) (hn : n < cfg0.N),
    (outsAt0 m c n hn).2.2.2 (ix2 0 j) = ∑ s : Fin (n + 1), part m c ⟨s.val, by omega⟩ j
  | 0, hn => by
    rw [outsAt0_A m c ⟨0, hn⟩ (Nat.zero_mod _)]
    dsimp only
    rw [out0_A_7_eq, part_eq, pay3_apply, zero_add]
    simp
  | n + 1, hn => by
    have h8 : n + 1 < 8 := t_lt ⟨n + 1, hn⟩
    rw [outsAt0_B m c ⟨n + 1, hn⟩ (by dsimp only; omega)]
    dsimp only
    rw [out0_B_7_eq, part_eq, Fin.sum_univ_castSucc]
    exact congrArg (· + _) (dg_acc c j n (by omega))

theorem dg_total (c : Dev nD) (j : Fin 2048) :
    (∑ s : Fin 8, part m c ⟨s.val, lt_of_lt_of_eq s.isLt (show cfg0.N = 8 from N_0).symm⟩ j) = ∑ i : Fin 2048, dgS (m ((c : Thread nD τ).loc main_arg0)) (m ((c : Thread nD τ).loc main_arg1)) i j := by
  refine Eq.trans ?_ (Equiv.sum_comp (finProdFinEquiv (m := 8) (n := 256)) fun i : Fin 2048 => dgS (m ((c : Thread nD τ).loc main_arg0)) (m ((c : Thread nD τ).loc main_arg1)) i j)
  rw [Fintype.sum_prod_type]
  refine Finset.sum_congr rfl fun s _ => Finset.sum_congr rfl fun r _ => ?_
  refine congrArg (fun i => dgS (m ((c : Thread nD τ).loc main_arg0)) (m ((c : Thread nD τ).loc main_arg1)) i j) (Fin.ext ?_)
  show s.val * 256 + r.val = r.val + 256 * s.val
  omega

/-- What the call leaves in output 0. -/
def G4 (c : Dev nD) : Buf (Elt Ideal) ((c : Thread nD τ).loc main_v0_0) := fun i => dyS (m ((c : Thread nD τ).loc main_arg0)) (m ((c : Thread nD τ).loc main_arg1)) (m ((c : Thread nD τ).loc main_arg2)) ⟨(i 0).val, (i 0).isLt⟩ ⟨(i 1).val, (i 1).isLt⟩

/-- What the call leaves in output 1. -/
def G5 (c : Dev nD) : Buf (Elt Ideal) ((c : Thread nD τ).loc main_v0_1) := fun i => dcS (m ((c : Thread nD τ).loc main_arg0)) (m ((c : Thread nD τ).loc main_arg1)) (m ((c : Thread nD τ).loc main_arg2)) (m ((c : Thread nD τ).loc main_arg3)) ⟨(i 0).val, (i 0).isLt⟩ ⟨(i 1).val, lt_trans (i 1).isLt (by decide : 1024 < 2048)⟩

/-- What the call leaves in output 2. -/
def G6 (c : Dev nD) : Buf (Elt Ideal) ((c : Thread nD τ).loc main_v0_2) := fun i => dcS (m ((c : Thread nD τ).loc main_arg0)) (m ((c : Thread nD τ).loc main_arg1)) (m ((c : Thread nD τ).loc main_arg2)) (m ((c : Thread nD τ).loc main_arg3)) ⟨(i 0).val, (i 0).isLt⟩ ⟨1024 + (i 1).val, Nat.add_lt_add_left (i 1).isLt 1024⟩

/-- What the call leaves in output 3. -/
def G7 (c : Dev nD) : Buf (Elt Ideal) ((c : Thread nD τ).loc main_v0_3) := fun i => (∑ r : Fin 2048, dgS (m ((c : Thread nD τ).loc main_arg0)) (m ((c : Thread nD τ).loc main_arg1)) r ⟨(i 1).val, (i 1).isLt⟩ : EReal)

theorem flushed4_eq (c : Dev nD) (t : Fin cfg0.N) :
    (dats m 0 c).flushed 4 t = ((cfg0.win 4).blk t).view.read (Elt Ideal) (G4 m c) := by
  rw [Value.flushed4]
  funext y
  rw [View.read_apply]
  have hy : y = ix2 (⟨(y 0).val, (y 0).isLt⟩ : Fin 256) (⟨(y 1).val, (y 1).isLt⟩ : Fin 2048) := by
    funext a; match a with
    | ⟨0, _⟩ => rfl
    | ⟨1, _⟩ => rfl
  refine (congrArg ((outsAt0 m c t.val t.isLt).1) hy).trans (((congrFun (after_4 m c t) _).trans (dy_apply m c t _ _)).trans ?_)
  unfold G4
  refine congrArg₂ (dyS (m ((c : Thread nD τ).loc main_arg0)) (m ((c : Thread nD τ).loc main_arg1)) (m ((c : Thread nD τ).loc main_arg2))) (Fin.ext ?_) (Fin.ext ?_)
  · show t.val * 256 + (y 0).val = win0_4.index t 0 * 256 + 1 * (y 0).val; rw [(idx_facts t).2.2.2.2.2.2.2.2.1]; omega
  · show (y 1).val = win0_4.index t 1 * 2048 + 1 * (y 1).val; rw [(idx_facts t).2.2.2.2.2.2.2.2.2.1]; omega

theorem final4 (c : Dev nD) : (dats m 0 c).arrAt 4 cfg0.N = G4 m c :=
  (dats m 0 c).arrAt_eq_of_cover 4 (G4 m c) (fun t _ => flushed4_eq m c t) fun i => by
    have h0 : (i 0 : Nat) < 2048 := (i 0).isLt
    have h1 : (i 1 : Nat) < 2048 := (i 1).isLt
    have ht : (i 0 : Nat) / 256 < cfg0.N := lt_of_lt_of_eq (by omega : (i 0 : Nat) / 256 < 8) (show cfg0.N = 8 from N_0).symm
    generalize htt : (⟨(i 0 : Nat) / 256, ht⟩ : Fin cfg0.N) = t
    have e0 : t.val = (i 0 : Nat) / 256 := by rw [← htt]
    refine ⟨t, flush0_4 t, ?_⟩
    show i ∈ ((View.whole main_v0_0).slice (win0_4.rect t)).set
    rw [View.set_slice_whole, Rect.mem_set_unit]
    intro a
    match a with
    | ⟨0, _⟩ => show win0_4.index t 0 * 256 ≤ (i 0 : Nat) ∧ (i 0 : Nat) < win0_4.index t 0 * 256 + 256
                rw [(idx_facts t).2.2.2.2.2.2.2.2.1]; omega
    | ⟨1, _⟩ => show win0_4.index t 1 * 2048 ≤ (i 1 : Nat) ∧ (i 1 : Nat) < win0_4.index t 1 * 2048 + 2048
                rw [(idx_facts t).2.2.2.2.2.2.2.2.2.1]; omega

theorem flushed5_eq (c : Dev nD) (t : Fin cfg0.N) :
    (dats m 0 c).flushed 5 t = ((cfg0.win 5).blk t).view.read (Elt Ideal) (G5 m c) := by
  rw [Value.flushed5]
  funext y
  rw [View.read_apply]
  have hy : y = ix2 (⟨(y 0).val, (y 0).isLt⟩ : Fin 256) (⟨(y 1).val, (y 1).isLt⟩ : Fin 1024) := by
    funext a; match a with
    | ⟨0, _⟩ => rfl
    | ⟨1, _⟩ => rfl
  refine (congrArg ((outsAt0 m c t.val t.isLt).2.1) hy).trans ((dcg_apply m c t _ _).trans ?_)
  unfold G5
  refine congrArg₂ (dcS (m ((c : Thread nD τ).loc main_arg0)) (m ((c : Thread nD τ).loc main_arg1)) (m ((c : Thread nD τ).loc main_arg2)) (m ((c : Thread nD τ).loc main_arg3))) (Fin.ext ?_) (Fin.ext ?_)
  · show t.val * 256 + (y 0).val = win0_5.index t 0 * 256 + 1 * (y 0).val; rw [(idx_facts t).2.2.2.2.2.2.2.2.2.2.1]; omega
  · show (y 1).val = win0_5.index t 1 * 1024 + 1 * (y 1).val; rw [(idx_facts t).2.2.2.2.2.2.2.2.2.2.2.1]; omega

theorem final5 (c : Dev nD) : (dats m 0 c).arrAt 5 cfg0.N = G5 m c :=
  (dats m 0 c).arrAt_eq_of_cover 5 (G5 m c) (fun t _ => flushed5_eq m c t) fun i => by
    have h0 : (i 0 : Nat) < 2048 := (i 0).isLt
    have h1 : (i 1 : Nat) < 1024 := (i 1).isLt
    have ht : (i 0 : Nat) / 256 < cfg0.N := lt_of_lt_of_eq (by omega : (i 0 : Nat) / 256 < 8) (show cfg0.N = 8 from N_0).symm
    generalize htt : (⟨(i 0 : Nat) / 256, ht⟩ : Fin cfg0.N) = t
    have e0 : t.val = (i 0 : Nat) / 256 := by rw [← htt]
    refine ⟨t, flush0_5 t, ?_⟩
    show i ∈ ((View.whole main_v0_1).slice (win0_5.rect t)).set
    rw [View.set_slice_whole, Rect.mem_set_unit]
    intro a
    match a with
    | ⟨0, _⟩ => show win0_5.index t 0 * 256 ≤ (i 0 : Nat) ∧ (i 0 : Nat) < win0_5.index t 0 * 256 + 256
                rw [(idx_facts t).2.2.2.2.2.2.2.2.2.2.1]; omega
    | ⟨1, _⟩ => show win0_5.index t 1 * 1024 ≤ (i 1 : Nat) ∧ (i 1 : Nat) < win0_5.index t 1 * 1024 + 1024
                rw [(idx_facts t).2.2.2.2.2.2.2.2.2.2.2.1]; omega

theorem flushed6_eq (c : Dev nD) (t : Fin cfg0.N) :
    (dats m 0 c).flushed 6 t = ((cfg0.win 6).blk t).view.read (Elt Ideal) (G6 m c) := by
  rw [Value.flushed6]
  funext y
  rw [View.read_apply]
  have hy : y = ix2 (⟨(y 0).val, (y 0).isLt⟩ : Fin 256) (⟨(y 1).val, (y 1).isLt⟩ : Fin 1024) := by
    funext a; match a with
    | ⟨0, _⟩ => rfl
    | ⟨1, _⟩ => rfl
  refine (congrArg ((outsAt0 m c t.val t.isLt).2.2.1) hy).trans ((dca_apply m c t _ _).trans ?_)
  unfold G6
  refine congrArg₂ (dcS (m ((c : Thread nD τ).loc main_arg0)) (m ((c : Thread nD τ).loc main_arg1)) (m ((c : Thread nD τ).loc main_arg2)) (m ((c : Thread nD τ).loc main_arg3))) (Fin.ext ?_) (Fin.ext ?_)
  · show t.val * 256 + (y 0).val = win0_6.index t 0 * 256 + 1 * (y 0).val; rw [(idx_facts t).2.2.2.2.2.2.2.2.2.2.2.2.1]; omega
  · show 1024 + (y 1).val = 1024 + (win0_6.index t 1 * 1024 + 1 * (y 1).val); rw [(idx_facts t).2.2.2.2.2.2.2.2.2.2.2.2.2.1]; omega

theorem final6 (c : Dev nD) : (dats m 0 c).arrAt 6 cfg0.N = G6 m c :=
  (dats m 0 c).arrAt_eq_of_cover 6 (G6 m c) (fun t _ => flushed6_eq m c t) fun i => by
    have h0 : (i 0 : Nat) < 2048 := (i 0).isLt
    have h1 : (i 1 : Nat) < 1024 := (i 1).isLt
    have ht : (i 0 : Nat) / 256 < cfg0.N := lt_of_lt_of_eq (by omega : (i 0 : Nat) / 256 < 8) (show cfg0.N = 8 from N_0).symm
    generalize htt : (⟨(i 0 : Nat) / 256, ht⟩ : Fin cfg0.N) = t
    have e0 : t.val = (i 0 : Nat) / 256 := by rw [← htt]
    refine ⟨t, flush0_6 t, ?_⟩
    show i ∈ ((View.whole main_v0_2).slice (win0_6.rect t)).set
    rw [View.set_slice_whole, Rect.mem_set_unit]
    intro a
    match a with
    | ⟨0, _⟩ => show win0_6.index t 0 * 256 ≤ (i 0 : Nat) ∧ (i 0 : Nat) < win0_6.index t 0 * 256 + 256
                rw [(idx_facts t).2.2.2.2.2.2.2.2.2.2.2.2.1]; omega
    | ⟨1, _⟩ => show win0_6.index t 1 * 1024 ≤ (i 1 : Nat) ∧ (i 1 : Nat) < win0_6.index t 1 * 1024 + 1024
                rw [(idx_facts t).2.2.2.2.2.2.2.2.2.2.2.2.2.1]; omega

theorem flushed7_eq (c : Dev nD) (t : Fin cfg0.N) (hf : (cfg0.win 7).flush t = true) :
    (dats m 0 c).flushed 7 t = ((cfg0.win 7).blk t).view.read (Elt Ideal) (G7 m c) := by
  have ht : t.val = 7 := by have := (flush0_7 t).mp hf; have := t_lt t; omega
  rw [Value.flushed7]
  funext y
  rw [View.read_apply]
  have hy : y = ix2 (0 : Fin 1) (⟨(y 1).val, (y 1).isLt⟩ : Fin 2048) := by
    funext a; match a with
    | ⟨0, _⟩ => exact Fin.ext (by have : (y 0).val < 1 := (y 0).isLt; show (y 0).val = 0; omega)
    | ⟨1, _⟩ => rfl
  obtain ⟨n, hn⟩ := t
  obtain rfl : n = 7 := ht
  refine (congrArg ((outsAt0 m c 7 hn).2.2.2) hy).trans ((dg_acc m c _ 7 hn).trans ((dg_total m c _).trans ?_))
  unfold G7
  refine congrArg (fun j => ∑ r : Fin 2048, dgS (m ((c : Thread nD τ).loc main_arg0)) (m ((c : Thread nD τ).loc main_arg1)) r j) (Fin.ext ?_)
  generalize htt : (⟨7, hn⟩ : Fin cfg0.N) = t
  show (y 1).val = win0_7.index t 1 * 2048 + 1 * (y 1).val; rw [(idx_facts t).2.2.2.2.2.2.2.2.2.2.2.2.2.2.2]; omega

theorem final7 (c : Dev nD) : (dats m 0 c).arrAt 7 cfg0.N = G7 m c :=
  (dats m 0 c).arrAt_eq_of_cover 7 (G7 m c) (fun t hf => flushed7_eq m c t hf) fun i => by
    have h0 : (i 0 : Nat) < 1 := (i 0).isLt
    have h1 : (i 1 : Nat) < 2048 := (i 1).isLt
    have ht : 7 < cfg0.N := lt_of_lt_of_eq (by omega : 7 < 8) (show cfg0.N = 8 from N_0).symm
    have hf : (cfg0.win 7).flush ⟨7, ht⟩ = true := (flush0_7 _).mpr rfl
    generalize htt : (⟨7, ht⟩ : Fin cfg0.N) = t at hf
    refine ⟨t, hf, ?_⟩
    show i ∈ ((View.whole main_v0_3).slice (win0_7.rect t)).set
    rw [View.set_slice_whole, Rect.mem_set_unit]
    intro a
    match a with
    | ⟨0, _⟩ => show win0_7.index t 0 * 1 ≤ (i 0 : Nat) ∧ (i 0 : Nat) < win0_7.index t 0 * 1 + 1
                rw [(idx_facts t).2.2.2.2.2.2.2.2.2.2.2.2.2.2.1]; omega
    | ⟨1, _⟩ => show win0_7.index t 1 * 2048 ≤ (i 1 : Nat) ∧ (i 1 : Nat) < win0_7.index t 1 * 2048 + 2048
                rw [(idx_facts t).2.2.2.2.2.2.2.2.2.2.2.2.2.2.2]; omega

end Cert.PostBwdIdeal.Hand

namespace Cert.PostBwdReferenceIdeal.Hand

open Cert.PostBwdReferenceIdeal Cert.PostBwdReferenceIdeal.Gen Cert.PostBwdReferenceIdeal.Read
open Cert.PostBwdIdeal.Hand (dyS dcS dgS)

variable (d y : Vec Ideal S2048x2048 .f32) (g : Vec Ideal S1x2048 .f32) (w : Vec Ideal S2048x2048 .bf16)

theorem var_apply (i : Fin 2048) : val_main_v6 (F := Ideal) y (ix2 i 0) = Norm.var fun k => y (ix2 i k) := by
  unfold Norm.var
  pointwise [val_main_v6, val_main_v5, val_main_v4, val_main_v3, val_main_v2, val_main_v1, val_main_v0, val_main_cst, val_main_cst_0, val_main_cst_1]

theorem r_apply (i : Fin 2048) : val_main_v7 (F := Ideal) y (ix2 i 0) = Ideal.rsqrt (Norm.var fun k => y (ix2 i k)) := by
  rw [← var_apply]; rfl

theorem u_apply (i : Fin 2048) : val_main_v27 (F := Ideal) d y g (ix2 i 0) = Norm.half (fun k => d (ix2 i k) * g (ix2 0 k)) (fun k => y (ix2 i k)) := by
  unfold Norm.half
  rw [← var_apply]
  pointwise [val_main_v27, val_main_v26, val_main_v25, val_main_v22, val_main_v21, val_main_v20, val_main_v19, val_main_v18, val_main_v10, val_main_v9, val_main_v8, val_main_v7, val_main_cst_2, val_main_cst_4, val_main_cst_5]

theorem dy_apply (hd : ∀ i, ∃ r : ℝ, d i = (r : EReal)) (hy : ∀ i, ∃ r : ℝ, y i = (r : EReal)) (hg : ∀ i, ∃ r : ℝ, g i = (r : EReal)) (i j : Fin 2048) :
    val_main_v34 (F := Ideal) d y g (ix2 i j) = dyS d y g i j := by
  unfold dyS
  rw [← Norm.back_eq _ _ (fun k => by
    obtain ⟨a, ha⟩ := hd (ix2 i k)
    obtain ⟨b, hb⟩ := hg (ix2 0 k)
    exact ⟨a * b, by rw [ha, hb, EReal.coe_mul]⟩) (fun k => hy _), ← u_apply, ← r_apply]
  pointwise [val_main_v34, val_main_v33, val_main_v32, val_main_v31, val_main_v30, val_main_v29, val_main_v28, val_main_v24, val_main_v23, val_main_v19, val_main_v18, val_main_cst_6]
  simp only [Finset.univ_unique, Finset.sum_singleton]
  rfl

theorem dg_apply (j : Fin 2048) : val_main_v17 (F := Ideal) d y (ix2 0 j) = ∑ i : Fin 2048, dgS d y i j := by
  unfold dgS
  simp only [← r_apply]
  pointwise [val_main_v17, val_main_v16, val_main_v15, val_main_v12, val_main_v11, val_main_cst_3]
  exact Finset.sum_congr rfl fun k _ => mul_comm _ _

theorem dc_apply (hd : ∀ i, ∃ r : ℝ, d i = (r : EReal)) (hy : ∀ i, ∃ r : ℝ, y i = (r : EReal)) (hg : ∀ i, ∃ r : ℝ, g i = (r : EReal)) (i j : Fin 2048) :
    val_main_v40 (F := Ideal) d y g w (ix2 i j) = dcS d y g w i j := by
  unfold dcS
  simp only [← dy_apply d y g hd hy hg]
  pointwise [val_main_v40, val_main_v39, val_main_v38, val_main_v36]

/-- The reference keeps its arguments and leaves every semaphore at zero. -/
theorem frame_reference : Cert.quiescent_PostBwdReferenceIdeal := by
  intro m ρ _
  refine (θ_run _ _ _).mono (fun r h => ⟨fun c => (h c).2.2.2.2, sem_eq_zero_of_no_sems (by decide) _⟩) (Cert.PostBwdReferenceIdeal.Value.run m ρ)

end Cert.PostBwdReferenceIdeal.Hand

namespace Cert.PostBwdIdeal.Hand

open Cert.PostBwdIdeal Cert.PostBwdIdeal.Gen

theorem ix_eta {a b : ℕ} (i : (⟨2, ![a, b]⟩ : Shape).Idx) : i = ix2 (⟨(i 0).val, (i 0).isLt⟩ : Fin a) (⟨(i 1).val, (i 1).isLt⟩ : Fin b) := by
  funext k; match k with
  | ⟨0, _⟩ => rfl
  | ⟨1, _⟩ => rfl

/-- What the precondition says of the three arguments it reads. -/
theorem reals (m : (ℓ : Loc nD τ sig) → Buf (Elt Ideal) ℓ) (h : Cert.Pre_PostBwdIdeal_finite_post m) (c : Dev nD) :
    (∀ i, ∃ r : ℝ, (m ((c : Thread nD τ).loc main_arg0) : Vec Ideal S2048x2048 .f32) i = (r : EReal))
    ∧ (∀ i, ∃ r : ℝ, (m ((c : Thread nD τ).loc main_arg1) : Vec Ideal S2048x2048 .f32) i = (r : EReal))
    ∧ (∀ i, ∃ r : ℝ, (m ((c : Thread nD τ).loc main_arg2) : Vec Ideal S1x2048 .f32) i = (r : EReal)) :=
  ⟨fun i => Norm.real_of_olt _ (congrFun (h c).1 i), fun i => Norm.real_of_olt _ (congrFun (h c).2.1 i), fun i => Norm.real_of_olt _ (congrFun (h c).2.2 i)⟩

/-- The kernel's idealization and the reference leave the same four arrays, for arguments with no infinity. -/
theorem algebraic : Cert.algebraic_PostBwdIdeal_PostBwdReferenceIdeal_pre_finite_post := by
  intro m g m' g' hpre hagree
  refine ⟨fun c => G4 m c, fun c => G5 m c, fun c => G6 m c, fun c => G7 m c,
    (θ_run _ _ _).mono (fun r h c => ⟨((h c).1).trans (final4 m c), ((h c).2.1).trans (final5 m c), ((h c).2.2.1).trans (final6 m c), ((h c).2.2.2.1).trans (final7 m c), (h c).2.2.2.2⟩) (Value.run_blocks m g),
    (θ_run _ _ _).mono (fun r h c => ⟨(h c).1.trans ?_, (h c).2.1.trans ?_, (h c).2.2.1.trans ?_, (h c).2.2.2.1.trans ?_, (h c).2.2.2.2⟩) (Cert.PostBwdReferenceIdeal.Value.run m' g')⟩
  · obtain ⟨h0, h1, h2, h3⟩ := hagree c
    obtain ⟨r0, r1, r2⟩ := reals m hpre c
    rw [Cert.PostBwdReferenceIdeal.Read.val_main_v34_eq, h0, h1, h2]
    funext i
    exact (congrArg _ (ix_eta i)).trans (Cert.PostBwdReferenceIdeal.Hand.dy_apply _ _ _ r0 r1 r2 _ _)
  · obtain ⟨h0, h1, h2, h3⟩ := hagree c
    obtain ⟨r0, r1, r2⟩ := reals m hpre c
    rw [Cert.PostBwdReferenceIdeal.Read.val_main_v41_eq, h0, h1, h2, h3]
    funext i
    rw [Cert.PostBwdReferenceIdeal.Read.val_main_v41_apply]
    refine (congrArg _ ?_).trans (Cert.PostBwdReferenceIdeal.Hand.dc_apply _ _ _ _ r0 r1 r2 _ _)
    funext k; match k with
    | ⟨0, _⟩ => rfl
    | ⟨1, _⟩ => rfl
  · obtain ⟨h0, h1, h2, h3⟩ := hagree c
    obtain ⟨r0, r1, r2⟩ := reals m hpre c
    rw [Cert.PostBwdReferenceIdeal.Read.val_main_v42_eq, h0, h1, h2, h3]
    funext i
    rw [Cert.PostBwdReferenceIdeal.Read.val_main_v42_apply]
    refine (congrArg _ ?_).trans (Cert.PostBwdReferenceIdeal.Hand.dc_apply _ _ _ _ r0 r1 r2 _ _)
    funext k; match k with
    | ⟨0, _⟩ => rfl
    | ⟨1, _⟩ => rfl
  · obtain ⟨h0, h1, h2, h3⟩ := hagree c
    rw [Cert.PostBwdReferenceIdeal.Read.val_main_v17_eq, h0, h1]
    funext i
    have hi : i = ix2 (0 : Fin 1) (⟨(i 1).val, (i 1).isLt⟩ : Fin 2048) := by
      funext k; match k with
      | ⟨0, _⟩ => exact Fin.ext (by have : (i 0).val < 1 := (i 0).isLt; show (i 0).val = 0; omega)
      | ⟨1, _⟩ => rfl
    exact (congrArg _ hi).trans (Cert.PostBwdReferenceIdeal.Hand.dg_apply _ _ _)

end Cert.PostBwdIdeal.Hand

end
-- ==== Proof.lean ====
module

public import proofs.«01_k».proof.Defs
public import proofs.«01_k».proof.Proof.Frames
public import proofs.«01_k».proof.Proof.AttFwd
public import proofs.«01_k».proof.Proof.Dh
public import proofs.«01_k».proof.Proof.DwinAtt
public import proofs.«01_k».proof.Proof.DwinGate
public import proofs.«01_k».proof.Proof.DwinGla
public import proofs.«01_k».proof.Proof.DwoutAtt
public import proofs.«01_k».proof.Proof.DwoutGla
public import proofs.«01_k».proof.Proof.GlaFinal
public import proofs.«01_k».proof.Proof.GlaFwd
public import proofs.«01_k».proof.Proof.Inproj
public import proofs.«01_k».proof.Proof.Outproj
public import proofs.«01_k».proof.Proof.PostBwd

@[expose] public section

noncomputable section

namespace Cert.Proof

/-- Everything the certificate claims. -/
theorem claim : Cert.Claim := ⟨Cert.Kernel.Gen.facts,
  Cert.KernelIdeal.Gen.facts,
  Cert.ReferenceIdeal.Gen.facts,
  Cert.DwinAtt.Gen.facts,
  Cert.DwinAttIdeal.Gen.facts,
  Cert.DwinAttReferenceIdeal.Gen.facts,
  Cert.DwinGla.Gen.facts,
  Cert.DwinGlaIdeal.Gen.facts,
  Cert.DwinGlaReferenceIdeal.Gen.facts,
  Cert.DwinGate.Gen.facts,
  Cert.DwinGateIdeal.Gen.facts,
  Cert.DwinGateReferenceIdeal.Gen.facts,
  Cert.DwoutGla.Gen.facts,
  Cert.DwoutGlaIdeal.Gen.facts,
  Cert.DwoutGlaReferenceIdeal.Gen.facts,
  Cert.DwoutAtt.Gen.facts,
  Cert.DwoutAttIdeal.Gen.facts,
  Cert.DwoutAttReferenceIdeal.Gen.facts,
  Cert.PostBwd.Gen.facts,
  Cert.PostBwdIdeal.Gen.facts,
  Cert.PostBwdReferenceIdeal.Gen.facts,
  Cert.Dh.Gen.facts,
  Cert.DhIdeal.Gen.facts,
  Cert.DhReferenceIdeal.Gen.facts,
  Cert.Inproj.Gen.facts,
  Cert.InprojIdeal.Gen.facts,
  Cert.InprojReferenceIdeal.Gen.facts,
  Cert.Outproj.Gen.facts,
  Cert.OutprojIdeal.Gen.facts,
  Cert.OutprojReferenceIdeal.Gen.facts,
  Cert.AttFwd.Gen.facts,
  Cert.AttFwdIdeal.Gen.facts,
  Cert.AttFwdReferenceIdeal.Gen.facts,
  Cert.GlaFwd.Gen.facts,
  Cert.GlaFwdIdeal.Gen.facts,
  Cert.GlaFwdReferenceIdeal.Gen.facts,
  Cert.Pre_finite.Gen.facts,
  Cert.Pre_finite_post.Gen.facts,
  Cert.Pre_finite_dh.Gen.facts,
  Cert.Pre_finite_att.Gen.facts,
  Cert.Pre_finite_gla.Gen.facts,
  Cert.KernelIdeal.Hand.frame_kernel,
  Cert.KernelIdeal.Hand.frame_kernelIdeal,
  fun m ρ _ => Cert.KernelIdeal.Hand.frame_kernelIdeal m ρ trivial,
  Cert.ReferenceIdeal.Hand.frame_reference,
  fun m ρ _ => Cert.ReferenceIdeal.Hand.frame_reference m ρ trivial,
  fun m ρ _ => Cert.DwinAtt.Gen.frame m ρ,
  fun m ρ _ => Cert.DwinAttIdeal.Gen.frame m ρ,
  Cert.DwinAttReferenceIdeal.Hand.frame_reference,
  fun m ρ _ => Cert.DwinGla.Gen.frame m ρ,
  fun m ρ _ => Cert.DwinGlaIdeal.Gen.frame m ρ,
  Cert.DwinGlaReferenceIdeal.Hand.frame_reference,
  fun m ρ _ => Cert.DwinGate.Gen.frame m ρ,
  fun m ρ _ => Cert.DwinGateIdeal.Gen.frame m ρ,
  Cert.DwinGateReferenceIdeal.Hand.frame_reference,
  fun m ρ _ => Cert.DwoutGla.Gen.frame m ρ,
  fun m ρ _ => Cert.DwoutGlaIdeal.Gen.frame m ρ,
  Cert.DwoutGlaReferenceIdeal.Hand.frame_reference,
  fun m ρ _ => Cert.DwoutAtt.Gen.frame m ρ,
  fun m ρ _ => Cert.DwoutAttIdeal.Gen.frame m ρ,
  Cert.DwoutAttReferenceIdeal.Hand.frame_reference,
  fun m ρ _ => Cert.PostBwd.Gen.frame m ρ,
  fun m ρ _ => Cert.PostBwdIdeal.Gen.frame m ρ,
  fun m ρ _ => Cert.PostBwdIdeal.Gen.frame m ρ,
  Cert.PostBwdReferenceIdeal.Hand.frame_reference,
  fun m ρ _ => Cert.PostBwdReferenceIdeal.Hand.frame_reference m ρ trivial,
  fun m ρ _ => Cert.Dh.Gen.frame m ρ,
  fun m ρ _ => Cert.DhIdeal.Gen.frame m ρ,
  fun m ρ _ => Cert.DhIdeal.Gen.frame m ρ,
  Cert.DhReferenceIdeal.Hand.frame_reference,
  fun m ρ _ => Cert.DhReferenceIdeal.Hand.frame_reference m ρ trivial,
  Cert.Inproj.Hand.frame_claim,
  Cert.InprojIdeal.Hand.frame_claim,
  Cert.InprojReferenceIdeal.Hand.frame_reference,
  fun m ρ _ => Cert.Outproj.Gen.frame m ρ,
  fun m ρ _ => Cert.OutprojIdeal.Gen.frame m ρ,
  Cert.OutprojReferenceIdeal.Hand.frame_reference,
  fun m ρ _ => Cert.AttFwd.Gen.frame m ρ,
  fun m ρ _ => Cert.AttFwdIdeal.Gen.frame m ρ,
  fun m ρ _ => Cert.AttFwdIdeal.Gen.frame m ρ,
  Cert.AttFwdReferenceIdeal.Hand.frame_reference,
  fun m ρ _ => Cert.AttFwdReferenceIdeal.Hand.frame_reference m ρ trivial,
  Cert.GlaFwdIdeal.Hand.frame_printed,
  Cert.GlaFwdIdeal.Hand.frame_ideal,
  fun m ρ _ => Cert.GlaFwdIdeal.Hand.frame_ideal m ρ trivial,
  Cert.GlaFwdReferenceIdeal.Hand.frame_reference,
  fun m ρ _ => Cert.GlaFwdReferenceIdeal.Hand.frame_reference m ρ trivial,
  trivial,
  Cert.KernelIdeal.Hand.algebraic,
  trivial,
  Cert.DwinAttIdeal.Hand.algebraic,
  trivial,
  Cert.DwinGlaIdeal.Hand.algebraic,
  trivial,
  Cert.DwinGateIdeal.Hand.algebraic,
  trivial,
  Cert.DwoutGlaIdeal.Hand.algebraic,
  trivial,
  Cert.DwoutAttIdeal.Hand.algebraic,
  trivial,
  Cert.PostBwdIdeal.Hand.algebraic,
  trivial,
  Cert.DhIdeal.Hand.algebraic,
  trivial,
  Cert.InprojIdeal.Hand.algebraic,
  trivial,
  Cert.OutprojIdeal.Hand.algebraic,
  Cert.AttFwdIdeal.Hand.preserves,
  Cert.AttFwdIdeal.Hand.algebraic,
  trivial,
  Cert.GlaFwdIdeal.Hand.algebraic⟩

end Cert.Proof

end
